-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_GatherRefIdeal (m : (ℓ : Loc Cert.GatherRefIdeal.nD Cert.GatherRefIdeal.τ Cert.GatherRefIdeal.sig) → Buf (Elt Ideal) ℓ) : Prop :=
  True

def Pre_Pair (m : (ℓ : Loc Cert.Pair.nD Cert.Pair.τ Cert.Pair.sig) → Buf (Elt Bits) ℓ) : Prop :=
  True

def Pre_PairIdeal (m : (ℓ : Loc Cert.PairIdeal.nD Cert.PairIdeal.τ Cert.PairIdeal.sig) → Buf (Elt Ideal) ℓ) : Prop :=
  True

def Pre_PairRef (m : (ℓ : Loc Cert.PairRef.nD Cert.PairRef.τ Cert.PairRef.sig) → Buf (Elt Bits) ℓ) : Prop :=
  True

def Pre_PairRefIdeal (m : (ℓ : Loc Cert.PairRefIdeal.nD Cert.PairRefIdeal.τ Cert.PairRefIdeal.sig) → Buf (Elt Ideal) ℓ) : Prop :=
  True

def Pre_Chip (m : (ℓ : Loc Cert.Chip.nD Cert.Chip.τ Cert.Chip.sig) → Buf (Elt Bits) ℓ) : Prop :=
  True

def Pre_ChipIdeal (m : (ℓ : Loc Cert.ChipIdeal.nD Cert.ChipIdeal.τ Cert.ChipIdeal.sig) → Buf (Elt Ideal) ℓ) : Prop :=
  True

def Pre_ChipRef (m : (ℓ : Loc Cert.ChipRef.nD Cert.ChipRef.τ Cert.ChipRef.sig) → Buf (Elt Bits) ℓ) : Prop :=
  True

def Pre_ChipRefIdeal (m : (ℓ : Loc Cert.ChipRefIdeal.nD Cert.ChipRefIdeal.τ Cert.ChipRefIdeal.sig) → Buf (Elt Ideal) ℓ) : Prop :=
  True

def Pre_Back (m : (ℓ : Loc Cert.Back.nD Cert.Back.τ Cert.Back.sig) → Buf (Elt Bits) ℓ) : Prop :=
  True

def Pre_BackIdeal (m : (ℓ : Loc Cert.BackIdeal.nD Cert.BackIdeal.τ Cert.BackIdeal.sig) → Buf (Elt Ideal) ℓ) : Prop :=
  True

def Pre_BackRef (m : (ℓ : Loc Cert.BackRef.nD Cert.BackRef.τ Cert.BackRef.sig) → Buf (Elt Bits) ℓ) : Prop :=
  True

def Pre_BackRefIdeal (m : (ℓ : Loc Cert.BackRefIdeal.nD Cert.BackRefIdeal.τ Cert.BackRefIdeal.sig) → Buf (Elt Ideal) ℓ) : Prop :=
  True

def Pre_GatherOut (m : (ℓ : Loc Cert.GatherOut.nD Cert.GatherOut.τ Cert.GatherOut.sig) → Buf (Elt Bits) ℓ) : Prop :=
  True

def Pre_GatherOutIdeal (m : (ℓ : Loc Cert.GatherOutIdeal.nD Cert.GatherOutIdeal.τ Cert.GatherOutIdeal.sig) → Buf (Elt Ideal) ℓ) : Prop :=
  True

def Pre_GatherOutRef (m : (ℓ : Loc Cert.GatherOutRef.nD Cert.GatherOutRef.τ Cert.GatherOutRef.sig) → Buf (Elt Bits) ℓ) : Prop :=
  True

def Pre_GatherOutRefIdeal (m : (ℓ : Loc Cert.GatherOutRefIdeal.nD Cert.GatherOutRefIdeal.τ Cert.GatherOutRefIdeal.sig) → Buf (Elt Ideal) ℓ) : Prop :=
  True

def Pre_PairOut (m : (ℓ : Loc Cert.PairOut.nD Cert.PairOut.τ Cert.PairOut.sig) → Buf (Elt Bits) ℓ) : Prop :=
  True

def Pre_PairOutIdeal (m : (ℓ : Loc Cert.PairOutIdeal.nD Cert.PairOutIdeal.τ Cert.PairOutIdeal.sig) → Buf (Elt Ideal) ℓ) : Prop :=
  True

def Pre_PairOutRef (m : (ℓ : Loc Cert.PairOutRef.nD Cert.PairOutRef.τ Cert.PairOutRef.sig) → Buf (Elt Bits) ℓ) : Prop :=
  True

def Pre_PairOutRefIdeal (m : (ℓ : Loc Cert.PairOutRefIdeal.nD Cert.PairOutRefIdeal.τ Cert.PairOutRefIdeal.sig) → Buf (Elt Ideal) ℓ) : Prop :=
  True

def Pre_ChipOut (m : (ℓ : Loc Cert.ChipOut.nD Cert.ChipOut.τ Cert.ChipOut.sig) → Buf (Elt Bits) ℓ) : Prop :=
  True

def Pre_ChipOutIdeal (m : (ℓ : Loc Cert.ChipOutIdeal.nD Cert.ChipOutIdeal.τ Cert.ChipOutIdeal.sig) → Buf (Elt Ideal) ℓ) : Prop :=
  True

def Pre_ChipOutRef (m : (ℓ : Loc Cert.ChipOutRef.nD Cert.ChipOutRef.τ Cert.ChipOutRef.sig) → Buf (Elt Bits) ℓ) : Prop :=
  True

def Pre_ChipOutRefIdeal (m : (ℓ : Loc Cert.ChipOutRefIdeal.nD Cert.ChipOutRefIdeal.τ Cert.ChipOutRefIdeal.sig) → Buf (Elt Ideal) ℓ) : Prop :=
  True

def Pre_BackOut (m : (ℓ : Loc Cert.BackOut.nD Cert.BackOut.τ Cert.BackOut.sig) → Buf (Elt Bits) ℓ) : Prop :=
  True

def Pre_BackOutIdeal (m : (ℓ : Loc Cert.BackOutIdeal.nD Cert.BackOutIdeal.τ Cert.BackOutIdeal.sig) → Buf (Elt Ideal) ℓ) : Prop :=
  True

def Pre_BackOutRef (m : (ℓ : Loc Cert.BackOutRef.nD Cert.BackOutRef.τ Cert.BackOutRef.sig) → Buf (Elt Bits) ℓ) : Prop :=
  True

def Pre_BackOutRefIdeal (m : (ℓ : Loc Cert.BackOutRefIdeal.nD Cert.BackOutRefIdeal.τ Cert.BackOutRefIdeal.sig) → Buf (Elt Ideal) ℓ) : Prop :=
  True

def Pre_GatherKv (m : (ℓ : Loc Cert.GatherKv.nD Cert.GatherKv.τ Cert.GatherKv.sig) → Buf (Elt Bits) ℓ) : Prop :=
  True

def Pre_GatherKvIdeal (m : (ℓ : Loc Cert.GatherKvIdeal.nD Cert.GatherKvIdeal.τ Cert.GatherKvIdeal.sig) → Buf (Elt Ideal) ℓ) : Prop :=
  True

def Pre_GatherKvRef (m : (ℓ : Loc Cert.GatherKvRef.nD Cert.GatherKvRef.τ Cert.GatherKvRef.sig) → Buf (Elt Bits) ℓ) : Prop :=
  True

def Pre_GatherKvRefIdeal (m : (ℓ : Loc Cert.GatherKvRefIdeal.nD Cert.GatherKvRefIdeal.τ Cert.GatherKvRefIdeal.sig) → Buf (Elt Ideal) ℓ) : Prop :=
  True

def Pre_PairKv (m : (ℓ : Loc Cert.PairKv.nD Cert.PairKv.τ Cert.PairKv.sig) → Buf (Elt Bits) ℓ) : Prop :=
  True

def Pre_PairKvIdeal (m : (ℓ : Loc Cert.PairKvIdeal.nD Cert.PairKvIdeal.τ Cert.PairKvIdeal.sig) → Buf (Elt Ideal) ℓ) : Prop :=
  True

def Pre_PairKvRef (m : (ℓ : Loc Cert.PairKvRef.nD Cert.PairKvRef.τ Cert.PairKvRef.sig) → Buf (Elt Bits) ℓ) : Prop :=
  True

def Pre_PairKvRefIdeal (m : (ℓ : Loc Cert.PairKvRefIdeal.nD Cert.PairKvRefIdeal.τ Cert.PairKvRefIdeal.sig) → Buf (Elt Ideal) ℓ) : Prop :=
  True

def Pre_ChipKv (m : (ℓ : Loc Cert.ChipKv.nD Cert.ChipKv.τ Cert.ChipKv.sig) → Buf (Elt Bits) ℓ) : Prop :=
  True

def Pre_ChipKvIdeal (m : (ℓ : Loc Cert.ChipKvIdeal.nD Cert.ChipKvIdeal.τ Cert.ChipKvIdeal.sig) → Buf (Elt Ideal) ℓ) : Prop :=
  True

def Pre_ChipKvRef (m : (ℓ : Loc Cert.ChipKvRef.nD Cert.ChipKvRef.τ Cert.ChipKvRef.sig) → Buf (Elt Bits) ℓ) : Prop :=
  True

def Pre_ChipKvRefIdeal (m : (ℓ : Loc Cert.ChipKvRefIdeal.nD Cert.ChipKvRefIdeal.τ Cert.ChipKvRefIdeal.sig) → Buf (Elt Ideal) ℓ) : Prop :=
  True

def Pre_BackKv (m : (ℓ : Loc Cert.BackKv.nD Cert.BackKv.τ Cert.BackKv.sig) → Buf (Elt Bits) ℓ) : Prop :=
  True

def Pre_BackKvIdeal (m : (ℓ : Loc Cert.BackKvIdeal.nD Cert.BackKvIdeal.τ Cert.BackKvIdeal.sig) → Buf (Elt Ideal) ℓ) : Prop :=
  True

def Pre_BackKvRef (m : (ℓ : Loc Cert.BackKvRef.nD Cert.BackKvRef.τ Cert.BackKvRef.sig) → Buf (Elt Bits) ℓ) : Prop :=
  True

def Pre_BackKvRefIdeal (m : (ℓ : Loc Cert.BackKvRefIdeal.nD Cert.BackKvRefIdeal.τ Cert.BackKvRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRef (m : (ℓ : Loc Cert.AdamInRef.nD Cert.AdamInRef.τ Cert.AdamInRef.sig) → Buf (Elt Bits) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamRel (m : (ℓ : Loc Cert.AdamRel.nD Cert.AdamRel.τ Cert.AdamRel.sig) → Buf (Elt Bits) ℓ) : Prop :=
  True

def Pre_AdamRelIdeal (m : (ℓ : Loc Cert.AdamRelIdeal.nD Cert.AdamRelIdeal.τ Cert.AdamRelIdeal.sig) → Buf (Elt Ideal) ℓ) : Prop :=
  True

def Pre_AdamRelRef (m : (ℓ : Loc Cert.AdamRelRef.nD Cert.AdamRelRef.τ Cert.AdamRelRef.sig) → Buf (Elt Bits) ℓ) : Prop :=
  True

def Pre_AdamRelRefIdeal (m : (ℓ : Loc Cert.AdamRelRefIdeal.nD Cert.AdamRelRefIdeal.τ Cert.AdamRelRefIdeal.sig) → Buf (Elt Ideal) ℓ) : Prop :=
  True

def Pre_AdamGateW (m : (ℓ : Loc Cert.AdamGateW.nD Cert.AdamGateW.τ Cert.AdamGateW.sig) → Buf (Elt Bits) ℓ) : Prop :=
  True

def Pre_AdamGateWIdeal (m : (ℓ : Loc Cert.AdamGateWIdeal.nD Cert.AdamGateWIdeal.τ Cert.AdamGateWIdeal.sig) → Buf (Elt Ideal) ℓ) : Prop :=
  True

def Pre_AdamGateWRef (m : (ℓ : Loc Cert.AdamGateWRef.nD Cert.AdamGateWRef.τ Cert.AdamGateWRef.sig) → Buf (Elt Bits) ℓ) : Prop :=
  True

def Pre_AdamGateWRefIdeal (m : (ℓ : Loc Cert.AdamGateWRefIdeal.nD Cert.AdamGateWRefIdeal.τ Cert.AdamGateWRefIdeal.sig) → Buf (Elt Ideal) ℓ) : Prop :=
  True

def Pre_AdamGateB (m : (ℓ : Loc Cert.AdamGateB.nD Cert.AdamGateB.τ Cert.AdamGateB.sig) → Buf (Elt Bits) ℓ) : Prop :=
  True

def Pre_AdamGateBIdeal (m : (ℓ : Loc Cert.AdamGateBIdeal.nD Cert.AdamGateBIdeal.τ Cert.AdamGateBIdeal.sig) → Buf (Elt Ideal) ℓ) : Prop :=
  True

def Pre_AdamGateBRef (m : (ℓ : Loc Cert.AdamGateBRef.nD Cert.AdamGateBRef.τ Cert.AdamGateBRef.sig) → Buf (Elt Bits) ℓ) : Prop :=
  True

def Pre_AdamGateBRefIdeal (m : (ℓ : Loc Cert.AdamGateBRefIdeal.nD Cert.AdamGateBRefIdeal.τ Cert.AdamGateBRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRef (m : (ℓ : Loc Cert.AdamNormRef.nD Cert.AdamNormRef.τ Cert.AdamNormRef.sig) → Buf (Elt Bits) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRef (m : (ℓ : Loc Cert.AdamKvRef.nD Cert.AdamKvRef.τ Cert.AdamKvRef.sig) → Buf (Elt Bits) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRef (m : (ℓ : Loc Cert.AdamOutRef.nD Cert.AdamOutRef.τ Cert.AdamOutRef.sig) → Buf (Elt Bits) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamLnG (m : (ℓ : Loc Cert.AdamLnG.nD Cert.AdamLnG.τ Cert.AdamLnG.sig) → Buf (Elt Bits) ℓ) : Prop :=
  True

def Pre_AdamLnGIdeal (m : (ℓ : Loc Cert.AdamLnGIdeal.nD Cert.AdamLnGIdeal.τ Cert.AdamLnGIdeal.sig) → Buf (Elt Ideal) ℓ) : Prop :=
  True

def Pre_AdamLnGRef (m : (ℓ : Loc Cert.AdamLnGRef.nD Cert.AdamLnGRef.τ Cert.AdamLnGRef.sig) → Buf (Elt Bits) ℓ) : Prop :=
  True

def Pre_AdamLnGRefIdeal (m : (ℓ : Loc Cert.AdamLnGRefIdeal.nD Cert.AdamLnGRefIdeal.τ Cert.AdamLnGRefIdeal.sig) → Buf (Elt Ideal) ℓ) : Prop :=
  True

def Pre_AdamLnB (m : (ℓ : Loc Cert.AdamLnB.nD Cert.AdamLnB.τ Cert.AdamLnB.sig) → Buf (Elt Bits) ℓ) : Prop :=
  True

def Pre_AdamLnBIdeal (m : (ℓ : Loc Cert.AdamLnBIdeal.nD Cert.AdamLnBIdeal.τ Cert.AdamLnBIdeal.sig) → Buf (Elt Ideal) ℓ) : Prop :=
  True

def Pre_AdamLnBRef (m : (ℓ : Loc Cert.AdamLnBRef.nD Cert.AdamLnBRef.τ Cert.AdamLnBRef.sig) → Buf (Elt Bits) ℓ) : Prop :=
  True

def Pre_AdamLnBRefIdeal (m : (ℓ : Loc Cert.AdamLnBRefIdeal.nD Cert.AdamLnBRefIdeal.τ Cert.AdamLnBRefIdeal.sig) → Buf (Elt Ideal) ℓ) : Prop :=
  True

def Pre_SlotsIn (m : (ℓ : Loc Cert.SlotsIn.nD Cert.SlotsIn.τ Cert.SlotsIn.sig) → Buf (Elt Bits) ℓ) : Prop :=
  True

def Pre_SlotsInIdeal (m : (ℓ : Loc Cert.SlotsInIdeal.nD Cert.SlotsInIdeal.τ Cert.SlotsInIdeal.sig) → Buf (Elt Ideal) ℓ) : Prop :=
  True

def Pre_SlotsInRef (m : (ℓ : Loc Cert.SlotsInRef.nD Cert.SlotsInRef.τ Cert.SlotsInRef.sig) → Buf (Elt Bits) ℓ) : Prop :=
  True

def Pre_SlotsInRefIdeal (m : (ℓ : Loc Cert.SlotsInRefIdeal.nD Cert.SlotsInRefIdeal.τ Cert.SlotsInRefIdeal.sig) → Buf (Elt Ideal) ℓ) : Prop :=
  True

def Pre_SlotsOut (m : (ℓ : Loc Cert.SlotsOut.nD Cert.SlotsOut.τ Cert.SlotsOut.sig) → Buf (Elt Bits) ℓ) : Prop :=
  True

def Pre_SlotsOutIdeal (m : (ℓ : Loc Cert.SlotsOutIdeal.nD Cert.SlotsOutIdeal.τ Cert.SlotsOutIdeal.sig) → Buf (Elt Ideal) ℓ) : Prop :=
  True

def Pre_SlotsOutRef (m : (ℓ : Loc Cert.SlotsOutRef.nD Cert.SlotsOutRef.τ Cert.SlotsOutRef.sig) → Buf (Elt Bits) ℓ) : Prop :=
  True

def Pre_SlotsOutRefIdeal (m : (ℓ : Loc Cert.SlotsOutRefIdeal.nD Cert.SlotsOutRefIdeal.τ Cert.SlotsOutRefIdeal.sig) → Buf (Elt Ideal) ℓ) : Prop :=
  True

def Pre_SlotsKv (m : (ℓ : Loc Cert.SlotsKv.nD Cert.SlotsKv.τ Cert.SlotsKv.sig) → Buf (Elt Bits) ℓ) : Prop :=
  True

def Pre_SlotsKvIdeal (m : (ℓ : Loc Cert.SlotsKvIdeal.nD Cert.SlotsKvIdeal.τ Cert.SlotsKvIdeal.sig) → Buf (Elt Ideal) ℓ) : Prop :=
  True

def Pre_SlotsKvRef (m : (ℓ : Loc Cert.SlotsKvRef.nD Cert.SlotsKvRef.τ Cert.SlotsKvRef.sig) → Buf (Elt Bits) ℓ) : Prop :=
  True

def Pre_SlotsKvRefIdeal (m : (ℓ : Loc Cert.SlotsKvRefIdeal.nD Cert.SlotsKvRefIdeal.τ Cert.SlotsKvRefIdeal.sig) → Buf (Elt Ideal) ℓ) : Prop :=
  True

def Pre_HalvesIn [hPre_a_core_w_in : Cert.Pre_a_core_w_in.Facts] (m : (ℓ : Loc Cert.HalvesIn.nD Cert.HalvesIn.τ Cert.HalvesIn.sig) → Buf (Elt Bits) ℓ) : Prop :=
  ∀ c : Dev Cert.HalvesIn.nD,
    (Cert.Pre_a_core_w_in.fn (F := Bits) (m ((c.tc : Thread Cert.HalvesIn.nD Cert.HalvesIn.τ).loc Cert.HalvesIn.main_arg0)) (m ((c.tc : Thread Cert.HalvesIn.nD Cert.HalvesIn.τ).loc Cert.HalvesIn.main_arg1)) (m ((c.tc : Thread Cert.HalvesIn.nD Cert.HalvesIn.τ).loc Cert.HalvesIn.main_arg2))) = (fun _ => 1#1)

def Pre_HalvesInIdeal [hPre_a_core_w_in : Cert.Pre_a_core_w_in.Facts] (m : (ℓ : Loc Cert.HalvesInIdeal.nD Cert.HalvesInIdeal.τ Cert.HalvesInIdeal.sig) → Buf (Elt Ideal) ℓ) : Prop :=
  ∀ c : Dev Cert.HalvesInIdeal.nD,
    (Cert.Pre_a_core_w_in.fn (F := Ideal) (m ((c.tc : Thread Cert.HalvesInIdeal.nD Cert.HalvesInIdeal.τ).loc Cert.HalvesInIdeal.main_arg0)) (m ((c.tc : Thread Cert.HalvesInIdeal.nD Cert.HalvesInIdeal.τ).loc Cert.HalvesInIdeal.main_arg1)) (m ((c.tc : Thread Cert.HalvesInIdeal.nD Cert.HalvesInIdeal.τ).loc Cert.HalvesInIdeal.main_arg2))) = (fun _ => 1#1)

def Pre_HalvesInRef (m : (ℓ : Loc Cert.HalvesInRef.nD Cert.HalvesInRef.τ Cert.HalvesInRef.sig) → Buf (Elt Bits) ℓ) : Prop :=
  True

def Pre_HalvesInRef_a_core_w_in [hPre_a_core_w_in : Cert.Pre_a_core_w_in.Facts] (m : (ℓ : Loc Cert.HalvesInRef.nD Cert.HalvesInRef.τ Cert.HalvesInRef.sig) → Buf (Elt Bits) ℓ) : Prop :=
  ∀ c : Dev Cert.HalvesInRef.nD,
    (Cert.Pre_a_core_w_in.fn (F := Bits) (m ((c.tc : Thread Cert.HalvesInRef.nD Cert.HalvesInRef.τ).loc Cert.HalvesInRef.main_arg0)) (m ((c.tc : Thread Cert.HalvesInRef.nD Cert.HalvesInRef.τ).loc Cert.HalvesInRef.main_arg1)) (m ((c.tc : Thread Cert.HalvesInRef.nD Cert.HalvesInRef.τ).loc Cert.HalvesInRef.main_arg2))) = (fun _ => 1#1)

def Pre_HalvesInRefIdeal (m : (ℓ : Loc Cert.HalvesInRefIdeal.nD Cert.HalvesInRefIdeal.τ Cert.HalvesInRefIdeal.sig) → Buf (Elt Ideal) ℓ) : Prop :=
  True

def Pre_HalvesInRefIdeal_a_core_w_in [hPre_a_core_w_in : Cert.Pre_a_core_w_in.Facts] (m : (ℓ : Loc Cert.HalvesInRefIdeal.nD Cert.HalvesInRefIdeal.τ Cert.HalvesInRefIdeal.sig) → Buf (Elt Ideal) ℓ) : Prop :=
  ∀ c : Dev Cert.HalvesInRefIdeal.nD,
    (Cert.Pre_a_core_w_in.fn (F := Ideal) (m ((c.tc : Thread Cert.HalvesInRefIdeal.nD Cert.HalvesInRefIdeal.τ).loc Cert.HalvesInRefIdeal.main_arg0)) (m ((c.tc : Thread Cert.HalvesInRefIdeal.nD Cert.HalvesInRefIdeal.τ).loc Cert.HalvesInRefIdeal.main_arg1)) (m ((c.tc : Thread Cert.HalvesInRefIdeal.nD Cert.HalvesInRefIdeal.τ).loc Cert.HalvesInRefIdeal.main_arg2))) = (fun _ => 1#1)

def Pre_HalvesOut [hPre_a_core_w_out : Cert.Pre_a_core_w_out.Facts] (m : (ℓ : Loc Cert.HalvesOut.nD Cert.HalvesOut.τ Cert.HalvesOut.sig) → Buf (Elt Bits) ℓ) : Prop :=
  ∀ c : Dev Cert.HalvesOut.nD,
    (Cert.Pre_a_core_w_out.fn (F := Bits) (m ((c.tc : Thread Cert.HalvesOut.nD Cert.HalvesOut.τ).loc Cert.HalvesOut.main_arg0)) (m ((c.tc : Thread Cert.HalvesOut.nD Cert.HalvesOut.τ).loc Cert.HalvesOut.main_arg1)) (m ((c.tc : Thread Cert.HalvesOut.nD Cert.HalvesOut.τ).loc Cert.HalvesOut.main_arg2))) = (fun _ => 1#1)

def Pre_HalvesOutIdeal [hPre_a_core_w_out : Cert.Pre_a_core_w_out.Facts] (m : (ℓ : Loc Cert.HalvesOutIdeal.nD Cert.HalvesOutIdeal.τ Cert.HalvesOutIdeal.sig) → Buf (Elt Ideal) ℓ) : Prop :=
  ∀ c : Dev Cert.HalvesOutIdeal.nD,
    (Cert.Pre_a_core_w_out.fn (F := Ideal) (m ((c.tc : Thread Cert.HalvesOutIdeal.nD Cert.HalvesOutIdeal.τ).loc Cert.HalvesOutIdeal.main_arg0)) (m ((c.tc : Thread Cert.HalvesOutIdeal.nD Cert.HalvesOutIdeal.τ).loc Cert.HalvesOutIdeal.main_arg1)) (m ((c.tc : Thread Cert.HalvesOutIdeal.nD Cert.HalvesOutIdeal.τ).loc Cert.HalvesOutIdeal.main_arg2))) = (fun _ => 1#1)

def Pre_HalvesOutRef (m : (ℓ : Loc Cert.HalvesOutRef.nD Cert.HalvesOutRef.τ Cert.HalvesOutRef.sig) → Buf (Elt Bits) ℓ) : Prop :=
  True

def Pre_HalvesOutRef_a_core_w_out [hPre_a_core_w_out : Cert.Pre_a_core_w_out.Facts] (m : (ℓ : Loc Cert.HalvesOutRef.nD Cert.HalvesOutRef.τ Cert.HalvesOutRef.sig) → Buf (Elt Bits) ℓ) : Prop :=
  ∀ c : Dev Cert.HalvesOutRef.nD,
    (Cert.Pre_a_core_w_out.fn (F := Bits) (m ((c.tc : Thread Cert.HalvesOutRef.nD Cert.HalvesOutRef.τ).loc Cert.HalvesOutRef.main_arg0)) (m ((c.tc : Thread Cert.HalvesOutRef.nD Cert.HalvesOutRef.τ).loc Cert.HalvesOutRef.main_arg1)) (m ((c.tc : Thread Cert.HalvesOutRef.nD Cert.HalvesOutRef.τ).loc Cert.HalvesOutRef.main_arg2))) = (fun _ => 1#1)

def Pre_HalvesOutRefIdeal (m : (ℓ : Loc Cert.HalvesOutRefIdeal.nD Cert.HalvesOutRefIdeal.τ Cert.HalvesOutRefIdeal.sig) → Buf (Elt Ideal) ℓ) : Prop :=
  True

def Pre_HalvesOutRefIdeal_a_core_w_out [hPre_a_core_w_out : Cert.Pre_a_core_w_out.Facts] (m : (ℓ : Loc Cert.HalvesOutRefIdeal.nD Cert.HalvesOutRefIdeal.τ Cert.HalvesOutRefIdeal.sig) → Buf (Elt Ideal) ℓ) : Prop :=
  ∀ c : Dev Cert.HalvesOutRefIdeal.nD,
    (Cert.Pre_a_core_w_out.fn (F := Ideal) (m ((c.tc : Thread Cert.HalvesOutRefIdeal.nD Cert.HalvesOutRefIdeal.τ).loc Cert.HalvesOutRefIdeal.main_arg0)) (m ((c.tc : Thread Cert.HalvesOutRefIdeal.nD Cert.HalvesOutRefIdeal.τ).loc Cert.HalvesOutRefIdeal.main_arg1)) (m ((c.tc : Thread Cert.HalvesOutRefIdeal.nD Cert.HalvesOutRefIdeal.τ).loc Cert.HalvesOutRefIdeal.main_arg2))) = (fun _ => 1#1)

def Pre_HalvesKv [hPre_a_core_w_kv : Cert.Pre_a_core_w_kv.Facts] (m : (ℓ : Loc Cert.HalvesKv.nD Cert.HalvesKv.τ Cert.HalvesKv.sig) → Buf (Elt Bits) ℓ) : Prop :=
  ∀ c : Dev Cert.HalvesKv.nD,
    (Cert.Pre_a_core_w_kv.fn (F := Bits) (m ((c.tc : Thread Cert.HalvesKv.nD Cert.HalvesKv.τ).loc Cert.HalvesKv.main_arg0)) (m ((c.tc : Thread Cert.HalvesKv.nD Cert.HalvesKv.τ).loc Cert.HalvesKv.main_arg1)) (m ((c.tc : Thread Cert.HalvesKv.nD Cert.HalvesKv.τ).loc Cert.HalvesKv.main_arg2))) = (fun _ => 1#1)

def Pre_HalvesKvIdeal [hPre_a_core_w_kv : Cert.Pre_a_core_w_kv.Facts] (m : (ℓ : Loc Cert.HalvesKvIdeal.nD Cert.HalvesKvIdeal.τ Cert.HalvesKvIdeal.sig) → Buf (Elt Ideal) ℓ) : Prop :=
  ∀ c : Dev Cert.HalvesKvIdeal.nD,
    (Cert.Pre_a_core_w_kv.fn (F := Ideal) (m ((c.tc : Thread Cert.HalvesKvIdeal.nD Cert.HalvesKvIdeal.τ).loc Cert.HalvesKvIdeal.main_arg0)) (m ((c.tc : Thread Cert.HalvesKvIdeal.nD Cert.HalvesKvIdeal.τ).loc Cert.HalvesKvIdeal.main_arg1)) (m ((c.tc : Thread Cert.HalvesKvIdeal.nD Cert.HalvesKvIdeal.τ).loc Cert.HalvesKvIdeal.main_arg2))) = (fun _ => 1#1)

def Pre_HalvesKvRef (m : (ℓ : Loc Cert.HalvesKvRef.nD Cert.HalvesKvRef.τ Cert.HalvesKvRef.sig) → Buf (Elt Bits) ℓ) : Prop :=
  True

def Pre_HalvesKvRef_a_core_w_kv [hPre_a_core_w_kv : Cert.Pre_a_core_w_kv.Facts] (m : (ℓ : Loc Cert.HalvesKvRef.nD Cert.HalvesKvRef.τ Cert.HalvesKvRef.sig) → Buf (Elt Bits) ℓ) : Prop :=
  ∀ c : Dev Cert.HalvesKvRef.nD,
    (Cert.Pre_a_core_w_kv.fn (F := Bits) (m ((c.tc : Thread Cert.HalvesKvRef.nD Cert.HalvesKvRef.τ).loc Cert.HalvesKvRef.main_arg0)) (m ((c.tc : Thread Cert.HalvesKvRef.nD Cert.HalvesKvRef.τ).loc Cert.HalvesKvRef.main_arg1)) (m ((c.tc : Thread Cert.HalvesKvRef.nD Cert.HalvesKvRef.τ).loc Cert.HalvesKvRef.main_arg2))) = (fun _ => 1#1)

def Pre_HalvesKvRefIdeal (m : (ℓ : Loc Cert.HalvesKvRefIdeal.nD Cert.HalvesKvRefIdeal.τ Cert.HalvesKvRefIdeal.sig) → Buf (Elt Ideal) ℓ) : Prop :=
  True

def Pre_HalvesKvRefIdeal_a_core_w_kv [hPre_a_core_w_kv : Cert.Pre_a_core_w_kv.Facts] (m : (ℓ : Loc Cert.HalvesKvRefIdeal.nD Cert.HalvesKvRefIdeal.τ Cert.HalvesKvRefIdeal.sig) → Buf (Elt Ideal) ℓ) : Prop :=
  ∀ c : Dev Cert.HalvesKvRefIdeal.nD,
    (Cert.Pre_a_core_w_kv.fn (F := Ideal) (m ((c.tc : Thread Cert.HalvesKvRefIdeal.nD Cert.HalvesKvRefIdeal.τ).loc Cert.HalvesKvRefIdeal.main_arg0)) (m ((c.tc : Thread Cert.HalvesKvRefIdeal.nD Cert.HalvesKvRefIdeal.τ).loc Cert.HalvesKvRefIdeal.main_arg1)) (m ((c.tc : Thread Cert.HalvesKvRefIdeal.nD Cert.HalvesKvRefIdeal.τ).loc Cert.HalvesKvRefIdeal.main_arg2))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRef (m : (ℓ : Loc Cert.LossRef.nD Cert.LossRef.τ Cert.LossRef.sig) → Buf (Elt Bits) ℓ) : Prop :=
  True

def Pre_LossRefIdeal (m : (ℓ : Loc Cert.LossRefIdeal.nD Cert.LossRefIdeal.τ Cert.LossRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRef (m : (ℓ : Loc Cert.GradInRef.nD Cert.GradInRef.τ Cert.GradInRef.sig) → Buf (Elt Bits) ℓ) : Prop :=
  True

def Pre_GradInRefIdeal (m : (ℓ : Loc Cert.GradInRefIdeal.nD Cert.GradInRefIdeal.τ Cert.GradInRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRef (m : (ℓ : Loc Cert.GradOutRef.nD Cert.GradOutRef.τ Cert.GradOutRef.sig) → Buf (Elt Bits) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_GradKv (m : (ℓ : Loc Cert.GradKv.nD Cert.GradKv.τ Cert.GradKv.sig) → Buf (Elt Bits) ℓ) : Prop :=
  True

def Pre_GradKvIdeal (m : (ℓ : Loc Cert.GradKvIdeal.nD Cert.GradKvIdeal.τ Cert.GradKvIdeal.sig) → Buf (Elt Ideal) ℓ) : Prop :=
  True

def Pre_GradKvRef (m : (ℓ : Loc Cert.GradKvRef.nD Cert.GradKvRef.τ Cert.GradKvRef.sig) → Buf (Elt Bits) ℓ) : Prop :=
  True

def Pre_GradKvRefIdeal (m : (ℓ : Loc Cert.GradKvRefIdeal.nD Cert.GradKvRefIdeal.τ Cert.GradKvRefIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXRef (m : (ℓ : Loc Cert.GradXRef.nD Cert.GradXRef.τ Cert.GradXRef.sig) → Buf (Elt Bits) ℓ) : Prop :=
  True

def Pre_GradXRefIdeal (m : (ℓ : Loc Cert.GradXRefIdeal.nD Cert.GradXRefIdeal.τ Cert.GradXRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRef (m : (ℓ : Loc Cert.NormRef.nD Cert.NormRef.τ Cert.NormRef.sig) → Buf (Elt Bits) ℓ) : Prop :=
  True

def Pre_NormRefIdeal (m : (ℓ : Loc Cert.NormRefIdeal.nD Cert.NormRefIdeal.τ Cert.NormRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRef (m : (ℓ : Loc Cert.InProjRef.nD Cert.InProjRef.τ Cert.InProjRef.sig) → Buf (Elt Bits) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRef (m : (ℓ : Loc Cert.MemKvRef.nD Cert.MemKvRef.τ Cert.MemKvRef.sig) → Buf (Elt Bits) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_GradCat (m : (ℓ : Loc Cert.GradCat.nD Cert.GradCat.τ Cert.GradCat.sig) → Buf (Elt Bits) ℓ) : Prop :=
  True

def Pre_GradCatIdeal (m : (ℓ : Loc Cert.GradCatIdeal.nD Cert.GradCatIdeal.τ Cert.GradCatIdeal.sig) → Buf (Elt Ideal) ℓ) : Prop :=
  True

def Pre_GradCatRef (m : (ℓ : Loc Cert.GradCatRef.nD Cert.GradCatRef.τ Cert.GradCatRef.sig) → Buf (Elt Bits) ℓ) : Prop :=
  True

def Pre_GradCatRefIdeal (m : (ℓ : Loc Cert.GradCatRefIdeal.nD Cert.GradCatRefIdeal.τ Cert.GradCatRefIdeal.sig) → Buf (Elt Ideal) ℓ) : Prop :=
  True

def Pre_GradNorm (m : (ℓ : Loc Cert.GradNorm.nD Cert.GradNorm.τ Cert.GradNorm.sig) → Buf (Elt Bits) ℓ) : Prop :=
  True

def Pre_GradNormIdeal (m : (ℓ : Loc Cert.GradNormIdeal.nD Cert.GradNormIdeal.τ Cert.GradNormIdeal.sig) → Buf (Elt Ideal) ℓ) : Prop :=
  True

def Pre_GradNormRef (m : (ℓ : Loc Cert.GradNormRef.nD Cert.GradNormRef.τ Cert.GradNormRef.sig) → Buf (Elt Bits) ℓ) : Prop :=
  True

def Pre_GradNormRefIdeal (m : (ℓ : Loc Cert.GradNormRefIdeal.nD Cert.GradNormRefIdeal.τ Cert.GradNormRefIdeal.sig) → Buf (Elt Ideal) ℓ) : Prop :=
  True

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_Pair [hPair : Cert.Pair.Facts] : Prop :=
  ∀ (m : (ℓ : Loc Cert.Pair.nD Cert.Pair.τ Cert.Pair.sig) → Buf (Elt Bits) ℓ) (g : Dev Cert.Pair.nD → PrngReg), Pre_Pair m →
    θ_run (Cert.Pair.defs (F := Bits)) (onTc (τ := Cert.Pair.τ) (Cert.Pair.main (F := Bits))) ⟨m, fun _ => 0, g⟩ (fun r => (∀ c : Dev Cert.Pair.nD,
      r.2.mem ((c.tc : Thread Cert.Pair.nD Cert.Pair.τ).loc Cert.Pair.main_arg0) = m ((c.tc : Thread Cert.Pair.nD Cert.Pair.τ).loc Cert.Pair.main_arg0))
      ∧ r.2.sem = fun _ => 0)

def quiescent_PairIdeal [hPairIdeal : Cert.PairIdeal.Facts] : Prop :=
  ∀ (m : (ℓ : Loc Cert.PairIdeal.nD Cert.PairIdeal.τ Cert.PairIdeal.sig) → Buf (Elt Ideal) ℓ) (g : Dev Cert.PairIdeal.nD → PrngReg), Pre_PairIdeal m →
    θ_run (Cert.PairIdeal.defs (F := Ideal)) (onTc (τ := Cert.PairIdeal.τ) (Cert.PairIdeal.main (F := Ideal))) ⟨m, fun _ => 0, g⟩ (fun r => (∀ c : Dev Cert.PairIdeal.nD,
      r.2.mem ((c.tc : Thread Cert.PairIdeal.nD Cert.PairIdeal.τ).loc Cert.PairIdeal.main_arg0) = m ((c.tc : Thread Cert.PairIdeal.nD Cert.PairIdeal.τ).loc Cert.PairIdeal.main_arg0))
      ∧ r.2.sem = fun _ => 0)

def quiescent_PairRef [hPairRef : Cert.PairRef.Facts] : Prop :=
  ∀ (m : (ℓ : Loc Cert.PairRef.nD Cert.PairRef.τ Cert.PairRef.sig) → Buf (Elt Bits) ℓ) (g : Dev Cert.PairRef.nD → PrngReg), Pre_PairRef m →
    θ_run (Cert.PairRef.defs (F := Bits)) (onTc (τ := Cert.PairRef.τ) (Cert.PairRef.main (F := Bits))) ⟨m, fun _ => 0, g⟩ (fun r => (∀ c : Dev Cert.PairRef.nD,
      r.2.mem ((c.tc : Thread Cert.PairRef.nD Cert.PairRef.τ).loc Cert.PairRef.main_arg0) = m ((c.tc : Thread Cert.PairRef.nD Cert.PairRef.τ).loc Cert.PairRef.main_arg0))
      ∧ r.2.sem = fun _ => 0)

def quiescent_PairRefIdeal [hPairRefIdeal : Cert.PairRefIdeal.Facts] : Prop :=
  ∀ (m : (ℓ : Loc Cert.PairRefIdeal.nD Cert.PairRefIdeal.τ Cert.PairRefIdeal.sig) → Buf (Elt Ideal) ℓ) (g : Dev Cert.PairRefIdeal.nD → PrngReg), Pre_PairRefIdeal m →
    θ_run (Cert.PairRefIdeal.defs (F := Ideal)) (onTc (τ := Cert.PairRefIdeal.τ) (Cert.PairRefIdeal.main (F := Ideal))) ⟨m, fun _ => 0, g⟩ (fun r => (∀ c : Dev Cert.PairRefIdeal.nD,
      r.2.mem ((c.tc : Thread Cert.PairRefIdeal.nD Cert.PairRefIdeal.τ).loc Cert.PairRefIdeal.main_arg0) = m ((c.tc : Thread Cert.PairRefIdeal.nD Cert.PairRefIdeal.τ).loc Cert.PairRefIdeal.main_arg0))
      ∧ r.2.sem = fun _ => 0)

def quiescent_Chip [hChip : Cert.Chip.Facts] : Prop :=
  ∀ (m : (ℓ : Loc Cert.Chip.nD Cert.Chip.τ Cert.Chip.sig) → Buf (Elt Bits) ℓ) (g : Dev Cert.Chip.nD → PrngReg), Pre_Chip m →
    θ_run (Cert.Chip.defs (F := Bits)) (onTc (τ := Cert.Chip.τ) (Cert.Chip.main (F := Bits))) ⟨m, fun _ => 0, g⟩ (fun r => (∀ c : Dev Cert.Chip.nD,
      r.2.mem ((c.tc : Thread Cert.Chip.nD Cert.Chip.τ).loc Cert.Chip.main_arg0) = m ((c.tc : Thread Cert.Chip.nD Cert.Chip.τ).loc Cert.Chip.main_arg0))
      ∧ r.2.sem = fun _ => 0)

def quiescent_ChipIdeal [hChipIdeal : Cert.ChipIdeal.Facts] : Prop :=
  ∀ (m : (ℓ : Loc Cert.ChipIdeal.nD Cert.ChipIdeal.τ Cert.ChipIdeal.sig) → Buf (Elt Ideal) ℓ) (g : Dev Cert.ChipIdeal.nD → PrngReg), Pre_ChipIdeal m →
    θ_run (Cert.ChipIdeal.defs (F := Ideal)) (onTc (τ := Cert.ChipIdeal.τ) (Cert.ChipIdeal.main (F := Ideal))) ⟨m, fun _ => 0, g⟩ (fun r => (∀ c : Dev Cert.ChipIdeal.nD,
      r.2.mem ((c.tc : Thread Cert.ChipIdeal.nD Cert.ChipIdeal.τ).loc Cert.ChipIdeal.main_arg0) = m ((c.tc : Thread Cert.ChipIdeal.nD Cert.ChipIdeal.τ).loc Cert.ChipIdeal.main_arg0))
      ∧ r.2.sem = fun _ => 0)

def quiescent_ChipRef [hChipRef : Cert.ChipRef.Facts] : Prop :=
  ∀ (m : (ℓ : Loc Cert.ChipRef.nD Cert.ChipRef.τ Cert.ChipRef.sig) → Buf (Elt Bits) ℓ) (g : Dev Cert.ChipRef.nD → PrngReg), Pre_ChipRef m →
    θ_run (Cert.ChipRef.defs (F := Bits)) (onTc (τ := Cert.ChipRef.τ) (Cert.ChipRef.main (F := Bits))) ⟨m, fun _ => 0, g⟩ (fun r => (∀ c : Dev Cert.ChipRef.nD,
      r.2.mem ((c.tc : Thread Cert.ChipRef.nD Cert.ChipRef.τ).loc Cert.ChipRef.main_arg0) = m ((c.tc : Thread Cert.ChipRef.nD Cert.ChipRef.τ).loc Cert.ChipRef.main_arg0))
      ∧ r.2.sem = fun _ => 0)

def quiescent_ChipRefIdeal [hChipRefIdeal : Cert.ChipRefIdeal.Facts] : Prop :=
  ∀ (m : (ℓ : Loc Cert.ChipRefIdeal.nD Cert.ChipRefIdeal.τ Cert.ChipRefIdeal.sig) → Buf (Elt Ideal) ℓ) (g : Dev Cert.ChipRefIdeal.nD → PrngReg), Pre_ChipRefIdeal m →
    θ_run (Cert.ChipRefIdeal.defs (F := Ideal)) (onTc (τ := Cert.ChipRefIdeal.τ) (Cert.ChipRefIdeal.main (F := Ideal))) ⟨m, fun _ => 0, g⟩ (fun r => (∀ c : Dev Cert.ChipRefIdeal.nD,
      r.2.mem ((c.tc : Thread Cert.ChipRefIdeal.nD Cert.ChipRefIdeal.τ).loc Cert.ChipRefIdeal.main_arg0) = m ((c.tc : Thread Cert.ChipRefIdeal.nD Cert.ChipRefIdeal.τ).loc Cert.ChipRefIdeal.main_arg0))
      ∧ r.2.sem = fun _ => 0)

def quiescent_Back [hBack : Cert.Back.Facts] : Prop :=
  ∀ (m : (ℓ : Loc Cert.Back.nD Cert.Back.τ Cert.Back.sig) → Buf (Elt Bits) ℓ) (g : Dev Cert.Back.nD → PrngReg), Pre_Back m →
    θ_run (Cert.Back.defs (F := Bits)) (onTc (τ := Cert.Back.τ) (Cert.Back.main (F := Bits))) ⟨m, fun _ => 0, g⟩ (fun r => (∀ c : Dev Cert.Back.nD,
      r.2.mem ((c.tc : Thread Cert.Back.nD Cert.Back.τ).loc Cert.Back.main_arg0) = m ((c.tc : Thread Cert.Back.nD Cert.Back.τ).loc Cert.Back.main_arg0))
      ∧ r.2.sem = fun _ => 0)

def quiescent_BackIdeal [hBackIdeal : Cert.BackIdeal.Facts] : Prop :=
  ∀ (m : (ℓ : Loc Cert.BackIdeal.nD Cert.BackIdeal.τ Cert.BackIdeal.sig) → Buf (Elt Ideal) ℓ) (g : Dev Cert.BackIdeal.nD → PrngReg), Pre_BackIdeal m →
    θ_run (Cert.BackIdeal.defs (F := Ideal)) (onTc (τ := Cert.BackIdeal.τ) (Cert.BackIdeal.main (F := Ideal))) ⟨m, fun _ => 0, g⟩ (fun r => (∀ c : Dev Cert.BackIdeal.nD,
      r.2.mem ((c.tc : Thread Cert.BackIdeal.nD Cert.BackIdeal.τ).loc Cert.BackIdeal.main_arg0) = m ((c.tc : Thread Cert.BackIdeal.nD Cert.BackIdeal.τ).loc Cert.BackIdeal.main_arg0))
      ∧ r.2.sem = fun _ => 0)

def quiescent_BackRef [hBackRef : Cert.BackRef.Facts] : Prop :=
  ∀ (m : (ℓ : Loc Cert.BackRef.nD Cert.BackRef.τ Cert.BackRef.sig) → Buf (Elt Bits) ℓ) (g : Dev Cert.BackRef.nD → PrngReg), Pre_BackRef m →
    θ_run (Cert.BackRef.defs (F := Bits)) (onTc (τ := Cert.BackRef.τ) (Cert.BackRef.main (F := Bits))) ⟨m, fun _ => 0, g⟩ (fun r => (∀ c : Dev Cert.BackRef.nD,
      r.2.mem ((c.tc : Thread Cert.BackRef.nD Cert.BackRef.τ).loc Cert.BackRef.main_arg0) = m ((c.tc : Thread Cert.BackRef.nD Cert.BackRef.τ).loc Cert.BackRef.main_arg0))
      ∧ r.2.sem = fun _ => 0)

def quiescent_BackRefIdeal [hBackRefIdeal : Cert.BackRefIdeal.Facts] : Prop :=
  ∀ (m : (ℓ : Loc Cert.BackRefIdeal.nD Cert.BackRefIdeal.τ Cert.BackRefIdeal.sig) → Buf (Elt Ideal) ℓ) (g : Dev Cert.BackRefIdeal.nD → PrngReg), Pre_BackRefIdeal m →
    θ_run (Cert.BackRefIdeal.defs (F := Ideal)) (onTc (τ := Cert.BackRefIdeal.τ) (Cert.BackRefIdeal.main (F := Ideal))) ⟨m, fun _ => 0, g⟩ (fun r => (∀ c : Dev Cert.BackRefIdeal.nD,
      r.2.mem ((c.tc : Thread Cert.BackRefIdeal.nD Cert.BackRefIdeal.τ).loc Cert.BackRefIdeal.main_arg0) = m ((c.tc : Thread Cert.BackRefIdeal.nD Cert.BackRefIdeal.τ).loc Cert.BackRefIdeal.main_arg0))
      ∧ r.2.sem = fun _ => 0)

def quiescent_GatherOut [hGatherOut : Cert.GatherOut.Facts] : Prop :=
  ∀ (m : (ℓ : Loc Cert.GatherOut.nD Cert.GatherOut.τ Cert.GatherOut.sig) → Buf (Elt Bits) ℓ) (g : Dev Cert.GatherOut.nD → PrngReg), Pre_GatherOut m →
    θ_run (Cert.GatherOut.defs (F := Bits)) (onTc (τ := Cert.GatherOut.τ) (Cert.GatherOut.main (F := Bits))) ⟨m, fun _ => 0, g⟩ (fun r => (∀ c : Dev Cert.GatherOut.nD,
      r.2.mem ((c.tc : Thread Cert.GatherOut.nD Cert.GatherOut.τ).loc Cert.GatherOut.main_arg0) = m ((c.tc : Thread Cert.GatherOut.nD Cert.GatherOut.τ).loc Cert.GatherOut.main_arg0))
      ∧ r.2.sem = fun _ => 0)

def quiescent_GatherOutIdeal [hGatherOutIdeal : Cert.GatherOutIdeal.Facts] : Prop :=
  ∀ (m : (ℓ : Loc Cert.GatherOutIdeal.nD Cert.GatherOutIdeal.τ Cert.GatherOutIdeal.sig) → Buf (Elt Ideal) ℓ) (g : Dev Cert.GatherOutIdeal.nD → PrngReg), Pre_GatherOutIdeal m →
    θ_run (Cert.GatherOutIdeal.defs (F := Ideal)) (onTc (τ := Cert.GatherOutIdeal.τ) (Cert.GatherOutIdeal.main (F := Ideal))) ⟨m, fun _ => 0, g⟩ (fun r => (∀ c : Dev Cert.GatherOutIdeal.nD,
      r.2.mem ((c.tc : Thread Cert.GatherOutIdeal.nD Cert.GatherOutIdeal.τ).loc Cert.GatherOutIdeal.main_arg0) = m ((c.tc : Thread Cert.GatherOutIdeal.nD Cert.GatherOutIdeal.τ).loc Cert.GatherOutIdeal.main_arg0))
      ∧ r.2.sem = fun _ => 0)

def quiescent_GatherOutRef [hGatherOutRef : Cert.GatherOutRef.Facts] : Prop :=
  ∀ (m : (ℓ : Loc Cert.GatherOutRef.nD Cert.GatherOutRef.τ Cert.GatherOutRef.sig) → Buf (Elt Bits) ℓ) (g : Dev Cert.GatherOutRef.nD → PrngReg), Pre_GatherOutRef m →
    θ_run (Cert.GatherOutRef.defs (F := Bits)) (onTc (τ := Cert.GatherOutRef.τ) (Cert.GatherOutRef.main (F := Bits))) ⟨m, fun _ => 0, g⟩ (fun r => (∀ c : Dev Cert.GatherOutRef.nD,
      r.2.mem ((c.tc : Thread Cert.GatherOutRef.nD Cert.GatherOutRef.τ).loc Cert.GatherOutRef.main_arg0) = m ((c.tc : Thread Cert.GatherOutRef.nD Cert.GatherOutRef.τ).loc Cert.GatherOutRef.main_arg0))
      ∧ r.2.sem = fun _ => 0)

def quiescent_GatherOutRefIdeal [hGatherOutRefIdeal : Cert.GatherOutRefIdeal.Facts] : Prop :=
  ∀ (m : (ℓ : Loc Cert.GatherOutRefIdeal.nD Cert.GatherOutRefIdeal.τ Cert.GatherOutRefIdeal.sig) → Buf (Elt Ideal) ℓ) (g : Dev Cert.GatherOutRefIdeal.nD → PrngReg), Pre_GatherOutRefIdeal m →
    θ_run (Cert.GatherOutRefIdeal.defs (F := Ideal)) (onTc (τ := Cert.GatherOutRefIdeal.τ) (Cert.GatherOutRefIdeal.main (F := Ideal))) ⟨m, fun _ => 0, g⟩ (fun r => (∀ c : Dev Cert.GatherOutRefIdeal.nD,
      r.2.mem ((c.tc : Thread Cert.GatherOutRefIdeal.nD Cert.GatherOutRefIdeal.τ).loc Cert.GatherOutRefIdeal.main_arg0) = m ((c.tc : Thread Cert.GatherOutRefIdeal.nD Cert.GatherOutRefIdeal.τ).loc Cert.GatherOutRefIdeal.main_arg0))
      ∧ r.2.sem = fun _ => 0)

def quiescent_PairOut [hPairOut : Cert.PairOut.Facts] : Prop :=
  ∀ (m : (ℓ : Loc Cert.PairOut.nD Cert.PairOut.τ Cert.PairOut.sig) → Buf (Elt Bits) ℓ) (g : Dev Cert.PairOut.nD → PrngReg), Pre_PairOut m →
    θ_run (Cert.PairOut.defs (F := Bits)) (onTc (τ := Cert.PairOut.τ) (Cert.PairOut.main (F := Bits))) ⟨m, fun _ => 0, g⟩ (fun r => (∀ c : Dev Cert.PairOut.nD,
      r.2.mem ((c.tc : Thread Cert.PairOut.nD Cert.PairOut.τ).loc Cert.PairOut.main_arg0) = m ((c.tc : Thread Cert.PairOut.nD Cert.PairOut.τ).loc Cert.PairOut.main_arg0))
      ∧ r.2.sem = fun _ => 0)

def quiescent_PairOutIdeal [hPairOutIdeal : Cert.PairOutIdeal.Facts] : Prop :=
  ∀ (m : (ℓ : Loc Cert.PairOutIdeal.nD Cert.PairOutIdeal.τ Cert.PairOutIdeal.sig) → Buf (Elt Ideal) ℓ) (g : Dev Cert.PairOutIdeal.nD → PrngReg), Pre_PairOutIdeal m →
    θ_run (Cert.PairOutIdeal.defs (F := Ideal)) (onTc (τ := Cert.PairOutIdeal.τ) (Cert.PairOutIdeal.main (F := Ideal))) ⟨m, fun _ => 0, g⟩ (fun r => (∀ c : Dev Cert.PairOutIdeal.nD,
      r.2.mem ((c.tc : Thread Cert.PairOutIdeal.nD Cert.PairOutIdeal.τ).loc Cert.PairOutIdeal.main_arg0) = m ((c.tc : Thread Cert.PairOutIdeal.nD Cert.PairOutIdeal.τ).loc Cert.PairOutIdeal.main_arg0))
      ∧ r.2.sem = fun _ => 0)

def quiescent_PairOutRef [hPairOutRef : Cert.PairOutRef.Facts] : Prop :=
  ∀ (m : (ℓ : Loc Cert.PairOutRef.nD Cert.PairOutRef.τ Cert.PairOutRef.sig) → Buf (Elt Bits) ℓ) (g : Dev Cert.PairOutRef.nD → PrngReg), Pre_PairOutRef m →
    θ_run (Cert.PairOutRef.defs (F := Bits)) (onTc (τ := Cert.PairOutRef.τ) (Cert.PairOutRef.main (F := Bits))) ⟨m, fun _ => 0, g⟩ (fun r => (∀ c : Dev Cert.PairOutRef.nD,
      r.2.mem ((c.tc : Thread Cert.PairOutRef.nD Cert.PairOutRef.τ).loc Cert.PairOutRef.main_arg0) = m ((c.tc : Thread Cert.PairOutRef.nD Cert.PairOutRef.τ).loc Cert.PairOutRef.main_arg0))
      ∧ r.2.sem = fun _ => 0)

def quiescent_PairOutRefIdeal [hPairOutRefIdeal : Cert.PairOutRefIdeal.Facts] : Prop :=
  ∀ (m : (ℓ : Loc Cert.PairOutRefIdeal.nD Cert.PairOutRefIdeal.τ Cert.PairOutRefIdeal.sig) → Buf (Elt Ideal) ℓ) (g : Dev Cert.PairOutRefIdeal.nD → PrngReg), Pre_PairOutRefIdeal m →
    θ_run (Cert.PairOutRefIdeal.defs (F := Ideal)) (onTc (τ := Cert.PairOutRefIdeal.τ) (Cert.PairOutRefIdeal.main (F := Ideal))) ⟨m, fun _ => 0, g⟩ (fun r => (∀ c : Dev Cert.PairOutRefIdeal.nD,
      r.2.mem ((c.tc : Thread Cert.PairOutRefIdeal.nD Cert.PairOutRefIdeal.τ).loc Cert.PairOutRefIdeal.main_arg0) = m ((c.tc : Thread Cert.PairOutRefIdeal.nD Cert.PairOutRefIdeal.τ).loc Cert.PairOutRefIdeal.main_arg0))
      ∧ r.2.sem = fun _ => 0)

def quiescent_ChipOut [hChipOut : Cert.ChipOut.Facts] : Prop :=
  ∀ (m : (ℓ : Loc Cert.ChipOut.nD Cert.ChipOut.τ Cert.ChipOut.sig) → Buf (Elt Bits) ℓ) (g : Dev Cert.ChipOut.nD → PrngReg), Pre_ChipOut m →
    θ_run (Cert.ChipOut.defs (F := Bits)) (onTc (τ := Cert.ChipOut.τ) (Cert.ChipOut.main (F := Bits))) ⟨m, fun _ => 0, g⟩ (fun r => (∀ c : Dev Cert.ChipOut.nD,
      r.2.mem ((c.tc : Thread Cert.ChipOut.nD Cert.ChipOut.τ).loc Cert.ChipOut.main_arg0) = m ((c.tc : Thread Cert.ChipOut.nD Cert.ChipOut.τ).loc Cert.ChipOut.main_arg0))
      ∧ r.2.sem = fun _ => 0)

def quiescent_ChipOutIdeal [hChipOutIdeal : Cert.ChipOutIdeal.Facts] : Prop :=
  ∀ (m : (ℓ : Loc Cert.ChipOutIdeal.nD Cert.ChipOutIdeal.τ Cert.ChipOutIdeal.sig) → Buf (Elt Ideal) ℓ) (g : Dev Cert.ChipOutIdeal.nD → PrngReg), Pre_ChipOutIdeal m →
    θ_run (Cert.ChipOutIdeal.defs (F := Ideal)) (onTc (τ := Cert.ChipOutIdeal.τ) (Cert.ChipOutIdeal.main (F := Ideal))) ⟨m, fun _ => 0, g⟩ (fun r => (∀ c : Dev Cert.ChipOutIdeal.nD,
      r.2.mem ((c.tc : Thread Cert.ChipOutIdeal.nD Cert.ChipOutIdeal.τ).loc Cert.ChipOutIdeal.main_arg0) = m ((c.tc : Thread Cert.ChipOutIdeal.nD Cert.ChipOutIdeal.τ).loc Cert.ChipOutIdeal.main_arg0))
      ∧ r.2.sem = fun _ => 0)

def quiescent_ChipOutRef [hChipOutRef : Cert.ChipOutRef.Facts] : Prop :=
  ∀ (m : (ℓ : Loc Cert.ChipOutRef.nD Cert.ChipOutRef.τ Cert.ChipOutRef.sig) → Buf (Elt Bits) ℓ) (g : Dev Cert.ChipOutRef.nD → PrngReg), Pre_ChipOutRef m →
    θ_run (Cert.ChipOutRef.defs (F := Bits)) (onTc (τ := Cert.ChipOutRef.τ) (Cert.ChipOutRef.main (F := Bits))) ⟨m, fun _ => 0, g⟩ (fun r => (∀ c : Dev Cert.ChipOutRef.nD,
      r.2.mem ((c.tc : Thread Cert.ChipOutRef.nD Cert.ChipOutRef.τ).loc Cert.ChipOutRef.main_arg0) = m ((c.tc : Thread Cert.ChipOutRef.nD Cert.ChipOutRef.τ).loc Cert.ChipOutRef.main_arg0))
      ∧ r.2.sem = fun _ => 0)

def quiescent_ChipOutRefIdeal [hChipOutRefIdeal : Cert.ChipOutRefIdeal.Facts] : Prop :=
  ∀ (m : (ℓ : Loc Cert.ChipOutRefIdeal.nD Cert.ChipOutRefIdeal.τ Cert.ChipOutRefIdeal.sig) → Buf (Elt Ideal) ℓ) (g : Dev Cert.ChipOutRefIdeal.nD → PrngReg), Pre_ChipOutRefIdeal m →
    θ_run (Cert.ChipOutRefIdeal.defs (F := Ideal)) (onTc (τ := Cert.ChipOutRefIdeal.τ) (Cert.ChipOutRefIdeal.main (F := Ideal))) ⟨m, fun _ => 0, g⟩ (fun r => (∀ c : Dev Cert.ChipOutRefIdeal.nD,
      r.2.mem ((c.tc : Thread Cert.ChipOutRefIdeal.nD Cert.ChipOutRefIdeal.τ).loc Cert.ChipOutRefIdeal.main_arg0) = m ((c.tc : Thread Cert.ChipOutRefIdeal.nD Cert.ChipOutRefIdeal.τ).loc Cert.ChipOutRefIdeal.main_arg0))
      ∧ r.2.sem = fun _ => 0)

def quiescent_BackOut [hBackOut : Cert.BackOut.Facts] : Prop :=
  ∀ (m : (ℓ : Loc Cert.BackOut.nD Cert.BackOut.τ Cert.BackOut.sig) → Buf (Elt Bits) ℓ) (g : Dev Cert.BackOut.nD → PrngReg), Pre_BackOut m →
    θ_run (Cert.BackOut.defs (F := Bits)) (onTc (τ := Cert.BackOut.τ) (Cert.BackOut.main (F := Bits))) ⟨m, fun _ => 0, g⟩ (fun r => (∀ c : Dev Cert.BackOut.nD,
      r.2.mem ((c.tc : Thread Cert.BackOut.nD Cert.BackOut.τ).loc Cert.BackOut.main_arg0) = m ((c.tc : Thread Cert.BackOut.nD Cert.BackOut.τ).loc Cert.BackOut.main_arg0))
      ∧ r.2.sem = fun _ => 0)

def quiescent_BackOutIdeal [hBackOutIdeal : Cert.BackOutIdeal.Facts] : Prop :=
  ∀ (m : (ℓ : Loc Cert.BackOutIdeal.nD Cert.BackOutIdeal.τ Cert.BackOutIdeal.sig) → Buf (Elt Ideal) ℓ) (g : Dev Cert.BackOutIdeal.nD → PrngReg), Pre_BackOutIdeal m →
    θ_run (Cert.BackOutIdeal.defs (F := Ideal)) (onTc (τ := Cert.BackOutIdeal.τ) (Cert.BackOutIdeal.main (F := Ideal))) ⟨m, fun _ => 0, g⟩ (fun r => (∀ c : Dev Cert.BackOutIdeal.nD,
      r.2.mem ((c.tc : Thread Cert.BackOutIdeal.nD Cert.BackOutIdeal.τ).loc Cert.BackOutIdeal.main_arg0) = m ((c.tc : Thread Cert.BackOutIdeal.nD Cert.BackOutIdeal.τ).loc Cert.BackOutIdeal.main_arg0))
      ∧ r.2.sem = fun _ => 0)

def quiescent_BackOutRef [hBackOutRef : Cert.BackOutRef.Facts] : Prop :=
  ∀ (m : (ℓ : Loc Cert.BackOutRef.nD Cert.BackOutRef.τ Cert.BackOutRef.sig) → Buf (Elt Bits) ℓ) (g : Dev Cert.BackOutRef.nD → PrngReg), Pre_BackOutRef m →
    θ_run (Cert.BackOutRef.defs (F := Bits)) (onTc (τ := Cert.BackOutRef.τ) (Cert.BackOutRef.main (F := Bits))) ⟨m, fun _ => 0, g⟩ (fun r => (∀ c : Dev Cert.BackOutRef.nD,
      r.2.mem ((c.tc : Thread Cert.BackOutRef.nD Cert.BackOutRef.τ).loc Cert.BackOutRef.main_arg0) = m ((c.tc : Thread Cert.BackOutRef.nD Cert.BackOutRef.τ).loc Cert.BackOutRef.main_arg0))
      ∧ r.2.sem = fun _ => 0)

def quiescent_BackOutRefIdeal [hBackOutRefIdeal : Cert.BackOutRefIdeal.Facts] : Prop :=
  ∀ (m : (ℓ : Loc Cert.BackOutRefIdeal.nD Cert.BackOutRefIdeal.τ Cert.BackOutRefIdeal.sig) → Buf (Elt Ideal) ℓ) (g : Dev Cert.BackOutRefIdeal.nD → PrngReg), Pre_BackOutRefIdeal m →
    θ_run (Cert.BackOutRefIdeal.defs (F := Ideal)) (onTc (τ := Cert.BackOutRefIdeal.τ) (Cert.BackOutRefIdeal.main (F := Ideal))) ⟨m, fun _ => 0, g⟩ (fun r => (∀ c : Dev Cert.BackOutRefIdeal.nD,
      r.2.mem ((c.tc : Thread Cert.BackOutRefIdeal.nD Cert.BackOutRefIdeal.τ).loc Cert.BackOutRefIdeal.main_arg0) = m ((c.tc : Thread Cert.BackOutRefIdeal.nD Cert.BackOutRefIdeal.τ).loc Cert.BackOutRefIdeal.main_arg0))
      ∧ r.2.sem = fun _ => 0)

def quiescent_GatherKv [hGatherKv : Cert.GatherKv.Facts] : Prop :=
  ∀ (m : (ℓ : Loc Cert.GatherKv.nD Cert.GatherKv.τ Cert.GatherKv.sig) → Buf (Elt Bits) ℓ) (g : Dev Cert.GatherKv.nD → PrngReg), Pre_GatherKv m →
    θ_run (Cert.GatherKv.defs (F := Bits)) (onTc (τ := Cert.GatherKv.τ) (Cert.GatherKv.main (F := Bits))) ⟨m, fun _ => 0, g⟩ (fun r => (∀ c : Dev Cert.GatherKv.nD,
      r.2.mem ((c.tc : Thread Cert.GatherKv.nD Cert.GatherKv.τ).loc Cert.GatherKv.main_arg0) = m ((c.tc : Thread Cert.GatherKv.nD Cert.GatherKv.τ).loc Cert.GatherKv.main_arg0))
      ∧ r.2.sem = fun _ => 0)

def quiescent_GatherKvIdeal [hGatherKvIdeal : Cert.GatherKvIdeal.Facts] : Prop :=
  ∀ (m : (ℓ : Loc Cert.GatherKvIdeal.nD Cert.GatherKvIdeal.τ Cert.GatherKvIdeal.sig) → Buf (Elt Ideal) ℓ) (g : Dev Cert.GatherKvIdeal.nD → PrngReg), Pre_GatherKvIdeal m →
    θ_run (Cert.GatherKvIdeal.defs (F := Ideal)) (onTc (τ := Cert.GatherKvIdeal.τ) (Cert.GatherKvIdeal.main (F := Ideal))) ⟨m, fun _ => 0, g⟩ (fun r => (∀ c : Dev Cert.GatherKvIdeal.nD,
      r.2.mem ((c.tc : Thread Cert.GatherKvIdeal.nD Cert.GatherKvIdeal.τ).loc Cert.GatherKvIdeal.main_arg0) = m ((c.tc : Thread Cert.GatherKvIdeal.nD Cert.GatherKvIdeal.τ).loc Cert.GatherKvIdeal.main_arg0))
      ∧ r.2.sem = fun _ => 0)

def quiescent_GatherKvRef [hGatherKvRef : Cert.GatherKvRef.Facts] : Prop :=
  ∀ (m : (ℓ : Loc Cert.GatherKvRef.nD Cert.GatherKvRef.τ Cert.GatherKvRef.sig) → Buf (Elt Bits) ℓ) (g : Dev Cert.GatherKvRef.nD → PrngReg), Pre_GatherKvRef m →
    θ_run (Cert.GatherKvRef.defs (F := Bits)) (onTc (τ := Cert.GatherKvRef.τ) (Cert.GatherKvRef.main (F := Bits))) ⟨m, fun _ => 0, g⟩ (fun r => (∀ c : Dev Cert.GatherKvRef.nD,
      r.2.mem ((c.tc : Thread Cert.GatherKvRef.nD Cert.GatherKvRef.τ).loc Cert.GatherKvRef.main_arg0) = m ((c.tc : Thread Cert.GatherKvRef.nD Cert.GatherKvRef.τ).loc Cert.GatherKvRef.main_arg0))
      ∧ r.2.sem = fun _ => 0)

def quiescent_GatherKvRefIdeal [hGatherKvRefIdeal : Cert.GatherKvRefIdeal.Facts] : Prop :=
  ∀ (m : (ℓ : Loc Cert.GatherKvRefIdeal.nD Cert.GatherKvRefIdeal.τ Cert.GatherKvRefIdeal.sig) → Buf (Elt Ideal) ℓ) (g : Dev Cert.GatherKvRefIdeal.nD → PrngReg), Pre_GatherKvRefIdeal m →
    θ_run (Cert.GatherKvRefIdeal.defs (F := Ideal)) (onTc (τ := Cert.GatherKvRefIdeal.τ) (Cert.GatherKvRefIdeal.main (F := Ideal))) ⟨m, fun _ => 0, g⟩ (fun r => (∀ c : Dev Cert.GatherKvRefIdeal.nD,
      r.2.mem ((c.tc : Thread Cert.GatherKvRefIdeal.nD Cert.GatherKvRefIdeal.τ).loc Cert.GatherKvRefIdeal.main_arg0) = m ((c.tc : Thread Cert.GatherKvRefIdeal.nD Cert.GatherKvRefIdeal.τ).loc Cert.GatherKvRefIdeal.main_arg0))
      ∧ r.2.sem = fun _ => 0)

def quiescent_PairKv [hPairKv : Cert.PairKv.Facts] : Prop :=
  ∀ (m : (ℓ : Loc Cert.PairKv.nD Cert.PairKv.τ Cert.PairKv.sig) → Buf (Elt Bits) ℓ) (g : Dev Cert.PairKv.nD → PrngReg), Pre_PairKv m →
    θ_run (Cert.PairKv.defs (F := Bits)) (onTc (τ := Cert.PairKv.τ) (Cert.PairKv.main (F := Bits))) ⟨m, fun _ => 0, g⟩ (fun r => (∀ c : Dev Cert.PairKv.nD,
      r.2.mem ((c.tc : Thread Cert.PairKv.nD Cert.PairKv.τ).loc Cert.PairKv.main_arg0) = m ((c.tc : Thread Cert.PairKv.nD Cert.PairKv.τ).loc Cert.PairKv.main_arg0))
      ∧ r.2.sem = fun _ => 0)

def quiescent_PairKvIdeal [hPairKvIdeal : Cert.PairKvIdeal.Facts] : Prop :=
  ∀ (m : (ℓ : Loc Cert.PairKvIdeal.nD Cert.PairKvIdeal.τ Cert.PairKvIdeal.sig) → Buf (Elt Ideal) ℓ) (g : Dev Cert.PairKvIdeal.nD → PrngReg), Pre_PairKvIdeal m →
    θ_run (Cert.PairKvIdeal.defs (F := Ideal)) (onTc (τ := Cert.PairKvIdeal.τ) (Cert.PairKvIdeal.main (F := Ideal))) ⟨m, fun _ => 0, g⟩ (fun r => (∀ c : Dev Cert.PairKvIdeal.nD,
      r.2.mem ((c.tc : Thread Cert.PairKvIdeal.nD Cert.PairKvIdeal.τ).loc Cert.PairKvIdeal.main_arg0) = m ((c.tc : Thread Cert.PairKvIdeal.nD Cert.PairKvIdeal.τ).loc Cert.PairKvIdeal.main_arg0))
      ∧ r.2.sem = fun _ => 0)

def quiescent_PairKvRef [hPairKvRef : Cert.PairKvRef.Facts] : Prop :=
  ∀ (m : (ℓ : Loc Cert.PairKvRef.nD Cert.PairKvRef.τ Cert.PairKvRef.sig) → Buf (Elt Bits) ℓ) (g : Dev Cert.PairKvRef.nD → PrngReg), Pre_PairKvRef m →
    θ_run (Cert.PairKvRef.defs (F := Bits)) (onTc (τ := Cert.PairKvRef.τ) (Cert.PairKvRef.main (F := Bits))) ⟨m, fun _ => 0, g⟩ (fun r => (∀ c : Dev Cert.PairKvRef.nD,
      r.2.mem ((c.tc : Thread Cert.PairKvRef.nD Cert.PairKvRef.τ).loc Cert.PairKvRef.main_arg0) = m ((c.tc : Thread Cert.PairKvRef.nD Cert.PairKvRef.τ).loc Cert.PairKvRef.main_arg0))
      ∧ r.2.sem = fun _ => 0)

def quiescent_PairKvRefIdeal [hPairKvRefIdeal : Cert.PairKvRefIdeal.Facts] : Prop :=
  ∀ (m : (ℓ : Loc Cert.PairKvRefIdeal.nD Cert.PairKvRefIdeal.τ Cert.PairKvRefIdeal.sig) → Buf (Elt Ideal) ℓ) (g : Dev Cert.PairKvRefIdeal.nD → PrngReg), Pre_PairKvRefIdeal m →
    θ_run (Cert.PairKvRefIdeal.defs (F := Ideal)) (onTc (τ := Cert.PairKvRefIdeal.τ) (Cert.PairKvRefIdeal.main (F := Ideal))) ⟨m, fun _ => 0, g⟩ (fun r => (∀ c : Dev Cert.PairKvRefIdeal.nD,
      r.2.mem ((c.tc : Thread Cert.PairKvRefIdeal.nD Cert.PairKvRefIdeal.τ).loc Cert.PairKvRefIdeal.main_arg0) = m ((c.tc : Thread Cert.PairKvRefIdeal.nD Cert.PairKvRefIdeal.τ).loc Cert.PairKvRefIdeal.main_arg0))
      ∧ r.2.sem = fun _ => 0)

def quiescent_ChipKv [hChipKv : Cert.ChipKv.Facts] : Prop :=
  ∀ (m : (ℓ : Loc Cert.ChipKv.nD Cert.ChipKv.τ Cert.ChipKv.sig) → Buf (Elt Bits) ℓ) (g : Dev Cert.ChipKv.nD → PrngReg), Pre_ChipKv m →
    θ_run (Cert.ChipKv.defs (F := Bits)) (onTc (τ := Cert.ChipKv.τ) (Cert.ChipKv.main (F := Bits))) ⟨m, fun _ => 0, g⟩ (fun r => (∀ c : Dev Cert.ChipKv.nD,
      r.2.mem ((c.tc : Thread Cert.ChipKv.nD Cert.ChipKv.τ).loc Cert.ChipKv.main_arg0) = m ((c.tc : Thread Cert.ChipKv.nD Cert.ChipKv.τ).loc Cert.ChipKv.main_arg0))
      ∧ r.2.sem = fun _ => 0)

def quiescent_ChipKvIdeal [hChipKvIdeal : Cert.ChipKvIdeal.Facts] : Prop :=
  ∀ (m : (ℓ : Loc Cert.ChipKvIdeal.nD Cert.ChipKvIdeal.τ Cert.ChipKvIdeal.sig) → Buf (Elt Ideal) ℓ) (g : Dev Cert.ChipKvIdeal.nD → PrngReg), Pre_ChipKvIdeal m →
    θ_run (Cert.ChipKvIdeal.defs (F := Ideal)) (onTc (τ := Cert.ChipKvIdeal.τ) (Cert.ChipKvIdeal.main (F := Ideal))) ⟨m, fun _ => 0, g⟩ (fun r => (∀ c : Dev Cert.ChipKvIdeal.nD,
      r.2.mem ((c.tc : Thread Cert.ChipKvIdeal.nD Cert.ChipKvIdeal.τ).loc Cert.ChipKvIdeal.main_arg0) = m ((c.tc : Thread Cert.ChipKvIdeal.nD Cert.ChipKvIdeal.τ).loc Cert.ChipKvIdeal.main_arg0))
      ∧ r.2.sem = fun _ => 0)

def quiescent_ChipKvRef [hChipKvRef : Cert.ChipKvRef.Facts] : Prop :=
  ∀ (m : (ℓ : Loc Cert.ChipKvRef.nD Cert.ChipKvRef.τ Cert.ChipKvRef.sig) → Buf (Elt Bits) ℓ) (g : Dev Cert.ChipKvRef.nD → PrngReg), Pre_ChipKvRef m →
    θ_run (Cert.ChipKvRef.defs (F := Bits)) (onTc (τ := Cert.ChipKvRef.τ) (Cert.ChipKvRef.main (F := Bits))) ⟨m, fun _ => 0, g⟩ (fun r => (∀ c : Dev Cert.ChipKvRef.nD,
      r.2.mem ((c.tc : Thread Cert.ChipKvRef.nD Cert.ChipKvRef.τ).loc Cert.ChipKvRef.main_arg0) = m ((c.tc : Thread Cert.ChipKvRef.nD Cert.ChipKvRef.τ).loc Cert.ChipKvRef.main_arg0))
      ∧ r.2.sem = fun _ => 0)

def quiescent_ChipKvRefIdeal [hChipKvRefIdeal : Cert.ChipKvRefIdeal.Facts] : Prop :=
  ∀ (m : (ℓ : Loc Cert.ChipKvRefIdeal.nD Cert.ChipKvRefIdeal.τ Cert.ChipKvRefIdeal.sig) → Buf (Elt Ideal) ℓ) (g : Dev Cert.ChipKvRefIdeal.nD → PrngReg), Pre_ChipKvRefIdeal m →
    θ_run (Cert.ChipKvRefIdeal.defs (F := Ideal)) (onTc (τ := Cert.ChipKvRefIdeal.τ) (Cert.ChipKvRefIdeal.main (F := Ideal))) ⟨m, fun _ => 0, g⟩ (fun r => (∀ c : Dev Cert.ChipKvRefIdeal.nD,
      r.2.mem ((c.tc : Thread Cert.ChipKvRefIdeal.nD Cert.ChipKvRefIdeal.τ).loc Cert.ChipKvRefIdeal.main_arg0) = m ((c.tc : Thread Cert.ChipKvRefIdeal.nD Cert.ChipKvRefIdeal.τ).loc Cert.ChipKvRefIdeal.main_arg0))
      ∧ r.2.sem = fun _ => 0)

def quiescent_BackKv [hBackKv : Cert.BackKv.Facts] : Prop :=
  ∀ (m : (ℓ : Loc Cert.BackKv.nD Cert.BackKv.τ Cert.BackKv.sig) → Buf (Elt Bits) ℓ) (g : Dev Cert.BackKv.nD → PrngReg), Pre_BackKv m →
    θ_run (Cert.BackKv.defs (F := Bits)) (onTc (τ := Cert.BackKv.τ) (Cert.BackKv.main (F := Bits))) ⟨m, fun _ => 0, g⟩ (fun r => (∀ c : Dev Cert.BackKv.nD,
      r.2.mem ((c.tc : Thread Cert.BackKv.nD Cert.BackKv.τ).loc Cert.BackKv.main_arg0) = m ((c.tc : Thread Cert.BackKv.nD Cert.BackKv.τ).loc Cert.BackKv.main_arg0))
      ∧ r.2.sem = fun _ => 0)

def quiescent_BackKvIdeal [hBackKvIdeal : Cert.BackKvIdeal.Facts] : Prop :=
  ∀ (m : (ℓ : Loc Cert.BackKvIdeal.nD Cert.BackKvIdeal.τ Cert.BackKvIdeal.sig) → Buf (Elt Ideal) ℓ) (g : Dev Cert.BackKvIdeal.nD → PrngReg), Pre_BackKvIdeal m →
    θ_run (Cert.BackKvIdeal.defs (F := Ideal)) (onTc (τ := Cert.BackKvIdeal.τ) (Cert.BackKvIdeal.main (F := Ideal))) ⟨m, fun _ => 0, g⟩ (fun r => (∀ c : Dev Cert.BackKvIdeal.nD,
      r.2.mem ((c.tc : Thread Cert.BackKvIdeal.nD Cert.BackKvIdeal.τ).loc Cert.BackKvIdeal.main_arg0) = m ((c.tc : Thread Cert.BackKvIdeal.nD Cert.BackKvIdeal.τ).loc Cert.BackKvIdeal.main_arg0))
      ∧ r.2.sem = fun _ => 0)

def quiescent_BackKvRef [hBackKvRef : Cert.BackKvRef.Facts] : Prop :=
  ∀ (m : (ℓ : Loc Cert.BackKvRef.nD Cert.BackKvRef.τ Cert.BackKvRef.sig) → Buf (Elt Bits) ℓ) (g : Dev Cert.BackKvRef.nD → PrngReg), Pre_BackKvRef m →
    θ_run (Cert.BackKvRef.defs (F := Bits)) (onTc (τ := Cert.BackKvRef.τ) (Cert.BackKvRef.main (F := Bits))) ⟨m, fun _ => 0, g⟩ (fun r => (∀ c : Dev Cert.BackKvRef.nD,
      r.2.mem ((c.tc : Thread Cert.BackKvRef.nD Cert.BackKvRef.τ).loc Cert.BackKvRef.main_arg0) = m ((c.tc : Thread Cert.BackKvRef.nD Cert.BackKvRef.τ).loc Cert.BackKvRef.main_arg0))
      ∧ r.2.sem = fun _ => 0)

def quiescent_BackKvRefIdeal [hBackKvRefIdeal : Cert.BackKvRefIdeal.Facts] : Prop :=
  ∀ (m : (ℓ : Loc Cert.BackKvRefIdeal.nD Cert.BackKvRefIdeal.τ Cert.BackKvRefIdeal.sig) → Buf (Elt Ideal) ℓ) (g : Dev Cert.BackKvRefIdeal.nD → PrngReg), Pre_BackKvRefIdeal m →
    θ_run (Cert.BackKvRefIdeal.defs (F := Ideal)) (onTc (τ := Cert.BackKvRefIdeal.τ) (Cert.BackKvRefIdeal.main (F := Ideal))) ⟨m, fun _ => 0, g⟩ (fun r => (∀ c : Dev Cert.BackKvRefIdeal.nD,
      r.2.mem ((c.tc : Thread Cert.BackKvRefIdeal.nD Cert.BackKvRefIdeal.τ).loc Cert.BackKvRefIdeal.main_arg0) = m ((c.tc : Thread Cert.BackKvRefIdeal.nD Cert.BackKvRefIdeal.τ).loc Cert.BackKvRefIdeal.main_arg0))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRef [hAdamInRef : Cert.AdamInRef.Facts] : Prop :=
  ∀ (m : (ℓ : Loc Cert.AdamInRef.nD Cert.AdamInRef.τ Cert.AdamInRef.sig) → Buf (Elt Bits) ℓ) (g : Dev Cert.AdamInRef.nD → PrngReg), Pre_AdamInRef m →
    θ_run (Cert.AdamInRef.defs (F := Bits)) (onTc (τ := Cert.AdamInRef.τ) (Cert.AdamInRef.main (F := Bits))) ⟨m, fun _ => 0, g⟩ (fun r => (∀ c : Dev Cert.AdamInRef.nD,
      r.2.mem ((c.tc : Thread Cert.AdamInRef.nD Cert.AdamInRef.τ).loc Cert.AdamInRef.main_arg0) = m ((c.tc : Thread Cert.AdamInRef.nD Cert.AdamInRef.τ).loc Cert.AdamInRef.main_arg0)
      ∧ r.2.mem ((c.tc : Thread Cert.AdamInRef.nD Cert.AdamInRef.τ).loc Cert.AdamInRef.main_arg1) = m ((c.tc : Thread Cert.AdamInRef.nD Cert.AdamInRef.τ).loc Cert.AdamInRef.main_arg1)
      ∧ r.2.mem ((c.tc : Thread Cert.AdamInRef.nD Cert.AdamInRef.τ).loc Cert.AdamInRef.main_arg2) = m ((c.tc : Thread Cert.AdamInRef.nD Cert.AdamInRef.τ).loc Cert.AdamInRef.main_arg2)
      ∧ r.2.mem ((c.tc : Thread Cert.AdamInRef.nD Cert.AdamInRef.τ).loc Cert.AdamInRef.main_arg3) = m ((c.tc : Thread Cert.AdamInRef.nD Cert.AdamInRef.τ).loc Cert.AdamInRef.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamRel [hAdamRel : Cert.AdamRel.Facts] : Prop :=
  ∀ (m : (ℓ : Loc Cert.AdamRel.nD Cert.AdamRel.τ Cert.AdamRel.sig) → Buf (Elt Bits) ℓ) (g : Dev Cert.AdamRel.nD → PrngReg), Pre_AdamRel m →
    θ_run (Cert.AdamRel.defs (F := Bits)) (onTc (τ := Cert.AdamRel.τ) (Cert.AdamRel.main (F := Bits))) ⟨m, fun _ => 0, g⟩ (fun r => (∀ c : Dev Cert.AdamRel.nD,
      r.2.mem ((c.tc : Thread Cert.AdamRel.nD Cert.AdamRel.τ).loc Cert.AdamRel.main_arg0) = m ((c.tc : Thread Cert.AdamRel.nD Cert.AdamRel.τ).loc Cert.AdamRel.main_arg0)
      ∧ r.2.mem ((c.tc : Thread Cert.AdamRel.nD Cert.AdamRel.τ).loc Cert.AdamRel.main_arg1) = m ((c.tc : Thread Cert.AdamRel.nD Cert.AdamRel.τ).loc Cert.AdamRel.main_arg1)
      ∧ r.2.mem ((c.tc : Thread Cert.AdamRel.nD Cert.AdamRel.τ).loc Cert.AdamRel.main_arg2) = m ((c.tc : Thread Cert.AdamRel.nD Cert.AdamRel.τ).loc Cert.AdamRel.main_arg2)
      ∧ r.2.mem ((c.tc : Thread Cert.AdamRel.nD Cert.AdamRel.τ).loc Cert.AdamRel.main_arg3) = m ((c.tc : Thread Cert.AdamRel.nD Cert.AdamRel.τ).loc Cert.AdamRel.main_arg3))
      ∧ r.2.sem = fun _ => 0)

def quiescent_AdamRelIdeal [hAdamRelIdeal : Cert.AdamRelIdeal.Facts] : Prop :=
  ∀ (m : (ℓ : Loc Cert.AdamRelIdeal.nD Cert.AdamRelIdeal.τ Cert.AdamRelIdeal.sig) → Buf (Elt Ideal) ℓ) (g : Dev Cert.AdamRelIdeal.nD → PrngReg), Pre_AdamRelIdeal m →
    θ_run (Cert.AdamRelIdeal.defs (F := Ideal)) (onTc (τ := Cert.AdamRelIdeal.τ) (Cert.AdamRelIdeal.main (F := Ideal))) ⟨m, fun _ => 0, g⟩ (fun r => (∀ c : Dev Cert.AdamRelIdeal.nD,
      r.2.mem ((c.tc : Thread Cert.AdamRelIdeal.nD Cert.AdamRelIdeal.τ).loc Cert.AdamRelIdeal.main_arg0) = m ((c.tc : Thread Cert.AdamRelIdeal.nD Cert.AdamRelIdeal.τ).loc Cert.AdamRelIdeal.main_arg0)
      ∧ r.2.mem ((c.tc : Thread Cert.AdamRelIdeal.nD Cert.AdamRelIdeal.τ).loc Cert.AdamRelIdeal.main_arg1) = m ((c.tc : Thread Cert.AdamRelIdeal.nD Cert.AdamRelIdeal.τ).loc Cert.AdamRelIdeal.main_arg1)
      ∧ r.2.mem ((c.tc : Thread Cert.AdamRelIdeal.nD Cert.AdamRelIdeal.τ).loc Cert.AdamRelIdeal.main_arg2) = m ((c.tc : Thread Cert.AdamRelIdeal.nD Cert.AdamRelIdeal.τ).loc Cert.AdamRelIdeal.main_arg2)
      ∧ r.2.mem ((c.tc : Thread Cert.AdamRelIdeal.nD Cert.AdamRelIdeal.τ).loc Cert.AdamRelIdeal.main_arg3) = m ((c.tc : Thread Cert.AdamRelIdeal.nD Cert.AdamRelIdeal.τ).loc Cert.AdamRelIdeal.main_arg3))
      ∧ r.2.sem = fun _ => 0)

def quiescent_AdamRelRef [hAdamRelRef : Cert.AdamRelRef.Facts] : Prop :=
  ∀ (m : (ℓ : Loc Cert.AdamRelRef.nD Cert.AdamRelRef.τ Cert.AdamRelRef.sig) → Buf (Elt Bits) ℓ) (g : Dev Cert.AdamRelRef.nD → PrngReg), Pre_AdamRelRef m →
    θ_run (Cert.AdamRelRef.defs (F := Bits)) (onTc (τ := Cert.AdamRelRef.τ) (Cert.AdamRelRef.main (F := Bits))) ⟨m, fun _ => 0, g⟩ (fun r => (∀ c : Dev Cert.AdamRelRef.nD,
      r.2.mem ((c.tc : Thread Cert.AdamRelRef.nD Cert.AdamRelRef.τ).loc Cert.AdamRelRef.main_arg0) = m ((c.tc : Thread Cert.AdamRelRef.nD Cert.AdamRelRef.τ).loc Cert.AdamRelRef.main_arg0)
      ∧ r.2.mem ((c.tc : Thread Cert.AdamRelRef.nD Cert.AdamRelRef.τ).loc Cert.AdamRelRef.main_arg1) = m ((c.tc : Thread Cert.AdamRelRef.nD Cert.AdamRelRef.τ).loc Cert.AdamRelRef.main_arg1)
      ∧ r.2.mem ((c.tc : Thread Cert.AdamRelRef.nD Cert.AdamRelRef.τ).loc Cert.AdamRelRef.main_arg2) = m ((c.tc : Thread Cert.AdamRelRef.nD Cert.AdamRelRef.τ).loc Cert.AdamRelRef.main_arg2)
      ∧ r.2.mem ((c.tc : Thread Cert.AdamRelRef.nD Cert.AdamRelRef.τ).loc Cert.AdamRelRef.main_arg3) = m ((c.tc : Thread Cert.AdamRelRef.nD Cert.AdamRelRef.τ).loc Cert.AdamRelRef.main_arg3))
      ∧ r.2.sem = fun _ => 0)

def quiescent_AdamRelRefIdeal [hAdamRelRefIdeal : Cert.AdamRelRefIdeal.Facts] : Prop :=
  ∀ (m : (ℓ : Loc Cert.AdamRelRefIdeal.nD Cert.AdamRelRefIdeal.τ Cert.AdamRelRefIdeal.sig) → Buf (Elt Ideal) ℓ) (g : Dev Cert.AdamRelRefIdeal.nD → PrngReg), Pre_AdamRelRefIdeal m →
    θ_run (Cert.AdamRelRefIdeal.defs (F := Ideal)) (onTc (τ := Cert.AdamRelRefIdeal.τ) (Cert.AdamRelRefIdeal.main (F := Ideal))) ⟨m, fun _ => 0, g⟩ (fun r => (∀ c : Dev Cert.AdamRelRefIdeal.nD,
      r.2.mem ((c.tc : Thread Cert.AdamRelRefIdeal.nD Cert.AdamRelRefIdeal.τ).loc Cert.AdamRelRefIdeal.main_arg0) = m ((c.tc : Thread Cert.AdamRelRefIdeal.nD Cert.AdamRelRefIdeal.τ).loc Cert.AdamRelRefIdeal.main_arg0)
      ∧ r.2.mem ((c.tc : Thread Cert.AdamRelRefIdeal.nD Cert.AdamRelRefIdeal.τ).loc Cert.AdamRelRefIdeal.main_arg1) = m ((c.tc : Thread Cert.AdamRelRefIdeal.nD Cert.AdamRelRefIdeal.τ).loc Cert.AdamRelRefIdeal.main_arg1)
      ∧ r.2.mem ((c.tc : Thread Cert.AdamRelRefIdeal.nD Cert.AdamRelRefIdeal.τ).loc Cert.AdamRelRefIdeal.main_arg2) = m ((c.tc : Thread Cert.AdamRelRefIdeal.nD Cert.AdamRelRefIdeal.τ).loc Cert.AdamRelRefIdeal.main_arg2)
      ∧ r.2.mem ((c.tc : Thread Cert.AdamRelRefIdeal.nD Cert.AdamRelRefIdeal.τ).loc Cert.AdamRelRefIdeal.main_arg3) = m ((c.tc : Thread Cert.AdamRelRefIdeal.nD Cert.AdamRelRefIdeal.τ).loc Cert.AdamRelRefIdeal.main_arg3))
      ∧ r.2.sem = fun _ => 0)

def quiescent_AdamGateW [hAdamGateW : Cert.AdamGateW.Facts] : Prop :=
  ∀ (m : (ℓ : Loc Cert.AdamGateW.nD Cert.AdamGateW.τ Cert.AdamGateW.sig) → Buf (Elt Bits) ℓ) (g : Dev Cert.AdamGateW.nD → PrngReg), Pre_AdamGateW m →
    θ_run (Cert.AdamGateW.defs (F := Bits)) (onTc (τ := Cert.AdamGateW.τ) (Cert.AdamGateW.main (F := Bits))) ⟨m, fun _ => 0, g⟩ (fun r => (∀ c : Dev Cert.AdamGateW.nD,
      r.2.mem ((c.tc : Thread Cert.AdamGateW.nD Cert.AdamGateW.τ).loc Cert.AdamGateW.main_arg0) = m ((c.tc : Thread Cert.AdamGateW.nD Cert.AdamGateW.τ).loc Cert.AdamGateW.main_arg0)
      ∧ r.2.mem ((c.tc : Thread Cert.AdamGateW.nD Cert.AdamGateW.τ).loc Cert.AdamGateW.main_arg1) = m ((c.tc : Thread Cert.AdamGateW.nD Cert.AdamGateW.τ).loc Cert.AdamGateW.main_arg1)
      ∧ r.2.mem ((c.tc : Thread Cert.AdamGateW.nD Cert.AdamGateW.τ).loc Cert.AdamGateW.main_arg2) = m ((c.tc : Thread Cert.AdamGateW.nD Cert.AdamGateW.τ).loc Cert.AdamGateW.main_arg2)
      ∧ r.2.mem ((c.tc : Thread Cert.AdamGateW.nD Cert.AdamGateW.τ).loc Cert.AdamGateW.main_arg3) = m ((c.tc : Thread Cert.AdamGateW.nD Cert.AdamGateW.τ).loc Cert.AdamGateW.main_arg3))
      ∧ r.2.sem = fun _ => 0)

def quiescent_AdamGateWIdeal [hAdamGateWIdeal : Cert.AdamGateWIdeal.Facts] : Prop :=
  ∀ (m : (ℓ : Loc Cert.AdamGateWIdeal.nD Cert.AdamGateWIdeal.τ Cert.AdamGateWIdeal.sig) → Buf (Elt Ideal) ℓ) (g : Dev Cert.AdamGateWIdeal.nD → PrngReg), Pre_AdamGateWIdeal m →
    θ_run (Cert.AdamGateWIdeal.defs (F := Ideal)) (onTc (τ := Cert.AdamGateWIdeal.τ) (Cert.AdamGateWIdeal.main (F := Ideal))) ⟨m, fun _ => 0, g⟩ (fun r => (∀ c : Dev Cert.AdamGateWIdeal.nD,
      r.2.mem ((c.tc : Thread Cert.AdamGateWIdeal.nD Cert.AdamGateWIdeal.τ).loc Cert.AdamGateWIdeal.main_arg0) = m ((c.tc : Thread Cert.AdamGateWIdeal.nD Cert.AdamGateWIdeal.τ).loc Cert.AdamGateWIdeal.main_arg0)
      ∧ r.2.mem ((c.tc : Thread Cert.AdamGateWIdeal.nD Cert.AdamGateWIdeal.τ).loc Cert.AdamGateWIdeal.main_arg1) = m ((c.tc : Thread Cert.AdamGateWIdeal.nD Cert.AdamGateWIdeal.τ).loc Cert.AdamGateWIdeal.main_arg1)
      ∧ r.2.mem ((c.tc : Thread Cert.AdamGateWIdeal.nD Cert.AdamGateWIdeal.τ).loc Cert.AdamGateWIdeal.main_arg2) = m ((c.tc : Thread Cert.AdamGateWIdeal.nD Cert.AdamGateWIdeal.τ).loc Cert.AdamGateWIdeal.main_arg2)
      ∧ r.2.mem ((c.tc : Thread Cert.AdamGateWIdeal.nD Cert.AdamGateWIdeal.τ).loc Cert.AdamGateWIdeal.main_arg3) = m ((c.tc : Thread Cert.AdamGateWIdeal.nD Cert.AdamGateWIdeal.τ).loc Cert.AdamGateWIdeal.main_arg3))
      ∧ r.2.sem = fun _ => 0)

def quiescent_AdamGateWRef [hAdamGateWRef : Cert.AdamGateWRef.Facts] : Prop :=
  ∀ (m : (ℓ : Loc Cert.AdamGateWRef.nD Cert.AdamGateWRef.τ Cert.AdamGateWRef.sig) → Buf (Elt Bits) ℓ) (g : Dev Cert.AdamGateWRef.nD → PrngReg), Pre_AdamGateWRef m →
    θ_run (Cert.AdamGateWRef.defs (F := Bits)) (onTc (τ := Cert.AdamGateWRef.τ) (Cert.AdamGateWRef.main (F := Bits))) ⟨m, fun _ => 0, g⟩ (fun r => (∀ c : Dev Cert.AdamGateWRef.nD,
      r.2.mem ((c.tc : Thread Cert.AdamGateWRef.nD Cert.AdamGateWRef.τ).loc Cert.AdamGateWRef.main_arg0) = m ((c.tc : Thread Cert.AdamGateWRef.nD Cert.AdamGateWRef.τ).loc Cert.AdamGateWRef.main_arg0)
      ∧ r.2.mem ((c.tc : Thread Cert.AdamGateWRef.nD Cert.AdamGateWRef.τ).loc Cert.AdamGateWRef.main_arg1) = m ((c.tc : Thread Cert.AdamGateWRef.nD Cert.AdamGateWRef.τ).loc Cert.AdamGateWRef.main_arg1)
      ∧ r.2.mem ((c.tc : Thread Cert.AdamGateWRef.nD Cert.AdamGateWRef.τ).loc Cert.AdamGateWRef.main_arg2) = m ((c.tc : Thread Cert.AdamGateWRef.nD Cert.AdamGateWRef.τ).loc Cert.AdamGateWRef.main_arg2)
      ∧ r.2.mem ((c.tc : Thread Cert.AdamGateWRef.nD Cert.AdamGateWRef.τ).loc Cert.AdamGateWRef.main_arg3) = m ((c.tc : Thread Cert.AdamGateWRef.nD Cert.AdamGateWRef.τ).loc Cert.AdamGateWRef.main_arg3))
      ∧ r.2.sem = fun _ => 0)

def quiescent_AdamGateWRefIdeal [hAdamGateWRefIdeal : Cert.AdamGateWRefIdeal.Facts] : Prop :=
  ∀ (m : (ℓ : Loc Cert.AdamGateWRefIdeal.nD Cert.AdamGateWRefIdeal.τ Cert.AdamGateWRefIdeal.sig) → Buf (Elt Ideal) ℓ) (g : Dev Cert.AdamGateWRefIdeal.nD → PrngReg), Pre_AdamGateWRefIdeal m →
    θ_run (Cert.AdamGateWRefIdeal.defs (F := Ideal)) (onTc (τ := Cert.AdamGateWRefIdeal.τ) (Cert.AdamGateWRefIdeal.main (F := Ideal))) ⟨m, fun _ => 0, g⟩ (fun r => (∀ c : Dev Cert.AdamGateWRefIdeal.nD,
      r.2.mem ((c.tc : Thread Cert.AdamGateWRefIdeal.nD Cert.AdamGateWRefIdeal.τ).loc Cert.AdamGateWRefIdeal.main_arg0) = m ((c.tc : Thread Cert.AdamGateWRefIdeal.nD Cert.AdamGateWRefIdeal.τ).loc Cert.AdamGateWRefIdeal.main_arg0)
      ∧ r.2.mem ((c.tc : Thread Cert.AdamGateWRefIdeal.nD Cert.AdamGateWRefIdeal.τ).loc Cert.AdamGateWRefIdeal.main_arg1) = m ((c.tc : Thread Cert.AdamGateWRefIdeal.nD Cert.AdamGateWRefIdeal.τ).loc Cert.AdamGateWRefIdeal.main_arg1)
      ∧ r.2.mem ((c.tc : Thread Cert.AdamGateWRefIdeal.nD Cert.AdamGateWRefIdeal.τ).loc Cert.AdamGateWRefIdeal.main_arg2) = m ((c.tc : Thread Cert.AdamGateWRefIdeal.nD Cert.AdamGateWRefIdeal.τ).loc Cert.AdamGateWRefIdeal.main_arg2)
      ∧ r.2.mem ((c.tc : Thread Cert.AdamGateWRefIdeal.nD Cert.AdamGateWRefIdeal.τ).loc Cert.AdamGateWRefIdeal.main_arg3) = m ((c.tc : Thread Cert.AdamGateWRefIdeal.nD Cert.AdamGateWRefIdeal.τ).loc Cert.AdamGateWRefIdeal.main_arg3))
      ∧ r.2.sem = fun _ => 0)

def quiescent_AdamGateB [hAdamGateB : Cert.AdamGateB.Facts] : Prop :=
  ∀ (m : (ℓ : Loc Cert.AdamGateB.nD Cert.AdamGateB.τ Cert.AdamGateB.sig) → Buf (Elt Bits) ℓ) (g : Dev Cert.AdamGateB.nD → PrngReg), Pre_AdamGateB m →
    θ_run (Cert.AdamGateB.defs (F := Bits)) (onTc (τ := Cert.AdamGateB.τ) (Cert.AdamGateB.main (F := Bits))) ⟨m, fun _ => 0, g⟩ (fun r => (∀ c : Dev Cert.AdamGateB.nD,
      r.2.mem ((c.tc : Thread Cert.AdamGateB.nD Cert.AdamGateB.τ).loc Cert.AdamGateB.main_arg0) = m ((c.tc : Thread Cert.AdamGateB.nD Cert.AdamGateB.τ).loc Cert.AdamGateB.main_arg0)
      ∧ r.2.mem ((c.tc : Thread Cert.AdamGateB.nD Cert.AdamGateB.τ).loc Cert.AdamGateB.main_arg1) = m ((c.tc : Thread Cert.AdamGateB.nD Cert.AdamGateB.τ).loc Cert.AdamGateB.main_arg1)
      ∧ r.2.mem ((c.tc : Thread Cert.AdamGateB.nD Cert.AdamGateB.τ).loc Cert.AdamGateB.main_arg2) = m ((c.tc : Thread Cert.AdamGateB.nD Cert.AdamGateB.τ).loc Cert.AdamGateB.main_arg2)
      ∧ r.2.mem ((c.tc : Thread Cert.AdamGateB.nD Cert.AdamGateB.τ).loc Cert.AdamGateB.main_arg3) = m ((c.tc : Thread Cert.AdamGateB.nD Cert.AdamGateB.τ).loc Cert.AdamGateB.main_arg3))
      ∧ r.2.sem = fun _ => 0)

def quiescent_AdamGateBIdeal [hAdamGateBIdeal : Cert.AdamGateBIdeal.Facts] : Prop :=
  ∀ (m : (ℓ : Loc Cert.AdamGateBIdeal.nD Cert.AdamGateBIdeal.τ Cert.AdamGateBIdeal.sig) → Buf (Elt Ideal) ℓ) (g : Dev Cert.AdamGateBIdeal.nD → PrngReg), Pre_AdamGateBIdeal m →
    θ_run (Cert.AdamGateBIdeal.defs (F := Ideal)) (onTc (τ := Cert.AdamGateBIdeal.τ) (Cert.AdamGateBIdeal.main (F := Ideal))) ⟨m, fun _ => 0, g⟩ (fun r => (∀ c : Dev Cert.AdamGateBIdeal.nD,
      r.2.mem ((c.tc : Thread Cert.AdamGateBIdeal.nD Cert.AdamGateBIdeal.τ).loc Cert.AdamGateBIdeal.main_arg0) = m ((c.tc : Thread Cert.AdamGateBIdeal.nD Cert.AdamGateBIdeal.τ).loc Cert.AdamGateBIdeal.main_arg0)
      ∧ r.2.mem ((c.tc : Thread Cert.AdamGateBIdeal.nD Cert.AdamGateBIdeal.τ).loc Cert.AdamGateBIdeal.main_arg1) = m ((c.tc : Thread Cert.AdamGateBIdeal.nD Cert.AdamGateBIdeal.τ).loc Cert.AdamGateBIdeal.main_arg1)
      ∧ r.2.mem ((c.tc : Thread Cert.AdamGateBIdeal.nD Cert.AdamGateBIdeal.τ).loc Cert.AdamGateBIdeal.main_arg2) = m ((c.tc : Thread Cert.AdamGateBIdeal.nD Cert.AdamGateBIdeal.τ).loc Cert.AdamGateBIdeal.main_arg2)
      ∧ r.2.mem ((c.tc : Thread Cert.AdamGateBIdeal.nD Cert.AdamGateBIdeal.τ).loc Cert.AdamGateBIdeal.main_arg3) = m ((c.tc : Thread Cert.AdamGateBIdeal.nD Cert.AdamGateBIdeal.τ).loc Cert.AdamGateBIdeal.main_arg3))
      ∧ r.2.sem = fun _ => 0)

def quiescent_AdamGateBRef [hAdamGateBRef : Cert.AdamGateBRef.Facts] : Prop :=
  ∀ (m : (ℓ : Loc Cert.AdamGateBRef.nD Cert.AdamGateBRef.τ Cert.AdamGateBRef.sig) → Buf (Elt Bits) ℓ) (g : Dev Cert.AdamGateBRef.nD → PrngReg), Pre_AdamGateBRef m →
    θ_run (Cert.AdamGateBRef.defs (F := Bits)) (onTc (τ := Cert.AdamGateBRef.τ) (Cert.AdamGateBRef.main (F := Bits))) ⟨m, fun _ => 0, g⟩ (fun r => (∀ c : Dev Cert.AdamGateBRef.nD,
      r.2.mem ((c.tc : Thread Cert.AdamGateBRef.nD Cert.AdamGateBRef.τ).loc Cert.AdamGateBRef.main_arg0) = m ((c.tc : Thread Cert.AdamGateBRef.nD Cert.AdamGateBRef.τ).loc Cert.AdamGateBRef.main_arg0)
      ∧ r.2.mem ((c.tc : Thread Cert.AdamGateBRef.nD Cert.AdamGateBRef.τ).loc Cert.AdamGateBRef.main_arg1) = m ((c.tc : Thread Cert.AdamGateBRef.nD Cert.AdamGateBRef.τ).loc Cert.AdamGateBRef.main_arg1)
      ∧ r.2.mem ((c.tc : Thread Cert.AdamGateBRef.nD Cert.AdamGateBRef.τ).loc Cert.AdamGateBRef.main_arg2) = m ((c.tc : Thread Cert.AdamGateBRef.nD Cert.AdamGateBRef.τ).loc Cert.AdamGateBRef.main_arg2)
      ∧ r.2.mem ((c.tc : Thread Cert.AdamGateBRef.nD Cert.AdamGateBRef.τ).loc Cert.AdamGateBRef.main_arg3) = m ((c.tc : Thread Cert.AdamGateBRef.nD Cert.AdamGateBRef.τ).loc Cert.AdamGateBRef.main_arg3))
      ∧ r.2.sem = fun _ => 0)

def quiescent_AdamGateBRefIdeal [hAdamGateBRefIdeal : Cert.AdamGateBRefIdeal.Facts] : Prop :=
  ∀ (m : (ℓ : Loc Cert.AdamGateBRefIdeal.nD Cert.AdamGateBRefIdeal.τ Cert.AdamGateBRefIdeal.sig) → Buf (Elt Ideal) ℓ) (g : Dev Cert.AdamGateBRefIdeal.nD → PrngReg), Pre_AdamGateBRefIdeal m →
    θ_run (Cert.AdamGateBRefIdeal.defs (F := Ideal)) (onTc (τ := Cert.AdamGateBRefIdeal.τ) (Cert.AdamGateBRefIdeal.main (F := Ideal))) ⟨m, fun _ => 0, g⟩ (fun r => (∀ c : Dev Cert.AdamGateBRefIdeal.nD,
      r.2.mem ((c.tc : Thread Cert.AdamGateBRefIdeal.nD Cert.AdamGateBRefIdeal.τ).loc Cert.AdamGateBRefIdeal.main_arg0) = m ((c.tc : Thread Cert.AdamGateBRefIdeal.nD Cert.AdamGateBRefIdeal.τ).loc Cert.AdamGateBRefIdeal.main_arg0)
      ∧ r.2.mem ((c.tc : Thread Cert.AdamGateBRefIdeal.nD Cert.AdamGateBRefIdeal.τ).loc Cert.AdamGateBRefIdeal.main_arg1) = m ((c.tc : Thread Cert.AdamGateBRefIdeal.nD Cert.AdamGateBRefIdeal.τ).loc Cert.AdamGateBRefIdeal.main_arg1)
      ∧ r.2.mem ((c.tc : Thread Cert.AdamGateBRefIdeal.nD Cert.AdamGateBRefIdeal.τ).loc Cert.AdamGateBRefIdeal.main_arg2) = m ((c.tc : Thread Cert.AdamGateBRefIdeal.nD Cert.AdamGateBRefIdeal.τ).loc Cert.AdamGateBRefIdeal.main_arg2)
      ∧ r.2.mem ((c.tc : Thread Cert.AdamGateBRefIdeal.nD Cert.AdamGateBRefIdeal.τ).loc Cert.AdamGateBRefIdeal.main_arg3) = m ((c.tc : Thread Cert.AdamGateBRefIdeal.nD Cert.AdamGateBRefIdeal.τ).loc Cert.AdamGateBRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRef [hAdamNormRef : Cert.AdamNormRef.Facts] : Prop :=
  ∀ (m : (ℓ : Loc Cert.AdamNormRef.nD Cert.AdamNormRef.τ Cert.AdamNormRef.sig) → Buf (Elt Bits) ℓ) (g : Dev Cert.AdamNormRef.nD → PrngReg), Pre_AdamNormRef m →
    θ_run (Cert.AdamNormRef.defs (F := Bits)) (onTc (τ := Cert.AdamNormRef.τ) (Cert.AdamNormRef.main (F := Bits))) ⟨m, fun _ => 0, g⟩ (fun r => (∀ c : Dev Cert.AdamNormRef.nD,
      r.2.mem ((c.tc : Thread Cert.AdamNormRef.nD Cert.AdamNormRef.τ).loc Cert.AdamNormRef.main_arg0) = m ((c.tc : Thread Cert.AdamNormRef.nD Cert.AdamNormRef.τ).loc Cert.AdamNormRef.main_arg0)
      ∧ r.2.mem ((c.tc : Thread Cert.AdamNormRef.nD Cert.AdamNormRef.τ).loc Cert.AdamNormRef.main_arg1) = m ((c.tc : Thread Cert.AdamNormRef.nD Cert.AdamNormRef.τ).loc Cert.AdamNormRef.main_arg1)
      ∧ r.2.mem ((c.tc : Thread Cert.AdamNormRef.nD Cert.AdamNormRef.τ).loc Cert.AdamNormRef.main_arg2) = m ((c.tc : Thread Cert.AdamNormRef.nD Cert.AdamNormRef.τ).loc Cert.AdamNormRef.main_arg2)
      ∧ r.2.mem ((c.tc : Thread Cert.AdamNormRef.nD Cert.AdamNormRef.τ).loc Cert.AdamNormRef.main_arg3) = m ((c.tc : Thread Cert.AdamNormRef.nD Cert.AdamNormRef.τ).loc Cert.AdamNormRef.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRef [hAdamKvRef : Cert.AdamKvRef.Facts] : Prop :=
  ∀ (m : (ℓ : Loc Cert.AdamKvRef.nD Cert.AdamKvRef.τ Cert.AdamKvRef.sig) → Buf (Elt Bits) ℓ) (g : Dev Cert.AdamKvRef.nD → PrngReg), Pre_AdamKvRef m →
    θ_run (Cert.AdamKvRef.defs (F := Bits)) (onTc (τ := Cert.AdamKvRef.τ) (Cert.AdamKvRef.main (F := Bits))) ⟨m, fun _ => 0, g⟩ (fun r => (∀ c : Dev Cert.AdamKvRef.nD,
      r.2.mem ((c.tc : Thread Cert.AdamKvRef.nD Cert.AdamKvRef.τ).loc Cert.AdamKvRef.main_arg0) = m ((c.tc : Thread Cert.AdamKvRef.nD Cert.AdamKvRef.τ).loc Cert.AdamKvRef.main_arg0)
      ∧ r.2.mem ((c.tc : Thread Cert.AdamKvRef.nD Cert.AdamKvRef.τ).loc Cert.AdamKvRef.main_arg1) = m ((c.tc : Thread Cert.AdamKvRef.nD Cert.AdamKvRef.τ).loc Cert.AdamKvRef.main_arg1)
      ∧ r.2.mem ((c.tc : Thread Cert.AdamKvRef.nD Cert.AdamKvRef.τ).loc Cert.AdamKvRef.main_arg2) = m ((c.tc : Thread Cert.AdamKvRef.nD Cert.AdamKvRef.τ).loc Cert.AdamKvRef.main_arg2)
      ∧ r.2.mem ((c.tc : Thread Cert.AdamKvRef.nD Cert.AdamKvRef.τ).loc Cert.AdamKvRef.main_arg3) = m ((c.tc : Thread Cert.AdamKvRef.nD Cert.AdamKvRef.τ).loc Cert.AdamKvRef.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRef [hAdamOutRef : Cert.AdamOutRef.Facts] : Prop :=
  ∀ (m : (ℓ : Loc Cert.AdamOutRef.nD Cert.AdamOutRef.τ Cert.AdamOutRef.sig) → Buf (Elt Bits) ℓ) (g : Dev Cert.AdamOutRef.nD → PrngReg), Pre_AdamOutRef m →
    θ_run (Cert.AdamOutRef.defs (F := Bits)) (onTc (τ := Cert.AdamOutRef.τ) (Cert.AdamOutRef.main (F := Bits))) ⟨m, fun _ => 0, g⟩ (fun r => (∀ c : Dev Cert.AdamOutRef.nD,
      r.2.mem ((c.tc : Thread Cert.AdamOutRef.nD Cert.AdamOutRef.τ).loc Cert.AdamOutRef.main_arg0) = m ((c.tc : Thread Cert.AdamOutRef.nD Cert.AdamOutRef.τ).loc Cert.AdamOutRef.main_arg0)
      ∧ r.2.mem ((c.tc : Thread Cert.AdamOutRef.nD Cert.AdamOutRef.τ).loc Cert.AdamOutRef.main_arg1) = m ((c.tc : Thread Cert.AdamOutRef.nD Cert.AdamOutRef.τ).loc Cert.AdamOutRef.main_arg1)
      ∧ r.2.mem ((c.tc : Thread Cert.AdamOutRef.nD Cert.AdamOutRef.τ).loc Cert.AdamOutRef.main_arg2) = m ((c.tc : Thread Cert.AdamOutRef.nD Cert.AdamOutRef.τ).loc Cert.AdamOutRef.main_arg2)
      ∧ r.2.mem ((c.tc : Thread Cert.AdamOutRef.nD Cert.AdamOutRef.τ).loc Cert.AdamOutRef.main_arg3) = m ((c.tc : Thread Cert.AdamOutRef.nD Cert.AdamOutRef.τ).loc Cert.AdamOutRef.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamLnG [hAdamLnG : Cert.AdamLnG.Facts] : Prop :=
  ∀ (m : (ℓ : Loc Cert.AdamLnG.nD Cert.AdamLnG.τ Cert.AdamLnG.sig) → Buf (Elt Bits) ℓ) (g : Dev Cert.AdamLnG.nD → PrngReg), Pre_AdamLnG m →
    θ_run (Cert.AdamLnG.defs (F := Bits)) (onTc (τ := Cert.AdamLnG.τ) (Cert.AdamLnG.main (F := Bits))) ⟨m, fun _ => 0, g⟩ (fun r => (∀ c : Dev Cert.AdamLnG.nD,
      r.2.mem ((c.tc : Thread Cert.AdamLnG.nD Cert.AdamLnG.τ).loc Cert.AdamLnG.main_arg0) = m ((c.tc : Thread Cert.AdamLnG.nD Cert.AdamLnG.τ).loc Cert.AdamLnG.main_arg0)
      ∧ r.2.mem ((c.tc : Thread Cert.AdamLnG.nD Cert.AdamLnG.τ).loc Cert.AdamLnG.main_arg1) = m ((c.tc : Thread Cert.AdamLnG.nD Cert.AdamLnG.τ).loc Cert.AdamLnG.main_arg1)
      ∧ r.2.mem ((c.tc : Thread Cert.AdamLnG.nD Cert.AdamLnG.τ).loc Cert.AdamLnG.main_arg2) = m ((c.tc : Thread Cert.AdamLnG.nD Cert.AdamLnG.τ).loc Cert.AdamLnG.main_arg2)
      ∧ r.2.mem ((c.tc : Thread Cert.AdamLnG.nD Cert.AdamLnG.τ).loc Cert.AdamLnG.main_arg3) = m ((c.tc : Thread Cert.AdamLnG.nD Cert.AdamLnG.τ).loc Cert.AdamLnG.main_arg3))
      ∧ r.2.sem = fun _ => 0)

def quiescent_AdamLnGIdeal [hAdamLnGIdeal : Cert.AdamLnGIdeal.Facts] : Prop :=
  ∀ (m : (ℓ : Loc Cert.AdamLnGIdeal.nD Cert.AdamLnGIdeal.τ Cert.AdamLnGIdeal.sig) → Buf (Elt Ideal) ℓ) (g : Dev Cert.AdamLnGIdeal.nD → PrngReg), Pre_AdamLnGIdeal m →
    θ_run (Cert.AdamLnGIdeal.defs (F := Ideal)) (onTc (τ := Cert.AdamLnGIdeal.τ) (Cert.AdamLnGIdeal.main (F := Ideal))) ⟨m, fun _ => 0, g⟩ (fun r => (∀ c : Dev Cert.AdamLnGIdeal.nD,
      r.2.mem ((c.tc : Thread Cert.AdamLnGIdeal.nD Cert.AdamLnGIdeal.τ).loc Cert.AdamLnGIdeal.main_arg0) = m ((c.tc : Thread Cert.AdamLnGIdeal.nD Cert.AdamLnGIdeal.τ).loc Cert.AdamLnGIdeal.main_arg0)
      ∧ r.2.mem ((c.tc : Thread Cert.AdamLnGIdeal.nD Cert.AdamLnGIdeal.τ).loc Cert.AdamLnGIdeal.main_arg1) = m ((c.tc : Thread Cert.AdamLnGIdeal.nD Cert.AdamLnGIdeal.τ).loc Cert.AdamLnGIdeal.main_arg1)
      ∧ r.2.mem ((c.tc : Thread Cert.AdamLnGIdeal.nD Cert.AdamLnGIdeal.τ).loc Cert.AdamLnGIdeal.main_arg2) = m ((c.tc : Thread Cert.AdamLnGIdeal.nD Cert.AdamLnGIdeal.τ).loc Cert.AdamLnGIdeal.main_arg2)
      ∧ r.2.mem ((c.tc : Thread Cert.AdamLnGIdeal.nD Cert.AdamLnGIdeal.τ).loc Cert.AdamLnGIdeal.main_arg3) = m ((c.tc : Thread Cert.AdamLnGIdeal.nD Cert.AdamLnGIdeal.τ).loc Cert.AdamLnGIdeal.main_arg3))
      ∧ r.2.sem = fun _ => 0)

def quiescent_AdamLnGRef [hAdamLnGRef : Cert.AdamLnGRef.Facts] : Prop :=
  ∀ (m : (ℓ : Loc Cert.AdamLnGRef.nD Cert.AdamLnGRef.τ Cert.AdamLnGRef.sig) → Buf (Elt Bits) ℓ) (g : Dev Cert.AdamLnGRef.nD → PrngReg), Pre_AdamLnGRef m →
    θ_run (Cert.AdamLnGRef.defs (F := Bits)) (onTc (τ := Cert.AdamLnGRef.τ) (Cert.AdamLnGRef.main (F := Bits))) ⟨m, fun _ => 0, g⟩ (fun r => (∀ c : Dev Cert.AdamLnGRef.nD,
      r.2.mem ((c.tc : Thread Cert.AdamLnGRef.nD Cert.AdamLnGRef.τ).loc Cert.AdamLnGRef.main_arg0) = m ((c.tc : Thread Cert.AdamLnGRef.nD Cert.AdamLnGRef.τ).loc Cert.AdamLnGRef.main_arg0)
      ∧ r.2.mem ((c.tc : Thread Cert.AdamLnGRef.nD Cert.AdamLnGRef.τ).loc Cert.AdamLnGRef.main_arg1) = m ((c.tc : Thread Cert.AdamLnGRef.nD Cert.AdamLnGRef.τ).loc Cert.AdamLnGRef.main_arg1)
      ∧ r.2.mem ((c.tc : Thread Cert.AdamLnGRef.nD Cert.AdamLnGRef.τ).loc Cert.AdamLnGRef.main_arg2) = m ((c.tc : Thread Cert.AdamLnGRef.nD Cert.AdamLnGRef.τ).loc Cert.AdamLnGRef.main_arg2)
      ∧ r.2.mem ((c.tc : Thread Cert.AdamLnGRef.nD Cert.AdamLnGRef.τ).loc Cert.AdamLnGRef.main_arg3) = m ((c.tc : Thread Cert.AdamLnGRef.nD Cert.AdamLnGRef.τ).loc Cert.AdamLnGRef.main_arg3))
      ∧ r.2.sem = fun _ => 0)

def quiescent_AdamLnGRefIdeal [hAdamLnGRefIdeal : Cert.AdamLnGRefIdeal.Facts] : Prop :=
  ∀ (m : (ℓ : Loc Cert.AdamLnGRefIdeal.nD Cert.AdamLnGRefIdeal.τ Cert.AdamLnGRefIdeal.sig) → Buf (Elt Ideal) ℓ) (g : Dev Cert.AdamLnGRefIdeal.nD → PrngReg), Pre_AdamLnGRefIdeal m →
    θ_run (Cert.AdamLnGRefIdeal.defs (F := Ideal)) (onTc (τ := Cert.AdamLnGRefIdeal.τ) (Cert.AdamLnGRefIdeal.main (F := Ideal))) ⟨m, fun _ => 0, g⟩ (fun r => (∀ c : Dev Cert.AdamLnGRefIdeal.nD,
      r.2.mem ((c.tc : Thread Cert.AdamLnGRefIdeal.nD Cert.AdamLnGRefIdeal.τ).loc Cert.AdamLnGRefIdeal.main_arg0) = m ((c.tc : Thread Cert.AdamLnGRefIdeal.nD Cert.AdamLnGRefIdeal.τ).loc Cert.AdamLnGRefIdeal.main_arg0)
      ∧ r.2.mem ((c.tc : Thread Cert.AdamLnGRefIdeal.nD Cert.AdamLnGRefIdeal.τ).loc Cert.AdamLnGRefIdeal.main_arg1) = m ((c.tc : Thread Cert.AdamLnGRefIdeal.nD Cert.AdamLnGRefIdeal.τ).loc Cert.AdamLnGRefIdeal.main_arg1)
      ∧ r.2.mem ((c.tc : Thread Cert.AdamLnGRefIdeal.nD Cert.AdamLnGRefIdeal.τ).loc Cert.AdamLnGRefIdeal.main_arg2) = m ((c.tc : Thread Cert.AdamLnGRefIdeal.nD Cert.AdamLnGRefIdeal.τ).loc Cert.AdamLnGRefIdeal.main_arg2)
      ∧ r.2.mem ((c.tc : Thread Cert.AdamLnGRefIdeal.nD Cert.AdamLnGRefIdeal.τ).loc Cert.AdamLnGRefIdeal.main_arg3) = m ((c.tc : Thread Cert.AdamLnGRefIdeal.nD Cert.AdamLnGRefIdeal.τ).loc Cert.AdamLnGRefIdeal.main_arg3))
      ∧ r.2.sem = fun _ => 0)

def quiescent_AdamLnB [hAdamLnB : Cert.AdamLnB.Facts] : Prop :=
  ∀ (m : (ℓ : Loc Cert.AdamLnB.nD Cert.AdamLnB.τ Cert.AdamLnB.sig) → Buf (Elt Bits) ℓ) (g : Dev Cert.AdamLnB.nD → PrngReg), Pre_AdamLnB m →
    θ_run (Cert.AdamLnB.defs (F := Bits)) (onTc (τ := Cert.AdamLnB.τ) (Cert.AdamLnB.main (F := Bits))) ⟨m, fun _ => 0, g⟩ (fun r => (∀ c : Dev Cert.AdamLnB.nD,
      r.2.mem ((c.tc : Thread Cert.AdamLnB.nD Cert.AdamLnB.τ).loc Cert.AdamLnB.main_arg0) = m ((c.tc : Thread Cert.AdamLnB.nD Cert.AdamLnB.τ).loc Cert.AdamLnB.main_arg0)
      ∧ r.2.mem ((c.tc : Thread Cert.AdamLnB.nD Cert.AdamLnB.τ).loc Cert.AdamLnB.main_arg1) = m ((c.tc : Thread Cert.AdamLnB.nD Cert.AdamLnB.τ).loc Cert.AdamLnB.main_arg1)
      ∧ r.2.mem ((c.tc : Thread Cert.AdamLnB.nD Cert.AdamLnB.τ).loc Cert.AdamLnB.main_arg2) = m ((c.tc : Thread Cert.AdamLnB.nD Cert.AdamLnB.τ).loc Cert.AdamLnB.main_arg2)
      ∧ r.2.mem ((c.tc : Thread Cert.AdamLnB.nD Cert.AdamLnB.τ).loc Cert.AdamLnB.main_arg3) = m ((c.tc : Thread Cert.AdamLnB.nD Cert.AdamLnB.τ).loc Cert.AdamLnB.main_arg3))
      ∧ r.2.sem = fun _ => 0)

def quiescent_AdamLnBIdeal [hAdamLnBIdeal : Cert.AdamLnBIdeal.Facts] : Prop :=
  ∀ (m : (ℓ : Loc Cert.AdamLnBIdeal.nD Cert.AdamLnBIdeal.τ Cert.AdamLnBIdeal.sig) → Buf (Elt Ideal) ℓ) (g : Dev Cert.AdamLnBIdeal.nD → PrngReg), Pre_AdamLnBIdeal m →
    θ_run (Cert.AdamLnBIdeal.defs (F := Ideal)) (onTc (τ := Cert.AdamLnBIdeal.τ) (Cert.AdamLnBIdeal.main (F := Ideal))) ⟨m, fun _ => 0, g⟩ (fun r => (∀ c : Dev Cert.AdamLnBIdeal.nD,
      r.2.mem ((c.tc : Thread Cert.AdamLnBIdeal.nD Cert.AdamLnBIdeal.τ).loc Cert.AdamLnBIdeal.main_arg0) = m ((c.tc : Thread Cert.AdamLnBIdeal.nD Cert.AdamLnBIdeal.τ).loc Cert.AdamLnBIdeal.main_arg0)
      ∧ r.2.mem ((c.tc : Thread Cert.AdamLnBIdeal.nD Cert.AdamLnBIdeal.τ).loc Cert.AdamLnBIdeal.main_arg1) = m ((c.tc : Thread Cert.AdamLnBIdeal.nD Cert.AdamLnBIdeal.τ).loc Cert.AdamLnBIdeal.main_arg1)
      ∧ r.2.mem ((c.tc : Thread Cert.AdamLnBIdeal.nD Cert.AdamLnBIdeal.τ).loc Cert.AdamLnBIdeal.main_arg2) = m ((c.tc : Thread Cert.AdamLnBIdeal.nD Cert.AdamLnBIdeal.τ).loc Cert.AdamLnBIdeal.main_arg2)
      ∧ r.2.mem ((c.tc : Thread Cert.AdamLnBIdeal.nD Cert.AdamLnBIdeal.τ).loc Cert.AdamLnBIdeal.main_arg3) = m ((c.tc : Thread Cert.AdamLnBIdeal.nD Cert.AdamLnBIdeal.τ).loc Cert.AdamLnBIdeal.main_arg3))
      ∧ r.2.sem = fun _ => 0)

def quiescent_AdamLnBRef [hAdamLnBRef : Cert.AdamLnBRef.Facts] : Prop :=
  ∀ (m : (ℓ : Loc Cert.AdamLnBRef.nD Cert.AdamLnBRef.τ Cert.AdamLnBRef.sig) → Buf (Elt Bits) ℓ) (g : Dev Cert.AdamLnBRef.nD → PrngReg), Pre_AdamLnBRef m →
    θ_run (Cert.AdamLnBRef.defs (F := Bits)) (onTc (τ := Cert.AdamLnBRef.τ) (Cert.AdamLnBRef.main (F := Bits))) ⟨m, fun _ => 0, g⟩ (fun r => (∀ c : Dev Cert.AdamLnBRef.nD,
      r.2.mem ((c.tc : Thread Cert.AdamLnBRef.nD Cert.AdamLnBRef.τ).loc Cert.AdamLnBRef.main_arg0) = m ((c.tc : Thread Cert.AdamLnBRef.nD Cert.AdamLnBRef.τ).loc Cert.AdamLnBRef.main_arg0)
      ∧ r.2.mem ((c.tc : Thread Cert.AdamLnBRef.nD Cert.AdamLnBRef.τ).loc Cert.AdamLnBRef.main_arg1) = m ((c.tc : Thread Cert.AdamLnBRef.nD Cert.AdamLnBRef.τ).loc Cert.AdamLnBRef.main_arg1)
      ∧ r.2.mem ((c.tc : Thread Cert.AdamLnBRef.nD Cert.AdamLnBRef.τ).loc Cert.AdamLnBRef.main_arg2) = m ((c.tc : Thread Cert.AdamLnBRef.nD Cert.AdamLnBRef.τ).loc Cert.AdamLnBRef.main_arg2)
      ∧ r.2.mem ((c.tc : Thread Cert.AdamLnBRef.nD Cert.AdamLnBRef.τ).loc Cert.AdamLnBRef.main_arg3) = m ((c.tc : Thread Cert.AdamLnBRef.nD Cert.AdamLnBRef.τ).loc Cert.AdamLnBRef.main_arg3))
      ∧ r.2.sem = fun _ => 0)

def quiescent_AdamLnBRefIdeal [hAdamLnBRefIdeal : Cert.AdamLnBRefIdeal.Facts] : Prop :=
  ∀ (m : (ℓ : Loc Cert.AdamLnBRefIdeal.nD Cert.AdamLnBRefIdeal.τ Cert.AdamLnBRefIdeal.sig) → Buf (Elt Ideal) ℓ) (g : Dev Cert.AdamLnBRefIdeal.nD → PrngReg), Pre_AdamLnBRefIdeal m →
    θ_run (Cert.AdamLnBRefIdeal.defs (F := Ideal)) (onTc (τ := Cert.AdamLnBRefIdeal.τ) (Cert.AdamLnBRefIdeal.main (F := Ideal))) ⟨m, fun _ => 0, g⟩ (fun r => (∀ c : Dev Cert.AdamLnBRefIdeal.nD,
      r.2.mem ((c.tc : Thread Cert.AdamLnBRefIdeal.nD Cert.AdamLnBRefIdeal.τ).loc Cert.AdamLnBRefIdeal.main_arg0) = m ((c.tc : Thread Cert.AdamLnBRefIdeal.nD Cert.AdamLnBRefIdeal.τ).loc Cert.AdamLnBRefIdeal.main_arg0)
      ∧ r.2.mem ((c.tc : Thread Cert.AdamLnBRefIdeal.nD Cert.AdamLnBRefIdeal.τ).loc Cert.AdamLnBRefIdeal.main_arg1) = m ((c.tc : Thread Cert.AdamLnBRefIdeal.nD Cert.AdamLnBRefIdeal.τ).loc Cert.AdamLnBRefIdeal.main_arg1)
      ∧ r.2.mem ((c.tc : Thread Cert.AdamLnBRefIdeal.nD Cert.AdamLnBRefIdeal.τ).loc Cert.AdamLnBRefIdeal.main_arg2) = m ((c.tc : Thread Cert.AdamLnBRefIdeal.nD Cert.AdamLnBRefIdeal.τ).loc Cert.AdamLnBRefIdeal.main_arg2)
      ∧ r.2.mem ((c.tc : Thread Cert.AdamLnBRefIdeal.nD Cert.AdamLnBRefIdeal.τ).loc Cert.AdamLnBRefIdeal.main_arg3) = m ((c.tc : Thread Cert.AdamLnBRefIdeal.nD Cert.AdamLnBRefIdeal.τ).loc Cert.AdamLnBRefIdeal.main_arg3))
      ∧ r.2.sem = fun _ => 0)

def quiescent_SlotsIn [hSlotsIn : Cert.SlotsIn.Facts] : Prop :=
  ∀ (m : (ℓ : Loc Cert.SlotsIn.nD Cert.SlotsIn.τ Cert.SlotsIn.sig) → Buf (Elt Bits) ℓ) (g : Dev Cert.SlotsIn.nD → PrngReg), Pre_SlotsIn m →
    θ_run (Cert.SlotsIn.defs (F := Bits)) (onTc (τ := Cert.SlotsIn.τ) (Cert.SlotsIn.main (F := Bits))) ⟨m, fun _ => 0, g⟩ (fun r => (∀ c : Dev Cert.SlotsIn.nD,
      r.2.mem ((c.tc : Thread Cert.SlotsIn.nD Cert.SlotsIn.τ).loc Cert.SlotsIn.main_arg0) = m ((c.tc : Thread Cert.SlotsIn.nD Cert.SlotsIn.τ).loc Cert.SlotsIn.main_arg0))
      ∧ r.2.sem = fun _ => 0)

def quiescent_SlotsInIdeal [hSlotsInIdeal : Cert.SlotsInIdeal.Facts] : Prop :=
  ∀ (m : (ℓ : Loc Cert.SlotsInIdeal.nD Cert.SlotsInIdeal.τ Cert.SlotsInIdeal.sig) → Buf (Elt Ideal) ℓ) (g : Dev Cert.SlotsInIdeal.nD → PrngReg), Pre_SlotsInIdeal m →
    θ_run (Cert.SlotsInIdeal.defs (F := Ideal)) (onTc (τ := Cert.SlotsInIdeal.τ) (Cert.SlotsInIdeal.main (F := Ideal))) ⟨m, fun _ => 0, g⟩ (fun r => (∀ c : Dev Cert.SlotsInIdeal.nD,
      r.2.mem ((c.tc : Thread Cert.SlotsInIdeal.nD Cert.SlotsInIdeal.τ).loc Cert.SlotsInIdeal.main_arg0) = m ((c.tc : Thread Cert.SlotsInIdeal.nD Cert.SlotsInIdeal.τ).loc Cert.SlotsInIdeal.main_arg0))
      ∧ r.2.sem = fun _ => 0)

def quiescent_SlotsInRef [hSlotsInRef : Cert.SlotsInRef.Facts] : Prop :=
  ∀ (m : (ℓ : Loc Cert.SlotsInRef.nD Cert.SlotsInRef.τ Cert.SlotsInRef.sig) → Buf (Elt Bits) ℓ) (g : Dev Cert.SlotsInRef.nD → PrngReg), Pre_SlotsInRef m →
    θ_run (Cert.SlotsInRef.defs (F := Bits)) (onTc (τ := Cert.SlotsInRef.τ) (Cert.SlotsInRef.main (F := Bits))) ⟨m, fun _ => 0, g⟩ (fun r => (∀ c : Dev Cert.SlotsInRef.nD,
      r.2.mem ((c.tc : Thread Cert.SlotsInRef.nD Cert.SlotsInRef.τ).loc Cert.SlotsInRef.main_arg0) = m ((c.tc : Thread Cert.SlotsInRef.nD Cert.SlotsInRef.τ).loc Cert.SlotsInRef.main_arg0))
      ∧ r.2.sem = fun _ => 0)

def quiescent_SlotsInRefIdeal [hSlotsInRefIdeal : Cert.SlotsInRefIdeal.Facts] : Prop :=
  ∀ (m : (ℓ : Loc Cert.SlotsInRefIdeal.nD Cert.SlotsInRefIdeal.τ Cert.SlotsInRefIdeal.sig) → Buf (Elt Ideal) ℓ) (g : Dev Cert.SlotsInRefIdeal.nD → PrngReg), Pre_SlotsInRefIdeal m →
    θ_run (Cert.SlotsInRefIdeal.defs (F := Ideal)) (onTc (τ := Cert.SlotsInRefIdeal.τ) (Cert.SlotsInRefIdeal.main (F := Ideal))) ⟨m, fun _ => 0, g⟩ (fun r => (∀ c : Dev Cert.SlotsInRefIdeal.nD,
      r.2.mem ((c.tc : Thread Cert.SlotsInRefIdeal.nD Cert.SlotsInRefIdeal.τ).loc Cert.SlotsInRefIdeal.main_arg0) = m ((c.tc : Thread Cert.SlotsInRefIdeal.nD Cert.SlotsInRefIdeal.τ).loc Cert.SlotsInRefIdeal.main_arg0))
      ∧ r.2.sem = fun _ => 0)

def quiescent_SlotsOut [hSlotsOut : Cert.SlotsOut.Facts] : Prop :=
  ∀ (m : (ℓ : Loc Cert.SlotsOut.nD Cert.SlotsOut.τ Cert.SlotsOut.sig) → Buf (Elt Bits) ℓ) (g : Dev Cert.SlotsOut.nD → PrngReg), Pre_SlotsOut m →
    θ_run (Cert.SlotsOut.defs (F := Bits)) (onTc (τ := Cert.SlotsOut.τ) (Cert.SlotsOut.main (F := Bits))) ⟨m, fun _ => 0, g⟩ (fun r => (∀ c : Dev Cert.SlotsOut.nD,
      r.2.mem ((c.tc : Thread Cert.SlotsOut.nD Cert.SlotsOut.τ).loc Cert.SlotsOut.main_arg0) = m ((c.tc : Thread Cert.SlotsOut.nD Cert.SlotsOut.τ).loc Cert.SlotsOut.main_arg0))
      ∧ r.2.sem = fun _ => 0)

def quiescent_SlotsOutIdeal [hSlotsOutIdeal : Cert.SlotsOutIdeal.Facts] : Prop :=
  ∀ (m : (ℓ : Loc Cert.SlotsOutIdeal.nD Cert.SlotsOutIdeal.τ Cert.SlotsOutIdeal.sig) → Buf (Elt Ideal) ℓ) (g : Dev Cert.SlotsOutIdeal.nD → PrngReg), Pre_SlotsOutIdeal m →
    θ_run (Cert.SlotsOutIdeal.defs (F := Ideal)) (onTc (τ := Cert.SlotsOutIdeal.τ) (Cert.SlotsOutIdeal.main (F := Ideal))) ⟨m, fun _ => 0, g⟩ (fun r => (∀ c : Dev Cert.SlotsOutIdeal.nD,
      r.2.mem ((c.tc : Thread Cert.SlotsOutIdeal.nD Cert.SlotsOutIdeal.τ).loc Cert.SlotsOutIdeal.main_arg0) = m ((c.tc : Thread Cert.SlotsOutIdeal.nD Cert.SlotsOutIdeal.τ).loc Cert.SlotsOutIdeal.main_arg0))
      ∧ r.2.sem = fun _ => 0)

def quiescent_SlotsOutRef [hSlotsOutRef : Cert.SlotsOutRef.Facts] : Prop :=
  ∀ (m : (ℓ : Loc Cert.SlotsOutRef.nD Cert.SlotsOutRef.τ Cert.SlotsOutRef.sig) → Buf (Elt Bits) ℓ) (g : Dev Cert.SlotsOutRef.nD → PrngReg), Pre_SlotsOutRef m →
    θ_run (Cert.SlotsOutRef.defs (F := Bits)) (onTc (τ := Cert.SlotsOutRef.τ) (Cert.SlotsOutRef.main (F := Bits))) ⟨m, fun _ => 0, g⟩ (fun r => (∀ c : Dev Cert.SlotsOutRef.nD,
      r.2.mem ((c.tc : Thread Cert.SlotsOutRef.nD Cert.SlotsOutRef.τ).loc Cert.SlotsOutRef.main_arg0) = m ((c.tc : Thread Cert.SlotsOutRef.nD Cert.SlotsOutRef.τ).loc Cert.SlotsOutRef.main_arg0))
      ∧ r.2.sem = fun _ => 0)

def quiescent_SlotsOutRefIdeal [hSlotsOutRefIdeal : Cert.SlotsOutRefIdeal.Facts] : Prop :=
  ∀ (m : (ℓ : Loc Cert.SlotsOutRefIdeal.nD Cert.SlotsOutRefIdeal.τ Cert.SlotsOutRefIdeal.sig) → Buf (Elt Ideal) ℓ) (g : Dev Cert.SlotsOutRefIdeal.nD → PrngReg), Pre_SlotsOutRefIdeal m →
    θ_run (Cert.SlotsOutRefIdeal.defs (F := Ideal)) (onTc (τ := Cert.SlotsOutRefIdeal.τ) (Cert.SlotsOutRefIdeal.main (F := Ideal))) ⟨m, fun _ => 0, g⟩ (fun r => (∀ c : Dev Cert.SlotsOutRefIdeal.nD,
      r.2.mem ((c.tc : Thread Cert.SlotsOutRefIdeal.nD Cert.SlotsOutRefIdeal.τ).loc Cert.SlotsOutRefIdeal.main_arg0) = m ((c.tc : Thread Cert.SlotsOutRefIdeal.nD Cert.SlotsOutRefIdeal.τ).loc Cert.SlotsOutRefIdeal.main_arg0))
      ∧ r.2.sem = fun _ => 0)

def quiescent_SlotsKv [hSlotsKv : Cert.SlotsKv.Facts] : Prop :=
  ∀ (m : (ℓ : Loc Cert.SlotsKv.nD Cert.SlotsKv.τ Cert.SlotsKv.sig) → Buf (Elt Bits) ℓ) (g : Dev Cert.SlotsKv.nD → PrngReg), Pre_SlotsKv m →
    θ_run (Cert.SlotsKv.defs (F := Bits)) (onTc (τ := Cert.SlotsKv.τ) (Cert.SlotsKv.main (F := Bits))) ⟨m, fun _ => 0, g⟩ (fun r => (∀ c : Dev Cert.SlotsKv.nD,
      r.2.mem ((c.tc : Thread Cert.SlotsKv.nD Cert.SlotsKv.τ).loc Cert.SlotsKv.main_arg0) = m ((c.tc : Thread Cert.SlotsKv.nD Cert.SlotsKv.τ).loc Cert.SlotsKv.main_arg0))
      ∧ r.2.sem = fun _ => 0)

def quiescent_SlotsKvIdeal [hSlotsKvIdeal : Cert.SlotsKvIdeal.Facts] : Prop :=
  ∀ (m : (ℓ : Loc Cert.SlotsKvIdeal.nD Cert.SlotsKvIdeal.τ Cert.SlotsKvIdeal.sig) → Buf (Elt Ideal) ℓ) (g : Dev Cert.SlotsKvIdeal.nD → PrngReg), Pre_SlotsKvIdeal m →
    θ_run (Cert.SlotsKvIdeal.defs (F := Ideal)) (onTc (τ := Cert.SlotsKvIdeal.τ) (Cert.SlotsKvIdeal.main (F := Ideal))) ⟨m, fun _ => 0, g⟩ (fun r => (∀ c : Dev Cert.SlotsKvIdeal.nD,
      r.2.mem ((c.tc : Thread Cert.SlotsKvIdeal.nD Cert.SlotsKvIdeal.τ).loc Cert.SlotsKvIdeal.main_arg0) = m ((c.tc : Thread Cert.SlotsKvIdeal.nD Cert.SlotsKvIdeal.τ).loc Cert.SlotsKvIdeal.main_arg0))
      ∧ r.2.sem = fun _ => 0)

def quiescent_SlotsKvRef [hSlotsKvRef : Cert.SlotsKvRef.Facts] : Prop :=
  ∀ (m : (ℓ : Loc Cert.SlotsKvRef.nD Cert.SlotsKvRef.τ Cert.SlotsKvRef.sig) → Buf (Elt Bits) ℓ) (g : Dev Cert.SlotsKvRef.nD → PrngReg), Pre_SlotsKvRef m →
    θ_run (Cert.SlotsKvRef.defs (F := Bits)) (onTc (τ := Cert.SlotsKvRef.τ) (Cert.SlotsKvRef.main (F := Bits))) ⟨m, fun _ => 0, g⟩ (fun r => (∀ c : Dev Cert.SlotsKvRef.nD,
      r.2.mem ((c.tc : Thread Cert.SlotsKvRef.nD Cert.SlotsKvRef.τ).loc Cert.SlotsKvRef.main_arg0) = m ((c.tc : Thread Cert.SlotsKvRef.nD Cert.SlotsKvRef.τ).loc Cert.SlotsKvRef.main_arg0))
      ∧ r.2.sem = fun _ => 0)

def quiescent_SlotsKvRefIdeal [hSlotsKvRefIdeal : Cert.SlotsKvRefIdeal.Facts] : Prop :=
  ∀ (m : (ℓ : Loc Cert.SlotsKvRefIdeal.nD Cert.SlotsKvRefIdeal.τ Cert.SlotsKvRefIdeal.sig) → Buf (Elt Ideal) ℓ) (g : Dev Cert.SlotsKvRefIdeal.nD → PrngReg), Pre_SlotsKvRefIdeal m →
    θ_run (Cert.SlotsKvRefIdeal.defs (F := Ideal)) (onTc (τ := Cert.SlotsKvRefIdeal.τ) (Cert.SlotsKvRefIdeal.main (F := Ideal))) ⟨m, fun _ => 0, g⟩ (fun r => (∀ c : Dev Cert.SlotsKvRefIdeal.nD,
      r.2.mem ((c.tc : Thread Cert.SlotsKvRefIdeal.nD Cert.SlotsKvRefIdeal.τ).loc Cert.SlotsKvRefIdeal.main_arg0) = m ((c.tc : Thread Cert.SlotsKvRefIdeal.nD Cert.SlotsKvRefIdeal.τ).loc Cert.SlotsKvRefIdeal.main_arg0))
      ∧ r.2.sem = fun _ => 0)

def quiescent_HalvesIn [hHalvesIn : Cert.HalvesIn.Facts] [hPre_a_core_w_in : Cert.Pre_a_core_w_in.Facts] : Prop :=
  ∀ (m : (ℓ : Loc Cert.HalvesIn.nD Cert.HalvesIn.τ Cert.HalvesIn.sig) → Buf (Elt Bits) ℓ) (g : Dev Cert.HalvesIn.nD → PrngReg), Pre_HalvesIn m →
    θ_run (Cert.HalvesIn.defs (F := Bits)) (onTc (τ := Cert.HalvesIn.τ) (Cert.HalvesIn.main (F := Bits))) ⟨m, fun _ => 0, g⟩ (fun r => (∀ c : Dev Cert.HalvesIn.nD,
      r.2.mem ((c.tc : Thread Cert.HalvesIn.nD Cert.HalvesIn.τ).loc Cert.HalvesIn.main_arg0) = m ((c.tc : Thread Cert.HalvesIn.nD Cert.HalvesIn.τ).loc Cert.HalvesIn.main_arg0)
      ∧ r.2.mem ((c.tc : Thread Cert.HalvesIn.nD Cert.HalvesIn.τ).loc Cert.HalvesIn.main_arg1) = m ((c.tc : Thread Cert.HalvesIn.nD Cert.HalvesIn.τ).loc Cert.HalvesIn.main_arg1)
      ∧ r.2.mem ((c.tc : Thread Cert.HalvesIn.nD Cert.HalvesIn.τ).loc Cert.HalvesIn.main_arg2) = m ((c.tc : Thread Cert.HalvesIn.nD Cert.HalvesIn.τ).loc Cert.HalvesIn.main_arg2))
      ∧ r.2.sem = fun _ => 0)

def quiescent_HalvesInIdeal [hHalvesInIdeal : Cert.HalvesInIdeal.Facts] [hPre_a_core_w_in : Cert.Pre_a_core_w_in.Facts] : Prop :=
  ∀ (m : (ℓ : Loc Cert.HalvesInIdeal.nD Cert.HalvesInIdeal.τ Cert.HalvesInIdeal.sig) → Buf (Elt Ideal) ℓ) (g : Dev Cert.HalvesInIdeal.nD → PrngReg), Pre_HalvesInIdeal m →
    θ_run (Cert.HalvesInIdeal.defs (F := Ideal)) (onTc (τ := Cert.HalvesInIdeal.τ) (Cert.HalvesInIdeal.main (F := Ideal))) ⟨m, fun _ => 0, g⟩ (fun r => (∀ c : Dev Cert.HalvesInIdeal.nD,
      r.2.mem ((c.tc : Thread Cert.HalvesInIdeal.nD Cert.HalvesInIdeal.τ).loc Cert.HalvesInIdeal.main_arg0) = m ((c.tc : Thread Cert.HalvesInIdeal.nD Cert.HalvesInIdeal.τ).loc Cert.HalvesInIdeal.main_arg0)
      ∧ r.2.mem ((c.tc : Thread Cert.HalvesInIdeal.nD Cert.HalvesInIdeal.τ).loc Cert.HalvesInIdeal.main_arg1) = m ((c.tc : Thread Cert.HalvesInIdeal.nD Cert.HalvesInIdeal.τ).loc Cert.HalvesInIdeal.main_arg1)
      ∧ r.2.mem ((c.tc : Thread Cert.HalvesInIdeal.nD Cert.HalvesInIdeal.τ).loc Cert.HalvesInIdeal.main_arg2) = m ((c.tc : Thread Cert.HalvesInIdeal.nD Cert.HalvesInIdeal.τ).loc Cert.HalvesInIdeal.main_arg2))
      ∧ r.2.sem = fun _ => 0)

def quiescent_HalvesInRef [hHalvesInRef : Cert.HalvesInRef.Facts] : Prop :=
  ∀ (m : (ℓ : Loc Cert.HalvesInRef.nD Cert.HalvesInRef.τ Cert.HalvesInRef.sig) → Buf (Elt Bits) ℓ) (g : Dev Cert.HalvesInRef.nD → PrngReg), Pre_HalvesInRef m →
    θ_run (Cert.HalvesInRef.defs (F := Bits)) (onTc (τ := Cert.HalvesInRef.τ) (Cert.HalvesInRef.main (F := Bits))) ⟨m, fun _ => 0, g⟩ (fun r => (∀ c : Dev Cert.HalvesInRef.nD,
      r.2.mem ((c.tc : Thread Cert.HalvesInRef.nD Cert.HalvesInRef.τ).loc Cert.HalvesInRef.main_arg0) = m ((c.tc : Thread Cert.HalvesInRef.nD Cert.HalvesInRef.τ).loc Cert.HalvesInRef.main_arg0)
      ∧ r.2.mem ((c.tc : Thread Cert.HalvesInRef.nD Cert.HalvesInRef.τ).loc Cert.HalvesInRef.main_arg1) = m ((c.tc : Thread Cert.HalvesInRef.nD Cert.HalvesInRef.τ).loc Cert.HalvesInRef.main_arg1)
      ∧ r.2.mem ((c.tc : Thread Cert.HalvesInRef.nD Cert.HalvesInRef.τ).loc Cert.HalvesInRef.main_arg2) = m ((c.tc : Thread Cert.HalvesInRef.nD Cert.HalvesInRef.τ).loc Cert.HalvesInRef.main_arg2))
      ∧ r.2.sem = fun _ => 0)

def quiescent_HalvesInRef_pre_a_core_w_in [hHalvesInRef : Cert.HalvesInRef.Facts] [hPre_a_core_w_in : Cert.Pre_a_core_w_in.Facts] : Prop :=
  ∀ (m : (ℓ : Loc Cert.HalvesInRef.nD Cert.HalvesInRef.τ Cert.HalvesInRef.sig) → Buf (Elt Bits) ℓ) (g : Dev Cert.HalvesInRef.nD → PrngReg), Pre_HalvesInRef_a_core_w_in m →
    θ_run (Cert.HalvesInRef.defs (F := Bits)) (onTc (τ := Cert.HalvesInRef.τ) (Cert.HalvesInRef.main (F := Bits))) ⟨m, fun _ => 0, g⟩ (fun r => (∀ c : Dev Cert.HalvesInRef.nD,
      r.2.mem ((c.tc : Thread Cert.HalvesInRef.nD Cert.HalvesInRef.τ).loc Cert.HalvesInRef.main_arg0) = m ((c.tc : Thread Cert.HalvesInRef.nD Cert.HalvesInRef.τ).loc Cert.HalvesInRef.main_arg0)
      ∧ r.2.mem ((c.tc : Thread Cert.HalvesInRef.nD Cert.HalvesInRef.τ).loc Cert.HalvesInRef.main_arg1) = m ((c.tc : Thread Cert.HalvesInRef.nD Cert.HalvesInRef.τ).loc Cert.HalvesInRef.main_arg1)
      ∧ r.2.mem ((c.tc : Thread Cert.HalvesInRef.nD Cert.HalvesInRef.τ).loc Cert.HalvesInRef.main_arg2) = m ((c.tc : Thread Cert.HalvesInRef.nD Cert.HalvesInRef.τ).loc Cert.HalvesInRef.main_arg2))
      ∧ r.2.sem = fun _ => 0)

def quiescent_HalvesInRefIdeal [hHalvesInRefIdeal : Cert.HalvesInRefIdeal.Facts] : Prop :=
  ∀ (m : (ℓ : Loc Cert.HalvesInRefIdeal.nD Cert.HalvesInRefIdeal.τ Cert.HalvesInRefIdeal.sig) → Buf (Elt Ideal) ℓ) (g : Dev Cert.HalvesInRefIdeal.nD → PrngReg), Pre_HalvesInRefIdeal m →
    θ_run (Cert.HalvesInRefIdeal.defs (F := Ideal)) (onTc (τ := Cert.HalvesInRefIdeal.τ) (Cert.HalvesInRefIdeal.main (F := Ideal))) ⟨m, fun _ => 0, g⟩ (fun r => (∀ c : Dev Cert.HalvesInRefIdeal.nD,
      r.2.mem ((c.tc : Thread Cert.HalvesInRefIdeal.nD Cert.HalvesInRefIdeal.τ).loc Cert.HalvesInRefIdeal.main_arg0) = m ((c.tc : Thread Cert.HalvesInRefIdeal.nD Cert.HalvesInRefIdeal.τ).loc Cert.HalvesInRefIdeal.main_arg0)
      ∧ r.2.mem ((c.tc : Thread Cert.HalvesInRefIdeal.nD Cert.HalvesInRefIdeal.τ).loc Cert.HalvesInRefIdeal.main_arg1) = m ((c.tc : Thread Cert.HalvesInRefIdeal.nD Cert.HalvesInRefIdeal.τ).loc Cert.HalvesInRefIdeal.main_arg1)
      ∧ r.2.mem ((c.tc : Thread Cert.HalvesInRefIdeal.nD Cert.HalvesInRefIdeal.τ).loc Cert.HalvesInRefIdeal.main_arg2) = m ((c.tc : Thread Cert.HalvesInRefIdeal.nD Cert.HalvesInRefIdeal.τ).loc Cert.HalvesInRefIdeal.main_arg2))
      ∧ r.2.sem = fun _ => 0)

def quiescent_HalvesInRefIdeal_pre_a_core_w_in [hHalvesInRefIdeal : Cert.HalvesInRefIdeal.Facts] [hPre_a_core_w_in : Cert.Pre_a_core_w_in.Facts] : Prop :=
  ∀ (m : (ℓ : Loc Cert.HalvesInRefIdeal.nD Cert.HalvesInRefIdeal.τ Cert.HalvesInRefIdeal.sig) → Buf (Elt Ideal) ℓ) (g : Dev Cert.HalvesInRefIdeal.nD → PrngReg), Pre_HalvesInRefIdeal_a_core_w_in m →
    θ_run (Cert.HalvesInRefIdeal.defs (F := Ideal)) (onTc (τ := Cert.HalvesInRefIdeal.τ) (Cert.HalvesInRefIdeal.main (F := Ideal))) ⟨m, fun _ => 0, g⟩ (fun r => (∀ c : Dev Cert.HalvesInRefIdeal.nD,
      r.2.mem ((c.tc : Thread Cert.HalvesInRefIdeal.nD Cert.HalvesInRefIdeal.τ).loc Cert.HalvesInRefIdeal.main_arg0) = m ((c.tc : Thread Cert.HalvesInRefIdeal.nD Cert.HalvesInRefIdeal.τ).loc Cert.HalvesInRefIdeal.main_arg0)
      ∧ r.2.mem ((c.tc : Thread Cert.HalvesInRefIdeal.nD Cert.HalvesInRefIdeal.τ).loc Cert.HalvesInRefIdeal.main_arg1) = m ((c.tc : Thread Cert.HalvesInRefIdeal.nD Cert.HalvesInRefIdeal.τ).loc Cert.HalvesInRefIdeal.main_arg1)
      ∧ r.2.mem ((c.tc : Thread Cert.HalvesInRefIdeal.nD Cert.HalvesInRefIdeal.τ).loc Cert.HalvesInRefIdeal.main_arg2) = m ((c.tc : Thread Cert.HalvesInRefIdeal.nD Cert.HalvesInRefIdeal.τ).loc Cert.HalvesInRefIdeal.main_arg2))
      ∧ r.2.sem = fun _ => 0)

def quiescent_HalvesOut [hHalvesOut : Cert.HalvesOut.Facts] [hPre_a_core_w_out : Cert.Pre_a_core_w_out.Facts] : Prop :=
  ∀ (m : (ℓ : Loc Cert.HalvesOut.nD Cert.HalvesOut.τ Cert.HalvesOut.sig) → Buf (Elt Bits) ℓ) (g : Dev Cert.HalvesOut.nD → PrngReg), Pre_HalvesOut m →
    θ_run (Cert.HalvesOut.defs (F := Bits)) (onTc (τ := Cert.HalvesOut.τ) (Cert.HalvesOut.main (F := Bits))) ⟨m, fun _ => 0, g⟩ (fun r => (∀ c : Dev Cert.HalvesOut.nD,
      r.2.mem ((c.tc : Thread Cert.HalvesOut.nD Cert.HalvesOut.τ).loc Cert.HalvesOut.main_arg0) = m ((c.tc : Thread Cert.HalvesOut.nD Cert.HalvesOut.τ).loc Cert.HalvesOut.main_arg0)
      ∧ r.2.mem ((c.tc : Thread Cert.HalvesOut.nD Cert.HalvesOut.τ).loc Cert.HalvesOut.main_arg1) = m ((c.tc : Thread Cert.HalvesOut.nD Cert.HalvesOut.τ).loc Cert.HalvesOut.main_arg1)
      ∧ r.2.mem ((c.tc : Thread Cert.HalvesOut.nD Cert.HalvesOut.τ).loc Cert.HalvesOut.main_arg2) = m ((c.tc : Thread Cert.HalvesOut.nD Cert.HalvesOut.τ).loc Cert.HalvesOut.main_arg2))
      ∧ r.2.sem = fun _ => 0)

def quiescent_HalvesOutIdeal [hHalvesOutIdeal : Cert.HalvesOutIdeal.Facts] [hPre_a_core_w_out : Cert.Pre_a_core_w_out.Facts] : Prop :=
  ∀ (m : (ℓ : Loc Cert.HalvesOutIdeal.nD Cert.HalvesOutIdeal.τ Cert.HalvesOutIdeal.sig) → Buf (Elt Ideal) ℓ) (g : Dev Cert.HalvesOutIdeal.nD → PrngReg), Pre_HalvesOutIdeal m →
    θ_run (Cert.HalvesOutIdeal.defs (F := Ideal)) (onTc (τ := Cert.HalvesOutIdeal.τ) (Cert.HalvesOutIdeal.main (F := Ideal))) ⟨m, fun _ => 0, g⟩ (fun r => (∀ c : Dev Cert.HalvesOutIdeal.nD,
      r.2.mem ((c.tc : Thread Cert.HalvesOutIdeal.nD Cert.HalvesOutIdeal.τ).loc Cert.HalvesOutIdeal.main_arg0) = m ((c.tc : Thread Cert.HalvesOutIdeal.nD Cert.HalvesOutIdeal.τ).loc Cert.HalvesOutIdeal.main_arg0)
      ∧ r.2.mem ((c.tc : Thread Cert.HalvesOutIdeal.nD Cert.HalvesOutIdeal.τ).loc Cert.HalvesOutIdeal.main_arg1) = m ((c.tc : Thread Cert.HalvesOutIdeal.nD Cert.HalvesOutIdeal.τ).loc Cert.HalvesOutIdeal.main_arg1)
      ∧ r.2.mem ((c.tc : Thread Cert.HalvesOutIdeal.nD Cert.HalvesOutIdeal.τ).loc Cert.HalvesOutIdeal.main_arg2) = m ((c.tc : Thread Cert.HalvesOutIdeal.nD Cert.HalvesOutIdeal.τ).loc Cert.HalvesOutIdeal.main_arg2))
      ∧ r.2.sem = fun _ => 0)

def quiescent_HalvesOutRef [hHalvesOutRef : Cert.HalvesOutRef.Facts] : Prop :=
  ∀ (m : (ℓ : Loc Cert.HalvesOutRef.nD Cert.HalvesOutRef.τ Cert.HalvesOutRef.sig) → Buf (Elt Bits) ℓ) (g : Dev Cert.HalvesOutRef.nD → PrngReg), Pre_HalvesOutRef m →
    θ_run (Cert.HalvesOutRef.defs (F := Bits)) (onTc (τ := Cert.HalvesOutRef.τ) (Cert.HalvesOutRef.main (F := Bits))) ⟨m, fun _ => 0, g⟩ (fun r => (∀ c : Dev Cert.HalvesOutRef.nD,
      r.2.mem ((c.tc : Thread Cert.HalvesOutRef.nD Cert.HalvesOutRef.τ).loc Cert.HalvesOutRef.main_arg0) = m ((c.tc : Thread Cert.HalvesOutRef.nD Cert.HalvesOutRef.τ).loc Cert.HalvesOutRef.main_arg0)
      ∧ r.2.mem ((c.tc : Thread Cert.HalvesOutRef.nD Cert.HalvesOutRef.τ).loc Cert.HalvesOutRef.main_arg1) = m ((c.tc : Thread Cert.HalvesOutRef.nD Cert.HalvesOutRef.τ).loc Cert.HalvesOutRef.main_arg1)
      ∧ r.2.mem ((c.tc : Thread Cert.HalvesOutRef.nD Cert.HalvesOutRef.τ).loc Cert.HalvesOutRef.main_arg2) = m ((c.tc : Thread Cert.HalvesOutRef.nD Cert.HalvesOutRef.τ).loc Cert.HalvesOutRef.main_arg2))
      ∧ r.2.sem = fun _ => 0)

def quiescent_HalvesOutRef_pre_a_core_w_out [hHalvesOutRef : Cert.HalvesOutRef.Facts] [hPre_a_core_w_out : Cert.Pre_a_core_w_out.Facts] : Prop :=
  ∀ (m : (ℓ : Loc Cert.HalvesOutRef.nD Cert.HalvesOutRef.τ Cert.HalvesOutRef.sig) → Buf (Elt Bits) ℓ) (g : Dev Cert.HalvesOutRef.nD → PrngReg), Pre_HalvesOutRef_a_core_w_out m →
    θ_run (Cert.HalvesOutRef.defs (F := Bits)) (onTc (τ := Cert.HalvesOutRef.τ) (Cert.HalvesOutRef.main (F := Bits))) ⟨m, fun _ => 0, g⟩ (fun r => (∀ c : Dev Cert.HalvesOutRef.nD,
      r.2.mem ((c.tc : Thread Cert.HalvesOutRef.nD Cert.HalvesOutRef.τ).loc Cert.HalvesOutRef.main_arg0) = m ((c.tc : Thread Cert.HalvesOutRef.nD Cert.HalvesOutRef.τ).loc Cert.HalvesOutRef.main_arg0)
      ∧ r.2.mem ((c.tc : Thread Cert.HalvesOutRef.nD Cert.HalvesOutRef.τ).loc Cert.HalvesOutRef.main_arg1) = m ((c.tc : Thread Cert.HalvesOutRef.nD Cert.HalvesOutRef.τ).loc Cert.HalvesOutRef.main_arg1)
      ∧ r.2.mem ((c.tc : Thread Cert.HalvesOutRef.nD Cert.HalvesOutRef.τ).loc Cert.HalvesOutRef.main_arg2) = m ((c.tc : Thread Cert.HalvesOutRef.nD Cert.HalvesOutRef.τ).loc Cert.HalvesOutRef.main_arg2))
      ∧ r.2.sem = fun _ => 0)

def quiescent_HalvesOutRefIdeal [hHalvesOutRefIdeal : Cert.HalvesOutRefIdeal.Facts] : Prop :=
  ∀ (m : (ℓ : Loc Cert.HalvesOutRefIdeal.nD Cert.HalvesOutRefIdeal.τ Cert.HalvesOutRefIdeal.sig) → Buf (Elt Ideal) ℓ) (g : Dev Cert.HalvesOutRefIdeal.nD → PrngReg), Pre_HalvesOutRefIdeal m →
    θ_run (Cert.HalvesOutRefIdeal.defs (F := Ideal)) (onTc (τ := Cert.HalvesOutRefIdeal.τ) (Cert.HalvesOutRefIdeal.main (F := Ideal))) ⟨m, fun _ => 0, g⟩ (fun r => (∀ c : Dev Cert.HalvesOutRefIdeal.nD,
      r.2.mem ((c.tc : Thread Cert.HalvesOutRefIdeal.nD Cert.HalvesOutRefIdeal.τ).loc Cert.HalvesOutRefIdeal.main_arg0) = m ((c.tc : Thread Cert.HalvesOutRefIdeal.nD Cert.HalvesOutRefIdeal.τ).loc Cert.HalvesOutRefIdeal.main_arg0)
      ∧ r.2.mem ((c.tc : Thread Cert.HalvesOutRefIdeal.nD Cert.HalvesOutRefIdeal.τ).loc Cert.HalvesOutRefIdeal.main_arg1) = m ((c.tc : Thread Cert.HalvesOutRefIdeal.nD Cert.HalvesOutRefIdeal.τ).loc Cert.HalvesOutRefIdeal.main_arg1)
      ∧ r.2.mem ((c.tc : Thread Cert.HalvesOutRefIdeal.nD Cert.HalvesOutRefIdeal.τ).loc Cert.HalvesOutRefIdeal.main_arg2) = m ((c.tc : Thread Cert.HalvesOutRefIdeal.nD Cert.HalvesOutRefIdeal.τ).loc Cert.HalvesOutRefIdeal.main_arg2))
      ∧ r.2.sem = fun _ => 0)

def quiescent_HalvesOutRefIdeal_pre_a_core_w_out [hHalvesOutRefIdeal : Cert.HalvesOutRefIdeal.Facts] [hPre_a_core_w_out : Cert.Pre_a_core_w_out.Facts] : Prop :=
  ∀ (m : (ℓ : Loc Cert.HalvesOutRefIdeal.nD Cert.HalvesOutRefIdeal.τ Cert.HalvesOutRefIdeal.sig) → Buf (Elt Ideal) ℓ) (g : Dev Cert.HalvesOutRefIdeal.nD → PrngReg), Pre_HalvesOutRefIdeal_a_core_w_out m →
    θ_run (Cert.HalvesOutRefIdeal.defs (F := Ideal)) (onTc (τ := Cert.HalvesOutRefIdeal.τ) (Cert.HalvesOutRefIdeal.main (F := Ideal))) ⟨m, fun _ => 0, g⟩ (fun r => (∀ c : Dev Cert.HalvesOutRefIdeal.nD,
      r.2.mem ((c.tc : Thread Cert.HalvesOutRefIdeal.nD Cert.HalvesOutRefIdeal.τ).loc Cert.HalvesOutRefIdeal.main_arg0) = m ((c.tc : Thread Cert.HalvesOutRefIdeal.nD Cert.HalvesOutRefIdeal.τ).loc Cert.HalvesOutRefIdeal.main_arg0)
      ∧ r.2.mem ((c.tc : Thread Cert.HalvesOutRefIdeal.nD Cert.HalvesOutRefIdeal.τ).loc Cert.HalvesOutRefIdeal.main_arg1) = m ((c.tc : Thread Cert.HalvesOutRefIdeal.nD Cert.HalvesOutRefIdeal.τ).loc Cert.HalvesOutRefIdeal.main_arg1)
      ∧ r.2.mem ((c.tc : Thread Cert.HalvesOutRefIdeal.nD Cert.HalvesOutRefIdeal.τ).loc Cert.HalvesOutRefIdeal.main_arg2) = m ((c.tc : Thread Cert.HalvesOutRefIdeal.nD Cert.HalvesOutRefIdeal.τ).loc Cert.HalvesOutRefIdeal.main_arg2))
      ∧ r.2.sem = fun _ => 0)

def quiescent_HalvesKv [hHalvesKv : Cert.HalvesKv.Facts] [hPre_a_core_w_kv : Cert.Pre_a_core_w_kv.Facts] : Prop :=
  ∀ (m : (ℓ : Loc Cert.HalvesKv.nD Cert.HalvesKv.τ Cert.HalvesKv.sig) → Buf (Elt Bits) ℓ) (g : Dev Cert.HalvesKv.nD → PrngReg), Pre_HalvesKv m →
    θ_run (Cert.HalvesKv.defs (F := Bits)) (onTc (τ := Cert.HalvesKv.τ) (Cert.HalvesKv.main (F := Bits))) ⟨m, fun _ => 0, g⟩ (fun r => (∀ c : Dev Cert.HalvesKv.nD,
      r.2.mem ((c.tc : Thread Cert.HalvesKv.nD Cert.HalvesKv.τ).loc Cert.HalvesKv.main_arg0) = m ((c.tc : Thread Cert.HalvesKv.nD Cert.HalvesKv.τ).loc Cert.HalvesKv.main_arg0)
      ∧ r.2.mem ((c.tc : Thread Cert.HalvesKv.nD Cert.HalvesKv.τ).loc Cert.HalvesKv.main_arg1) = m ((c.tc : Thread Cert.HalvesKv.nD Cert.HalvesKv.τ).loc Cert.HalvesKv.main_arg1)
      ∧ r.2.mem ((c.tc : Thread Cert.HalvesKv.nD Cert.HalvesKv.τ).loc Cert.HalvesKv.main_arg2) = m ((c.tc : Thread Cert.HalvesKv.nD Cert.HalvesKv.τ).loc Cert.HalvesKv.main_arg2))
      ∧ r.2.sem = fun _ => 0)

def quiescent_HalvesKvIdeal [hHalvesKvIdeal : Cert.HalvesKvIdeal.Facts] [hPre_a_core_w_kv : Cert.Pre_a_core_w_kv.Facts] : Prop :=
  ∀ (m : (ℓ : Loc Cert.HalvesKvIdeal.nD Cert.HalvesKvIdeal.τ Cert.HalvesKvIdeal.sig) → Buf (Elt Ideal) ℓ) (g : Dev Cert.HalvesKvIdeal.nD → PrngReg), Pre_HalvesKvIdeal m →
    θ_run (Cert.HalvesKvIdeal.defs (F := Ideal)) (onTc (τ := Cert.HalvesKvIdeal.τ) (Cert.HalvesKvIdeal.main (F := Ideal))) ⟨m, fun _ => 0, g⟩ (fun r => (∀ c : Dev Cert.HalvesKvIdeal.nD,
      r.2.mem ((c.tc : Thread Cert.HalvesKvIdeal.nD Cert.HalvesKvIdeal.τ).loc Cert.HalvesKvIdeal.main_arg0) = m ((c.tc : Thread Cert.HalvesKvIdeal.nD Cert.HalvesKvIdeal.τ).loc Cert.HalvesKvIdeal.main_arg0)
      ∧ r.2.mem ((c.tc : Thread Cert.HalvesKvIdeal.nD Cert.HalvesKvIdeal.τ).loc Cert.HalvesKvIdeal.main_arg1) = m ((c.tc : Thread Cert.HalvesKvIdeal.nD Cert.HalvesKvIdeal.τ).loc Cert.HalvesKvIdeal.main_arg1)
      ∧ r.2.mem ((c.tc : Thread Cert.HalvesKvIdeal.nD Cert.HalvesKvIdeal.τ).loc Cert.HalvesKvIdeal.main_arg2) = m ((c.tc : Thread Cert.HalvesKvIdeal.nD Cert.HalvesKvIdeal.τ).loc Cert.HalvesKvIdeal.main_arg2))
      ∧ r.2.sem = fun _ => 0)

def quiescent_HalvesKvRef [hHalvesKvRef : Cert.HalvesKvRef.Facts] : Prop :=
  ∀ (m : (ℓ : Loc Cert.HalvesKvRef.nD Cert.HalvesKvRef.τ Cert.HalvesKvRef.sig) → Buf (Elt Bits) ℓ) (g : Dev Cert.HalvesKvRef.nD → PrngReg), Pre_HalvesKvRef m →
    θ_run (Cert.HalvesKvRef.defs (F := Bits)) (onTc (τ := Cert.HalvesKvRef.τ) (Cert.HalvesKvRef.main (F := Bits))) ⟨m, fun _ => 0, g⟩ (fun r => (∀ c : Dev Cert.HalvesKvRef.nD,
      r.2.mem ((c.tc : Thread Cert.HalvesKvRef.nD Cert.HalvesKvRef.τ).loc Cert.HalvesKvRef.main_arg0) = m ((c.tc : Thread Cert.HalvesKvRef.nD Cert.HalvesKvRef.τ).loc Cert.HalvesKvRef.main_arg0)
      ∧ r.2.mem ((c.tc : Thread Cert.HalvesKvRef.nD Cert.HalvesKvRef.τ).loc Cert.HalvesKvRef.main_arg1) = m ((c.tc : Thread Cert.HalvesKvRef.nD Cert.HalvesKvRef.τ).loc Cert.HalvesKvRef.main_arg1)
      ∧ r.2.mem ((c.tc : Thread Cert.HalvesKvRef.nD Cert.HalvesKvRef.τ).loc Cert.HalvesKvRef.main_arg2) = m ((c.tc : Thread Cert.HalvesKvRef.nD Cert.HalvesKvRef.τ).loc Cert.HalvesKvRef.main_arg2))
      ∧ r.2.sem = fun _ => 0)

def quiescent_HalvesKvRef_pre_a_core_w_kv [hHalvesKvRef : Cert.HalvesKvRef.Facts] [hPre_a_core_w_kv : Cert.Pre_a_core_w_kv.Facts] : Prop :=
  ∀ (m : (ℓ : Loc Cert.HalvesKvRef.nD Cert.HalvesKvRef.τ Cert.HalvesKvRef.sig) → Buf (Elt Bits) ℓ) (g : Dev Cert.HalvesKvRef.nD → PrngReg), Pre_HalvesKvRef_a_core_w_kv m →
    θ_run (Cert.HalvesKvRef.defs (F := Bits)) (onTc (τ := Cert.HalvesKvRef.τ) (Cert.HalvesKvRef.main (F := Bits))) ⟨m, fun _ => 0, g⟩ (fun r => (∀ c : Dev Cert.HalvesKvRef.nD,
      r.2.mem ((c.tc : Thread Cert.HalvesKvRef.nD Cert.HalvesKvRef.τ).loc Cert.HalvesKvRef.main_arg0) = m ((c.tc : Thread Cert.HalvesKvRef.nD Cert.HalvesKvRef.τ).loc Cert.HalvesKvRef.main_arg0)
      ∧ r.2.mem ((c.tc : Thread Cert.HalvesKvRef.nD Cert.HalvesKvRef.τ).loc Cert.HalvesKvRef.main_arg1) = m ((c.tc : Thread Cert.HalvesKvRef.nD Cert.HalvesKvRef.τ).loc Cert.HalvesKvRef.main_arg1)
      ∧ r.2.mem ((c.tc : Thread Cert.HalvesKvRef.nD Cert.HalvesKvRef.τ).loc Cert.HalvesKvRef.main_arg2) = m ((c.tc : Thread Cert.HalvesKvRef.nD Cert.HalvesKvRef.τ).loc Cert.HalvesKvRef.main_arg2))
      ∧ r.2.sem = fun _ => 0)

def quiescent_HalvesKvRefIdeal [hHalvesKvRefIdeal : Cert.HalvesKvRefIdeal.Facts] : Prop :=
  ∀ (m : (ℓ : Loc Cert.HalvesKvRefIdeal.nD Cert.HalvesKvRefIdeal.τ Cert.HalvesKvRefIdeal.sig) → Buf (Elt Ideal) ℓ) (g : Dev Cert.HalvesKvRefIdeal.nD → PrngReg), Pre_HalvesKvRefIdeal m →
    θ_run (Cert.HalvesKvRefIdeal.defs (F := Ideal)) (onTc (τ := Cert.HalvesKvRefIdeal.τ) (Cert.HalvesKvRefIdeal.main (F := Ideal))) ⟨m, fun _ => 0, g⟩ (fun r => (∀ c : Dev Cert.HalvesKvRefIdeal.nD,
      r.2.mem ((c.tc : Thread Cert.HalvesKvRefIdeal.nD Cert.HalvesKvRefIdeal.τ).loc Cert.HalvesKvRefIdeal.main_arg0) = m ((c.tc : Thread Cert.HalvesKvRefIdeal.nD Cert.HalvesKvRefIdeal.τ).loc Cert.HalvesKvRefIdeal.main_arg0)
      ∧ r.2.mem ((c.tc : Thread Cert.HalvesKvRefIdeal.nD Cert.HalvesKvRefIdeal.τ).loc Cert.HalvesKvRefIdeal.main_arg1) = m ((c.tc : Thread Cert.HalvesKvRefIdeal.nD Cert.HalvesKvRefIdeal.τ).loc Cert.HalvesKvRefIdeal.main_arg1)
      ∧ r.2.mem ((c.tc : Thread Cert.HalvesKvRefIdeal.nD Cert.HalvesKvRefIdeal.τ).loc Cert.HalvesKvRefIdeal.main_arg2) = m ((c.tc : Thread Cert.HalvesKvRefIdeal.nD Cert.HalvesKvRefIdeal.τ).loc Cert.HalvesKvRefIdeal.main_arg2))
      ∧ r.2.sem = fun _ => 0)

def quiescent_HalvesKvRefIdeal_pre_a_core_w_kv [hHalvesKvRefIdeal : Cert.HalvesKvRefIdeal.Facts] [hPre_a_core_w_kv : Cert.Pre_a_core_w_kv.Facts] : Prop :=
  ∀ (m : (ℓ : Loc Cert.HalvesKvRefIdeal.nD Cert.HalvesKvRefIdeal.τ Cert.HalvesKvRefIdeal.sig) → Buf (Elt Ideal) ℓ) (g : Dev Cert.HalvesKvRefIdeal.nD → PrngReg), Pre_HalvesKvRefIdeal_a_core_w_kv m →
    θ_run (Cert.HalvesKvRefIdeal.defs (F := Ideal)) (onTc (τ := Cert.HalvesKvRefIdeal.τ) (Cert.HalvesKvRefIdeal.main (F := Ideal))) ⟨m, fun _ => 0, g⟩ (fun r => (∀ c : Dev Cert.HalvesKvRefIdeal.nD,
      r.2.mem ((c.tc : Thread Cert.HalvesKvRefIdeal.nD Cert.HalvesKvRefIdeal.τ).loc Cert.HalvesKvRefIdeal.main_arg0) = m ((c.tc : Thread Cert.HalvesKvRefIdeal.nD Cert.HalvesKvRefIdeal.τ).loc Cert.HalvesKvRefIdeal.main_arg0)
      ∧ r.2.mem ((c.tc : Thread Cert.HalvesKvRefIdeal.nD Cert.HalvesKvRefIdeal.τ).loc Cert.HalvesKvRefIdeal.main_arg1) = m ((c.tc : Thread Cert.HalvesKvRefIdeal.nD Cert.HalvesKvRefIdeal.τ).loc Cert.HalvesKvRefIdeal.main_arg1)
      ∧ r.2.mem ((c.tc : Thread Cert.HalvesKvRefIdeal.nD Cert.HalvesKvRefIdeal.τ).loc Cert.HalvesKvRefIdeal.main_arg2) = m ((c.tc : Thread Cert.HalvesKvRefIdeal.nD Cert.HalvesKvRefIdeal.τ).loc Cert.HalvesKvRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRef [hLossRef : Cert.LossRef.Facts] : Prop :=
  ∀ (m : (ℓ : Loc Cert.LossRef.nD Cert.LossRef.τ Cert.LossRef.sig) → Buf (Elt Bits) ℓ) (g : Dev Cert.LossRef.nD → PrngReg), Pre_LossRef m →
    θ_run (Cert.LossRef.defs (F := Bits)) (onTc (τ := Cert.LossRef.τ) (Cert.LossRef.main (F := Bits))) ⟨m, fun _ => 0, g⟩ (fun r => (∀ c : Dev Cert.LossRef.nD,
      r.2.mem ((c.tc : Thread Cert.LossRef.nD Cert.LossRef.τ).loc Cert.LossRef.main_arg0) = m ((c.tc : Thread Cert.LossRef.nD Cert.LossRef.τ).loc Cert.LossRef.main_arg0)
      ∧ r.2.mem ((c.tc : Thread Cert.LossRef.nD Cert.LossRef.τ).loc Cert.LossRef.main_arg1) = m ((c.tc : Thread Cert.LossRef.nD Cert.LossRef.τ).loc Cert.LossRef.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRef [hGradInRef : Cert.GradInRef.Facts] : Prop :=
  ∀ (m : (ℓ : Loc Cert.GradInRef.nD Cert.GradInRef.τ Cert.GradInRef.sig) → Buf (Elt Bits) ℓ) (g : Dev Cert.GradInRef.nD → PrngReg), Pre_GradInRef m →
    θ_run (Cert.GradInRef.defs (F := Bits)) (onTc (τ := Cert.GradInRef.τ) (Cert.GradInRef.main (F := Bits))) ⟨m, fun _ => 0, g⟩ (fun r => (∀ c : Dev Cert.GradInRef.nD,
      r.2.mem ((c.tc : Thread Cert.GradInRef.nD Cert.GradInRef.τ).loc Cert.GradInRef.main_arg0) = m ((c.tc : Thread Cert.GradInRef.nD Cert.GradInRef.τ).loc Cert.GradInRef.main_arg0)
      ∧ r.2.mem ((c.tc : Thread Cert.GradInRef.nD Cert.GradInRef.τ).loc Cert.GradInRef.main_arg1) = m ((c.tc : Thread Cert.GradInRef.nD Cert.GradInRef.τ).loc Cert.GradInRef.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRef [hGradOutRef : Cert.GradOutRef.Facts] : Prop :=
  ∀ (m : (ℓ : Loc Cert.GradOutRef.nD Cert.GradOutRef.τ Cert.GradOutRef.sig) → Buf (Elt Bits) ℓ) (g : Dev Cert.GradOutRef.nD → PrngReg), Pre_GradOutRef m →
    θ_run (Cert.GradOutRef.defs (F := Bits)) (onTc (τ := Cert.GradOutRef.τ) (Cert.GradOutRef.main (F := Bits))) ⟨m, fun _ => 0, g⟩ (fun r => (∀ c : Dev Cert.GradOutRef.nD,
      r.2.mem ((c.tc : Thread Cert.GradOutRef.nD Cert.GradOutRef.τ).loc Cert.GradOutRef.main_arg0) = m ((c.tc : Thread Cert.GradOutRef.nD Cert.GradOutRef.τ).loc Cert.GradOutRef.main_arg0)
      ∧ r.2.mem ((c.tc : Thread Cert.GradOutRef.nD Cert.GradOutRef.τ).loc Cert.GradOutRef.main_arg1) = m ((c.tc : Thread Cert.GradOutRef.nD Cert.GradOutRef.τ).loc Cert.GradOutRef.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_GradKv [hGradKv : Cert.GradKv.Facts] : Prop :=
  ∀ (m : (ℓ : Loc Cert.GradKv.nD Cert.GradKv.τ Cert.GradKv.sig) → Buf (Elt Bits) ℓ) (g : Dev Cert.GradKv.nD → PrngReg), Pre_GradKv m →
    θ_run (Cert.GradKv.defs (F := Bits)) (onTc (τ := Cert.GradKv.τ) (Cert.GradKv.main (F := Bits))) ⟨m, fun _ => 0, g⟩ (fun r => (∀ c : Dev Cert.GradKv.nD,
      r.2.mem ((c.tc : Thread Cert.GradKv.nD Cert.GradKv.τ).loc Cert.GradKv.main_arg0) = m ((c.tc : Thread Cert.GradKv.nD Cert.GradKv.τ).loc Cert.GradKv.main_arg0)
      ∧ r.2.mem ((c.tc : Thread Cert.GradKv.nD Cert.GradKv.τ).loc Cert.GradKv.main_arg1) = m ((c.tc : Thread Cert.GradKv.nD Cert.GradKv.τ).loc Cert.GradKv.main_arg1))
      ∧ r.2.sem = fun _ => 0)

def quiescent_GradKvIdeal [hGradKvIdeal : Cert.GradKvIdeal.Facts] : Prop :=
  ∀ (m : (ℓ : Loc Cert.GradKvIdeal.nD Cert.GradKvIdeal.τ Cert.GradKvIdeal.sig) → Buf (Elt Ideal) ℓ) (g : Dev Cert.GradKvIdeal.nD → PrngReg), Pre_GradKvIdeal m →
    θ_run (Cert.GradKvIdeal.defs (F := Ideal)) (onTc (τ := Cert.GradKvIdeal.τ) (Cert.GradKvIdeal.main (F := Ideal))) ⟨m, fun _ => 0, g⟩ (fun r => (∀ c : Dev Cert.GradKvIdeal.nD,
      r.2.mem ((c.tc : Thread Cert.GradKvIdeal.nD Cert.GradKvIdeal.τ).loc Cert.GradKvIdeal.main_arg0) = m ((c.tc : Thread Cert.GradKvIdeal.nD Cert.GradKvIdeal.τ).loc Cert.GradKvIdeal.main_arg0)
      ∧ r.2.mem ((c.tc : Thread Cert.GradKvIdeal.nD Cert.GradKvIdeal.τ).loc Cert.GradKvIdeal.main_arg1) = m ((c.tc : Thread Cert.GradKvIdeal.nD Cert.GradKvIdeal.τ).loc Cert.GradKvIdeal.main_arg1))
      ∧ r.2.sem = fun _ => 0)

def quiescent_GradKvRef [hGradKvRef : Cert.GradKvRef.Facts] : Prop :=
  ∀ (m : (ℓ : Loc Cert.GradKvRef.nD Cert.GradKvRef.τ Cert.GradKvRef.sig) → Buf (Elt Bits) ℓ) (g : Dev Cert.GradKvRef.nD → PrngReg), Pre_GradKvRef m →
    θ_run (Cert.GradKvRef.defs (F := Bits)) (onTc (τ := Cert.GradKvRef.τ) (Cert.GradKvRef.main (F := Bits))) ⟨m, fun _ => 0, g⟩ (fun r => (∀ c : Dev Cert.GradKvRef.nD,
      r.2.mem ((c.tc : Thread Cert.GradKvRef.nD Cert.GradKvRef.τ).loc Cert.GradKvRef.main_arg0) = m ((c.tc : Thread Cert.GradKvRef.nD Cert.GradKvRef.τ).loc Cert.GradKvRef.main_arg0)
      ∧ r.2.mem ((c.tc : Thread Cert.GradKvRef.nD Cert.GradKvRef.τ).loc Cert.GradKvRef.main_arg1) = m ((c.tc : Thread Cert.GradKvRef.nD Cert.GradKvRef.τ).loc Cert.GradKvRef.main_arg1))
      ∧ r.2.sem = fun _ => 0)

def quiescent_GradKvRefIdeal [hGradKvRefIdeal : Cert.GradKvRefIdeal.Facts] : Prop :=
  ∀ (m : (ℓ : Loc Cert.GradKvRefIdeal.nD Cert.GradKvRefIdeal.τ Cert.GradKvRefIdeal.sig) → Buf (Elt Ideal) ℓ) (g : Dev Cert.GradKvRefIdeal.nD → PrngReg), Pre_GradKvRefIdeal m →
    θ_run (Cert.GradKvRefIdeal.defs (F := Ideal)) (onTc (τ := Cert.GradKvRefIdeal.τ) (Cert.GradKvRefIdeal.main (F := Ideal))) ⟨m, fun _ => 0, g⟩ (fun r => (∀ c : Dev Cert.GradKvRefIdeal.nD,
      r.2.mem ((c.tc : Thread Cert.GradKvRefIdeal.nD Cert.GradKvRefIdeal.τ).loc Cert.GradKvRefIdeal.main_arg0) = m ((c.tc : Thread Cert.GradKvRefIdeal.nD Cert.GradKvRefIdeal.τ).loc Cert.GradKvRefIdeal.main_arg0)
      ∧ r.2.mem ((c.tc : Thread Cert.GradKvRefIdeal.nD Cert.GradKvRefIdeal.τ).loc Cert.GradKvRefIdeal.main_arg1) = m ((c.tc : Thread Cert.GradKvRefIdeal.nD Cert.GradKvRefIdeal.τ).loc Cert.GradKvRefIdeal.main_arg1))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2))
      ∧ r.2.sem = fun _ => 0)

def quiescent_GradXRef [hGradXRef : Cert.GradXRef.Facts] : Prop :=
  ∀ (m : (ℓ : Loc Cert.GradXRef.nD Cert.GradXRef.τ Cert.GradXRef.sig) → Buf (Elt Bits) ℓ) (g : Dev Cert.GradXRef.nD → PrngReg), Pre_GradXRef m →
    θ_run (Cert.GradXRef.defs (F := Bits)) (onTc (τ := Cert.GradXRef.τ) (Cert.GradXRef.main (F := Bits))) ⟨m, fun _ => 0, g⟩ (fun r => (∀ c : Dev Cert.GradXRef.nD,
      r.2.mem ((c.tc : Thread Cert.GradXRef.nD Cert.GradXRef.τ).loc Cert.GradXRef.main_arg0) = m ((c.tc : Thread Cert.GradXRef.nD Cert.GradXRef.τ).loc Cert.GradXRef.main_arg0)
      ∧ r.2.mem ((c.tc : Thread Cert.GradXRef.nD Cert.GradXRef.τ).loc Cert.GradXRef.main_arg1) = m ((c.tc : Thread Cert.GradXRef.nD Cert.GradXRef.τ).loc Cert.GradXRef.main_arg1)
      ∧ r.2.mem ((c.tc : Thread Cert.GradXRef.nD Cert.GradXRef.τ).loc Cert.GradXRef.main_arg2) = m ((c.tc : Thread Cert.GradXRef.nD Cert.GradXRef.τ).loc Cert.GradXRef.main_arg2))
      ∧ r.2.sem = fun _ => 0)

def quiescent_GradXRefIdeal [hGradXRefIdeal : Cert.GradXRefIdeal.Facts] : Prop :=
  ∀ (m : (ℓ : Loc Cert.GradXRefIdeal.nD Cert.GradXRefIdeal.τ Cert.GradXRefIdeal.sig) → Buf (Elt Ideal) ℓ) (g : Dev Cert.GradXRefIdeal.nD → PrngReg), Pre_GradXRefIdeal m →
    θ_run (Cert.GradXRefIdeal.defs (F := Ideal)) (onTc (τ := Cert.GradXRefIdeal.τ) (Cert.GradXRefIdeal.main (F := Ideal))) ⟨m, fun _ => 0, g⟩ (fun r => (∀ c : Dev Cert.GradXRefIdeal.nD,
      r.2.mem ((c.tc : Thread Cert.GradXRefIdeal.nD Cert.GradXRefIdeal.τ).loc Cert.GradXRefIdeal.main_arg0) = m ((c.tc : Thread Cert.GradXRefIdeal.nD Cert.GradXRefIdeal.τ).loc Cert.GradXRefIdeal.main_arg0)
      ∧ r.2.mem ((c.tc : Thread Cert.GradXRefIdeal.nD Cert.GradXRefIdeal.τ).loc Cert.GradXRefIdeal.main_arg1) = m ((c.tc : Thread Cert.GradXRefIdeal.nD Cert.GradXRefIdeal.τ).loc Cert.GradXRefIdeal.main_arg1)
      ∧ r.2.mem ((c.tc : Thread Cert.GradXRefIdeal.nD Cert.GradXRefIdeal.τ).loc Cert.GradXRefIdeal.main_arg2) = m ((c.tc : Thread Cert.GradXRefIdeal.nD Cert.GradXRefIdeal.τ).loc Cert.GradXRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRef [hNormRef : Cert.NormRef.Facts] : Prop :=
  ∀ (m : (ℓ : Loc Cert.NormRef.nD Cert.NormRef.τ Cert.NormRef.sig) → Buf (Elt Bits) ℓ) (g : Dev Cert.NormRef.nD → PrngReg), Pre_NormRef m →
    θ_run (Cert.NormRef.defs (F := Bits)) (onTc (τ := Cert.NormRef.τ) (Cert.NormRef.main (F := Bits))) ⟨m, fun _ => 0, g⟩ (fun r => (∀ c : Dev Cert.NormRef.nD,
      r.2.mem ((c.tc : Thread Cert.NormRef.nD Cert.NormRef.τ).loc Cert.NormRef.main_arg0) = m ((c.tc : Thread Cert.NormRef.nD Cert.NormRef.τ).loc Cert.NormRef.main_arg0)
      ∧ r.2.mem ((c.tc : Thread Cert.NormRef.nD Cert.NormRef.τ).loc Cert.NormRef.main_arg1) = m ((c.tc : Thread Cert.NormRef.nD Cert.NormRef.τ).loc Cert.NormRef.main_arg1)
      ∧ r.2.mem ((c.tc : Thread Cert.NormRef.nD Cert.NormRef.τ).loc Cert.NormRef.main_arg2) = m ((c.tc : Thread Cert.NormRef.nD Cert.NormRef.τ).loc Cert.NormRef.main_arg2)
      ∧ r.2.mem ((c.tc : Thread Cert.NormRef.nD Cert.NormRef.τ).loc Cert.NormRef.main_arg3) = m ((c.tc : Thread Cert.NormRef.nD Cert.NormRef.τ).loc Cert.NormRef.main_arg3)
      ∧ r.2.mem ((c.tc : Thread Cert.NormRef.nD Cert.NormRef.τ).loc Cert.NormRef.main_arg4) = m ((c.tc : Thread Cert.NormRef.nD Cert.NormRef.τ).loc Cert.NormRef.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRef [hInProjRef : Cert.InProjRef.Facts] : Prop :=
  ∀ (m : (ℓ : Loc Cert.InProjRef.nD Cert.InProjRef.τ Cert.InProjRef.sig) → Buf (Elt Bits) ℓ) (g : Dev Cert.InProjRef.nD → PrngReg), Pre_InProjRef m →
    θ_run (Cert.InProjRef.defs (F := Bits)) (onTc (τ := Cert.InProjRef.τ) (Cert.InProjRef.main (F := Bits))) ⟨m, fun _ => 0, g⟩ (fun r => (∀ c : Dev Cert.InProjRef.nD,
      r.2.mem ((c.tc : Thread Cert.InProjRef.nD Cert.InProjRef.τ).loc Cert.InProjRef.main_arg0) = m ((c.tc : Thread Cert.InProjRef.nD Cert.InProjRef.τ).loc Cert.InProjRef.main_arg0)
      ∧ r.2.mem ((c.tc : Thread Cert.InProjRef.nD Cert.InProjRef.τ).loc Cert.InProjRef.main_arg1) = m ((c.tc : Thread Cert.InProjRef.nD Cert.InProjRef.τ).loc Cert.InProjRef.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRef [hMemKvRef : Cert.MemKvRef.Facts] : Prop :=
  ∀ (m : (ℓ : Loc Cert.MemKvRef.nD Cert.MemKvRef.τ Cert.MemKvRef.sig) → Buf (Elt Bits) ℓ) (g : Dev Cert.MemKvRef.nD → PrngReg), Pre_MemKvRef m →
    θ_run (Cert.MemKvRef.defs (F := Bits)) (onTc (τ := Cert.MemKvRef.τ) (Cert.MemKvRef.main (F := Bits))) ⟨m, fun _ => 0, g⟩ (fun r => (∀ c : Dev Cert.MemKvRef.nD,
      r.2.mem ((c.tc : Thread Cert.MemKvRef.nD Cert.MemKvRef.τ).loc Cert.MemKvRef.main_arg0) = m ((c.tc : Thread Cert.MemKvRef.nD Cert.MemKvRef.τ).loc Cert.MemKvRef.main_arg0)
      ∧ r.2.mem ((c.tc : Thread Cert.MemKvRef.nD Cert.MemKvRef.τ).loc Cert.MemKvRef.main_arg1) = m ((c.tc : Thread Cert.MemKvRef.nD Cert.MemKvRef.τ).loc Cert.MemKvRef.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_GradCat [hGradCat : Cert.GradCat.Facts] : Prop :=
  ∀ (m : (ℓ : Loc Cert.GradCat.nD Cert.GradCat.τ Cert.GradCat.sig) → Buf (Elt Bits) ℓ) (g : Dev Cert.GradCat.nD → PrngReg), Pre_GradCat m →
    θ_run (Cert.GradCat.defs (F := Bits)) (onTc (τ := Cert.GradCat.τ) (Cert.GradCat.main (F := Bits))) ⟨m, fun _ => 0, g⟩ (fun r => (∀ c : Dev Cert.GradCat.nD,
      r.2.mem ((c.tc : Thread Cert.GradCat.nD Cert.GradCat.τ).loc Cert.GradCat.main_arg0) = m ((c.tc : Thread Cert.GradCat.nD Cert.GradCat.τ).loc Cert.GradCat.main_arg0)
      ∧ r.2.mem ((c.tc : Thread Cert.GradCat.nD Cert.GradCat.τ).loc Cert.GradCat.main_arg1) = m ((c.tc : Thread Cert.GradCat.nD Cert.GradCat.τ).loc Cert.GradCat.main_arg1))
      ∧ r.2.sem = fun _ => 0)

def quiescent_GradCatIdeal [hGradCatIdeal : Cert.GradCatIdeal.Facts] : Prop :=
  ∀ (m : (ℓ : Loc Cert.GradCatIdeal.nD Cert.GradCatIdeal.τ Cert.GradCatIdeal.sig) → Buf (Elt Ideal) ℓ) (g : Dev Cert.GradCatIdeal.nD → PrngReg), Pre_GradCatIdeal m →
    θ_run (Cert.GradCatIdeal.defs (F := Ideal)) (onTc (τ := Cert.GradCatIdeal.τ) (Cert.GradCatIdeal.main (F := Ideal))) ⟨m, fun _ => 0, g⟩ (fun r => (∀ c : Dev Cert.GradCatIdeal.nD,
      r.2.mem ((c.tc : Thread Cert.GradCatIdeal.nD Cert.GradCatIdeal.τ).loc Cert.GradCatIdeal.main_arg0) = m ((c.tc : Thread Cert.GradCatIdeal.nD Cert.GradCatIdeal.τ).loc Cert.GradCatIdeal.main_arg0)
      ∧ r.2.mem ((c.tc : Thread Cert.GradCatIdeal.nD Cert.GradCatIdeal.τ).loc Cert.GradCatIdeal.main_arg1) = m ((c.tc : Thread Cert.GradCatIdeal.nD Cert.GradCatIdeal.τ).loc Cert.GradCatIdeal.main_arg1))
      ∧ r.2.sem = fun _ => 0)

def quiescent_GradCatRef [hGradCatRef : Cert.GradCatRef.Facts] : Prop :=
  ∀ (m : (ℓ : Loc Cert.GradCatRef.nD Cert.GradCatRef.τ Cert.GradCatRef.sig) → Buf (Elt Bits) ℓ) (g : Dev Cert.GradCatRef.nD → PrngReg), Pre_GradCatRef m →
    θ_run (Cert.GradCatRef.defs (F := Bits)) (onTc (τ := Cert.GradCatRef.τ) (Cert.GradCatRef.main (F := Bits))) ⟨m, fun _ => 0, g⟩ (fun r => (∀ c : Dev Cert.GradCatRef.nD,
      r.2.mem ((c.tc : Thread Cert.GradCatRef.nD Cert.GradCatRef.τ).loc Cert.GradCatRef.main_arg0) = m ((c.tc : Thread Cert.GradCatRef.nD Cert.GradCatRef.τ).loc Cert.GradCatRef.main_arg0)
      ∧ r.2.mem ((c.tc : Thread Cert.GradCatRef.nD Cert.GradCatRef.τ).loc Cert.GradCatRef.main_arg1) = m ((c.tc : Thread Cert.GradCatRef.nD Cert.GradCatRef.τ).loc Cert.GradCatRef.main_arg1))
      ∧ r.2.sem = fun _ => 0)

def quiescent_GradCatRefIdeal [hGradCatRefIdeal : Cert.GradCatRefIdeal.Facts] : Prop :=
  ∀ (m : (ℓ : Loc Cert.GradCatRefIdeal.nD Cert.GradCatRefIdeal.τ Cert.GradCatRefIdeal.sig) → Buf (Elt Ideal) ℓ) (g : Dev Cert.GradCatRefIdeal.nD → PrngReg), Pre_GradCatRefIdeal m →
    θ_run (Cert.GradCatRefIdeal.defs (F := Ideal)) (onTc (τ := Cert.GradCatRefIdeal.τ) (Cert.GradCatRefIdeal.main (F := Ideal))) ⟨m, fun _ => 0, g⟩ (fun r => (∀ c : Dev Cert.GradCatRefIdeal.nD,
      r.2.mem ((c.tc : Thread Cert.GradCatRefIdeal.nD Cert.GradCatRefIdeal.τ).loc Cert.GradCatRefIdeal.main_arg0) = m ((c.tc : Thread Cert.GradCatRefIdeal.nD Cert.GradCatRefIdeal.τ).loc Cert.GradCatRefIdeal.main_arg0)
      ∧ r.2.mem ((c.tc : Thread Cert.GradCatRefIdeal.nD Cert.GradCatRefIdeal.τ).loc Cert.GradCatRefIdeal.main_arg1) = m ((c.tc : Thread Cert.GradCatRefIdeal.nD Cert.GradCatRefIdeal.τ).loc Cert.GradCatRefIdeal.main_arg1))
      ∧ r.2.sem = fun _ => 0)

def quiescent_GradNorm [hGradNorm : Cert.GradNorm.Facts] : Prop :=
  ∀ (m : (ℓ : Loc Cert.GradNorm.nD Cert.GradNorm.τ Cert.GradNorm.sig) → Buf (Elt Bits) ℓ) (g : Dev Cert.GradNorm.nD → PrngReg), Pre_GradNorm m →
    θ_run (Cert.GradNorm.defs (F := Bits)) (onTc (τ := Cert.GradNorm.τ) (Cert.GradNorm.main (F := Bits))) ⟨m, fun _ => 0, g⟩ (fun r => (∀ c : Dev Cert.GradNorm.nD,
      r.2.mem ((c.tc : Thread Cert.GradNorm.nD Cert.GradNorm.τ).loc Cert.GradNorm.main_arg0) = m ((c.tc : Thread Cert.GradNorm.nD Cert.GradNorm.τ).loc Cert.GradNorm.main_arg0)
      ∧ r.2.mem ((c.tc : Thread Cert.GradNorm.nD Cert.GradNorm.τ).loc Cert.GradNorm.main_arg1) = m ((c.tc : Thread Cert.GradNorm.nD Cert.GradNorm.τ).loc Cert.GradNorm.main_arg1)
      ∧ r.2.mem ((c.tc : Thread Cert.GradNorm.nD Cert.GradNorm.τ).loc Cert.GradNorm.main_arg2) = m ((c.tc : Thread Cert.GradNorm.nD Cert.GradNorm.τ).loc Cert.GradNorm.main_arg2)
      ∧ r.2.mem ((c.tc : Thread Cert.GradNorm.nD Cert.GradNorm.τ).loc Cert.GradNorm.main_arg3) = m ((c.tc : Thread Cert.GradNorm.nD Cert.GradNorm.τ).loc Cert.GradNorm.main_arg3))
      ∧ r.2.sem = fun _ => 0)

def quiescent_GradNormIdeal [hGradNormIdeal : Cert.GradNormIdeal.Facts] : Prop :=
  ∀ (m : (ℓ : Loc Cert.GradNormIdeal.nD Cert.GradNormIdeal.τ Cert.GradNormIdeal.sig) → Buf (Elt Ideal) ℓ) (g : Dev Cert.GradNormIdeal.nD → PrngReg), Pre_GradNormIdeal m →
    θ_run (Cert.GradNormIdeal.defs (F := Ideal)) (onTc (τ := Cert.GradNormIdeal.τ) (Cert.GradNormIdeal.main (F := Ideal))) ⟨m, fun _ => 0, g⟩ (fun r => (∀ c : Dev Cert.GradNormIdeal.nD,
      r.2.mem ((c.tc : Thread Cert.GradNormIdeal.nD Cert.GradNormIdeal.τ).loc Cert.GradNormIdeal.main_arg0) = m ((c.tc : Thread Cert.GradNormIdeal.nD Cert.GradNormIdeal.τ).loc Cert.GradNormIdeal.main_arg0)
      ∧ r.2.mem ((c.tc : Thread Cert.GradNormIdeal.nD Cert.GradNormIdeal.τ).loc Cert.GradNormIdeal.main_arg1) = m ((c.tc : Thread Cert.GradNormIdeal.nD Cert.GradNormIdeal.τ).loc Cert.GradNormIdeal.main_arg1)
      ∧ r.2.mem ((c.tc : Thread Cert.GradNormIdeal.nD Cert.GradNormIdeal.τ).loc Cert.GradNormIdeal.main_arg2) = m ((c.tc : Thread Cert.GradNormIdeal.nD Cert.GradNormIdeal.τ).loc Cert.GradNormIdeal.main_arg2)
      ∧ r.2.mem ((c.tc : Thread Cert.GradNormIdeal.nD Cert.GradNormIdeal.τ).loc Cert.GradNormIdeal.main_arg3) = m ((c.tc : Thread Cert.GradNormIdeal.nD Cert.GradNormIdeal.τ).loc Cert.GradNormIdeal.main_arg3))
      ∧ r.2.sem = fun _ => 0)

def quiescent_GradNormRef [hGradNormRef : Cert.GradNormRef.Facts] : Prop :=
  ∀ (m : (ℓ : Loc Cert.GradNormRef.nD Cert.GradNormRef.τ Cert.GradNormRef.sig) → Buf (Elt Bits) ℓ) (g : Dev Cert.GradNormRef.nD → PrngReg), Pre_GradNormRef m →
    θ_run (Cert.GradNormRef.defs (F := Bits)) (onTc (τ := Cert.GradNormRef.τ) (Cert.GradNormRef.main (F := Bits))) ⟨m, fun _ => 0, g⟩ (fun r => (∀ c : Dev Cert.GradNormRef.nD,
      r.2.mem ((c.tc : Thread Cert.GradNormRef.nD Cert.GradNormRef.τ).loc Cert.GradNormRef.main_arg0) = m ((c.tc : Thread Cert.GradNormRef.nD Cert.GradNormRef.τ).loc Cert.GradNormRef.main_arg0)
      ∧ r.2.mem ((c.tc : Thread Cert.GradNormRef.nD Cert.GradNormRef.τ).loc Cert.GradNormRef.main_arg1) = m ((c.tc : Thread Cert.GradNormRef.nD Cert.GradNormRef.τ).loc Cert.GradNormRef.main_arg1)
      ∧ r.2.mem ((c.tc : Thread Cert.GradNormRef.nD Cert.GradNormRef.τ).loc Cert.GradNormRef.main_arg2) = m ((c.tc : Thread Cert.GradNormRef.nD Cert.GradNormRef.τ).loc Cert.GradNormRef.main_arg2)
      ∧ r.2.mem ((c.tc : Thread Cert.GradNormRef.nD Cert.GradNormRef.τ).loc Cert.GradNormRef.main_arg3) = m ((c.tc : Thread Cert.GradNormRef.nD Cert.GradNormRef.τ).loc Cert.GradNormRef.main_arg3))
      ∧ r.2.sem = fun _ => 0)

def quiescent_GradNormRefIdeal [hGradNormRefIdeal : Cert.GradNormRefIdeal.Facts] : Prop :=
  ∀ (m : (ℓ : Loc Cert.GradNormRefIdeal.nD Cert.GradNormRefIdeal.τ Cert.GradNormRefIdeal.sig) → Buf (Elt Ideal) ℓ) (g : Dev Cert.GradNormRefIdeal.nD → PrngReg), Pre_GradNormRefIdeal m →
    θ_run (Cert.GradNormRefIdeal.defs (F := Ideal)) (onTc (τ := Cert.GradNormRefIdeal.τ) (Cert.GradNormRefIdeal.main (F := Ideal))) ⟨m, fun _ => 0, g⟩ (fun r => (∀ c : Dev Cert.GradNormRefIdeal.nD,
      r.2.mem ((c.tc : Thread Cert.GradNormRefIdeal.nD Cert.GradNormRefIdeal.τ).loc Cert.GradNormRefIdeal.main_arg0) = m ((c.tc : Thread Cert.GradNormRefIdeal.nD Cert.GradNormRefIdeal.τ).loc Cert.GradNormRefIdeal.main_arg0)
      ∧ r.2.mem ((c.tc : Thread Cert.GradNormRefIdeal.nD Cert.GradNormRefIdeal.τ).loc Cert.GradNormRefIdeal.main_arg1) = m ((c.tc : Thread Cert.GradNormRefIdeal.nD Cert.GradNormRefIdeal.τ).loc Cert.GradNormRefIdeal.main_arg1)
      ∧ r.2.mem ((c.tc : Thread Cert.GradNormRefIdeal.nD Cert.GradNormRefIdeal.τ).loc Cert.GradNormRefIdeal.main_arg2) = m ((c.tc : Thread Cert.GradNormRefIdeal.nD Cert.GradNormRefIdeal.τ).loc Cert.GradNormRefIdeal.main_arg2)
      ∧ r.2.mem ((c.tc : Thread Cert.GradNormRefIdeal.nD Cert.GradNormRefIdeal.τ).loc Cert.GradNormRefIdeal.main_arg3) = m ((c.tc : Thread Cert.GradNormRefIdeal.nD Cert.GradNormRefIdeal.τ).loc Cert.GradNormRefIdeal.main_arg3))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![8192, 1668]⟩ ⟨2, ![8192, 6672]⟩ (Layout.meshBlock [2, 2, 2] ![[], [0, 1]] c) (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_v1)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v1) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨2, ![8192, 1668]⟩ ⟨2, ![8192, 6672]⟩ (Layout.meshBlock [2, 2, 2] ![[], [0, 1]] c) (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_v1)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v1) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def preserves_Pair_PairIdeal : Prop :=
  True

def algebraic_PairIdeal_PairRefIdeal [hPairIdeal : Cert.PairIdeal.Facts] [hPairRefIdeal : Cert.PairRefIdeal.Facts] : Prop :=
  ∀ (m : (ℓ : Loc Cert.PairIdeal.nD Cert.PairIdeal.τ Cert.PairIdeal.sig) → Buf (Elt Ideal) ℓ) (g : Dev Cert.PairIdeal.nD → PrngReg)
    (m' : (ℓ : Loc Cert.PairRefIdeal.nD Cert.PairRefIdeal.τ Cert.PairRefIdeal.sig) → Buf (Elt Ideal) ℓ) (g' : Dev Cert.PairRefIdeal.nD → PrngReg), Pre_PairIdeal m →
    (∀ c : Dev Cert.PairIdeal.nD,
      m ((c.tc : Thread Cert.PairIdeal.nD Cert.PairIdeal.τ).loc Cert.PairIdeal.main_arg0) = Layout.block ⟨4, ![4, 2, 4096, 1668]⟩ ⟨4, ![32, 2, 4096, 1668]⟩ 0 8 c (m' (((0 : Dev Cert.PairRefIdeal.nD).tc : Thread Cert.PairRefIdeal.nD Cert.PairRefIdeal.τ).loc Cert.PairRefIdeal.main_arg0))) →
    ∃ (v0 : Buf (Elt Ideal) (((0 : Dev Cert.PairRefIdeal.nD).tc : Thread Cert.PairRefIdeal.nD Cert.PairRefIdeal.τ).loc Cert.PairRefIdeal.main_v8)),
      θ_run (Cert.PairIdeal.defs (F := Ideal)) (onTc (τ := Cert.PairIdeal.τ) (Cert.PairIdeal.main (F := Ideal))) ⟨m, fun _ => 0, g⟩ (fun r => ∀ c : Dev Cert.PairIdeal.nD,
          r.2.mem ((c.tc : Thread Cert.PairIdeal.nD Cert.PairIdeal.τ).loc Cert.PairIdeal.main_v1) = Layout.block ⟨3, ![4, 4096, 1668]⟩ ⟨3, ![32, 4096, 1668]⟩ 0 8 c v0
          ∧ r.2.mem ((c.tc : Thread Cert.PairIdeal.nD Cert.PairIdeal.τ).loc Cert.PairIdeal.main_arg0) = m ((c.tc : Thread Cert.PairIdeal.nD Cert.PairIdeal.τ).loc Cert.PairIdeal.main_arg0))
      ∧ θ_run (Cert.PairRefIdeal.defs (F := Ideal)) (onTc (τ := Cert.PairRefIdeal.τ) (Cert.PairRefIdeal.main (F := Ideal))) ⟨m', fun _ => 0, g'⟩ (fun r =>
          r.2.mem (((0 : Dev Cert.PairRefIdeal.nD).tc : Thread Cert.PairRefIdeal.nD Cert.PairRefIdeal.τ).loc Cert.PairRefIdeal.main_v8) = v0
          ∧ r.2.mem (((0 : Dev Cert.PairRefIdeal.nD).tc : Thread Cert.PairRefIdeal.nD Cert.PairRefIdeal.τ).loc Cert.PairRefIdeal.main_arg0) = m' (((0 : Dev Cert.PairRefIdeal.nD).tc : Thread Cert.PairRefIdeal.nD Cert.PairRefIdeal.τ).loc Cert.PairRefIdeal.main_arg0))

def bitexact_Pair_PairRef [hPair : Cert.Pair.Facts] [hPairRef : Cert.PairRef.Facts] : Prop :=
  ∀ (m : (ℓ : Loc Cert.Pair.nD Cert.Pair.τ Cert.Pair.sig) → Buf (Elt Bits) ℓ) (g : Dev Cert.Pair.nD → PrngReg)
    (m' : (ℓ : Loc Cert.PairRef.nD Cert.PairRef.τ Cert.PairRef.sig) → Buf (Elt Bits) ℓ) (g' : Dev Cert.PairRef.nD → PrngReg), Pre_Pair m →
    (∀ c : Dev Cert.Pair.nD,
      m ((c.tc : Thread Cert.Pair.nD Cert.Pair.τ).loc Cert.Pair.main_arg0) = Layout.block ⟨4, ![4, 2, 4096, 1668]⟩ ⟨4, ![32, 2, 4096, 1668]⟩ 0 8 c (m' (((0 : Dev Cert.PairRef.nD).tc : Thread Cert.PairRef.nD Cert.PairRef.τ).loc Cert.PairRef.main_arg0))) →
    ∃ (v0 : Buf (Elt Bits) (((0 : Dev Cert.PairRef.nD).tc : Thread Cert.PairRef.nD Cert.PairRef.τ).loc Cert.PairRef.main_v8)),
      θ_run (Cert.Pair.defs (F := Bits)) (onTc (τ := Cert.Pair.τ) (Cert.Pair.main (F := Bits))) ⟨m, fun _ => 0, g⟩ (fun r => ∀ c : Dev Cert.Pair.nD,
          r.2.mem ((c.tc : Thread Cert.Pair.nD Cert.Pair.τ).loc Cert.Pair.main_v1) = Layout.block ⟨3, ![4, 4096, 1668]⟩ ⟨3, ![32, 4096, 1668]⟩ 0 8 c v0
          ∧ r.2.mem ((c.tc : Thread Cert.Pair.nD Cert.Pair.τ).loc Cert.Pair.main_arg0) = m ((c.tc : Thread Cert.Pair.nD Cert.Pair.τ).loc Cert.Pair.main_arg0))
      ∧ θ_run (Cert.PairRef.defs (F := Bits)) (onTc (τ := Cert.PairRef.τ) (Cert.PairRef.main (F := Bits))) ⟨m', fun _ => 0, g'⟩ (fun r =>
          r.2.mem (((0 : Dev Cert.PairRef.nD).tc : Thread Cert.PairRef.nD Cert.PairRef.τ).loc Cert.PairRef.main_v8) = v0
          ∧ r.2.mem (((0 : Dev Cert.PairRef.nD).tc : Thread Cert.PairRef.nD Cert.PairRef.τ).loc Cert.PairRef.main_arg0) = m' (((0 : Dev Cert.PairRef.nD).tc : Thread Cert.PairRef.nD Cert.PairRef.τ).loc Cert.PairRef.main_arg0))

def preserves_Chip_ChipIdeal : Prop :=
  True

def algebraic_ChipIdeal_ChipRefIdeal [hChipIdeal : Cert.ChipIdeal.Facts] [hChipRefIdeal : Cert.ChipRefIdeal.Facts] : Prop :=
  ∀ (m : (ℓ : Loc Cert.ChipIdeal.nD Cert.ChipIdeal.τ Cert.ChipIdeal.sig) → Buf (Elt Ideal) ℓ) (g : Dev Cert.ChipIdeal.nD → PrngReg)
    (m' : (ℓ : Loc Cert.ChipRefIdeal.nD Cert.ChipRefIdeal.τ Cert.ChipRefIdeal.sig) → Buf (Elt Ideal) ℓ) (g' : Dev Cert.ChipRefIdeal.nD → PrngReg), Pre_ChipIdeal m →
    (∀ c : Dev Cert.ChipIdeal.nD,
      m ((c.tc : Thread Cert.ChipIdeal.nD Cert.ChipIdeal.τ).loc Cert.ChipIdeal.main_arg0) = Layout.block ⟨3, ![4, 4096, 1668]⟩ ⟨3, ![32, 4096, 1668]⟩ 0 8 c (m' (((0 : Dev Cert.ChipRefIdeal.nD).tc : Thread Cert.ChipRefIdeal.nD Cert.ChipRefIdeal.τ).loc Cert.ChipRefIdeal.main_arg0))) →
    ∃ (v0 : Buf (Elt Ideal) (((0 : Dev Cert.ChipRefIdeal.nD).tc : Thread Cert.ChipRefIdeal.nD Cert.ChipRefIdeal.τ).loc Cert.ChipRefIdeal.main_v2)),
      θ_run (Cert.ChipIdeal.defs (F := Ideal)) (onTc (τ := Cert.ChipIdeal.τ) (Cert.ChipIdeal.main (F := Ideal))) ⟨m, fun _ => 0, g⟩ (fun r => ∀ c : Dev Cert.ChipIdeal.nD,
          r.2.mem ((c.tc : Thread Cert.ChipIdeal.nD Cert.ChipIdeal.τ).loc Cert.ChipIdeal.main_v1) = Layout.block ⟨3, ![4, 4096, 1668]⟩ ⟨3, ![32, 4096, 1668]⟩ 0 8 c v0
          ∧ r.2.mem ((c.tc : Thread Cert.ChipIdeal.nD Cert.ChipIdeal.τ).loc Cert.ChipIdeal.main_arg0) = m ((c.tc : Thread Cert.ChipIdeal.nD Cert.ChipIdeal.τ).loc Cert.ChipIdeal.main_arg0))
      ∧ θ_run (Cert.ChipRefIdeal.defs (F := Ideal)) (onTc (τ := Cert.ChipRefIdeal.τ) (Cert.ChipRefIdeal.main (F := Ideal))) ⟨m', fun _ => 0, g'⟩ (fun r =>
          r.2.mem (((0 : Dev Cert.ChipRefIdeal.nD).tc : Thread Cert.ChipRefIdeal.nD Cert.ChipRefIdeal.τ).loc Cert.ChipRefIdeal.main_v2) = v0
          ∧ r.2.mem (((0 : Dev Cert.ChipRefIdeal.nD).tc : Thread Cert.ChipRefIdeal.nD Cert.ChipRefIdeal.τ).loc Cert.ChipRefIdeal.main_arg0) = m' (((0 : Dev Cert.ChipRefIdeal.nD).tc : Thread Cert.ChipRefIdeal.nD Cert.ChipRefIdeal.τ).loc Cert.ChipRefIdeal.main_arg0))

def bitexact_Chip_ChipRef [hChip : Cert.Chip.Facts] [hChipRef : Cert.ChipRef.Facts] : Prop :=
  ∀ (m : (ℓ : Loc Cert.Chip.nD Cert.Chip.τ Cert.Chip.sig) → Buf (Elt Bits) ℓ) (g : Dev Cert.Chip.nD → PrngReg)
    (m' : (ℓ : Loc Cert.ChipRef.nD Cert.ChipRef.τ Cert.ChipRef.sig) → Buf (Elt Bits) ℓ) (g' : Dev Cert.ChipRef.nD → PrngReg), Pre_Chip m →
    (∀ c : Dev Cert.Chip.nD,
      m ((c.tc : Thread Cert.Chip.nD Cert.Chip.τ).loc Cert.Chip.main_arg0) = Layout.block ⟨3, ![4, 4096, 1668]⟩ ⟨3, ![32, 4096, 1668]⟩ 0 8 c (m' (((0 : Dev Cert.ChipRef.nD).tc : Thread Cert.ChipRef.nD Cert.ChipRef.τ).loc Cert.ChipRef.main_arg0))) →
    ∃ (v0 : Buf (Elt Bits) (((0 : Dev Cert.ChipRef.nD).tc : Thread Cert.ChipRef.nD Cert.ChipRef.τ).loc Cert.ChipRef.main_v2)),
      θ_run (Cert.Chip.defs (F := Bits)) (onTc (τ := Cert.Chip.τ) (Cert.Chip.main (F := Bits))) ⟨m, fun _ => 0, g⟩ (fun r => ∀ c : Dev Cert.Chip.nD,
          r.2.mem ((c.tc : Thread Cert.Chip.nD Cert.Chip.τ).loc Cert.Chip.main_v1) = Layout.block ⟨3, ![4, 4096, 1668]⟩ ⟨3, ![32, 4096, 1668]⟩ 0 8 c v0
          ∧ r.2.mem ((c.tc : Thread Cert.Chip.nD Cert.Chip.τ).loc Cert.Chip.main_arg0) = m ((c.tc : Thread Cert.Chip.nD Cert.Chip.τ).loc Cert.Chip.main_arg0))
      ∧ θ_run (Cert.ChipRef.defs (F := Bits)) (onTc (τ := Cert.ChipRef.τ) (Cert.ChipRef.main (F := Bits))) ⟨m', fun _ => 0, g'⟩ (fun r =>
          r.2.mem (((0 : Dev Cert.ChipRef.nD).tc : Thread Cert.ChipRef.nD Cert.ChipRef.τ).loc Cert.ChipRef.main_v2) = v0
          ∧ r.2.mem (((0 : Dev Cert.ChipRef.nD).tc : Thread Cert.ChipRef.nD Cert.ChipRef.τ).loc Cert.ChipRef.main_arg0) = m' (((0 : Dev Cert.ChipRef.nD).tc : Thread Cert.ChipRef.nD Cert.ChipRef.τ).loc Cert.ChipRef.main_arg0))

def preserves_Back_BackIdeal : Prop :=
  True

def algebraic_BackIdeal_BackRefIdeal [hBackIdeal : Cert.BackIdeal.Facts] [hBackRefIdeal : Cert.BackRefIdeal.Facts] : Prop :=
  ∀ (m : (ℓ : Loc Cert.BackIdeal.nD Cert.BackIdeal.τ Cert.BackIdeal.sig) → Buf (Elt Ideal) ℓ) (g : Dev Cert.BackIdeal.nD → PrngReg)
    (m' : (ℓ : Loc Cert.BackRefIdeal.nD Cert.BackRefIdeal.τ Cert.BackRefIdeal.sig) → Buf (Elt Ideal) ℓ) (g' : Dev Cert.BackRefIdeal.nD → PrngReg), Pre_BackIdeal m →
    (∀ c : Dev Cert.BackIdeal.nD,
      m ((c.tc : Thread Cert.BackIdeal.nD Cert.BackIdeal.τ).loc Cert.BackIdeal.main_arg0) = Layout.block ⟨2, ![4096, 1668]⟩ ⟨2, ![32768, 1668]⟩ 0 8 c (m' (((0 : Dev Cert.BackRefIdeal.nD).tc : Thread Cert.BackRefIdeal.nD Cert.BackRefIdeal.τ).loc Cert.BackRefIdeal.main_arg0))) →
    ∃ (v0 : Buf (Elt Ideal) (((0 : Dev Cert.BackRefIdeal.nD).tc : Thread Cert.BackRefIdeal.nD Cert.BackRefIdeal.τ).loc Cert.BackRefIdeal.main_v2)),
      θ_run (Cert.BackIdeal.defs (F := Ideal)) (onTc (τ := Cert.BackIdeal.τ) (Cert.BackIdeal.main (F := Ideal))) ⟨m, fun _ => 0, g⟩ (fun r => ∀ c : Dev Cert.BackIdeal.nD,
          r.2.mem ((c.tc : Thread Cert.BackIdeal.nD Cert.BackIdeal.τ).loc Cert.BackIdeal.main_v1) = Layout.block ⟨3, ![2, 4096, 1668]⟩ ⟨3, ![16, 4096, 1668]⟩ 0 8 c v0
          ∧ r.2.mem ((c.tc : Thread Cert.BackIdeal.nD Cert.BackIdeal.τ).loc Cert.BackIdeal.main_arg0) = m ((c.tc : Thread Cert.BackIdeal.nD Cert.BackIdeal.τ).loc Cert.BackIdeal.main_arg0))
      ∧ θ_run (Cert.BackRefIdeal.defs (F := Ideal)) (onTc (τ := Cert.BackRefIdeal.τ) (Cert.BackRefIdeal.main (F := Ideal))) ⟨m', fun _ => 0, g'⟩ (fun r =>
          r.2.mem (((0 : Dev Cert.BackRefIdeal.nD).tc : Thread Cert.BackRefIdeal.nD Cert.BackRefIdeal.τ).loc Cert.BackRefIdeal.main_v2) = v0
          ∧ r.2.mem (((0 : Dev Cert.BackRefIdeal.nD).tc : Thread Cert.BackRefIdeal.nD Cert.BackRefIdeal.τ).loc Cert.BackRefIdeal.main_arg0) = m' (((0 : Dev Cert.BackRefIdeal.nD).tc : Thread Cert.BackRefIdeal.nD Cert.BackRefIdeal.τ).loc Cert.BackRefIdeal.main_arg0))

def bitexact_Back_BackRef [hBack : Cert.Back.Facts] [hBackRef : Cert.BackRef.Facts] : Prop :=
  ∀ (m : (ℓ : Loc Cert.Back.nD Cert.Back.τ Cert.Back.sig) → Buf (Elt Bits) ℓ) (g : Dev Cert.Back.nD → PrngReg)
    (m' : (ℓ : Loc Cert.BackRef.nD Cert.BackRef.τ Cert.BackRef.sig) → Buf (Elt Bits) ℓ) (g' : Dev Cert.BackRef.nD → PrngReg), Pre_Back m →
    (∀ c : Dev Cert.Back.nD,
      m ((c.tc : Thread Cert.Back.nD Cert.Back.τ).loc Cert.Back.main_arg0) = Layout.block ⟨2, ![4096, 1668]⟩ ⟨2, ![32768, 1668]⟩ 0 8 c (m' (((0 : Dev Cert.BackRef.nD).tc : Thread Cert.BackRef.nD Cert.BackRef.τ).loc Cert.BackRef.main_arg0))) →
    ∃ (v0 : Buf (Elt Bits) (((0 : Dev Cert.BackRef.nD).tc : Thread Cert.BackRef.nD Cert.BackRef.τ).loc Cert.BackRef.main_v2)),
      θ_run (Cert.Back.defs (F := Bits)) (onTc (τ := Cert.Back.τ) (Cert.Back.main (F := Bits))) ⟨m, fun _ => 0, g⟩ (fun r => ∀ c : Dev Cert.Back.nD,
          r.2.mem ((c.tc : Thread Cert.Back.nD Cert.Back.τ).loc Cert.Back.main_v1) = Layout.block ⟨3, ![2, 4096, 1668]⟩ ⟨3, ![16, 4096, 1668]⟩ 0 8 c v0
          ∧ r.2.mem ((c.tc : Thread Cert.Back.nD Cert.Back.τ).loc Cert.Back.main_arg0) = m ((c.tc : Thread Cert.Back.nD Cert.Back.τ).loc Cert.Back.main_arg0))
      ∧ θ_run (Cert.BackRef.defs (F := Bits)) (onTc (τ := Cert.BackRef.τ) (Cert.BackRef.main (F := Bits))) ⟨m', fun _ => 0, g'⟩ (fun r =>
          r.2.mem (((0 : Dev Cert.BackRef.nD).tc : Thread Cert.BackRef.nD Cert.BackRef.τ).loc Cert.BackRef.main_v2) = v0
          ∧ r.2.mem (((0 : Dev Cert.BackRef.nD).tc : Thread Cert.BackRef.nD Cert.BackRef.τ).loc Cert.BackRef.main_arg0) = m' (((0 : Dev Cert.BackRef.nD).tc : Thread Cert.BackRef.nD Cert.BackRef.τ).loc Cert.BackRef.main_arg0))

def preserves_GatherOut_GatherOutIdeal : Prop :=
  True

def algebraic_GatherOutIdeal_GatherOutRefIdeal [hGatherOutIdeal : Cert.GatherOutIdeal.Facts] [hGatherOutRefIdeal : Cert.GatherOutRefIdeal.Facts] : Prop :=
  ∀ (m : (ℓ : Loc Cert.GatherOutIdeal.nD Cert.GatherOutIdeal.τ Cert.GatherOutIdeal.sig) → Buf (Elt Ideal) ℓ) (g : Dev Cert.GatherOutIdeal.nD → PrngReg)
    (m' : (ℓ : Loc Cert.GatherOutRefIdeal.nD Cert.GatherOutRefIdeal.τ Cert.GatherOutRefIdeal.sig) → Buf (Elt Ideal) ℓ) (g' : Dev Cert.GatherOutRefIdeal.nD → PrngReg), Pre_GatherOutIdeal m →
    (∀ c : Dev Cert.GatherOutIdeal.nD,
      m ((c.tc : Thread Cert.GatherOutIdeal.nD Cert.GatherOutIdeal.τ).loc Cert.GatherOutIdeal.main_arg0) = Layout.blockN ⟨2, ![2048, 2048]⟩ ⟨2, ![2048, 8192]⟩ (Layout.meshBlock [2, 2, 2] ![[], [0, 1]] c) (m' (((0 : Dev Cert.GatherOutRefIdeal.nD).tc : Thread Cert.GatherOutRefIdeal.nD Cert.GatherOutRefIdeal.τ).loc Cert.GatherOutRefIdeal.main_arg0))) →
    ∃ (v0 : Buf (Elt Ideal) (((0 : Dev Cert.GatherOutRefIdeal.nD).tc : Thread Cert.GatherOutRefIdeal.nD Cert.GatherOutRefIdeal.τ).loc Cert.GatherOutRefIdeal.main_v1)),
      θ_run (Cert.GatherOutIdeal.defs (F := Ideal)) (onTc (τ := Cert.GatherOutIdeal.τ) (Cert.GatherOutIdeal.main (F := Ideal))) ⟨m, fun _ => 0, g⟩ (fun r => ∀ c : Dev Cert.GatherOutIdeal.nD,
          r.2.mem ((c.tc : Thread Cert.GatherOutIdeal.nD Cert.GatherOutIdeal.τ).loc Cert.GatherOutIdeal.main_v1) = v0
          ∧ r.2.mem ((c.tc : Thread Cert.GatherOutIdeal.nD Cert.GatherOutIdeal.τ).loc Cert.GatherOutIdeal.main_arg0) = m ((c.tc : Thread Cert.GatherOutIdeal.nD Cert.GatherOutIdeal.τ).loc Cert.GatherOutIdeal.main_arg0))
      ∧ θ_run (Cert.GatherOutRefIdeal.defs (F := Ideal)) (onTc (τ := Cert.GatherOutRefIdeal.τ) (Cert.GatherOutRefIdeal.main (F := Ideal))) ⟨m', fun _ => 0, g'⟩ (fun r =>
          r.2.mem (((0 : Dev Cert.GatherOutRefIdeal.nD).tc : Thread Cert.GatherOutRefIdeal.nD Cert.GatherOutRefIdeal.τ).loc Cert.GatherOutRefIdeal.main_v1) = v0
          ∧ r.2.mem (((0 : Dev Cert.GatherOutRefIdeal.nD).tc : Thread Cert.GatherOutRefIdeal.nD Cert.GatherOutRefIdeal.τ).loc Cert.GatherOutRefIdeal.main_arg0) = m' (((0 : Dev Cert.GatherOutRefIdeal.nD).tc : Thread Cert.GatherOutRefIdeal.nD Cert.GatherOutRefIdeal.τ).loc Cert.GatherOutRefIdeal.main_arg0))

def bitexact_GatherOut_GatherOutRef [hGatherOut : Cert.GatherOut.Facts] [hGatherOutRef : Cert.GatherOutRef.Facts] : Prop :=
  ∀ (m : (ℓ : Loc Cert.GatherOut.nD Cert.GatherOut.τ Cert.GatherOut.sig) → Buf (Elt Bits) ℓ) (g : Dev Cert.GatherOut.nD → PrngReg)
    (m' : (ℓ : Loc Cert.GatherOutRef.nD Cert.GatherOutRef.τ Cert.GatherOutRef.sig) → Buf (Elt Bits) ℓ) (g' : Dev Cert.GatherOutRef.nD → PrngReg), Pre_GatherOut m →
    (∀ c : Dev Cert.GatherOut.nD,
      m ((c.tc : Thread Cert.GatherOut.nD Cert.GatherOut.τ).loc Cert.GatherOut.main_arg0) = Layout.blockN ⟨2, ![2048, 2048]⟩ ⟨2, ![2048, 8192]⟩ (Layout.meshBlock [2, 2, 2] ![[], [0, 1]] c) (m' (((0 : Dev Cert.GatherOutRef.nD).tc : Thread Cert.GatherOutRef.nD Cert.GatherOutRef.τ).loc Cert.GatherOutRef.main_arg0))) →
    ∃ (v0 : Buf (Elt Bits) (((0 : Dev Cert.GatherOutRef.nD).tc : Thread Cert.GatherOutRef.nD Cert.GatherOutRef.τ).loc Cert.GatherOutRef.main_v1)),
      θ_run (Cert.GatherOut.defs (F := Bits)) (onTc (τ := Cert.GatherOut.τ) (Cert.GatherOut.main (F := Bits))) ⟨m, fun _ => 0, g⟩ (fun r => ∀ c : Dev Cert.GatherOut.nD,
          r.2.mem ((c.tc : Thread Cert.GatherOut.nD Cert.GatherOut.τ).loc Cert.GatherOut.main_v1) = v0
          ∧ r.2.mem ((c.tc : Thread Cert.GatherOut.nD Cert.GatherOut.τ).loc Cert.GatherOut.main_arg0) = m ((c.tc : Thread Cert.GatherOut.nD Cert.GatherOut.τ).loc Cert.GatherOut.main_arg0))
      ∧ θ_run (Cert.GatherOutRef.defs (F := Bits)) (onTc (τ := Cert.GatherOutRef.τ) (Cert.GatherOutRef.main (F := Bits))) ⟨m', fun _ => 0, g'⟩ (fun r =>
          r.2.mem (((0 : Dev Cert.GatherOutRef.nD).tc : Thread Cert.GatherOutRef.nD Cert.GatherOutRef.τ).loc Cert.GatherOutRef.main_v1) = v0
          ∧ r.2.mem (((0 : Dev Cert.GatherOutRef.nD).tc : Thread Cert.GatherOutRef.nD Cert.GatherOutRef.τ).loc Cert.GatherOutRef.main_arg0) = m' (((0 : Dev Cert.GatherOutRef.nD).tc : Thread Cert.GatherOutRef.nD Cert.GatherOutRef.τ).loc Cert.GatherOutRef.main_arg0))

def preserves_PairOut_PairOutIdeal : Prop :=
  True

def algebraic_PairOutIdeal_PairOutRefIdeal [hPairOutIdeal : Cert.PairOutIdeal.Facts] [hPairOutRefIdeal : Cert.PairOutRefIdeal.Facts] : Prop :=
  ∀ (m : (ℓ : Loc Cert.PairOutIdeal.nD Cert.PairOutIdeal.τ Cert.PairOutIdeal.sig) → Buf (Elt Ideal) ℓ) (g : Dev Cert.PairOutIdeal.nD → PrngReg)
    (m' : (ℓ : Loc Cert.PairOutRefIdeal.nD Cert.PairOutRefIdeal.τ Cert.PairOutRefIdeal.sig) → Buf (Elt Ideal) ℓ) (g' : Dev Cert.PairOutRefIdeal.nD → PrngReg), Pre_PairOutIdeal m →
    (∀ c : Dev Cert.PairOutIdeal.nD,
      m ((c.tc : Thread Cert.PairOutIdeal.nD Cert.PairOutIdeal.τ).loc Cert.PairOutIdeal.main_arg0) = Layout.block ⟨4, ![4, 2, 1024, 2048]⟩ ⟨4, ![32, 2, 1024, 2048]⟩ 0 8 c (m' (((0 : Dev Cert.PairOutRefIdeal.nD).tc : Thread Cert.PairOutRefIdeal.nD Cert.PairOutRefIdeal.τ).loc Cert.PairOutRefIdeal.main_arg0))) →
    ∃ (v0 : Buf (Elt Ideal) (((0 : Dev Cert.PairOutRefIdeal.nD).tc : Thread Cert.PairOutRefIdeal.nD Cert.PairOutRefIdeal.τ).loc Cert.PairOutRefIdeal.main_v8)),
      θ_run (Cert.PairOutIdeal.defs (F := Ideal)) (onTc (τ := Cert.PairOutIdeal.τ) (Cert.PairOutIdeal.main (F := Ideal))) ⟨m, fun _ => 0, g⟩ (fun r => ∀ c : Dev Cert.PairOutIdeal.nD,
          r.2.mem ((c.tc : Thread Cert.PairOutIdeal.nD Cert.PairOutIdeal.τ).loc Cert.PairOutIdeal.main_v1) = Layout.block ⟨3, ![4, 1024, 2048]⟩ ⟨3, ![32, 1024, 2048]⟩ 0 8 c v0
          ∧ r.2.mem ((c.tc : Thread Cert.PairOutIdeal.nD Cert.PairOutIdeal.τ).loc Cert.PairOutIdeal.main_arg0) = m ((c.tc : Thread Cert.PairOutIdeal.nD Cert.PairOutIdeal.τ).loc Cert.PairOutIdeal.main_arg0))
      ∧ θ_run (Cert.PairOutRefIdeal.defs (F := Ideal)) (onTc (τ := Cert.PairOutRefIdeal.τ) (Cert.PairOutRefIdeal.main (F := Ideal))) ⟨m', fun _ => 0, g'⟩ (fun r =>
          r.2.mem (((0 : Dev Cert.PairOutRefIdeal.nD).tc : Thread Cert.PairOutRefIdeal.nD Cert.PairOutRefIdeal.τ).loc Cert.PairOutRefIdeal.main_v8) = v0
          ∧ r.2.mem (((0 : Dev Cert.PairOutRefIdeal.nD).tc : Thread Cert.PairOutRefIdeal.nD Cert.PairOutRefIdeal.τ).loc Cert.PairOutRefIdeal.main_arg0) = m' (((0 : Dev Cert.PairOutRefIdeal.nD).tc : Thread Cert.PairOutRefIdeal.nD Cert.PairOutRefIdeal.τ).loc Cert.PairOutRefIdeal.main_arg0))

def bitexact_PairOut_PairOutRef [hPairOut : Cert.PairOut.Facts] [hPairOutRef : Cert.PairOutRef.Facts] : Prop :=
  ∀ (m : (ℓ : Loc Cert.PairOut.nD Cert.PairOut.τ Cert.PairOut.sig) → Buf (Elt Bits) ℓ) (g : Dev Cert.PairOut.nD → PrngReg)
    (m' : (ℓ : Loc Cert.PairOutRef.nD Cert.PairOutRef.τ Cert.PairOutRef.sig) → Buf (Elt Bits) ℓ) (g' : Dev Cert.PairOutRef.nD → PrngReg), Pre_PairOut m →
    (∀ c : Dev Cert.PairOut.nD,
      m ((c.tc : Thread Cert.PairOut.nD Cert.PairOut.τ).loc Cert.PairOut.main_arg0) = Layout.block ⟨4, ![4, 2, 1024, 2048]⟩ ⟨4, ![32, 2, 1024, 2048]⟩ 0 8 c (m' (((0 : Dev Cert.PairOutRef.nD).tc : Thread Cert.PairOutRef.nD Cert.PairOutRef.τ).loc Cert.PairOutRef.main_arg0))) →
    ∃ (v0 : Buf (Elt Bits) (((0 : Dev Cert.PairOutRef.nD).tc : Thread Cert.PairOutRef.nD Cert.PairOutRef.τ).loc Cert.PairOutRef.main_v8)),
      θ_run (Cert.PairOut.defs (F := Bits)) (onTc (τ := Cert.PairOut.τ) (Cert.PairOut.main (F := Bits))) ⟨m, fun _ => 0, g⟩ (fun r => ∀ c : Dev Cert.PairOut.nD,
          r.2.mem ((c.tc : Thread Cert.PairOut.nD Cert.PairOut.τ).loc Cert.PairOut.main_v1) = Layout.block ⟨3, ![4, 1024, 2048]⟩ ⟨3, ![32, 1024, 2048]⟩ 0 8 c v0
          ∧ r.2.mem ((c.tc : Thread Cert.PairOut.nD Cert.PairOut.τ).loc Cert.PairOut.main_arg0) = m ((c.tc : Thread Cert.PairOut.nD Cert.PairOut.τ).loc Cert.PairOut.main_arg0))
      ∧ θ_run (Cert.PairOutRef.defs (F := Bits)) (onTc (τ := Cert.PairOutRef.τ) (Cert.PairOutRef.main (F := Bits))) ⟨m', fun _ => 0, g'⟩ (fun r =>
          r.2.mem (((0 : Dev Cert.PairOutRef.nD).tc : Thread Cert.PairOutRef.nD Cert.PairOutRef.τ).loc Cert.PairOutRef.main_v8) = v0
          ∧ r.2.mem (((0 : Dev Cert.PairOutRef.nD).tc : Thread Cert.PairOutRef.nD Cert.PairOutRef.τ).loc Cert.PairOutRef.main_arg0) = m' (((0 : Dev Cert.PairOutRef.nD).tc : Thread Cert.PairOutRef.nD Cert.PairOutRef.τ).loc Cert.PairOutRef.main_arg0))

def preserves_ChipOut_ChipOutIdeal : Prop :=
  True

def algebraic_ChipOutIdeal_ChipOutRefIdeal [hChipOutIdeal : Cert.ChipOutIdeal.Facts] [hChipOutRefIdeal : Cert.ChipOutRefIdeal.Facts] : Prop :=
  ∀ (m : (ℓ : Loc Cert.ChipOutIdeal.nD Cert.ChipOutIdeal.τ Cert.ChipOutIdeal.sig) → Buf (Elt Ideal) ℓ) (g : Dev Cert.ChipOutIdeal.nD → PrngReg)
    (m' : (ℓ : Loc Cert.ChipOutRefIdeal.nD Cert.ChipOutRefIdeal.τ Cert.ChipOutRefIdeal.sig) → Buf (Elt Ideal) ℓ) (g' : Dev Cert.ChipOutRefIdeal.nD → PrngReg), Pre_ChipOutIdeal m →
    (∀ c : Dev Cert.ChipOutIdeal.nD,
      m ((c.tc : Thread Cert.ChipOutIdeal.nD Cert.ChipOutIdeal.τ).loc Cert.ChipOutIdeal.main_arg0) = Layout.block ⟨3, ![4, 1024, 2048]⟩ ⟨3, ![32, 1024, 2048]⟩ 0 8 c (m' (((0 : Dev Cert.ChipOutRefIdeal.nD).tc : Thread Cert.ChipOutRefIdeal.nD Cert.ChipOutRefIdeal.τ).loc Cert.ChipOutRefIdeal.main_arg0))) →
    ∃ (v0 : Buf (Elt Ideal) (((0 : Dev Cert.ChipOutRefIdeal.nD).tc : Thread Cert.ChipOutRefIdeal.nD Cert.ChipOutRefIdeal.τ).loc Cert.ChipOutRefIdeal.main_v2)),
      θ_run (Cert.ChipOutIdeal.defs (F := Ideal)) (onTc (τ := Cert.ChipOutIdeal.τ) (Cert.ChipOutIdeal.main (F := Ideal))) ⟨m, fun _ => 0, g⟩ (fun r => ∀ c : Dev Cert.ChipOutIdeal.nD,
          r.2.mem ((c.tc : Thread Cert.ChipOutIdeal.nD Cert.ChipOutIdeal.τ).loc Cert.ChipOutIdeal.main_v1) = Layout.block ⟨3, ![4, 1024, 2048]⟩ ⟨3, ![32, 1024, 2048]⟩ 0 8 c v0
          ∧ r.2.mem ((c.tc : Thread Cert.ChipOutIdeal.nD Cert.ChipOutIdeal.τ).loc Cert.ChipOutIdeal.main_arg0) = m ((c.tc : Thread Cert.ChipOutIdeal.nD Cert.ChipOutIdeal.τ).loc Cert.ChipOutIdeal.main_arg0))
      ∧ θ_run (Cert.ChipOutRefIdeal.defs (F := Ideal)) (onTc (τ := Cert.ChipOutRefIdeal.τ) (Cert.ChipOutRefIdeal.main (F := Ideal))) ⟨m', fun _ => 0, g'⟩ (fun r =>
          r.2.mem (((0 : Dev Cert.ChipOutRefIdeal.nD).tc : Thread Cert.ChipOutRefIdeal.nD Cert.ChipOutRefIdeal.τ).loc Cert.ChipOutRefIdeal.main_v2) = v0
          ∧ r.2.mem (((0 : Dev Cert.ChipOutRefIdeal.nD).tc : Thread Cert.ChipOutRefIdeal.nD Cert.ChipOutRefIdeal.τ).loc Cert.ChipOutRefIdeal.main_arg0) = m' (((0 : Dev Cert.ChipOutRefIdeal.nD).tc : Thread Cert.ChipOutRefIdeal.nD Cert.ChipOutRefIdeal.τ).loc Cert.ChipOutRefIdeal.main_arg0))

def bitexact_ChipOut_ChipOutRef [hChipOut : Cert.ChipOut.Facts] [hChipOutRef : Cert.ChipOutRef.Facts] : Prop :=
  ∀ (m : (ℓ : Loc Cert.ChipOut.nD Cert.ChipOut.τ Cert.ChipOut.sig) → Buf (Elt Bits) ℓ) (g : Dev Cert.ChipOut.nD → PrngReg)
    (m' : (ℓ : Loc Cert.ChipOutRef.nD Cert.ChipOutRef.τ Cert.ChipOutRef.sig) → Buf (Elt Bits) ℓ) (g' : Dev Cert.ChipOutRef.nD → PrngReg), Pre_ChipOut m →
    (∀ c : Dev Cert.ChipOut.nD,
      m ((c.tc : Thread Cert.ChipOut.nD Cert.ChipOut.τ).loc Cert.ChipOut.main_arg0) = Layout.block ⟨3, ![4, 1024, 2048]⟩ ⟨3, ![32, 1024, 2048]⟩ 0 8 c (m' (((0 : Dev Cert.ChipOutRef.nD).tc : Thread Cert.ChipOutRef.nD Cert.ChipOutRef.τ).loc Cert.ChipOutRef.main_arg0))) →
    ∃ (v0 : Buf (Elt Bits) (((0 : Dev Cert.ChipOutRef.nD).tc : Thread Cert.ChipOutRef.nD Cert.ChipOutRef.τ).loc Cert.ChipOutRef.main_v2)),
      θ_run (Cert.ChipOut.defs (F := Bits)) (onTc (τ := Cert.ChipOut.τ) (Cert.ChipOut.main (F := Bits))) ⟨m, fun _ => 0, g⟩ (fun r => ∀ c : Dev Cert.ChipOut.nD,
          r.2.mem ((c.tc : Thread Cert.ChipOut.nD Cert.ChipOut.τ).loc Cert.ChipOut.main_v1) = Layout.block ⟨3, ![4, 1024, 2048]⟩ ⟨3, ![32, 1024, 2048]⟩ 0 8 c v0
          ∧ r.2.mem ((c.tc : Thread Cert.ChipOut.nD Cert.ChipOut.τ).loc Cert.ChipOut.main_arg0) = m ((c.tc : Thread Cert.ChipOut.nD Cert.ChipOut.τ).loc Cert.ChipOut.main_arg0))
      ∧ θ_run (Cert.ChipOutRef.defs (F := Bits)) (onTc (τ := Cert.ChipOutRef.τ) (Cert.ChipOutRef.main (F := Bits))) ⟨m', fun _ => 0, g'⟩ (fun r =>
          r.2.mem (((0 : Dev Cert.ChipOutRef.nD).tc : Thread Cert.ChipOutRef.nD Cert.ChipOutRef.τ).loc Cert.ChipOutRef.main_v2) = v0
          ∧ r.2.mem (((0 : Dev Cert.ChipOutRef.nD).tc : Thread Cert.ChipOutRef.nD Cert.ChipOutRef.τ).loc Cert.ChipOutRef.main_arg0) = m' (((0 : Dev Cert.ChipOutRef.nD).tc : Thread Cert.ChipOutRef.nD Cert.ChipOutRef.τ).loc Cert.ChipOutRef.main_arg0))

def preserves_BackOut_BackOutIdeal : Prop :=
  True

def algebraic_BackOutIdeal_BackOutRefIdeal [hBackOutIdeal : Cert.BackOutIdeal.Facts] [hBackOutRefIdeal : Cert.BackOutRefIdeal.Facts] : Prop :=
  ∀ (m : (ℓ : Loc Cert.BackOutIdeal.nD Cert.BackOutIdeal.τ Cert.BackOutIdeal.sig) → Buf (Elt Ideal) ℓ) (g : Dev Cert.BackOutIdeal.nD → PrngReg)
    (m' : (ℓ : Loc Cert.BackOutRefIdeal.nD Cert.BackOutRefIdeal.τ Cert.BackOutRefIdeal.sig) → Buf (Elt Ideal) ℓ) (g' : Dev Cert.BackOutRefIdeal.nD → PrngReg), Pre_BackOutIdeal m →
    (∀ c : Dev Cert.BackOutIdeal.nD,
      m ((c.tc : Thread Cert.BackOutIdeal.nD Cert.BackOutIdeal.τ).loc Cert.BackOutIdeal.main_arg0) = Layout.block ⟨2, ![1024, 2048]⟩ ⟨2, ![8192, 2048]⟩ 0 8 c (m' (((0 : Dev Cert.BackOutRefIdeal.nD).tc : Thread Cert.BackOutRefIdeal.nD Cert.BackOutRefIdeal.τ).loc Cert.BackOutRefIdeal.main_arg0))) →
    ∃ (v0 : Buf (Elt Ideal) (((0 : Dev Cert.BackOutRefIdeal.nD).tc : Thread Cert.BackOutRefIdeal.nD Cert.BackOutRefIdeal.τ).loc Cert.BackOutRefIdeal.main_v2)),
      θ_run (Cert.BackOutIdeal.defs (F := Ideal)) (onTc (τ := Cert.BackOutIdeal.τ) (Cert.BackOutIdeal.main (F := Ideal))) ⟨m, fun _ => 0, g⟩ (fun r => ∀ c : Dev Cert.BackOutIdeal.nD,
          r.2.mem ((c.tc : Thread Cert.BackOutIdeal.nD Cert.BackOutIdeal.τ).loc Cert.BackOutIdeal.main_v1) = Layout.block ⟨3, ![2, 1024, 2048]⟩ ⟨3, ![16, 1024, 2048]⟩ 0 8 c v0
          ∧ r.2.mem ((c.tc : Thread Cert.BackOutIdeal.nD Cert.BackOutIdeal.τ).loc Cert.BackOutIdeal.main_arg0) = m ((c.tc : Thread Cert.BackOutIdeal.nD Cert.BackOutIdeal.τ).loc Cert.BackOutIdeal.main_arg0))
      ∧ θ_run (Cert.BackOutRefIdeal.defs (F := Ideal)) (onTc (τ := Cert.BackOutRefIdeal.τ) (Cert.BackOutRefIdeal.main (F := Ideal))) ⟨m', fun _ => 0, g'⟩ (fun r =>
          r.2.mem (((0 : Dev Cert.BackOutRefIdeal.nD).tc : Thread Cert.BackOutRefIdeal.nD Cert.BackOutRefIdeal.τ).loc Cert.BackOutRefIdeal.main_v2) = v0
          ∧ r.2.mem (((0 : Dev Cert.BackOutRefIdeal.nD).tc : Thread Cert.BackOutRefIdeal.nD Cert.BackOutRefIdeal.τ).loc Cert.BackOutRefIdeal.main_arg0) = m' (((0 : Dev Cert.BackOutRefIdeal.nD).tc : Thread Cert.BackOutRefIdeal.nD Cert.BackOutRefIdeal.τ).loc Cert.BackOutRefIdeal.main_arg0))

def bitexact_BackOut_BackOutRef [hBackOut : Cert.BackOut.Facts] [hBackOutRef : Cert.BackOutRef.Facts] : Prop :=
  ∀ (m : (ℓ : Loc Cert.BackOut.nD Cert.BackOut.τ Cert.BackOut.sig) → Buf (Elt Bits) ℓ) (g : Dev Cert.BackOut.nD → PrngReg)
    (m' : (ℓ : Loc Cert.BackOutRef.nD Cert.BackOutRef.τ Cert.BackOutRef.sig) → Buf (Elt Bits) ℓ) (g' : Dev Cert.BackOutRef.nD → PrngReg), Pre_BackOut m →
    (∀ c : Dev Cert.BackOut.nD,
      m ((c.tc : Thread Cert.BackOut.nD Cert.BackOut.τ).loc Cert.BackOut.main_arg0) = Layout.block ⟨2, ![1024, 2048]⟩ ⟨2, ![8192, 2048]⟩ 0 8 c (m' (((0 : Dev Cert.BackOutRef.nD).tc : Thread Cert.BackOutRef.nD Cert.BackOutRef.τ).loc Cert.BackOutRef.main_arg0))) →
    ∃ (v0 : Buf (Elt Bits) (((0 : Dev Cert.BackOutRef.nD).tc : Thread Cert.BackOutRef.nD Cert.BackOutRef.τ).loc Cert.BackOutRef.main_v2)),
      θ_run (Cert.BackOut.defs (F := Bits)) (onTc (τ := Cert.BackOut.τ) (Cert.BackOut.main (F := Bits))) ⟨m, fun _ => 0, g⟩ (fun r => ∀ c : Dev Cert.BackOut.nD,
          r.2.mem ((c.tc : Thread Cert.BackOut.nD Cert.BackOut.τ).loc Cert.BackOut.main_v1) = Layout.block ⟨3, ![2, 1024, 2048]⟩ ⟨3, ![16, 1024, 2048]⟩ 0 8 c v0
          ∧ r.2.mem ((c.tc : Thread Cert.BackOut.nD Cert.BackOut.τ).loc Cert.BackOut.main_arg0) = m ((c.tc : Thread Cert.BackOut.nD Cert.BackOut.τ).loc Cert.BackOut.main_arg0))
      ∧ θ_run (Cert.BackOutRef.defs (F := Bits)) (onTc (τ := Cert.BackOutRef.τ) (Cert.BackOutRef.main (F := Bits))) ⟨m', fun _ => 0, g'⟩ (fun r =>
          r.2.mem (((0 : Dev Cert.BackOutRef.nD).tc : Thread Cert.BackOutRef.nD Cert.BackOutRef.τ).loc Cert.BackOutRef.main_v2) = v0
          ∧ r.2.mem (((0 : Dev Cert.BackOutRef.nD).tc : Thread Cert.BackOutRef.nD Cert.BackOutRef.τ).loc Cert.BackOutRef.main_arg0) = m' (((0 : Dev Cert.BackOutRef.nD).tc : Thread Cert.BackOutRef.nD Cert.BackOutRef.τ).loc Cert.BackOutRef.main_arg0))

def preserves_GatherKv_GatherKvIdeal : Prop :=
  True

def algebraic_GatherKvIdeal_GatherKvRefIdeal [hGatherKvIdeal : Cert.GatherKvIdeal.Facts] [hGatherKvRefIdeal : Cert.GatherKvRefIdeal.Facts] : Prop :=
  ∀ (m : (ℓ : Loc Cert.GatherKvIdeal.nD Cert.GatherKvIdeal.τ Cert.GatherKvIdeal.sig) → Buf (Elt Ideal) ℓ) (g : Dev Cert.GatherKvIdeal.nD → PrngReg)
    (m' : (ℓ : Loc Cert.GatherKvRefIdeal.nD Cert.GatherKvRefIdeal.τ Cert.GatherKvRefIdeal.sig) → Buf (Elt Ideal) ℓ) (g' : Dev Cert.GatherKvRefIdeal.nD → PrngReg), Pre_GatherKvIdeal m →
    (∀ c : Dev Cert.GatherKvIdeal.nD,
      m ((c.tc : Thread Cert.GatherKvIdeal.nD Cert.GatherKvIdeal.τ).loc Cert.GatherKvIdeal.main_arg0) = Layout.blockN ⟨2, ![2048, 1024]⟩ ⟨2, ![2048, 4096]⟩ (Layout.meshBlock [2, 2, 2] ![[], [0, 1]] c) (m' (((0 : Dev Cert.GatherKvRefIdeal.nD).tc : Thread Cert.GatherKvRefIdeal.nD Cert.GatherKvRefIdeal.τ).loc Cert.GatherKvRefIdeal.main_arg0))) →
    ∃ (v0 : Buf (Elt Ideal) (((0 : Dev Cert.GatherKvRefIdeal.nD).tc : Thread Cert.GatherKvRefIdeal.nD Cert.GatherKvRefIdeal.τ).loc Cert.GatherKvRefIdeal.main_v1)),
      θ_run (Cert.GatherKvIdeal.defs (F := Ideal)) (onTc (τ := Cert.GatherKvIdeal.τ) (Cert.GatherKvIdeal.main (F := Ideal))) ⟨m, fun _ => 0, g⟩ (fun r => ∀ c : Dev Cert.GatherKvIdeal.nD,
          r.2.mem ((c.tc : Thread Cert.GatherKvIdeal.nD Cert.GatherKvIdeal.τ).loc Cert.GatherKvIdeal.main_v1) = v0
          ∧ r.2.mem ((c.tc : Thread Cert.GatherKvIdeal.nD Cert.GatherKvIdeal.τ).loc Cert.GatherKvIdeal.main_arg0) = m ((c.tc : Thread Cert.GatherKvIdeal.nD Cert.GatherKvIdeal.τ).loc Cert.GatherKvIdeal.main_arg0))
      ∧ θ_run (Cert.GatherKvRefIdeal.defs (F := Ideal)) (onTc (τ := Cert.GatherKvRefIdeal.τ) (Cert.GatherKvRefIdeal.main (F := Ideal))) ⟨m', fun _ => 0, g'⟩ (fun r =>
          r.2.mem (((0 : Dev Cert.GatherKvRefIdeal.nD).tc : Thread Cert.GatherKvRefIdeal.nD Cert.GatherKvRefIdeal.τ).loc Cert.GatherKvRefIdeal.main_v1) = v0
          ∧ r.2.mem (((0 : Dev Cert.GatherKvRefIdeal.nD).tc : Thread Cert.GatherKvRefIdeal.nD Cert.GatherKvRefIdeal.τ).loc Cert.GatherKvRefIdeal.main_arg0) = m' (((0 : Dev Cert.GatherKvRefIdeal.nD).tc : Thread Cert.GatherKvRefIdeal.nD Cert.GatherKvRefIdeal.τ).loc Cert.GatherKvRefIdeal.main_arg0))

def bitexact_GatherKv_GatherKvRef [hGatherKv : Cert.GatherKv.Facts] [hGatherKvRef : Cert.GatherKvRef.Facts] : Prop :=
  ∀ (m : (ℓ : Loc Cert.GatherKv.nD Cert.GatherKv.τ Cert.GatherKv.sig) → Buf (Elt Bits) ℓ) (g : Dev Cert.GatherKv.nD → PrngReg)
    (m' : (ℓ : Loc Cert.GatherKvRef.nD Cert.GatherKvRef.τ Cert.GatherKvRef.sig) → Buf (Elt Bits) ℓ) (g' : Dev Cert.GatherKvRef.nD → PrngReg), Pre_GatherKv m →
    (∀ c : Dev Cert.GatherKv.nD,
      m ((c.tc : Thread Cert.GatherKv.nD Cert.GatherKv.τ).loc Cert.GatherKv.main_arg0) = Layout.blockN ⟨2, ![2048, 1024]⟩ ⟨2, ![2048, 4096]⟩ (Layout.meshBlock [2, 2, 2] ![[], [0, 1]] c) (m' (((0 : Dev Cert.GatherKvRef.nD).tc : Thread Cert.GatherKvRef.nD Cert.GatherKvRef.τ).loc Cert.GatherKvRef.main_arg0))) →
    ∃ (v0 : Buf (Elt Bits) (((0 : Dev Cert.GatherKvRef.nD).tc : Thread Cert.GatherKvRef.nD Cert.GatherKvRef.τ).loc Cert.GatherKvRef.main_v1)),
      θ_run (Cert.GatherKv.defs (F := Bits)) (onTc (τ := Cert.GatherKv.τ) (Cert.GatherKv.main (F := Bits))) ⟨m, fun _ => 0, g⟩ (fun r => ∀ c : Dev Cert.GatherKv.nD,
          r.2.mem ((c.tc : Thread Cert.GatherKv.nD Cert.GatherKv.τ).loc Cert.GatherKv.main_v1) = v0
          ∧ r.2.mem ((c.tc : Thread Cert.GatherKv.nD Cert.GatherKv.τ).loc Cert.GatherKv.main_arg0) = m ((c.tc : Thread Cert.GatherKv.nD Cert.GatherKv.τ).loc Cert.GatherKv.main_arg0))
      ∧ θ_run (Cert.GatherKvRef.defs (F := Bits)) (onTc (τ := Cert.GatherKvRef.τ) (Cert.GatherKvRef.main (F := Bits))) ⟨m', fun _ => 0, g'⟩ (fun r =>
          r.2.mem (((0 : Dev Cert.GatherKvRef.nD).tc : Thread Cert.GatherKvRef.nD Cert.GatherKvRef.τ).loc Cert.GatherKvRef.main_v1) = v0
          ∧ r.2.mem (((0 : Dev Cert.GatherKvRef.nD).tc : Thread Cert.GatherKvRef.nD Cert.GatherKvRef.τ).loc Cert.GatherKvRef.main_arg0) = m' (((0 : Dev Cert.GatherKvRef.nD).tc : Thread Cert.GatherKvRef.nD Cert.GatherKvRef.τ).loc Cert.GatherKvRef.main_arg0))

def preserves_PairKv_PairKvIdeal : Prop :=
  True

def algebraic_PairKvIdeal_PairKvRefIdeal [hPairKvIdeal : Cert.PairKvIdeal.Facts] [hPairKvRefIdeal : Cert.PairKvRefIdeal.Facts] : Prop :=
  ∀ (m : (ℓ : Loc Cert.PairKvIdeal.nD Cert.PairKvIdeal.τ Cert.PairKvIdeal.sig) → Buf (Elt Ideal) ℓ) (g : Dev Cert.PairKvIdeal.nD → PrngReg)
    (m' : (ℓ : Loc Cert.PairKvRefIdeal.nD Cert.PairKvRefIdeal.τ Cert.PairKvRefIdeal.sig) → Buf (Elt Ideal) ℓ) (g' : Dev Cert.PairKvRefIdeal.nD → PrngReg), Pre_PairKvIdeal m →
    (∀ c : Dev Cert.PairKvIdeal.nD,
      m ((c.tc : Thread Cert.PairKvIdeal.nD Cert.PairKvIdeal.τ).loc Cert.PairKvIdeal.main_arg0) = Layout.block ⟨4, ![4, 2, 1024, 1024]⟩ ⟨4, ![32, 2, 1024, 1024]⟩ 0 8 c (m' (((0 : Dev Cert.PairKvRefIdeal.nD).tc : Thread Cert.PairKvRefIdeal.nD Cert.PairKvRefIdeal.τ).loc Cert.PairKvRefIdeal.main_arg0))) →
    ∃ (v0 : Buf (Elt Ideal) (((0 : Dev Cert.PairKvRefIdeal.nD).tc : Thread Cert.PairKvRefIdeal.nD Cert.PairKvRefIdeal.τ).loc Cert.PairKvRefIdeal.main_v8)),
      θ_run (Cert.PairKvIdeal.defs (F := Ideal)) (onTc (τ := Cert.PairKvIdeal.τ) (Cert.PairKvIdeal.main (F := Ideal))) ⟨m, fun _ => 0, g⟩ (fun r => ∀ c : Dev Cert.PairKvIdeal.nD,
          r.2.mem ((c.tc : Thread Cert.PairKvIdeal.nD Cert.PairKvIdeal.τ).loc Cert.PairKvIdeal.main_v1) = Layout.block ⟨3, ![4, 1024, 1024]⟩ ⟨3, ![32, 1024, 1024]⟩ 0 8 c v0
          ∧ r.2.mem ((c.tc : Thread Cert.PairKvIdeal.nD Cert.PairKvIdeal.τ).loc Cert.PairKvIdeal.main_arg0) = m ((c.tc : Thread Cert.PairKvIdeal.nD Cert.PairKvIdeal.τ).loc Cert.PairKvIdeal.main_arg0))
      ∧ θ_run (Cert.PairKvRefIdeal.defs (F := Ideal)) (onTc (τ := Cert.PairKvRefIdeal.τ) (Cert.PairKvRefIdeal.main (F := Ideal))) ⟨m', fun _ => 0, g'⟩ (fun r =>
          r.2.mem (((0 : Dev Cert.PairKvRefIdeal.nD).tc : Thread Cert.PairKvRefIdeal.nD Cert.PairKvRefIdeal.τ).loc Cert.PairKvRefIdeal.main_v8) = v0
          ∧ r.2.mem (((0 : Dev Cert.PairKvRefIdeal.nD).tc : Thread Cert.PairKvRefIdeal.nD Cert.PairKvRefIdeal.τ).loc Cert.PairKvRefIdeal.main_arg0) = m' (((0 : Dev Cert.PairKvRefIdeal.nD).tc : Thread Cert.PairKvRefIdeal.nD Cert.PairKvRefIdeal.τ).loc Cert.PairKvRefIdeal.main_arg0))

def bitexact_PairKv_PairKvRef [hPairKv : Cert.PairKv.Facts] [hPairKvRef : Cert.PairKvRef.Facts] : Prop :=
  ∀ (m : (ℓ : Loc Cert.PairKv.nD Cert.PairKv.τ Cert.PairKv.sig) → Buf (Elt Bits) ℓ) (g : Dev Cert.PairKv.nD → PrngReg)
    (m' : (ℓ : Loc Cert.PairKvRef.nD Cert.PairKvRef.τ Cert.PairKvRef.sig) → Buf (Elt Bits) ℓ) (g' : Dev Cert.PairKvRef.nD → PrngReg), Pre_PairKv m →
    (∀ c : Dev Cert.PairKv.nD,
      m ((c.tc : Thread Cert.PairKv.nD Cert.PairKv.τ).loc Cert.PairKv.main_arg0) = Layout.block ⟨4, ![4, 2, 1024, 1024]⟩ ⟨4, ![32, 2, 1024, 1024]⟩ 0 8 c (m' (((0 : Dev Cert.PairKvRef.nD).tc : Thread Cert.PairKvRef.nD Cert.PairKvRef.τ).loc Cert.PairKvRef.main_arg0))) →
    ∃ (v0 : Buf (Elt Bits) (((0 : Dev Cert.PairKvRef.nD).tc : Thread Cert.PairKvRef.nD Cert.PairKvRef.τ).loc Cert.PairKvRef.main_v8)),
      θ_run (Cert.PairKv.defs (F := Bits)) (onTc (τ := Cert.PairKv.τ) (Cert.PairKv.main (F := Bits))) ⟨m, fun _ => 0, g⟩ (fun r => ∀ c : Dev Cert.PairKv.nD,
          r.2.mem ((c.tc : Thread Cert.PairKv.nD Cert.PairKv.τ).loc Cert.PairKv.main_v1) = Layout.block ⟨3, ![4, 1024, 1024]⟩ ⟨3, ![32, 1024, 1024]⟩ 0 8 c v0
          ∧ r.2.mem ((c.tc : Thread Cert.PairKv.nD Cert.PairKv.τ).loc Cert.PairKv.main_arg0) = m ((c.tc : Thread Cert.PairKv.nD Cert.PairKv.τ).loc Cert.PairKv.main_arg0))
      ∧ θ_run (Cert.PairKvRef.defs (F := Bits)) (onTc (τ := Cert.PairKvRef.τ) (Cert.PairKvRef.main (F := Bits))) ⟨m', fun _ => 0, g'⟩ (fun r =>
          r.2.mem (((0 : Dev Cert.PairKvRef.nD).tc : Thread Cert.PairKvRef.nD Cert.PairKvRef.τ).loc Cert.PairKvRef.main_v8) = v0
          ∧ r.2.mem (((0 : Dev Cert.PairKvRef.nD).tc : Thread Cert.PairKvRef.nD Cert.PairKvRef.τ).loc Cert.PairKvRef.main_arg0) = m' (((0 : Dev Cert.PairKvRef.nD).tc : Thread Cert.PairKvRef.nD Cert.PairKvRef.τ).loc Cert.PairKvRef.main_arg0))

def preserves_ChipKv_ChipKvIdeal : Prop :=
  True

def algebraic_ChipKvIdeal_ChipKvRefIdeal [hChipKvIdeal : Cert.ChipKvIdeal.Facts] [hChipKvRefIdeal : Cert.ChipKvRefIdeal.Facts] : Prop :=
  ∀ (m : (ℓ : Loc Cert.ChipKvIdeal.nD Cert.ChipKvIdeal.τ Cert.ChipKvIdeal.sig) → Buf (Elt Ideal) ℓ) (g : Dev Cert.ChipKvIdeal.nD → PrngReg)
    (m' : (ℓ : Loc Cert.ChipKvRefIdeal.nD Cert.ChipKvRefIdeal.τ Cert.ChipKvRefIdeal.sig) → Buf (Elt Ideal) ℓ) (g' : Dev Cert.ChipKvRefIdeal.nD → PrngReg), Pre_ChipKvIdeal m →
    (∀ c : Dev Cert.ChipKvIdeal.nD,
      m ((c.tc : Thread Cert.ChipKvIdeal.nD Cert.ChipKvIdeal.τ).loc Cert.ChipKvIdeal.main_arg0) = Layout.block ⟨3, ![4, 1024, 1024]⟩ ⟨3, ![32, 1024, 1024]⟩ 0 8 c (m' (((0 : Dev Cert.ChipKvRefIdeal.nD).tc : Thread Cert.ChipKvRefIdeal.nD Cert.ChipKvRefIdeal.τ).loc Cert.ChipKvRefIdeal.main_arg0))) →
    ∃ (v0 : Buf (Elt Ideal) (((0 : Dev Cert.ChipKvRefIdeal.nD).tc : Thread Cert.ChipKvRefIdeal.nD Cert.ChipKvRefIdeal.τ).loc Cert.ChipKvRefIdeal.main_v2)),
      θ_run (Cert.ChipKvIdeal.defs (F := Ideal)) (onTc (τ := Cert.ChipKvIdeal.τ) (Cert.ChipKvIdeal.main (F := Ideal))) ⟨m, fun _ => 0, g⟩ (fun r => ∀ c : Dev Cert.ChipKvIdeal.nD,
          r.2.mem ((c.tc : Thread Cert.ChipKvIdeal.nD Cert.ChipKvIdeal.τ).loc Cert.ChipKvIdeal.main_v1) = Layout.block ⟨3, ![4, 1024, 1024]⟩ ⟨3, ![32, 1024, 1024]⟩ 0 8 c v0
          ∧ r.2.mem ((c.tc : Thread Cert.ChipKvIdeal.nD Cert.ChipKvIdeal.τ).loc Cert.ChipKvIdeal.main_arg0) = m ((c.tc : Thread Cert.ChipKvIdeal.nD Cert.ChipKvIdeal.τ).loc Cert.ChipKvIdeal.main_arg0))
      ∧ θ_run (Cert.ChipKvRefIdeal.defs (F := Ideal)) (onTc (τ := Cert.ChipKvRefIdeal.τ) (Cert.ChipKvRefIdeal.main (F := Ideal))) ⟨m', fun _ => 0, g'⟩ (fun r =>
          r.2.mem (((0 : Dev Cert.ChipKvRefIdeal.nD).tc : Thread Cert.ChipKvRefIdeal.nD Cert.ChipKvRefIdeal.τ).loc Cert.ChipKvRefIdeal.main_v2) = v0
          ∧ r.2.mem (((0 : Dev Cert.ChipKvRefIdeal.nD).tc : Thread Cert.ChipKvRefIdeal.nD Cert.ChipKvRefIdeal.τ).loc Cert.ChipKvRefIdeal.main_arg0) = m' (((0 : Dev Cert.ChipKvRefIdeal.nD).tc : Thread Cert.ChipKvRefIdeal.nD Cert.ChipKvRefIdeal.τ).loc Cert.ChipKvRefIdeal.main_arg0))

def bitexact_ChipKv_ChipKvRef [hChipKv : Cert.ChipKv.Facts] [hChipKvRef : Cert.ChipKvRef.Facts] : Prop :=
  ∀ (m : (ℓ : Loc Cert.ChipKv.nD Cert.ChipKv.τ Cert.ChipKv.sig) → Buf (Elt Bits) ℓ) (g : Dev Cert.ChipKv.nD → PrngReg)
    (m' : (ℓ : Loc Cert.ChipKvRef.nD Cert.ChipKvRef.τ Cert.ChipKvRef.sig) → Buf (Elt Bits) ℓ) (g' : Dev Cert.ChipKvRef.nD → PrngReg), Pre_ChipKv m →
    (∀ c : Dev Cert.ChipKv.nD,
      m ((c.tc : Thread Cert.ChipKv.nD Cert.ChipKv.τ).loc Cert.ChipKv.main_arg0) = Layout.block ⟨3, ![4, 1024, 1024]⟩ ⟨3, ![32, 1024, 1024]⟩ 0 8 c (m' (((0 : Dev Cert.ChipKvRef.nD).tc : Thread Cert.ChipKvRef.nD Cert.ChipKvRef.τ).loc Cert.ChipKvRef.main_arg0))) →
    ∃ (v0 : Buf (Elt Bits) (((0 : Dev Cert.ChipKvRef.nD).tc : Thread Cert.ChipKvRef.nD Cert.ChipKvRef.τ).loc Cert.ChipKvRef.main_v2)),
      θ_run (Cert.ChipKv.defs (F := Bits)) (onTc (τ := Cert.ChipKv.τ) (Cert.ChipKv.main (F := Bits))) ⟨m, fun _ => 0, g⟩ (fun r => ∀ c : Dev Cert.ChipKv.nD,
          r.2.mem ((c.tc : Thread Cert.ChipKv.nD Cert.ChipKv.τ).loc Cert.ChipKv.main_v1) = Layout.block ⟨3, ![4, 1024, 1024]⟩ ⟨3, ![32, 1024, 1024]⟩ 0 8 c v0
          ∧ r.2.mem ((c.tc : Thread Cert.ChipKv.nD Cert.ChipKv.τ).loc Cert.ChipKv.main_arg0) = m ((c.tc : Thread Cert.ChipKv.nD Cert.ChipKv.τ).loc Cert.ChipKv.main_arg0))
      ∧ θ_run (Cert.ChipKvRef.defs (F := Bits)) (onTc (τ := Cert.ChipKvRef.τ) (Cert.ChipKvRef.main (F := Bits))) ⟨m', fun _ => 0, g'⟩ (fun r =>
          r.2.mem (((0 : Dev Cert.ChipKvRef.nD).tc : Thread Cert.ChipKvRef.nD Cert.ChipKvRef.τ).loc Cert.ChipKvRef.main_v2) = v0
          ∧ r.2.mem (((0 : Dev Cert.ChipKvRef.nD).tc : Thread Cert.ChipKvRef.nD Cert.ChipKvRef.τ).loc Cert.ChipKvRef.main_arg0) = m' (((0 : Dev Cert.ChipKvRef.nD).tc : Thread Cert.ChipKvRef.nD Cert.ChipKvRef.τ).loc Cert.ChipKvRef.main_arg0))

def preserves_BackKv_BackKvIdeal : Prop :=
  True

def algebraic_BackKvIdeal_BackKvRefIdeal [hBackKvIdeal : Cert.BackKvIdeal.Facts] [hBackKvRefIdeal : Cert.BackKvRefIdeal.Facts] : Prop :=
  ∀ (m : (ℓ : Loc Cert.BackKvIdeal.nD Cert.BackKvIdeal.τ Cert.BackKvIdeal.sig) → Buf (Elt Ideal) ℓ) (g : Dev Cert.BackKvIdeal.nD → PrngReg)
    (m' : (ℓ : Loc Cert.BackKvRefIdeal.nD Cert.BackKvRefIdeal.τ Cert.BackKvRefIdeal.sig) → Buf (Elt Ideal) ℓ) (g' : Dev Cert.BackKvRefIdeal.nD → PrngReg), Pre_BackKvIdeal m →
    (∀ c : Dev Cert.BackKvIdeal.nD,
      m ((c.tc : Thread Cert.BackKvIdeal.nD Cert.BackKvIdeal.τ).loc Cert.BackKvIdeal.main_arg0) = Layout.block ⟨2, ![1024, 1024]⟩ ⟨2, ![8192, 1024]⟩ 0 8 c (m' (((0 : Dev Cert.BackKvRefIdeal.nD).tc : Thread Cert.BackKvRefIdeal.nD Cert.BackKvRefIdeal.τ).loc Cert.BackKvRefIdeal.main_arg0))) →
    ∃ (v0 : Buf (Elt Ideal) (((0 : Dev Cert.BackKvRefIdeal.nD).tc : Thread Cert.BackKvRefIdeal.nD Cert.BackKvRefIdeal.τ).loc Cert.BackKvRefIdeal.main_v2)),
      θ_run (Cert.BackKvIdeal.defs (F := Ideal)) (onTc (τ := Cert.BackKvIdeal.τ) (Cert.BackKvIdeal.main (F := Ideal))) ⟨m, fun _ => 0, g⟩ (fun r => ∀ c : Dev Cert.BackKvIdeal.nD,
          r.2.mem ((c.tc : Thread Cert.BackKvIdeal.nD Cert.BackKvIdeal.τ).loc Cert.BackKvIdeal.main_v1) = Layout.block ⟨3, ![2, 1024, 1024]⟩ ⟨3, ![16, 1024, 1024]⟩ 0 8 c v0
          ∧ r.2.mem ((c.tc : Thread Cert.BackKvIdeal.nD Cert.BackKvIdeal.τ).loc Cert.BackKvIdeal.main_arg0) = m ((c.tc : Thread Cert.BackKvIdeal.nD Cert.BackKvIdeal.τ).loc Cert.BackKvIdeal.main_arg0))
      ∧ θ_run (Cert.BackKvRefIdeal.defs (F := Ideal)) (onTc (τ := Cert.BackKvRefIdeal.τ) (Cert.BackKvRefIdeal.main (F := Ideal))) ⟨m', fun _ => 0, g'⟩ (fun r =>
          r.2.mem (((0 : Dev Cert.BackKvRefIdeal.nD).tc : Thread Cert.BackKvRefIdeal.nD Cert.BackKvRefIdeal.τ).loc Cert.BackKvRefIdeal.main_v2) = v0
          ∧ r.2.mem (((0 : Dev Cert.BackKvRefIdeal.nD).tc : Thread Cert.BackKvRefIdeal.nD Cert.BackKvRefIdeal.τ).loc Cert.BackKvRefIdeal.main_arg0) = m' (((0 : Dev Cert.BackKvRefIdeal.nD).tc : Thread Cert.BackKvRefIdeal.nD Cert.BackKvRefIdeal.τ).loc Cert.BackKvRefIdeal.main_arg0))

def bitexact_BackKv_BackKvRef [hBackKv : Cert.BackKv.Facts] [hBackKvRef : Cert.BackKvRef.Facts] : Prop :=
  ∀ (m : (ℓ : Loc Cert.BackKv.nD Cert.BackKv.τ Cert.BackKv.sig) → Buf (Elt Bits) ℓ) (g : Dev Cert.BackKv.nD → PrngReg)
    (m' : (ℓ : Loc Cert.BackKvRef.nD Cert.BackKvRef.τ Cert.BackKvRef.sig) → Buf (Elt Bits) ℓ) (g' : Dev Cert.BackKvRef.nD → PrngReg), Pre_BackKv m →
    (∀ c : Dev Cert.BackKv.nD,
      m ((c.tc : Thread Cert.BackKv.nD Cert.BackKv.τ).loc Cert.BackKv.main_arg0) = Layout.block ⟨2, ![1024, 1024]⟩ ⟨2, ![8192, 1024]⟩ 0 8 c (m' (((0 : Dev Cert.BackKvRef.nD).tc : Thread Cert.BackKvRef.nD Cert.BackKvRef.τ).loc Cert.BackKvRef.main_arg0))) →
    ∃ (v0 : Buf (Elt Bits) (((0 : Dev Cert.BackKvRef.nD).tc : Thread Cert.BackKvRef.nD Cert.BackKvRef.τ).loc Cert.BackKvRef.main_v2)),
      θ_run (Cert.BackKv.defs (F := Bits)) (onTc (τ := Cert.BackKv.τ) (Cert.BackKv.main (F := Bits))) ⟨m, fun _ => 0, g⟩ (fun r => ∀ c : Dev Cert.BackKv.nD,
          r.2.mem ((c.tc : Thread Cert.BackKv.nD Cert.BackKv.τ).loc Cert.BackKv.main_v1) = Layout.block ⟨3, ![2, 1024, 1024]⟩ ⟨3, ![16, 1024, 1024]⟩ 0 8 c v0
          ∧ r.2.mem ((c.tc : Thread Cert.BackKv.nD Cert.BackKv.τ).loc Cert.BackKv.main_arg0) = m ((c.tc : Thread Cert.BackKv.nD Cert.BackKv.τ).loc Cert.BackKv.main_arg0))
      ∧ θ_run (Cert.BackKvRef.defs (F := Bits)) (onTc (τ := Cert.BackKvRef.τ) (Cert.BackKvRef.main (F := Bits))) ⟨m', fun _ => 0, g'⟩ (fun r =>
          r.2.mem (((0 : Dev Cert.BackKvRef.nD).tc : Thread Cert.BackKvRef.nD Cert.BackKvRef.τ).loc Cert.BackKvRef.main_v2) = v0
          ∧ r.2.mem (((0 : Dev Cert.BackKvRef.nD).tc : Thread Cert.BackKvRef.nD Cert.BackKvRef.τ).loc Cert.BackKvRef.main_arg0) = m' (((0 : Dev Cert.BackKvRef.nD).tc : Thread Cert.BackKvRef.nD Cert.BackKvRef.τ).loc Cert.BackKvRef.main_arg0))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamRel_AdamRelIdeal : Prop :=
  True

def algebraic_AdamRelIdeal_AdamRelRefIdeal [hAdamRelIdeal : Cert.AdamRelIdeal.Facts] [hAdamRelRefIdeal : Cert.AdamRelRefIdeal.Facts] : Prop :=
  ∀ (m : (ℓ : Loc Cert.AdamRelIdeal.nD Cert.AdamRelIdeal.τ Cert.AdamRelIdeal.sig) → Buf (Elt Ideal) ℓ) (g : Dev Cert.AdamRelIdeal.nD → PrngReg)
    (m' : (ℓ : Loc Cert.AdamRelRefIdeal.nD Cert.AdamRelRefIdeal.τ Cert.AdamRelRefIdeal.sig) → Buf (Elt Ideal) ℓ) (g' : Dev Cert.AdamRelRefIdeal.nD → PrngReg), Pre_AdamRelIdeal m →
    (∀ c : Dev Cert.AdamRelIdeal.nD,
      m' ((c.tc : Thread Cert.AdamRelRefIdeal.nD Cert.AdamRelRefIdeal.τ).loc Cert.AdamRelRefIdeal.main_arg0) = m ((c.tc : Thread Cert.AdamRelIdeal.nD Cert.AdamRelIdeal.τ).loc Cert.AdamRelIdeal.main_arg0)
      ∧ m' ((c.tc : Thread Cert.AdamRelRefIdeal.nD Cert.AdamRelRefIdeal.τ).loc Cert.AdamRelRefIdeal.main_arg1) = m ((c.tc : Thread Cert.AdamRelIdeal.nD Cert.AdamRelIdeal.τ).loc Cert.AdamRelIdeal.main_arg1)
      ∧ m' ((c.tc : Thread Cert.AdamRelRefIdeal.nD Cert.AdamRelRefIdeal.τ).loc Cert.AdamRelRefIdeal.main_arg2) = m ((c.tc : Thread Cert.AdamRelIdeal.nD Cert.AdamRelIdeal.τ).loc Cert.AdamRelIdeal.main_arg2)
      ∧ m' ((c.tc : Thread Cert.AdamRelRefIdeal.nD Cert.AdamRelRefIdeal.τ).loc Cert.AdamRelRefIdeal.main_arg3) = m ((c.tc : Thread Cert.AdamRelIdeal.nD Cert.AdamRelIdeal.τ).loc Cert.AdamRelIdeal.main_arg3)) →
    ∃ (v0 : (c : Dev Cert.AdamRelIdeal.nD) → Buf (Elt Ideal) ((c.tc : Thread Cert.AdamRelIdeal.nD Cert.AdamRelIdeal.τ).loc Cert.AdamRelIdeal.main_v0_0)) (v1 : (c : Dev Cert.AdamRelIdeal.nD) → Buf (Elt Ideal) ((c.tc : Thread Cert.AdamRelIdeal.nD Cert.AdamRelIdeal.τ).loc Cert.AdamRelIdeal.main_v0_1)) (v2 : (c : Dev Cert.AdamRelIdeal.nD) → Buf (Elt Ideal) ((c.tc : Thread Cert.AdamRelIdeal.nD Cert.AdamRelIdeal.τ).loc Cert.AdamRelIdeal.main_v0_2)),
      θ_run (Cert.AdamRelIdeal.defs (F := Ideal)) (onTc (τ := Cert.AdamRelIdeal.τ) (Cert.AdamRelIdeal.main (F := Ideal))) ⟨m, fun _ => 0, g⟩ (fun r => ∀ c : Dev Cert.AdamRelIdeal.nD,
          r.2.mem ((c.tc : Thread Cert.AdamRelIdeal.nD Cert.AdamRelIdeal.τ).loc Cert.AdamRelIdeal.main_v0_0) = v0 c
          ∧ r.2.mem ((c.tc : Thread Cert.AdamRelIdeal.nD Cert.AdamRelIdeal.τ).loc Cert.AdamRelIdeal.main_v0_1) = v1 c
          ∧ r.2.mem ((c.tc : Thread Cert.AdamRelIdeal.nD Cert.AdamRelIdeal.τ).loc Cert.AdamRelIdeal.main_v0_2) = v2 c
          ∧ r.2.mem ((c.tc : Thread Cert.AdamRelIdeal.nD Cert.AdamRelIdeal.τ).loc Cert.AdamRelIdeal.main_arg0) = m ((c.tc : Thread Cert.AdamRelIdeal.nD Cert.AdamRelIdeal.τ).loc Cert.AdamRelIdeal.main_arg0)
          ∧ r.2.mem ((c.tc : Thread Cert.AdamRelIdeal.nD Cert.AdamRelIdeal.τ).loc Cert.AdamRelIdeal.main_arg1) = m ((c.tc : Thread Cert.AdamRelIdeal.nD Cert.AdamRelIdeal.τ).loc Cert.AdamRelIdeal.main_arg1)
          ∧ r.2.mem ((c.tc : Thread Cert.AdamRelIdeal.nD Cert.AdamRelIdeal.τ).loc Cert.AdamRelIdeal.main_arg2) = m ((c.tc : Thread Cert.AdamRelIdeal.nD Cert.AdamRelIdeal.τ).loc Cert.AdamRelIdeal.main_arg2)
          ∧ r.2.mem ((c.tc : Thread Cert.AdamRelIdeal.nD Cert.AdamRelIdeal.τ).loc Cert.AdamRelIdeal.main_arg3) = m ((c.tc : Thread Cert.AdamRelIdeal.nD Cert.AdamRelIdeal.τ).loc Cert.AdamRelIdeal.main_arg3))
      ∧ θ_run (Cert.AdamRelRefIdeal.defs (F := Ideal)) (onTc (τ := Cert.AdamRelRefIdeal.τ) (Cert.AdamRelRefIdeal.main (F := Ideal))) ⟨m', fun _ => 0, g'⟩ (fun r => ∀ c : Dev Cert.AdamRelRefIdeal.nD,
          r.2.mem ((c.tc : Thread Cert.AdamRelRefIdeal.nD Cert.AdamRelRefIdeal.τ).loc Cert.AdamRelRefIdeal.main_v23) = v0 c
          ∧ r.2.mem ((c.tc : Thread Cert.AdamRelRefIdeal.nD Cert.AdamRelRefIdeal.τ).loc Cert.AdamRelRefIdeal.main_v4) = v1 c
          ∧ r.2.mem ((c.tc : Thread Cert.AdamRelRefIdeal.nD Cert.AdamRelRefIdeal.τ).loc Cert.AdamRelRefIdeal.main_v10) = v2 c
          ∧ r.2.mem ((c.tc : Thread Cert.AdamRelRefIdeal.nD Cert.AdamRelRefIdeal.τ).loc Cert.AdamRelRefIdeal.main_arg0) = m' ((c.tc : Thread Cert.AdamRelRefIdeal.nD Cert.AdamRelRefIdeal.τ).loc Cert.AdamRelRefIdeal.main_arg0)
          ∧ r.2.mem ((c.tc : Thread Cert.AdamRelRefIdeal.nD Cert.AdamRelRefIdeal.τ).loc Cert.AdamRelRefIdeal.main_arg1) = m' ((c.tc : Thread Cert.AdamRelRefIdeal.nD Cert.AdamRelRefIdeal.τ).loc Cert.AdamRelRefIdeal.main_arg1)
          ∧ r.2.mem ((c.tc : Thread Cert.AdamRelRefIdeal.nD Cert.AdamRelRefIdeal.τ).loc Cert.AdamRelRefIdeal.main_arg2) = m' ((c.tc : Thread Cert.AdamRelRefIdeal.nD Cert.AdamRelRefIdeal.τ).loc Cert.AdamRelRefIdeal.main_arg2)
          ∧ r.2.mem ((c.tc : Thread Cert.AdamRelRefIdeal.nD Cert.AdamRelRefIdeal.τ).loc Cert.AdamRelRefIdeal.main_arg3) = m' ((c.tc : Thread Cert.AdamRelRefIdeal.nD Cert.AdamRelRefIdeal.τ).loc Cert.AdamRelRefIdeal.main_arg3))

def preserves_AdamGateW_AdamGateWIdeal : Prop :=
  True

def algebraic_AdamGateWIdeal_AdamGateWRefIdeal [hAdamGateWIdeal : Cert.AdamGateWIdeal.Facts] [hAdamGateWRefIdeal : Cert.AdamGateWRefIdeal.Facts] : Prop :=
  ∀ (m : (ℓ : Loc Cert.AdamGateWIdeal.nD Cert.AdamGateWIdeal.τ Cert.AdamGateWIdeal.sig) → Buf (Elt Ideal) ℓ) (g : Dev Cert.AdamGateWIdeal.nD → PrngReg)
    (m' : (ℓ : Loc Cert.AdamGateWRefIdeal.nD Cert.AdamGateWRefIdeal.τ Cert.AdamGateWRefIdeal.sig) → Buf (Elt Ideal) ℓ) (g' : Dev Cert.AdamGateWRefIdeal.nD → PrngReg), Pre_AdamGateWIdeal m →
    (∀ c : Dev Cert.AdamGateWIdeal.nD,
      m' ((c.tc : Thread Cert.AdamGateWRefIdeal.nD Cert.AdamGateWRefIdeal.τ).loc Cert.AdamGateWRefIdeal.main_arg0) = m ((c.tc : Thread Cert.AdamGateWIdeal.nD Cert.AdamGateWIdeal.τ).loc Cert.AdamGateWIdeal.main_arg0)
      ∧ m' ((c.tc : Thread Cert.AdamGateWRefIdeal.nD Cert.AdamGateWRefIdeal.τ).loc Cert.AdamGateWRefIdeal.main_arg1) = m ((c.tc : Thread Cert.AdamGateWIdeal.nD Cert.AdamGateWIdeal.τ).loc Cert.AdamGateWIdeal.main_arg1)
      ∧ m' ((c.tc : Thread Cert.AdamGateWRefIdeal.nD Cert.AdamGateWRefIdeal.τ).loc Cert.AdamGateWRefIdeal.main_arg2) = m ((c.tc : Thread Cert.AdamGateWIdeal.nD Cert.AdamGateWIdeal.τ).loc Cert.AdamGateWIdeal.main_arg2)
      ∧ m' ((c.tc : Thread Cert.AdamGateWRefIdeal.nD Cert.AdamGateWRefIdeal.τ).loc Cert.AdamGateWRefIdeal.main_arg3) = m ((c.tc : Thread Cert.AdamGateWIdeal.nD Cert.AdamGateWIdeal.τ).loc Cert.AdamGateWIdeal.main_arg3)) →
    ∃ (v0 : (c : Dev Cert.AdamGateWIdeal.nD) → Buf (Elt Ideal) ((c.tc : Thread Cert.AdamGateWIdeal.nD Cert.AdamGateWIdeal.τ).loc Cert.AdamGateWIdeal.main_v0_0)) (v1 : (c : Dev Cert.AdamGateWIdeal.nD) → Buf (Elt Ideal) ((c.tc : Thread Cert.AdamGateWIdeal.nD Cert.AdamGateWIdeal.τ).loc Cert.AdamGateWIdeal.main_v0_1)) (v2 : (c : Dev Cert.AdamGateWIdeal.nD) → Buf (Elt Ideal) ((c.tc : Thread Cert.AdamGateWIdeal.nD Cert.AdamGateWIdeal.τ).loc Cert.AdamGateWIdeal.main_v0_2)),
      θ_run (Cert.AdamGateWIdeal.defs (F := Ideal)) (onTc (τ := Cert.AdamGateWIdeal.τ) (Cert.AdamGateWIdeal.main (F := Ideal))) ⟨m, fun _ => 0, g⟩ (fun r => ∀ c : Dev Cert.AdamGateWIdeal.nD,
          r.2.mem ((c.tc : Thread Cert.AdamGateWIdeal.nD Cert.AdamGateWIdeal.τ).loc Cert.AdamGateWIdeal.main_v0_0) = v0 c
          ∧ r.2.mem ((c.tc : Thread Cert.AdamGateWIdeal.nD Cert.AdamGateWIdeal.τ).loc Cert.AdamGateWIdeal.main_v0_1) = v1 c
          ∧ r.2.mem ((c.tc : Thread Cert.AdamGateWIdeal.nD Cert.AdamGateWIdeal.τ).loc Cert.AdamGateWIdeal.main_v0_2) = v2 c
          ∧ r.2.mem ((c.tc : Thread Cert.AdamGateWIdeal.nD Cert.AdamGateWIdeal.τ).loc Cert.AdamGateWIdeal.main_arg0) = m ((c.tc : Thread Cert.AdamGateWIdeal.nD Cert.AdamGateWIdeal.τ).loc Cert.AdamGateWIdeal.main_arg0)
          ∧ r.2.mem ((c.tc : Thread Cert.AdamGateWIdeal.nD Cert.AdamGateWIdeal.τ).loc Cert.AdamGateWIdeal.main_arg1) = m ((c.tc : Thread Cert.AdamGateWIdeal.nD Cert.AdamGateWIdeal.τ).loc Cert.AdamGateWIdeal.main_arg1)
          ∧ r.2.mem ((c.tc : Thread Cert.AdamGateWIdeal.nD Cert.AdamGateWIdeal.τ).loc Cert.AdamGateWIdeal.main_arg2) = m ((c.tc : Thread Cert.AdamGateWIdeal.nD Cert.AdamGateWIdeal.τ).loc Cert.AdamGateWIdeal.main_arg2)
          ∧ r.2.mem ((c.tc : Thread Cert.AdamGateWIdeal.nD Cert.AdamGateWIdeal.τ).loc Cert.AdamGateWIdeal.main_arg3) = m ((c.tc : Thread Cert.AdamGateWIdeal.nD Cert.AdamGateWIdeal.τ).loc Cert.AdamGateWIdeal.main_arg3))
      ∧ θ_run (Cert.AdamGateWRefIdeal.defs (F := Ideal)) (onTc (τ := Cert.AdamGateWRefIdeal.τ) (Cert.AdamGateWRefIdeal.main (F := Ideal))) ⟨m', fun _ => 0, g'⟩ (fun r => ∀ c : Dev Cert.AdamGateWRefIdeal.nD,
          r.2.mem ((c.tc : Thread Cert.AdamGateWRefIdeal.nD Cert.AdamGateWRefIdeal.τ).loc Cert.AdamGateWRefIdeal.main_v23) = v0 c
          ∧ r.2.mem ((c.tc : Thread Cert.AdamGateWRefIdeal.nD Cert.AdamGateWRefIdeal.τ).loc Cert.AdamGateWRefIdeal.main_v4) = v1 c
          ∧ r.2.mem ((c.tc : Thread Cert.AdamGateWRefIdeal.nD Cert.AdamGateWRefIdeal.τ).loc Cert.AdamGateWRefIdeal.main_v10) = v2 c
          ∧ r.2.mem ((c.tc : Thread Cert.AdamGateWRefIdeal.nD Cert.AdamGateWRefIdeal.τ).loc Cert.AdamGateWRefIdeal.main_arg0) = m' ((c.tc : Thread Cert.AdamGateWRefIdeal.nD Cert.AdamGateWRefIdeal.τ).loc Cert.AdamGateWRefIdeal.main_arg0)
          ∧ r.2.mem ((c.tc : Thread Cert.AdamGateWRefIdeal.nD Cert.AdamGateWRefIdeal.τ).loc Cert.AdamGateWRefIdeal.main_arg1) = m' ((c.tc : Thread Cert.AdamGateWRefIdeal.nD Cert.AdamGateWRefIdeal.τ).loc Cert.AdamGateWRefIdeal.main_arg1)
          ∧ r.2.mem ((c.tc : Thread Cert.AdamGateWRefIdeal.nD Cert.AdamGateWRefIdeal.τ).loc Cert.AdamGateWRefIdeal.main_arg2) = m' ((c.tc : Thread Cert.AdamGateWRefIdeal.nD Cert.AdamGateWRefIdeal.τ).loc Cert.AdamGateWRefIdeal.main_arg2)
          ∧ r.2.mem ((c.tc : Thread Cert.AdamGateWRefIdeal.nD Cert.AdamGateWRefIdeal.τ).loc Cert.AdamGateWRefIdeal.main_arg3) = m' ((c.tc : Thread Cert.AdamGateWRefIdeal.nD Cert.AdamGateWRefIdeal.τ).loc Cert.AdamGateWRefIdeal.main_arg3))

def preserves_AdamGateB_AdamGateBIdeal : Prop :=
  True

def algebraic_AdamGateBIdeal_AdamGateBRefIdeal [hAdamGateBIdeal : Cert.AdamGateBIdeal.Facts] [hAdamGateBRefIdeal : Cert.AdamGateBRefIdeal.Facts] : Prop :=
  ∀ (m : (ℓ : Loc Cert.AdamGateBIdeal.nD Cert.AdamGateBIdeal.τ Cert.AdamGateBIdeal.sig) → Buf (Elt Ideal) ℓ) (g : Dev Cert.AdamGateBIdeal.nD → PrngReg)
    (m' : (ℓ : Loc Cert.AdamGateBRefIdeal.nD Cert.AdamGateBRefIdeal.τ Cert.AdamGateBRefIdeal.sig) → Buf (Elt Ideal) ℓ) (g' : Dev Cert.AdamGateBRefIdeal.nD → PrngReg), Pre_AdamGateBIdeal m →
    (∀ c : Dev Cert.AdamGateBIdeal.nD,
      m' ((c.tc : Thread Cert.AdamGateBRefIdeal.nD Cert.AdamGateBRefIdeal.τ).loc Cert.AdamGateBRefIdeal.main_arg0) = m ((c.tc : Thread Cert.AdamGateBIdeal.nD Cert.AdamGateBIdeal.τ).loc Cert.AdamGateBIdeal.main_arg0)
      ∧ m' ((c.tc : Thread Cert.AdamGateBRefIdeal.nD Cert.AdamGateBRefIdeal.τ).loc Cert.AdamGateBRefIdeal.main_arg1) = m ((c.tc : Thread Cert.AdamGateBIdeal.nD Cert.AdamGateBIdeal.τ).loc Cert.AdamGateBIdeal.main_arg1)
      ∧ m' ((c.tc : Thread Cert.AdamGateBRefIdeal.nD Cert.AdamGateBRefIdeal.τ).loc Cert.AdamGateBRefIdeal.main_arg2) = m ((c.tc : Thread Cert.AdamGateBIdeal.nD Cert.AdamGateBIdeal.τ).loc Cert.AdamGateBIdeal.main_arg2)
      ∧ m' ((c.tc : Thread Cert.AdamGateBRefIdeal.nD Cert.AdamGateBRefIdeal.τ).loc Cert.AdamGateBRefIdeal.main_arg3) = m ((c.tc : Thread Cert.AdamGateBIdeal.nD Cert.AdamGateBIdeal.τ).loc Cert.AdamGateBIdeal.main_arg3)) →
    ∃ (v0 : (c : Dev Cert.AdamGateBIdeal.nD) → Buf (Elt Ideal) ((c.tc : Thread Cert.AdamGateBIdeal.nD Cert.AdamGateBIdeal.τ).loc Cert.AdamGateBIdeal.main_v0_0)) (v1 : (c : Dev Cert.AdamGateBIdeal.nD) → Buf (Elt Ideal) ((c.tc : Thread Cert.AdamGateBIdeal.nD Cert.AdamGateBIdeal.τ).loc Cert.AdamGateBIdeal.main_v0_1)) (v2 : (c : Dev Cert.AdamGateBIdeal.nD) → Buf (Elt Ideal) ((c.tc : Thread Cert.AdamGateBIdeal.nD Cert.AdamGateBIdeal.τ).loc Cert.AdamGateBIdeal.main_v0_2)),
      θ_run (Cert.AdamGateBIdeal.defs (F := Ideal)) (onTc (τ := Cert.AdamGateBIdeal.τ) (Cert.AdamGateBIdeal.main (F := Ideal))) ⟨m, fun _ => 0, g⟩ (fun r => ∀ c : Dev Cert.AdamGateBIdeal.nD,
          r.2.mem ((c.tc : Thread Cert.AdamGateBIdeal.nD Cert.AdamGateBIdeal.τ).loc Cert.AdamGateBIdeal.main_v0_0) = v0 c
          ∧ r.2.mem ((c.tc : Thread Cert.AdamGateBIdeal.nD Cert.AdamGateBIdeal.τ).loc Cert.AdamGateBIdeal.main_v0_1) = v1 c
          ∧ r.2.mem ((c.tc : Thread Cert.AdamGateBIdeal.nD Cert.AdamGateBIdeal.τ).loc Cert.AdamGateBIdeal.main_v0_2) = v2 c
          ∧ r.2.mem ((c.tc : Thread Cert.AdamGateBIdeal.nD Cert.AdamGateBIdeal.τ).loc Cert.AdamGateBIdeal.main_arg0) = m ((c.tc : Thread Cert.AdamGateBIdeal.nD Cert.AdamGateBIdeal.τ).loc Cert.AdamGateBIdeal.main_arg0)
          ∧ r.2.mem ((c.tc : Thread Cert.AdamGateBIdeal.nD Cert.AdamGateBIdeal.τ).loc Cert.AdamGateBIdeal.main_arg1) = m ((c.tc : Thread Cert.AdamGateBIdeal.nD Cert.AdamGateBIdeal.τ).loc Cert.AdamGateBIdeal.main_arg1)
          ∧ r.2.mem ((c.tc : Thread Cert.AdamGateBIdeal.nD Cert.AdamGateBIdeal.τ).loc Cert.AdamGateBIdeal.main_arg2) = m ((c.tc : Thread Cert.AdamGateBIdeal.nD Cert.AdamGateBIdeal.τ).loc Cert.AdamGateBIdeal.main_arg2)
          ∧ r.2.mem ((c.tc : Thread Cert.AdamGateBIdeal.nD Cert.AdamGateBIdeal.τ).loc Cert.AdamGateBIdeal.main_arg3) = m ((c.tc : Thread Cert.AdamGateBIdeal.nD Cert.AdamGateBIdeal.τ).loc Cert.AdamGateBIdeal.main_arg3))
      ∧ θ_run (Cert.AdamGateBRefIdeal.defs (F := Ideal)) (onTc (τ := Cert.AdamGateBRefIdeal.τ) (Cert.AdamGateBRefIdeal.main (F := Ideal))) ⟨m', fun _ => 0, g'⟩ (fun r => ∀ c : Dev Cert.AdamGateBRefIdeal.nD,
          r.2.mem ((c.tc : Thread Cert.AdamGateBRefIdeal.nD Cert.AdamGateBRefIdeal.τ).loc Cert.AdamGateBRefIdeal.main_v23) = v0 c
          ∧ r.2.mem ((c.tc : Thread Cert.AdamGateBRefIdeal.nD Cert.AdamGateBRefIdeal.τ).loc Cert.AdamGateBRefIdeal.main_v4) = v1 c
          ∧ r.2.mem ((c.tc : Thread Cert.AdamGateBRefIdeal.nD Cert.AdamGateBRefIdeal.τ).loc Cert.AdamGateBRefIdeal.main_v10) = v2 c
          ∧ r.2.mem ((c.tc : Thread Cert.AdamGateBRefIdeal.nD Cert.AdamGateBRefIdeal.τ).loc Cert.AdamGateBRefIdeal.main_arg0) = m' ((c.tc : Thread Cert.AdamGateBRefIdeal.nD Cert.AdamGateBRefIdeal.τ).loc Cert.AdamGateBRefIdeal.main_arg0)
          ∧ r.2.mem ((c.tc : Thread Cert.AdamGateBRefIdeal.nD Cert.AdamGateBRefIdeal.τ).loc Cert.AdamGateBRefIdeal.main_arg1) = m' ((c.tc : Thread Cert.AdamGateBRefIdeal.nD Cert.AdamGateBRefIdeal.τ).loc Cert.AdamGateBRefIdeal.main_arg1)
          ∧ r.2.mem ((c.tc : Thread Cert.AdamGateBRefIdeal.nD Cert.AdamGateBRefIdeal.τ).loc Cert.AdamGateBRefIdeal.main_arg2) = m' ((c.tc : Thread Cert.AdamGateBRefIdeal.nD Cert.AdamGateBRefIdeal.τ).loc Cert.AdamGateBRefIdeal.main_arg2)
          ∧ r.2.mem ((c.tc : Thread Cert.AdamGateBRefIdeal.nD Cert.AdamGateBRefIdeal.τ).loc Cert.AdamGateBRefIdeal.main_arg3) = m' ((c.tc : Thread Cert.AdamGateBRefIdeal.nD Cert.AdamGateBRefIdeal.τ).loc Cert.AdamGateBRefIdeal.main_arg3))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v23) = v0 c
          ∧ r.2.mem ((c.tc : Thread Cert.AdamNormRefIdeal.nD Cert.AdamNormRefIdeal.τ).loc Cert.AdamNormRefIdeal.main_v4) = v1 c
          ∧ r.2.mem ((c.tc : Thread Cert.AdamNormRefIdeal.nD Cert.AdamNormRefIdeal.τ).loc Cert.AdamNormRefIdeal.main_v10) = v2 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v23) = v0 c
          ∧ r.2.mem ((c.tc : Thread Cert.AdamKvRefIdeal.nD Cert.AdamKvRefIdeal.τ).loc Cert.AdamKvRefIdeal.main_v4) = v1 c
          ∧ r.2.mem ((c.tc : Thread Cert.AdamKvRefIdeal.nD Cert.AdamKvRefIdeal.τ).loc Cert.AdamKvRefIdeal.main_v10) = v2 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamLnG_AdamLnGIdeal : Prop :=
  True

def algebraic_AdamLnGIdeal_AdamLnGRefIdeal [hAdamLnGIdeal : Cert.AdamLnGIdeal.Facts] [hAdamLnGRefIdeal : Cert.AdamLnGRefIdeal.Facts] : Prop :=
  ∀ (m : (ℓ : Loc Cert.AdamLnGIdeal.nD Cert.AdamLnGIdeal.τ Cert.AdamLnGIdeal.sig) → Buf (Elt Ideal) ℓ) (g : Dev Cert.AdamLnGIdeal.nD → PrngReg)
    (m' : (ℓ : Loc Cert.AdamLnGRefIdeal.nD Cert.AdamLnGRefIdeal.τ Cert.AdamLnGRefIdeal.sig) → Buf (Elt Ideal) ℓ) (g' : Dev Cert.AdamLnGRefIdeal.nD → PrngReg), Pre_AdamLnGIdeal m →
    (∀ c : Dev Cert.AdamLnGIdeal.nD,
      m' ((c.tc : Thread Cert.AdamLnGRefIdeal.nD Cert.AdamLnGRefIdeal.τ).loc Cert.AdamLnGRefIdeal.main_arg0) = m ((c.tc : Thread Cert.AdamLnGIdeal.nD Cert.AdamLnGIdeal.τ).loc Cert.AdamLnGIdeal.main_arg0)
      ∧ m' ((c.tc : Thread Cert.AdamLnGRefIdeal.nD Cert.AdamLnGRefIdeal.τ).loc Cert.AdamLnGRefIdeal.main_arg1) = m ((c.tc : Thread Cert.AdamLnGIdeal.nD Cert.AdamLnGIdeal.τ).loc Cert.AdamLnGIdeal.main_arg1)
      ∧ m' ((c.tc : Thread Cert.AdamLnGRefIdeal.nD Cert.AdamLnGRefIdeal.τ).loc Cert.AdamLnGRefIdeal.main_arg2) = m ((c.tc : Thread Cert.AdamLnGIdeal.nD Cert.AdamLnGIdeal.τ).loc Cert.AdamLnGIdeal.main_arg2)
      ∧ m' ((c.tc : Thread Cert.AdamLnGRefIdeal.nD Cert.AdamLnGRefIdeal.τ).loc Cert.AdamLnGRefIdeal.main_arg3) = m ((c.tc : Thread Cert.AdamLnGIdeal.nD Cert.AdamLnGIdeal.τ).loc Cert.AdamLnGIdeal.main_arg3)) →
    ∃ (v0 : (c : Dev Cert.AdamLnGIdeal.nD) → Buf (Elt Ideal) ((c.tc : Thread Cert.AdamLnGIdeal.nD Cert.AdamLnGIdeal.τ).loc Cert.AdamLnGIdeal.main_v0_0)) (v1 : (c : Dev Cert.AdamLnGIdeal.nD) → Buf (Elt Ideal) ((c.tc : Thread Cert.AdamLnGIdeal.nD Cert.AdamLnGIdeal.τ).loc Cert.AdamLnGIdeal.main_v0_1)) (v2 : (c : Dev Cert.AdamLnGIdeal.nD) → Buf (Elt Ideal) ((c.tc : Thread Cert.AdamLnGIdeal.nD Cert.AdamLnGIdeal.τ).loc Cert.AdamLnGIdeal.main_v0_2)),
      θ_run (Cert.AdamLnGIdeal.defs (F := Ideal)) (onTc (τ := Cert.AdamLnGIdeal.τ) (Cert.AdamLnGIdeal.main (F := Ideal))) ⟨m, fun _ => 0, g⟩ (fun r => ∀ c : Dev Cert.AdamLnGIdeal.nD,
          r.2.mem ((c.tc : Thread Cert.AdamLnGIdeal.nD Cert.AdamLnGIdeal.τ).loc Cert.AdamLnGIdeal.main_v0_0) = v0 c
          ∧ r.2.mem ((c.tc : Thread Cert.AdamLnGIdeal.nD Cert.AdamLnGIdeal.τ).loc Cert.AdamLnGIdeal.main_v0_1) = v1 c
          ∧ r.2.mem ((c.tc : Thread Cert.AdamLnGIdeal.nD Cert.AdamLnGIdeal.τ).loc Cert.AdamLnGIdeal.main_v0_2) = v2 c
          ∧ r.2.mem ((c.tc : Thread Cert.AdamLnGIdeal.nD Cert.AdamLnGIdeal.τ).loc Cert.AdamLnGIdeal.main_arg0) = m ((c.tc : Thread Cert.AdamLnGIdeal.nD Cert.AdamLnGIdeal.τ).loc Cert.AdamLnGIdeal.main_arg0)
          ∧ r.2.mem ((c.tc : Thread Cert.AdamLnGIdeal.nD Cert.AdamLnGIdeal.τ).loc Cert.AdamLnGIdeal.main_arg1) = m ((c.tc : Thread Cert.AdamLnGIdeal.nD Cert.AdamLnGIdeal.τ).loc Cert.AdamLnGIdeal.main_arg1)
          ∧ r.2.mem ((c.tc : Thread Cert.AdamLnGIdeal.nD Cert.AdamLnGIdeal.τ).loc Cert.AdamLnGIdeal.main_arg2) = m ((c.tc : Thread Cert.AdamLnGIdeal.nD Cert.AdamLnGIdeal.τ).loc Cert.AdamLnGIdeal.main_arg2)
          ∧ r.2.mem ((c.tc : Thread Cert.AdamLnGIdeal.nD Cert.AdamLnGIdeal.τ).loc Cert.AdamLnGIdeal.main_arg3) = m ((c.tc : Thread Cert.AdamLnGIdeal.nD Cert.AdamLnGIdeal.τ).loc Cert.AdamLnGIdeal.main_arg3))
      ∧ θ_run (Cert.AdamLnGRefIdeal.defs (F := Ideal)) (onTc (τ := Cert.AdamLnGRefIdeal.τ) (Cert.AdamLnGRefIdeal.main (F := Ideal))) ⟨m', fun _ => 0, g'⟩ (fun r => ∀ c : Dev Cert.AdamLnGRefIdeal.nD,
          r.2.mem ((c.tc : Thread Cert.AdamLnGRefIdeal.nD Cert.AdamLnGRefIdeal.τ).loc Cert.AdamLnGRefIdeal.main_v23) = v0 c
          ∧ r.2.mem ((c.tc : Thread Cert.AdamLnGRefIdeal.nD Cert.AdamLnGRefIdeal.τ).loc Cert.AdamLnGRefIdeal.main_v4) = v1 c
          ∧ r.2.mem ((c.tc : Thread Cert.AdamLnGRefIdeal.nD Cert.AdamLnGRefIdeal.τ).loc Cert.AdamLnGRefIdeal.main_v10) = v2 c
          ∧ r.2.mem ((c.tc : Thread Cert.AdamLnGRefIdeal.nD Cert.AdamLnGRefIdeal.τ).loc Cert.AdamLnGRefIdeal.main_arg0) = m' ((c.tc : Thread Cert.AdamLnGRefIdeal.nD Cert.AdamLnGRefIdeal.τ).loc Cert.AdamLnGRefIdeal.main_arg0)
          ∧ r.2.mem ((c.tc : Thread Cert.AdamLnGRefIdeal.nD Cert.AdamLnGRefIdeal.τ).loc Cert.AdamLnGRefIdeal.main_arg1) = m' ((c.tc : Thread Cert.AdamLnGRefIdeal.nD Cert.AdamLnGRefIdeal.τ).loc Cert.AdamLnGRefIdeal.main_arg1)
          ∧ r.2.mem ((c.tc : Thread Cert.AdamLnGRefIdeal.nD Cert.AdamLnGRefIdeal.τ).loc Cert.AdamLnGRefIdeal.main_arg2) = m' ((c.tc : Thread Cert.AdamLnGRefIdeal.nD Cert.AdamLnGRefIdeal.τ).loc Cert.AdamLnGRefIdeal.main_arg2)
          ∧ r.2.mem ((c.tc : Thread Cert.AdamLnGRefIdeal.nD Cert.AdamLnGRefIdeal.τ).loc Cert.AdamLnGRefIdeal.main_arg3) = m' ((c.tc : Thread Cert.AdamLnGRefIdeal.nD Cert.AdamLnGRefIdeal.τ).loc Cert.AdamLnGRefIdeal.main_arg3))

def preserves_AdamLnB_AdamLnBIdeal : Prop :=
  True

def algebraic_AdamLnBIdeal_AdamLnBRefIdeal [hAdamLnBIdeal : Cert.AdamLnBIdeal.Facts] [hAdamLnBRefIdeal : Cert.AdamLnBRefIdeal.Facts] : Prop :=
  ∀ (m : (ℓ : Loc Cert.AdamLnBIdeal.nD Cert.AdamLnBIdeal.τ Cert.AdamLnBIdeal.sig) → Buf (Elt Ideal) ℓ) (g : Dev Cert.AdamLnBIdeal.nD → PrngReg)
    (m' : (ℓ : Loc Cert.AdamLnBRefIdeal.nD Cert.AdamLnBRefIdeal.τ Cert.AdamLnBRefIdeal.sig) → Buf (Elt Ideal) ℓ) (g' : Dev Cert.AdamLnBRefIdeal.nD → PrngReg), Pre_AdamLnBIdeal m →
    (∀ c : Dev Cert.AdamLnBIdeal.nD,
      m' ((c.tc : Thread Cert.AdamLnBRefIdeal.nD Cert.AdamLnBRefIdeal.τ).loc Cert.AdamLnBRefIdeal.main_arg0) = m ((c.tc : Thread Cert.AdamLnBIdeal.nD Cert.AdamLnBIdeal.τ).loc Cert.AdamLnBIdeal.main_arg0)
      ∧ m' ((c.tc : Thread Cert.AdamLnBRefIdeal.nD Cert.AdamLnBRefIdeal.τ).loc Cert.AdamLnBRefIdeal.main_arg1) = m ((c.tc : Thread Cert.AdamLnBIdeal.nD Cert.AdamLnBIdeal.τ).loc Cert.AdamLnBIdeal.main_arg1)
      ∧ m' ((c.tc : Thread Cert.AdamLnBRefIdeal.nD Cert.AdamLnBRefIdeal.τ).loc Cert.AdamLnBRefIdeal.main_arg2) = m ((c.tc : Thread Cert.AdamLnBIdeal.nD Cert.AdamLnBIdeal.τ).loc Cert.AdamLnBIdeal.main_arg2)
      ∧ m' ((c.tc : Thread Cert.AdamLnBRefIdeal.nD Cert.AdamLnBRefIdeal.τ).loc Cert.AdamLnBRefIdeal.main_arg3) = m ((c.tc : Thread Cert.AdamLnBIdeal.nD Cert.AdamLnBIdeal.τ).loc Cert.AdamLnBIdeal.main_arg3)) →
    ∃ (v0 : (c : Dev Cert.AdamLnBIdeal.nD) → Buf (Elt Ideal) ((c.tc : Thread Cert.AdamLnBIdeal.nD Cert.AdamLnBIdeal.τ).loc Cert.AdamLnBIdeal.main_v0_0)) (v1 : (c : Dev Cert.AdamLnBIdeal.nD) → Buf (Elt Ideal) ((c.tc : Thread Cert.AdamLnBIdeal.nD Cert.AdamLnBIdeal.τ).loc Cert.AdamLnBIdeal.main_v0_1)) (v2 : (c : Dev Cert.AdamLnBIdeal.nD) → Buf (Elt Ideal) ((c.tc : Thread Cert.AdamLnBIdeal.nD Cert.AdamLnBIdeal.τ).loc Cert.AdamLnBIdeal.main_v0_2)),
      θ_run (Cert.AdamLnBIdeal.defs (F := Ideal)) (onTc (τ := Cert.AdamLnBIdeal.τ) (Cert.AdamLnBIdeal.main (F := Ideal))) ⟨m, fun _ => 0, g⟩ (fun r => ∀ c : Dev Cert.AdamLnBIdeal.nD,
          r.2.mem ((c.tc : Thread Cert.AdamLnBIdeal.nD Cert.AdamLnBIdeal.τ).loc Cert.AdamLnBIdeal.main_v0_0) = v0 c
          ∧ r.2.mem ((c.tc : Thread Cert.AdamLnBIdeal.nD Cert.AdamLnBIdeal.τ).loc Cert.AdamLnBIdeal.main_v0_1) = v1 c
          ∧ r.2.mem ((c.tc : Thread Cert.AdamLnBIdeal.nD Cert.AdamLnBIdeal.τ).loc Cert.AdamLnBIdeal.main_v0_2) = v2 c
          ∧ r.2.mem ((c.tc : Thread Cert.AdamLnBIdeal.nD Cert.AdamLnBIdeal.τ).loc Cert.AdamLnBIdeal.main_arg0) = m ((c.tc : Thread Cert.AdamLnBIdeal.nD Cert.AdamLnBIdeal.τ).loc Cert.AdamLnBIdeal.main_arg0)
          ∧ r.2.mem ((c.tc : Thread Cert.AdamLnBIdeal.nD Cert.AdamLnBIdeal.τ).loc Cert.AdamLnBIdeal.main_arg1) = m ((c.tc : Thread Cert.AdamLnBIdeal.nD Cert.AdamLnBIdeal.τ).loc Cert.AdamLnBIdeal.main_arg1)
          ∧ r.2.mem ((c.tc : Thread Cert.AdamLnBIdeal.nD Cert.AdamLnBIdeal.τ).loc Cert.AdamLnBIdeal.main_arg2) = m ((c.tc : Thread Cert.AdamLnBIdeal.nD Cert.AdamLnBIdeal.τ).loc Cert.AdamLnBIdeal.main_arg2)
          ∧ r.2.mem ((c.tc : Thread Cert.AdamLnBIdeal.nD Cert.AdamLnBIdeal.τ).loc Cert.AdamLnBIdeal.main_arg3) = m ((c.tc : Thread Cert.AdamLnBIdeal.nD Cert.AdamLnBIdeal.τ).loc Cert.AdamLnBIdeal.main_arg3))
      ∧ θ_run (Cert.AdamLnBRefIdeal.defs (F := Ideal)) (onTc (τ := Cert.AdamLnBRefIdeal.τ) (Cert.AdamLnBRefIdeal.main (F := Ideal))) ⟨m', fun _ => 0, g'⟩ (fun r => ∀ c : Dev Cert.AdamLnBRefIdeal.nD,
          r.2.mem ((c.tc : Thread Cert.AdamLnBRefIdeal.nD Cert.AdamLnBRefIdeal.τ).loc Cert.AdamLnBRefIdeal.main_v23) = v0 c
          ∧ r.2.mem ((c.tc : Thread Cert.AdamLnBRefIdeal.nD Cert.AdamLnBRefIdeal.τ).loc Cert.AdamLnBRefIdeal.main_v4) = v1 c
          ∧ r.2.mem ((c.tc : Thread Cert.AdamLnBRefIdeal.nD Cert.AdamLnBRefIdeal.τ).loc Cert.AdamLnBRefIdeal.main_v10) = v2 c
          ∧ r.2.mem ((c.tc : Thread Cert.AdamLnBRefIdeal.nD Cert.AdamLnBRefIdeal.τ).loc Cert.AdamLnBRefIdeal.main_arg0) = m' ((c.tc : Thread Cert.AdamLnBRefIdeal.nD Cert.AdamLnBRefIdeal.τ).loc Cert.AdamLnBRefIdeal.main_arg0)
          ∧ r.2.mem ((c.tc : Thread Cert.AdamLnBRefIdeal.nD Cert.AdamLnBRefIdeal.τ).loc Cert.AdamLnBRefIdeal.main_arg1) = m' ((c.tc : Thread Cert.AdamLnBRefIdeal.nD Cert.AdamLnBRefIdeal.τ).loc Cert.AdamLnBRefIdeal.main_arg1)
          ∧ r.2.mem ((c.tc : Thread Cert.AdamLnBRefIdeal.nD Cert.AdamLnBRefIdeal.τ).loc Cert.AdamLnBRefIdeal.main_arg2) = m' ((c.tc : Thread Cert.AdamLnBRefIdeal.nD Cert.AdamLnBRefIdeal.τ).loc Cert.AdamLnBRefIdeal.main_arg2)
          ∧ r.2.mem ((c.tc : Thread Cert.AdamLnBRefIdeal.nD Cert.AdamLnBRefIdeal.τ).loc Cert.AdamLnBRefIdeal.main_arg3) = m' ((c.tc : Thread Cert.AdamLnBRefIdeal.nD Cert.AdamLnBRefIdeal.τ).loc Cert.AdamLnBRefIdeal.main_arg3))

def preserves_SlotsIn_SlotsInIdeal : Prop :=
  True

def algebraic_SlotsInIdeal_SlotsInRefIdeal [hSlotsInIdeal : Cert.SlotsInIdeal.Facts] [hSlotsInRefIdeal : Cert.SlotsInRefIdeal.Facts] : Prop :=
  ∀ (m : (ℓ : Loc Cert.SlotsInIdeal.nD Cert.SlotsInIdeal.τ Cert.SlotsInIdeal.sig) → Buf (Elt Ideal) ℓ) (g : Dev Cert.SlotsInIdeal.nD → PrngReg)
    (m' : (ℓ : Loc Cert.SlotsInRefIdeal.nD Cert.SlotsInRefIdeal.τ Cert.SlotsInRefIdeal.sig) → Buf (Elt Ideal) ℓ) (g' : Dev Cert.SlotsInRefIdeal.nD → PrngReg), Pre_SlotsInIdeal m →
    (∀ c : Dev Cert.SlotsInIdeal.nD,
      m' ((c.tc : Thread Cert.SlotsInRefIdeal.nD Cert.SlotsInRefIdeal.τ).loc Cert.SlotsInRefIdeal.main_arg0) = m ((c.tc : Thread Cert.SlotsInIdeal.nD Cert.SlotsInIdeal.τ).loc Cert.SlotsInIdeal.main_arg0)) →
    ∃ (v0 : (c : Dev Cert.SlotsInIdeal.nD) → Buf (Elt Ideal) ((c.tc : Thread Cert.SlotsInIdeal.nD Cert.SlotsInIdeal.τ).loc Cert.SlotsInIdeal.main_v0)),
      θ_run (Cert.SlotsInIdeal.defs (F := Ideal)) (onTc (τ := Cert.SlotsInIdeal.τ) (Cert.SlotsInIdeal.main (F := Ideal))) ⟨m, fun _ => 0, g⟩ (fun r => ∀ c : Dev Cert.SlotsInIdeal.nD,
          r.2.mem ((c.tc : Thread Cert.SlotsInIdeal.nD Cert.SlotsInIdeal.τ).loc Cert.SlotsInIdeal.main_v0) = v0 c
          ∧ r.2.mem ((c.tc : Thread Cert.SlotsInIdeal.nD Cert.SlotsInIdeal.τ).loc Cert.SlotsInIdeal.main_arg0) = m ((c.tc : Thread Cert.SlotsInIdeal.nD Cert.SlotsInIdeal.τ).loc Cert.SlotsInIdeal.main_arg0))
      ∧ θ_run (Cert.SlotsInRefIdeal.defs (F := Ideal)) (onTc (τ := Cert.SlotsInRefIdeal.τ) (Cert.SlotsInRefIdeal.main (F := Ideal))) ⟨m', fun _ => 0, g'⟩ (fun r => ∀ c : Dev Cert.SlotsInRefIdeal.nD,
          r.2.mem ((c.tc : Thread Cert.SlotsInRefIdeal.nD Cert.SlotsInRefIdeal.τ).loc Cert.SlotsInRefIdeal.main_v0) = v0 c
          ∧ r.2.mem ((c.tc : Thread Cert.SlotsInRefIdeal.nD Cert.SlotsInRefIdeal.τ).loc Cert.SlotsInRefIdeal.main_arg0) = m' ((c.tc : Thread Cert.SlotsInRefIdeal.nD Cert.SlotsInRefIdeal.τ).loc Cert.SlotsInRefIdeal.main_arg0))

def preserves_SlotsOut_SlotsOutIdeal : Prop :=
  True

def algebraic_SlotsOutIdeal_SlotsOutRefIdeal [hSlotsOutIdeal : Cert.SlotsOutIdeal.Facts] [hSlotsOutRefIdeal : Cert.SlotsOutRefIdeal.Facts] : Prop :=
  ∀ (m : (ℓ : Loc Cert.SlotsOutIdeal.nD Cert.SlotsOutIdeal.τ Cert.SlotsOutIdeal.sig) → Buf (Elt Ideal) ℓ) (g : Dev Cert.SlotsOutIdeal.nD → PrngReg)
    (m' : (ℓ : Loc Cert.SlotsOutRefIdeal.nD Cert.SlotsOutRefIdeal.τ Cert.SlotsOutRefIdeal.sig) → Buf (Elt Ideal) ℓ) (g' : Dev Cert.SlotsOutRefIdeal.nD → PrngReg), Pre_SlotsOutIdeal m →
    (∀ c : Dev Cert.SlotsOutIdeal.nD,
      m' ((c.tc : Thread Cert.SlotsOutRefIdeal.nD Cert.SlotsOutRefIdeal.τ).loc Cert.SlotsOutRefIdeal.main_arg0) = m ((c.tc : Thread Cert.SlotsOutIdeal.nD Cert.SlotsOutIdeal.τ).loc Cert.SlotsOutIdeal.main_arg0)) →
    ∃ (v0 : (c : Dev Cert.SlotsOutIdeal.nD) → Buf (Elt Ideal) ((c.tc : Thread Cert.SlotsOutIdeal.nD Cert.SlotsOutIdeal.τ).loc Cert.SlotsOutIdeal.main_v0)),
      θ_run (Cert.SlotsOutIdeal.defs (F := Ideal)) (onTc (τ := Cert.SlotsOutIdeal.τ) (Cert.SlotsOutIdeal.main (F := Ideal))) ⟨m, fun _ => 0, g⟩ (fun r => ∀ c : Dev Cert.SlotsOutIdeal.nD,
          r.2.mem ((c.tc : Thread Cert.SlotsOutIdeal.nD Cert.SlotsOutIdeal.τ).loc Cert.SlotsOutIdeal.main_v0) = v0 c
          ∧ r.2.mem ((c.tc : Thread Cert.SlotsOutIdeal.nD Cert.SlotsOutIdeal.τ).loc Cert.SlotsOutIdeal.main_arg0) = m ((c.tc : Thread Cert.SlotsOutIdeal.nD Cert.SlotsOutIdeal.τ).loc Cert.SlotsOutIdeal.main_arg0))
      ∧ θ_run (Cert.SlotsOutRefIdeal.defs (F := Ideal)) (onTc (τ := Cert.SlotsOutRefIdeal.τ) (Cert.SlotsOutRefIdeal.main (F := Ideal))) ⟨m', fun _ => 0, g'⟩ (fun r => ∀ c : Dev Cert.SlotsOutRefIdeal.nD,
          r.2.mem ((c.tc : Thread Cert.SlotsOutRefIdeal.nD Cert.SlotsOutRefIdeal.τ).loc Cert.SlotsOutRefIdeal.main_v0) = v0 c
          ∧ r.2.mem ((c.tc : Thread Cert.SlotsOutRefIdeal.nD Cert.SlotsOutRefIdeal.τ).loc Cert.SlotsOutRefIdeal.main_arg0) = m' ((c.tc : Thread Cert.SlotsOutRefIdeal.nD Cert.SlotsOutRefIdeal.τ).loc Cert.SlotsOutRefIdeal.main_arg0))

def preserves_SlotsKv_SlotsKvIdeal : Prop :=
  True

def algebraic_SlotsKvIdeal_SlotsKvRefIdeal [hSlotsKvIdeal : Cert.SlotsKvIdeal.Facts] [hSlotsKvRefIdeal : Cert.SlotsKvRefIdeal.Facts] : Prop :=
  ∀ (m : (ℓ : Loc Cert.SlotsKvIdeal.nD Cert.SlotsKvIdeal.τ Cert.SlotsKvIdeal.sig) → Buf (Elt Ideal) ℓ) (g : Dev Cert.SlotsKvIdeal.nD → PrngReg)
    (m' : (ℓ : Loc Cert.SlotsKvRefIdeal.nD Cert.SlotsKvRefIdeal.τ Cert.SlotsKvRefIdeal.sig) → Buf (Elt Ideal) ℓ) (g' : Dev Cert.SlotsKvRefIdeal.nD → PrngReg), Pre_SlotsKvIdeal m →
    (∀ c : Dev Cert.SlotsKvIdeal.nD,
      m' ((c.tc : Thread Cert.SlotsKvRefIdeal.nD Cert.SlotsKvRefIdeal.τ).loc Cert.SlotsKvRefIdeal.main_arg0) = m ((c.tc : Thread Cert.SlotsKvIdeal.nD Cert.SlotsKvIdeal.τ).loc Cert.SlotsKvIdeal.main_arg0)) →
    ∃ (v0 : (c : Dev Cert.SlotsKvIdeal.nD) → Buf (Elt Ideal) ((c.tc : Thread Cert.SlotsKvIdeal.nD Cert.SlotsKvIdeal.τ).loc Cert.SlotsKvIdeal.main_v0)),
      θ_run (Cert.SlotsKvIdeal.defs (F := Ideal)) (onTc (τ := Cert.SlotsKvIdeal.τ) (Cert.SlotsKvIdeal.main (F := Ideal))) ⟨m, fun _ => 0, g⟩ (fun r => ∀ c : Dev Cert.SlotsKvIdeal.nD,
          r.2.mem ((c.tc : Thread Cert.SlotsKvIdeal.nD Cert.SlotsKvIdeal.τ).loc Cert.SlotsKvIdeal.main_v0) = v0 c
          ∧ r.2.mem ((c.tc : Thread Cert.SlotsKvIdeal.nD Cert.SlotsKvIdeal.τ).loc Cert.SlotsKvIdeal.main_arg0) = m ((c.tc : Thread Cert.SlotsKvIdeal.nD Cert.SlotsKvIdeal.τ).loc Cert.SlotsKvIdeal.main_arg0))
      ∧ θ_run (Cert.SlotsKvRefIdeal.defs (F := Ideal)) (onTc (τ := Cert.SlotsKvRefIdeal.τ) (Cert.SlotsKvRefIdeal.main (F := Ideal))) ⟨m', fun _ => 0, g'⟩ (fun r => ∀ c : Dev Cert.SlotsKvRefIdeal.nD,
          r.2.mem ((c.tc : Thread Cert.SlotsKvRefIdeal.nD Cert.SlotsKvRefIdeal.τ).loc Cert.SlotsKvRefIdeal.main_v0) = v0 c
          ∧ r.2.mem ((c.tc : Thread Cert.SlotsKvRefIdeal.nD Cert.SlotsKvRefIdeal.τ).loc Cert.SlotsKvRefIdeal.main_arg0) = m' ((c.tc : Thread Cert.SlotsKvRefIdeal.nD Cert.SlotsKvRefIdeal.τ).loc Cert.SlotsKvRefIdeal.main_arg0))

def preserves_HalvesIn_HalvesInIdeal : Prop :=
  True

def algebraic_HalvesInIdeal_HalvesInRefIdeal [hHalvesInIdeal : Cert.HalvesInIdeal.Facts] [hHalvesInRefIdeal : Cert.HalvesInRefIdeal.Facts] [hPre_a_core_w_in : Cert.Pre_a_core_w_in.Facts] : Prop :=
  ∀ (m : (ℓ : Loc Cert.HalvesInIdeal.nD Cert.HalvesInIdeal.τ Cert.HalvesInIdeal.sig) → Buf (Elt Ideal) ℓ) (g : Dev Cert.HalvesInIdeal.nD → PrngReg)
    (m' : (ℓ : Loc Cert.HalvesInRefIdeal.nD Cert.HalvesInRefIdeal.τ Cert.HalvesInRefIdeal.sig) → Buf (Elt Ideal) ℓ) (g' : Dev Cert.HalvesInRefIdeal.nD → PrngReg), Pre_HalvesInIdeal m →
    (∀ c : Dev Cert.HalvesInIdeal.nD,
      m' ((c.tc : Thread Cert.HalvesInRefIdeal.nD Cert.HalvesInRefIdeal.τ).loc Cert.HalvesInRefIdeal.main_arg0) = m ((c.tc : Thread Cert.HalvesInIdeal.nD Cert.HalvesInIdeal.τ).loc Cert.HalvesInIdeal.main_arg0)
      ∧ m' ((c.tc : Thread Cert.HalvesInRefIdeal.nD Cert.HalvesInRefIdeal.τ).loc Cert.HalvesInRefIdeal.main_arg1) = m ((c.tc : Thread Cert.HalvesInIdeal.nD Cert.HalvesInIdeal.τ).loc Cert.HalvesInIdeal.main_arg1)
      ∧ m' ((c.tc : Thread Cert.HalvesInRefIdeal.nD Cert.HalvesInRefIdeal.τ).loc Cert.HalvesInRefIdeal.main_arg2) = m ((c.tc : Thread Cert.HalvesInIdeal.nD Cert.HalvesInIdeal.τ).loc Cert.HalvesInIdeal.main_arg2)) →
    ∃ (v0 : (c : Dev Cert.HalvesInIdeal.nD) → Buf (Elt Ideal) ((c.tc : Thread Cert.HalvesInIdeal.nD Cert.HalvesInIdeal.τ).loc Cert.HalvesInIdeal.main_v0)),
      θ_run (Cert.HalvesInIdeal.defs (F := Ideal)) (onTc (τ := Cert.HalvesInIdeal.τ) (Cert.HalvesInIdeal.main (F := Ideal))) ⟨m, fun _ => 0, g⟩ (fun r => ∀ c : Dev Cert.HalvesInIdeal.nD,
          r.2.mem ((c.tc : Thread Cert.HalvesInIdeal.nD Cert.HalvesInIdeal.τ).loc Cert.HalvesInIdeal.main_v0) = v0 c
          ∧ r.2.mem ((c.tc : Thread Cert.HalvesInIdeal.nD Cert.HalvesInIdeal.τ).loc Cert.HalvesInIdeal.main_arg0) = m ((c.tc : Thread Cert.HalvesInIdeal.nD Cert.HalvesInIdeal.τ).loc Cert.HalvesInIdeal.main_arg0)
          ∧ r.2.mem ((c.tc : Thread Cert.HalvesInIdeal.nD Cert.HalvesInIdeal.τ).loc Cert.HalvesInIdeal.main_arg1) = m ((c.tc : Thread Cert.HalvesInIdeal.nD Cert.HalvesInIdeal.τ).loc Cert.HalvesInIdeal.main_arg1)
          ∧ r.2.mem ((c.tc : Thread Cert.HalvesInIdeal.nD Cert.HalvesInIdeal.τ).loc Cert.HalvesInIdeal.main_arg2) = m ((c.tc : Thread Cert.HalvesInIdeal.nD Cert.HalvesInIdeal.τ).loc Cert.HalvesInIdeal.main_arg2))
      ∧ θ_run (Cert.HalvesInRefIdeal.defs (F := Ideal)) (onTc (τ := Cert.HalvesInRefIdeal.τ) (Cert.HalvesInRefIdeal.main (F := Ideal))) ⟨m', fun _ => 0, g'⟩ (fun r => ∀ c : Dev Cert.HalvesInRefIdeal.nD,
          r.2.mem ((c.tc : Thread Cert.HalvesInRefIdeal.nD Cert.HalvesInRefIdeal.τ).loc Cert.HalvesInRefIdeal.main_v7) = v0 c
          ∧ r.2.mem ((c.tc : Thread Cert.HalvesInRefIdeal.nD Cert.HalvesInRefIdeal.τ).loc Cert.HalvesInRefIdeal.main_arg0) = m' ((c.tc : Thread Cert.HalvesInRefIdeal.nD Cert.HalvesInRefIdeal.τ).loc Cert.HalvesInRefIdeal.main_arg0)
          ∧ r.2.mem ((c.tc : Thread Cert.HalvesInRefIdeal.nD Cert.HalvesInRefIdeal.τ).loc Cert.HalvesInRefIdeal.main_arg1) = m' ((c.tc : Thread Cert.HalvesInRefIdeal.nD Cert.HalvesInRefIdeal.τ).loc Cert.HalvesInRefIdeal.main_arg1)
          ∧ r.2.mem ((c.tc : Thread Cert.HalvesInRefIdeal.nD Cert.HalvesInRefIdeal.τ).loc Cert.HalvesInRefIdeal.main_arg2) = m' ((c.tc : Thread Cert.HalvesInRefIdeal.nD Cert.HalvesInRefIdeal.τ).loc Cert.HalvesInRefIdeal.main_arg2))

def bitexact_HalvesIn_HalvesInRef [hHalvesIn : Cert.HalvesIn.Facts] [hHalvesInRef : Cert.HalvesInRef.Facts] [hPre_a_core_w_in : Cert.Pre_a_core_w_in.Facts] : Prop :=
  ∀ (m : (ℓ : Loc Cert.HalvesIn.nD Cert.HalvesIn.τ Cert.HalvesIn.sig) → Buf (Elt Bits) ℓ) (g : Dev Cert.HalvesIn.nD → PrngReg)
    (m' : (ℓ : Loc Cert.HalvesInRef.nD Cert.HalvesInRef.τ Cert.HalvesInRef.sig) → Buf (Elt Bits) ℓ) (g' : Dev Cert.HalvesInRef.nD → PrngReg), Pre_HalvesIn m →
    (∀ c : Dev Cert.HalvesIn.nD,
      m' ((c.tc : Thread Cert.HalvesInRef.nD Cert.HalvesInRef.τ).loc Cert.HalvesInRef.main_arg0) = m ((c.tc : Thread Cert.HalvesIn.nD Cert.HalvesIn.τ).loc Cert.HalvesIn.main_arg0)
      ∧ m' ((c.tc : Thread Cert.HalvesInRef.nD Cert.HalvesInRef.τ).loc Cert.HalvesInRef.main_arg1) = m ((c.tc : Thread Cert.HalvesIn.nD Cert.HalvesIn.τ).loc Cert.HalvesIn.main_arg1)
      ∧ m' ((c.tc : Thread Cert.HalvesInRef.nD Cert.HalvesInRef.τ).loc Cert.HalvesInRef.main_arg2) = m ((c.tc : Thread Cert.HalvesIn.nD Cert.HalvesIn.τ).loc Cert.HalvesIn.main_arg2)) →
    ∃ (v0 : (c : Dev Cert.HalvesIn.nD) → Buf (Elt Bits) ((c.tc : Thread Cert.HalvesIn.nD Cert.HalvesIn.τ).loc Cert.HalvesIn.main_v0)),
      θ_run (Cert.HalvesIn.defs (F := Bits)) (onTc (τ := Cert.HalvesIn.τ) (Cert.HalvesIn.main (F := Bits))) ⟨m, fun _ => 0, g⟩ (fun r => ∀ c : Dev Cert.HalvesIn.nD,
          r.2.mem ((c.tc : Thread Cert.HalvesIn.nD Cert.HalvesIn.τ).loc Cert.HalvesIn.main_v0) = v0 c
          ∧ r.2.mem ((c.tc : Thread Cert.HalvesIn.nD Cert.HalvesIn.τ).loc Cert.HalvesIn.main_arg0) = m ((c.tc : Thread Cert.HalvesIn.nD Cert.HalvesIn.τ).loc Cert.HalvesIn.main_arg0)
          ∧ r.2.mem ((c.tc : Thread Cert.HalvesIn.nD Cert.HalvesIn.τ).loc Cert.HalvesIn.main_arg1) = m ((c.tc : Thread Cert.HalvesIn.nD Cert.HalvesIn.τ).loc Cert.HalvesIn.main_arg1)
          ∧ r.2.mem ((c.tc : Thread Cert.HalvesIn.nD Cert.HalvesIn.τ).loc Cert.HalvesIn.main_arg2) = m ((c.tc : Thread Cert.HalvesIn.nD Cert.HalvesIn.τ).loc Cert.HalvesIn.main_arg2))
      ∧ θ_run (Cert.HalvesInRef.defs (F := Bits)) (onTc (τ := Cert.HalvesInRef.τ) (Cert.HalvesInRef.main (F := Bits))) ⟨m', fun _ => 0, g'⟩ (fun r => ∀ c : Dev Cert.HalvesInRef.nD,
          r.2.mem ((c.tc : Thread Cert.HalvesInRef.nD Cert.HalvesInRef.τ).loc Cert.HalvesInRef.main_v7) = v0 c
          ∧ r.2.mem ((c.tc : Thread Cert.HalvesInRef.nD Cert.HalvesInRef.τ).loc Cert.HalvesInRef.main_arg0) = m' ((c.tc : Thread Cert.HalvesInRef.nD Cert.HalvesInRef.τ).loc Cert.HalvesInRef.main_arg0)
          ∧ r.2.mem ((c.tc : Thread Cert.HalvesInRef.nD Cert.HalvesInRef.τ).loc Cert.HalvesInRef.main_arg1) = m' ((c.tc : Thread Cert.HalvesInRef.nD Cert.HalvesInRef.τ).loc Cert.HalvesInRef.main_arg1)
          ∧ r.2.mem ((c.tc : Thread Cert.HalvesInRef.nD Cert.HalvesInRef.τ).loc Cert.HalvesInRef.main_arg2) = m' ((c.tc : Thread Cert.HalvesInRef.nD Cert.HalvesInRef.τ).loc Cert.HalvesInRef.main_arg2))

def preserves_HalvesOut_HalvesOutIdeal : Prop :=
  True

def algebraic_HalvesOutIdeal_HalvesOutRefIdeal [hHalvesOutIdeal : Cert.HalvesOutIdeal.Facts] [hHalvesOutRefIdeal : Cert.HalvesOutRefIdeal.Facts] [hPre_a_core_w_out : Cert.Pre_a_core_w_out.Facts] : Prop :=
  ∀ (m : (ℓ : Loc Cert.HalvesOutIdeal.nD Cert.HalvesOutIdeal.τ Cert.HalvesOutIdeal.sig) → Buf (Elt Ideal) ℓ) (g : Dev Cert.HalvesOutIdeal.nD → PrngReg)
    (m' : (ℓ : Loc Cert.HalvesOutRefIdeal.nD Cert.HalvesOutRefIdeal.τ Cert.HalvesOutRefIdeal.sig) → Buf (Elt Ideal) ℓ) (g' : Dev Cert.HalvesOutRefIdeal.nD → PrngReg), Pre_HalvesOutIdeal m →
    (∀ c : Dev Cert.HalvesOutIdeal.nD,
      m' ((c.tc : Thread Cert.HalvesOutRefIdeal.nD Cert.HalvesOutRefIdeal.τ).loc Cert.HalvesOutRefIdeal.main_arg0) = m ((c.tc : Thread Cert.HalvesOutIdeal.nD Cert.HalvesOutIdeal.τ).loc Cert.HalvesOutIdeal.main_arg0)
      ∧ m' ((c.tc : Thread Cert.HalvesOutRefIdeal.nD Cert.HalvesOutRefIdeal.τ).loc Cert.HalvesOutRefIdeal.main_arg1) = m ((c.tc : Thread Cert.HalvesOutIdeal.nD Cert.HalvesOutIdeal.τ).loc Cert.HalvesOutIdeal.main_arg1)
      ∧ m' ((c.tc : Thread Cert.HalvesOutRefIdeal.nD Cert.HalvesOutRefIdeal.τ).loc Cert.HalvesOutRefIdeal.main_arg2) = m ((c.tc : Thread Cert.HalvesOutIdeal.nD Cert.HalvesOutIdeal.τ).loc Cert.HalvesOutIdeal.main_arg2)) →
    ∃ (v0 : (c : Dev Cert.HalvesOutIdeal.nD) → Buf (Elt Ideal) ((c.tc : Thread Cert.HalvesOutIdeal.nD Cert.HalvesOutIdeal.τ).loc Cert.HalvesOutIdeal.main_v0)),
      θ_run (Cert.HalvesOutIdeal.defs (F := Ideal)) (onTc (τ := Cert.HalvesOutIdeal.τ) (Cert.HalvesOutIdeal.main (F := Ideal))) ⟨m, fun _ => 0, g⟩ (fun r => ∀ c : Dev Cert.HalvesOutIdeal.nD,
          r.2.mem ((c.tc : Thread Cert.HalvesOutIdeal.nD Cert.HalvesOutIdeal.τ).loc Cert.HalvesOutIdeal.main_v0) = v0 c
          ∧ r.2.mem ((c.tc : Thread Cert.HalvesOutIdeal.nD Cert.HalvesOutIdeal.τ).loc Cert.HalvesOutIdeal.main_arg0) = m ((c.tc : Thread Cert.HalvesOutIdeal.nD Cert.HalvesOutIdeal.τ).loc Cert.HalvesOutIdeal.main_arg0)
          ∧ r.2.mem ((c.tc : Thread Cert.HalvesOutIdeal.nD Cert.HalvesOutIdeal.τ).loc Cert.HalvesOutIdeal.main_arg1) = m ((c.tc : Thread Cert.HalvesOutIdeal.nD Cert.HalvesOutIdeal.τ).loc Cert.HalvesOutIdeal.main_arg1)
          ∧ r.2.mem ((c.tc : Thread Cert.HalvesOutIdeal.nD Cert.HalvesOutIdeal.τ).loc Cert.HalvesOutIdeal.main_arg2) = m ((c.tc : Thread Cert.HalvesOutIdeal.nD Cert.HalvesOutIdeal.τ).loc Cert.HalvesOutIdeal.main_arg2))
      ∧ θ_run (Cert.HalvesOutRefIdeal.defs (F := Ideal)) (onTc (τ := Cert.HalvesOutRefIdeal.τ) (Cert.HalvesOutRefIdeal.main (F := Ideal))) ⟨m', fun _ => 0, g'⟩ (fun r => ∀ c : Dev Cert.HalvesOutRefIdeal.nD,
          r.2.mem ((c.tc : Thread Cert.HalvesOutRefIdeal.nD Cert.HalvesOutRefIdeal.τ).loc Cert.HalvesOutRefIdeal.main_v7) = v0 c
          ∧ r.2.mem ((c.tc : Thread Cert.HalvesOutRefIdeal.nD Cert.HalvesOutRefIdeal.τ).loc Cert.HalvesOutRefIdeal.main_arg0) = m' ((c.tc : Thread Cert.HalvesOutRefIdeal.nD Cert.HalvesOutRefIdeal.τ).loc Cert.HalvesOutRefIdeal.main_arg0)
          ∧ r.2.mem ((c.tc : Thread Cert.HalvesOutRefIdeal.nD Cert.HalvesOutRefIdeal.τ).loc Cert.HalvesOutRefIdeal.main_arg1) = m' ((c.tc : Thread Cert.HalvesOutRefIdeal.nD Cert.HalvesOutRefIdeal.τ).loc Cert.HalvesOutRefIdeal.main_arg1)
          ∧ r.2.mem ((c.tc : Thread Cert.HalvesOutRefIdeal.nD Cert.HalvesOutRefIdeal.τ).loc Cert.HalvesOutRefIdeal.main_arg2) = m' ((c.tc : Thread Cert.HalvesOutRefIdeal.nD Cert.HalvesOutRefIdeal.τ).loc Cert.HalvesOutRefIdeal.main_arg2))

def bitexact_HalvesOut_HalvesOutRef [hHalvesOut : Cert.HalvesOut.Facts] [hHalvesOutRef : Cert.HalvesOutRef.Facts] [hPre_a_core_w_out : Cert.Pre_a_core_w_out.Facts] : Prop :=
  ∀ (m : (ℓ : Loc Cert.HalvesOut.nD Cert.HalvesOut.τ Cert.HalvesOut.sig) → Buf (Elt Bits) ℓ) (g : Dev Cert.HalvesOut.nD → PrngReg)
    (m' : (ℓ : Loc Cert.HalvesOutRef.nD Cert.HalvesOutRef.τ Cert.HalvesOutRef.sig) → Buf (Elt Bits) ℓ) (g' : Dev Cert.HalvesOutRef.nD → PrngReg), Pre_HalvesOut m →
    (∀ c : Dev Cert.HalvesOut.nD,
      m' ((c.tc : Thread Cert.HalvesOutRef.nD Cert.HalvesOutRef.τ).loc Cert.HalvesOutRef.main_arg0) = m ((c.tc : Thread Cert.HalvesOut.nD Cert.HalvesOut.τ).loc Cert.HalvesOut.main_arg0)
      ∧ m' ((c.tc : Thread Cert.HalvesOutRef.nD Cert.HalvesOutRef.τ).loc Cert.HalvesOutRef.main_arg1) = m ((c.tc : Thread Cert.HalvesOut.nD Cert.HalvesOut.τ).loc Cert.HalvesOut.main_arg1)
      ∧ m' ((c.tc : Thread Cert.HalvesOutRef.nD Cert.HalvesOutRef.τ).loc Cert.HalvesOutRef.main_arg2) = m ((c.tc : Thread Cert.HalvesOut.nD Cert.HalvesOut.τ).loc Cert.HalvesOut.main_arg2)) →
    ∃ (v0 : (c : Dev Cert.HalvesOut.nD) → Buf (Elt Bits) ((c.tc : Thread Cert.HalvesOut.nD Cert.HalvesOut.τ).loc Cert.HalvesOut.main_v0)),
      θ_run (Cert.HalvesOut.defs (F := Bits)) (onTc (τ := Cert.HalvesOut.τ) (Cert.HalvesOut.main (F := Bits))) ⟨m, fun _ => 0, g⟩ (fun r => ∀ c : Dev Cert.HalvesOut.nD,
          r.2.mem ((c.tc : Thread Cert.HalvesOut.nD Cert.HalvesOut.τ).loc Cert.HalvesOut.main_v0) = v0 c
          ∧ r.2.mem ((c.tc : Thread Cert.HalvesOut.nD Cert.HalvesOut.τ).loc Cert.HalvesOut.main_arg0) = m ((c.tc : Thread Cert.HalvesOut.nD Cert.HalvesOut.τ).loc Cert.HalvesOut.main_arg0)
          ∧ r.2.mem ((c.tc : Thread Cert.HalvesOut.nD Cert.HalvesOut.τ).loc Cert.HalvesOut.main_arg1) = m ((c.tc : Thread Cert.HalvesOut.nD Cert.HalvesOut.τ).loc Cert.HalvesOut.main_arg1)
          ∧ r.2.mem ((c.tc : Thread Cert.HalvesOut.nD Cert.HalvesOut.τ).loc Cert.HalvesOut.main_arg2) = m ((c.tc : Thread Cert.HalvesOut.nD Cert.HalvesOut.τ).loc Cert.HalvesOut.main_arg2))
      ∧ θ_run (Cert.HalvesOutRef.defs (F := Bits)) (onTc (τ := Cert.HalvesOutRef.τ) (Cert.HalvesOutRef.main (F := Bits))) ⟨m', fun _ => 0, g'⟩ (fun r => ∀ c : Dev Cert.HalvesOutRef.nD,
          r.2.mem ((c.tc : Thread Cert.HalvesOutRef.nD Cert.HalvesOutRef.τ).loc Cert.HalvesOutRef.main_v7) = v0 c
          ∧ r.2.mem ((c.tc : Thread Cert.HalvesOutRef.nD Cert.HalvesOutRef.τ).loc Cert.HalvesOutRef.main_arg0) = m' ((c.tc : Thread Cert.HalvesOutRef.nD Cert.HalvesOutRef.τ).loc Cert.HalvesOutRef.main_arg0)
          ∧ r.2.mem ((c.tc : Thread Cert.HalvesOutRef.nD Cert.HalvesOutRef.τ).loc Cert.HalvesOutRef.main_arg1) = m' ((c.tc : Thread Cert.HalvesOutRef.nD Cert.HalvesOutRef.τ).loc Cert.HalvesOutRef.main_arg1)
          ∧ r.2.mem ((c.tc : Thread Cert.HalvesOutRef.nD Cert.HalvesOutRef.τ).loc Cert.HalvesOutRef.main_arg2) = m' ((c.tc : Thread Cert.HalvesOutRef.nD Cert.HalvesOutRef.τ).loc Cert.HalvesOutRef.main_arg2))

def preserves_HalvesKv_HalvesKvIdeal : Prop :=
  True

def algebraic_HalvesKvIdeal_HalvesKvRefIdeal [hHalvesKvIdeal : Cert.HalvesKvIdeal.Facts] [hHalvesKvRefIdeal : Cert.HalvesKvRefIdeal.Facts] [hPre_a_core_w_kv : Cert.Pre_a_core_w_kv.Facts] : Prop :=
  ∀ (m : (ℓ : Loc Cert.HalvesKvIdeal.nD Cert.HalvesKvIdeal.τ Cert.HalvesKvIdeal.sig) → Buf (Elt Ideal) ℓ) (g : Dev Cert.HalvesKvIdeal.nD → PrngReg)
    (m' : (ℓ : Loc Cert.HalvesKvRefIdeal.nD Cert.HalvesKvRefIdeal.τ Cert.HalvesKvRefIdeal.sig) → Buf (Elt Ideal) ℓ) (g' : Dev Cert.HalvesKvRefIdeal.nD → PrngReg), Pre_HalvesKvIdeal m →
    (∀ c : Dev Cert.HalvesKvIdeal.nD,
      m' ((c.tc : Thread Cert.HalvesKvRefIdeal.nD Cert.HalvesKvRefIdeal.τ).loc Cert.HalvesKvRefIdeal.main_arg0) = m ((c.tc : Thread Cert.HalvesKvIdeal.nD Cert.HalvesKvIdeal.τ).loc Cert.HalvesKvIdeal.main_arg0)
      ∧ m' ((c.tc : Thread Cert.HalvesKvRefIdeal.nD Cert.HalvesKvRefIdeal.τ).loc Cert.HalvesKvRefIdeal.main_arg1) = m ((c.tc : Thread Cert.HalvesKvIdeal.nD Cert.HalvesKvIdeal.τ).loc Cert.HalvesKvIdeal.main_arg1)
      ∧ m' ((c.tc : Thread Cert.HalvesKvRefIdeal.nD Cert.HalvesKvRefIdeal.τ).loc Cert.HalvesKvRefIdeal.main_arg2) = m ((c.tc : Thread Cert.HalvesKvIdeal.nD Cert.HalvesKvIdeal.τ).loc Cert.HalvesKvIdeal.main_arg2)) →
    ∃ (v0 : (c : Dev Cert.HalvesKvIdeal.nD) → Buf (Elt Ideal) ((c.tc : Thread Cert.HalvesKvIdeal.nD Cert.HalvesKvIdeal.τ).loc Cert.HalvesKvIdeal.main_v0)),
      θ_run (Cert.HalvesKvIdeal.defs (F := Ideal)) (onTc (τ := Cert.HalvesKvIdeal.τ) (Cert.HalvesKvIdeal.main (F := Ideal))) ⟨m, fun _ => 0, g⟩ (fun r => ∀ c : Dev Cert.HalvesKvIdeal.nD,
          r.2.mem ((c.tc : Thread Cert.HalvesKvIdeal.nD Cert.HalvesKvIdeal.τ).loc Cert.HalvesKvIdeal.main_v0) = v0 c
          ∧ r.2.mem ((c.tc : Thread Cert.HalvesKvIdeal.nD Cert.HalvesKvIdeal.τ).loc Cert.HalvesKvIdeal.main_arg0) = m ((c.tc : Thread Cert.HalvesKvIdeal.nD Cert.HalvesKvIdeal.τ).loc Cert.HalvesKvIdeal.main_arg0)
          ∧ r.2.mem ((c.tc : Thread Cert.HalvesKvIdeal.nD Cert.HalvesKvIdeal.τ).loc Cert.HalvesKvIdeal.main_arg1) = m ((c.tc : Thread Cert.HalvesKvIdeal.nD Cert.HalvesKvIdeal.τ).loc Cert.HalvesKvIdeal.main_arg1)
          ∧ r.2.mem ((c.tc : Thread Cert.HalvesKvIdeal.nD Cert.HalvesKvIdeal.τ).loc Cert.HalvesKvIdeal.main_arg2) = m ((c.tc : Thread Cert.HalvesKvIdeal.nD Cert.HalvesKvIdeal.τ).loc Cert.HalvesKvIdeal.main_arg2))
      ∧ θ_run (Cert.HalvesKvRefIdeal.defs (F := Ideal)) (onTc (τ := Cert.HalvesKvRefIdeal.τ) (Cert.HalvesKvRefIdeal.main (F := Ideal))) ⟨m', fun _ => 0, g'⟩ (fun r => ∀ c : Dev Cert.HalvesKvRefIdeal.nD,
          r.2.mem ((c.tc : Thread Cert.HalvesKvRefIdeal.nD Cert.HalvesKvRefIdeal.τ).loc Cert.HalvesKvRefIdeal.main_v7) = v0 c
          ∧ r.2.mem ((c.tc : Thread Cert.HalvesKvRefIdeal.nD Cert.HalvesKvRefIdeal.τ).loc Cert.HalvesKvRefIdeal.main_arg0) = m' ((c.tc : Thread Cert.HalvesKvRefIdeal.nD Cert.HalvesKvRefIdeal.τ).loc Cert.HalvesKvRefIdeal.main_arg0)
          ∧ r.2.mem ((c.tc : Thread Cert.HalvesKvRefIdeal.nD Cert.HalvesKvRefIdeal.τ).loc Cert.HalvesKvRefIdeal.main_arg1) = m' ((c.tc : Thread Cert.HalvesKvRefIdeal.nD Cert.HalvesKvRefIdeal.τ).loc Cert.HalvesKvRefIdeal.main_arg1)
          ∧ r.2.mem ((c.tc : Thread Cert.HalvesKvRefIdeal.nD Cert.HalvesKvRefIdeal.τ).loc Cert.HalvesKvRefIdeal.main_arg2) = m' ((c.tc : Thread Cert.HalvesKvRefIdeal.nD Cert.HalvesKvRefIdeal.τ).loc Cert.HalvesKvRefIdeal.main_arg2))

def bitexact_HalvesKv_HalvesKvRef [hHalvesKv : Cert.HalvesKv.Facts] [hHalvesKvRef : Cert.HalvesKvRef.Facts] [hPre_a_core_w_kv : Cert.Pre_a_core_w_kv.Facts] : Prop :=
  ∀ (m : (ℓ : Loc Cert.HalvesKv.nD Cert.HalvesKv.τ Cert.HalvesKv.sig) → Buf (Elt Bits) ℓ) (g : Dev Cert.HalvesKv.nD → PrngReg)
    (m' : (ℓ : Loc Cert.HalvesKvRef.nD Cert.HalvesKvRef.τ Cert.HalvesKvRef.sig) → Buf (Elt Bits) ℓ) (g' : Dev Cert.HalvesKvRef.nD → PrngReg), Pre_HalvesKv m →
    (∀ c : Dev Cert.HalvesKv.nD,
      m' ((c.tc : Thread Cert.HalvesKvRef.nD Cert.HalvesKvRef.τ).loc Cert.HalvesKvRef.main_arg0) = m ((c.tc : Thread Cert.HalvesKv.nD Cert.HalvesKv.τ).loc Cert.HalvesKv.main_arg0)
      ∧ m' ((c.tc : Thread Cert.HalvesKvRef.nD Cert.HalvesKvRef.τ).loc Cert.HalvesKvRef.main_arg1) = m ((c.tc : Thread Cert.HalvesKv.nD Cert.HalvesKv.τ).loc Cert.HalvesKv.main_arg1)
      ∧ m' ((c.tc : Thread Cert.HalvesKvRef.nD Cert.HalvesKvRef.τ).loc Cert.HalvesKvRef.main_arg2) = m ((c.tc : Thread Cert.HalvesKv.nD Cert.HalvesKv.τ).loc Cert.HalvesKv.main_arg2)) →
    ∃ (v0 : (c : Dev Cert.HalvesKv.nD) → Buf (Elt Bits) ((c.tc : Thread Cert.HalvesKv.nD Cert.HalvesKv.τ).loc Cert.HalvesKv.main_v0)),
      θ_run (Cert.HalvesKv.defs (F := Bits)) (onTc (τ := Cert.HalvesKv.τ) (Cert.HalvesKv.main (F := Bits))) ⟨m, fun _ => 0, g⟩ (fun r => ∀ c : Dev Cert.HalvesKv.nD,
          r.2.mem ((c.tc : Thread Cert.HalvesKv.nD Cert.HalvesKv.τ).loc Cert.HalvesKv.main_v0) = v0 c
          ∧ r.2.mem ((c.tc : Thread Cert.HalvesKv.nD Cert.HalvesKv.τ).loc Cert.HalvesKv.main_arg0) = m ((c.tc : Thread Cert.HalvesKv.nD Cert.HalvesKv.τ).loc Cert.HalvesKv.main_arg0)
          ∧ r.2.mem ((c.tc : Thread Cert.HalvesKv.nD Cert.HalvesKv.τ).loc Cert.HalvesKv.main_arg1) = m ((c.tc : Thread Cert.HalvesKv.nD Cert.HalvesKv.τ).loc Cert.HalvesKv.main_arg1)
          ∧ r.2.mem ((c.tc : Thread Cert.HalvesKv.nD Cert.HalvesKv.τ).loc Cert.HalvesKv.main_arg2) = m ((c.tc : Thread Cert.HalvesKv.nD Cert.HalvesKv.τ).loc Cert.HalvesKv.main_arg2))
      ∧ θ_run (Cert.HalvesKvRef.defs (F := Bits)) (onTc (τ := Cert.HalvesKvRef.τ) (Cert.HalvesKvRef.main (F := Bits))) ⟨m', fun _ => 0, g'⟩ (fun r => ∀ c : Dev Cert.HalvesKvRef.nD,
          r.2.mem ((c.tc : Thread Cert.HalvesKvRef.nD Cert.HalvesKvRef.τ).loc Cert.HalvesKvRef.main_v7) = v0 c
          ∧ r.2.mem ((c.tc : Thread Cert.HalvesKvRef.nD Cert.HalvesKvRef.τ).loc Cert.HalvesKvRef.main_arg0) = m' ((c.tc : Thread Cert.HalvesKvRef.nD Cert.HalvesKvRef.τ).loc Cert.HalvesKvRef.main_arg0)
          ∧ r.2.mem ((c.tc : Thread Cert.HalvesKvRef.nD Cert.HalvesKvRef.τ).loc Cert.HalvesKvRef.main_arg1) = m' ((c.tc : Thread Cert.HalvesKvRef.nD Cert.HalvesKvRef.τ).loc Cert.HalvesKvRef.main_arg1)
          ∧ r.2.mem ((c.tc : Thread Cert.HalvesKvRef.nD Cert.HalvesKvRef.τ).loc Cert.HalvesKvRef.main_arg2) = m' ((c.tc : Thread Cert.HalvesKvRef.nD Cert.HalvesKvRef.τ).loc Cert.HalvesKvRef.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v15) = v0 c
          ∧ r.2.mem ((c.tc : Thread Cert.LossRefIdeal.nD Cert.LossRefIdeal.τ).loc Cert.LossRefIdeal.main_v14) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v0) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v0) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_GradKv_GradKvIdeal : Prop :=
  True

def algebraic_GradKvIdeal_GradKvRefIdeal [hGradKvIdeal : Cert.GradKvIdeal.Facts] [hGradKvRefIdeal : Cert.GradKvRefIdeal.Facts] : Prop :=
  ∀ (m : (ℓ : Loc Cert.GradKvIdeal.nD Cert.GradKvIdeal.τ Cert.GradKvIdeal.sig) → Buf (Elt Ideal) ℓ) (g : Dev Cert.GradKvIdeal.nD → PrngReg)
    (m' : (ℓ : Loc Cert.GradKvRefIdeal.nD Cert.GradKvRefIdeal.τ Cert.GradKvRefIdeal.sig) → Buf (Elt Ideal) ℓ) (g' : Dev Cert.GradKvRefIdeal.nD → PrngReg), Pre_GradKvIdeal m →
    (∀ c : Dev Cert.GradKvIdeal.nD,
      m' ((c.tc : Thread Cert.GradKvRefIdeal.nD Cert.GradKvRefIdeal.τ).loc Cert.GradKvRefIdeal.main_arg0) = m ((c.tc : Thread Cert.GradKvIdeal.nD Cert.GradKvIdeal.τ).loc Cert.GradKvIdeal.main_arg0)
      ∧ m' ((c.tc : Thread Cert.GradKvRefIdeal.nD Cert.GradKvRefIdeal.τ).loc Cert.GradKvRefIdeal.main_arg1) = m ((c.tc : Thread Cert.GradKvIdeal.nD Cert.GradKvIdeal.τ).loc Cert.GradKvIdeal.main_arg1)) →
    ∃ (v0 : (c : Dev Cert.GradKvIdeal.nD) → Buf (Elt Ideal) ((c.tc : Thread Cert.GradKvIdeal.nD Cert.GradKvIdeal.τ).loc Cert.GradKvIdeal.main_v0)),
      θ_run (Cert.GradKvIdeal.defs (F := Ideal)) (onTc (τ := Cert.GradKvIdeal.τ) (Cert.GradKvIdeal.main (F := Ideal))) ⟨m, fun _ => 0, g⟩ (fun r => ∀ c : Dev Cert.GradKvIdeal.nD,
          r.2.mem ((c.tc : Thread Cert.GradKvIdeal.nD Cert.GradKvIdeal.τ).loc Cert.GradKvIdeal.main_v0) = v0 c
          ∧ r.2.mem ((c.tc : Thread Cert.GradKvIdeal.nD Cert.GradKvIdeal.τ).loc Cert.GradKvIdeal.main_arg0) = m ((c.tc : Thread Cert.GradKvIdeal.nD Cert.GradKvIdeal.τ).loc Cert.GradKvIdeal.main_arg0)
          ∧ r.2.mem ((c.tc : Thread Cert.GradKvIdeal.nD Cert.GradKvIdeal.τ).loc Cert.GradKvIdeal.main_arg1) = m ((c.tc : Thread Cert.GradKvIdeal.nD Cert.GradKvIdeal.τ).loc Cert.GradKvIdeal.main_arg1))
      ∧ θ_run (Cert.GradKvRefIdeal.defs (F := Ideal)) (onTc (τ := Cert.GradKvRefIdeal.τ) (Cert.GradKvRefIdeal.main (F := Ideal))) ⟨m', fun _ => 0, g'⟩ (fun r => ∀ c : Dev Cert.GradKvRefIdeal.nD,
          r.2.mem ((c.tc : Thread Cert.GradKvRefIdeal.nD Cert.GradKvRefIdeal.τ).loc Cert.GradKvRefIdeal.main_v1) = v0 c
          ∧ r.2.mem ((c.tc : Thread Cert.GradKvRefIdeal.nD Cert.GradKvRefIdeal.τ).loc Cert.GradKvRefIdeal.main_arg0) = m' ((c.tc : Thread Cert.GradKvRefIdeal.nD Cert.GradKvRefIdeal.τ).loc Cert.GradKvRefIdeal.main_arg0)
          ∧ r.2.mem ((c.tc : Thread Cert.GradKvRefIdeal.nD Cert.GradKvRefIdeal.τ).loc Cert.GradKvRefIdeal.main_arg1) = m' ((c.tc : Thread Cert.GradKvRefIdeal.nD Cert.GradKvRefIdeal.τ).loc Cert.GradKvRefIdeal.main_arg1))

def preserves_GradX_GradXIdeal : Prop :=
  True

def algebraic_GradXIdeal_GradXRefIdeal [hGradXIdeal : Cert.GradXIdeal.Facts] [hGradXRefIdeal : Cert.GradXRefIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXRefIdeal.nD Cert.GradXRefIdeal.τ Cert.GradXRefIdeal.sig) → Buf (Elt Ideal) ℓ) (g' : Dev Cert.GradXRefIdeal.nD → PrngReg), Pre_GradXIdeal m →
    (∀ c : Dev Cert.GradXIdeal.nD,
      m' ((c.tc : Thread Cert.GradXRefIdeal.nD Cert.GradXRefIdeal.τ).loc Cert.GradXRefIdeal.main_arg0) = m ((c.tc : Thread Cert.GradXIdeal.nD Cert.GradXIdeal.τ).loc Cert.GradXIdeal.main_arg0)
      ∧ m' ((c.tc : Thread Cert.GradXRefIdeal.nD Cert.GradXRefIdeal.τ).loc Cert.GradXRefIdeal.main_arg1) = m ((c.tc : Thread Cert.GradXIdeal.nD Cert.GradXIdeal.τ).loc Cert.GradXIdeal.main_arg1)
      ∧ m' ((c.tc : Thread Cert.GradXRefIdeal.nD Cert.GradXRefIdeal.τ).loc Cert.GradXRefIdeal.main_arg2) = m ((c.tc : Thread Cert.GradXIdeal.nD Cert.GradXIdeal.τ).loc Cert.GradXIdeal.main_arg2)) →
    ∃ (v0 : (c : Dev Cert.GradXIdeal.nD) → Buf (Elt Ideal) ((c.tc : Thread Cert.GradXIdeal.nD Cert.GradXIdeal.τ).loc Cert.GradXIdeal.main_v0)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v0) = v0 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2))
      ∧ θ_run (Cert.GradXRefIdeal.defs (F := Ideal)) (onTc (τ := Cert.GradXRefIdeal.τ) (Cert.GradXRefIdeal.main (F := Ideal))) ⟨m', fun _ => 0, g'⟩ (fun r => ∀ c : Dev Cert.GradXRefIdeal.nD,
          r.2.mem ((c.tc : Thread Cert.GradXRefIdeal.nD Cert.GradXRefIdeal.τ).loc Cert.GradXRefIdeal.main_v3) = v0 c
          ∧ r.2.mem ((c.tc : Thread Cert.GradXRefIdeal.nD Cert.GradXRefIdeal.τ).loc Cert.GradXRefIdeal.main_arg0) = m' ((c.tc : Thread Cert.GradXRefIdeal.nD Cert.GradXRefIdeal.τ).loc Cert.GradXRefIdeal.main_arg0)
          ∧ r.2.mem ((c.tc : Thread Cert.GradXRefIdeal.nD Cert.GradXRefIdeal.τ).loc Cert.GradXRefIdeal.main_arg1) = m' ((c.tc : Thread Cert.GradXRefIdeal.nD Cert.GradXRefIdeal.τ).loc Cert.GradXRefIdeal.main_arg1)
          ∧ r.2.mem ((c.tc : Thread Cert.GradXRefIdeal.nD Cert.GradXRefIdeal.τ).loc Cert.GradXRefIdeal.main_arg2) = m' ((c.tc : Thread Cert.GradXRefIdeal.nD Cert.GradXRefIdeal.τ).loc Cert.GradXRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)) (v3 : (c : Dev Cert.NormIdeal.nD) → Buf (Elt Ideal) ((c.tc : Thread Cert.NormIdeal.nD Cert.NormIdeal.τ).loc Cert.NormIdeal.main_v0_3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_v0_3) = v3 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v25) = v0 c
          ∧ r.2.mem ((c.tc : Thread Cert.NormRefIdeal.nD Cert.NormRefIdeal.τ).loc Cert.NormRefIdeal.main_v26) = v1 c
          ∧ r.2.mem ((c.tc : Thread Cert.NormRefIdeal.nD Cert.NormRefIdeal.τ).loc Cert.NormRefIdeal.main_v21) = v2 c
          ∧ r.2.mem ((c.tc : Thread Cert.NormRefIdeal.nD Cert.NormRefIdeal.τ).loc Cert.NormRefIdeal.main_v17) = v3 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v1) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v1) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_GradCat_GradCatIdeal : Prop :=
  True

def algebraic_GradCatIdeal_GradCatRefIdeal [hGradCatIdeal : Cert.GradCatIdeal.Facts] [hGradCatRefIdeal : Cert.GradCatRefIdeal.Facts] : Prop :=
  ∀ (m : (ℓ : Loc Cert.GradCatIdeal.nD Cert.GradCatIdeal.τ Cert.GradCatIdeal.sig) → Buf (Elt Ideal) ℓ) (g : Dev Cert.GradCatIdeal.nD → PrngReg)
    (m' : (ℓ : Loc Cert.GradCatRefIdeal.nD Cert.GradCatRefIdeal.τ Cert.GradCatRefIdeal.sig) → Buf (Elt Ideal) ℓ) (g' : Dev Cert.GradCatRefIdeal.nD → PrngReg), Pre_GradCatIdeal m →
    (∀ c : Dev Cert.GradCatIdeal.nD,
      m' ((c.tc : Thread Cert.GradCatRefIdeal.nD Cert.GradCatRefIdeal.τ).loc Cert.GradCatRefIdeal.main_arg0) = m ((c.tc : Thread Cert.GradCatIdeal.nD Cert.GradCatIdeal.τ).loc Cert.GradCatIdeal.main_arg0)
      ∧ m' ((c.tc : Thread Cert.GradCatRefIdeal.nD Cert.GradCatRefIdeal.τ).loc Cert.GradCatRefIdeal.main_arg1) = m ((c.tc : Thread Cert.GradCatIdeal.nD Cert.GradCatIdeal.τ).loc Cert.GradCatIdeal.main_arg1)) →
    ∃ (v0 : (c : Dev Cert.GradCatIdeal.nD) → Buf (Elt Ideal) ((c.tc : Thread Cert.GradCatIdeal.nD Cert.GradCatIdeal.τ).loc Cert.GradCatIdeal.main_v0)),
      θ_run (Cert.GradCatIdeal.defs (F := Ideal)) (onTc (τ := Cert.GradCatIdeal.τ) (Cert.GradCatIdeal.main (F := Ideal))) ⟨m, fun _ => 0, g⟩ (fun r => ∀ c : Dev Cert.GradCatIdeal.nD,
          r.2.mem ((c.tc : Thread Cert.GradCatIdeal.nD Cert.GradCatIdeal.τ).loc Cert.GradCatIdeal.main_v0) = v0 c
          ∧ r.2.mem ((c.tc : Thread Cert.GradCatIdeal.nD Cert.GradCatIdeal.τ).loc Cert.GradCatIdeal.main_arg0) = m ((c.tc : Thread Cert.GradCatIdeal.nD Cert.GradCatIdeal.τ).loc Cert.GradCatIdeal.main_arg0)
          ∧ r.2.mem ((c.tc : Thread Cert.GradCatIdeal.nD Cert.GradCatIdeal.τ).loc Cert.GradCatIdeal.main_arg1) = m ((c.tc : Thread Cert.GradCatIdeal.nD Cert.GradCatIdeal.τ).loc Cert.GradCatIdeal.main_arg1))
      ∧ θ_run (Cert.GradCatRefIdeal.defs (F := Ideal)) (onTc (τ := Cert.GradCatRefIdeal.τ) (Cert.GradCatRefIdeal.main (F := Ideal))) ⟨m', fun _ => 0, g'⟩ (fun r => ∀ c : Dev Cert.GradCatRefIdeal.nD,
          r.2.mem ((c.tc : Thread Cert.GradCatRefIdeal.nD Cert.GradCatRefIdeal.τ).loc Cert.GradCatRefIdeal.main_v1) = v0 c
          ∧ r.2.mem ((c.tc : Thread Cert.GradCatRefIdeal.nD Cert.GradCatRefIdeal.τ).loc Cert.GradCatRefIdeal.main_arg0) = m' ((c.tc : Thread Cert.GradCatRefIdeal.nD Cert.GradCatRefIdeal.τ).loc Cert.GradCatRefIdeal.main_arg0)
          ∧ r.2.mem ((c.tc : Thread Cert.GradCatRefIdeal.nD Cert.GradCatRefIdeal.τ).loc Cert.GradCatRefIdeal.main_arg1) = m' ((c.tc : Thread Cert.GradCatRefIdeal.nD Cert.GradCatRefIdeal.τ).loc Cert.GradCatRefIdeal.main_arg1))

def preserves_GradNorm_GradNormIdeal : Prop :=
  True

def algebraic_GradNormIdeal_GradNormRefIdeal [hGradNormIdeal : Cert.GradNormIdeal.Facts] [hGradNormRefIdeal : Cert.GradNormRefIdeal.Facts] : Prop :=
  ∀ (m : (ℓ : Loc Cert.GradNormIdeal.nD Cert.GradNormIdeal.τ Cert.GradNormIdeal.sig) → Buf (Elt Ideal) ℓ) (g : Dev Cert.GradNormIdeal.nD → PrngReg)
    (m' : (ℓ : Loc Cert.GradNormRefIdeal.nD Cert.GradNormRefIdeal.τ Cert.GradNormRefIdeal.sig) → Buf (Elt Ideal) ℓ) (g' : Dev Cert.GradNormRefIdeal.nD → PrngReg), Pre_GradNormIdeal m →
    (∀ c : Dev Cert.GradNormIdeal.nD,
      m' ((c.tc : Thread Cert.GradNormRefIdeal.nD Cert.GradNormRefIdeal.τ).loc Cert.GradNormRefIdeal.main_arg0) = m ((c.tc : Thread Cert.GradNormIdeal.nD Cert.GradNormIdeal.τ).loc Cert.GradNormIdeal.main_arg0)
      ∧ m' ((c.tc : Thread Cert.GradNormRefIdeal.nD Cert.GradNormRefIdeal.τ).loc Cert.GradNormRefIdeal.main_arg1) = m ((c.tc : Thread Cert.GradNormIdeal.nD Cert.GradNormIdeal.τ).loc Cert.GradNormIdeal.main_arg1)
      ∧ m' ((c.tc : Thread Cert.GradNormRefIdeal.nD Cert.GradNormRefIdeal.τ).loc Cert.GradNormRefIdeal.main_arg2) = m ((c.tc : Thread Cert.GradNormIdeal.nD Cert.GradNormIdeal.τ).loc Cert.GradNormIdeal.main_arg2)
      ∧ m' ((c.tc : Thread Cert.GradNormRefIdeal.nD Cert.GradNormRefIdeal.τ).loc Cert.GradNormRefIdeal.main_arg3) = m ((c.tc : Thread Cert.GradNormIdeal.nD Cert.GradNormIdeal.τ).loc Cert.GradNormIdeal.main_arg3)) →
    ∃ (v0 : (c : Dev Cert.GradNormIdeal.nD) → Buf (Elt Ideal) ((c.tc : Thread Cert.GradNormIdeal.nD Cert.GradNormIdeal.τ).loc Cert.GradNormIdeal.main_v0_0)) (v1 : (c : Dev Cert.GradNormIdeal.nD) → Buf (Elt Ideal) ((c.tc : Thread Cert.GradNormIdeal.nD Cert.GradNormIdeal.τ).loc Cert.GradNormIdeal.main_v0_1)) (v2 : (c : Dev Cert.GradNormIdeal.nD) → Buf (Elt Ideal) ((c.tc : Thread Cert.GradNormIdeal.nD Cert.GradNormIdeal.τ).loc Cert.GradNormIdeal.main_v0_2)) (v3 : (c : Dev Cert.GradNormIdeal.nD) → Buf (Elt Ideal) ((c.tc : Thread Cert.GradNormIdeal.nD Cert.GradNormIdeal.τ).loc Cert.GradNormIdeal.main_v0_3)),
      θ_run (Cert.GradNormIdeal.defs (F := Ideal)) (onTc (τ := Cert.GradNormIdeal.τ) (Cert.GradNormIdeal.main (F := Ideal))) ⟨m, fun _ => 0, g⟩ (fun r => ∀ c : Dev Cert.GradNormIdeal.nD,
          r.2.mem ((c.tc : Thread Cert.GradNormIdeal.nD Cert.GradNormIdeal.τ).loc Cert.GradNormIdeal.main_v0_0) = v0 c
          ∧ r.2.mem ((c.tc : Thread Cert.GradNormIdeal.nD Cert.GradNormIdeal.τ).loc Cert.GradNormIdeal.main_v0_1) = v1 c
          ∧ r.2.mem ((c.tc : Thread Cert.GradNormIdeal.nD Cert.GradNormIdeal.τ).loc Cert.GradNormIdeal.main_v0_2) = v2 c
          ∧ r.2.mem ((c.tc : Thread Cert.GradNormIdeal.nD Cert.GradNormIdeal.τ).loc Cert.GradNormIdeal.main_v0_3) = v3 c
          ∧ r.2.mem ((c.tc : Thread Cert.GradNormIdeal.nD Cert.GradNormIdeal.τ).loc Cert.GradNormIdeal.main_arg0) = m ((c.tc : Thread Cert.GradNormIdeal.nD Cert.GradNormIdeal.τ).loc Cert.GradNormIdeal.main_arg0)
          ∧ r.2.mem ((c.tc : Thread Cert.GradNormIdeal.nD Cert.GradNormIdeal.τ).loc Cert.GradNormIdeal.main_arg1) = m ((c.tc : Thread Cert.GradNormIdeal.nD Cert.GradNormIdeal.τ).loc Cert.GradNormIdeal.main_arg1)
          ∧ r.2.mem ((c.tc : Thread Cert.GradNormIdeal.nD Cert.GradNormIdeal.τ).loc Cert.GradNormIdeal.main_arg2) = m ((c.tc : Thread Cert.GradNormIdeal.nD Cert.GradNormIdeal.τ).loc Cert.GradNormIdeal.main_arg2)
          ∧ r.2.mem ((c.tc : Thread Cert.GradNormIdeal.nD Cert.GradNormIdeal.τ).loc Cert.GradNormIdeal.main_arg3) = m ((c.tc : Thread Cert.GradNormIdeal.nD Cert.GradNormIdeal.τ).loc Cert.GradNormIdeal.main_arg3))
      ∧ θ_run (Cert.GradNormRefIdeal.defs (F := Ideal)) (onTc (τ := Cert.GradNormRefIdeal.τ) (Cert.GradNormRefIdeal.main (F := Ideal))) ⟨m', fun _ => 0, g'⟩ (fun r => ∀ c : Dev Cert.GradNormRefIdeal.nD,
          r.2.mem ((c.tc : Thread Cert.GradNormRefIdeal.nD Cert.GradNormRefIdeal.τ).loc Cert.GradNormRefIdeal.main_v17) = v0 c
          ∧ r.2.mem ((c.tc : Thread Cert.GradNormRefIdeal.nD Cert.GradNormRefIdeal.τ).loc Cert.GradNormRefIdeal.main_v18) = v1 c
          ∧ r.2.mem ((c.tc : Thread Cert.GradNormRefIdeal.nD Cert.GradNormRefIdeal.τ).loc Cert.GradNormRefIdeal.main_v21) = v2 c
          ∧ r.2.mem ((c.tc : Thread Cert.GradNormRefIdeal.nD Cert.GradNormRefIdeal.τ).loc Cert.GradNormRefIdeal.main_v23) = v3 c
          ∧ r.2.mem ((c.tc : Thread Cert.GradNormRefIdeal.nD Cert.GradNormRefIdeal.τ).loc Cert.GradNormRefIdeal.main_arg0) = m' ((c.tc : Thread Cert.GradNormRefIdeal.nD Cert.GradNormRefIdeal.τ).loc Cert.GradNormRefIdeal.main_arg0)
          ∧ r.2.mem ((c.tc : Thread Cert.GradNormRefIdeal.nD Cert.GradNormRefIdeal.τ).loc Cert.GradNormRefIdeal.main_arg1) = m' ((c.tc : Thread Cert.GradNormRefIdeal.nD Cert.GradNormRefIdeal.τ).loc Cert.GradNormRefIdeal.main_arg1)
          ∧ r.2.mem ((c.tc : Thread Cert.GradNormRefIdeal.nD Cert.GradNormRefIdeal.τ).loc Cert.GradNormRefIdeal.main_arg2) = m' ((c.tc : Thread Cert.GradNormRefIdeal.nD Cert.GradNormRefIdeal.τ).loc Cert.GradNormRefIdeal.main_arg2)
          ∧ r.2.mem ((c.tc : Thread Cert.GradNormRefIdeal.nD Cert.GradNormRefIdeal.τ).loc Cert.GradNormRefIdeal.main_arg3) = m' ((c.tc : Thread Cert.GradNormRefIdeal.nD Cert.GradNormRefIdeal.τ).loc Cert.GradNormRefIdeal.main_arg3))

def Claim : Prop :=
  ∃ (hGather : Cert.Gather.Facts) (hGatherIdeal : Cert.GatherIdeal.Facts) (hGatherRef : Cert.GatherRef.Facts) (hGatherRefIdeal : Cert.GatherRefIdeal.Facts) (hPair : Cert.Pair.Facts) (hPairIdeal : Cert.PairIdeal.Facts) (hPairRef : Cert.PairRef.Facts) (hPairRefIdeal : Cert.PairRefIdeal.Facts) (hChip : Cert.Chip.Facts) (hChipIdeal : Cert.ChipIdeal.Facts) (hChipRef : Cert.ChipRef.Facts) (hChipRefIdeal : Cert.ChipRefIdeal.Facts) (hBack : Cert.Back.Facts) (hBackIdeal : Cert.BackIdeal.Facts) (hBackRef : Cert.BackRef.Facts) (hBackRefIdeal : Cert.BackRefIdeal.Facts) (hGatherOut : Cert.GatherOut.Facts) (hGatherOutIdeal : Cert.GatherOutIdeal.Facts) (hGatherOutRef : Cert.GatherOutRef.Facts) (hGatherOutRefIdeal : Cert.GatherOutRefIdeal.Facts) (hPairOut : Cert.PairOut.Facts) (hPairOutIdeal : Cert.PairOutIdeal.Facts) (hPairOutRef : Cert.PairOutRef.Facts) (hPairOutRefIdeal : Cert.PairOutRefIdeal.Facts) (hChipOut : Cert.ChipOut.Facts) (hChipOutIdeal : Cert.ChipOutIdeal.Facts) (hChipOutRef : Cert.ChipOutRef.Facts) (hChipOutRefIdeal : Cert.ChipOutRefIdeal.Facts) (hBackOut : Cert.BackOut.Facts) (hBackOutIdeal : Cert.BackOutIdeal.Facts) (hBackOutRef : Cert.BackOutRef.Facts) (hBackOutRefIdeal : Cert.BackOutRefIdeal.Facts) (hGatherKv : Cert.GatherKv.Facts) (hGatherKvIdeal : Cert.GatherKvIdeal.Facts) (hGatherKvRef : Cert.GatherKvRef.Facts) (hGatherKvRefIdeal : Cert.GatherKvRefIdeal.Facts) (hPairKv : Cert.PairKv.Facts) (hPairKvIdeal : Cert.PairKvIdeal.Facts) (hPairKvRef : Cert.PairKvRef.Facts) (hPairKvRefIdeal : Cert.PairKvRefIdeal.Facts) (hChipKv : Cert.ChipKv.Facts) (hChipKvIdeal : Cert.ChipKvIdeal.Facts) (hChipKvRef : Cert.ChipKvRef.Facts) (hChipKvRefIdeal : Cert.ChipKvRefIdeal.Facts) (hBackKv : Cert.BackKv.Facts) (hBackKvIdeal : Cert.BackKvIdeal.Facts) (hBackKvRef : Cert.BackKvRef.Facts) (hBackKvRefIdeal : Cert.BackKvRefIdeal.Facts) (hAdamIn : Cert.AdamIn.Facts) (hAdamInIdeal : Cert.AdamInIdeal.Facts) (hAdamInRef : Cert.AdamInRef.Facts) (hAdamInRefIdeal : Cert.AdamInRefIdeal.Facts) (hAdamRel : Cert.AdamRel.Facts) (hAdamRelIdeal : Cert.AdamRelIdeal.Facts) (hAdamRelRef : Cert.AdamRelRef.Facts) (hAdamRelRefIdeal : Cert.AdamRelRefIdeal.Facts) (hAdamGateW : Cert.AdamGateW.Facts) (hAdamGateWIdeal : Cert.AdamGateWIdeal.Facts) (hAdamGateWRef : Cert.AdamGateWRef.Facts) (hAdamGateWRefIdeal : Cert.AdamGateWRefIdeal.Facts) (hAdamGateB : Cert.AdamGateB.Facts) (hAdamGateBIdeal : Cert.AdamGateBIdeal.Facts) (hAdamGateBRef : Cert.AdamGateBRef.Facts) (hAdamGateBRefIdeal : Cert.AdamGateBRefIdeal.Facts) (hAdamNorm : Cert.AdamNorm.Facts) (hAdamNormIdeal : Cert.AdamNormIdeal.Facts) (hAdamNormRef : Cert.AdamNormRef.Facts) (hAdamNormRefIdeal : Cert.AdamNormRefIdeal.Facts) (hAdamKv : Cert.AdamKv.Facts) (hAdamKvIdeal : Cert.AdamKvIdeal.Facts) (hAdamKvRef : Cert.AdamKvRef.Facts) (hAdamKvRefIdeal : Cert.AdamKvRefIdeal.Facts) (hAdamOut : Cert.AdamOut.Facts) (hAdamOutIdeal : Cert.AdamOutIdeal.Facts) (hAdamOutRef : Cert.AdamOutRef.Facts) (hAdamOutRefIdeal : Cert.AdamOutRefIdeal.Facts) (hAdamLnG : Cert.AdamLnG.Facts) (hAdamLnGIdeal : Cert.AdamLnGIdeal.Facts) (hAdamLnGRef : Cert.AdamLnGRef.Facts) (hAdamLnGRefIdeal : Cert.AdamLnGRefIdeal.Facts) (hAdamLnB : Cert.AdamLnB.Facts) (hAdamLnBIdeal : Cert.AdamLnBIdeal.Facts) (hAdamLnBRef : Cert.AdamLnBRef.Facts) (hAdamLnBRefIdeal : Cert.AdamLnBRefIdeal.Facts) (hSlotsIn : Cert.SlotsIn.Facts) (hSlotsInIdeal : Cert.SlotsInIdeal.Facts) (hSlotsInRef : Cert.SlotsInRef.Facts) (hSlotsInRefIdeal : Cert.SlotsInRefIdeal.Facts) (hSlotsOut : Cert.SlotsOut.Facts) (hSlotsOutIdeal : Cert.SlotsOutIdeal.Facts) (hSlotsOutRef : Cert.SlotsOutRef.Facts) (hSlotsOutRefIdeal : Cert.SlotsOutRefIdeal.Facts) (hSlotsKv : Cert.SlotsKv.Facts) (hSlotsKvIdeal : Cert.SlotsKvIdeal.Facts) (hSlotsKvRef : Cert.SlotsKvRef.Facts) (hSlotsKvRefIdeal : Cert.SlotsKvRefIdeal.Facts) (hHalvesIn : Cert.HalvesIn.Facts) (hHalvesInIdeal : Cert.HalvesInIdeal.Facts) (hHalvesInRef : Cert.HalvesInRef.Facts) (hHalvesInRefIdeal : Cert.HalvesInRefIdeal.Facts) (hHalvesOut : Cert.HalvesOut.Facts) (hHalvesOutIdeal : Cert.HalvesOutIdeal.Facts) (hHalvesOutRef : Cert.HalvesOutRef.Facts) (hHalvesOutRefIdeal : Cert.HalvesOutRefIdeal.Facts) (hHalvesKv : Cert.HalvesKv.Facts) (hHalvesKvIdeal : Cert.HalvesKvIdeal.Facts) (hHalvesKvRef : Cert.HalvesKvRef.Facts) (hHalvesKvRefIdeal : Cert.HalvesKvRefIdeal.Facts) (hLoss : Cert.Loss.Facts) (hLossIdeal : Cert.LossIdeal.Facts) (hLossRef : Cert.LossRef.Facts) (hLossRefIdeal : Cert.LossRefIdeal.Facts) (hGradIn : Cert.GradIn.Facts) (hGradInIdeal : Cert.GradInIdeal.Facts) (hGradInRef : Cert.GradInRef.Facts) (hGradInRefIdeal : Cert.GradInRefIdeal.Facts) (hGradOut : Cert.GradOut.Facts) (hGradOutIdeal : Cert.GradOutIdeal.Facts) (hGradOutRef : Cert.GradOutRef.Facts) (hGradOutRefIdeal : Cert.GradOutRefIdeal.Facts) (hGradKv : Cert.GradKv.Facts) (hGradKvIdeal : Cert.GradKvIdeal.Facts) (hGradKvRef : Cert.GradKvRef.Facts) (hGradKvRefIdeal : Cert.GradKvRefIdeal.Facts) (hGradX : Cert.GradX.Facts) (hGradXIdeal : Cert.GradXIdeal.Facts) (hGradXRef : Cert.GradXRef.Facts) (hGradXRefIdeal : Cert.GradXRefIdeal.Facts) (hNorm : Cert.Norm.Facts) (hNormIdeal : Cert.NormIdeal.Facts) (hNormRef : Cert.NormRef.Facts) (hNormRefIdeal : Cert.NormRefIdeal.Facts) (hInProj : Cert.InProj.Facts) (hInProjIdeal : Cert.InProjIdeal.Facts) (hInProjRef : Cert.InProjRef.Facts) (hInProjRefIdeal : Cert.InProjRefIdeal.Facts) (hMemKv : Cert.MemKv.Facts) (hMemKvIdeal : Cert.MemKvIdeal.Facts) (hMemKvRef : Cert.MemKvRef.Facts) (hMemKvRefIdeal : Cert.MemKvRefIdeal.Facts) (hGradCat : Cert.GradCat.Facts) (hGradCatIdeal : Cert.GradCatIdeal.Facts) (hGradCatRef : Cert.GradCatRef.Facts) (hGradCatRefIdeal : Cert.GradCatRefIdeal.Facts) (hGradNorm : Cert.GradNorm.Facts) (hGradNormIdeal : Cert.GradNormIdeal.Facts) (hGradNormRef : Cert.GradNormRef.Facts) (hGradNormRefIdeal : Cert.GradNormRefIdeal.Facts) (hPre_a_core_w_in : Cert.Pre_a_core_w_in.Facts) (hPre_a_core_w_out : Cert.Pre_a_core_w_out.Facts) (hPre_a_core_w_kv : Cert.Pre_a_core_w_kv.Facts),
    quiescent_Gather (hGather := hGather)
    ∧ quiescent_GatherIdeal (hGatherIdeal := hGatherIdeal)
    ∧ quiescent_GatherRef (hGatherRef := hGatherRef)
    ∧ quiescent_GatherRefIdeal (hGatherRefIdeal := hGatherRefIdeal)
    ∧ quiescent_Pair (hPair := hPair)
    ∧ quiescent_PairIdeal (hPairIdeal := hPairIdeal)
    ∧ quiescent_PairRef (hPairRef := hPairRef)
    ∧ quiescent_PairRefIdeal (hPairRefIdeal := hPairRefIdeal)
    ∧ quiescent_Chip (hChip := hChip)
    ∧ quiescent_ChipIdeal (hChipIdeal := hChipIdeal)
    ∧ quiescent_ChipRef (hChipRef := hChipRef)
    ∧ quiescent_ChipRefIdeal (hChipRefIdeal := hChipRefIdeal)
    ∧ quiescent_Back (hBack := hBack)
    ∧ quiescent_BackIdeal (hBackIdeal := hBackIdeal)
    ∧ quiescent_BackRef (hBackRef := hBackRef)
    ∧ quiescent_BackRefIdeal (hBackRefIdeal := hBackRefIdeal)
    ∧ quiescent_GatherOut (hGatherOut := hGatherOut)
    ∧ quiescent_GatherOutIdeal (hGatherOutIdeal := hGatherOutIdeal)
    ∧ quiescent_GatherOutRef (hGatherOutRef := hGatherOutRef)
    ∧ quiescent_GatherOutRefIdeal (hGatherOutRefIdeal := hGatherOutRefIdeal)
    ∧ quiescent_PairOut (hPairOut := hPairOut)
    ∧ quiescent_PairOutIdeal (hPairOutIdeal := hPairOutIdeal)
    ∧ quiescent_PairOutRef (hPairOutRef := hPairOutRef)
    ∧ quiescent_PairOutRefIdeal (hPairOutRefIdeal := hPairOutRefIdeal)
    ∧ quiescent_ChipOut (hChipOut := hChipOut)
    ∧ quiescent_ChipOutIdeal (hChipOutIdeal := hChipOutIdeal)
    ∧ quiescent_ChipOutRef (hChipOutRef := hChipOutRef)
    ∧ quiescent_ChipOutRefIdeal (hChipOutRefIdeal := hChipOutRefIdeal)
    ∧ quiescent_BackOut (hBackOut := hBackOut)
    ∧ quiescent_BackOutIdeal (hBackOutIdeal := hBackOutIdeal)
    ∧ quiescent_BackOutRef (hBackOutRef := hBackOutRef)
    ∧ quiescent_BackOutRefIdeal (hBackOutRefIdeal := hBackOutRefIdeal)
    ∧ quiescent_GatherKv (hGatherKv := hGatherKv)
    ∧ quiescent_GatherKvIdeal (hGatherKvIdeal := hGatherKvIdeal)
    ∧ quiescent_GatherKvRef (hGatherKvRef := hGatherKvRef)
    ∧ quiescent_GatherKvRefIdeal (hGatherKvRefIdeal := hGatherKvRefIdeal)
    ∧ quiescent_PairKv (hPairKv := hPairKv)
    ∧ quiescent_PairKvIdeal (hPairKvIdeal := hPairKvIdeal)
    ∧ quiescent_PairKvRef (hPairKvRef := hPairKvRef)
    ∧ quiescent_PairKvRefIdeal (hPairKvRefIdeal := hPairKvRefIdeal)
    ∧ quiescent_ChipKv (hChipKv := hChipKv)
    ∧ quiescent_ChipKvIdeal (hChipKvIdeal := hChipKvIdeal)
    ∧ quiescent_ChipKvRef (hChipKvRef := hChipKvRef)
    ∧ quiescent_ChipKvRefIdeal (hChipKvRefIdeal := hChipKvRefIdeal)
    ∧ quiescent_BackKv (hBackKv := hBackKv)
    ∧ quiescent_BackKvIdeal (hBackKvIdeal := hBackKvIdeal)
    ∧ quiescent_BackKvRef (hBackKvRef := hBackKvRef)
    ∧ quiescent_BackKvRefIdeal (hBackKvRefIdeal := hBackKvRefIdeal)
    ∧ quiescent_AdamIn (hAdamIn := hAdamIn)
    ∧ quiescent_AdamInIdeal (hAdamInIdeal := hAdamInIdeal)
    ∧ quiescent_AdamInRef (hAdamInRef := hAdamInRef)
    ∧ quiescent_AdamInRefIdeal (hAdamInRefIdeal := hAdamInRefIdeal)
    ∧ quiescent_AdamRel (hAdamRel := hAdamRel)
    ∧ quiescent_AdamRelIdeal (hAdamRelIdeal := hAdamRelIdeal)
    ∧ quiescent_AdamRelRef (hAdamRelRef := hAdamRelRef)
    ∧ quiescent_AdamRelRefIdeal (hAdamRelRefIdeal := hAdamRelRefIdeal)
    ∧ quiescent_AdamGateW (hAdamGateW := hAdamGateW)
    ∧ quiescent_AdamGateWIdeal (hAdamGateWIdeal := hAdamGateWIdeal)
    ∧ quiescent_AdamGateWRef (hAdamGateWRef := hAdamGateWRef)
    ∧ quiescent_AdamGateWRefIdeal (hAdamGateWRefIdeal := hAdamGateWRefIdeal)
    ∧ quiescent_AdamGateB (hAdamGateB := hAdamGateB)
    ∧ quiescent_AdamGateBIdeal (hAdamGateBIdeal := hAdamGateBIdeal)
    ∧ quiescent_AdamGateBRef (hAdamGateBRef := hAdamGateBRef)
    ∧ quiescent_AdamGateBRefIdeal (hAdamGateBRefIdeal := hAdamGateBRefIdeal)
    ∧ quiescent_AdamNorm (hAdamNorm := hAdamNorm)
    ∧ quiescent_AdamNormIdeal (hAdamNormIdeal := hAdamNormIdeal)
    ∧ quiescent_AdamNormRef (hAdamNormRef := hAdamNormRef)
    ∧ quiescent_AdamNormRefIdeal (hAdamNormRefIdeal := hAdamNormRefIdeal)
    ∧ quiescent_AdamKv (hAdamKv := hAdamKv)
    ∧ quiescent_AdamKvIdeal (hAdamKvIdeal := hAdamKvIdeal)
    ∧ quiescent_AdamKvRef (hAdamKvRef := hAdamKvRef)
    ∧ quiescent_AdamKvRefIdeal (hAdamKvRefIdeal := hAdamKvRefIdeal)
    ∧ quiescent_AdamOut (hAdamOut := hAdamOut)
    ∧ quiescent_AdamOutIdeal (hAdamOutIdeal := hAdamOutIdeal)
    ∧ quiescent_AdamOutRef (hAdamOutRef := hAdamOutRef)
    ∧ quiescent_AdamOutRefIdeal (hAdamOutRefIdeal := hAdamOutRefIdeal)
    ∧ quiescent_AdamLnG (hAdamLnG := hAdamLnG)
    ∧ quiescent_AdamLnGIdeal (hAdamLnGIdeal := hAdamLnGIdeal)
    ∧ quiescent_AdamLnGRef (hAdamLnGRef := hAdamLnGRef)
    ∧ quiescent_AdamLnGRefIdeal (hAdamLnGRefIdeal := hAdamLnGRefIdeal)
    ∧ quiescent_AdamLnB (hAdamLnB := hAdamLnB)
    ∧ quiescent_AdamLnBIdeal (hAdamLnBIdeal := hAdamLnBIdeal)
    ∧ quiescent_AdamLnBRef (hAdamLnBRef := hAdamLnBRef)
    ∧ quiescent_AdamLnBRefIdeal (hAdamLnBRefIdeal := hAdamLnBRefIdeal)
    ∧ quiescent_SlotsIn (hSlotsIn := hSlotsIn)
    ∧ quiescent_SlotsInIdeal (hSlotsInIdeal := hSlotsInIdeal)
    ∧ quiescent_SlotsInRef (hSlotsInRef := hSlotsInRef)
    ∧ quiescent_SlotsInRefIdeal (hSlotsInRefIdeal := hSlotsInRefIdeal)
    ∧ quiescent_SlotsOut (hSlotsOut := hSlotsOut)
    ∧ quiescent_SlotsOutIdeal (hSlotsOutIdeal := hSlotsOutIdeal)
    ∧ quiescent_SlotsOutRef (hSlotsOutRef := hSlotsOutRef)
    ∧ quiescent_SlotsOutRefIdeal (hSlotsOutRefIdeal := hSlotsOutRefIdeal)
    ∧ quiescent_SlotsKv (hSlotsKv := hSlotsKv)
    ∧ quiescent_SlotsKvIdeal (hSlotsKvIdeal := hSlotsKvIdeal)
    ∧ quiescent_SlotsKvRef (hSlotsKvRef := hSlotsKvRef)
    ∧ quiescent_SlotsKvRefIdeal (hSlotsKvRefIdeal := hSlotsKvRefIdeal)
    ∧ quiescent_HalvesIn (hHalvesIn := hHalvesIn) (hPre_a_core_w_in := hPre_a_core_w_in)
    ∧ quiescent_HalvesInIdeal (hHalvesInIdeal := hHalvesInIdeal) (hPre_a_core_w_in := hPre_a_core_w_in)
    ∧ quiescent_HalvesInRef (hHalvesInRef := hHalvesInRef)
    ∧ quiescent_HalvesInRef_pre_a_core_w_in (hHalvesInRef := hHalvesInRef) (hPre_a_core_w_in := hPre_a_core_w_in)
    ∧ quiescent_HalvesInRefIdeal (hHalvesInRefIdeal := hHalvesInRefIdeal)
    ∧ quiescent_HalvesInRefIdeal_pre_a_core_w_in (hHalvesInRefIdeal := hHalvesInRefIdeal) (hPre_a_core_w_in := hPre_a_core_w_in)
    ∧ quiescent_HalvesOut (hHalvesOut := hHalvesOut) (hPre_a_core_w_out := hPre_a_core_w_out)
    ∧ quiescent_HalvesOutIdeal (hHalvesOutIdeal := hHalvesOutIdeal) (hPre_a_core_w_out := hPre_a_core_w_out)
    ∧ quiescent_HalvesOutRef (hHalvesOutRef := hHalvesOutRef)
    ∧ quiescent_HalvesOutRef_pre_a_core_w_out (hHalvesOutRef := hHalvesOutRef) (hPre_a_core_w_out := hPre_a_core_w_out)
    ∧ quiescent_HalvesOutRefIdeal (hHalvesOutRefIdeal := hHalvesOutRefIdeal)
    ∧ quiescent_HalvesOutRefIdeal_pre_a_core_w_out (hHalvesOutRefIdeal := hHalvesOutRefIdeal) (hPre_a_core_w_out := hPre_a_core_w_out)
    ∧ quiescent_HalvesKv (hHalvesKv := hHalvesKv) (hPre_a_core_w_kv := hPre_a_core_w_kv)
    ∧ quiescent_HalvesKvIdeal (hHalvesKvIdeal := hHalvesKvIdeal) (hPre_a_core_w_kv := hPre_a_core_w_kv)
    ∧ quiescent_HalvesKvRef (hHalvesKvRef := hHalvesKvRef)
    ∧ quiescent_HalvesKvRef_pre_a_core_w_kv (hHalvesKvRef := hHalvesKvRef) (hPre_a_core_w_kv := hPre_a_core_w_kv)
    ∧ quiescent_HalvesKvRefIdeal (hHalvesKvRefIdeal := hHalvesKvRefIdeal)
    ∧ quiescent_HalvesKvRefIdeal_pre_a_core_w_kv (hHalvesKvRefIdeal := hHalvesKvRefIdeal) (hPre_a_core_w_kv := hPre_a_core_w_kv)
    ∧ quiescent_Loss (hLoss := hLoss)
    ∧ quiescent_LossIdeal (hLossIdeal := hLossIdeal)
    ∧ quiescent_LossRef (hLossRef := hLossRef)
    ∧ quiescent_LossRefIdeal (hLossRefIdeal := hLossRefIdeal)
    ∧ quiescent_GradIn (hGradIn := hGradIn)
    ∧ quiescent_GradInIdeal (hGradInIdeal := hGradInIdeal)
    ∧ quiescent_GradInRef (hGradInRef := hGradInRef)
    ∧ quiescent_GradInRefIdeal (hGradInRefIdeal := hGradInRefIdeal)
    ∧ quiescent_GradOut (hGradOut := hGradOut)
    ∧ quiescent_GradOutIdeal (hGradOutIdeal := hGradOutIdeal)
    ∧ quiescent_GradOutRef (hGradOutRef := hGradOutRef)
    ∧ quiescent_GradOutRefIdeal (hGradOutRefIdeal := hGradOutRefIdeal)
    ∧ quiescent_GradKv (hGradKv := hGradKv)
    ∧ quiescent_GradKvIdeal (hGradKvIdeal := hGradKvIdeal)
    ∧ quiescent_GradKvRef (hGradKvRef := hGradKvRef)
    ∧ quiescent_GradKvRefIdeal (hGradKvRefIdeal := hGradKvRefIdeal)
    ∧ quiescent_GradX (hGradX := hGradX)
    ∧ quiescent_GradXIdeal (hGradXIdeal := hGradXIdeal)
    ∧ quiescent_GradXRef (hGradXRef := hGradXRef)
    ∧ quiescent_GradXRefIdeal (hGradXRefIdeal := hGradXRefIdeal)
    ∧ quiescent_Norm (hNorm := hNorm)
    ∧ quiescent_NormIdeal (hNormIdeal := hNormIdeal)
    ∧ quiescent_NormRef (hNormRef := hNormRef)
    ∧ quiescent_NormRefIdeal (hNormRefIdeal := hNormRefIdeal)
    ∧ quiescent_InProj (hInProj := hInProj)
    ∧ quiescent_InProjIdeal (hInProjIdeal := hInProjIdeal)
    ∧ quiescent_InProjRef (hInProjRef := hInProjRef)
    ∧ quiescent_InProjRefIdeal (hInProjRefIdeal := hInProjRefIdeal)
    ∧ quiescent_MemKv (hMemKv := hMemKv)
    ∧ quiescent_MemKvIdeal (hMemKvIdeal := hMemKvIdeal)
    ∧ quiescent_MemKvRef (hMemKvRef := hMemKvRef)
    ∧ quiescent_MemKvRefIdeal (hMemKvRefIdeal := hMemKvRefIdeal)
    ∧ quiescent_GradCat (hGradCat := hGradCat)
    ∧ quiescent_GradCatIdeal (hGradCatIdeal := hGradCatIdeal)
    ∧ quiescent_GradCatRef (hGradCatRef := hGradCatRef)
    ∧ quiescent_GradCatRefIdeal (hGradCatRefIdeal := hGradCatRefIdeal)
    ∧ quiescent_GradNorm (hGradNorm := hGradNorm)
    ∧ quiescent_GradNormIdeal (hGradNormIdeal := hGradNormIdeal)
    ∧ quiescent_GradNormRef (hGradNormRef := hGradNormRef)
    ∧ quiescent_GradNormRefIdeal (hGradNormRefIdeal := hGradNormRefIdeal)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_Pair_PairIdeal
    ∧ algebraic_PairIdeal_PairRefIdeal (hPairIdeal := hPairIdeal) (hPairRefIdeal := hPairRefIdeal)
    ∧ bitexact_Pair_PairRef (hPair := hPair) (hPairRef := hPairRef)
    ∧ preserves_Chip_ChipIdeal
    ∧ algebraic_ChipIdeal_ChipRefIdeal (hChipIdeal := hChipIdeal) (hChipRefIdeal := hChipRefIdeal)
    ∧ bitexact_Chip_ChipRef (hChip := hChip) (hChipRef := hChipRef)
    ∧ preserves_Back_BackIdeal
    ∧ algebraic_BackIdeal_BackRefIdeal (hBackIdeal := hBackIdeal) (hBackRefIdeal := hBackRefIdeal)
    ∧ bitexact_Back_BackRef (hBack := hBack) (hBackRef := hBackRef)
    ∧ preserves_GatherOut_GatherOutIdeal
    ∧ algebraic_GatherOutIdeal_GatherOutRefIdeal (hGatherOutIdeal := hGatherOutIdeal) (hGatherOutRefIdeal := hGatherOutRefIdeal)
    ∧ bitexact_GatherOut_GatherOutRef (hGatherOut := hGatherOut) (hGatherOutRef := hGatherOutRef)
    ∧ preserves_PairOut_PairOutIdeal
    ∧ algebraic_PairOutIdeal_PairOutRefIdeal (hPairOutIdeal := hPairOutIdeal) (hPairOutRefIdeal := hPairOutRefIdeal)
    ∧ bitexact_PairOut_PairOutRef (hPairOut := hPairOut) (hPairOutRef := hPairOutRef)
    ∧ preserves_ChipOut_ChipOutIdeal
    ∧ algebraic_ChipOutIdeal_ChipOutRefIdeal (hChipOutIdeal := hChipOutIdeal) (hChipOutRefIdeal := hChipOutRefIdeal)
    ∧ bitexact_ChipOut_ChipOutRef (hChipOut := hChipOut) (hChipOutRef := hChipOutRef)
    ∧ preserves_BackOut_BackOutIdeal
    ∧ algebraic_BackOutIdeal_BackOutRefIdeal (hBackOutIdeal := hBackOutIdeal) (hBackOutRefIdeal := hBackOutRefIdeal)
    ∧ bitexact_BackOut_BackOutRef (hBackOut := hBackOut) (hBackOutRef := hBackOutRef)
    ∧ preserves_GatherKv_GatherKvIdeal
    ∧ algebraic_GatherKvIdeal_GatherKvRefIdeal (hGatherKvIdeal := hGatherKvIdeal) (hGatherKvRefIdeal := hGatherKvRefIdeal)
    ∧ bitexact_GatherKv_GatherKvRef (hGatherKv := hGatherKv) (hGatherKvRef := hGatherKvRef)
    ∧ preserves_PairKv_PairKvIdeal
    ∧ algebraic_PairKvIdeal_PairKvRefIdeal (hPairKvIdeal := hPairKvIdeal) (hPairKvRefIdeal := hPairKvRefIdeal)
    ∧ bitexact_PairKv_PairKvRef (hPairKv := hPairKv) (hPairKvRef := hPairKvRef)
    ∧ preserves_ChipKv_ChipKvIdeal
    ∧ algebraic_ChipKvIdeal_ChipKvRefIdeal (hChipKvIdeal := hChipKvIdeal) (hChipKvRefIdeal := hChipKvRefIdeal)
    ∧ bitexact_ChipKv_ChipKvRef (hChipKv := hChipKv) (hChipKvRef := hChipKvRef)
    ∧ preserves_BackKv_BackKvIdeal
    ∧ algebraic_BackKvIdeal_BackKvRefIdeal (hBackKvIdeal := hBackKvIdeal) (hBackKvRefIdeal := hBackKvRefIdeal)
    ∧ bitexact_BackKv_BackKvRef (hBackKv := hBackKv) (hBackKvRef := hBackKvRef)
    ∧ preserves_AdamIn_AdamInIdeal
    ∧ algebraic_AdamInIdeal_AdamInRefIdeal (hAdamInIdeal := hAdamInIdeal) (hAdamInRefIdeal := hAdamInRefIdeal)
    ∧ preserves_AdamRel_AdamRelIdeal
    ∧ algebraic_AdamRelIdeal_AdamRelRefIdeal (hAdamRelIdeal := hAdamRelIdeal) (hAdamRelRefIdeal := hAdamRelRefIdeal)
    ∧ preserves_AdamGateW_AdamGateWIdeal
    ∧ algebraic_AdamGateWIdeal_AdamGateWRefIdeal (hAdamGateWIdeal := hAdamGateWIdeal) (hAdamGateWRefIdeal := hAdamGateWRefIdeal)
    ∧ preserves_AdamGateB_AdamGateBIdeal
    ∧ algebraic_AdamGateBIdeal_AdamGateBRefIdeal (hAdamGateBIdeal := hAdamGateBIdeal) (hAdamGateBRefIdeal := hAdamGateBRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamLnG_AdamLnGIdeal
    ∧ algebraic_AdamLnGIdeal_AdamLnGRefIdeal (hAdamLnGIdeal := hAdamLnGIdeal) (hAdamLnGRefIdeal := hAdamLnGRefIdeal)
    ∧ preserves_AdamLnB_AdamLnBIdeal
    ∧ algebraic_AdamLnBIdeal_AdamLnBRefIdeal (hAdamLnBIdeal := hAdamLnBIdeal) (hAdamLnBRefIdeal := hAdamLnBRefIdeal)
    ∧ preserves_SlotsIn_SlotsInIdeal
    ∧ algebraic_SlotsInIdeal_SlotsInRefIdeal (hSlotsInIdeal := hSlotsInIdeal) (hSlotsInRefIdeal := hSlotsInRefIdeal)
    ∧ preserves_SlotsOut_SlotsOutIdeal
    ∧ algebraic_SlotsOutIdeal_SlotsOutRefIdeal (hSlotsOutIdeal := hSlotsOutIdeal) (hSlotsOutRefIdeal := hSlotsOutRefIdeal)
    ∧ preserves_SlotsKv_SlotsKvIdeal
    ∧ algebraic_SlotsKvIdeal_SlotsKvRefIdeal (hSlotsKvIdeal := hSlotsKvIdeal) (hSlotsKvRefIdeal := hSlotsKvRefIdeal)
    ∧ preserves_HalvesIn_HalvesInIdeal
    ∧ algebraic_HalvesInIdeal_HalvesInRefIdeal (hHalvesInIdeal := hHalvesInIdeal) (hHalvesInRefIdeal := hHalvesInRefIdeal) (hPre_a_core_w_in := hPre_a_core_w_in)
    ∧ bitexact_HalvesIn_HalvesInRef (hHalvesIn := hHalvesIn) (hHalvesInRef := hHalvesInRef) (hPre_a_core_w_in := hPre_a_core_w_in)
    ∧ preserves_HalvesOut_HalvesOutIdeal
    ∧ algebraic_HalvesOutIdeal_HalvesOutRefIdeal (hHalvesOutIdeal := hHalvesOutIdeal) (hHalvesOutRefIdeal := hHalvesOutRefIdeal) (hPre_a_core_w_out := hPre_a_core_w_out)
    ∧ bitexact_HalvesOut_HalvesOutRef (hHalvesOut := hHalvesOut) (hHalvesOutRef := hHalvesOutRef) (hPre_a_core_w_out := hPre_a_core_w_out)
    ∧ preserves_HalvesKv_HalvesKvIdeal
    ∧ algebraic_HalvesKvIdeal_HalvesKvRefIdeal (hHalvesKvIdeal := hHalvesKvIdeal) (hHalvesKvRefIdeal := hHalvesKvRefIdeal) (hPre_a_core_w_kv := hPre_a_core_w_kv)
    ∧ bitexact_HalvesKv_HalvesKvRef (hHalvesKv := hHalvesKv) (hHalvesKvRef := hHalvesKvRef) (hPre_a_core_w_kv := hPre_a_core_w_kv)
    ∧ preserves_Loss_LossIdeal
    ∧ algebraic_LossIdeal_LossRefIdeal (hLossIdeal := hLossIdeal) (hLossRefIdeal := hLossRefIdeal)
    ∧ preserves_GradIn_GradInIdeal
    ∧ algebraic_GradInIdeal_GradInRefIdeal (hGradInIdeal := hGradInIdeal) (hGradInRefIdeal := hGradInRefIdeal)
    ∧ preserves_GradOut_GradOutIdeal
    ∧ algebraic_GradOutIdeal_GradOutRefIdeal (hGradOutIdeal := hGradOutIdeal) (hGradOutRefIdeal := hGradOutRefIdeal)
    ∧ preserves_GradKv_GradKvIdeal
    ∧ algebraic_GradKvIdeal_GradKvRefIdeal (hGradKvIdeal := hGradKvIdeal) (hGradKvRefIdeal := hGradKvRefIdeal)
    ∧ preserves_GradX_GradXIdeal
    ∧ algebraic_GradXIdeal_GradXRefIdeal (hGradXIdeal := hGradXIdeal) (hGradXRefIdeal := hGradXRefIdeal)
    ∧ preserves_Norm_NormIdeal
    ∧ algebraic_NormIdeal_NormRefIdeal (hNormIdeal := hNormIdeal) (hNormRefIdeal := hNormRefIdeal)
    ∧ preserves_InProj_InProjIdeal
    ∧ algebraic_InProjIdeal_InProjRefIdeal (hInProjIdeal := hInProjIdeal) (hInProjRefIdeal := hInProjRefIdeal)
    ∧ preserves_MemKv_MemKvIdeal
    ∧ algebraic_MemKvIdeal_MemKvRefIdeal (hMemKvIdeal := hMemKvIdeal) (hMemKvRefIdeal := hMemKvRefIdeal)
    ∧ preserves_GradCat_GradCatIdeal
    ∧ algebraic_GradCatIdeal_GradCatRefIdeal (hGradCatIdeal := hGradCatIdeal) (hGradCatRefIdeal := hGradCatRefIdeal)
    ∧ preserves_GradNorm_GradNormIdeal
    ∧ algebraic_GradNormIdeal_GradNormRefIdeal (hGradNormIdeal := hGradNormIdeal) (hGradNormRefIdeal := hGradNormRefIdeal)
-- ==== Pre_a_core_w_in.lean ====
abbrev S1 : Shape := ⟨1, ![1]⟩
abbrev S4x2x4096x1668 : Shape := ⟨4, ![4, 2, 4096, 1668]⟩
abbrev S4x4096x1668 : Shape := ⟨3, ![4, 4096, 1668]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S4x2x4096x1668 .f32) (main_arg2 : FVec F S4x4096x1668 .f32) : IVec S_ 1 :=
  let main_v0 : IVec S_ 32 := shapeCast S_ main_arg0 shapeCasts_S1_S_
  let main_c : IVec S_ 32 := constantI S_ 32 0#32
  let main_v1 : IVec S_ 1 := cmpi .eq main_v0 main_c
  let main_v2 : IVec S_ 32 := shapeCast S_ main_arg0 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_a_core_w_kv.lean ====
abbrev S1 : Shape := ⟨1, ![1]⟩
abbrev S4x2x1024x1024 : Shape := ⟨4, ![4, 2, 1024, 1024]⟩
abbrev S4x1024x1024 : Shape := ⟨3, ![4, 1024, 1024]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S4x2x1024x1024 .f32) (main_arg2 : FVec F S4x1024x1024 .f32) : IVec S_ 1 :=
  let main_v0 : IVec S_ 32 := shapeCast S_ main_arg0 shapeCasts_S1_S_
  let main_c : IVec S_ 32 := constantI S_ 32 0#32
  let main_v1 : IVec S_ 1 := cmpi .eq main_v0 main_c
  let main_v2 : IVec S_ 32 := shapeCast S_ main_arg0 shapeCasts_S1_S_
  let main_c_0 : IVec S_ 32 := constantI S_ 32 1#32
  let main_v3 : IVec S_ 1 := cmpi .eq main_v2 main_c_0
  let main_v4 : IVec S_ 1 := ori main_v1 main_v3
  main_v4
-- ==== Pre_a_core_w_out.lean ====
abbrev S1 : Shape := ⟨1, ![1]⟩
abbrev S4x2x1024x2048 : Shape := ⟨4, ![4, 2, 1024, 2048]⟩
abbrev S4x1024x2048 : Shape := ⟨3, ![4, 1024, 2048]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S4x2x1024x2048 .f32) (main_arg2 : FVec F S4x1024x2048 .f32) : IVec S_ 1 :=
  let main_v0 : IVec S_ 32 := shapeCast S_ main_arg0 shapeCasts_S1_S_
  let main_c : IVec S_ 32 := constantI S_ 32 0#32
  let main_v1 : IVec S_ 1 := cmpi .eq main_v0 main_c
  let main_v2 : IVec S_ 32 := shapeCast S_ main_arg0 shapeCasts_S1_S_
  let main_c_0 : IVec S_ 32 := constantI S_ 32 1#32
  let main_v3 : IVec S_ 1 := cmpi .eq main_v2 main_c_0
  let main_v4 : IVec S_ 1 := ori main_v1 main_v3
  main_v4
-- ==== Gather.lean ====
abbrev S8192x1668 : Shape := ⟨2, ![8192, 1668]⟩
abbrev S4x8192x1668 : Shape := ⟨3, ![4, 8192, 1668]⟩
abbrev S6 : Shape := ⟨1, ![6]⟩
abbrev S_ : Shape := ⟨0, ![]⟩
abbrev S1x8192x1668 : Shape := ⟨3, ![1, 8192, 1668]⟩
abbrev S1 : Shape := ⟨1, ![1]⟩
abbrev S1x4096x1668 : Shape := ⟨3, ![1, 4096, 1668]⟩
abbrev S4096x1668 : Shape := ⟨2, ![4096, 1668]⟩

abbrev nBuf : Space → Nat
  | .hbm => 2
  | .vmem => 0
  | .smem => 0
  | _ => 0

abbrev bufTy : (tb : Table) → Fin (tcTables nBuf tb) → BufTy
  | .hbm, ⟨0, _⟩ => ⟨S8192x1668, .bf16⟩
  | .hbm, ⟨1, _⟩ => ⟨S4x8192x1668, .bf16⟩
  | _, _ => ⟨S8192x1668, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32 : BitVec 32 := 4096#32
  let v13 : BitVec 32 := Scalar.muli v8 c4096_i32
  v13
def k0_mult2 (d0 : Dev nD) : BitVec 32 :=
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c4096_i32_8 : BitVec 32 := 4096#32
  let v16 : BitVec 32 := Scalar.muli v15 c4096_i32_8
  v16
def k0_off1 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c2_i32_9 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.addi v18 v5
  let c0_i32 : BitVec 32 := 0#32
  let c0_i32_10 : BitVec 32 := 0#32
  ![v19.toNat, 0, 0]
def k0_off2 (d0 : Dev nD) : Fin 3 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.muli c2_i32_11 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.addi v22 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32 : BitVec 32 := 4096#32
  let v13 : BitVec 32 := Scalar.muli v8 c4096_i32
  let v14 : BitVec 32 := v13
  let c0_i32_20 : BitVec 32 := 0#32
  ![v23.toNat, v14.toNat, 0]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32 : BitVec 32 := 4096#32
  let v13 : BitVec 32 := Scalar.muli v8 c4096_i32
  let v14 : BitVec 32 := v13
  let c0_i32_21 : BitVec 32 := 0#32
  ![v14.toNat, 0]
def k0_dev1 (d0 : Dev nD) : Nat :=
  let c0_i32_17 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_16 : BitVec 32 := 4#32
  let v28 : BitVec 32 := Scalar.muli v9 c4_i32_16
  let v29 : BitVec 32 := Scalar.addi c0_i32_17 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v30 : BitVec 32 := Scalar.muli v5 c2_i32_18
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v32 : BitVec 32 := Scalar.muli v8 c1_i32_19
  let v33 : BitVec 32 := Scalar.addi v31 v32
  v33.toNat
def k0_dev2 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v41 : BitVec 32 := Scalar.muli v2 c4_i32_24
  let v42 : BitVec 32 := Scalar.addi c0_i32_25 v41
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_26 : BitVec 32 := 2#32
  let v43 : BitVec 32 := Scalar.muli v10 c2_i32_26
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v45 : BitVec 32 := Scalar.muli v8 c1_i32_27
  let v46 : BitVec 32 := Scalar.addi v44 v45
  v46.toNat
def k0_dev3 (d0 : Dev nD) : Nat :=
  let c0_i32_33 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_32 : BitVec 32 := 4#32
  let v54 : BitVec 32 := Scalar.muli v11 c4_i32_32
  let v55 : BitVec 32 := Scalar.addi c0_i32_33 v54
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_34 : BitVec 32 := 2#32
  let v56 : BitVec 32 := Scalar.muli v12 c2_i32_34
  let v57 : BitVec 32 := Scalar.addi v55 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v58 : BitVec 32 := Scalar.muli v8 c1_i32_35
  let v59 : BitVec 32 := Scalar.addi v57 v58
  v59.toNat
def k0_off4 (d0 : Dev nD) : Fin 3 → Nat :=
  let c2_i32_44 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v76 : BitVec 32 := Scalar.muli c2_i32_44 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.addi v76 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32 : BitVec 32 := 4096#32
  let v13 : BitVec 32 := Scalar.muli v8 c4096_i32
  let v14 : BitVec 32 := v13
  let c0_i32_51 : BitVec 32 := 0#32
  ![v77.toNat, v14.toNat, 0]
def k0_dev4 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_54 : BitVec 32 := 4#32
  let v90 : BitVec 32 := Scalar.muli v2 c4_i32_54
  let v91 : BitVec 32 := Scalar.addi c0_i32_55 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_56 : BitVec 32 := 2#32
  let v92 : BitVec 32 := Scalar.muli v5 c2_i32_56
  let v93 : BitVec 32 := Scalar.addi v91 v92
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v67 : BitVec 32 := Scalar.subi c1_i32_38 v8
  let c1_i32_57 : BitVec 32 := 1#32
  let v94 : BitVec 32 := Scalar.muli v67 c1_i32_57
  let v95 : BitVec 32 := Scalar.addi v93 v94
  v95.toNat
def k0_off5 (d0 : Dev nD) : Fin 3 → Nat :=
  let c2_i32_60 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v104 : BitVec 32 := Scalar.muli c2_i32_60 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v105 : BitVec 32 := Scalar.addi v104 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32 : BitVec 32 := 4096#32
  let v13 : BitVec 32 := Scalar.muli v8 c4096_i32
  let v14 : BitVec 32 := v13
  let c0_i32_67 : BitVec 32 := 0#32
  ![v105.toNat, v14.toNat, 0]
def k0_dev5 (d0 : Dev nD) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v118 : BitVec 32 := Scalar.muli v2 c4_i32_71
  let v119 : BitVec 32 := Scalar.addi c0_i32_72 v118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v120 : BitVec 32 := Scalar.muli v5 c2_i32_73
  let v121 : BitVec 32 := Scalar.addi v119 v120
  let c1_i32_40 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v70 : BitVec 32 := Scalar.subi c1_i32_40 v8
  let c1_i32_74 : BitVec 32 := 1#32
  let v122 : BitVec 32 := Scalar.muli v70 c1_i32_74
  let v123 : BitVec 32 := Scalar.addi v121 v122
  v123.toNat
def k0_off6 (d0 : Dev nD) : Fin 3 → Nat :=
  let c2_i32_77 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v132 : BitVec 32 := Scalar.muli c2_i32_77 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v133 : BitVec 32 := Scalar.addi v132 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32 : BitVec 32 := 4096#32
  let v13 : BitVec 32 := Scalar.muli v8 c4096_i32
  let v14 : BitVec 32 := v13
  let c0_i32_84 : BitVec 32 := 0#32
  ![v133.toNat, v14.toNat, 0]
def k0_dev6 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v146 : BitVec 32 := Scalar.muli v2 c4_i32_87
  let v147 : BitVec 32 := Scalar.addi c0_i32_88 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v148 : BitVec 32 := Scalar.muli v5 c2_i32_89
  let v149 : BitVec 32 := Scalar.addi v147 v148
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v73 : BitVec 32 := Scalar.subi c1_i32_42 v8
  let c1_i32_90 : BitVec 32 := 1#32
  let v150 : BitVec 32 := Scalar.muli v73 c1_i32_90
  let v151 : BitVec 32 := Scalar.addi v149 v150
  v151.toNat
def k0_off7 (d0 : Dev nD) : Fin 3 → Nat :=
  let c2_i32_93 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v160 : BitVec 32 := Scalar.muli c2_i32_93 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v161 : BitVec 32 := Scalar.addi v160 v5
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c4096_i32_8 : BitVec 32 := 4096#32
  let v16 : BitVec 32 := Scalar.muli v15 c4096_i32_8
  let v17 : BitVec 32 := v16
  let c0_i32_100 : BitVec 32 := 0#32
  ![v161.toNat, v17.toNat, 0]
def k0_off8 (d0 : Dev nD) : Fin 3 → Nat :=
  let c2_i32_102 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v174 : BitVec 32 := Scalar.muli c2_i32_102 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v175 : BitVec 32 := Scalar.addi v174 v10
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c4096_i32_8 : BitVec 32 := 4096#32
  let v16 : BitVec 32 := Scalar.muli v15 c4096_i32_8
  let v17 : BitVec 32 := v16
  let c0_i32_109 : BitVec 32 := 0#32
  ![v175.toNat, v17.toNat, 0]
def k0_off9 (d0 : Dev nD) : Fin 3 → Nat :=
  let c2_i32_111 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v188 : BitVec 32 := Scalar.muli c2_i32_111 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v189 : BitVec 32 := Scalar.addi v188 v12
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c4096_i32_8 : BitVec 32 := 4096#32
  let v16 : BitVec 32 := Scalar.muli v15 c4096_i32_8
  let v17 : BitVec 32 := v16
  let c0_i32_118 : BitVec 32 := 0#32
  ![v189.toNat, v17.toNat, 0]
-- ==== GatherIdeal.lean ====
abbrev S8192x1668 : Shape := ⟨2, ![8192, 1668]⟩
abbrev S4x8192x1668 : Shape := ⟨3, ![4, 8192, 1668]⟩
abbrev S6 : Shape := ⟨1, ![6]⟩
abbrev S_ : Shape := ⟨0, ![]⟩
abbrev S1x8192x1668 : Shape := ⟨3, ![1, 8192, 1668]⟩
abbrev S1 : Shape := ⟨1, ![1]⟩
abbrev S1x4096x1668 : Shape := ⟨3, ![1, 4096, 1668]⟩
abbrev S4096x1668 : Shape := ⟨2, ![4096, 1668]⟩

abbrev nBuf : Space → Nat
  | .hbm => 2
  | .vmem => 0
  | .smem => 0
  | _ => 0

abbrev bufTy : (tb : Table) → Fin (tcTables nBuf tb) → BufTy
  | .hbm, ⟨0, _⟩ => ⟨S8192x1668, .bf16⟩
  | .hbm, ⟨1, _⟩ => ⟨S4x8192x1668, .bf16⟩
  | _, _ => ⟨S8192x1668, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32 : BitVec 32 := 4096#32
  let v13 : BitVec 32 := Scalar.muli v8 c4096_i32
  v13
def k0_mult2 (d0 : Dev nD) : BitVec 32 :=
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c4096_i32_8 : BitVec 32 := 4096#32
  let v16 : BitVec 32 := Scalar.muli v15 c4096_i32_8
  v16
def k0_off1 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c2_i32_9 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.addi v18 v5
  let c0_i32 : BitVec 32 := 0#32
  let c0_i32_10 : BitVec 32 := 0#32
  ![v19.toNat, 0, 0]
def k0_off2 (d0 : Dev nD) : Fin 3 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.muli c2_i32_11 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.addi v22 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32 : BitVec 32 := 4096#32
  let v13 : BitVec 32 := Scalar.muli v8 c4096_i32
  let v14 : BitVec 32 := v13
  let c0_i32_20 : BitVec 32 := 0#32
  ![v23.toNat, v14.toNat, 0]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32 : BitVec 32 := 4096#32
  let v13 : BitVec 32 := Scalar.muli v8 c4096_i32
  let v14 : BitVec 32 := v13
  let c0_i32_21 : BitVec 32 := 0#32
  ![v14.toNat, 0]
def k0_dev1 (d0 : Dev nD) : Nat :=
  let c0_i32_17 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_16 : BitVec 32 := 4#32
  let v28 : BitVec 32 := Scalar.muli v9 c4_i32_16
  let v29 : BitVec 32 := Scalar.addi c0_i32_17 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v30 : BitVec 32 := Scalar.muli v5 c2_i32_18
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v32 : BitVec 32 := Scalar.muli v8 c1_i32_19
  let v33 : BitVec 32 := Scalar.addi v31 v32
  v33.toNat
def k0_dev2 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v41 : BitVec 32 := Scalar.muli v2 c4_i32_24
  let v42 : BitVec 32 := Scalar.addi c0_i32_25 v41
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_26 : BitVec 32 := 2#32
  let v43 : BitVec 32 := Scalar.muli v10 c2_i32_26
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v45 : BitVec 32 := Scalar.muli v8 c1_i32_27
  let v46 : BitVec 32 := Scalar.addi v44 v45
  v46.toNat
def k0_dev3 (d0 : Dev nD) : Nat :=
  let c0_i32_33 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_32 : BitVec 32 := 4#32
  let v54 : BitVec 32 := Scalar.muli v11 c4_i32_32
  let v55 : BitVec 32 := Scalar.addi c0_i32_33 v54
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_34 : BitVec 32 := 2#32
  let v56 : BitVec 32 := Scalar.muli v12 c2_i32_34
  let v57 : BitVec 32 := Scalar.addi v55 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v58 : BitVec 32 := Scalar.muli v8 c1_i32_35
  let v59 : BitVec 32 := Scalar.addi v57 v58
  v59.toNat
def k0_off4 (d0 : Dev nD) : Fin 3 → Nat :=
  let c2_i32_44 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v76 : BitVec 32 := Scalar.muli c2_i32_44 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.addi v76 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32 : BitVec 32 := 4096#32
  let v13 : BitVec 32 := Scalar.muli v8 c4096_i32
  let v14 : BitVec 32 := v13
  let c0_i32_51 : BitVec 32 := 0#32
  ![v77.toNat, v14.toNat, 0]
def k0_dev4 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_54 : BitVec 32 := 4#32
  let v90 : BitVec 32 := Scalar.muli v2 c4_i32_54
  let v91 : BitVec 32 := Scalar.addi c0_i32_55 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_56 : BitVec 32 := 2#32
  let v92 : BitVec 32 := Scalar.muli v5 c2_i32_56
  let v93 : BitVec 32 := Scalar.addi v91 v92
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v67 : BitVec 32 := Scalar.subi c1_i32_38 v8
  let c1_i32_57 : BitVec 32 := 1#32
  let v94 : BitVec 32 := Scalar.muli v67 c1_i32_57
  let v95 : BitVec 32 := Scalar.addi v93 v94
  v95.toNat
def k0_off5 (d0 : Dev nD) : Fin 3 → Nat :=
  let c2_i32_60 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v104 : BitVec 32 := Scalar.muli c2_i32_60 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v105 : BitVec 32 := Scalar.addi v104 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32 : BitVec 32 := 4096#32
  let v13 : BitVec 32 := Scalar.muli v8 c4096_i32
  let v14 : BitVec 32 := v13
  let c0_i32_67 : BitVec 32 := 0#32
  ![v105.toNat, v14.toNat, 0]
def k0_dev5 (d0 : Dev nD) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v118 : BitVec 32 := Scalar.muli v2 c4_i32_71
  let v119 : BitVec 32 := Scalar.addi c0_i32_72 v118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v120 : BitVec 32 := Scalar.muli v5 c2_i32_73
  let v121 : BitVec 32 := Scalar.addi v119 v120
  let c1_i32_40 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v70 : BitVec 32 := Scalar.subi c1_i32_40 v8
  let c1_i32_74 : BitVec 32 := 1#32
  let v122 : BitVec 32 := Scalar.muli v70 c1_i32_74
  let v123 : BitVec 32 := Scalar.addi v121 v122
  v123.toNat
def k0_off6 (d0 : Dev nD) : Fin 3 → Nat :=
  let c2_i32_77 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v132 : BitVec 32 := Scalar.muli c2_i32_77 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v133 : BitVec 32 := Scalar.addi v132 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32 : BitVec 32 := 4096#32
  let v13 : BitVec 32 := Scalar.muli v8 c4096_i32
  let v14 : BitVec 32 := v13
  let c0_i32_84 : BitVec 32 := 0#32
  ![v133.toNat, v14.toNat, 0]
def k0_dev6 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v146 : BitVec 32 := Scalar.muli v2 c4_i32_87
  let v147 : BitVec 32 := Scalar.addi c0_i32_88 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v148 : BitVec 32 := Scalar.muli v5 c2_i32_89
  let v149 : BitVec 32 := Scalar.addi v147 v148
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v73 : BitVec 32 := Scalar.subi c1_i32_42 v8
  let c1_i32_90 : BitVec 32 := 1#32
  let v150 : BitVec 32 := Scalar.muli v73 c1_i32_90
  let v151 : BitVec 32 := Scalar.addi v149 v150
  v151.toNat
def k0_off7 (d0 : Dev nD) : Fin 3 → Nat :=
  let c2_i32_93 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v160 : BitVec 32 := Scalar.muli c2_i32_93 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v161 : BitVec 32 := Scalar.addi v160 v5
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c4096_i32_8 : BitVec 32 := 4096#32
  let v16 : BitVec 32 := Scalar.muli v15 c4096_i32_8
  let v17 : BitVec 32 := v16
  let c0_i32_100 : BitVec 32 := 0#32
  ![v161.toNat, v17.toNat, 0]
def k0_off8 (d0 : Dev nD) : Fin 3 → Nat :=
  let c2_i32_102 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v174 : BitVec 32 := Scalar.muli c2_i32_102 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v175 : BitVec 32 := Scalar.addi v174 v10
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c4096_i32_8 : BitVec 32 := 4096#32
  let v16 : BitVec 32 := Scalar.muli v15 c4096_i32_8
  let v17 : BitVec 32 := v16
  let c0_i32_109 : BitVec 32 := 0#32
  ![v175.toNat, v17.toNat, 0]
def k0_off9 (d0 : Dev nD) : Fin 3 → Nat :=
  let c2_i32_111 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v188 : BitVec 32 := Scalar.muli c2_i32_111 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v189 : BitVec 32 := Scalar.addi v188 v12
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c4096_i32_8 : BitVec 32 := 4096#32
  let v16 : BitVec 32 := Scalar.muli v15 c4096_i32_8
  let v17 : BitVec 32 := v16
  let c0_i32_118 : BitVec 32 := 0#32
  ![v189.toNat, v17.toNat, 0]
-- ==== GatherRef.lean ====
abbrev S8192x6672 : Shape := ⟨2, ![8192, 6672]⟩
abbrev S8192x4x1668 : Shape := ⟨3, ![8192, 4, 1668]⟩
abbrev S4x8192x1668 : Shape := ⟨3, ![4, 8192, 1668]⟩

abbrev nBuf : Space → Nat
  | .hbm => 3
  | .vmem => 0
  | .smem => 0
  | _ => 0

abbrev bufTy : (tb : Table) → Fin (tcTables nBuf tb) → BufTy
  | .hbm, ⟨0, _⟩ => ⟨S8192x6672, .bf16⟩
  | .hbm, ⟨1, _⟩ => ⟨S8192x4x1668, .bf16⟩
  | .hbm, ⟨2, _⟩ => ⟨S4x8192x1668, .bf16⟩
  | _, _ => ⟨S8192x6672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== GatherRefIdeal.lean ====
abbrev S8192x6672 : Shape := ⟨2, ![8192, 6672]⟩
abbrev S8192x4x1668 : Shape := ⟨3, ![8192, 4, 1668]⟩
abbrev S4x8192x1668 : Shape := ⟨3, ![4, 8192, 1668]⟩

abbrev nBuf : Space → Nat
  | .hbm => 3
  | .vmem => 0
  | .smem => 0
  | _ => 0

abbrev bufTy : (tb : Table) → Fin (tcTables nBuf tb) → BufTy
  | .hbm, ⟨0, _⟩ => ⟨S8192x6672, .bf16⟩
  | .hbm, ⟨1, _⟩ => ⟨S8192x4x1668, .bf16⟩
  | .hbm, ⟨2, _⟩ => ⟨S4x8192x1668, .bf16⟩
  | _, _ => ⟨S8192x6672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Pair.lean ====
abbrev S4x2x4096x1668 : Shape := ⟨4, ![4, 2, 4096, 1668]⟩
abbrev S4x4096x1668 : Shape := ⟨3, ![4, 4096, 1668]⟩
abbrev S4 : Shape := ⟨1, ![4]⟩
abbrev S1 : Shape := ⟨1, ![1]⟩
abbrev S_ : Shape := ⟨0, ![]⟩
abbrev S1x4096x1668 : Shape := ⟨3, ![1, 4096, 1668]⟩
abbrev S4096x1668 : Shape := ⟨2, ![4096, 1668]⟩
abbrev S1x1x4096x1668 : Shape := ⟨4, ![1, 1, 4096, 1668]⟩

abbrev nBuf : Space → Nat
  | .hbm => 2
  | .vmem => 0
  | .smem => 0
  | _ => 0

abbrev bufTy : (tb : Table) → Fin (tcTables nBuf tb) → BufTy
  | .hbm, ⟨0, _⟩ => ⟨S4x2x4096x1668, .f32⟩
  | .hbm, ⟨1, _⟩ => ⟨S4x4096x1668, .f32⟩
  | _, _ => ⟨S4x2x4096x1668, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c0_i32 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_20 : BitVec 32 := 0#32
  let c0_i32_21 : BitVec 32 := 0#32
  ![0, v9.toNat, 0, 0]
def k0_dev1 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v17 : BitVec 32 := Scalar.muli v2 c4_i32_14
  let v18 : BitVec 32 := Scalar.addi c0_i32_15 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v19 : BitVec 32 := Scalar.muli v5 c2_i32_16
  let v20 : BitVec 32 := Scalar.addi v18 v19
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_17 : BitVec 32 := 1#32
  let v21 : BitVec 32 := Scalar.muli v10 c1_i32_17
  let v22 : BitVec 32 := Scalar.addi v20 v21
  v22.toNat
def k0_off2 (d0 : Dev nD) : Fin 4 → Nat :=
  let c1_i32_22 : BitVec 32 := 1#32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c0_i32_32 : BitVec 32 := 0#32
  let c0_i32_33 : BitVec 32 := 0#32
  ![1, v11.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v31 : BitVec 32 := Scalar.muli v2 c4_i32_26
  let v32 : BitVec 32 := Scalar.addi c0_i32_27 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v33 : BitVec 32 := Scalar.muli v5 c2_i32_28
  let v34 : BitVec 32 := Scalar.addi v32 v33
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_29 : BitVec 32 := 1#32
  let v35 : BitVec 32 := Scalar.muli v12 c1_i32_29
  let v36 : BitVec 32 := Scalar.addi v34 v35
  v36.toNat
def k0_off3 (d0 : Dev nD) : Fin 4 → Nat :=
  let c2_i32_34 : BitVec 32 := 2#32
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c0_i32_44 : BitVec 32 := 0#32
  let c0_i32_45 : BitVec 32 := 0#32
  ![2, v13.toNat, 0, 0]
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v45 : BitVec 32 := Scalar.muli v2 c4_i32_38
  let v46 : BitVec 32 := Scalar.addi c0_i32_39 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v47 : BitVec 32 := Scalar.muli v5 c2_i32_40
  let v48 : BitVec 32 := Scalar.addi v46 v47
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_8 v8
  let c1_i32_41 : BitVec 32 := 1#32
  let v49 : BitVec 32 := Scalar.muli v14 c1_i32_41
  let v50 : BitVec 32 := Scalar.addi v48 v49
  v50.toNat
def k0_off4 (d0 : Dev nD) : Fin 4 → Nat :=
  let c3_i32 : BitVec 32 := 3#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c0_i32_55 : BitVec 32 := 0#32
  let c0_i32_56 : BitVec 32 := 0#32
  ![3, v15.toNat, 0, 0]
def k0_dev4 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v59 : BitVec 32 := Scalar.muli v2 c4_i32_49
  let v60 : BitVec 32 := Scalar.addi c0_i32_50 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v61 : BitVec 32 := Scalar.muli v5 c2_i32_51
  let v62 : BitVec 32 := Scalar.addi v60 v61
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_10 v8
  let c1_i32_52 : BitVec 32 := 1#32
  let v63 : BitVec 32 := Scalar.muli v16 c1_i32_52
  let v64 : BitVec 32 := Scalar.addi v62 v63
  v64.toNat
-- ==== PairIdeal.lean ====
abbrev S4x2x4096x1668 : Shape := ⟨4, ![4, 2, 4096, 1668]⟩
abbrev S4x4096x1668 : Shape := ⟨3, ![4, 4096, 1668]⟩
abbrev S4 : Shape := ⟨1, ![4]⟩
abbrev S1 : Shape := ⟨1, ![1]⟩
abbrev S_ : Shape := ⟨0, ![]⟩
abbrev S1x4096x1668 : Shape := ⟨3, ![1, 4096, 1668]⟩
abbrev S4096x1668 : Shape := ⟨2, ![4096, 1668]⟩
abbrev S1x1x4096x1668 : Shape := ⟨4, ![1, 1, 4096, 1668]⟩

abbrev nBuf : Space → Nat
  | .hbm => 2
  | .vmem => 0
  | .smem => 0
  | _ => 0

abbrev bufTy : (tb : Table) → Fin (tcTables nBuf tb) → BufTy
  | .hbm, ⟨0, _⟩ => ⟨S4x2x4096x1668, .f32⟩
  | .hbm, ⟨1, _⟩ => ⟨S4x4096x1668, .f32⟩
  | _, _ => ⟨S4x2x4096x1668, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c0_i32 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_20 : BitVec 32 := 0#32
  let c0_i32_21 : BitVec 32 := 0#32
  ![0, v9.toNat, 0, 0]
def k0_dev1 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v17 : BitVec 32 := Scalar.muli v2 c4_i32_14
  let v18 : BitVec 32 := Scalar.addi c0_i32_15 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v19 : BitVec 32 := Scalar.muli v5 c2_i32_16
  let v20 : BitVec 32 := Scalar.addi v18 v19
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_17 : BitVec 32 := 1#32
  let v21 : BitVec 32 := Scalar.muli v10 c1_i32_17
  let v22 : BitVec 32 := Scalar.addi v20 v21
  v22.toNat
def k0_off2 (d0 : Dev nD) : Fin 4 → Nat :=
  let c1_i32_22 : BitVec 32 := 1#32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c0_i32_32 : BitVec 32 := 0#32
  let c0_i32_33 : BitVec 32 := 0#32
  ![1, v11.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v31 : BitVec 32 := Scalar.muli v2 c4_i32_26
  let v32 : BitVec 32 := Scalar.addi c0_i32_27 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v33 : BitVec 32 := Scalar.muli v5 c2_i32_28
  let v34 : BitVec 32 := Scalar.addi v32 v33
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_29 : BitVec 32 := 1#32
  let v35 : BitVec 32 := Scalar.muli v12 c1_i32_29
  let v36 : BitVec 32 := Scalar.addi v34 v35
  v36.toNat
def k0_off3 (d0 : Dev nD) : Fin 4 → Nat :=
  let c2_i32_34 : BitVec 32 := 2#32
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c0_i32_44 : BitVec 32 := 0#32
  let c0_i32_45 : BitVec 32 := 0#32
  ![2, v13.toNat, 0, 0]
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v45 : BitVec 32 := Scalar.muli v2 c4_i32_38
  let v46 : BitVec 32 := Scalar.addi c0_i32_39 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v47 : BitVec 32 := Scalar.muli v5 c2_i32_40
  let v48 : BitVec 32 := Scalar.addi v46 v47
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_8 v8
  let c1_i32_41 : BitVec 32 := 1#32
  let v49 : BitVec 32 := Scalar.muli v14 c1_i32_41
  let v50 : BitVec 32 := Scalar.addi v48 v49
  v50.toNat
def k0_off4 (d0 : Dev nD) : Fin 4 → Nat :=
  let c3_i32 : BitVec 32 := 3#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c0_i32_55 : BitVec 32 := 0#32
  let c0_i32_56 : BitVec 32 := 0#32
  ![3, v15.toNat, 0, 0]
def k0_dev4 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v59 : BitVec 32 := Scalar.muli v2 c4_i32_49
  let v60 : BitVec 32 := Scalar.addi c0_i32_50 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v61 : BitVec 32 := Scalar.muli v5 c2_i32_51
  let v62 : BitVec 32 := Scalar.addi v60 v61
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_10 v8
  let c1_i32_52 : BitVec 32 := 1#32
  let v63 : BitVec 32 := Scalar.muli v16 c1_i32_52
  let v64 : BitVec 32 := Scalar.addi v62 v63
  v64.toNat
-- ==== PairRef.lean ====
abbrev S32x2x4096x1668 : Shape := ⟨4, ![32, 2, 4096, 1668]⟩
abbrev S4x2x4x2x4096x1668 : Shape := ⟨6, ![4, 2, 4, 2, 4096, 1668]⟩
abbrev S4x1x4x1x4096x1668 : Shape := ⟨6, ![4, 1, 4, 1, 4096, 1668]⟩
abbrev S4x4x4096x1668 : Shape := ⟨4, ![4, 4, 4096, 1668]⟩
abbrev S4x1x4x4096x1668 : Shape := ⟨5, ![4, 1, 4, 4096, 1668]⟩
abbrev S4x2x4x4096x1668 : Shape := ⟨5, ![4, 2, 4, 4096, 1668]⟩
abbrev S32x4096x1668 : Shape := ⟨3, ![32, 4096, 1668]⟩

abbrev nBuf : Space → Nat
  | .hbm => 10
  | .vmem => 0
  | .smem => 0
  | _ => 0

abbrev bufTy : (tb : Table) → Fin (tcTables nBuf tb) → BufTy
  | .hbm, ⟨0, _⟩ => ⟨S32x2x4096x1668, .f32⟩
  | .hbm, ⟨1, _⟩ => ⟨S4x2x4x2x4096x1668, .f32⟩
  | .hbm, ⟨2, _⟩ => ⟨S4x1x4x1x4096x1668, .f32⟩
  | .hbm, ⟨3, _⟩ => ⟨S4x4x4096x1668, .f32⟩
  | .hbm, ⟨4, _⟩ => ⟨S4x1x4x1x4096x1668, .f32⟩
  | .hbm, ⟨5, _⟩ => ⟨S4x4x4096x1668, .f32⟩
  | .hbm, ⟨6, _⟩ => ⟨S4x1x4x4096x1668, .f32⟩
  | .hbm, ⟨7, _⟩ => ⟨S4x1x4x4096x1668, .f32⟩
  | .hbm, ⟨8, _⟩ => ⟨S4x2x4x4096x1668, .f32⟩
  | .hbm, ⟨9, _⟩ => ⟨S32x4096x1668, .f32⟩
  | _, _ => ⟨S32x2x4096x1668, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== PairRefIdeal.lean ====
abbrev S32x2x4096x1668 : Shape := ⟨4, ![32, 2, 4096, 1668]⟩
abbrev S4x2x4x2x4096x1668 : Shape := ⟨6, ![4, 2, 4, 2, 4096, 1668]⟩
abbrev S4x1x4x1x4096x1668 : Shape := ⟨6, ![4, 1, 4, 1, 4096, 1668]⟩
abbrev S4x4x4096x1668 : Shape := ⟨4, ![4, 4, 4096, 1668]⟩
abbrev S4x1x4x4096x1668 : Shape := ⟨5, ![4, 1, 4, 4096, 1668]⟩
abbrev S4x2x4x4096x1668 : Shape := ⟨5, ![4, 2, 4, 4096, 1668]⟩
abbrev S32x4096x1668 : Shape := ⟨3, ![32, 4096, 1668]⟩

abbrev nBuf : Space → Nat
  | .hbm => 10
  | .vmem => 0
  | .smem => 0
  | _ => 0

abbrev bufTy : (tb : Table) → Fin (tcTables nBuf tb) → BufTy
  | .hbm, ⟨0, _⟩ => ⟨S32x2x4096x1668, .f32⟩
  | .hbm, ⟨1, _⟩ => ⟨S4x2x4x2x4096x1668, .f32⟩
  | .hbm, ⟨2, _⟩ => ⟨S4x1x4x1x4096x1668, .f32⟩
  | .hbm, ⟨3, _⟩ => ⟨S4x4x4096x1668, .f32⟩
  | .hbm, ⟨4, _⟩ => ⟨S4x1x4x1x4096x1668, .f32⟩
  | .hbm, ⟨5, _⟩ => ⟨S4x4x4096x1668, .f32⟩
  | .hbm, ⟨6, _⟩ => ⟨S4x1x4x4096x1668, .f32⟩
  | .hbm, ⟨7, _⟩ => ⟨S4x1x4x4096x1668, .f32⟩
  | .hbm, ⟨8, _⟩ => ⟨S4x2x4x4096x1668, .f32⟩
  | .hbm, ⟨9, _⟩ => ⟨S32x4096x1668, .f32⟩
  | _, _ => ⟨S32x2x4096x1668, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== Chip.lean ====
abbrev S4x4096x1668 : Shape := ⟨3, ![4, 4096, 1668]⟩
abbrev S3 : Shape := ⟨1, ![3]⟩
abbrev S_ : Shape := ⟨0, ![]⟩
abbrev S1x4096x1668 : Shape := ⟨3, ![1, 4096, 1668]⟩
abbrev S4096x1668 : Shape := ⟨2, ![4096, 1668]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S4x4096x1668, .f32⟩
  | .hbm, ⟨1, _⟩ => ⟨S4x4096x1668, .f32⟩
  | _, _ => ⟨S4x4096x1668, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32 : BitVec 32 := 0#32
  let c0_i32_8 : BitVec 32 := 0#32
  ![v14.toNat, 0, 0]
def k0_off2 (d0 : Dev nD) : Fin 3 → Nat :=
  let c2_i32_11 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v19 : BitVec 32 := Scalar.muli c2_i32_11 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_22 : BitVec 32 := 0#32
  let c0_i32_23 : BitVec 32 := 0#32
  ![v20.toNat, 0, 0]
def k0_dev1 (d0 : Dev nD) : Nat :=
  let c0_i32_17 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_16 : BitVec 32 := 4#32
  let v25 : BitVec 32 := Scalar.muli v9 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v29 : BitVec 32 := Scalar.muli v8 c1_i32_19
  let v30 : BitVec 32 := Scalar.addi v28 v29
  v30.toNat
def k0_off3 (d0 : Dev nD) : Fin 3 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_12 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v22 : BitVec 32 := Scalar.addi v21 v10
  let c0_i32_32 : BitVec 32 := 0#32
  let c0_i32_33 : BitVec 32 := 0#32
  ![v22.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v39 : BitVec 32 := Scalar.muli v2 c4_i32_26
  let v40 : BitVec 32 := Scalar.addi c0_i32_27 v39
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_28 : BitVec 32 := 2#32
  let v41 : BitVec 32 := Scalar.muli v10 c2_i32_28
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v43 : BitVec 32 := Scalar.muli v8 c1_i32_29
  let v44 : BitVec 32 := Scalar.addi v42 v43
  v44.toNat
def k0_off4 (d0 : Dev nD) : Fin 3 → Nat :=
  let c2_i32_13 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v23 : BitVec 32 := Scalar.muli c2_i32_13 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v24 : BitVec 32 := Scalar.addi v23 v12
  let c0_i32_42 : BitVec 32 := 0#32
  let c0_i32_43 : BitVec 32 := 0#32
  ![v24.toNat, 0, 0]
def k0_dev3 (d0 : Dev nD) : Nat :=
  let c0_i32_37 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_36 : BitVec 32 := 4#32
  let v53 : BitVec 32 := Scalar.muli v11 c4_i32_36
  let v54 : BitVec 32 := Scalar.addi c0_i32_37 v53
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_38 : BitVec 32 := 2#32
  let v55 : BitVec 32 := Scalar.muli v12 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
-- ==== ChipIdeal.lean ====
abbrev S4x4096x1668 : Shape := ⟨3, ![4, 4096, 1668]⟩
abbrev S3 : Shape := ⟨1, ![3]⟩
abbrev S_ : Shape := ⟨0, ![]⟩
abbrev S1x4096x1668 : Shape := ⟨3, ![1, 4096, 1668]⟩
abbrev S4096x1668 : Shape := ⟨2, ![4096, 1668]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S4x4096x1668, .f32⟩
  | .hbm, ⟨1, _⟩ => ⟨S4x4096x1668, .f32⟩
  | _, _ => ⟨S4x4096x1668, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32 : BitVec 32 := 0#32
  let c0_i32_8 : BitVec 32 := 0#32
  ![v14.toNat, 0, 0]
def k0_off2 (d0 : Dev nD) : Fin 3 → Nat :=
  let c2_i32_11 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v19 : BitVec 32 := Scalar.muli c2_i32_11 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_22 : BitVec 32 := 0#32
  let c0_i32_23 : BitVec 32 := 0#32
  ![v20.toNat, 0, 0]
def k0_dev1 (d0 : Dev nD) : Nat :=
  let c0_i32_17 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_16 : BitVec 32 := 4#32
  let v25 : BitVec 32 := Scalar.muli v9 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v29 : BitVec 32 := Scalar.muli v8 c1_i32_19
  let v30 : BitVec 32 := Scalar.addi v28 v29
  v30.toNat
def k0_off3 (d0 : Dev nD) : Fin 3 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_12 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v22 : BitVec 32 := Scalar.addi v21 v10
  let c0_i32_32 : BitVec 32 := 0#32
  let c0_i32_33 : BitVec 32 := 0#32
  ![v22.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v39 : BitVec 32 := Scalar.muli v2 c4_i32_26
  let v40 : BitVec 32 := Scalar.addi c0_i32_27 v39
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_28 : BitVec 32 := 2#32
  let v41 : BitVec 32 := Scalar.muli v10 c2_i32_28
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v43 : BitVec 32 := Scalar.muli v8 c1_i32_29
  let v44 : BitVec 32 := Scalar.addi v42 v43
  v44.toNat
def k0_off4 (d0 : Dev nD) : Fin 3 → Nat :=
  let c2_i32_13 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v23 : BitVec 32 := Scalar.muli c2_i32_13 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v24 : BitVec 32 := Scalar.addi v23 v12
  let c0_i32_42 : BitVec 32 := 0#32
  let c0_i32_43 : BitVec 32 := 0#32
  ![v24.toNat, 0, 0]
def k0_dev3 (d0 : Dev nD) : Nat :=
  let c0_i32_37 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_36 : BitVec 32 := 4#32
  let v53 : BitVec 32 := Scalar.muli v11 c4_i32_36
  let v54 : BitVec 32 := Scalar.addi c0_i32_37 v53
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_38 : BitVec 32 := 2#32
  let v55 : BitVec 32 := Scalar.muli v12 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
-- ==== ChipRef.lean ====
abbrev S32x4096x1668 : Shape := ⟨3, ![32, 4096, 1668]⟩
abbrev S4x2x4x4096x1668 : Shape := ⟨5, ![4, 2, 4, 4096, 1668]⟩

abbrev nBuf : Space → Nat
  | .hbm => 4
  | .vmem => 0
  | .smem => 0
  | _ => 0

abbrev bufTy : (tb : Table) → Fin (tcTables nBuf tb) → BufTy
  | .hbm, ⟨0, _⟩ => ⟨S32x4096x1668, .f32⟩
  | .hbm, ⟨1, _⟩ => ⟨S4x2x4x4096x1668, .f32⟩
  | .hbm, ⟨2, _⟩ => ⟨S4x2x4x4096x1668, .f32⟩
  | .hbm, ⟨3, _⟩ => ⟨S32x4096x1668, .f32⟩
  | _, _ => ⟨S32x4096x1668, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== ChipRefIdeal.lean ====
abbrev S32x4096x1668 : Shape := ⟨3, ![32, 4096, 1668]⟩
abbrev S4x2x4x4096x1668 : Shape := ⟨5, ![4, 2, 4, 4096, 1668]⟩

abbrev nBuf : Space → Nat
  | .hbm => 4
  | .vmem => 0
  | .smem => 0
  | _ => 0

abbrev bufTy : (tb : Table) → Fin (tcTables nBuf tb) → BufTy
  | .hbm, ⟨0, _⟩ => ⟨S32x4096x1668, .f32⟩
  | .hbm, ⟨1, _⟩ => ⟨S4x2x4x4096x1668, .f32⟩
  | .hbm, ⟨2, _⟩ => ⟨S4x2x4x4096x1668, .f32⟩
  | .hbm, ⟨3, _⟩ => ⟨S32x4096x1668, .f32⟩
  | _, _ => ⟨S32x4096x1668, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Back.lean ====
abbrev S4096x1668 : Shape := ⟨2, ![4096, 1668]⟩
abbrev S2x4096x1668 : Shape := ⟨3, ![2, 4096, 1668]⟩
abbrev S_ : Shape := ⟨0, ![]⟩
abbrev S1x4096x1668 : Shape := ⟨3, ![1, 4096, 1668]⟩

abbrev nBuf : Space → Nat
  | .hbm => 2
  | .vmem => 0
  | .smem => 0
  | _ => 0

abbrev bufTy : (tb : Table) → Fin (tcTables nBuf tb) → BufTy
  | .hbm, ⟨0, _⟩ => ⟨S4096x1668, .f32⟩
  | .hbm, ⟨1, _⟩ => ⟨S2x4096x1668, .f32⟩
  | _, _ => ⟨S4096x1668, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
def k0_off2 (d0 : Dev nD) : Fin 3 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let c0_i32_17 : BitVec 32 := 0#32
  let c0_i32_18 : BitVec 32 := 0#32
  ![v20.toNat, 0, 0]
-- ==== BackIdeal.lean ====
abbrev S4096x1668 : Shape := ⟨2, ![4096, 1668]⟩
abbrev S2x4096x1668 : Shape := ⟨3, ![2, 4096, 1668]⟩
abbrev S_ : Shape := ⟨0, ![]⟩
abbrev S1x4096x1668 : Shape := ⟨3, ![1, 4096, 1668]⟩

abbrev nBuf : Space → Nat
  | .hbm => 2
  | .vmem => 0
  | .smem => 0
  | _ => 0

abbrev bufTy : (tb : Table) → Fin (tcTables nBuf tb) → BufTy
  | .hbm, ⟨0, _⟩ => ⟨S4096x1668, .f32⟩
  | .hbm, ⟨1, _⟩ => ⟨S2x4096x1668, .f32⟩
  | _, _ => ⟨S4096x1668, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
def k0_off2 (d0 : Dev nD) : Fin 3 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let c0_i32_17 : BitVec 32 := 0#32
  let c0_i32_18 : BitVec 32 := 0#32
  ![v20.toNat, 0, 0]
-- ==== BackRef.lean ====
abbrev S32768x1668 : Shape := ⟨2, ![32768, 1668]⟩
abbrev S4x1x2x4096x1668 : Shape := ⟨5, ![4, 1, 2, 4096, 1668]⟩
abbrev S4x2x2x4096x1668 : Shape := ⟨5, ![4, 2, 2, 4096, 1668]⟩
abbrev S16x4096x1668 : Shape := ⟨3, ![16, 4096, 1668]⟩

abbrev nBuf : Space → Nat
  | .hbm => 4
  | .vmem => 0
  | .smem => 0
  | _ => 0

abbrev bufTy : (tb : Table) → Fin (tcTables nBuf tb) → BufTy
  | .hbm, ⟨0, _⟩ => ⟨S32768x1668, .f32⟩
  | .hbm, ⟨1, _⟩ => ⟨S4x1x2x4096x1668, .f32⟩
  | .hbm, ⟨2, _⟩ => ⟨S4x2x2x4096x1668, .f32⟩
  | .hbm, ⟨3, _⟩ => ⟨S16x4096x1668, .f32⟩
  | _, _ => ⟨S32768x1668, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== BackRefIdeal.lean ====
abbrev S32768x1668 : Shape := ⟨2, ![32768, 1668]⟩
abbrev S4x1x2x4096x1668 : Shape := ⟨5, ![4, 1, 2, 4096, 1668]⟩
abbrev S4x2x2x4096x1668 : Shape := ⟨5, ![4, 2, 2, 4096, 1668]⟩
abbrev S16x4096x1668 : Shape := ⟨3, ![16, 4096, 1668]⟩

abbrev nBuf : Space → Nat
  | .hbm => 4
  | .vmem => 0
  | .smem => 0
  | _ => 0

abbrev bufTy : (tb : Table) → Fin (tcTables nBuf tb) → BufTy
  | .hbm, ⟨0, _⟩ => ⟨S32768x1668, .f32⟩
  | .hbm, ⟨1, _⟩ => ⟨S4x1x2x4096x1668, .f32⟩
  | .hbm, ⟨2, _⟩ => ⟨S4x2x2x4096x1668, .f32⟩
  | .hbm, ⟨3, _⟩ => ⟨S16x4096x1668, .f32⟩
  | _, _ => ⟨S32768x1668, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== GatherOut.lean ====
abbrev S2048x2048 : Shape := ⟨2, ![2048, 2048]⟩
abbrev S4x2048x2048 : Shape := ⟨3, ![4, 2048, 2048]⟩
abbrev S6 : Shape := ⟨1, ![6]⟩
abbrev S_ : Shape := ⟨0, ![]⟩
abbrev S1x2048x2048 : Shape := ⟨3, ![1, 2048, 2048]⟩
abbrev S1 : Shape := ⟨1, ![1]⟩
abbrev S1x1024x2048 : Shape := ⟨3, ![1, 1024, 2048]⟩
abbrev S1024x2048 : Shape := ⟨2, ![1024, 2048]⟩

abbrev nBuf : Space → Nat
  | .hbm => 2
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  v13
def k0_mult2 (d0 : Dev nD) : BitVec 32 :=
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c1024_i32_8 : BitVec 32 := 1024#32
  let v16 : BitVec 32 := Scalar.muli v15 c1024_i32_8
  v16
def k0_off1 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c2_i32_9 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.addi v18 v5
  let c0_i32 : BitVec 32 := 0#32
  let c0_i32_10 : BitVec 32 := 0#32
  ![v19.toNat, 0, 0]
def k0_off2 (d0 : Dev nD) : Fin 3 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.muli c2_i32_11 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.addi v22 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  let v14 : BitVec 32 := v13
  let c0_i32_20 : BitVec 32 := 0#32
  ![v23.toNat, v14.toNat, 0]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  let v14 : BitVec 32 := v13
  let c0_i32_21 : BitVec 32 := 0#32
  ![v14.toNat, 0]
def k0_dev1 (d0 : Dev nD) : Nat :=
  let c0_i32_17 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_16 : BitVec 32 := 4#32
  let v28 : BitVec 32 := Scalar.muli v9 c4_i32_16
  let v29 : BitVec 32 := Scalar.addi c0_i32_17 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v30 : BitVec 32 := Scalar.muli v5 c2_i32_18
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v32 : BitVec 32 := Scalar.muli v8 c1_i32_19
  let v33 : BitVec 32 := Scalar.addi v31 v32
  v33.toNat
def k0_dev2 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v41 : BitVec 32 := Scalar.muli v2 c4_i32_24
  let v42 : BitVec 32 := Scalar.addi c0_i32_25 v41
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_26 : BitVec 32 := 2#32
  let v43 : BitVec 32 := Scalar.muli v10 c2_i32_26
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v45 : BitVec 32 := Scalar.muli v8 c1_i32_27
  let v46 : BitVec 32 := Scalar.addi v44 v45
  v46.toNat
def k0_dev3 (d0 : Dev nD) : Nat :=
  let c0_i32_33 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_32 : BitVec 32 := 4#32
  let v54 : BitVec 32 := Scalar.muli v11 c4_i32_32
  let v55 : BitVec 32 := Scalar.addi c0_i32_33 v54
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_34 : BitVec 32 := 2#32
  let v56 : BitVec 32 := Scalar.muli v12 c2_i32_34
  let v57 : BitVec 32 := Scalar.addi v55 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v58 : BitVec 32 := Scalar.muli v8 c1_i32_35
  let v59 : BitVec 32 := Scalar.addi v57 v58
  v59.toNat
def k0_off4 (d0 : Dev nD) : Fin 3 → Nat :=
  let c2_i32_44 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v76 : BitVec 32 := Scalar.muli c2_i32_44 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.addi v76 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  let v14 : BitVec 32 := v13
  let c0_i32_51 : BitVec 32 := 0#32
  ![v77.toNat, v14.toNat, 0]
def k0_dev4 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_54 : BitVec 32 := 4#32
  let v90 : BitVec 32 := Scalar.muli v2 c4_i32_54
  let v91 : BitVec 32 := Scalar.addi c0_i32_55 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_56 : BitVec 32 := 2#32
  let v92 : BitVec 32 := Scalar.muli v5 c2_i32_56
  let v93 : BitVec 32 := Scalar.addi v91 v92
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v67 : BitVec 32 := Scalar.subi c1_i32_38 v8
  let c1_i32_57 : BitVec 32 := 1#32
  let v94 : BitVec 32 := Scalar.muli v67 c1_i32_57
  let v95 : BitVec 32 := Scalar.addi v93 v94
  v95.toNat
def k0_off5 (d0 : Dev nD) : Fin 3 → Nat :=
  let c2_i32_60 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v104 : BitVec 32 := Scalar.muli c2_i32_60 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v105 : BitVec 32 := Scalar.addi v104 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  let v14 : BitVec 32 := v13
  let c0_i32_67 : BitVec 32 := 0#32
  ![v105.toNat, v14.toNat, 0]
def k0_dev5 (d0 : Dev nD) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v118 : BitVec 32 := Scalar.muli v2 c4_i32_71
  let v119 : BitVec 32 := Scalar.addi c0_i32_72 v118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v120 : BitVec 32 := Scalar.muli v5 c2_i32_73
  let v121 : BitVec 32 := Scalar.addi v119 v120
  let c1_i32_40 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v70 : BitVec 32 := Scalar.subi c1_i32_40 v8
  let c1_i32_74 : BitVec 32 := 1#32
  let v122 : BitVec 32 := Scalar.muli v70 c1_i32_74
  let v123 : BitVec 32 := Scalar.addi v121 v122
  v123.toNat
def k0_off6 (d0 : Dev nD) : Fin 3 → Nat :=
  let c2_i32_77 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v132 : BitVec 32 := Scalar.muli c2_i32_77 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v133 : BitVec 32 := Scalar.addi v132 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  let v14 : BitVec 32 := v13
  let c0_i32_84 : BitVec 32 := 0#32
  ![v133.toNat, v14.toNat, 0]
def k0_dev6 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v146 : BitVec 32 := Scalar.muli v2 c4_i32_87
  let v147 : BitVec 32 := Scalar.addi c0_i32_88 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v148 : BitVec 32 := Scalar.muli v5 c2_i32_89
  let v149 : BitVec 32 := Scalar.addi v147 v148
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v73 : BitVec 32 := Scalar.subi c1_i32_42 v8
  let c1_i32_90 : BitVec 32 := 1#32
  let v150 : BitVec 32 := Scalar.muli v73 c1_i32_90
  let v151 : BitVec 32 := Scalar.addi v149 v150
  v151.toNat
def k0_off7 (d0 : Dev nD) : Fin 3 → Nat :=
  let c2_i32_93 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v160 : BitVec 32 := Scalar.muli c2_i32_93 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v161 : BitVec 32 := Scalar.addi v160 v5
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c1024_i32_8 : BitVec 32 := 1024#32
  let v16 : BitVec 32 := Scalar.muli v15 c1024_i32_8
  let v17 : BitVec 32 := v16
  let c0_i32_100 : BitVec 32 := 0#32
  ![v161.toNat, v17.toNat, 0]
def k0_off8 (d0 : Dev nD) : Fin 3 → Nat :=
  let c2_i32_102 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v174 : BitVec 32 := Scalar.muli c2_i32_102 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v175 : BitVec 32 := Scalar.addi v174 v10
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c1024_i32_8 : BitVec 32 := 1024#32
  let v16 : BitVec 32 := Scalar.muli v15 c1024_i32_8
  let v17 : BitVec 32 := v16
  let c0_i32_109 : BitVec 32 := 0#32
  ![v175.toNat, v17.toNat, 0]
def k0_off9 (d0 : Dev nD) : Fin 3 → Nat :=
  let c2_i32_111 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v188 : BitVec 32 := Scalar.muli c2_i32_111 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v189 : BitVec 32 := Scalar.addi v188 v12
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c1024_i32_8 : BitVec 32 := 1024#32
  let v16 : BitVec 32 := Scalar.muli v15 c1024_i32_8
  let v17 : BitVec 32 := v16
  let c0_i32_118 : BitVec 32 := 0#32
  ![v189.toNat, v17.toNat, 0]
-- ==== GatherOutIdeal.lean ====
abbrev S2048x2048 : Shape := ⟨2, ![2048, 2048]⟩
abbrev S4x2048x2048 : Shape := ⟨3, ![4, 2048, 2048]⟩
abbrev S6 : Shape := ⟨1, ![6]⟩
abbrev S_ : Shape := ⟨0, ![]⟩
abbrev S1x2048x2048 : Shape := ⟨3, ![1, 2048, 2048]⟩
abbrev S1 : Shape := ⟨1, ![1]⟩
abbrev S1x1024x2048 : Shape := ⟨3, ![1, 1024, 2048]⟩
abbrev S1024x2048 : Shape := ⟨2, ![1024, 2048]⟩

abbrev nBuf : Space → Nat
  | .hbm => 2
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  v13
def k0_mult2 (d0 : Dev nD) : BitVec 32 :=
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c1024_i32_8 : BitVec 32 := 1024#32
  let v16 : BitVec 32 := Scalar.muli v15 c1024_i32_8
  v16
def k0_off1 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c2_i32_9 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.addi v18 v5
  let c0_i32 : BitVec 32 := 0#32
  let c0_i32_10 : BitVec 32 := 0#32
  ![v19.toNat, 0, 0]
def k0_off2 (d0 : Dev nD) : Fin 3 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.muli c2_i32_11 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.addi v22 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  let v14 : BitVec 32 := v13
  let c0_i32_20 : BitVec 32 := 0#32
  ![v23.toNat, v14.toNat, 0]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  let v14 : BitVec 32 := v13
  let c0_i32_21 : BitVec 32 := 0#32
  ![v14.toNat, 0]
def k0_dev1 (d0 : Dev nD) : Nat :=
  let c0_i32_17 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_16 : BitVec 32 := 4#32
  let v28 : BitVec 32 := Scalar.muli v9 c4_i32_16
  let v29 : BitVec 32 := Scalar.addi c0_i32_17 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v30 : BitVec 32 := Scalar.muli v5 c2_i32_18
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v32 : BitVec 32 := Scalar.muli v8 c1_i32_19
  let v33 : BitVec 32 := Scalar.addi v31 v32
  v33.toNat
def k0_dev2 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v41 : BitVec 32 := Scalar.muli v2 c4_i32_24
  let v42 : BitVec 32 := Scalar.addi c0_i32_25 v41
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_26 : BitVec 32 := 2#32
  let v43 : BitVec 32 := Scalar.muli v10 c2_i32_26
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v45 : BitVec 32 := Scalar.muli v8 c1_i32_27
  let v46 : BitVec 32 := Scalar.addi v44 v45
  v46.toNat
def k0_dev3 (d0 : Dev nD) : Nat :=
  let c0_i32_33 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_32 : BitVec 32 := 4#32
  let v54 : BitVec 32 := Scalar.muli v11 c4_i32_32
  let v55 : BitVec 32 := Scalar.addi c0_i32_33 v54
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_34 : BitVec 32 := 2#32
  let v56 : BitVec 32 := Scalar.muli v12 c2_i32_34
  let v57 : BitVec 32 := Scalar.addi v55 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v58 : BitVec 32 := Scalar.muli v8 c1_i32_35
  let v59 : BitVec 32 := Scalar.addi v57 v58
  v59.toNat
def k0_off4 (d0 : Dev nD) : Fin 3 → Nat :=
  let c2_i32_44 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v76 : BitVec 32 := Scalar.muli c2_i32_44 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.addi v76 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  let v14 : BitVec 32 := v13
  let c0_i32_51 : BitVec 32 := 0#32
  ![v77.toNat, v14.toNat, 0]
def k0_dev4 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_54 : BitVec 32 := 4#32
  let v90 : BitVec 32 := Scalar.muli v2 c4_i32_54
  let v91 : BitVec 32 := Scalar.addi c0_i32_55 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_56 : BitVec 32 := 2#32
  let v92 : BitVec 32 := Scalar.muli v5 c2_i32_56
  let v93 : BitVec 32 := Scalar.addi v91 v92
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v67 : BitVec 32 := Scalar.subi c1_i32_38 v8
  let c1_i32_57 : BitVec 32 := 1#32
  let v94 : BitVec 32 := Scalar.muli v67 c1_i32_57
  let v95 : BitVec 32 := Scalar.addi v93 v94
  v95.toNat
def k0_off5 (d0 : Dev nD) : Fin 3 → Nat :=
  let c2_i32_60 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v104 : BitVec 32 := Scalar.muli c2_i32_60 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v105 : BitVec 32 := Scalar.addi v104 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  let v14 : BitVec 32 := v13
  let c0_i32_67 : BitVec 32 := 0#32
  ![v105.toNat, v14.toNat, 0]
def k0_dev5 (d0 : Dev nD) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v118 : BitVec 32 := Scalar.muli v2 c4_i32_71
  let v119 : BitVec 32 := Scalar.addi c0_i32_72 v118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v120 : BitVec 32 := Scalar.muli v5 c2_i32_73
  let v121 : BitVec 32 := Scalar.addi v119 v120
  let c1_i32_40 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v70 : BitVec 32 := Scalar.subi c1_i32_40 v8
  let c1_i32_74 : BitVec 32 := 1#32
  let v122 : BitVec 32 := Scalar.muli v70 c1_i32_74
  let v123 : BitVec 32 := Scalar.addi v121 v122
  v123.toNat
def k0_off6 (d0 : Dev nD) : Fin 3 → Nat :=
  let c2_i32_77 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v132 : BitVec 32 := Scalar.muli c2_i32_77 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v133 : BitVec 32 := Scalar.addi v132 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  let v14 : BitVec 32 := v13
  let c0_i32_84 : BitVec 32 := 0#32
  ![v133.toNat, v14.toNat, 0]
def k0_dev6 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v146 : BitVec 32 := Scalar.muli v2 c4_i32_87
  let v147 : BitVec 32 := Scalar.addi c0_i32_88 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v148 : BitVec 32 := Scalar.muli v5 c2_i32_89
  let v149 : BitVec 32 := Scalar.addi v147 v148
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v73 : BitVec 32 := Scalar.subi c1_i32_42 v8
  let c1_i32_90 : BitVec 32 := 1#32
  let v150 : BitVec 32 := Scalar.muli v73 c1_i32_90
  let v151 : BitVec 32 := Scalar.addi v149 v150
  v151.toNat
def k0_off7 (d0 : Dev nD) : Fin 3 → Nat :=
  let c2_i32_93 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v160 : BitVec 32 := Scalar.muli c2_i32_93 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v161 : BitVec 32 := Scalar.addi v160 v5
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c1024_i32_8 : BitVec 32 := 1024#32
  let v16 : BitVec 32 := Scalar.muli v15 c1024_i32_8
  let v17 : BitVec 32 := v16
  let c0_i32_100 : BitVec 32 := 0#32
  ![v161.toNat, v17.toNat, 0]
def k0_off8 (d0 : Dev nD) : Fin 3 → Nat :=
  let c2_i32_102 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v174 : BitVec 32 := Scalar.muli c2_i32_102 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v175 : BitVec 32 := Scalar.addi v174 v10
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c1024_i32_8 : BitVec 32 := 1024#32
  let v16 : BitVec 32 := Scalar.muli v15 c1024_i32_8
  let v17 : BitVec 32 := v16
  let c0_i32_109 : BitVec 32 := 0#32
  ![v175.toNat, v17.toNat, 0]
def k0_off9 (d0 : Dev nD) : Fin 3 → Nat :=
  let c2_i32_111 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v188 : BitVec 32 := Scalar.muli c2_i32_111 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v189 : BitVec 32 := Scalar.addi v188 v12
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c1024_i32_8 : BitVec 32 := 1024#32
  let v16 : BitVec 32 := Scalar.muli v15 c1024_i32_8
  let v17 : BitVec 32 := v16
  let c0_i32_118 : BitVec 32 := 0#32
  ![v189.toNat, v17.toNat, 0]
-- ==== GatherOutRef.lean ====
abbrev S2048x8192 : Shape := ⟨2, ![2048, 8192]⟩
abbrev S2048x4x2048 : Shape := ⟨3, ![2048, 4, 2048]⟩
abbrev S4x2048x2048 : Shape := ⟨3, ![4, 2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x4x2048, .bf16⟩
  | .hbm, ⟨2, _⟩ => ⟨S4x2048x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== GatherOutRefIdeal.lean ====
abbrev S2048x8192 : Shape := ⟨2, ![2048, 8192]⟩
abbrev S2048x4x2048 : Shape := ⟨3, ![2048, 4, 2048]⟩
abbrev S4x2048x2048 : Shape := ⟨3, ![4, 2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x4x2048, .bf16⟩
  | .hbm, ⟨2, _⟩ => ⟨S4x2048x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== PairOut.lean ====
abbrev S4x2x1024x2048 : Shape := ⟨4, ![4, 2, 1024, 2048]⟩
abbrev S4x1024x2048 : Shape := ⟨3, ![4, 1024, 2048]⟩
abbrev S4 : Shape := ⟨1, ![4]⟩
abbrev S1 : Shape := ⟨1, ![1]⟩
abbrev S_ : Shape := ⟨0, ![]⟩
abbrev S1x1024x2048 : Shape := ⟨3, ![1, 1024, 2048]⟩
abbrev S1024x2048 : Shape := ⟨2, ![1024, 2048]⟩
abbrev S1x1x1024x2048 : Shape := ⟨4, ![1, 1, 1024, 2048]⟩

abbrev nBuf : Space → Nat
  | .hbm => 2
  | .vmem => 0
  | .smem => 0
  | _ => 0

abbrev bufTy : (tb : Table) → Fin (tcTables nBuf tb) → BufTy
  | .hbm, ⟨0, _⟩ => ⟨S4x2x1024x2048, .f32⟩
  | .hbm, ⟨1, _⟩ => ⟨S4x1024x2048, .f32⟩
  | _, _ => ⟨S4x2x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c0_i32 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_20 : BitVec 32 := 0#32
  let c0_i32_21 : BitVec 32 := 0#32
  ![0, v9.toNat, 0, 0]
def k0_dev1 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v17 : BitVec 32 := Scalar.muli v2 c4_i32_14
  let v18 : BitVec 32 := Scalar.addi c0_i32_15 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v19 : BitVec 32 := Scalar.muli v5 c2_i32_16
  let v20 : BitVec 32 := Scalar.addi v18 v19
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_17 : BitVec 32 := 1#32
  let v21 : BitVec 32 := Scalar.muli v10 c1_i32_17
  let v22 : BitVec 32 := Scalar.addi v20 v21
  v22.toNat
def k0_off2 (d0 : Dev nD) : Fin 4 → Nat :=
  let c1_i32_22 : BitVec 32 := 1#32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c0_i32_32 : BitVec 32 := 0#32
  let c0_i32_33 : BitVec 32 := 0#32
  ![1, v11.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v31 : BitVec 32 := Scalar.muli v2 c4_i32_26
  let v32 : BitVec 32 := Scalar.addi c0_i32_27 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v33 : BitVec 32 := Scalar.muli v5 c2_i32_28
  let v34 : BitVec 32 := Scalar.addi v32 v33
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_29 : BitVec 32 := 1#32
  let v35 : BitVec 32 := Scalar.muli v12 c1_i32_29
  let v36 : BitVec 32 := Scalar.addi v34 v35
  v36.toNat
def k0_off3 (d0 : Dev nD) : Fin 4 → Nat :=
  let c2_i32_34 : BitVec 32 := 2#32
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c0_i32_44 : BitVec 32 := 0#32
  let c0_i32_45 : BitVec 32 := 0#32
  ![2, v13.toNat, 0, 0]
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v45 : BitVec 32 := Scalar.muli v2 c4_i32_38
  let v46 : BitVec 32 := Scalar.addi c0_i32_39 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v47 : BitVec 32 := Scalar.muli v5 c2_i32_40
  let v48 : BitVec 32 := Scalar.addi v46 v47
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_8 v8
  let c1_i32_41 : BitVec 32 := 1#32
  let v49 : BitVec 32 := Scalar.muli v14 c1_i32_41
  let v50 : BitVec 32 := Scalar.addi v48 v49
  v50.toNat
def k0_off4 (d0 : Dev nD) : Fin 4 → Nat :=
  let c3_i32 : BitVec 32 := 3#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c0_i32_55 : BitVec 32 := 0#32
  let c0_i32_56 : BitVec 32 := 0#32
  ![3, v15.toNat, 0, 0]
def k0_dev4 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v59 : BitVec 32 := Scalar.muli v2 c4_i32_49
  let v60 : BitVec 32 := Scalar.addi c0_i32_50 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v61 : BitVec 32 := Scalar.muli v5 c2_i32_51
  let v62 : BitVec 32 := Scalar.addi v60 v61
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_10 v8
  let c1_i32_52 : BitVec 32 := 1#32
  let v63 : BitVec 32 := Scalar.muli v16 c1_i32_52
  let v64 : BitVec 32 := Scalar.addi v62 v63
  v64.toNat
-- ==== PairOutIdeal.lean ====
abbrev S4x2x1024x2048 : Shape := ⟨4, ![4, 2, 1024, 2048]⟩
abbrev S4x1024x2048 : Shape := ⟨3, ![4, 1024, 2048]⟩
abbrev S4 : Shape := ⟨1, ![4]⟩
abbrev S1 : Shape := ⟨1, ![1]⟩
abbrev S_ : Shape := ⟨0, ![]⟩
abbrev S1x1024x2048 : Shape := ⟨3, ![1, 1024, 2048]⟩
abbrev S1024x2048 : Shape := ⟨2, ![1024, 2048]⟩
abbrev S1x1x1024x2048 : Shape := ⟨4, ![1, 1, 1024, 2048]⟩

abbrev nBuf : Space → Nat
  | .hbm => 2
  | .vmem => 0
  | .smem => 0
  | _ => 0

abbrev bufTy : (tb : Table) → Fin (tcTables nBuf tb) → BufTy
  | .hbm, ⟨0, _⟩ => ⟨S4x2x1024x2048, .f32⟩
  | .hbm, ⟨1, _⟩ => ⟨S4x1024x2048, .f32⟩
  | _, _ => ⟨S4x2x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c0_i32 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_20 : BitVec 32 := 0#32
  let c0_i32_21 : BitVec 32 := 0#32
  ![0, v9.toNat, 0, 0]
def k0_dev1 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v17 : BitVec 32 := Scalar.muli v2 c4_i32_14
  let v18 : BitVec 32 := Scalar.addi c0_i32_15 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v19 : BitVec 32 := Scalar.muli v5 c2_i32_16
  let v20 : BitVec 32 := Scalar.addi v18 v19
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_17 : BitVec 32 := 1#32
  let v21 : BitVec 32 := Scalar.muli v10 c1_i32_17
  let v22 : BitVec 32 := Scalar.addi v20 v21
  v22.toNat
def k0_off2 (d0 : Dev nD) : Fin 4 → Nat :=
  let c1_i32_22 : BitVec 32 := 1#32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c0_i32_32 : BitVec 32 := 0#32
  let c0_i32_33 : BitVec 32 := 0#32
  ![1, v11.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v31 : BitVec 32 := Scalar.muli v2 c4_i32_26
  let v32 : BitVec 32 := Scalar.addi c0_i32_27 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v33 : BitVec 32 := Scalar.muli v5 c2_i32_28
  let v34 : BitVec 32 := Scalar.addi v32 v33
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_29 : BitVec 32 := 1#32
  let v35 : BitVec 32 := Scalar.muli v12 c1_i32_29
  let v36 : BitVec 32 := Scalar.addi v34 v35
  v36.toNat
def k0_off3 (d0 : Dev nD) : Fin 4 → Nat :=
  let c2_i32_34 : BitVec 32 := 2#32
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c0_i32_44 : BitVec 32 := 0#32
  let c0_i32_45 : BitVec 32 := 0#32
  ![2, v13.toNat, 0, 0]
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v45 : BitVec 32 := Scalar.muli v2 c4_i32_38
  let v46 : BitVec 32 := Scalar.addi c0_i32_39 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v47 : BitVec 32 := Scalar.muli v5 c2_i32_40
  let v48 : BitVec 32 := Scalar.addi v46 v47
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_8 v8
  let c1_i32_41 : BitVec 32 := 1#32
  let v49 : BitVec 32 := Scalar.muli v14 c1_i32_41
  let v50 : BitVec 32 := Scalar.addi v48 v49
  v50.toNat
def k0_off4 (d0 : Dev nD) : Fin 4 → Nat :=
  let c3_i32 : BitVec 32 := 3#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c0_i32_55 : BitVec 32 := 0#32
  let c0_i32_56 : BitVec 32 := 0#32
  ![3, v15.toNat, 0, 0]
def k0_dev4 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v59 : BitVec 32 := Scalar.muli v2 c4_i32_49
  let v60 : BitVec 32 := Scalar.addi c0_i32_50 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v61 : BitVec 32 := Scalar.muli v5 c2_i32_51
  let v62 : BitVec 32 := Scalar.addi v60 v61
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_10 v8
  let c1_i32_52 : BitVec 32 := 1#32
  let v63 : BitVec 32 := Scalar.muli v16 c1_i32_52
  let v64 : BitVec 32 := Scalar.addi v62 v63
  v64.toNat
-- ==== PairOutRef.lean ====
abbrev S32x2x1024x2048 : Shape := ⟨4, ![32, 2, 1024, 2048]⟩
abbrev S4x2x4x2x1024x2048 : Shape := ⟨6, ![4, 2, 4, 2, 1024, 2048]⟩
abbrev S4x1x4x1x1024x2048 : Shape := ⟨6, ![4, 1, 4, 1, 1024, 2048]⟩
abbrev S4x4x1024x2048 : Shape := ⟨4, ![4, 4, 1024, 2048]⟩
abbrev S4x1x4x1024x2048 : Shape := ⟨5, ![4, 1, 4, 1024, 2048]⟩
abbrev S4x2x4x1024x2048 : Shape := ⟨5, ![4, 2, 4, 1024, 2048]⟩
abbrev S32x1024x2048 : Shape := ⟨3, ![32, 1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S32x2x1024x2048, .f32⟩
  | .hbm, ⟨1, _⟩ => ⟨S4x2x4x2x1024x2048, .f32⟩
  | .hbm, ⟨2, _⟩ => ⟨S4x1x4x1x1024x2048, .f32⟩
  | .hbm, ⟨3, _⟩ => ⟨S4x4x1024x2048, .f32⟩
  | .hbm, ⟨4, _⟩ => ⟨S4x1x4x1x1024x2048, .f32⟩
  | .hbm, ⟨5, _⟩ => ⟨S4x4x1024x2048, .f32⟩
  | .hbm, ⟨6, _⟩ => ⟨S4x1x4x1024x2048, .f32⟩
  | .hbm, ⟨7, _⟩ => ⟨S4x1x4x1024x2048, .f32⟩
  | .hbm, ⟨8, _⟩ => ⟨S4x2x4x1024x2048, .f32⟩
  | .hbm, ⟨9, _⟩ => ⟨S32x1024x2048, .f32⟩
  | _, _ => ⟨S32x2x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== PairOutRefIdeal.lean ====
abbrev S32x2x1024x2048 : Shape := ⟨4, ![32, 2, 1024, 2048]⟩
abbrev S4x2x4x2x1024x2048 : Shape := ⟨6, ![4, 2, 4, 2, 1024, 2048]⟩
abbrev S4x1x4x1x1024x2048 : Shape := ⟨6, ![4, 1, 4, 1, 1024, 2048]⟩
abbrev S4x4x1024x2048 : Shape := ⟨4, ![4, 4, 1024, 2048]⟩
abbrev S4x1x4x1024x2048 : Shape := ⟨5, ![4, 1, 4, 1024, 2048]⟩
abbrev S4x2x4x1024x2048 : Shape := ⟨5, ![4, 2, 4, 1024, 2048]⟩
abbrev S32x1024x2048 : Shape := ⟨3, ![32, 1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S32x2x1024x2048, .f32⟩
  | .hbm, ⟨1, _⟩ => ⟨S4x2x4x2x1024x2048, .f32⟩
  | .hbm, ⟨2, _⟩ => ⟨S4x1x4x1x1024x2048, .f32⟩
  | .hbm, ⟨3, _⟩ => ⟨S4x4x1024x2048, .f32⟩
  | .hbm, ⟨4, _⟩ => ⟨S4x1x4x1x1024x2048, .f32⟩
  | .hbm, ⟨5, _⟩ => ⟨S4x4x1024x2048, .f32⟩
  | .hbm, ⟨6, _⟩ => ⟨S4x1x4x1024x2048, .f32⟩
  | .hbm, ⟨7, _⟩ => ⟨S4x1x4x1024x2048, .f32⟩
  | .hbm, ⟨8, _⟩ => ⟨S4x2x4x1024x2048, .f32⟩
  | .hbm, ⟨9, _⟩ => ⟨S32x1024x2048, .f32⟩
  | _, _ => ⟨S32x2x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== ChipOut.lean ====
abbrev S4x1024x2048 : Shape := ⟨3, ![4, 1024, 2048]⟩
abbrev S3 : Shape := ⟨1, ![3]⟩
abbrev S_ : Shape := ⟨0, ![]⟩
abbrev S1x1024x2048 : Shape := ⟨3, ![1, 1024, 2048]⟩
abbrev S1024x2048 : Shape := ⟨2, ![1024, 2048]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S4x1024x2048, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32 : BitVec 32 := 0#32
  let c0_i32_8 : BitVec 32 := 0#32
  ![v14.toNat, 0, 0]
def k0_off2 (d0 : Dev nD) : Fin 3 → Nat :=
  let c2_i32_11 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v19 : BitVec 32 := Scalar.muli c2_i32_11 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_22 : BitVec 32 := 0#32
  let c0_i32_23 : BitVec 32 := 0#32
  ![v20.toNat, 0, 0]
def k0_dev1 (d0 : Dev nD) : Nat :=
  let c0_i32_17 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_16 : BitVec 32 := 4#32
  let v25 : BitVec 32 := Scalar.muli v9 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v29 : BitVec 32 := Scalar.muli v8 c1_i32_19
  let v30 : BitVec 32 := Scalar.addi v28 v29
  v30.toNat
def k0_off3 (d0 : Dev nD) : Fin 3 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_12 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v22 : BitVec 32 := Scalar.addi v21 v10
  let c0_i32_32 : BitVec 32 := 0#32
  let c0_i32_33 : BitVec 32 := 0#32
  ![v22.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v39 : BitVec 32 := Scalar.muli v2 c4_i32_26
  let v40 : BitVec 32 := Scalar.addi c0_i32_27 v39
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_28 : BitVec 32 := 2#32
  let v41 : BitVec 32 := Scalar.muli v10 c2_i32_28
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v43 : BitVec 32 := Scalar.muli v8 c1_i32_29
  let v44 : BitVec 32 := Scalar.addi v42 v43
  v44.toNat
def k0_off4 (d0 : Dev nD) : Fin 3 → Nat :=
  let c2_i32_13 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v23 : BitVec 32 := Scalar.muli c2_i32_13 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v24 : BitVec 32 := Scalar.addi v23 v12
  let c0_i32_42 : BitVec 32 := 0#32
  let c0_i32_43 : BitVec 32 := 0#32
  ![v24.toNat, 0, 0]
def k0_dev3 (d0 : Dev nD) : Nat :=
  let c0_i32_37 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_36 : BitVec 32 := 4#32
  let v53 : BitVec 32 := Scalar.muli v11 c4_i32_36
  let v54 : BitVec 32 := Scalar.addi c0_i32_37 v53
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_38 : BitVec 32 := 2#32
  let v55 : BitVec 32 := Scalar.muli v12 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
-- ==== ChipOutIdeal.lean ====
abbrev S4x1024x2048 : Shape := ⟨3, ![4, 1024, 2048]⟩
abbrev S3 : Shape := ⟨1, ![3]⟩
abbrev S_ : Shape := ⟨0, ![]⟩
abbrev S1x1024x2048 : Shape := ⟨3, ![1, 1024, 2048]⟩
abbrev S1024x2048 : Shape := ⟨2, ![1024, 2048]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S4x1024x2048, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32 : BitVec 32 := 0#32
  let c0_i32_8 : BitVec 32 := 0#32
  ![v14.toNat, 0, 0]
def k0_off2 (d0 : Dev nD) : Fin 3 → Nat :=
  let c2_i32_11 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v19 : BitVec 32 := Scalar.muli c2_i32_11 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_22 : BitVec 32 := 0#32
  let c0_i32_23 : BitVec 32 := 0#32
  ![v20.toNat, 0, 0]
def k0_dev1 (d0 : Dev nD) : Nat :=
  let c0_i32_17 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_16 : BitVec 32 := 4#32
  let v25 : BitVec 32 := Scalar.muli v9 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v29 : BitVec 32 := Scalar.muli v8 c1_i32_19
  let v30 : BitVec 32 := Scalar.addi v28 v29
  v30.toNat
def k0_off3 (d0 : Dev nD) : Fin 3 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_12 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v22 : BitVec 32 := Scalar.addi v21 v10
  let c0_i32_32 : BitVec 32 := 0#32
  let c0_i32_33 : BitVec 32 := 0#32
  ![v22.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v39 : BitVec 32 := Scalar.muli v2 c4_i32_26
  let v40 : BitVec 32 := Scalar.addi c0_i32_27 v39
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_28 : BitVec 32 := 2#32
  let v41 : BitVec 32 := Scalar.muli v10 c2_i32_28
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v43 : BitVec 32 := Scalar.muli v8 c1_i32_29
  let v44 : BitVec 32 := Scalar.addi v42 v43
  v44.toNat
def k0_off4 (d0 : Dev nD) : Fin 3 → Nat :=
  let c2_i32_13 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v23 : BitVec 32 := Scalar.muli c2_i32_13 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v24 : BitVec 32 := Scalar.addi v23 v12
  let c0_i32_42 : BitVec 32 := 0#32
  let c0_i32_43 : BitVec 32 := 0#32
  ![v24.toNat, 0, 0]
def k0_dev3 (d0 : Dev nD) : Nat :=
  let c0_i32_37 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_36 : BitVec 32 := 4#32
  let v53 : BitVec 32 := Scalar.muli v11 c4_i32_36
  let v54 : BitVec 32 := Scalar.addi c0_i32_37 v53
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_38 : BitVec 32 := 2#32
  let v55 : BitVec 32 := Scalar.muli v12 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
-- ==== ChipOutRef.lean ====
abbrev S32x1024x2048 : Shape := ⟨3, ![32, 1024, 2048]⟩
abbrev S4x2x4x1024x2048 : Shape := ⟨5, ![4, 2, 4, 1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S32x1024x2048, .f32⟩
  | .hbm, ⟨1, _⟩ => ⟨S4x2x4x1024x2048, .f32⟩
  | .hbm, ⟨2, _⟩ => ⟨S4x2x4x1024x2048, .f32⟩
  | .hbm, ⟨3, _⟩ => ⟨S32x1024x2048, .f32⟩
  | _, _ => ⟨S32x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== ChipOutRefIdeal.lean ====
abbrev S32x1024x2048 : Shape := ⟨3, ![32, 1024, 2048]⟩
abbrev S4x2x4x1024x2048 : Shape := ⟨5, ![4, 2, 4, 1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S32x1024x2048, .f32⟩
  | .hbm, ⟨1, _⟩ => ⟨S4x2x4x1024x2048, .f32⟩
  | .hbm, ⟨2, _⟩ => ⟨S4x2x4x1024x2048, .f32⟩
  | .hbm, ⟨3, _⟩ => ⟨S32x1024x2048, .f32⟩
  | _, _ => ⟨S32x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== BackOut.lean ====
abbrev S1024x2048 : Shape := ⟨2, ![1024, 2048]⟩
abbrev S2x1024x2048 : Shape := ⟨3, ![2, 1024, 2048]⟩
abbrev S_ : Shape := ⟨0, ![]⟩
abbrev S1x1024x2048 : Shape := ⟨3, ![1, 1024, 2048]⟩

abbrev nBuf : Space → Nat
  | .hbm => 2
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2x1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
def k0_off2 (d0 : Dev nD) : Fin 3 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let c0_i32_17 : BitVec 32 := 0#32
  let c0_i32_18 : BitVec 32 := 0#32
  ![v20.toNat, 0, 0]
-- ==== BackOutIdeal.lean ====
abbrev S1024x2048 : Shape := ⟨2, ![1024, 2048]⟩
abbrev S2x1024x2048 : Shape := ⟨3, ![2, 1024, 2048]⟩
abbrev S_ : Shape := ⟨0, ![]⟩
abbrev S1x1024x2048 : Shape := ⟨3, ![1, 1024, 2048]⟩

abbrev nBuf : Space → Nat
  | .hbm => 2
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2x1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
def k0_off2 (d0 : Dev nD) : Fin 3 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let c0_i32_17 : BitVec 32 := 0#32
  let c0_i32_18 : BitVec 32 := 0#32
  ![v20.toNat, 0, 0]
-- ==== BackOutRef.lean ====
abbrev S8192x2048 : Shape := ⟨2, ![8192, 2048]⟩
abbrev S4x1x2x1024x2048 : Shape := ⟨5, ![4, 1, 2, 1024, 2048]⟩
abbrev S4x2x2x1024x2048 : Shape := ⟨5, ![4, 2, 2, 1024, 2048]⟩
abbrev S16x1024x2048 : Shape := ⟨3, ![16, 1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x1x2x1024x2048, .f32⟩
  | .hbm, ⟨2, _⟩ => ⟨S4x2x2x1024x2048, .f32⟩
  | .hbm, ⟨3, _⟩ => ⟨S16x1024x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== BackOutRefIdeal.lean ====
abbrev S8192x2048 : Shape := ⟨2, ![8192, 2048]⟩
abbrev S4x1x2x1024x2048 : Shape := ⟨5, ![4, 1, 2, 1024, 2048]⟩
abbrev S4x2x2x1024x2048 : Shape := ⟨5, ![4, 2, 2, 1024, 2048]⟩
abbrev S16x1024x2048 : Shape := ⟨3, ![16, 1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x1x2x1024x2048, .f32⟩
  | .hbm, ⟨2, _⟩ => ⟨S4x2x2x1024x2048, .f32⟩
  | .hbm, ⟨3, _⟩ => ⟨S16x1024x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== GatherKv.lean ====
abbrev S2048x1024 : Shape := ⟨2, ![2048, 1024]⟩
abbrev S4x2048x1024 : Shape := ⟨3, ![4, 2048, 1024]⟩
abbrev S6 : Shape := ⟨1, ![6]⟩
abbrev S_ : Shape := ⟨0, ![]⟩
abbrev S1x2048x1024 : Shape := ⟨3, ![1, 2048, 1024]⟩
abbrev S1 : Shape := ⟨1, ![1]⟩
abbrev S1x1024x1024 : Shape := ⟨3, ![1, 1024, 1024]⟩
abbrev S1024x1024 : Shape := ⟨2, ![1024, 1024]⟩

abbrev nBuf : Space → Nat
  | .hbm => 2
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  v13
def k0_mult2 (d0 : Dev nD) : BitVec 32 :=
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c1024_i32_8 : BitVec 32 := 1024#32
  let v16 : BitVec 32 := Scalar.muli v15 c1024_i32_8
  v16
def k0_off1 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c2_i32_9 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.addi v18 v5
  let c0_i32 : BitVec 32 := 0#32
  let c0_i32_10 : BitVec 32 := 0#32
  ![v19.toNat, 0, 0]
def k0_off2 (d0 : Dev nD) : Fin 3 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.muli c2_i32_11 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.addi v22 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  let v14 : BitVec 32 := v13
  let c0_i32_20 : BitVec 32 := 0#32
  ![v23.toNat, v14.toNat, 0]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  let v14 : BitVec 32 := v13
  let c0_i32_21 : BitVec 32 := 0#32
  ![v14.toNat, 0]
def k0_dev1 (d0 : Dev nD) : Nat :=
  let c0_i32_17 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_16 : BitVec 32 := 4#32
  let v28 : BitVec 32 := Scalar.muli v9 c4_i32_16
  let v29 : BitVec 32 := Scalar.addi c0_i32_17 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v30 : BitVec 32 := Scalar.muli v5 c2_i32_18
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v32 : BitVec 32 := Scalar.muli v8 c1_i32_19
  let v33 : BitVec 32 := Scalar.addi v31 v32
  v33.toNat
def k0_dev2 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v41 : BitVec 32 := Scalar.muli v2 c4_i32_24
  let v42 : BitVec 32 := Scalar.addi c0_i32_25 v41
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_26 : BitVec 32 := 2#32
  let v43 : BitVec 32 := Scalar.muli v10 c2_i32_26
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v45 : BitVec 32 := Scalar.muli v8 c1_i32_27
  let v46 : BitVec 32 := Scalar.addi v44 v45
  v46.toNat
def k0_dev3 (d0 : Dev nD) : Nat :=
  let c0_i32_33 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_32 : BitVec 32 := 4#32
  let v54 : BitVec 32 := Scalar.muli v11 c4_i32_32
  let v55 : BitVec 32 := Scalar.addi c0_i32_33 v54
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_34 : BitVec 32 := 2#32
  let v56 : BitVec 32 := Scalar.muli v12 c2_i32_34
  let v57 : BitVec 32 := Scalar.addi v55 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v58 : BitVec 32 := Scalar.muli v8 c1_i32_35
  let v59 : BitVec 32 := Scalar.addi v57 v58
  v59.toNat
def k0_off4 (d0 : Dev nD) : Fin 3 → Nat :=
  let c2_i32_44 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v76 : BitVec 32 := Scalar.muli c2_i32_44 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.addi v76 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  let v14 : BitVec 32 := v13
  let c0_i32_51 : BitVec 32 := 0#32
  ![v77.toNat, v14.toNat, 0]
def k0_dev4 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_54 : BitVec 32 := 4#32
  let v90 : BitVec 32 := Scalar.muli v2 c4_i32_54
  let v91 : BitVec 32 := Scalar.addi c0_i32_55 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_56 : BitVec 32 := 2#32
  let v92 : BitVec 32 := Scalar.muli v5 c2_i32_56
  let v93 : BitVec 32 := Scalar.addi v91 v92
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v67 : BitVec 32 := Scalar.subi c1_i32_38 v8
  let c1_i32_57 : BitVec 32 := 1#32
  let v94 : BitVec 32 := Scalar.muli v67 c1_i32_57
  let v95 : BitVec 32 := Scalar.addi v93 v94
  v95.toNat
def k0_off5 (d0 : Dev nD) : Fin 3 → Nat :=
  let c2_i32_60 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v104 : BitVec 32 := Scalar.muli c2_i32_60 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v105 : BitVec 32 := Scalar.addi v104 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  let v14 : BitVec 32 := v13
  let c0_i32_67 : BitVec 32 := 0#32
  ![v105.toNat, v14.toNat, 0]
def k0_dev5 (d0 : Dev nD) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v118 : BitVec 32 := Scalar.muli v2 c4_i32_71
  let v119 : BitVec 32 := Scalar.addi c0_i32_72 v118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v120 : BitVec 32 := Scalar.muli v5 c2_i32_73
  let v121 : BitVec 32 := Scalar.addi v119 v120
  let c1_i32_40 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v70 : BitVec 32 := Scalar.subi c1_i32_40 v8
  let c1_i32_74 : BitVec 32 := 1#32
  let v122 : BitVec 32 := Scalar.muli v70 c1_i32_74
  let v123 : BitVec 32 := Scalar.addi v121 v122
  v123.toNat
def k0_off6 (d0 : Dev nD) : Fin 3 → Nat :=
  let c2_i32_77 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v132 : BitVec 32 := Scalar.muli c2_i32_77 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v133 : BitVec 32 := Scalar.addi v132 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  let v14 : BitVec 32 := v13
  let c0_i32_84 : BitVec 32 := 0#32
  ![v133.toNat, v14.toNat, 0]
def k0_dev6 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v146 : BitVec 32 := Scalar.muli v2 c4_i32_87
  let v147 : BitVec 32 := Scalar.addi c0_i32_88 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v148 : BitVec 32 := Scalar.muli v5 c2_i32_89
  let v149 : BitVec 32 := Scalar.addi v147 v148
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v73 : BitVec 32 := Scalar.subi c1_i32_42 v8
  let c1_i32_90 : BitVec 32 := 1#32
  let v150 : BitVec 32 := Scalar.muli v73 c1_i32_90
  let v151 : BitVec 32 := Scalar.addi v149 v150
  v151.toNat
def k0_off7 (d0 : Dev nD) : Fin 3 → Nat :=
  let c2_i32_93 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v160 : BitVec 32 := Scalar.muli c2_i32_93 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v161 : BitVec 32 := Scalar.addi v160 v5
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c1024_i32_8 : BitVec 32 := 1024#32
  let v16 : BitVec 32 := Scalar.muli v15 c1024_i32_8
  let v17 : BitVec 32 := v16
  let c0_i32_100 : BitVec 32 := 0#32
  ![v161.toNat, v17.toNat, 0]
def k0_off8 (d0 : Dev nD) : Fin 3 → Nat :=
  let c2_i32_102 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v174 : BitVec 32 := Scalar.muli c2_i32_102 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v175 : BitVec 32 := Scalar.addi v174 v10
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c1024_i32_8 : BitVec 32 := 1024#32
  let v16 : BitVec 32 := Scalar.muli v15 c1024_i32_8
  let v17 : BitVec 32 := v16
  let c0_i32_109 : BitVec 32 := 0#32
  ![v175.toNat, v17.toNat, 0]
def k0_off9 (d0 : Dev nD) : Fin 3 → Nat :=
  let c2_i32_111 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v188 : BitVec 32 := Scalar.muli c2_i32_111 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v189 : BitVec 32 := Scalar.addi v188 v12
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c1024_i32_8 : BitVec 32 := 1024#32
  let v16 : BitVec 32 := Scalar.muli v15 c1024_i32_8
  let v17 : BitVec 32 := v16
  let c0_i32_118 : BitVec 32 := 0#32
  ![v189.toNat, v17.toNat, 0]
-- ==== GatherKvIdeal.lean ====
abbrev S2048x1024 : Shape := ⟨2, ![2048, 1024]⟩
abbrev S4x2048x1024 : Shape := ⟨3, ![4, 2048, 1024]⟩
abbrev S6 : Shape := ⟨1, ![6]⟩
abbrev S_ : Shape := ⟨0, ![]⟩
abbrev S1x2048x1024 : Shape := ⟨3, ![1, 2048, 1024]⟩
abbrev S1 : Shape := ⟨1, ![1]⟩
abbrev S1x1024x1024 : Shape := ⟨3, ![1, 1024, 1024]⟩
abbrev S1024x1024 : Shape := ⟨2, ![1024, 1024]⟩

abbrev nBuf : Space → Nat
  | .hbm => 2
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  v13
def k0_mult2 (d0 : Dev nD) : BitVec 32 :=
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c1024_i32_8 : BitVec 32 := 1024#32
  let v16 : BitVec 32 := Scalar.muli v15 c1024_i32_8
  v16
def k0_off1 (d0 : Dev nD) : Fin 3 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v18 : BitVec 32 := Scalar.muli c2_i32_9 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.addi v18 v5
  let c0_i32 : BitVec 32 := 0#32
  let c0_i32_10 : BitVec 32 := 0#32
  ![v19.toNat, 0, 0]
def k0_off2 (d0 : Dev nD) : Fin 3 → Nat :=
  let c2_i32_11 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v22 : BitVec 32 := Scalar.muli c2_i32_11 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.addi v22 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  let v14 : BitVec 32 := v13
  let c0_i32_20 : BitVec 32 := 0#32
  ![v23.toNat, v14.toNat, 0]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  let v14 : BitVec 32 := v13
  let c0_i32_21 : BitVec 32 := 0#32
  ![v14.toNat, 0]
def k0_dev1 (d0 : Dev nD) : Nat :=
  let c0_i32_17 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_16 : BitVec 32 := 4#32
  let v28 : BitVec 32 := Scalar.muli v9 c4_i32_16
  let v29 : BitVec 32 := Scalar.addi c0_i32_17 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v30 : BitVec 32 := Scalar.muli v5 c2_i32_18
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v32 : BitVec 32 := Scalar.muli v8 c1_i32_19
  let v33 : BitVec 32 := Scalar.addi v31 v32
  v33.toNat
def k0_dev2 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v41 : BitVec 32 := Scalar.muli v2 c4_i32_24
  let v42 : BitVec 32 := Scalar.addi c0_i32_25 v41
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_26 : BitVec 32 := 2#32
  let v43 : BitVec 32 := Scalar.muli v10 c2_i32_26
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v45 : BitVec 32 := Scalar.muli v8 c1_i32_27
  let v46 : BitVec 32 := Scalar.addi v44 v45
  v46.toNat
def k0_dev3 (d0 : Dev nD) : Nat :=
  let c0_i32_33 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_32 : BitVec 32 := 4#32
  let v54 : BitVec 32 := Scalar.muli v11 c4_i32_32
  let v55 : BitVec 32 := Scalar.addi c0_i32_33 v54
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_34 : BitVec 32 := 2#32
  let v56 : BitVec 32 := Scalar.muli v12 c2_i32_34
  let v57 : BitVec 32 := Scalar.addi v55 v56
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v58 : BitVec 32 := Scalar.muli v8 c1_i32_35
  let v59 : BitVec 32 := Scalar.addi v57 v58
  v59.toNat
def k0_off4 (d0 : Dev nD) : Fin 3 → Nat :=
  let c2_i32_44 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v76 : BitVec 32 := Scalar.muli c2_i32_44 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v77 : BitVec 32 := Scalar.addi v76 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  let v14 : BitVec 32 := v13
  let c0_i32_51 : BitVec 32 := 0#32
  ![v77.toNat, v14.toNat, 0]
def k0_dev4 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_54 : BitVec 32 := 4#32
  let v90 : BitVec 32 := Scalar.muli v2 c4_i32_54
  let v91 : BitVec 32 := Scalar.addi c0_i32_55 v90
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_56 : BitVec 32 := 2#32
  let v92 : BitVec 32 := Scalar.muli v5 c2_i32_56
  let v93 : BitVec 32 := Scalar.addi v91 v92
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v67 : BitVec 32 := Scalar.subi c1_i32_38 v8
  let c1_i32_57 : BitVec 32 := 1#32
  let v94 : BitVec 32 := Scalar.muli v67 c1_i32_57
  let v95 : BitVec 32 := Scalar.addi v93 v94
  v95.toNat
def k0_off5 (d0 : Dev nD) : Fin 3 → Nat :=
  let c2_i32_60 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v104 : BitVec 32 := Scalar.muli c2_i32_60 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v105 : BitVec 32 := Scalar.addi v104 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  let v14 : BitVec 32 := v13
  let c0_i32_67 : BitVec 32 := 0#32
  ![v105.toNat, v14.toNat, 0]
def k0_dev5 (d0 : Dev nD) : Nat :=
  let c0_i32_72 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_71 : BitVec 32 := 4#32
  let v118 : BitVec 32 := Scalar.muli v2 c4_i32_71
  let v119 : BitVec 32 := Scalar.addi c0_i32_72 v118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v120 : BitVec 32 := Scalar.muli v5 c2_i32_73
  let v121 : BitVec 32 := Scalar.addi v119 v120
  let c1_i32_40 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v70 : BitVec 32 := Scalar.subi c1_i32_40 v8
  let c1_i32_74 : BitVec 32 := 1#32
  let v122 : BitVec 32 := Scalar.muli v70 c1_i32_74
  let v123 : BitVec 32 := Scalar.addi v121 v122
  v123.toNat
def k0_off6 (d0 : Dev nD) : Fin 3 → Nat :=
  let c2_i32_77 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v132 : BitVec 32 := Scalar.muli c2_i32_77 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v133 : BitVec 32 := Scalar.addi v132 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v13 : BitVec 32 := Scalar.muli v8 c1024_i32
  let v14 : BitVec 32 := v13
  let c0_i32_84 : BitVec 32 := 0#32
  ![v133.toNat, v14.toNat, 0]
def k0_dev6 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v146 : BitVec 32 := Scalar.muli v2 c4_i32_87
  let v147 : BitVec 32 := Scalar.addi c0_i32_88 v146
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v148 : BitVec 32 := Scalar.muli v5 c2_i32_89
  let v149 : BitVec 32 := Scalar.addi v147 v148
  let c1_i32_42 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v73 : BitVec 32 := Scalar.subi c1_i32_42 v8
  let c1_i32_90 : BitVec 32 := 1#32
  let v150 : BitVec 32 := Scalar.muli v73 c1_i32_90
  let v151 : BitVec 32 := Scalar.addi v149 v150
  v151.toNat
def k0_off7 (d0 : Dev nD) : Fin 3 → Nat :=
  let c2_i32_93 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v160 : BitVec 32 := Scalar.muli c2_i32_93 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v161 : BitVec 32 := Scalar.addi v160 v5
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c1024_i32_8 : BitVec 32 := 1024#32
  let v16 : BitVec 32 := Scalar.muli v15 c1024_i32_8
  let v17 : BitVec 32 := v16
  let c0_i32_100 : BitVec 32 := 0#32
  ![v161.toNat, v17.toNat, 0]
def k0_off8 (d0 : Dev nD) : Fin 3 → Nat :=
  let c2_i32_102 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v174 : BitVec 32 := Scalar.muli c2_i32_102 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v175 : BitVec 32 := Scalar.addi v174 v10
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c1024_i32_8 : BitVec 32 := 1024#32
  let v16 : BitVec 32 := Scalar.muli v15 c1024_i32_8
  let v17 : BitVec 32 := v16
  let c0_i32_109 : BitVec 32 := 0#32
  ![v175.toNat, v17.toNat, 0]
def k0_off9 (d0 : Dev nD) : Fin 3 → Nat :=
  let c2_i32_111 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v188 : BitVec 32 := Scalar.muli c2_i32_111 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v189 : BitVec 32 := Scalar.addi v188 v12
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_7 v8
  let c1024_i32_8 : BitVec 32 := 1024#32
  let v16 : BitVec 32 := Scalar.muli v15 c1024_i32_8
  let v17 : BitVec 32 := v16
  let c0_i32_118 : BitVec 32 := 0#32
  ![v189.toNat, v17.toNat, 0]
-- ==== GatherKvRef.lean ====
abbrev S2048x4096 : Shape := ⟨2, ![2048, 4096]⟩
abbrev S2048x4x1024 : Shape := ⟨3, ![2048, 4, 1024]⟩
abbrev S4x2048x1024 : Shape := ⟨3, ![4, 2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x4x1024, .bf16⟩
  | .hbm, ⟨2, _⟩ => ⟨S4x2048x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== PairKv.lean ====
abbrev S4x2x1024x1024 : Shape := ⟨4, ![4, 2, 1024, 1024]⟩
abbrev S4x1024x1024 : Shape := ⟨3, ![4, 1024, 1024]⟩
abbrev S4 : Shape := ⟨1, ![4]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1x1x1024x1024 : Shape := ⟨4, ![1, 1, 1024, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x2x1024x1024, .f32⟩
  | .hbm, ⟨1, _⟩ => ⟨S4x1024x1024, .f32⟩
  | _, _ => ⟨S4x2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c0_i32 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_20 : BitVec 32 := 0#32
  let c0_i32_21 : BitVec 32 := 0#32
  ![0, v9.toNat, 0, 0]
def k0_dev1 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v17 : BitVec 32 := Scalar.muli v2 c4_i32_14
  let v18 : BitVec 32 := Scalar.addi c0_i32_15 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v19 : BitVec 32 := Scalar.muli v5 c2_i32_16
  let v20 : BitVec 32 := Scalar.addi v18 v19
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_17 : BitVec 32 := 1#32
  let v21 : BitVec 32 := Scalar.muli v10 c1_i32_17
  let v22 : BitVec 32 := Scalar.addi v20 v21
  v22.toNat
def k0_off2 (d0 : Dev nD) : Fin 4 → Nat :=
  let c1_i32_22 : BitVec 32 := 1#32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c0_i32_32 : BitVec 32 := 0#32
  let c0_i32_33 : BitVec 32 := 0#32
  ![1, v11.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v31 : BitVec 32 := Scalar.muli v2 c4_i32_26
  let v32 : BitVec 32 := Scalar.addi c0_i32_27 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v33 : BitVec 32 := Scalar.muli v5 c2_i32_28
  let v34 : BitVec 32 := Scalar.addi v32 v33
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_29 : BitVec 32 := 1#32
  let v35 : BitVec 32 := Scalar.muli v12 c1_i32_29
  let v36 : BitVec 32 := Scalar.addi v34 v35
  v36.toNat
def k0_off3 (d0 : Dev nD) : Fin 4 → Nat :=
  let c2_i32_34 : BitVec 32 := 2#32
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c0_i32_44 : BitVec 32 := 0#32
  let c0_i32_45 : BitVec 32 := 0#32
  ![2, v13.toNat, 0, 0]
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v45 : BitVec 32 := Scalar.muli v2 c4_i32_38
  let v46 : BitVec 32 := Scalar.addi c0_i32_39 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v47 : BitVec 32 := Scalar.muli v5 c2_i32_40
  let v48 : BitVec 32 := Scalar.addi v46 v47
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_8 v8
  let c1_i32_41 : BitVec 32 := 1#32
  let v49 : BitVec 32 := Scalar.muli v14 c1_i32_41
  let v50 : BitVec 32 := Scalar.addi v48 v49
  v50.toNat
def k0_off4 (d0 : Dev nD) : Fin 4 → Nat :=
  let c3_i32 : BitVec 32 := 3#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c0_i32_55 : BitVec 32 := 0#32
  let c0_i32_56 : BitVec 32 := 0#32
  ![3, v15.toNat, 0, 0]
def k0_dev4 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v59 : BitVec 32 := Scalar.muli v2 c4_i32_49
  let v60 : BitVec 32 := Scalar.addi c0_i32_50 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v61 : BitVec 32 := Scalar.muli v5 c2_i32_51
  let v62 : BitVec 32 := Scalar.addi v60 v61
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_10 v8
  let c1_i32_52 : BitVec 32 := 1#32
  let v63 : BitVec 32 := Scalar.muli v16 c1_i32_52
  let v64 : BitVec 32 := Scalar.addi v62 v63
  v64.toNat
-- ==== PairKvIdeal.lean ====
abbrev S4x2x1024x1024 : Shape := ⟨4, ![4, 2, 1024, 1024]⟩
abbrev S4x1024x1024 : Shape := ⟨3, ![4, 1024, 1024]⟩
abbrev S4 : Shape := ⟨1, ![4]⟩
abbrev S1 : Shape := ⟨1, ![1]⟩
abbrev S_ : Shape := ⟨0, ![]⟩
abbrev S1x1024x1024 : Shape := ⟨3, ![1, 1024, 1024]⟩
abbrev S1024x1024 : Shape := ⟨2, ![1024, 1024]⟩
abbrev S1x1x1024x1024 : Shape := ⟨4, ![1, 1, 1024, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4x2x1024x1024, .f32⟩
  | .hbm, ⟨1, _⟩ => ⟨S4x1024x1024, .f32⟩
  | _, _ => ⟨S4x2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c0_i32 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_20 : BitVec 32 := 0#32
  let c0_i32_21 : BitVec 32 := 0#32
  ![0, v9.toNat, 0, 0]
def k0_dev1 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v17 : BitVec 32 := Scalar.muli v2 c4_i32_14
  let v18 : BitVec 32 := Scalar.addi c0_i32_15 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v19 : BitVec 32 := Scalar.muli v5 c2_i32_16
  let v20 : BitVec 32 := Scalar.addi v18 v19
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_17 : BitVec 32 := 1#32
  let v21 : BitVec 32 := Scalar.muli v10 c1_i32_17
  let v22 : BitVec 32 := Scalar.addi v20 v21
  v22.toNat
def k0_off2 (d0 : Dev nD) : Fin 4 → Nat :=
  let c1_i32_22 : BitVec 32 := 1#32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c0_i32_32 : BitVec 32 := 0#32
  let c0_i32_33 : BitVec 32 := 0#32
  ![1, v11.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v31 : BitVec 32 := Scalar.muli v2 c4_i32_26
  let v32 : BitVec 32 := Scalar.addi c0_i32_27 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v33 : BitVec 32 := Scalar.muli v5 c2_i32_28
  let v34 : BitVec 32 := Scalar.addi v32 v33
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_6 v8
  let c1_i32_29 : BitVec 32 := 1#32
  let v35 : BitVec 32 := Scalar.muli v12 c1_i32_29
  let v36 : BitVec 32 := Scalar.addi v34 v35
  v36.toNat
def k0_off3 (d0 : Dev nD) : Fin 4 → Nat :=
  let c2_i32_34 : BitVec 32 := 2#32
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c0_i32_44 : BitVec 32 := 0#32
  let c0_i32_45 : BitVec 32 := 0#32
  ![2, v13.toNat, 0, 0]
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v45 : BitVec 32 := Scalar.muli v2 c4_i32_38
  let v46 : BitVec 32 := Scalar.addi c0_i32_39 v45
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v47 : BitVec 32 := Scalar.muli v5 c2_i32_40
  let v48 : BitVec 32 := Scalar.addi v46 v47
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_8 v8
  let c1_i32_41 : BitVec 32 := 1#32
  let v49 : BitVec 32 := Scalar.muli v14 c1_i32_41
  let v50 : BitVec 32 := Scalar.addi v48 v49
  v50.toNat
def k0_off4 (d0 : Dev nD) : Fin 4 → Nat :=
  let c3_i32 : BitVec 32 := 3#32
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_9 v8
  let c0_i32_55 : BitVec 32 := 0#32
  let c0_i32_56 : BitVec 32 := 0#32
  ![3, v15.toNat, 0, 0]
def k0_dev4 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v59 : BitVec 32 := Scalar.muli v2 c4_i32_49
  let v60 : BitVec 32 := Scalar.addi c0_i32_50 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v61 : BitVec 32 := Scalar.muli v5 c2_i32_51
  let v62 : BitVec 32 := Scalar.addi v60 v61
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.subi c1_i32_10 v8
  let c1_i32_52 : BitVec 32 := 1#32
  let v63 : BitVec 32 := Scalar.muli v16 c1_i32_52
  let v64 : BitVec 32 := Scalar.addi v62 v63
  v64.toNat
-- ==== PairKvRef.lean ====
abbrev S32x2x1024x1024 : Shape := ⟨4, ![32, 2, 1024, 1024]⟩
abbrev S4x2x4x2x1024x1024 : Shape := ⟨6, ![4, 2, 4, 2, 1024, 1024]⟩
abbrev S4x1x4x1x1024x1024 : Shape := ⟨6, ![4, 1, 4, 1, 1024, 1024]⟩
abbrev S4x4x1024x1024 : Shape := ⟨4, ![4, 4, 1024, 1024]⟩
abbrev S4x1x4x1024x1024 : Shape := ⟨5, ![4, 1, 4, 1024, 1024]⟩
abbrev S4x2x4x1024x1024 : Shape := ⟨5, ![4, 2, 4, 1024, 1024]⟩
abbrev S32x1024x1024 : Shape := ⟨3, ![32, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S32x2x1024x1024, .f32⟩
  | .hbm, ⟨1, _⟩ => ⟨S4x2x4x2x1024x1024, .f32⟩
  | .hbm, ⟨2, _⟩ => ⟨S4x1x4x1x1024x1024, .f32⟩
  | .hbm, ⟨3, _⟩ => ⟨S4x4x1024x1024, .f32⟩
  | .hbm, ⟨4, _⟩ => ⟨S4x1x4x1x1024x1024, .f32⟩
  | .hbm, ⟨5, _⟩ => ⟨S4x4x1024x1024, .f32⟩
  | .hbm, ⟨6, _⟩ => ⟨S4x1x4x1024x1024, .f32⟩
  | .hbm, ⟨7, _⟩ => ⟨S4x1x4x1024x1024, .f32⟩
  | .hbm, ⟨8, _⟩ => ⟨S4x2x4x1024x1024, .f32⟩
  | .hbm, ⟨9, _⟩ => ⟨S32x1024x1024, .f32⟩
  | _, _ => ⟨S32x2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== ChipKv.lean ====
abbrev S4x1024x1024 : Shape := ⟨3, ![4, 1024, 1024]⟩
abbrev S3 : Shape := ⟨1, ![3]⟩
abbrev S_ : Shape := ⟨0, ![]⟩
abbrev S1x1024x1024 : Shape := ⟨3, ![1, 1024, 1024]⟩
abbrev S1024x1024 : Shape := ⟨2, ![1024, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32 : BitVec 32 := 0#32
  let c0_i32_8 : BitVec 32 := 0#32
  ![v14.toNat, 0, 0]
def k0_off2 (d0 : Dev nD) : Fin 3 → Nat :=
  let c2_i32_11 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v19 : BitVec 32 := Scalar.muli c2_i32_11 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_22 : BitVec 32 := 0#32
  let c0_i32_23 : BitVec 32 := 0#32
  ![v20.toNat, 0, 0]
def k0_dev1 (d0 : Dev nD) : Nat :=
  let c0_i32_17 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_16 : BitVec 32 := 4#32
  let v25 : BitVec 32 := Scalar.muli v9 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v29 : BitVec 32 := Scalar.muli v8 c1_i32_19
  let v30 : BitVec 32 := Scalar.addi v28 v29
  v30.toNat
def k0_off3 (d0 : Dev nD) : Fin 3 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_12 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v22 : BitVec 32 := Scalar.addi v21 v10
  let c0_i32_32 : BitVec 32 := 0#32
  let c0_i32_33 : BitVec 32 := 0#32
  ![v22.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v39 : BitVec 32 := Scalar.muli v2 c4_i32_26
  let v40 : BitVec 32 := Scalar.addi c0_i32_27 v39
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_28 : BitVec 32 := 2#32
  let v41 : BitVec 32 := Scalar.muli v10 c2_i32_28
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v43 : BitVec 32 := Scalar.muli v8 c1_i32_29
  let v44 : BitVec 32 := Scalar.addi v42 v43
  v44.toNat
def k0_off4 (d0 : Dev nD) : Fin 3 → Nat :=
  let c2_i32_13 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v23 : BitVec 32 := Scalar.muli c2_i32_13 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v24 : BitVec 32 := Scalar.addi v23 v12
  let c0_i32_42 : BitVec 32 := 0#32
  let c0_i32_43 : BitVec 32 := 0#32
  ![v24.toNat, 0, 0]
def k0_dev3 (d0 : Dev nD) : Nat :=
  let c0_i32_37 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_36 : BitVec 32 := 4#32
  let v53 : BitVec 32 := Scalar.muli v11 c4_i32_36
  let v54 : BitVec 32 := Scalar.addi c0_i32_37 v53
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_38 : BitVec 32 := 2#32
  let v55 : BitVec 32 := Scalar.muli v12 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
-- ==== ChipKvIdeal.lean ====
abbrev S4x1024x1024 : Shape := ⟨3, ![4, 1024, 1024]⟩
abbrev S3 : Shape := ⟨1, ![3]⟩
abbrev S_ : Shape := ⟨0, ![]⟩
abbrev S1x1024x1024 : Shape := ⟨3, ![1, 1024, 1024]⟩
abbrev S1024x1024 : Shape := ⟨2, ![1024, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32 : BitVec 32 := 0#32
  let c0_i32_8 : BitVec 32 := 0#32
  ![v14.toNat, 0, 0]
def k0_off2 (d0 : Dev nD) : Fin 3 → Nat :=
  let c2_i32_11 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v19 : BitVec 32 := Scalar.muli c2_i32_11 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_22 : BitVec 32 := 0#32
  let c0_i32_23 : BitVec 32 := 0#32
  ![v20.toNat, 0, 0]
def k0_dev1 (d0 : Dev nD) : Nat :=
  let c0_i32_17 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_16 : BitVec 32 := 4#32
  let v25 : BitVec 32 := Scalar.muli v9 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v29 : BitVec 32 := Scalar.muli v8 c1_i32_19
  let v30 : BitVec 32 := Scalar.addi v28 v29
  v30.toNat
def k0_off3 (d0 : Dev nD) : Fin 3 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_12 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v22 : BitVec 32 := Scalar.addi v21 v10
  let c0_i32_32 : BitVec 32 := 0#32
  let c0_i32_33 : BitVec 32 := 0#32
  ![v22.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v39 : BitVec 32 := Scalar.muli v2 c4_i32_26
  let v40 : BitVec 32 := Scalar.addi c0_i32_27 v39
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_28 : BitVec 32 := 2#32
  let v41 : BitVec 32 := Scalar.muli v10 c2_i32_28
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v43 : BitVec 32 := Scalar.muli v8 c1_i32_29
  let v44 : BitVec 32 := Scalar.addi v42 v43
  v44.toNat
def k0_off4 (d0 : Dev nD) : Fin 3 → Nat :=
  let c2_i32_13 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v23 : BitVec 32 := Scalar.muli c2_i32_13 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v24 : BitVec 32 := Scalar.addi v23 v12
  let c0_i32_42 : BitVec 32 := 0#32
  let c0_i32_43 : BitVec 32 := 0#32
  ![v24.toNat, 0, 0]
def k0_dev3 (d0 : Dev nD) : Nat :=
  let c0_i32_37 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_36 : BitVec 32 := 4#32
  let v53 : BitVec 32 := Scalar.muli v11 c4_i32_36
  let v54 : BitVec 32 := Scalar.addi c0_i32_37 v53
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_38 : BitVec 32 := 2#32
  let v55 : BitVec 32 := Scalar.muli v12 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
-- ==== ChipKvRef.lean ====
abbrev S32x1024x1024 : Shape := ⟨3, ![32, 1024, 1024]⟩
abbrev S4x2x4x1024x1024 : Shape := ⟨5, ![4, 2, 4, 1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S4x2x4x1024x1024, .f32⟩
  | .hbm, ⟨2, _⟩ => ⟨S4x2x4x1024x1024, .f32⟩
  | .hbm, ⟨3, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== BackKv.lean ====
abbrev S1024x1024 : Shape := ⟨2, ![1024, 1024]⟩
abbrev S2x1024x1024 : Shape := ⟨3, ![2, 1024, 1024]⟩
abbrev S_ : Shape := ⟨0, ![]⟩
abbrev S1x1024x1024 : Shape := ⟨3, ![1, 1024, 1024]⟩

abbrev nBuf : Space → Nat
  | .hbm => 2
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S2x1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
def k0_off2 (d0 : Dev nD) : Fin 3 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let c0_i32_17 : BitVec 32 := 0#32
  let c0_i32_18 : BitVec 32 := 0#32
  ![v20.toNat, 0, 0]
-- ==== BackKvIdeal.lean ====
abbrev S1024x1024 : Shape := ⟨2, ![1024, 1024]⟩
abbrev S2x1024x1024 : Shape := ⟨3, ![2, 1024, 1024]⟩
abbrev S_ : Shape := ⟨0, ![]⟩
abbrev S1x1024x1024 : Shape := ⟨3, ![1, 1024, 1024]⟩

abbrev nBuf : Space → Nat
  | .hbm => 2
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S2x1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
def k0_off2 (d0 : Dev nD) : Fin 3 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let c0_i32_17 : BitVec 32 := 0#32
  let c0_i32_18 : BitVec 32 := 0#32
  ![v20.toNat, 0, 0]
-- ==== BackKvRef.lean ====
abbrev S8192x1024 : Shape := ⟨2, ![8192, 1024]⟩
abbrev S4x1x2x1024x1024 : Shape := ⟨5, ![4, 1, 2, 1024, 1024]⟩
abbrev S4x2x2x1024x1024 : Shape := ⟨5, ![4, 2, 2, 1024, 1024]⟩
abbrev S16x1024x1024 : Shape := ⟨3, ![16, 1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1x2x1024x1024, .f32⟩
  | .hbm, ⟨2, _⟩ => ⟨S4x2x2x1024x1024, .f32⟩
  | .hbm, ⟨3, _⟩ => ⟨S16x1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== AdamIn.lean ====
abbrev S8192x1668 : Shape := ⟨2, ![8192, 1668]⟩
abbrev S256x1668 : Shape := ⟨2, ![256, 1668]⟩

abbrev nBuf : Space → Nat
  | .hbm => 7
  | .vmem => 14
  | .smem => 0
  | _ => 0

abbrev bufTy : (tb : Table) → Fin (tcTables nBuf tb) → BufTy
  | .hbm, ⟨0, _⟩ => ⟨S8192x1668, .f32⟩
  | .hbm, ⟨1, _⟩ => ⟨S8192x1668, .f32⟩
  | .hbm, ⟨2, _⟩ => ⟨S8192x1668, .f32⟩
  | .hbm, ⟨3, _⟩ => ⟨S8192x1668, .f32⟩
  | .hbm, ⟨4, _⟩ => ⟨S8192x1668, .f32⟩
  | .hbm, ⟨5, _⟩ => ⟨S8192x1668, .f32⟩
  | .hbm, ⟨6, _⟩ => ⟨S8192x1668, .f32⟩
  | .local _ .vmem, ⟨0, _⟩ => ⟨S256x1668, .f32⟩
  | .local _ .vmem, ⟨1, _⟩ => ⟨S256x1668, .f32⟩
  | .local _ .vmem, ⟨2, _⟩ => ⟨S256x1668, .f32⟩
  | .local _ .vmem, ⟨3, _⟩ => ⟨S256x1668, .f32⟩
  | .local _ .vmem, ⟨4, _⟩ => ⟨S256x1668, .f32⟩
  | .local _ .vmem, ⟨5, _⟩ => ⟨S256x1668, .f32⟩
  | .local _ .vmem, ⟨6, _⟩ => ⟨S256x1668, .f32⟩
  | .local _ .vmem, ⟨7, _⟩ => ⟨S256x1668, .f32⟩
  | .local _ .vmem, ⟨8, _⟩ => ⟨S256x1668, .f32⟩
  | .local _ .vmem, ⟨9, _⟩ => ⟨S256x1668, .f32⟩
  | .local _ .vmem, ⟨10, _⟩ => ⟨S256x1668, .f32⟩
  | .local _ .vmem, ⟨11, _⟩ => ⟨S256x1668, .f32⟩
  | .local _ .vmem, ⟨12, _⟩ => ⟨S256x1668, .f32⟩
  | .local _ .vmem, ⟨13, _⟩ => ⟨S256x1668, .f32⟩
  | _, _ => ⟨S8192x1668, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1668 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1668 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1668 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1668 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1668 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1668 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1668 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S8192x1668 : Shape := ⟨2, ![8192, 1668]⟩
abbrev S256x1668 : Shape := ⟨2, ![256, 1668]⟩

abbrev nBuf : Space → Nat
  | .hbm => 7
  | .vmem => 14
  | .smem => 0
  | _ => 0

abbrev bufTy : (tb : Table) → Fin (tcTables nBuf tb) → BufTy
  | .hbm, ⟨0, _⟩ => ⟨S8192x1668, .f32⟩
  | .hbm, ⟨1, _⟩ => ⟨S8192x1668, .f32⟩
  | .hbm, ⟨2, _⟩ => ⟨S8192x1668, .f32⟩
  | .hbm, ⟨3, _⟩ => ⟨S8192x1668, .f32⟩
  | .hbm, ⟨4, _⟩ => ⟨S8192x1668, .f32⟩
  | .hbm, ⟨5, _⟩ => ⟨S8192x1668, .f32⟩
  | .hbm, ⟨6, _⟩ => ⟨S8192x1668, .f32⟩
  | .local _ .vmem, ⟨0, _⟩ => ⟨S256x1668, .f32⟩
  | .local _ .vmem, ⟨1, _⟩ => ⟨S256x1668, .f32⟩
  | .local _ .vmem, ⟨2, _⟩ => ⟨S256x1668, .f32⟩
  | .local _ .vmem, ⟨3, _⟩ => ⟨S256x1668, .f32⟩
  | .local _ .vmem, ⟨4, _⟩ => ⟨S256x1668, .f32⟩
  | .local _ .vmem, ⟨5, _⟩ => ⟨S256x1668, .f32⟩
  | .local _ .vmem, ⟨6, _⟩ => ⟨S256x1668, .f32⟩
  | .local _ .vmem, ⟨7, _⟩ => ⟨S256x1668, .f32⟩
  | .local _ .vmem, ⟨8, _⟩ => ⟨S256x1668, .f32⟩
  | .local _ .vmem, ⟨9, _⟩ => ⟨S256x1668, .f32⟩
  | .local _ .vmem, ⟨10, _⟩ => ⟨S256x1668, .f32⟩
  | .local _ .vmem, ⟨11, _⟩ => ⟨S256x1668, .f32⟩
  | .local _ .vmem, ⟨12, _⟩ => ⟨S256x1668, .f32⟩
  | .local _ .vmem, ⟨13, _⟩ => ⟨S256x1668, .f32⟩
  | _, _ => ⟨S8192x1668, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1668 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1668 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1668 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1668 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1668 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1668 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1668 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRef.lean ====
abbrev S8192x1668 : Shape := ⟨2, ![8192, 1668]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1668, .f32⟩
  | .hbm, ⟨1, _⟩ => ⟨S8192x1668, .f32⟩
  | .hbm, ⟨2, _⟩ => ⟨S8192x1668, .f32⟩
  | .hbm, ⟨3, _⟩ => ⟨S8192x1668, .f32⟩
  | .hbm, ⟨4, _⟩ => ⟨S_, .f32⟩
  | .hbm, ⟨5, _⟩ => ⟨S8192x1668, .f32⟩
  | .hbm, ⟨6, _⟩ => ⟨S8192x1668, .f32⟩
  | .hbm, ⟨7, _⟩ => ⟨S_, .f32⟩
  | .hbm, ⟨8, _⟩ => ⟨S8192x1668, .f32⟩
  | .hbm, ⟨9, _⟩ => ⟨S8192x1668, .f32⟩
  | .hbm, ⟨10, _⟩ => ⟨S8192x1668, .f32⟩
  | .hbm, ⟨11, _⟩ => ⟨S_, .f32⟩
  | .hbm, ⟨12, _⟩ => ⟨S8192x1668, .f32⟩
  | .hbm, ⟨13, _⟩ => ⟨S8192x1668, .f32⟩
  | .hbm, ⟨14, _⟩ => ⟨S8192x1668, .f32⟩
  | .hbm, ⟨15, _⟩ => ⟨S_, .f32⟩
  | .hbm, ⟨16, _⟩ => ⟨S8192x1668, .f32⟩
  | .hbm, ⟨17, _⟩ => ⟨S8192x1668, .f32⟩
  | .hbm, ⟨18, _⟩ => ⟨S8192x1668, .f32⟩
  | .hbm, ⟨19, _⟩ => ⟨S_, .f32⟩
  | .hbm, ⟨20, _⟩ => ⟨S8192x1668, .f32⟩
  | .hbm, ⟨21, _⟩ => ⟨S8192x1668, .f32⟩
  | .hbm, ⟨22, _⟩ => ⟨S_, .f32⟩
  | .hbm, ⟨23, _⟩ => ⟨S8192x1668, .f32⟩
  | .hbm, ⟨24, _⟩ => ⟨S8192x1668, .f32⟩
  | .hbm, ⟨25, _⟩ => ⟨S8192x1668, .f32⟩
  | .hbm, ⟨26, _⟩ => ⟨S_, .f32⟩
  | .hbm, ⟨27, _⟩ => ⟨S8192x1668, .f32⟩
  | .hbm, ⟨28, _⟩ => ⟨S8192x1668, .f32⟩
  | .hbm, ⟨29, _⟩ => ⟨S8192x1668, .f32⟩
  | .hbm, ⟨30, _⟩ => ⟨S_, .f32⟩
  | .hbm, ⟨31, _⟩ => ⟨S8192x1668, .f32⟩
  | .hbm, ⟨32, _⟩ => ⟨S8192x1668, .f32⟩
  | .hbm, ⟨33, _⟩ => ⟨S8192x1668, .f32⟩
  | .hbm, ⟨34, _⟩ => ⟨S_, .f32⟩
  | .hbm, ⟨35, _⟩ => ⟨S8192x1668, .f32⟩
  | .hbm, ⟨36, _⟩ => ⟨S8192x1668, .f32⟩
  | _, _ => ⟨S8192x1668, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamInRefIdeal.lean ====
abbrev S8192x1668 : Shape := ⟨2, ![8192, 1668]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1668, .f32⟩
  | .hbm, ⟨1, _⟩ => ⟨S8192x1668, .f32⟩
  | .hbm, ⟨2, _⟩ => ⟨S8192x1668, .f32⟩
  | .hbm, ⟨3, _⟩ => ⟨S8192x1668, .f32⟩
  | .hbm, ⟨4, _⟩ => ⟨S_, .f32⟩
  | .hbm, ⟨5, _⟩ => ⟨S8192x1668, .f32⟩
  | .hbm, ⟨6, _⟩ => ⟨S8192x1668, .f32⟩
  | .hbm, ⟨7, _⟩ => ⟨S_, .f32⟩
  | .hbm, ⟨8, _⟩ => ⟨S8192x1668, .f32⟩
  | .hbm, ⟨9, _⟩ => ⟨S8192x1668, .f32⟩
  | .hbm, ⟨10, _⟩ => ⟨S8192x1668, .f32⟩
  | .hbm, ⟨11, _⟩ => ⟨S_, .f32⟩
  | .hbm, ⟨12, _⟩ => ⟨S8192x1668, .f32⟩
  | .hbm, ⟨13, _⟩ => ⟨S8192x1668, .f32⟩
  | .hbm, ⟨14, _⟩ => ⟨S8192x1668, .f32⟩
  | .hbm, ⟨15, _⟩ => ⟨S_, .f32⟩
  | .hbm, ⟨16, _⟩ => ⟨S8192x1668, .f32⟩
  | .hbm, ⟨17, _⟩ => ⟨S8192x1668, .f32⟩
  | .hbm, ⟨18, _⟩ => ⟨S8192x1668, .f32⟩
  | .hbm, ⟨19, _⟩ => ⟨S_, .f32⟩
  | .hbm, ⟨20, _⟩ => ⟨S8192x1668, .f32⟩
  | .hbm, ⟨21, _⟩ => ⟨S8192x1668, .f32⟩
  | .hbm, ⟨22, _⟩ => ⟨S_, .f32⟩
  | .hbm, ⟨23, _⟩ => ⟨S8192x1668, .f32⟩
  | .hbm, ⟨24, _⟩ => ⟨S8192x1668, .f32⟩
  | .hbm, ⟨25, _⟩ => ⟨S8192x1668, .f32⟩
  | .hbm, ⟨26, _⟩ => ⟨S_, .f32⟩
  | .hbm, ⟨27, _⟩ => ⟨S8192x1668, .f32⟩
  | .hbm, ⟨28, _⟩ => ⟨S8192x1668, .f32⟩
  | .hbm, ⟨29, _⟩ => ⟨S8192x1668, .f32⟩
  | .hbm, ⟨30, _⟩ => ⟨S_, .f32⟩
  | .hbm, ⟨31, _⟩ => ⟨S8192x1668, .f32⟩
  | .hbm, ⟨32, _⟩ => ⟨S8192x1668, .f32⟩
  | .hbm, ⟨33, _⟩ => ⟨S8192x1668, .f32⟩
  | .hbm, ⟨34, _⟩ => ⟨S_, .f32⟩
  | .hbm, ⟨35, _⟩ => ⟨S8192x1668, .f32⟩
  | .hbm, ⟨36, _⟩ => ⟨S8192x1668, .f32⟩
  | _, _ => ⟨S8192x1668, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRel.lean ====
abbrev S32x257 : Shape := ⟨2, ![32, 257]⟩
abbrev S16x257 : Shape := ⟨2, ![16, 257]⟩

abbrev nBuf : Space → Nat
  | .hbm => 7
  | .vmem => 14
  | .smem => 0
  | _ => 0

abbrev bufTy : (tb : Table) → Fin (tcTables nBuf tb) → BufTy
  | .hbm, ⟨0, _⟩ => ⟨S32x257, .f32⟩
  | .hbm, ⟨1, _⟩ => ⟨S32x257, .f32⟩
  | .hbm, ⟨2, _⟩ => ⟨S32x257, .f32⟩
  | .hbm, ⟨3, _⟩ => ⟨S32x257, .f32⟩
  | .hbm, ⟨4, _⟩ => ⟨S32x257, .f32⟩
  | .hbm, ⟨5, _⟩ => ⟨S32x257, .f32⟩
  | .hbm, ⟨6, _⟩ => ⟨S32x257, .f32⟩
  | .local _ .vmem, ⟨0, _⟩ => ⟨S16x257, .f32⟩
  | .local _ .vmem, ⟨1, _⟩ => ⟨S16x257, .f32⟩
  | .local _ .vmem, ⟨2, _⟩ => ⟨S16x257, .f32⟩
  | .local _ .vmem, ⟨3, _⟩ => ⟨S16x257, .f32⟩
  | .local _ .vmem, ⟨4, _⟩ => ⟨S16x257, .f32⟩
  | .local _ .vmem, ⟨5, _⟩ => ⟨S16x257, .f32⟩
  | .local _ .vmem, ⟨6, _⟩ => ⟨S16x257, .f32⟩
  | .local _ .vmem, ⟨7, _⟩ => ⟨S16x257, .f32⟩
  | .local _ .vmem, ⟨8, _⟩ => ⟨S16x257, .f32⟩
  | .local _ .vmem, ⟨9, _⟩ => ⟨S16x257, .f32⟩
  | .local _ .vmem, ⟨10, _⟩ => ⟨S16x257, .f32⟩
  | .local _ .vmem, ⟨11, _⟩ => ⟨S16x257, .f32⟩
  | .local _ .vmem, ⟨12, _⟩ => ⟨S16x257, .f32⟩
  | .local _ .vmem, ⟨13, _⟩ => ⟨S16x257, .f32⟩
  | _, _ => ⟨S32x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x257 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x257 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x257 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x257 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x257 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x257 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRelIdeal.lean ====
abbrev S32x257 : Shape := ⟨2, ![32, 257]⟩
abbrev S16x257 : Shape := ⟨2, ![16, 257]⟩

abbrev nBuf : Space → Nat
  | .hbm => 7
  | .vmem => 14
  | .smem => 0
  | _ => 0

abbrev bufTy : (tb : Table) → Fin (tcTables nBuf tb) → BufTy
  | .hbm, ⟨0, _⟩ => ⟨S32x257, .f32⟩
  | .hbm, ⟨1, _⟩ => ⟨S32x257, .f32⟩
  | .hbm, ⟨2, _⟩ => ⟨S32x257, .f32⟩
  | .hbm, ⟨3, _⟩ => ⟨S32x257, .f32⟩
  | .hbm, ⟨4, _⟩ => ⟨S32x257, .f32⟩
  | .hbm, ⟨5, _⟩ => ⟨S32x257, .f32⟩
  | .hbm, ⟨6, _⟩ => ⟨S32x257, .f32⟩
  | .local _ .vmem, ⟨0, _⟩ => ⟨S16x257, .f32⟩
  | .local _ .vmem, ⟨1, _⟩ => ⟨S16x257, .f32⟩
  | .local _ .vmem, ⟨2, _⟩ => ⟨S16x257, .f32⟩
  | .local _ .vmem, ⟨3, _⟩ => ⟨S16x257, .f32⟩
  | .local _ .vmem, ⟨4, _⟩ => ⟨S16x257, .f32⟩
  | .local _ .vmem, ⟨5, _⟩ => ⟨S16x257, .f32⟩
  | .local _ .vmem, ⟨6, _⟩ => ⟨S16x257, .f32⟩
  | .local _ .vmem, ⟨7, _⟩ => ⟨S16x257, .f32⟩
  | .local _ .vmem, ⟨8, _⟩ => ⟨S16x257, .f32⟩
  | .local _ .vmem, ⟨9, _⟩ => ⟨S16x257, .f32⟩
  | .local _ .vmem, ⟨10, _⟩ => ⟨S16x257, .f32⟩
  | .local _ .vmem, ⟨11, _⟩ => ⟨S16x257, .f32⟩
  | .local _ .vmem, ⟨12, _⟩ => ⟨S16x257, .f32⟩
  | .local _ .vmem, ⟨13, _⟩ => ⟨S16x257, .f32⟩
  | _, _ => ⟨S32x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x257 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x257 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x257 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x257 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x257 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x257 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x257 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRelRef.lean ====
abbrev S32x257 : Shape := ⟨2, ![32, 257]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x257, .f32⟩
  | .hbm, ⟨1, _⟩ => ⟨S32x257, .f32⟩
  | .hbm, ⟨2, _⟩ => ⟨S32x257, .f32⟩
  | .hbm, ⟨3, _⟩ => ⟨S32x257, .f32⟩
  | .hbm, ⟨4, _⟩ => ⟨S_, .f32⟩
  | .hbm, ⟨5, _⟩ => ⟨S32x257, .f32⟩
  | .hbm, ⟨6, _⟩ => ⟨S32x257, .f32⟩
  | .hbm, ⟨7, _⟩ => ⟨S_, .f32⟩
  | .hbm, ⟨8, _⟩ => ⟨S32x257, .f32⟩
  | .hbm, ⟨9, _⟩ => ⟨S32x257, .f32⟩
  | .hbm, ⟨10, _⟩ => ⟨S32x257, .f32⟩
  | .hbm, ⟨11, _⟩ => ⟨S_, .f32⟩
  | .hbm, ⟨12, _⟩ => ⟨S32x257, .f32⟩
  | .hbm, ⟨13, _⟩ => ⟨S32x257, .f32⟩
  | .hbm, ⟨14, _⟩ => ⟨S32x257, .f32⟩
  | .hbm, ⟨15, _⟩ => ⟨S_, .f32⟩
  | .hbm, ⟨16, _⟩ => ⟨S32x257, .f32⟩
  | .hbm, ⟨17, _⟩ => ⟨S32x257, .f32⟩
  | .hbm, ⟨18, _⟩ => ⟨S32x257, .f32⟩
  | .hbm, ⟨19, _⟩ => ⟨S_, .f32⟩
  | .hbm, ⟨20, _⟩ => ⟨S32x257, .f32⟩
  | .hbm, ⟨21, _⟩ => ⟨S32x257, .f32⟩
  | .hbm, ⟨22, _⟩ => ⟨S_, .f32⟩
  | .hbm, ⟨23, _⟩ => ⟨S32x257, .f32⟩
  | .hbm, ⟨24, _⟩ => ⟨S32x257, .f32⟩
  | .hbm, ⟨25, _⟩ => ⟨S32x257, .f32⟩
  | .hbm, ⟨26, _⟩ => ⟨S_, .f32⟩
  | .hbm, ⟨27, _⟩ => ⟨S32x257, .f32⟩
  | .hbm, ⟨28, _⟩ => ⟨S32x257, .f32⟩
  | .hbm, ⟨29, _⟩ => ⟨S32x257, .f32⟩
  | .hbm, ⟨30, _⟩ => ⟨S_, .f32⟩
  | .hbm, ⟨31, _⟩ => ⟨S32x257, .f32⟩
  | .hbm, ⟨32, _⟩ => ⟨S32x257, .f32⟩
  | .hbm, ⟨33, _⟩ => ⟨S32x257, .f32⟩
  | .hbm, ⟨34, _⟩ => ⟨S_, .f32⟩
  | .hbm, ⟨35, _⟩ => ⟨S32x257, .f32⟩
  | .hbm, ⟨36, _⟩ => ⟨S32x257, .f32⟩
  | _, _ => ⟨S32x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamRelRefIdeal.lean ====
abbrev S32x257 : Shape := ⟨2, ![32, 257]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x257, .f32⟩
  | .hbm, ⟨1, _⟩ => ⟨S32x257, .f32⟩
  | .hbm, ⟨2, _⟩ => ⟨S32x257, .f32⟩
  | .hbm, ⟨3, _⟩ => ⟨S32x257, .f32⟩
  | .hbm, ⟨4, _⟩ => ⟨S_, .f32⟩
  | .hbm, ⟨5, _⟩ => ⟨S32x257, .f32⟩
  | .hbm, ⟨6, _⟩ => ⟨S32x257, .f32⟩
  | .hbm, ⟨7, _⟩ => ⟨S_, .f32⟩
  | .hbm, ⟨8, _⟩ => ⟨S32x257, .f32⟩
  | .hbm, ⟨9, _⟩ => ⟨S32x257, .f32⟩
  | .hbm, ⟨10, _⟩ => ⟨S32x257, .f32⟩
  | .hbm, ⟨11, _⟩ => ⟨S_, .f32⟩
  | .hbm, ⟨12, _⟩ => ⟨S32x257, .f32⟩
  | .hbm, ⟨13, _⟩ => ⟨S32x257, .f32⟩
  | .hbm, ⟨14, _⟩ => ⟨S32x257, .f32⟩
  | .hbm, ⟨15, _⟩ => ⟨S_, .f32⟩
  | .hbm, ⟨16, _⟩ => ⟨S32x257, .f32⟩
  | .hbm, ⟨17, _⟩ => ⟨S32x257, .f32⟩
  | .hbm, ⟨18, _⟩ => ⟨S32x257, .f32⟩
  | .hbm, ⟨19, _⟩ => ⟨S_, .f32⟩
  | .hbm, ⟨20, _⟩ => ⟨S32x257, .f32⟩
  | .hbm, ⟨21, _⟩ => ⟨S32x257, .f32⟩
  | .hbm, ⟨22, _⟩ => ⟨S_, .f32⟩
  | .hbm, ⟨23, _⟩ => ⟨S32x257, .f32⟩
  | .hbm, ⟨24, _⟩ => ⟨S32x257, .f32⟩
  | .hbm, ⟨25, _⟩ => ⟨S32x257, .f32⟩
  | .hbm, ⟨26, _⟩ => ⟨S_, .f32⟩
  | .hbm, ⟨27, _⟩ => ⟨S32x257, .f32⟩
  | .hbm, ⟨28, _⟩ => ⟨S32x257, .f32⟩
  | .hbm, ⟨29, _⟩ => ⟨S32x257, .f32⟩
  | .hbm, ⟨30, _⟩ => ⟨S_, .f32⟩
  | .hbm, ⟨31, _⟩ => ⟨S32x257, .f32⟩
  | .hbm, ⟨32, _⟩ => ⟨S32x257, .f32⟩
  | .hbm, ⟨33, _⟩ => ⟨S32x257, .f32⟩
  | .hbm, ⟨34, _⟩ => ⟨S_, .f32⟩
  | .hbm, ⟨35, _⟩ => ⟨S32x257, .f32⟩
  | .hbm, ⟨36, _⟩ => ⟨S32x257, .f32⟩
  | _, _ => ⟨S32x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGateW.lean ====
abbrev S64x64 : Shape := ⟨2, ![64, 64]⟩
abbrev S32x64 : Shape := ⟨2, ![32, 64]⟩

abbrev nBuf : Space → Nat
  | .hbm => 7
  | .vmem => 14
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .local _ .vmem, ⟨0, _⟩ => ⟨S32x64, .f32⟩
  | .local _ .vmem, ⟨1, _⟩ => ⟨S32x64, .f32⟩
  | .local _ .vmem, ⟨2, _⟩ => ⟨S32x64, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | .local _ .vmem, ⟨7, _⟩ => ⟨S32x64, .f32⟩
  | .local _ .vmem, ⟨8, _⟩ => ⟨S32x64, .f32⟩
  | .local _ .vmem, ⟨9, _⟩ => ⟨S32x64, .f32⟩
  | .local _ .vmem, ⟨10, _⟩ => ⟨S32x64, .f32⟩
  | .local _ .vmem, ⟨11, _⟩ => ⟨S32x64, .f32⟩
  | .local _ .vmem, ⟨12, _⟩ => ⟨S32x64, .f32⟩
  | .local _ .vmem, ⟨13, _⟩ => ⟨S32x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateWIdeal.lean ====
abbrev S64x64 : Shape := ⟨2, ![64, 64]⟩
abbrev S32x64 : Shape := ⟨2, ![32, 64]⟩

abbrev nBuf : Space → Nat
  | .hbm => 7
  | .vmem => 14
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .local _ .vmem, ⟨0, _⟩ => ⟨S32x64, .f32⟩
  | .local _ .vmem, ⟨1, _⟩ => ⟨S32x64, .f32⟩
  | .local _ .vmem, ⟨2, _⟩ => ⟨S32x64, .f32⟩
  | .local _ .vmem, ⟨3, _⟩ => ⟨S32x64, .f32⟩
  | .local _ .vmem, ⟨4, _⟩ => ⟨S32x64, .f32⟩
  | .local _ .vmem, ⟨5, _⟩ => ⟨S32x64, .f32⟩
  | .local _ .vmem, ⟨6, _⟩ => ⟨S32x64, .f32⟩
  | .local _ .vmem, ⟨7, _⟩ => ⟨S32x64, .f32⟩
  | .local _ .vmem, ⟨8, _⟩ => ⟨S32x64, .f32⟩
  | .local _ .vmem, ⟨9, _⟩ => ⟨S32x64, .f32⟩
  | .local _ .vmem, ⟨10, _⟩ => ⟨S32x64, .f32⟩
  | .local _ .vmem, ⟨11, _⟩ => ⟨S32x64, .f32⟩
  | .local _ .vmem, ⟨12, _⟩ => ⟨S32x64, .f32⟩
  | .local _ .vmem, ⟨13, _⟩ => ⟨S32x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateWRef.lean ====
abbrev S64x64 : Shape := ⟨2, ![64, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S_, .f32⟩
  | .hbm, ⟨5, _⟩ => ⟨S64x64, .f32⟩
  | .hbm, ⟨6, _⟩ => ⟨S64x64, .f32⟩
  | .hbm, ⟨7, _⟩ => ⟨S_, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S_, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S_, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S64x64, .f32⟩
  | .hbm, ⟨21, _⟩ => ⟨S64x64, .f32⟩
  | .hbm, ⟨22, _⟩ => ⟨S_, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S_, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S_, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S_, .f32⟩
  | .hbm, ⟨35, _⟩ => ⟨S64x64, .f32⟩
  | .hbm, ⟨36, _⟩ => ⟨S64x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGateWRefIdeal.lean ====
abbrev S64x64 : Shape := ⟨2, ![64, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S_, .f32⟩
  | .hbm, ⟨5, _⟩ => ⟨S64x64, .f32⟩
  | .hbm, ⟨6, _⟩ => ⟨S64x64, .f32⟩
  | .hbm, ⟨7, _⟩ => ⟨S_, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S_, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S_, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S64x64, .f32⟩
  | .hbm, ⟨21, _⟩ => ⟨S64x64, .f32⟩
  | .hbm, ⟨22, _⟩ => ⟨S_, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S_, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S_, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S_, .f32⟩
  | .hbm, ⟨35, _⟩ => ⟨S64x64, .f32⟩
  | .hbm, ⟨36, _⟩ => ⟨S64x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGateB.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGateBIdeal.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGateBRef.lean ====
abbrev S4x256 : Shape := ⟨2, ![4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGateBRefIdeal.lean ====
abbrev S4x256 : Shape := ⟨2, ![4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormRef.lean ====
abbrev S4x128 : Shape := ⟨2, ![4, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S_, .f32⟩
  | .hbm, ⟨12, _⟩ => ⟨S4x128, .f32⟩
  | .hbm, ⟨13, _⟩ => ⟨S4x128, .f32⟩
  | .hbm, ⟨14, _⟩ => ⟨S4x128, .f32⟩
  | .hbm, ⟨15, _⟩ => ⟨S_, .f32⟩
  | .hbm, ⟨16, _⟩ => ⟨S4x128, .f32⟩
  | .hbm, ⟨17, _⟩ => ⟨S4x128, .f32⟩
  | .hbm, ⟨18, _⟩ => ⟨S4x128, .f32⟩
  | .hbm, ⟨19, _⟩ => ⟨S_, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S4x128, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S4x128, .f32⟩
  | .hbm, ⟨30, _⟩ => ⟨S_, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S_, .f32⟩
  | .hbm, ⟨35, _⟩ => ⟨S4x128, .f32⟩
  | .hbm, ⟨36, _⟩ => ⟨S4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNormRefIdeal.lean ====
abbrev S4x128 : Shape := ⟨2, ![4, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S_, .f32⟩
  | .hbm, ⟨12, _⟩ => ⟨S4x128, .f32⟩
  | .hbm, ⟨13, _⟩ => ⟨S4x128, .f32⟩
  | .hbm, ⟨14, _⟩ => ⟨S4x128, .f32⟩
  | .hbm, ⟨15, _⟩ => ⟨S_, .f32⟩
  | .hbm, ⟨16, _⟩ => ⟨S4x128, .f32⟩
  | .hbm, ⟨17, _⟩ => ⟨S4x128, .f32⟩
  | .hbm, ⟨18, _⟩ => ⟨S4x128, .f32⟩
  | .hbm, ⟨19, _⟩ => ⟨S_, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S4x128, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S4x128, .f32⟩
  | .hbm, ⟨30, _⟩ => ⟨S_, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S_, .f32⟩
  | .hbm, ⟨35, _⟩ => ⟨S4x128, .f32⟩
  | .hbm, ⟨36, _⟩ => ⟨S4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKv.lean ====
abbrev S2048x1024 : Shape := ⟨2, ![2048, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamKvIdeal.lean ====
abbrev S2048x1024 : Shape := ⟨2, ![2048, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamKvRef.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKvRefIdeal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S2048x2048 : Shape := ⟨2, ![2048, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S2048x2048 : Shape := ⟨2, ![2048, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRef.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOutRefIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLnG.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLnGIdeal.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLnGRef.lean ====
abbrev S4x2048 : Shape := ⟨2, ![4, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLnB.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLnBIdeal.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamLnBRef.lean ====
abbrev S4x2048 : Shape := ⟨2, ![4, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SlotsIn.lean ====
abbrev S4x4096x1668 : Shape := ⟨3, ![4, 4096, 1668]⟩
abbrev S4096x1668 : Shape := ⟨2, ![4096, 1668]⟩
abbrev S4x256x1668 : Shape := ⟨3, ![4, 256, 1668]⟩
abbrev S256x1668 : Shape := ⟨2, ![256, 1668]⟩
abbrev S1x256x1668 : Shape := ⟨3, ![1, 256, 1668]⟩

abbrev nBuf : Space → Nat
  | .hbm => 2
  | .vmem => 4
  | .smem => 0
  | _ => 0

abbrev bufTy : (tb : Table) → Fin (tcTables nBuf tb) → BufTy
  | .hbm, ⟨0, _⟩ => ⟨S4x4096x1668, .f32⟩
  | .hbm, ⟨1, _⟩ => ⟨S4096x1668, .f32⟩
  | .local _ .vmem, ⟨0, _⟩ => ⟨S4x256x1668, .f32⟩
  | .local _ .vmem, ⟨1, _⟩ => ⟨S4x256x1668, .f32⟩
  | .local _ .vmem, ⟨2, _⟩ => ⟨S256x1668, .f32⟩
  | .local _ .vmem, ⟨3, _⟩ => ⟨S256x1668, .f32⟩
  | _, _ => ⟨S4x4096x1668, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1668 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1668 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SlotsInIdeal.lean ====
abbrev S4x4096x1668 : Shape := ⟨3, ![4, 4096, 1668]⟩
abbrev S4096x1668 : Shape := ⟨2, ![4096, 1668]⟩
abbrev S4x256x1668 : Shape := ⟨3, ![4, 256, 1668]⟩
abbrev S256x1668 : Shape := ⟨2, ![256, 1668]⟩
abbrev S1x256x1668 : Shape := ⟨3, ![1, 256, 1668]⟩

abbrev nBuf : Space → Nat
  | .hbm => 2
  | .vmem => 4
  | .smem => 0
  | _ => 0

abbrev bufTy : (tb : Table) → Fin (tcTables nBuf tb) → BufTy
  | .hbm, ⟨0, _⟩ => ⟨S4x4096x1668, .f32⟩
  | .hbm, ⟨1, _⟩ => ⟨S4096x1668, .f32⟩
  | .local _ .vmem, ⟨0, _⟩ => ⟨S4x256x1668, .f32⟩
  | .local _ .vmem, ⟨1, _⟩ => ⟨S4x256x1668, .f32⟩
  | .local _ .vmem, ⟨2, _⟩ => ⟨S256x1668, .f32⟩
  | .local _ .vmem, ⟨3, _⟩ => ⟨S256x1668, .f32⟩
  | _, _ => ⟨S4x4096x1668, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1668 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1668 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SlotsInRef.lean ====
abbrev S4x4096x1668 : Shape := ⟨3, ![4, 4096, 1668]⟩
abbrev S_ : Shape := ⟨0, ![]⟩
abbrev S4096x1668 : Shape := ⟨2, ![4096, 1668]⟩

abbrev nBuf : Space → Nat
  | .hbm => 3
  | .vmem => 0
  | .smem => 0
  | _ => 0

abbrev bufTy : (tb : Table) → Fin (tcTables nBuf tb) → BufTy
  | .hbm, ⟨0, _⟩ => ⟨S4x4096x1668, .f32⟩
  | .hbm, ⟨1, _⟩ => ⟨S_, .f32⟩
  | .hbm, ⟨2, _⟩ => ⟨S4096x1668, .f32⟩
  | _, _ => ⟨S4x4096x1668, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SlotsInRefIdeal.lean ====
abbrev S4x4096x1668 : Shape := ⟨3, ![4, 4096, 1668]⟩
abbrev S_ : Shape := ⟨0, ![]⟩
abbrev S4096x1668 : Shape := ⟨2, ![4096, 1668]⟩

abbrev nBuf : Space → Nat
  | .hbm => 3
  | .vmem => 0
  | .smem => 0
  | _ => 0

abbrev bufTy : (tb : Table) → Fin (tcTables nBuf tb) → BufTy
  | .hbm, ⟨0, _⟩ => ⟨S4x4096x1668, .f32⟩
  | .hbm, ⟨1, _⟩ => ⟨S_, .f32⟩
  | .hbm, ⟨2, _⟩ => ⟨S4096x1668, .f32⟩
  | _, _ => ⟨S4x4096x1668, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SlotsOut.lean ====
abbrev S4x1024x2048 : Shape := ⟨3, ![4, 1024, 2048]⟩
abbrev S1024x2048 : Shape := ⟨2, ![1024, 2048]⟩
abbrev S4x256x2048 : Shape := ⟨3, ![4, 256, 2048]⟩
abbrev S256x2048 : Shape := ⟨2, ![256, 2048]⟩
abbrev S1x256x2048 : Shape := ⟨3, ![1, 256, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x2048, .f32⟩
  | .hbm, ⟨1, _⟩ => ⟨S1024x2048, .f32⟩
  | .local _ .vmem, ⟨0, _⟩ => ⟨S4x256x2048, .f32⟩
  | .local _ .vmem, ⟨1, _⟩ => ⟨S4x256x2048, .f32⟩
  | .local _ .vmem, ⟨2, _⟩ => ⟨S256x2048, .f32⟩
  | .local _ .vmem, ⟨3, _⟩ => ⟨S256x2048, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SlotsOutIdeal.lean ====
abbrev S4x1024x2048 : Shape := ⟨3, ![4, 1024, 2048]⟩
abbrev S1024x2048 : Shape := ⟨2, ![1024, 2048]⟩
abbrev S4x256x2048 : Shape := ⟨3, ![4, 256, 2048]⟩
abbrev S256x2048 : Shape := ⟨2, ![256, 2048]⟩
abbrev S1x256x2048 : Shape := ⟨3, ![1, 256, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x2048, .f32⟩
  | .hbm, ⟨1, _⟩ => ⟨S1024x2048, .f32⟩
  | .local _ .vmem, ⟨0, _⟩ => ⟨S4x256x2048, .f32⟩
  | .local _ .vmem, ⟨1, _⟩ => ⟨S4x256x2048, .f32⟩
  | .local _ .vmem, ⟨2, _⟩ => ⟨S256x2048, .f32⟩
  | .local _ .vmem, ⟨3, _⟩ => ⟨S256x2048, .f32⟩
  | _, _ => ⟨S4x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SlotsOutRef.lean ====
abbrev S4x1024x2048 : Shape := ⟨3, ![4, 1024, 2048]⟩
abbrev S_ : Shape := ⟨0, ![]⟩
abbrev S1024x2048 : Shape := ⟨2, ![1024, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S_, .f32⟩
  | .hbm, ⟨2, _⟩ => ⟨S1024x2048, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SlotsOutRefIdeal.lean ====
abbrev S4x1024x2048 : Shape := ⟨3, ![4, 1024, 2048]⟩
abbrev S_ : Shape := ⟨0, ![]⟩
abbrev S1024x2048 : Shape := ⟨2, ![1024, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S_, .f32⟩
  | .hbm, ⟨2, _⟩ => ⟨S1024x2048, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SlotsKv.lean ====
abbrev S4x1024x1024 : Shape := ⟨3, ![4, 1024, 1024]⟩
abbrev S1024x1024 : Shape := ⟨2, ![1024, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1024, .f32⟩
  | .hbm, ⟨1, _⟩ => ⟨S1024x1024, .f32⟩
  | .local _ .vmem, ⟨0, _⟩ => ⟨S4x256x1024, .f32⟩
  | .local _ .vmem, ⟨1, _⟩ => ⟨S4x256x1024, .f32⟩
  | .local _ .vmem, ⟨2, _⟩ => ⟨S256x1024, .f32⟩
  | .local _ .vmem, ⟨3, _⟩ => ⟨S256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SlotsKvIdeal.lean ====
abbrev S4x1024x1024 : Shape := ⟨3, ![4, 1024, 1024]⟩
abbrev S1024x1024 : Shape := ⟨2, ![1024, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1024, .f32⟩
  | .hbm, ⟨1, _⟩ => ⟨S1024x1024, .f32⟩
  | .local _ .vmem, ⟨0, _⟩ => ⟨S4x256x1024, .f32⟩
  | .local _ .vmem, ⟨1, _⟩ => ⟨S4x256x1024, .f32⟩
  | .local _ .vmem, ⟨2, _⟩ => ⟨S256x1024, .f32⟩
  | .local _ .vmem, ⟨3, _⟩ => ⟨S256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SlotsKvRef.lean ====
abbrev S4x1024x1024 : Shape := ⟨3, ![4, 1024, 1024]⟩
abbrev S_ : Shape := ⟨0, ![]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S_, .f32⟩
  | .hbm, ⟨2, _⟩ => ⟨S1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== HalvesIn.lean ====
abbrev S1 : Shape := ⟨1, ![1]⟩
abbrev S4x2x4096x1668 : Shape := ⟨4, ![4, 2, 4096, 1668]⟩
abbrev S4x4096x1668 : Shape := ⟨3, ![4, 4096, 1668]⟩
abbrev S1x1x256x1668 : Shape := ⟨4, ![1, 1, 256, 1668]⟩
abbrev S1x256x1668 : Shape := ⟨3, ![1, 256, 1668]⟩

abbrev nBuf : Space → Nat
  | .hbm => 3
  | .vmem => 6
  | .smem => 1
  | _ => 0

abbrev bufTy : (tb : Table) → Fin (tcTables nBuf tb) → BufTy
  | .hbm, ⟨0, _⟩ => ⟨S4x2x4096x1668, .f32⟩
  | .hbm, ⟨1, _⟩ => ⟨S4x4096x1668, .f32⟩
  | .hbm, ⟨2, _⟩ => ⟨S4x4096x1668, .f32⟩
  | .local _ .vmem, ⟨0, _⟩ => ⟨S1x1x256x1668, .f32⟩
  | .local _ .vmem, ⟨1, _⟩ => ⟨S1x1x256x1668, .f32⟩
  | .local _ .vmem, ⟨2, _⟩ => ⟨S1x256x1668, .f32⟩
  | .local _ .vmem, ⟨3, _⟩ => ⟨S1x256x1668, .f32⟩
  | .local _ .vmem, ⟨4, _⟩ => ⟨S1x256x1668, .f32⟩
  | .local _ .vmem, ⟨5, _⟩ => ⟨S1x256x1668, .f32⟩
  | .local _ .smem, ⟨0, _⟩ => ⟨S1, .i32⟩
  | _, _ => ⟨S4x2x4096x1668, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x1668 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1668 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1668 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HalvesInIdeal.lean ====
abbrev S1 : Shape := ⟨1, ![1]⟩
abbrev S4x2x4096x1668 : Shape := ⟨4, ![4, 2, 4096, 1668]⟩
abbrev S4x4096x1668 : Shape := ⟨3, ![4, 4096, 1668]⟩
abbrev S1x1x256x1668 : Shape := ⟨4, ![1, 1, 256, 1668]⟩
abbrev S1x256x1668 : Shape := ⟨3, ![1, 256, 1668]⟩

abbrev nBuf : Space → Nat
  | .hbm => 3
  | .vmem => 6
  | .smem => 1
  | _ => 0

abbrev bufTy : (tb : Table) → Fin (tcTables nBuf tb) → BufTy
  | .hbm, ⟨0, _⟩ => ⟨S4x2x4096x1668, .f32⟩
  | .hbm, ⟨1, _⟩ => ⟨S4x4096x1668, .f32⟩
  | .hbm, ⟨2, _⟩ => ⟨S4x4096x1668, .f32⟩
  | .local _ .vmem, ⟨0, _⟩ => ⟨S1x1x256x1668, .f32⟩
  | .local _ .vmem, ⟨1, _⟩ => ⟨S1x1x256x1668, .f32⟩
  | .local _ .vmem, ⟨2, _⟩ => ⟨S1x256x1668, .f32⟩
  | .local _ .vmem, ⟨3, _⟩ => ⟨S1x256x1668, .f32⟩
  | .local _ .vmem, ⟨4, _⟩ => ⟨S1x256x1668, .f32⟩
  | .local _ .vmem, ⟨5, _⟩ => ⟨S1x256x1668, .f32⟩
  | .local _ .smem, ⟨0, _⟩ => ⟨S1, .i32⟩
  | _, _ => ⟨S4x2x4096x1668, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x1668 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1668 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1668 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HalvesInRef.lean ====
abbrev S1 : Shape := ⟨1, ![1]⟩
abbrev S4x2x4096x1668 : Shape := ⟨4, ![4, 2, 4096, 1668]⟩
abbrev S4x4096x1668 : Shape := ⟨3, ![4, 4096, 1668]⟩
abbrev S_ : Shape := ⟨0, ![]⟩
abbrev S4x1x4096x1668 : Shape := ⟨4, ![4, 1, 4096, 1668]⟩

abbrev nBuf : Space → Nat
  | .hbm => 12
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2x4096x1668, .f32⟩
  | .hbm, ⟨2, _⟩ => ⟨S4x4096x1668, .f32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1x4096x1668, .f32⟩
  | .hbm, ⟨7, _⟩ => ⟨S4x4096x1668, .f32⟩
  | .hbm, ⟨8, _⟩ => ⟨S4x1x4096x1668, .f32⟩
  | .hbm, ⟨9, _⟩ => ⟨S4x4096x1668, .f32⟩
  | .hbm, ⟨10, _⟩ => ⟨S4x4096x1668, .f32⟩
  | .hbm, ⟨11, _⟩ => ⟨S4x4096x1668, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== HalvesInRefIdeal.lean ====
abbrev S1 : Shape := ⟨1, ![1]⟩
abbrev S4x2x4096x1668 : Shape := ⟨4, ![4, 2, 4096, 1668]⟩
abbrev S4x4096x1668 : Shape := ⟨3, ![4, 4096, 1668]⟩
abbrev S_ : Shape := ⟨0, ![]⟩
abbrev S4x1x4096x1668 : Shape := ⟨4, ![4, 1, 4096, 1668]⟩

abbrev nBuf : Space → Nat
  | .hbm => 12
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2x4096x1668, .f32⟩
  | .hbm, ⟨2, _⟩ => ⟨S4x4096x1668, .f32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1x4096x1668, .f32⟩
  | .hbm, ⟨7, _⟩ => ⟨S4x4096x1668, .f32⟩
  | .hbm, ⟨8, _⟩ => ⟨S4x1x4096x1668, .f32⟩
  | .hbm, ⟨9, _⟩ => ⟨S4x4096x1668, .f32⟩
  | .hbm, ⟨10, _⟩ => ⟨S4x4096x1668, .f32⟩
  | .hbm, ⟨11, _⟩ => ⟨S4x4096x1668, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== HalvesOut.lean ====
abbrev S1 : Shape := ⟨1, ![1]⟩
abbrev S4x2x1024x2048 : Shape := ⟨4, ![4, 2, 1024, 2048]⟩
abbrev S4x1024x2048 : Shape := ⟨3, ![4, 1024, 2048]⟩
abbrev S1x1x256x2048 : Shape := ⟨4, ![1, 1, 256, 2048]⟩
abbrev S1x256x2048 : Shape := ⟨3, ![1, 256, 2048]⟩

abbrev nBuf : Space → Nat
  | .hbm => 3
  | .vmem => 6
  | .smem => 1
  | _ => 0

abbrev bufTy : (tb : Table) → Fin (tcTables nBuf tb) → BufTy
  | .hbm, ⟨0, _⟩ => ⟨S4x2x1024x2048, .f32⟩
  | .hbm, ⟨1, _⟩ => ⟨S4x1024x2048, .f32⟩
  | .hbm, ⟨2, _⟩ => ⟨S4x1024x2048, .f32⟩
  | .local _ .vmem, ⟨0, _⟩ => ⟨S1x1x256x2048, .f32⟩
  | .local _ .vmem, ⟨1, _⟩ => ⟨S1x1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .smem, ⟨0, _⟩ => ⟨S1, .i32⟩
  | _, _ => ⟨S4x2x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HalvesOutIdeal.lean ====
abbrev S1 : Shape := ⟨1, ![1]⟩
abbrev S4x2x1024x2048 : Shape := ⟨4, ![4, 2, 1024, 2048]⟩
abbrev S4x1024x2048 : Shape := ⟨3, ![4, 1024, 2048]⟩
abbrev S1x1x256x2048 : Shape := ⟨4, ![1, 1, 256, 2048]⟩
abbrev S1x256x2048 : Shape := ⟨3, ![1, 256, 2048]⟩

abbrev nBuf : Space → Nat
  | .hbm => 3
  | .vmem => 6
  | .smem => 1
  | _ => 0

abbrev bufTy : (tb : Table) → Fin (tcTables nBuf tb) → BufTy
  | .hbm, ⟨0, _⟩ => ⟨S4x2x1024x2048, .f32⟩
  | .hbm, ⟨1, _⟩ => ⟨S4x1024x2048, .f32⟩
  | .hbm, ⟨2, _⟩ => ⟨S4x1024x2048, .f32⟩
  | .local _ .vmem, ⟨0, _⟩ => ⟨S1x1x256x2048, .f32⟩
  | .local _ .vmem, ⟨1, _⟩ => ⟨S1x1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .smem, ⟨0, _⟩ => ⟨S1, .i32⟩
  | _, _ => ⟨S4x2x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HalvesOutRef.lean ====
abbrev S1 : Shape := ⟨1, ![1]⟩
abbrev S4x2x1024x2048 : Shape := ⟨4, ![4, 2, 1024, 2048]⟩
abbrev S4x1024x2048 : Shape := ⟨3, ![4, 1024, 2048]⟩
abbrev S_ : Shape := ⟨0, ![]⟩
abbrev S4x1x1024x2048 : Shape := ⟨4, ![4, 1, 1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2x1024x2048, .f32⟩
  | .hbm, ⟨2, _⟩ => ⟨S4x1024x2048, .f32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1x1024x2048, .f32⟩
  | .hbm, ⟨7, _⟩ => ⟨S4x1024x2048, .f32⟩
  | .hbm, ⟨8, _⟩ => ⟨S4x1x1024x2048, .f32⟩
  | .hbm, ⟨9, _⟩ => ⟨S4x1024x2048, .f32⟩
  | .hbm, ⟨10, _⟩ => ⟨S4x1024x2048, .f32⟩
  | .hbm, ⟨11, _⟩ => ⟨S4x1024x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== HalvesOutRefIdeal.lean ====
abbrev S1 : Shape := ⟨1, ![1]⟩
abbrev S4x2x1024x2048 : Shape := ⟨4, ![4, 2, 1024, 2048]⟩
abbrev S4x1024x2048 : Shape := ⟨3, ![4, 1024, 2048]⟩
abbrev S_ : Shape := ⟨0, ![]⟩
abbrev S4x1x1024x2048 : Shape := ⟨4, ![4, 1, 1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2x1024x2048, .f32⟩
  | .hbm, ⟨2, _⟩ => ⟨S4x1024x2048, .f32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1x1024x2048, .f32⟩
  | .hbm, ⟨7, _⟩ => ⟨S4x1024x2048, .f32⟩
  | .hbm, ⟨8, _⟩ => ⟨S4x1x1024x2048, .f32⟩
  | .hbm, ⟨9, _⟩ => ⟨S4x1024x2048, .f32⟩
  | .hbm, ⟨10, _⟩ => ⟨S4x1024x2048, .f32⟩
  | .hbm, ⟨11, _⟩ => ⟨S4x1024x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== HalvesKv.lean ====
abbrev S1 : Shape := ⟨1, ![1]⟩
abbrev S4x2x1024x1024 : Shape := ⟨4, ![4, 2, 1024, 1024]⟩
abbrev S4x1024x1024 : Shape := ⟨3, ![4, 1024, 1024]⟩
abbrev S1x1x256x1024 : Shape := ⟨4, ![1, 1, 256, 1024]⟩
abbrev S1x256x1024 : Shape := ⟨3, ![1, 256, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x2x1024x1024, .f32⟩
  | .hbm, ⟨1, _⟩ => ⟨S4x1024x1024, .f32⟩
  | .hbm, ⟨2, _⟩ => ⟨S4x1024x1024, .f32⟩
  | .local _ .vmem, ⟨0, _⟩ => ⟨S1x1x256x1024, .f32⟩
  | .local _ .vmem, ⟨1, _⟩ => ⟨S1x1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .smem, ⟨0, _⟩ => ⟨S1, .i32⟩
  | _, _ => ⟨S4x2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HalvesKvRef.lean ====
abbrev S1 : Shape := ⟨1, ![1]⟩
abbrev S4x2x1024x1024 : Shape := ⟨4, ![4, 2, 1024, 1024]⟩
abbrev S4x1024x1024 : Shape := ⟨3, ![4, 1024, 1024]⟩
abbrev S_ : Shape := ⟨0, ![]⟩
abbrev S4x1x1024x1024 : Shape := ⟨4, ![4, 1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2x1024x1024, .f32⟩
  | .hbm, ⟨2, _⟩ => ⟨S4x1024x1024, .f32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1x1024x1024, .f32⟩
  | .hbm, ⟨7, _⟩ => ⟨S4x1024x1024, .f32⟩
  | .hbm, ⟨8, _⟩ => ⟨S4x1x1024x1024, .f32⟩
  | .hbm, ⟨9, _⟩ => ⟨S4x1024x1024, .f32⟩
  | .hbm, ⟨10, _⟩ => ⟨S4x1024x1024, .f32⟩
  | .hbm, ⟨11, _⟩ => ⟨S4x1024x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Loss.lean ====
abbrev S8192x2048 : Shape := ⟨2, ![8192, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x1, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x1, .f32⟩
  | .local _ .vmem, ⟨5, _⟩ => ⟨S512x2048, .f32⟩
  | .local _ .vmem, ⟨6, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v14 : BitVec 32 := Scalar.extui v13
  let c0_i32_8 : BitVec 32 := 0#32
  let v15 : BitVec 1 := Scalar.cmpi .ne v14 c0_i32_8
  v15

def k0_cond2 (i : grid0.Coords) : BitVec 1 :=
  let arg0 : BitVec 32 := BitVec.ofNat 32 (i 0).val
  let c0_i32_9 : BitVec 32 := 0#32
  let v16 : BitVec 1 := Scalar.cmpi .sgt arg0 c0_i32_9
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRef.lean ====
abbrev S8192x2048 : Shape := ⟨2, ![8192, 2048]⟩
abbrev S_ : Shape := ⟨0, ![]⟩
abbrev S8192 : Shape := ⟨1, ![8192]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x2048, .f32⟩
  | .hbm, ⟨24, _⟩ => ⟨S8192x2048, .f32⟩
  | .hbm, ⟨25, _⟩ => ⟨S1x1, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== GradIn.lean ====
abbrev S8192x2048 : Shape := ⟨2, ![8192, 2048]⟩
abbrev S8192x7680 : Shape := ⟨2, ![8192, 7680]⟩
abbrev S2048x7680 : Shape := ⟨2, ![2048, 7680]⟩
abbrev S512x1024 : Shape := ⟨2, ![512, 1024]⟩
abbrev S512x768 : Shape := ⟨2, ![512, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x7680, .bf16⟩
  | .hbm, ⟨2, _⟩ => ⟨S2048x7680, .f32⟩
  | .local _ .vmem, ⟨0, _⟩ => ⟨S512x1024, .bf16⟩
  | .local _ .vmem, ⟨1, _⟩ => ⟨S512x1024, .bf16⟩
  | .local _ .vmem, ⟨2, _⟩ => ⟨S512x768, .bf16⟩
  | .local _ .vmem, ⟨3, _⟩ => ⟨S512x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInIdeal.lean ====
abbrev S8192x2048 : Shape := ⟨2, ![8192, 2048]⟩
abbrev S8192x7680 : Shape := ⟨2, ![8192, 7680]⟩
abbrev S2048x7680 : Shape := ⟨2, ![2048, 7680]⟩
abbrev S512x1024 : Shape := ⟨2, ![512, 1024]⟩
abbrev S512x768 : Shape := ⟨2, ![512, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x7680, .bf16⟩
  | .hbm, ⟨2, _⟩ => ⟨S2048x7680, .f32⟩
  | .local _ .vmem, ⟨0, _⟩ => ⟨S512x1024, .bf16⟩
  | .local _ .vmem, ⟨1, _⟩ => ⟨S512x1024, .bf16⟩
  | .local _ .vmem, ⟨2, _⟩ => ⟨S512x768, .bf16⟩
  | .local _ .vmem, ⟨3, _⟩ => ⟨S512x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 10, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInRef.lean ====
abbrev S8192x2048 : Shape := ⟨2, ![8192, 2048]⟩
abbrev S8192x7680 : Shape := ⟨2, ![8192, 7680]⟩
abbrev S2048x7680 : Shape := ⟨2, ![2048, 7680]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x7680, .bf16⟩
  | .hbm, ⟨2, _⟩ => ⟨S2048x7680, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GradInRefIdeal.lean ====
abbrev S8192x2048 : Shape := ⟨2, ![8192, 2048]⟩
abbrev S8192x7680 : Shape := ⟨2, ![8192, 7680]⟩
abbrev S2048x7680 : Shape := ⟨2, ![2048, 7680]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x7680, .bf16⟩
  | .hbm, ⟨2, _⟩ => ⟨S2048x7680, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GradOut.lean ====
abbrev S8192x2048 : Shape := ⟨2, ![8192, 2048]⟩
abbrev S2048x2048 : Shape := ⟨2, ![2048, 2048]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradOutIdeal.lean ====
abbrev S8192x2048 : Shape := ⟨2, ![8192, 2048]⟩
abbrev S2048x2048 : Shape := ⟨2, ![2048, 2048]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 16], ![false, false, false]⟩

def k0_cond3 (i : grid0.Coords) : BitVec 1 :=
  let arg2 : BitVec 32 := BitVec.ofNat 32 (i 2).val
  let c15_i32 : BitVec 32 := 15#32
  let v9 : BitVec 1 := Scalar.cmpi .eq arg2 c15_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradOutRef.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GradOutRefIdeal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GradKv.lean ====
abbrev S256x2048 : Shape := ⟨2, ![256, 2048]⟩
abbrev S256x1024 : Shape := ⟨2, ![256, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradKvIdeal.lean ====
abbrev S256x2048 : Shape := ⟨2, ![256, 2048]⟩
abbrev S256x1024 : Shape := ⟨2, ![256, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradKvRef.lean ====
abbrev S256x2048 : Shape := ⟨2, ![256, 2048]⟩
abbrev S256x1024 : Shape := ⟨2, ![256, 1024]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S256x1024, .bf16⟩
  | .hbm, ⟨3, _⟩ => ⟨S2048x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradX.lean ====
abbrev S8192x7680 : Shape := ⟨2, ![8192, 7680]⟩
abbrev S2048x7680 : Shape := ⟨2, ![2048, 7680]⟩
abbrev S8192x2048 : Shape := ⟨2, ![8192, 2048]⟩
abbrev S1024x768 : Shape := ⟨2, ![1024, 768]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x7680, .bf16⟩
  | .hbm, ⟨1, _⟩ => ⟨S2048x7680, .bf16⟩
  | .hbm, ⟨2, _⟩ => ⟨S8192x2048, .f32⟩
  | .hbm, ⟨3, _⟩ => ⟨S8192x2048, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 10], ![false, false, false]⟩

def k0_cond3 (i : grid0.Coords) : BitVec 1 :=
  let arg2 : BitVec 32 := BitVec.ofNat 32 (i 2).val
  let c9_i32 : BitVec 32 := 9#32
  let v9 : BitVec 1 := Scalar.cmpi .eq arg2 c9_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GradXRef.lean ====
abbrev S8192x7680 : Shape := ⟨2, ![8192, 7680]⟩
abbrev S2048x7680 : Shape := ⟨2, ![2048, 7680]⟩
abbrev S8192x2048 : Shape := ⟨2, ![8192, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x7680, .bf16⟩
  | .hbm, ⟨1, _⟩ => ⟨S2048x7680, .bf16⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Norm.lean ====
abbrev S8192x2048 : Shape := ⟨2, ![8192, 2048]⟩
abbrev S2048x2048 : Shape := ⟨2, ![2048, 2048]⟩
abbrev S1x2048 : Shape := ⟨2, ![1, 2048]⟩
abbrev S8192x1 : Shape := ⟨2, ![8192, 1]⟩
abbrev S256x2048 : Shape := ⟨2, ![256, 2048]⟩
abbrev S256x1 : Shape := ⟨2, ![256, 1]⟩
abbrev S256 : Shape := ⟨1, ![256]⟩

abbrev nBuf : Space → Nat
  | .hbm => 9
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S8192x2048, .f32⟩
  | .hbm, ⟨8, _⟩ => ⟨S8192x1, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S256x2048, .f32⟩
  | .local _ .vmem, ⟨12, _⟩ => ⟨S256x2048, .f32⟩
  | .local _ .vmem, ⟨13, _⟩ => ⟨S256x1, .f32⟩
  | .local _ .vmem, ⟨14, _⟩ => ⟨S256x1, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== NormRef.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== InProj.lean ====
abbrev S8192x2048 : Shape := ⟨2, ![8192, 2048]⟩
abbrev S2048x7680 : Shape := ⟨2, ![2048, 7680]⟩
abbrev S8192x7680 : Shape := ⟨2, ![8192, 7680]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x7680, .bf16⟩
  | .hbm, ⟨2, _⟩ => ⟨S8192x7680, .bf16⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 10, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjIdeal.lean ====
abbrev S8192x2048 : Shape := ⟨2, ![8192, 2048]⟩
abbrev S2048x7680 : Shape := ⟨2, ![2048, 7680]⟩
abbrev S8192x7680 : Shape := ⟨2, ![8192, 7680]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x7680, .bf16⟩
  | .hbm, ⟨2, _⟩ => ⟨S8192x7680, .bf16⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 10, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRef.lean ====
abbrev S8192x2048 : Shape := ⟨2, ![8192, 2048]⟩
abbrev S2048x7680 : Shape := ⟨2, ![2048, 7680]⟩
abbrev S8192x7680 : Shape := ⟨2, ![8192, 7680]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x7680, .bf16⟩
  | .hbm, ⟨2, _⟩ => ⟨S8192x7680, .f32⟩
  | .hbm, ⟨3, _⟩ => ⟨S8192x7680, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InProjRefIdeal.lean ====
abbrev S8192x2048 : Shape := ⟨2, ![8192, 2048]⟩
abbrev S2048x7680 : Shape := ⟨2, ![2048, 7680]⟩
abbrev S8192x7680 : Shape := ⟨2, ![8192, 7680]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x7680, .bf16⟩
  | .hbm, ⟨2, _⟩ => ⟨S8192x7680, .f32⟩
  | .hbm, ⟨3, _⟩ => ⟨S8192x7680, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MemKv.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 3
  | .vmem => 4
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .bf16⟩
  | .local _ .vmem, ⟨0, _⟩ => ⟨S256x2048, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvIdeal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 3
  | .vmem => 4
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .bf16⟩
  | .local _ .vmem, ⟨0, _⟩ => ⟨S256x2048, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvRef.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .hbm, ⟨3, _⟩ => ⟨S256x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MemKvRefIdeal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .hbm, ⟨3, _⟩ => ⟨S256x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradCat.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradCatIdeal.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradCatRef.lean ====
abbrev S8192x2048 : Shape := ⟨2, ![8192, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradNorm.lean ====
abbrev S8192x2048 : Shape := ⟨2, ![8192, 2048]⟩
abbrev S8192x1 : Shape := ⟨2, ![8192, 1]⟩
abbrev S1x2048 : Shape := ⟨2, ![1, 2048]⟩
abbrev S512x2048 : Shape := ⟨2, ![512, 2048]⟩
abbrev S512x1 : Shape := ⟨2, ![512, 1]⟩
abbrev S512 : Shape := ⟨1, ![512]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1, .f32⟩
  | .hbm, ⟨3, _⟩ => ⟨S1x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_16 : BitVec 32 := 0#32
  let v32 : BitVec 1 := Scalar.cmpi .ne v31 c0_i32_16
  v32

def k0_cond2 (i : grid0.Coords) : BitVec 1 :=
  let arg0 : BitVec 32 := BitVec.ofNat 32 (i 0).val
  let c0_i32_17 : BitVec 32 := 0#32
  let v33 : BitVec 1 := Scalar.cmpi .sgt arg0 c0_i32_17
  let v34 : BitVec 32 := Scalar.extui v33
  let c0_i32_18 : BitVec 32 := 0#32
  let v35 : BitVec 1 := Scalar.cmpi .ne v34 c0_i32_18
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GradNormRef.lean ====
abbrev S8192x2048 : Shape := ⟨2, ![8192, 2048]⟩
abbrev S8192x1 : Shape := ⟨2, ![8192, 1]⟩
abbrev S1x2048 : Shape := ⟨2, ![1, 2048]⟩
abbrev S_ : Shape := ⟨0, ![]⟩
abbrev S8192 : Shape := ⟨1, ![8192]⟩
abbrev S2048 : Shape := ⟨1, ![2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x1, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | .hbm, ⟨27, _⟩ => ⟨S8192x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S_, .f32⟩
  | .hbm, ⟨32, _⟩ => ⟨S2048, .f32⟩
  | .hbm, ⟨33, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proof.Launch.lean ====
/-
# The launch of a program that is one exchange between devices

A program whose @main is one kernel without windows, run by every device, in which the devices write straight into
each other's result arrays. A copy may land in a peer's array before that peer has started, so what a device hands to
its peers — the parts of its own result array they will write — is dealt out at launch, for all devices at once.
`run_talk` is the launch theorem of this shape.
-/
module

public import Idealize.ShloMosaic.Lib.Pipeline.Launch
public import Idealize.ShloMosaic.Lib.Pipeline.Kit
public import Idealize.ShloMosaic.Lib.Tactic

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}

/-- The ghost algebra: one copy of the rounds library for the (here empty) pipeline, one for the exchange. -/
abbrev UU (nD : Nat) (τ : Topo) (sig : RefSig) : Type := UR sig nD τ × UR sig nD τ

local notation "𝕄" => MT nD τ sig Unit Val ℕ (UU nD τ sig) ℕ

/-- The pipeline's copy. -/
abbrev EP : Emb (UR sig nD τ) (MT nD τ sig Unit Val ℕ (UU nD τ sig) ℕ) := embL
/-- The exchange's copy. -/
abbrev ER : Emb (UR sig nD τ) (MT nD τ sig Unit Val ℕ (UU nD τ sig) ℕ) := embR

variable {Λ₀ : Idealize.SL.Sem.Labels}

/-- The proof data of a kernel without windows at its one grid point: it holds `A₀` and owes `O₀` before the point and
    holds `A₁` and owes nothing after it. -/
def talkDat (cfg : Cfg sig Λ₀) (hW : IsEmpty (Fin cfg.W)) (c : Dev nD) (A₀ A₁ : sProp 𝕄) (O₀ : CellTallies nD τ sig Unit) :
    Dat τ Val Unit ℕ (UU nD τ sig) ℕ cfg c where
  A w := hW.elim w
  after w := hW.elim w
  Φ t := if t.val = 0 then A₀ else A₁
  q w := hW.elim w
  owed t := if t.val = 0 then O₀ else 0

theorem talkDat_inv_first {cfg : Pipeline.Cfg sig Λ₀} {hW : IsEmpty (Fin cfg.W)} {c : Dev nD} {A₀ A₁ : sProp 𝕄} {O₀ : CellTallies nD τ sig Unit}
    {t : Fin (cfg.N + 1)} (h : t.val = 0) : (talkDat cfg hW c A₀ A₁ O₀).Φ t = A₀ := by exact if_pos h
theorem talkDat_inv_last {cfg : Pipeline.Cfg sig Λ₀} {hW : IsEmpty (Fin cfg.W)} {c : Dev nD} {A₀ A₁ : sProp 𝕄} {O₀ : CellTallies nD τ sig Unit}
    {t : Fin (cfg.N + 1)} (h : t.val ≠ 0) : (talkDat cfg hW c A₀ A₁ O₀).Φ t = A₁ := by exact if_neg h
theorem talkDat_owed_first {cfg : Pipeline.Cfg sig Λ₀} {hW : IsEmpty (Fin cfg.W)} {c : Dev nD} {A₀ A₁ : sProp 𝕄} {O₀ : CellTallies nD τ sig Unit}
    {t : Fin (cfg.N + 1)} (h : t.val = 0) : (talkDat cfg hW c A₀ A₁ O₀).owed t = O₀ := by exact if_pos h
theorem talkDat_owed_last {cfg : Pipeline.Cfg sig Λ₀} {hW : IsEmpty (Fin cfg.W)} {c : Dev nD} {A₀ A₁ : sProp 𝕄} {O₀ : CellTallies nD τ sig Unit}
    {t : Fin (cfg.N + 1)} (h : t.val ≠ 0) : (talkDat cfg hW c A₀ A₁ O₀).owed t = 0 := by exact if_neg h

section Talk

variable {P : Type} [Fintype P] [DecidableEq P] (cfgs : P → Cfg sig Λ₀) (p : P)
variable {K : Type} [Fintype K] (osem : K → SemLoc sig)
variable (phinj : Function.Injective (cellOf (nD := nD) (τ := τ) cfgs))
variable (hw : WinFacts₀ (cfgs p).spec) (ho : OwnSemFacts (cfgs p).spec osem)
variable (defs₀ : Defs nD τ sig Val Λ₀)

/-- The configurations as the launch takes them: none prefetches a table. -/
abbrev pcsOf : (p : P) → PCfg sig Λ₀ Val := fun p => (cfgs p).toPCfg
/-- … and every table contents are admissible. -/
abbrev admOf : Dev nD → (p : P) → (pcsOf (Val := Val) cfgs p).Adm := fun _ p => (cfgs p).toPCfg_adm

local notation "𝔻" => Pipeline.defs (pcsOf (Val := Val) cfgs) defs₀
local notation "𝕍" => Variants.lift Variants.none
local notation "cfgD" => pinD (pcsOf (Val := Val) cfgs) (admOf (nD := nD) cfgs)

include phinj hw ho in
/-- The launch of one kernel without windows whose devices exchange data: at launch every device's own semaphores at
    zero and its unscoped buffers, together with the exchange's ghost state `G`, are regrouped at once (`hglob`) into
    what each device starts from (`G' c`); each device's body runs from that, the level facts, the credit for what the
    others owe it and its own debt (`hbody`), and must end owing nothing with its semaphores at zero; what it keeps
    (`Y c`) is read at the final state (`hY`). -/
theorem run_talk [∀ e, Nonempty (Val e)]
    (m : (ℓ : Loc nD τ sig) → Buf Val ℓ) (g : Dev nD → PrngReg)
    (main : Dev nD → Prog (TpuEff nD τ sig Val (Sig Λ₀ P fun p => (pcsOf (Val := Val) cfgs p).Adm) .tc) PUnit)
    (hmain : ∀ c, main c = .op (.customCall (entry p) ()) fun _ => .ret ⟨⟩)
    (hW : ∀ p, IsEmpty (Fin (cfgs p).W)) (hN : (cfgs p).N = 1)
    (O₀ : Dev nD → CellTallies nD τ sig Unit)
    (L : GSem nD τ sig → Finset Unit) (lv : GSem nD τ sig → Unit → ℕ) (hL : ∀ g : GSem nD τ sig, g.1.2 ≠ .tc → L g = ∅)
    (u₂ : UR sig nD τ) (G : sProp 𝕄) (hu₂ : BI.own (ER (Val := Val) u₂) ⊢ |==> G)
    (G' Y : Dev nD → sProp 𝕄)
    (hglob : iprop(G ∗ bigSep Finset.univ fun c => iprop(ownSems0 osem c ∗ unscopedBufs c (fun b => m ((c.tc : Thread nD τ).loc b))))
      ⊢ |={Set.univ}=> bigSep Finset.univ G')
    (hbody : ∀ (c : Dev nD) (t : Fin (cfgs p).N),
      iprop(G' c ∗ levAts L lv ∗ launchCred O₀ c ∗ scopedRest (cfgs p).spec c ∗ ∃ W, owes (c.tc : Thread nD τ) (O₀ c) W)
        ⊢ wp frame (wpE defs₀ Variants.none (c.tc : Thread nD τ) none) Set.univ
            (defs₀ .tc (cfgs p).body ((cfgs p).bodyArgs t ((cfgs p).slots t)))
            fun _ => iprop(Y c ∗ ownSems0 osem c ∗ scopedRest (cfgs p).spec c ∗ ∃ W, owes (c.tc : Thread nD τ) 0 W))
    (QY : Dev nD → MemSt nD τ sig Val → Prop)
    (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let start : Dev nD → sProp 𝕄 := fun c => iprop(G' c ∗ levAts L lv ∗ launchCred O₀ c ∗ scopedRest (cfgs p).spec c)
  let done : Dev nD → sProp 𝕄 := fun c => iprop(Y c ∗ ownSems0 osem c ∗ scopedRest (cfgs p).spec c)
  let pd : (q : P) → (c : Dev nD) → Dat τ Val Unit ℕ (UU nD τ sig) ℕ (cfgD c q) c :=
    fun q c => talkDat (cfgs q) (hW q) c (start c) (done c) (O₀ c)
  have h1 : ∀ c, (cfgD c p).N = 1 := fun _ => hN
  have hlast : ∀ c, (Fin.last (cfgD c p).N).val ≠ 0 := fun c => by rw [Fin.val_last, h1]; exact one_ne_zero
  have hΦ0 : ∀ c, (pd p c).Φ 0 = start c := fun c => talkDat_inv_first rfl
  have hΦN : ∀ c, (pd p c).Φ (Fin.last _) = done c := fun c => talkDat_inv_last (hlast c)
  have hoN : ∀ c, (pd p c).owed (Fin.last _) = 0 := fun c => talkDat_owed_last (hlast c)
  have ho0 : ∀ c, (pd p c).owed 0 = O₀ c := fun c => talkDat_owed_first rfl
  have hB : ∀ c, BodyObligationLoose (pd p c) defs₀ Variants.none () Set.univ := fun c t => by
    have ht : t.castSucc.val = 0 := by have := t.isLt; have := h1 c; rw [Fin.val_castSucc]; omega
    have hts : t.succ.val ≠ 0 := by rw [Fin.val_succ]; exact Nat.succ_ne_zero _
    have hΦt : (pd p c).Φ t.castSucc = start c := talkDat_inv_first ht
    have hΦs : (pd p c).Φ t.succ = done c := talkDat_inv_last hts
    have hot : (pd p c).owed t.castSucc = O₀ c := talkDat_owed_first ht
    have hos : (pd p c).owed t.succ = 0 := talkDat_owed_last hts
    unfold Dat.owesAt owesWithin
    rw [hΦt, hΦs, hot, hos]
    haveI : IsEmpty (Fin (cfgD c p).W) := hW p
    rw [Finset.univ_eq_empty, BI.bigSep_empty, BI.bigSep_empty]
    refine BIBase.Entails.trans ?_ (Idealize.SL.Sem.wp_mono _ _ _ (Q := fun _ => iprop(Y c ∗ ownSems0 osem c ∗ scopedRest (cfgs p).spec c ∗ ∃ W, owes (c.tc : Thread nD τ) 0 W)) fun _ => ?_)
    rotate_left
    · simp only [done]
      iintro ⟨HY, Hos, Hsc, ⟨%W, HW⟩⟩
      isplitl [HY Hos Hsc]
      · isplitl [HY]; · iexact HY
        isplitl [Hos] <;> iassumption
      isplitl [HW]
      · iexists W
        isplitr; · ipureintro; intro x _; exact Or.inl trivial
        iexact HW
      · iempintro
    · refine BIBase.Entails.trans ?_ (hbody c t)
      simp only [start]
      iintro ⟨⟨HG, Hla, Hcr, Hsc⟩, ⟨%W, -, HW⟩, -⟩
      isplitl [HG]; · iexact HG
      isplitl [Hla]; · iexact Hla
      isplitl [Hcr]; · iexact Hcr
      isplitl [Hsc]; · iexact Hsc
      iexists W; iexact HW
  have hss := fun c : Dev nD => PerCore.scopedSems0_split (fun _ : Dev nD => cfgs) phinj p (fun _ => hw) (fun _ => ho) (Ix := Unit) (Val := Val)
    (Name := ℕ) (U := UU nD τ sig) (Lvl := ℕ) c
  have hsb := fun c : Dev nD => PerCore.scopedBufs_split (fun _ : Dev nD => cfgs) p c hw.stage_scoped hw.stage_inj (fun w => (hW p).elim w)
    (nD := nD) (τ := τ) (Val := Val) (Ix := Unit) (Name := ℕ) (U := UU nD τ sig) (Lvl := ℕ)
  let idle : Dev nD → sProp 𝕄 := fun c => PerCore.idleSems0 (fun _ : Dev nD => cfgs) phinj p (fun _ => ho) c
  let pre : Dev nD → sProp 𝕄 := fun c => iprop(scopedBufs (c.tc : Thread nD τ) ∗ PerCore.cellsSems0 (cfgD) p c ∗ idle c
    ∗ owes (c.tc : Thread nD τ) (O₀ c) ∅ ∗ levAts L lv ∗ launchCred O₀ c
    ∗ PerCore.cellsGhost (cfgD) EP p c ∗ PerCore.toksInit (cfgD) EP p c ∗ G' c)
  let fin : Dev nD → sProp 𝕄 := fun c => iprop(Y c ∗ scopedSems0 (c.tc : Thread nD τ))
  refine (θ_run 𝔻 _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀)
      ((initOf (PerCore.cells (cfgD) phinj) (PerCore.launchToks (cfgD) phinj), u₂) : UU nD τ sig) (fun _ => pre) (fun _ => fin)
      (fun _ => iprop(emp)) Set.univ ?_ (fun _ c => ?_) fun _ => ?_))
  · -- the launch
    have hcore (c : Dev nD) :
        coreInit (Ix := Unit) (Name := ℕ) (U := UU nD τ sig) (Lvl := ℕ) (owing O₀) 0 (⟨m, fun _ => 0, g⟩ : MemSt nD τ sig Val) (c.tc : Thread nD τ)
          ⊢ iprop((scopedBufs (c.tc : Thread nD τ) ∗ PerCore.cellsSems0 (cfgD) p c ∗ idle c)
              ∗ (ownSems0 osem c ∗ unscopedBufs c (fun b => m ((c.tc : Thread nD τ).loc b)))
              ∗ owes (c.tc : Thread nD τ) (O₀ c) ∅ ∗ levels0 c ∗ launchCred O₀ c) := by
      refine (coreInit_boundary_owing O₀ m g c).trans ?_
      unfold boundary
      rw [hss c]
      iintro ⟨⟨Hsc, ⟨⟨Hcells, Hos⟩, Hidle⟩, -⟩, Hub, -, HO, Hlv, -, Hcr⟩
      isplitl [Hsc Hcells Hidle]
      · isplitl [Hsc]; · iexact Hsc
        isplitl [Hcells] <;> iassumption
      isplitl [Hos Hub]; · isplitl [Hos] <;> iassumption
      isplitl [HO]; · iexact HO
      isplitl [Hlv] <;> iassumption
    have hcores : (bigSep Finset.univ fun d : Dev nD =>
          coreInit (Ix := Unit) (Name := ℕ) (U := UU nD τ sig) (Lvl := ℕ) (owing O₀) 0 (⟨m, fun _ => 0, g⟩ : MemSt nD τ sig Val) (d.tc : Thread nD τ))
        ⊢ iprop(((bigSep Finset.univ fun c : Dev nD => scopedBufs (c.tc : Thread nD τ)) ∗ (bigSep Finset.univ fun c : Dev nD => PerCore.cellsSems0 (cfgD) p c)
              ∗ bigSep Finset.univ idle)
            ∗ ((bigSep Finset.univ fun c : Dev nD => ownSems0 osem c) ∗ bigSep Finset.univ fun c : Dev nD => unscopedBufs c (fun b => m ((c.tc : Thread nD τ).loc b)))
            ∗ (bigSep Finset.univ fun c : Dev nD => owes (c.tc : Thread nD τ) (O₀ c) ∅)
            ∗ (bigSep Finset.univ fun c : Dev nD => levels0 c) ∗ bigSep Finset.univ fun c : Dev nD => launchCred O₀ c) := by
      refine (bigSep_mono fun c _ => hcore c).trans ?_
      simp only [bigSep_sep']
      exact BI.Entails.refl _
    have hlev : (bigSep Finset.univ fun c : Dev nD => levels0 (Ix := Unit) (Val := Val) (Name := ℕ) (U := UU nD τ sig) (Lvl := ℕ) (τ := τ) (sig := sig) c)
        ⊢ (|==> levAts L lv : sProp 𝕄) := by
      refine (bigSep_mono fun c _ => lev_assign_cells (c.tc : Thread nD τ) L lv).trans <| (BI.bigSep_bupd _ _).trans <| BI.bupd_mono ?_
      have hsc : (bigSep Finset.univ fun d : Dev nD => bigSep (Finset.univ.erase Proc.tc) fun q => (coreLevAts ((d, q) : Thread nD τ) L lv : sProp 𝕄)) = BI.emp := by
        rw [bigSep_congr (Ψ := fun _ : Dev nD => (BI.emp : sProp 𝕄)) fun d _ =>
          (bigSep_congr (Ψ := fun _ : Proc τ => (BI.emp : sProp 𝕄)) fun q hq => by
            unfold coreLevAts
            rw [bigSep_congr (Ψ := fun _ : SemLoc sig => (BI.emp : sProp 𝕄)) fun sm _ => by
              rw [hL (((d, q) : Thread nD τ), sm) (Finset.ne_of_mem_erase hq), BI.bigSep_empty], BI.bigSep_emp_const]).trans
          (BI.bigSep_emp_const _), BI.bigSep_emp_const]
      rw [show (levAts L lv : sProp 𝕄) = bigSep Finset.univ fun c : Thread nD τ => coreLevAts c L lv
          from (bigSep_univ_prod fun g : GSem nD τ sig => bigSep (L g) fun ι => levAt g ι (lv g ι)),
        bigSep_threads (fun c : Thread nD τ => coreLevAts c L lv), hsc]
      refine BIBase.Entails.trans (Q := iprop((bigSep Finset.univ fun c : Dev nD => bigSep Finset.univ fun sm : SemLoc sig => levels ((c.tc : Thread nD τ), sm) (L ((c.tc : Thread nD τ), sm)))
        ∗ bigSep Finset.univ fun c : Dev nD => coreLevAts (c.tc : Thread nD τ) L lv)) (by rw [bigSep_sep']) ?_
      iintro ⟨-, H⟩
      isplitl [H]; · iexact H
      iempintro
    have hpick (Φ : P → Dev nD → sProp 𝕄) :
        (bigSep Finset.univ fun c : Dev nD => bigSep Finset.univ fun q => Φ q c) ⊢ bigSep Finset.univ fun c : Dev nD => Φ p c :=
      bigSep_mono fun c _ => BI.bigSep_elim (Finset.mem_univ p)
    iintro ⟨Hcores, Hu⟩
    ihave Hc := hcores $$ Hcores
    icases Hc with ⟨⟨Hsc, Hcells, Hidle⟩, ⟨Hos, Hub⟩, HO, Hlv, Hcr⟩
    imod hlev $$ Hlv with Hla
    ihave Hu' := (ownU_pair _ _) $$ Hu
    icases Hu' with ⟨HP, HX⟩
    imod hu₂ $$ HX with HG
    imod (PerCore.fund_ghost (cfgD) EP phinj) $$ HP with ⟨Hg, Ht⟩
    imod hglob $$ [HG Hos Hub] with HG'
    · isplitl [HG]; · iexact HG
      rw [bigSep_sep']; isplitl [Hos] <;> iassumption
    imodintro
    iexists ()
    isplitr []
    · simp only [pre, bigSep_sep']
      isplitl [Hsc]; · iexact Hsc
      isplitl [Hcells]; · iexact Hcells
      isplitl [Hidle]; · iexact Hidle
      isplitl [HO]; · iexact HO
      isplitl [Hla]; · iapply (BI.bigSep_intro_persistent (S := Finset.univ) fun (c : Dev nD) _ => (BI.Entails.refl (levAts L lv : sProp 𝕄))); iexact Hla
      isplitl [Hcr]; · iexact Hcr
      isplitl [Hg]; · iapply (hpick fun q c => PerCore.cellsGhost (cfgD) EP q c); iexact Hg
      isplitl [Ht]; · iapply (hpick fun q c => PerCore.toksInit (cfgD) EP q c); iexact Ht
      iexact HG'
    · iempintro
  · -- each device's run of @main
    have hout' : iprop((pd p c).Φ (Fin.last (cfgD c p).N) ∗ PerCore.cellsSems0 (cfgD) p c ∗ Dat.staging (cfgD c p) c ∗ idle c)
        ⊢ iprop(Y c ∗ scopedSems0 (c.tc : Thread nD τ) ∗ scopedBufs (c.tc : Thread nD τ)) := by
      rw [hss c, hsb c, hΦN c]
      simp only [done]
      iintro ⟨⟨HY, Hos, Hrest⟩, Hcells, Hst, Hidle⟩
      isplitl [HY]; · iexact HY
      isplitl [Hcells Hos Hidle]
      · isplitl [Hcells Hos]; · isplitl [Hcells] <;> iassumption
        iexact Hidle
      isplitl [Hst] <;> iassumption
    have hin : iprop(iprop(G' c ∗ levAts L lv ∗ launchCred O₀ c) ∗ prefHeld (pcsOf (Val := Val) cfgs p).pre c (fun _ => fullShare.right) (admOf (nD := nD) cfgs c p).1
        ∗ scopedRest (cfgs p).spec c) ⊢ (pd p c).Φ 0 := by
      rw [hΦ0 c]
      simp only [start]
      iintro ⟨⟨HG, Hla, Hcr⟩, -, Hsc⟩
      isplitl [HG]; · iexact HG
      isplitl [Hla]; · iexact Hla
      isplitl [Hcr] <;> iassumption
    have hWe : (Finset.univ : Finset (Fin (cfgD c p).W)) = ∅ := Finset.univ_eq_empty_iff.mpr (hW p)
    have hKe : (Finset.univ : Finset (Fin (pcsOf (Val := Val) cfgs p).pre.K)) = ∅ := Finset.univ_eq_empty_iff.mpr ⟨fun k => k.elim0⟩
    simp only [pre]
    rw [hmain c]
    iintro ⟨Hsc, Hcells, Hidle, HO, #Hla, Hcr, Hg, Ht, HG⟩
    iapply (fupd_wp frame (wpE 𝔻 𝕍 (c.tc : Thread nD τ) none) Set.univ _ _)
    imod (PerCore.cellsInit_alloc (cfgD) pd EP phinj p c) $$ [Hcells Hg] with ⟨%κ, -, Hinit⟩
    · isplitl [Hcells] <;> iassumption
    imodintro
    iapply (PerCore.wp_customCall_entry_frame (pcsOf (Val := Val) cfgs) (admOf (nD := nD) cfgs) pd () EP κ phinj p defs₀ Variants.none (fun _ => fullShare.right) c Set.univ
        (fun _ _ => Set.mem_univ _) (hB c) (fun w => (hW p).elim w) none (fun u h => nomatch h)
        (X := iprop(G' c ∗ levAts L lv ∗ launchCred O₀ c)) (Y := Y c) (R := scopedRest (cfgs p).spec c) (I := idle c)
        (Entails.of_eq (hsb c)) hin hout'
        (k := fun _ => .ret ⟨⟩) (Q := fun _ => post (liftTc fin BI.emp) (c.tc : Thread nD τ))) $$ [HO Hinit Ht Hcr HG Hidle Hsc]
    · isplitl [HO Hinit Ht]
      · unfold PerCore.EntryPre Dat.owesAt owesWithin
        rw [ho0 c]
        isplitr; · unfold Dat.arrays; rw [hWe, BI.bigSep_empty]; iempintro
        isplitl [HO]
        · iexists ∅; isplitr; · ipureintro; rw [Finset.coe_empty]; exact Set.empty_subset _
          iexact HO
        isplitr
        · iapply (PerCore.cellsWaits_intro (cfgD) pd () p c (R := iprop(levAts L lv)) fun w => (hW p).elim w); iexact Hla
        isplitl [Hinit] <;> iassumption
      isplitr; · unfold prefHeld; rw [hKe, BI.bigSep_empty]; iempintro
      isplitl [HG Hcr]
      · isplitl [HG]; · iexact HG
        isplitr; · iexact Hla
        iexact Hcr
      isplitl [Hidle]; · iexact Hidle
      iexact Hsc
    iintro ⟨Hpost, HY, Hss2, -⟩
    rw [wp_ret]; imodintro
    unfold post; simp only [liftTc_tc, fin]
    unfold PerCore.EntryPost Dat.owesAt owesWithin
    rw [hoN c]
    icases Hpost with ⟨-, ⟨%W, -, HW⟩⟩
    isplitl [HY Hss2]
    · isplitl [HY] <;> iassumption
    · iexists W; iexact HW
  · -- the posts, read against a final state
    have hread (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Talk

end Cert.Exchange

end
-- ==== Proof.Oneshot.lean ====
/-
# Exchanges whose every semaphore is used once

Each of the four exchanges uses every one of its semaphores for one landing: somebody pays it once, the device it
belongs to waits for it once. A `Plan` says, for a family `K` of semaphores which every device has, how many units the
landing brings, which device pays it (`dest`), what it hands over (`pay`), which of them are paid from afar (`far`) and in
what order devices wait for those (`lvl`). `run_plan` is the launch theorem for a plan; `step_copy`, `step_send` and
`step_wait` are its three kinds of step.
-/
module

public import proofs.«01_k».proof.Proof.Launch

@[expose] public section

set_option Elab.async false

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}

local notation "𝕄" => MT nD τ sig Unit Val ℕ (UU nD τ sig) ℕ

/-- A one-shot exchange over the semaphores `osem k` of every device. -/
structure Plan (nD : Nat) (τ : Topo) (sig : RefSig) (Val : EltTy → Type) (K : Type) where
  /-- the semaphore of each index -/
  osem : K → SemLoc sig
  inj : Function.Injective osem
  /-- the units its landing brings -/
  amt : K → ℕ
  amt_pos : ∀ k, 0 < amt k
  /-- device `c` pays semaphore `k` of device `dest k c` -/
  dest : K → Equiv.Perm (Dev nD)
  /-- the semaphores paid by another device -/
  far : Finset K
  /-- the order in which those are waited for -/
  lvl : K → ℕ
  /-- what the landing on device `c`'s semaphore `k` hands over -/
  pay : Dev nD → K → sProp (MT nD τ sig Unit Val ℕ (UU nD τ sig) ℕ)
  sto : ∀ c k, BI.Storable (upEmb : UEmb _ (MT nD τ sig Unit Val ℕ (UU nD τ sig) ℕ)) (pay c k)

namespace Plan

variable {K : Type} (X : Plan nD τ sig Val K)

/-- Device `c`'s semaphore `k`. -/
def cell (c : Dev nD) (k : K) : GSem nD τ sig := ((c.tc : Thread nD τ), X.osem k)

theorem cell_inj : Function.Injective fun ck : Dev nD × K => X.cell ck.1 ck.2 := by
  rintro ⟨c, k⟩ ⟨c', k'⟩ h
  have h1 : c = c' := congrArg (fun g : GSem nD τ sig => g.1.1) h
  have h2 : k = k' := X.inj (congrArg Prod.snd h)
  rw [h1, h2]

theorem cell_eq_iff {c c' : Dev nD} {k k' : K} : X.cell c k = X.cell c' k' ↔ c = c' ∧ k = k' :=
  ⟨fun h => by have := X.cell_inj (a₁ := (c, k)) (a₂ := (c', k')) h; exact ⟨congrArg Prod.fst this, congrArg Prod.snd this⟩,
   fun ⟨h1, h2⟩ => by rw [h1, h2]⟩

open Classical in
/-- The index of a semaphore, if it has one. -/
def pick (s : SemLoc sig) : Option K := if h : ∃ k, X.osem k = s then some h.choose else none

theorem pick_osem (k : K) : X.pick (X.osem k) = some k := by
  unfold pick
  have h : ∃ k', X.osem k' = X.osem k := ⟨k, rfl⟩
  rw [dif_pos h]; exact congrArg some (X.inj h.choose_spec)

/-- The schedule: one round, with one payment, on every cell of the plan. -/
def sched : Rounds.Schedule (GSem nD τ sig) Unit 𝕄 where
  duties g r := if r = 0 ∧ g.1.2 = .tc ∧ (X.pick g.2).isSome then {()} else ∅
  unitless _ := False
  amount g _ _ := (X.pick g.2).elim 1 X.amt
  payload g _ _ := (X.pick g.2).elim iprop(emp) (X.pay g.1.1)
  amount_pos g _ _ _ := by
    rcases X.pick g.2 with _ | k
    · exact Nat.one_pos
    · exact X.amt_pos k

instance sched_storable (g : GSem nD τ sig) (r : ℕ) (d : Unit) : BI.Storable (upEmb : UEmb _ 𝕄) (X.sched.payload g r d) := by
  show BI.Storable upEmb ((X.pick g.2).elim iprop(emp) (X.pay g.1.1))
  rcases X.pick g.2 with _ | k
  · show BI.Storable upEmb iprop(emp); infer_instance
  · exact X.sto _ k

theorem duties_cell (c : Dev nD) (k : K) : X.sched.duties (X.cell c k) 0 = {()} := by
  show (if (0 : ℕ) = 0 ∧ (X.cell c k).1.2 = .tc ∧ (X.pick (X.osem k)).isSome then {()} else ∅) = _
  rw [X.pick_osem]; exact if_pos ⟨rfl, rfl, rfl⟩

theorem duties_later (g : GSem nD τ sig) (r : ℕ) (hr : 1 ≤ r) : X.sched.duties g r = ∅ := by
  show (if r = 0 ∧ g.1.2 = .tc ∧ (X.pick g.2).isSome then {()} else ∅) = _
  exact if_neg fun h => by have := h.1; omega

theorem amount_cell (c : Dev nD) (k : K) (r : ℕ) (d : Unit) : X.sched.amount (X.cell c k) r d = X.amt k := by
  show (X.pick (X.osem k)).elim 1 X.amt = _
  rw [X.pick_osem]; rfl

theorem payload_cell (c : Dev nD) (k : K) (r : ℕ) (d : Unit) : X.sched.payload (X.cell c k) r d = X.pay c k := by
  show (X.pick (X.osem k)).elim iprop(emp) (X.pay c) = _
  rw [X.pick_osem]; rfl

theorem duty_mem (c : Dev nD) (k : K) : () ∈ X.sched.duties (X.cell c k) 0 := by
  rw [X.duties_cell]; exact Finset.mem_singleton_self _

theorem to_payload {c : Dev nD} {k : K} {R : sProp 𝕄} (h : R ⊢ X.pay c k) : R ⊢ X.sched.payload (X.cell c k) 0 () := by
  rw [X.payload_cell]; exact h

theorem expect_cell (c : Dev nD) (k : K) : X.sched.expect (X.cell c k) 0 = X.amt k := by
  unfold Schedule.expect Schedule.amountOf; rw [X.duties_cell, Finset.sum_singleton, X.amount_cell]

/-! ### Ghost state -/

/-- The right to make the payment device `c` makes on semaphore `k`. -/
def tok (c : Dev nD) (k : K) : sProp 𝕄 := dutyTok ER (X.cell (X.dest k c) k) 0 ()
/-- The place of device `c` at its own semaphore `k`. -/
def pos (c : Dev nD) (k : K) : sProp 𝕄 := atPos ER (X.cell c k) 0 ∅ 0
/-- The credit with which device `c` may wait for its semaphore `k`. -/
def credit (c : Dev nD) (k : K) : sProp 𝕄 := cred (tallyAt (X.cell c k) () (X.amt k))
/-- What device `c` owes when the payments `S` are still to be made. -/
def debt (S : Finset K) (c : Dev nD) : CellTallies nD τ sig Unit := ∑ k ∈ S, tallyAt (X.cell (X.dest k c) k) () (X.amt k)
/-- Device `c` owes the payments `S`. -/
def owing (S : Finset K) (c : Dev nD) : sProp 𝕄 := iprop(∃ W, owes (c.tc : Thread nD τ) (X.debt S c) W)

/-- The levels' domain and values. -/
def dom (g : GSem nD τ sig) : Finset Unit := if g.1.2 = .tc then {()} else ∅
def level (g : GSem nD τ sig) (_ : Unit) : ℕ := (X.pick g.2).elim 0 X.lvl
/-- The levels of all cells. -/
def levels : sProp 𝕄 := levAts dom X.level

instance levels_persistent : BI.Persistent X.levels := by unfold levels; infer_instance

variable [Fintype K] [DecidableEq K]

/-- Every cell's invariant, and that its first round is reached. -/
def known : sProp 𝕄 :=
  iprop(∃ κ : Dev nD × K → ℕ, (bigSep Finset.univ fun ck : Dev nD × K => cellInv ER X.sched (κ ck) (X.cell ck.1 ck.2))
    ∗ bigSep Finset.univ fun ck : Dev nD × K => reached ER (X.cell ck.1 ck.2) 0)

instance known_persistent : BI.Persistent X.known := by unfold known; infer_instance

theorem known_at (c : Dev nD) (k : K) : X.known ⊢ iprop(∃ κ : ℕ, cellInv ER X.sched κ (X.cell c k) ∗ reached ER (X.cell c k) 0) := by
  unfold known
  iintro ⟨%κ, #HI, #HR⟩
  iexists κ (c, k)
  isplitr
  · iapply (show (bigSep Finset.univ fun ck : Dev nD × K => (cellInv ER X.sched (κ ck) (X.cell ck.1 ck.2) : sProp 𝕄)) ⊢ cellInv ER X.sched (κ (c, k)) (X.cell c k)
      from bigSep_elim (Finset.mem_univ (c, k))); iexact HI
  · iapply (show (bigSep Finset.univ fun ck : Dev nD × K => (reached ER (X.cell ck.1 ck.2) 0 : sProp 𝕄)) ⊢ reached ER (X.cell c k) 0
      from bigSep_elim (Finset.mem_univ (c, k))); iexact HR

theorem debt_erase {S : Finset K} {k : K} (h : k ∈ S) (c : Dev nD) :
    X.debt S c = X.debt (S.erase k) c + tallyAt (X.cell (X.dest k c) k) () (X.amt k) := by
  unfold debt; exact (Finset.sum_erase_add _ _ h).symm

theorem debt_empty (c : Dev nD) : X.debt ∅ c = 0 := by unfold debt; exact Finset.sum_empty

theorem debt_apply (S : Finset K) (c : Dev nD) (g : GSem nD τ sig) (u : Unit) :
    X.debt S c g u = ∑ k ∈ S, (tallyAt (X.cell (X.dest k c) k) () (X.amt k) : CellTallies nD τ sig Unit) g u := by
  unfold debt; rw [Finset.sum_apply, Finsupp.finset_sum_apply]

/-- Each far semaphore is paid by one device. -/
theorem debt_total {k : K} (hk : k ∈ X.far) (c : Dev nD) : ∑ d : Dev nD, X.debt X.far d (X.cell c k) () = X.amt k := by
  rw [Finset.sum_congr rfl fun d _ => X.debt_apply X.far d (X.cell c k) (), Finset.sum_comm, Finset.sum_eq_single_of_mem k hk]
  · rw [Fintype.sum_eq_single ((X.dest k).symm c)]
    · rw [Equiv.apply_symm_apply, tallyAt_apply, if_pos ⟨rfl, rfl⟩]
    · intro d hd
      rw [tallyAt_apply, if_neg]
      rintro ⟨h, -⟩
      exact hd ((Equiv.eq_symm_apply _).mpr (X.cell_eq_iff.mp h).1.symm)
  · intro k' _ hne
    refine Finset.sum_eq_zero fun d _ => ?_
    rw [tallyAt_apply, if_neg]
    rintro ⟨h, -⟩
    exact hne (X.cell_eq_iff.mp h).2.symm

theorem launch_cell {k : K} (hk : k ∈ X.far) (c : Dev nD) :
    tallyOn (X.cell c k) (launchCredit (Pipeline.owing (X.debt X.far)) 0 (X.cell c k)) = (tallyAt (X.cell c k) () (X.amt k) : CellTallies nD τ sig Unit) := by
  unfold tallyAt; refine congrArg _ (Finsupp.ext fun u => ?_); cases u
  rw [Pipeline.launchCredit_owing, Finsupp.single_eq_same, X.debt_total hk]

/-- The launch credit of a device: for each semaphore paid from afar. -/
theorem credits (c : Dev nD) : (Pipeline.launchCred (X.debt X.far) c : sProp 𝕄) ⊢ bigSep X.far fun k => X.credit c k := by
  unfold Pipeline.launchCred
  refine (bigSep_subset (t := X.far.map ⟨X.osem, X.inj⟩) (Finset.subset_univ _)).trans ?_
  rw [bigSep_map]
  exact Idealize.SL.BI.BIBase.Entails.of_eq (bigSep_congr fun k hk => congrArg cred (X.launch_cell hk c))

/-! ### The steps -/

section Steps

variable {Λ : Idealize.SL.Sem.Labels} {defs : Defs nD τ sig Val Λ} (𝒱 : Variants) {bd : Option 𝒱.V} {Γ : PendingWaitsCtx sig Unit}
variable {α : Type} {sp sp' : Space} {s : Shape} {e : EltTy}

/-- A copy on the device itself, paying its semaphore `k`. -/
theorem step_copy (c : Dev nD) (k : K) (hto : X.dest k c = c)
    {src : Memref sig .tc sp s e} {dst : Memref sig .tc sp' s e} {sem : SemLoc sig} (hs : sem = X.osem k)
    {hsrc : src.view.WordExact} {hdst : dst.view.WordExact} {hsem : DmaTarget.Typed (nD := nD) (τ := τ) (p := .tc) sp sem (.here dst)}
    {f : PUnit → Prog (TpuEff nD τ sig Val Λ .tc) α} {Q : α → sProp 𝕄} {q : PosShare TreeShare} {fs : Buf Val (src.view.loc (c.tc : Thread nD τ))}
    {fd : Buf Val (dst.view.loc (c.tc : Thread nD τ))} (hN : dst.view.amount sem = X.amt k)
    (hpay : iprop((dst.view.loc (c.tc : Thread nD τ) ↦[dst.view.set]{fullShare} (dst.view.write Val fd (src.view.read Val fs) Finset.univ))
              ∗ (src.view.loc (c.tc : Thread nD τ) ↦[src.view.set]{q} fs)) ⊢ X.pay c k) :
    iprop(X.known ∗ (src.view.loc (c.tc : Thread nD τ) ↦[src.view.set]{q} fs) ∗ (dst.view.loc (c.tc : Thread nD τ) ↦[dst.view.set]{fullShare} fd) ∗ X.tok c k)
      ⊢ iprop((X.credit c k -∗ wp frame (wpE' defs 𝒱 (c.tc : Thread nD τ) bd Γ) Set.univ (f ⟨⟩) Q)
          -∗ wp frame (wpE' defs 𝒱 (c.tc : Thread nD τ) bd Γ) Set.univ (.op (.enqueueDma src (.here dst) sem hsrc hdst hsem) f) Q) := by
  subst hs
  iintro ⟨#HK, Hs, Hd, Ht⟩ Hc
  ihave H := (X.known_at c k) $$ HK
  icases H with ⟨%κ, #HI, #HR⟩
  unfold tok credit
  rw [hto]
  iapply (Rounds.wp_copy_pointsTo 𝒱 ER X.sched (c.tc : Thread nD τ) bd (r := 0) (d := ()) (κ := κ)
    (X.duty_mem c k) () (X.amt k) hN (X.amount_cell c k 0 ())
    (X.to_payload hpay)) $$ [Hs Hd Ht]
  · isplitr; · iexact HI
    isplitl [Hs]; · iexact Hs
    isplitl [Hd]; · iexact Hd
    isplitl [Ht]; · iexact Ht
    iexact HR
  iexact Hc

/-- A copy to another device, paying the sender's semaphore `ks` and the receiver's `kr`. -/
theorem step_send (c : Dev nD) (ks kr : K) (hto : X.dest ks c = c) {c' : Dev nD} (hc' : c' = X.dest kr c) {S : Finset K} (hS : kr ∈ S)
    {src : Memref sig .tc sp s e} {dst : Memref sig .tc sp' s e} {hsc : dst.view.ref.isScScratch = false} {sS sem : SemLoc sig}
    (hs : sS = X.osem ks) (hr : sem = X.osem kr)
    {hsrc : src.view.WordExact} {hdst : dst.view.WordExact} {hsem : DmaTarget.Typed (nD := nD) (τ := τ) (p := .tc) sp sem (.remote (c'.tc : Thread nD τ) dst sS hsc)}
    {f : PUnit → Prog (TpuEff nD τ sig Val Λ .tc) α} {Q : α → sProp 𝕄} {q : PosShare TreeShare} {fs : Buf Val (src.view.loc (c.tc : Thread nD τ))}
    {fd : Buf Val (dst.view.loc (c'.tc : Thread nD τ))} (hN : dst.view.amount sem = X.amt kr) (hN' : X.amt ks = X.amt kr)
    (hpay₁ : (src.view.loc (c.tc : Thread nD τ) ↦[src.view.set]{q} fs) ⊢ X.pay c ks)
    (hpay₂ : (dst.view.loc (c'.tc : Thread nD τ) ↦[dst.view.set]{fullShare} (dst.view.write Val fd (src.view.read Val fs) Finset.univ)) ⊢ X.pay c' kr)
    (hroute : τ.routes (c.tc : Thread nD τ) (c'.tc : Thread nD τ) = true := by routes) :
    iprop(X.known ∗ (src.view.loc (c.tc : Thread nD τ) ↦[src.view.set]{q} fs) ∗ (dst.view.loc (c'.tc : Thread nD τ) ↦[dst.view.set]{fullShare} fd)
        ∗ X.owing S c ∗ X.tok c ks ∗ X.tok c kr)
      ⊢ iprop(((X.credit c ks ∗ X.owing (S.erase kr) c) -∗ wp frame (wpE' defs 𝒱 (c.tc : Thread nD τ) bd Γ) Set.univ (f ⟨⟩) Q)
          -∗ wp frame (wpE' defs 𝒱 (c.tc : Thread nD τ) bd Γ) Set.univ (.op (.enqueueDma src (.remote (c'.tc : Thread nD τ) dst sS hsc) sem hsrc hdst hsem) f) Q) := by
  subst hs hr hc'
  iintro ⟨#HK, Hs, Hd, Ho, Hts, Htr⟩ Hc
  ihave H := (X.known_at c ks) $$ HK
  icases H with ⟨%κ₁, #HI₁, #HR₁⟩
  ihave H := (X.known_at (X.dest kr c) kr) $$ HK
  icases H with ⟨%κ₂, #HI₂, #HR₂⟩
  unfold owing tok credit
  icases Ho with ⟨%W, Ho⟩
  rw [hto]
  iapply (Rounds.wp_send_pointsTo 𝒱 ER X.sched (c.tc : Thread nD τ) bd (r₁ := 0) (d₁ := ()) (r₂ := 0) (d₂ := ()) (κ₁ := κ₁) (κ₂ := κ₂)
    (X.duty_mem c ks)
    (X.duty_mem _ kr)
    () () (X.amt kr) hN ((X.amount_cell c ks 0 ()).trans hN') (X.amount_cell _ kr 0 ()) (X.debt (S.erase kr) c) (X.debt_erase hS c) (W := W)
    (X.to_payload hpay₁)
    (X.to_payload hpay₂)
    hroute) $$ [Hs Hd Ho Hts Htr]
  · isplitr; · iexact HI₁
    isplitr; · iexact HI₂
    isplitl [Hs]; · iexact Hs
    isplitl [Hd]; · iexact Hd
    isplitl [Ho]; · iexact Ho
    isplitl [Hts]; · iexact Hts
    isplitr; · iexact HR₁
    isplitl [Htr]; · iexact Htr
    iexact HR₂
  iintro ⟨Hcr, Ho⟩
  iapply Hc
  rw [hN']
  isplitl [Hcr]; · iexact Hcr
  iexists W; iexact Ho

theorem level_cell (c : Dev nD) (k : K) (u : Unit) : X.level (X.cell c k) u = X.lvl k := by
  show (X.pick (X.osem k)).elim 0 X.lvl = _
  rw [X.pick_osem]; rfl

theorem mem_dom (c : Dev nD) (k : K) : () ∈ dom (X.cell c k) := by
  unfold dom; rw [if_pos (show (X.cell c k).1.2 = .tc from rfl)]; exact Finset.mem_singleton_self _

/-- A device may wait for its semaphore `k` below everything it still owes. -/
theorem may_wait (c : Dev nD) (k : K) {S : Finset K} (hlt : ∀ k' ∈ S, X.lvl k < X.lvl k') :
    X.levels ⊢ (MayWait (c.tc : Thread nD τ) (X.osem k) () (X.debt S c) : sProp 𝕄) := by
  unfold levels
  refine Pipeline.mayWait_of_levAts (X.mem_dom c k) ?_
  intro g i hg
  rw [X.debt_apply] at hg
  obtain ⟨k', hk', hpos⟩ : ∃ k' ∈ S, 0 < (tallyAt (X.cell (X.dest k' c) k') () (X.amt k') : CellTallies nD τ sig Unit) g i := by
    by_contra hcon
    push Not at hcon
    exact absurd hg (by rw [Finset.sum_eq_zero fun k' hk' => Nat.le_zero.mp (hcon k' hk')]; exact lt_irrefl 0)
  rw [tallyAt_apply] at hpos
  have hgc : g = X.cell (X.dest k' c) k' := by
    by_contra hne
    rw [if_neg (fun h => hne h.1)] at hpos; exact lt_irrefl 0 hpos
  subst hgc
  refine ⟨X.mem_dom _ _, ?_⟩
  rw [show X.level ((c.tc : Thread nD τ), X.osem k) () = X.lvl k from X.level_cell c k (), X.level_cell]
  exact hlt k' hk'

/-- What a wait hands over. -/
theorem handed (c : Dev nD) (k : K) :
    (bigSep (X.sched.duties (X.cell c k) 0 \ ∅) fun d => X.sched.payload (X.cell c k) 0 d) ⊢ (X.pay c k : sProp 𝕄) := by
  rw [Finset.sdiff_empty, X.duties_cell, bigSep_singleton, X.payload_cell]

/-- A wait for the device's own semaphore `k`, which then reads zero for good. -/
theorem step_wait (c : Dev nD) (k : K) {S : Finset K} (hlt : ∀ k' ∈ S, X.lvl k < X.lvl k')
    {w : TpuEff nD τ sig Val Λ .tc PUnit} {sm : SemLoc sig} {n : ℕ} (hs : sm = X.osem k) (hn : n = X.amt k)
    (hw : ∀ R : PUnit → sProp 𝕄, wpE' defs 𝒱 (c.tc : Thread nD τ) bd Γ Set.univ w R = waitSpec (c.tc : Thread nD τ) Set.univ sm n R)
    {f : PUnit → Prog (TpuEff nD τ sig Val Λ .tc) α} {Q : α → sProp 𝕄} :
    iprop(X.known ∗ X.levels ∗ X.credit c k ∗ X.owing S c ∗ X.pos c k)
      ⊢ iprop(((X.pay c k ∗ semVal (X.cell c k) 0 ∗ X.owing S c) -∗ wp frame (wpE' defs 𝒱 (c.tc : Thread nD τ) bd Γ) Set.univ (f ⟨⟩) Q)
          -∗ wp frame (wpE' defs 𝒱 (c.tc : Thread nD τ) bd Γ) Set.univ (.op w f) Q) := by
  subst hs hn
  iintro ⟨#HK, #HL, Hcr, Ho, Hat⟩ Hc
  ihave H := (X.known_at c k) $$ HK
  icases H with ⟨%κ, #HI, #HR⟩
  unfold owing pos credit
  icases Ho with ⟨%W, Ho⟩
  iapply (Rounds.wp_wait_rest_token 𝒱 ER X.sched (c.tc : Thread nD τ) bd (κ := κ) (k' := X.amt k) (sm := X.osem k) hw (Set.mem_univ _) () (O := X.debt S c) (W := W) (R := 0) (m := 0) (T := ∅)
    ((Nat.zero_add _).trans (X.expect_cell c k).symm)) $$ [Hcr Ho Hat]
  · isplitr; · iexact HI
    isplitl [Hcr]; · iexact Hcr
    isplitl [Ho]; · iexact Ho
    isplitr; · iapply (X.may_wait c k hlt); iexact HL
    iexact Hat
  iintro ⟨Ho, Hat, -, Hpay⟩
  imod (show iprop(cellInv ER X.sched κ (X.cell c k) ∗ atPos ER (X.cell c k) (0 + 1) ∅ 0) ⊢ (|={Set.univ}=> semVal (X.cell c k) 0 : sProp 𝕄)
    from Rounds.cell_close ER X.sched (Set.mem_univ κ) (fun h => h) (R := 0 + 1) fun r hr => X.duties_later _ r (by omega)) $$ [Hat] with Hz
  · isplitr; · iexact HI
    iexact Hat
  iapply Hc
  isplitl [Hpay]
  · iapply (X.handed c k)
    iexact Hpay
  isplitl [Hz]; · iexact Hz
  iexists (insert (X.osem k, ()) W); iexact Ho

end Steps

/-! ### The launch -/

/-- The plan's cells and payments. -/
def cells : Finset (GSem nD τ sig) := Finset.univ.map ⟨fun ck : Dev nD × K => X.cell ck.1 ck.2, X.cell_inj⟩
def toks : Finset (GSem nD τ sig × ℕ × Unit) :=
  Finset.univ.map ⟨fun ck : Dev nD × K => (X.cell ck.1 ck.2, 0, ()), fun _ _ h => X.cell_inj (congrArg Prod.fst h)⟩

theorem bigSep_cells (Φ : GSem nD τ sig → sProp 𝕄) : bigSep X.cells Φ = bigSep Finset.univ fun ck : Dev nD × K => Φ (X.cell ck.1 ck.2) := by
  unfold cells; rw [bigSep_map]; rfl

/-- The ghost state the launch funds, for all devices at once. -/
def fund : sProp 𝕄 :=
  iprop((bigSep Finset.univ fun ck : Dev nD × K => roundState ER X.sched (X.cell ck.1 ck.2) 0)
    ∗ (bigSep Finset.univ fun ck : Dev nD × K => reached ER (X.cell ck.1 ck.2) 0)
    ∗ (bigSep Finset.univ fun ck : Dev nD × K => X.pos ck.1 ck.2)
    ∗ bigSep Finset.univ fun ck : Dev nD × K => dutyTok ER (X.cell ck.1 ck.2) 0 ())

theorem fund_intro : BI.own (ER (Val := Val) (initOf X.cells X.toks)) ⊢ (|==> X.fund : sProp 𝕄) := by
  have hT : bigSep X.toks (fun x => (dutyTok ER x.1 x.2.1 x.2.2 : sProp 𝕄)) = bigSep Finset.univ fun ck : Dev nD × K => dutyTok ER (X.cell ck.1 ck.2) 0 () := by
    unfold toks; rw [bigSep_map]; rfl
  iintro HX
  imod (Rounds.fund ER X.sched X.cells X.toks) $$ HX with ⟨Hst, Hr, Hat, Htok⟩
  imodintro
  unfold fund pos
  isplitl [Hst]; · iapply (Entails.of_eq (X.bigSep_cells fun g => roundState ER X.sched g 0)); iexact Hst
  isplitl [Hr]; · iapply (Entails.of_eq (X.bigSep_cells fun g => reached ER g 0)); iexact Hr
  isplitl [Hat]; · iapply (Entails.of_eq (X.bigSep_cells fun g => atPos ER g 0 ∅ 0)); iexact Hat
  iapply (Entails.of_eq hT); iexact Htok

/-- The rights to pay, each with the device that pays. -/
theorem toks_dealt : (bigSep Finset.univ fun ck : Dev nD × K => (dutyTok ER (X.cell ck.1 ck.2) 0 () : sProp 𝕄))
    = bigSep Finset.univ fun c : Dev nD => bigSep Finset.univ fun k => X.tok c k := by
  let e : Dev nD × K ≃ Dev nD × K :=
    ⟨fun ck => (X.dest ck.2 ck.1, ck.2), fun ck => ((X.dest ck.2).symm ck.1, ck.2), fun ck => by simp, fun ck => by simp⟩
  rw [bigSep_univ_equiv e, bigSep_univ_prod]; rfl

/-- From the funded ghost state and the semaphores at zero, every cell's invariant. -/
theorem alloc : iprop(X.fund ∗ bigSep Finset.univ fun c : Dev nD => ownSems0 X.osem c)
    ⊢ (|={Set.univ}=> iprop(X.known ∗ (bigSep Finset.univ fun c : Dev nD => bigSep Finset.univ fun k => X.pos c k)
        ∗ bigSep Finset.univ fun c : Dev nD => bigSep Finset.univ fun k => X.tok c k) : sProp 𝕄) := by
  have hsem : (bigSep Finset.univ fun c : Dev nD => (ownSems0 X.osem c : sProp 𝕄)) = bigSep Finset.univ fun ck : Dev nD × K => semVal (X.cell ck.1 ck.2) 0 := by
    rw [bigSep_univ_prod]; rfl
  rw [hsem, ← X.toks_dealt, ← bigSep_univ_prod fun ck : Dev nD × K => X.pos ck.1 ck.2]
  unfold fund
  iintro ⟨⟨Hst, #Hr, Hat, Htok⟩, Hv⟩
  imod (show iprop((bigSep Finset.univ fun ck : Dev nD × K => semVal (X.cell ck.1 ck.2) 0) ∗ bigSep Finset.univ fun ck : Dev nD × K => roundState ER X.sched (X.cell ck.1 ck.2) 0)
      ⊢ (|={Set.univ}=> bigSep Finset.univ fun ck : Dev nD × K => iprop(∃ κ : ℕ, cellInv ER X.sched κ (X.cell ck.1 ck.2)) : sProp 𝕄) from by
        rw [← bigSep_sep']
        exact (bigSep_mono fun k _ => (Rounds.body_intro ER X.sched _).trans inv_alloc).trans (bigSep_fupd _ _)) $$ [Hv Hst] with Hinv
  · isplitl [Hv] <;> iassumption
  ihave HK := (BI.bigSep_exists_pi Finset.univ (fun (ck : Dev nD × K) (κ : ℕ) => (cellInv ER X.sched κ (X.cell ck.1 ck.2) : sProp 𝕄))) $$ Hinv
  icases HK with ⟨%κ, #HI⟩
  imodintro
  isplitr
  · unfold known; iexists κ
    isplitr; · iexact HI
    iexact Hr
  isplitl [Hat]; · iexact Hat
  iexact Htok

/-- What device `c` starts its kernel with: `B c`, and its part of the plan. -/
def start (B : Dev nD → sProp 𝕄) (c : Dev nD) : sProp 𝕄 :=
  iprop(X.known ∗ X.levels ∗ (bigSep X.far fun k => X.credit c k) ∗ (bigSep Finset.univ fun k => X.tok c k) ∗ (bigSep Finset.univ fun k => X.pos c k)
    ∗ X.owing X.far c ∗ B c)

/-- What it must end with: `Y c`, every semaphore of the plan at zero, and nothing owed. -/
def done (Y : Dev nD → sProp 𝕄) (c : Dev nD) : sProp 𝕄 :=
  iprop(Y c ∗ (bigSep Finset.univ fun k => semVal (X.cell c k) 0) ∗ X.owing ∅ c)

variable {Λ₀ : Idealize.SL.Sem.Labels}

/-- THE LAUNCH of a program that is one exchange by the plan: if the launched arrays of all devices make `B`, and each
    device's kernel takes `start` to `done`, then every execution terminates, with every semaphore at zero and what the
    devices' `Y` say of the memory. -/
theorem run_plan {P : Type} [Fintype P] [DecidableEq P] (cfgs : P → Pipeline.Cfg sig Λ₀) (p : P)
    (phinj : Function.Injective (cellOf (nD := nD) (τ := τ) cfgs)) (hw : WinFacts₀ (cfgs p).spec) (ho : OwnSemFacts (cfgs p).spec X.osem)
    (defs₀ : Defs nD τ sig Val Λ₀) [∀ e, Nonempty (Val e)]
    (m : (ℓ : Loc nD τ sig) → Buf Val ℓ) (g : Dev nD → PrngReg) (main : Dev nD → Prog (TpuEff nD τ sig Val (Sig Λ₀ P fun p => (pcsOf (Val := Val) cfgs p).Adm) .tc) PUnit)
    (hmain : ∀ c, main c = .op (.customCall (entry p) ()) fun _ => .ret ⟨⟩)
    (hW : ∀ p, IsEmpty (Fin (cfgs p).W)) (hN : (cfgs p).N = 1) (hrest : ∀ c : Dev nD, (scopedRest (cfgs p).spec c : sProp 𝕄) = BI.emp)
    (B Y : Dev nD → sProp 𝕄) (hdeal : (bigSep Finset.univ fun c : Dev nD => unscopedBufs c (fun b => m ((c.tc : Thread nD τ).loc b))) ⊢ bigSep Finset.univ B)
    (hbody : ∀ (c : Dev nD) (t : Fin (cfgs p).N),
      X.start B c ⊢ wp frame (wpE defs₀ Variants.none (c.tc : Thread nD τ) none) Set.univ (defs₀ .tc (cfgs p).body ((cfgs p).bodyArgs t ((cfgs p).slots t)))
        fun _ => X.done Y c)
    (QY : Dev nD → MemSt nD τ sig Val → Prop) (hY : ∀ c (s' : Phys nD τ sig Val), iprop(Y c ∗ SI s') ⊢ |={Set.univ}=> iprop(⌜QY c s'.mem⌝ ∗ SI s'))
    {Q : PUnit × MemSt nD τ sig Val → Prop}
    (hQ : ∀ s : MemSt nD τ sig Val, (∀ c, QY c s) → (∀ g' : GSem nD τ sig, (g'.1.2 ≠ .tc ∨ g'.2.isScoped .tc = true) → s.sem g' = 0) → Q (⟨⟩, s)) :
    θ_run (Pipeline.defs (pcsOf cfgs) defs₀) (onTc main) ⟨m, fun _ => 0, g⟩ Q := by
  refine run_talk cfgs p X.osem phinj hw ho defs₀ m g main hmain hW hN (X.debt X.far) dom X.level (fun g hg => by unfold dom; exact if_neg hg)
    (initOf X.cells X.toks) X.fund X.fund_intro
    (fun c => iprop(X.known ∗ (bigSep Finset.univ fun k => X.pos c k) ∗ (bigSep Finset.univ fun k => X.tok c k) ∗ B c)) Y ?_ ?_ QY hY hQ
  · simp only [bigSep_sep']
    iintro ⟨HG, Hos, Hub⟩
    imod X.alloc $$ [HG Hos] with ⟨#HK, Hat, Htok⟩
    · isplitl [HG] <;> iassumption
    imodintro
    isplitr; · iapply (BI.bigSep_intro_persistent (S := Finset.univ) fun (c : Dev nD) _ => (BI.Entails.refl X.known)); iexact HK
    isplitl [Hat]; · iexact Hat
    isplitl [Htok]; · iexact Htok
    iapply hdeal; iexact Hub
  · intro c t
    rw [hrest]
    refine BIBase.Entails.trans ?_ ((hbody c t).trans (Idealize.SL.Sem.wp_mono _ _ _ fun _ => ?_))
    · unfold start levels owing
      iintro ⟨⟨#HK, Hat, Htok, HB⟩, Hlev, Hcr, -, Ho⟩
      isplitr; · iexact HK
      isplitl [Hlev]; · iexact Hlev
      isplitl [Hcr]; · iapply (X.credits c); iexact Hcr
      isplitl [Htok]; · iexact Htok
      isplitl [Hat]; · iexact Hat
      isplitl [Ho]; · iexact Ho
      iexact HB
    · unfold done owing
      rw [X.debt_empty]
      iintro ⟨HY, Hz, Ho⟩
      isplitl [HY]; · iexact HY
      isplitl [Hz]
      · iapply (Entails.of_eq (show (bigSep Finset.univ fun k => (semVal (X.cell c k) 0 : sProp 𝕄)) = ownSems0 X.osem c from rfl)); iexact Hz
      isplitr; · iempintro
      iexact Ho

end Plan

end Cert.Exchange

end
-- ==== Proof.Parts.lean ====
/-
# Buffers in parts

A result buffer is written in parts, each by one device. `parts` cuts a buffer by a function naming each element's part,
`deal` hands every part to the device that writes it, and `landed` says a part just written holds the final contents.
-/
module

public import proofs.«01_k».proof.Proof.Oneshot
public import Idealize.ShloMosaic.Lib.ValueLayout

@[expose] public section

set_option Elab.async false

noncomputable section

namespace Cert.Exchange

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline

variable {nD : Nat} {τ : Topo} {sig : RefSig} {Val : EltTy → Type}

local notation "𝕄" => MT nD τ sig Unit Val ℕ (UU nD τ sig) ℕ

/-- The elements a key function sends to `t`. -/
def part {I T : Type} [Fintype I] [DecidableEq T] (key : I → T) (t : T) : Finset I := Finset.univ.filter fun i => key i = t

theorem mem_part {I T : Type} [Fintype I] [DecidableEq T] (key : I → T) (t : T) (i : I) : i ∈ part key t ↔ key i = t := by
  unfold part; rw [Finset.mem_filter]; exact and_iff_right (Finset.mem_univ i)

/-- A whole buffer is its parts. -/
theorem parts {T : Type} [Fintype T] [DecidableEq T] {ℓ : Loc nD τ sig} (key : Idx ℓ → T) {q : PosShare TreeShare} (f : Buf Val ℓ) :
    (ℓ ↦[Finset.univ]{q} f : sProp 𝕄) = bigSep Finset.univ fun t => ℓ ↦[part key t]{q} f := by
  rw [← pointsTo_biUnion Finset.univ (part key) fun t _ t' _ hne => Finset.disjoint_left.mpr fun i hi hi' =>
    hne (((mem_part key t i).mp hi).symm.trans ((mem_part key t' i).mp hi'))]
  congr 1
  exact (Finset.eq_univ_of_forall fun i => Finset.mem_biUnion.mpr ⟨key i, Finset.mem_univ _, (mem_part key _ i).mpr rfl⟩).symm

/-- Every device's parts, each handed to another device. -/
theorem deal {T : Type} [Fintype T] [DecidableEq T] (σ : T → Equiv.Perm (Dev nD)) (Φ : Dev nD → T → sProp 𝕄) :
    (bigSep Finset.univ fun c => bigSep Finset.univ fun t => Φ c t) = bigSep Finset.univ fun c => bigSep Finset.univ fun t => Φ (σ t c) t := by
  let e : Dev nD × T ≃ Dev nD × T :=
    ⟨fun ck => (σ ck.2 ck.1, ck.2), fun ck => ((σ ck.2).symm ck.1, ck.2), fun ck => by simp, fun ck => by simp⟩
  rw [← bigSep_univ_prod fun ct : Dev nD × T => Φ ct.1 ct.2, bigSep_univ_equiv e, bigSep_univ_prod]; rfl

/-- A part just written holds `G`, if `G` read there is what was written. -/
theorem landed {sp : Space} {s : Shape} {e : EltTy} (v : View sig .tc sp s e) (c : Dev nD) {q : PosShare TreeShare}
    (fd G : Buf Val (v.loc (c.tc : Thread nD τ))) (w : s.Idx → Val e) (h : v.read Val G = w) :
    (v.loc (c.tc : Thread nD τ) ↦[v.set]{q} (v.write Val fd w Finset.univ) : sProp 𝕄) = (v.loc (c.tc : Thread nD τ) ↦[v.set]{q} G) := by
  refine pointsTo_congr fun i hi => ?_
  obtain ⟨x, -, rfl⟩ := Finset.mem_map.mp hi
  subst h
  rw [View.write_emb, if_pos (Finset.mem_univ x), View.read_apply]
  simp

/-- Memory holds what a device's points-to of a whole buffer says. -/
theorem holds {ℓ : Loc nD τ sig} {q : PosShare TreeShare} {f : Buf Val ℓ} (s' : Phys nD τ sig Val) :
    iprop((ℓ ↦[Finset.univ]{q} f) ∗ SI s') ⊢ (⌜s'.mem.mem ℓ = f⌝ : sProp 𝕄) := by
  iintro ⟨H, HS⟩
  ihave %h := (show iprop(SI s' ∗ ℓ ↦[Finset.univ]{q} f) ⊢ (⌜∀ i ∈ Finset.univ, s'.mem.mem ℓ i = f i⌝ : sProp 𝕄) from SI_pointsTo_agree) $$ [HS H]
  · isplitl [HS] <;> iassumption
  ipureintro
  funext i; exact h i (Finset.mem_univ i)

/-- The same of two buffers, with the state kept. -/
theorem holds_both {ℓ ℓ' : Loc nD τ sig} {q q' : PosShare TreeShare} {f : Buf Val ℓ} {f' : Buf Val ℓ'} (s' : Phys nD τ sig Val) :
    iprop(((ℓ ↦[Finset.univ]{q} f) ∗ (ℓ' ↦[Finset.univ]{q'} f')) ∗ SI s')
      ⊢ (|={Set.univ}=> iprop(⌜s'.mem.mem ℓ = f ∧ s'.mem.mem ℓ' = f'⌝ ∗ SI s') : sProp 𝕄) := by
  iintro ⟨⟨H, H'⟩, HS⟩
  ihave %h := (show iprop(SI s' ∗ ℓ ↦[Finset.univ]{q} f) ⊢ (⌜∀ i ∈ Finset.univ, s'.mem.mem ℓ i = f i⌝ : sProp 𝕄) from SI_pointsTo_agree) $$ [HS H]
  · isplitl [HS] <;> iassumption
  ihave %h' := (show iprop(SI s' ∗ ℓ' ↦[Finset.univ]{q'} f') ⊢ (⌜∀ i ∈ Finset.univ, s'.mem.mem ℓ' i = f' i⌝ : sProp 𝕄) from SI_pointsTo_agree) $$ [HS H']
  · isplitl [HS] <;> iassumption
  imodintro
  isplitr
  · ipureintro; exact ⟨funext fun i => h i (Finset.mem_univ i), funext fun i => h' i (Finset.mem_univ i)⟩
  iexact HS

/-! ### Steps that write a part of the final contents -/

namespace Plan

variable {K : Type} (X : Plan nD τ sig Val K) [Fintype K] [DecidableEq K]
variable {Λ : Idealize.SL.Sem.Labels} {defs : Defs nD τ sig Val Λ} (𝒱 : Variants) {bd : Option 𝒱.V} {Γ : PendingWaitsCtx sig Unit}
variable {α : Type} {sp sp' : Space} {s : Shape} {e : EltTy}

/-- `step_copy`, writing a part `I` of the contents `G`. -/
theorem put_copy (c : Dev nD) (k : K) (hto : X.dest k c = c)
    {src : Memref sig .tc sp s e} {dst : Memref sig .tc sp' s e} {sem : SemLoc sig} (hs : sem = X.osem k)
    {hsrc : src.view.WordExact} {hdst : dst.view.WordExact} {hsem : DmaTarget.Typed (nD := nD) (τ := τ) (p := .tc) sp sem (.here dst)}
    {f : PUnit → Prog (TpuEff nD τ sig Val Λ .tc) α} {Q : α → sProp 𝕄} (q : PosShare TreeShare) (fs : Buf Val (src.view.loc (c.tc : Thread nD τ)))
    (fd G : Buf Val (dst.view.loc (c.tc : Thread nD τ))) (hN : dst.view.amount sem = X.amt k)
    {J : Finset (Idx (src.view.loc (c.tc : Thread nD τ)))} (hJ : src.view.set = J)
    {I : Finset (Idx (dst.view.loc (c.tc : Thread nD τ)))} (hI : dst.view.set = I)
    (hG : dst.view.read Val G = src.view.read Val fs)
    (hpay : iprop((dst.view.loc (c.tc : Thread nD τ) ↦[I]{fullShare} G) ∗ (src.view.loc (c.tc : Thread nD τ) ↦[J]{q} fs)) ⊢ X.pay c k) :
    iprop(X.known ∗ (src.view.loc (c.tc : Thread nD τ) ↦[J]{q} fs) ∗ (dst.view.loc (c.tc : Thread nD τ) ↦[I]{fullShare} fd) ∗ X.tok c k)
      ⊢ iprop((X.credit c k -∗ wp frame (wpE' defs 𝒱 (c.tc : Thread nD τ) bd Γ) Set.univ (f ⟨⟩) Q)
          -∗ wp frame (wpE' defs 𝒱 (c.tc : Thread nD τ) bd Γ) Set.univ (.op (.enqueueDma src (.here dst) sem hsrc hdst hsem) f) Q) := by
  subst hJ hI
  exact X.step_copy 𝒱 c k hto hs hN (by rw [landed dst.view c fd G _ hG]; exact hpay)

/-- `step_send`, writing a part `I` of the contents `G` of another device's buffer. -/
theorem put_send (c : Dev nD) (ks kr : K) (hto : X.dest ks c = c) (c' : Dev nD) (hc' : c' = X.dest kr c) {S : Finset K} (hS : kr ∈ S) {c'' : Dev nD} (he : c'' = c')
    {src : Memref sig .tc sp s e} {dst : Memref sig .tc sp' s e} {hsc : dst.view.ref.isScScratch = false} {sS sem : SemLoc sig}
    (hs : sS = X.osem ks) (hr : sem = X.osem kr)
    {hsrc : src.view.WordExact} {hdst : dst.view.WordExact} {hsem : DmaTarget.Typed (nD := nD) (τ := τ) (p := .tc) sp sem (.remote (c''.tc : Thread nD τ) dst sS hsc)}
    {f : PUnit → Prog (TpuEff nD τ sig Val Λ .tc) α} {Q : α → sProp 𝕄} (q : PosShare TreeShare) (fs : Buf Val (src.view.loc (c.tc : Thread nD τ)))
    (fd G : Buf Val (dst.view.loc (c'.tc : Thread nD τ))) (hN : dst.view.amount sem = X.amt kr) (hN' : X.amt ks = X.amt kr)
    {J : Finset (Idx (src.view.loc (c.tc : Thread nD τ)))} (hJ : src.view.set = J)
    {I : Finset (Idx (dst.view.loc (c'.tc : Thread nD τ)))} (hI : dst.view.set = I)
    (hG : dst.view.read Val G = src.view.read Val fs)
    (hpay₁ : (src.view.loc (c.tc : Thread nD τ) ↦[J]{q} fs) ⊢ X.pay c ks)
    (hpay₂ : (dst.view.loc (c'.tc : Thread nD τ) ↦[I]{fullShare} G) ⊢ X.pay c' kr)
    (hroute : τ.routes (c.tc : Thread nD τ) (c'.tc : Thread nD τ) = true := by routes) :
    iprop(X.known ∗ (src.view.loc (c.tc : Thread nD τ) ↦[J]{q} fs) ∗ (dst.view.loc (c'.tc : Thread nD τ) ↦[I]{fullShare} fd)
        ∗ X.owing S c ∗ X.tok c ks ∗ X.tok c kr)
      ⊢ iprop(((X.credit c ks ∗ X.owing (S.erase kr) c) -∗ wp frame (wpE' defs 𝒱 (c.tc : Thread nD τ) bd Γ) Set.univ (f ⟨⟩) Q)
          -∗ wp frame (wpE' defs 𝒱 (c.tc : Thread nD τ) bd Γ) Set.univ (.op (.enqueueDma src (.remote (c''.tc : Thread nD τ) dst sS hsc) sem hsrc hdst hsem) f) Q) := by
  subst hJ hI he
  exact X.step_send 𝒱 c ks kr hto hc' hS hs hr hN hN' hpay₁ (by rw [landed dst.view c'' fd G _ hG]; exact hpay₂) hroute

end Plan

/-- A device's arrays, when there are two. -/
theorem two_bufs {a b : Ref sig .tc} (hu : (Finset.univ.filter fun r : Ref sig .tc => ¬ r.isScoped) = [a, b].toFinset) (hne : [a, b].Nodup)
    (c : Dev nD) (V : (r : Ref sig .tc) → Buf Val ((c.tc : Thread nD τ).loc r)) :
    (unscopedBufs c V : sProp 𝕄) = iprop(((c.tc : Thread nD τ).loc a ↦{fullShare} V a) ∗ ((c.tc : Thread nD τ).loc b ↦{fullShare} V b)) := by
  unfold unscopedBufs
  exact bigSep_eq_bigSepL_of_eq [a, b] hu hne _

/-! ### Slices -/

section Slices

variable {κ : Kind} {sp : Space} {e : EltTy}

/-- Rows `r` onward of slot `j` of a stack of matrices. -/
theorem emb_slot {n h w h' : ℕ} (v : View sig κ sp ⟨3, ![n, h, w]⟩ e) {off : Fin 3 → ℕ}
    (inb : ∀ a : Fin 3, off a + (![1, h', w] : Fin 3 → ℕ) a ≤ (![n, h, w] : Fin 3 → ℕ) a)
    (hN : (⟨2, ![h', w]⟩ : Shape).numel = (⟨3, ![1, h', w]⟩ : Shape).numel) (x : Fin h') (y : Fin w) (j : Fin n) (x' : Fin h)
    (h0 : off 0 = j.val) (h1 : off 1 + x.val = x'.val) (h2 : off 2 = 0) :
    ((v.slice (Rect.unit (s := ⟨3, ![n, h, w]⟩) off ![1, h', w] inb)).reshape ⟨2, ![h', w]⟩ hN).emb (ix2 x y) = v.emb (ix3 j x' y) := by
  show v.emb ((Rect.unit (s := ⟨3, ![n, h, w]⟩) off ![1, h', w] inb).emb (Shape.reshapeEquiv hN (ix2 x y))) = _
  rw [reshapeEquiv_ix2_1ab]
  congr 1
  funext a
  refine Fin.ext ?_
  rw [Rect.emb_apply]
  fin_cases a
  · show off 0 + 1 * 0 = j.val; omega
  · show off 1 + 1 * x.val = x'.val; omega
  · show off 2 + 1 * y.val = y.val; omega

/-- Matrix `(j, k)` of an array of matrices. -/
theorem emb_slot₂ {n l h w : ℕ} (v : View sig κ sp ⟨4, ![n, l, h, w]⟩ e) {off : Fin 4 → ℕ}
    (inb : ∀ a : Fin 4, off a + (![1, 1, h, w] : Fin 4 → ℕ) a ≤ (![n, l, h, w] : Fin 4 → ℕ) a)
    (hN : (⟨2, ![h, w]⟩ : Shape).numel = (⟨4, ![1, 1, h, w]⟩ : Shape).numel) (x : Fin h) (y : Fin w) (j : Fin n) (k : Fin l)
    (h0 : off 0 = j.val) (h1 : off 1 = k.val) (h2 : off 2 = 0) (h3 : off 3 = 0) :
    ((v.slice (Rect.unit (s := ⟨4, ![n, l, h, w]⟩) off ![1, 1, h, w] inb)).reshape ⟨2, ![h, w]⟩ hN).emb (ix2 x y) = v.emb (ix4 j k x y) := by
  show v.emb ((Rect.unit (s := ⟨4, ![n, l, h, w]⟩) off ![1, 1, h, w] inb).emb (Shape.reshapeEquiv hN (ix2 x y))) = _
  rw [reshapeEquiv_ix2_11ab]
  congr 1
  funext a
  refine Fin.ext ?_
  rw [Rect.emb_apply]
  fin_cases a
  · show off 0 + 1 * 0 = j.val; omega
  · show off 1 + 1 * 0 = k.val; omega
  · show off 2 + 1 * x.val = x.val; omega
  · show off 3 + 1 * y.val = y.val; omega

end Slices

end Cert.Exchange

end
-- ==== Proof.Mesh.lean ====
/-
# The eight devices

Device `4x + 2y + c` is core `c` of chip `2x + y`. `sib` is the other core of a device's chip.
-/
module

public import proofs.«01_k».proof.Proof.Parts

@[expose] public section

namespace Cert.Exchange

open Idealize.ShloMosaic

/-- The other core of the same chip. -/
def sib : Equiv.Perm (Fin 8) where
  toFun d := ⟨d.val + 1 - 2 * (d.val % 2), by omega⟩
  invFun d := ⟨d.val + 1 - 2 * (d.val % 2), by omega⟩
  left_inv := by decide
  right_inv := by decide

theorem sib_sib (d : Fin 8) : sib (sib d) = d := sib.left_inv d
theorem sib_core (d : Fin 8) : (sib d).val % 2 = 1 - d.val % 2 := by show (d.val + 1 - 2 * (d.val % 2)) % 2 = _; omega
theorem sib_chip (d : Fin 8) : (sib d).val / 2 = d.val / 2 := by show (d.val + 1 - 2 * (d.val % 2)) / 2 = _; omega
/-- The number of a device's core. -/
def own (d : Fin 8) : Fin 2 := ⟨d.val % 2, Nat.mod_lt _ Nat.two_pos⟩

/-- Core `j` of the same chip. -/
def core (d : Fin 8) (j : Fin 2) : Fin 8 := ⟨2 * (d.val / 2) + j.val, by omega⟩

theorem core_sib (d : Fin 8) (j : Fin 2) : core (sib d) j = core d j := Fin.ext (by show 2 * ((sib d).val / 2) + j.val = 2 * (d.val / 2) + j.val; rw [sib_chip])
theorem core_self (d : Fin 8) : core d (own d) = d := Fin.ext (by show 2 * (d.val / 2) + d.val % 2 = d.val; omega)
theorem core_of_sib (d : Fin 8) : core (sib d) (own d) = d := (core_sib d _).trans (core_self d)

/-- The device whose number differs in the bits of `v`. -/
def flip (v : Fin 8) : Equiv.Perm (Fin 8) where
  toFun d := d ^^^ v
  invFun d := d ^^^ v
  left_inv := by revert v; decide
  right_inv := by revert v; decide

/-- The device with the same core `t` steps away: none (`0`), along `x` (`1`), along `y` (`2`), along both (`3`). -/
def hop (t : Fin 4) : Equiv.Perm (Fin 8) := (![Equiv.refl _, flip 4, flip 2, flip 6] : Fin 4 → Equiv.Perm (Fin 8)) t

/-- A device's chip. -/
def chip (d : Fin 8) : Fin 4 := ⟨d.val / 2, by omega⟩

/-- The device with the same core of chip `j`. -/
def link (d : Fin 8) (j : Fin 4) : Fin 8 := ⟨2 * j.val + d.val % 2, by omega⟩

/-- How far away chip `j` is. -/
def rel (d : Fin 8) (j : Fin 4) : Fin 4 := if j = chip d then 0 else if j = chip (hop 1 d) then 1 else if j = chip (hop 2 d) then 2 else 3

theorem rel_iff : ∀ (d : Fin 8) (j t : Fin 4), rel d j = t ↔ j.val = (chip (hop t d)).val := by decide
theorem hop_hop : ∀ (t : Fin 4) (d : Fin 8), hop t (hop t d) = d := by decide
theorem link_hop : ∀ (t : Fin 4) (d : Fin 8), link (hop t d) (chip d) = d := by decide
theorem hop_zero (d : Fin 8) : hop 0 d = d := rfl

end Cert.Exchange
-- ==== Proof.Slots.lean ====
/-
# Slices of whole arrays

The exchanges copy matrices out of, and into, stacks of matrices. Here: the elements of a slice as those that a key picks
among the array's own indices, what a slice reads, and an array filled with given contents.
-/
module

public import proofs.«01_k».proof.Proof.Mesh

@[expose] public section

set_option Elab.async false

noncomputable section

namespace Cert.Exchange

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline

variable {nD : Nat} {τ : Topo} {sig : RefSig} {Val : EltTy → Type}

local notation "𝕄" => MT nD τ sig Unit Val ℕ (UU nD τ sig) ℕ

/-! ### Regions and contents of a view -/

section Region

variable {sp : Space} {s : Shape} {e : EltTy} (v : View sig .tc sp s e) {T : Type} [DecidableEq T]

/-- The elements of the buffer whose index in the view has the key `t`. -/
def reg (key : s.Idx → T) (t : T) : Finset v.ty.Idx := (part key t).map v.emb

theorem reg_of {s' : Shape} (key : s.Idx → T) (t : T) (φ : s'.Idx → s.Idx) (S : Finset v.ty.Idx)
    (hS : ∀ i, i ∈ S ↔ ∃ x, v.emb (φ x) = i) (hφ : ∀ i, key i = t ↔ ∃ x, φ x = i) : S = reg v key t := by
  ext i
  rw [hS]
  constructor
  · rintro ⟨x, rfl⟩
    exact Finset.mem_map.mpr ⟨φ x, (mem_part _ _ _).mpr ((hφ _).mpr ⟨x, rfl⟩), rfl⟩
  · intro hi
    obtain ⟨y, hy, rfl⟩ := Finset.mem_map.mp hi
    obtain ⟨x, rfl⟩ := (hφ y).mp ((mem_part _ _ _).mp hy)
    exact ⟨x, rfl⟩

/-- A whole array is its regions. -/
theorem regs [Fintype T] (hv : v.set = Finset.univ) (key : s.Idx → T) (c : Dev nD) {q : PosShare TreeShare} (f : Buf Val (v.loc (c.tc : Thread nD τ))) :
    (v.loc (c.tc : Thread nD τ) ↦[Finset.univ]{q} f : sProp 𝕄) = bigSep Finset.univ fun t => v.loc (c.tc : Thread nD τ) ↦[reg v key t]{q} f := by
  refine Eq.trans ?_ (pointsTo_biUnion (ℓ := v.loc (c.tc : Thread nD τ)) Finset.univ (reg v key) fun t _ t' _ hne => Finset.disjoint_left.mpr fun i hi hi' => ?_)
  · refine congrArg (fun S => (v.loc (c.tc : Thread nD τ) ↦[S]{q} f : sProp 𝕄)) (Finset.eq_univ_of_forall fun i => ?_).symm
    obtain ⟨x, -, rfl⟩ := Finset.mem_map.mp (hv ▸ Finset.mem_univ i : i ∈ v.set)
    exact Finset.mem_biUnion.mpr ⟨key x, Finset.mem_univ _, Finset.mem_map.mpr ⟨x, (mem_part _ _ _).mpr rfl, rfl⟩⟩
  · obtain ⟨x, hx, rfl⟩ := Finset.mem_map.mp hi
    obtain ⟨y, hy, hxy⟩ := Finset.mem_map.mp hi'
    have : y = x := v.emb.injective hxy
    subst this
    exact hne (((mem_part _ _ _).mp hx).symm.trans ((mem_part _ _ _).mp hy))

/-- The array filled with `g`. -/
def fill (c : Dev nD) (f : Buf Val (v.loc (c.tc : Thread nD τ))) (g : s.Idx → Val e) : Buf Val (v.loc (c.tc : Thread nD τ)) := v.write Val f g Finset.univ

theorem read_fill (c : Dev nD) (f : Buf Val (v.loc (c.tc : Thread nD τ))) (g : s.Idx → Val e) : v.read Val (fill v c f g) = g :=
  View.read_write_univ f g

theorem fill_whole (r : Ref sig .tc) (c : Dev nD) (f g : Buf Val ((c.tc : Thread nD τ).loc r)) : fill (View.whole r) c f g = g := read_fill (View.whole r) c f g

end Region

/-- What the launch deals out: to every device its own argument, and the regions of result arrays that it writes. -/
theorem deal_regs {sp sp' : Space} {s s' : Shape} {e e' : EltTy} {T : Type} [Fintype T] [DecidableEq T] (a : View sig .tc sp s e) (v : View sig .tc sp' s' e')
    (hu : (Finset.univ.filter fun r : Ref sig .tc => ¬ r.isScoped) = [a.ref, v.ref].toFinset) (hne : [a.ref, v.ref].Nodup) (hv : v.set = Finset.univ)
    (key : Dev nD → s'.Idx → T) (σ : T → Equiv.Perm (Dev nD)) (m : (ℓ : Loc nD τ sig) → Buf Val ℓ) :
    (bigSep Finset.univ fun c : Dev nD => (unscopedBufs c (fun r => m ((c.tc : Thread nD τ).loc r)) : sProp 𝕄))
      ⊢ bigSep Finset.univ fun c : Dev nD => iprop((a.loc (c.tc : Thread nD τ) ↦[Finset.univ]{fullShare} m (a.loc (c.tc : Thread nD τ)))
        ∗ bigSep Finset.univ fun t => v.loc ((σ t c).tc : Thread nD τ) ↦[reg v (key (σ t c)) t]{fullShare} m (v.loc ((σ t c).tc : Thread nD τ))) := by
  rw [bigSep_sep']
  rw [← deal σ fun c t => ((v.loc (c.tc : Thread nD τ) ↦[reg v (key c) t]{fullShare} m (v.loc (c.tc : Thread nD τ))) : sProp 𝕄)]
  rw [← bigSep_sep']
  refine Idealize.SL.BI.BIBase.Entails.of_eq (bigSep_congr fun c _ => ?_)
  rw [two_bufs hu hne, ← regs v hv (key c)]

/-! ### Matrices of a stack -/

section Slot

variable {n h w h' : ℕ} {e : EltTy} (V : Memref sig .tc .hbm ⟨3, ![n, h, w]⟩ e)
  {off : Fin 3 → ℕ} (inb : ∀ a : Fin 3, off a + (![1, h', w] : Fin 3 → ℕ) a ≤ (![n, h, w] : Fin 3 → ℕ) a)
  (hq : (⟨3, ![1, h', w]⟩ : Shape).Squeezes ⟨2, ![h', w]⟩)

/-- Rows of a matrix of a stack, `h'` of them, from an offset. -/
abbrev slot : Memref sig .tc .hbm ⟨2, ![h', w]⟩ e :=
  (V.slice (Rect.unit (s := ⟨3, ![n, h, w]⟩) off ![1, h', w] inb) (fun _ => rfl)).squeeze ⟨2, ![h', w]⟩ hq

variable {j : Fin n} {r : ℕ} (ho : off = ![j.val, r, 0])
include ho

include inb in
theorem slot_lt (x : Fin h') : r + x.val < h := by
  have h1 := inb 1
  subst ho
  have h2 : r + h' ≤ h := h1
  omega

theorem slot_emb (x : (⟨2, ![h', w]⟩ : Shape).Idx) :
    (slot V inb hq).view.emb x = V.view.emb (ix3 j ⟨r + (x 0).val, slot_lt inb ho (x 0)⟩ (x 1)) := by
  refine (congrArg (slot V inb hq).view.emb (eq_ix2 x)).trans
    (emb_slot V.view inb _ (x 0) (x 1) j ⟨r + (x 0).val, slot_lt inb ho (x 0)⟩ ?_ ?_ ?_)
  all_goals subst ho; rfl

theorem slot_set {T : Type} [DecidableEq T] (key : (⟨3, ![n, h, w]⟩ : Shape).Idx → T) (t : T)
    (H : ∀ i, key i = t ↔ (i 0).val = j.val ∧ r ≤ (i 1).val ∧ (i 1).val < r + h') : (slot V inb hq).view.set = reg V.view key t := by
  refine reg_of V.view key t (fun x : (⟨2, ![h', w]⟩ : Shape).Idx => ix3 j ⟨r + (x 0).val, slot_lt inb ho (x 0)⟩ (x 1)) _ ?_ ?_
  · intro i
    constructor
    · intro hi
      obtain ⟨x, -, rfl⟩ := Finset.mem_map.mp hi
      exact ⟨x, (slot_emb V inb hq ho x).symm⟩
    · rintro ⟨x, rfl⟩
      exact Finset.mem_map.mpr ⟨x, Finset.mem_univ x, slot_emb V inb hq ho x⟩
  · intro i
    rw [H]
    constructor
    · rintro ⟨h0, h1, h2⟩
      refine ⟨ix2 (⟨(i 1).val - r, by omega⟩ : Fin h') (i 2 : Fin w), (?_ : _ = _)⟩
      refine Eq.trans ?_ (eq_ix3 i).symm
      have e0 : j = (i 0 : Fin n) := Fin.ext h0.symm
      subst e0
      exact congrArg (fun k => ix3 (i 0 : Fin n) k (i 2 : Fin w)) (Fin.ext (show r + ((i 1).val - r) = (i 1).val by omega))
    · rintro ⟨x, rfl⟩
      exact ⟨rfl, Nat.le_add_right _ _, Nat.add_lt_add_left (x 0).isLt r⟩

theorem slot_read (f : V.view.ty.Contents Val) (x : (⟨2, ![h', w]⟩ : Shape).Idx) :
    (slot V inb hq).view.read Val f x = V.view.read Val f (ix3 j ⟨r + (x 0).val, slot_lt inb ho (x 0)⟩ (x 1)) := by
  rw [View.read_apply, View.read_apply, slot_emb V inb hq ho]

end Slot

section Slot₂

variable {n l h w : ℕ} {e : EltTy} (A : Memref sig .tc .hbm ⟨4, ![n, l, h, w]⟩ e)
  {off : Fin 4 → ℕ} (inb : ∀ a : Fin 4, off a + (![1, 1, h, w] : Fin 4 → ℕ) a ≤ (![n, l, h, w] : Fin 4 → ℕ) a)
  (hq : (⟨4, ![1, 1, h, w]⟩ : Shape).Squeezes ⟨2, ![h, w]⟩)

/-- A matrix of an array of matrices. -/
abbrev slot₂ : Memref sig .tc .hbm ⟨2, ![h, w]⟩ e :=
  (A.slice (Rect.unit (s := ⟨4, ![n, l, h, w]⟩) off ![1, 1, h, w] inb) (fun _ => rfl)).squeeze ⟨2, ![h, w]⟩ hq

variable {j : Fin n} {k : Fin l} (ho : off = ![j.val, k.val, 0, 0])
include ho

theorem slot₂_emb (x : (⟨2, ![h, w]⟩ : Shape).Idx) : (slot₂ A inb hq).view.emb x = A.view.emb (ix4 j k (x 0) (x 1)) := by
  refine (congrArg (slot₂ A inb hq).view.emb (eq_ix2 x)).trans (emb_slot₂ A.view inb _ (x 0) (x 1) j k ?_ ?_ ?_ ?_)
  all_goals subst ho; rfl

theorem slot₂_set {T : Type} [DecidableEq T] (key : (⟨4, ![n, l, h, w]⟩ : Shape).Idx → T) (t : T)
    (H : ∀ i, key i = t ↔ (i 0).val = j.val ∧ (i 1).val = k.val) : (slot₂ A inb hq).view.set = reg A.view key t := by
  refine reg_of A.view key t (fun x : (⟨2, ![h, w]⟩ : Shape).Idx => ix4 j k (x 0) (x 1)) _ ?_ ?_
  · intro i
    constructor
    · intro hi
      obtain ⟨x, -, rfl⟩ := Finset.mem_map.mp hi
      exact ⟨x, (slot₂_emb A inb hq ho x).symm⟩
    · rintro ⟨x, rfl⟩
      exact Finset.mem_map.mpr ⟨x, Finset.mem_univ x, slot₂_emb A inb hq ho x⟩
  · intro i
    rw [H]
    constructor
    · rintro ⟨h0, h1⟩
      refine ⟨ix2 (i 2 : Fin h) (i 3 : Fin w), Eq.trans ?_ (eq_ix4 i).symm⟩
      have e0 : j = (i 0 : Fin n) := Fin.ext h0.symm
      have e1 : k = (i 1 : Fin l) := Fin.ext h1.symm
      subst e0 e1
      rfl
    · rintro ⟨x, rfl⟩
      exact ⟨rfl, rfl⟩

theorem slot₂_read (f : A.view.ty.Contents Val) (x : (⟨2, ![h, w]⟩ : Shape).Idx) :
    (slot₂ A inb hq).view.read Val f x = A.view.read Val f (ix4 j k (x 0) (x 1)) := by
  rw [View.read_apply, View.read_apply, slot₂_emb A inb hq ho]

end Slot₂

section Rows

variable {h w h' : ℕ} {e : EltTy} (A : Memref sig .tc .hbm ⟨2, ![h, w]⟩ e)
  {off : Fin 2 → ℕ} (inb : ∀ a : Fin 2, off a + (![h', w] : Fin 2 → ℕ) a ≤ (![h, w] : Fin 2 → ℕ) a)

/-- Rows of a matrix, `h'` of them, from an offset. -/
abbrev rows : Memref sig .tc .hbm ⟨2, ![h', w]⟩ e :=
  A.slice (Rect.unit (s := ⟨2, ![h, w]⟩) off ![h', w] inb) (fun _ => rfl)

variable {r : ℕ} (ho : off = ![r, 0])
include ho

include inb in
theorem rows_lt (x : Fin h') : r + x.val < h := by
  have h1 := inb 0
  subst ho
  have h2 : r + h' ≤ h := h1
  omega

theorem rows_emb (x : (⟨2, ![h', w]⟩ : Shape).Idx) :
    (rows A inb).view.emb x = A.view.emb (ix2 ⟨r + (x 0).val, rows_lt inb ho (x 0)⟩ (x 1)) := by
  show A.view.emb ((Rect.unit (s := ⟨2, ![h, w]⟩) off ![h', w] inb).emb x) = _
  subst ho
  congr 1
  funext a
  refine Fin.ext ?_
  rw [Rect.emb_apply]
  fin_cases a
  · show r + 1 * (x 0).val = r + (x 0).val; omega
  · show 0 + 1 * (x 1).val = (x 1).val; omega

theorem rows_set {T : Type} [DecidableEq T] (key : (⟨2, ![h, w]⟩ : Shape).Idx → T) (t : T)
    (H : ∀ i, key i = t ↔ r ≤ (i 0).val ∧ (i 0).val < r + h') : (rows A inb).view.set = reg A.view key t := by
  refine reg_of A.view key t (fun x : (⟨2, ![h', w]⟩ : Shape).Idx => ix2 ⟨r + (x 0).val, rows_lt inb ho (x 0)⟩ (x 1)) _ ?_ ?_
  · intro i
    constructor
    · intro hi
      obtain ⟨x, -, rfl⟩ := Finset.mem_map.mp hi
      exact ⟨x, (rows_emb A inb ho x).symm⟩
    · rintro ⟨x, rfl⟩
      exact Finset.mem_map.mpr ⟨x, Finset.mem_univ x, rows_emb A inb ho x⟩
  · intro i
    rw [H]
    constructor
    · rintro ⟨h1, h2⟩
      refine ⟨ix2 (⟨(i 0).val - r, by omega⟩ : Fin h') (i 1 : Fin w), Eq.trans ?_ (eq_ix2 i).symm⟩
      exact congrArg (fun k => ix2 k (i 1 : Fin w)) (Fin.ext (show r + ((i 0).val - r) = (i 0).val by omega))
    · rintro ⟨x, rfl⟩
      exact ⟨Nat.le_add_right _ _, Nat.add_lt_add_left (x 0).isLt r⟩

theorem rows_read (f : A.view.ty.Contents Val) (x : (⟨2, ![h', w]⟩ : Shape).Idx) :
    (rows A inb).view.read Val f x = A.view.read Val f (ix2 ⟨r + (x 0).val, rows_lt inb ho (x 0)⟩ (x 1)) := by
  rw [View.read_apply, View.read_apply, rows_emb A inb ho]

end Rows

/-! ### Semaphores of an array -/

theorem nth_inb {n : ℕ} (j : Fin n) (i : Fin 1) : (![j.val] : Fin 1 → ℕ) i + (![1] : Fin 1 → ℕ) i ≤ (![n] : Fin 1 → ℕ) i := by
  fin_cases i; exact j.isLt

/-- Semaphore `j` of an array of `n`. -/
abbrev nth {α : Type} {n : ℕ} (a : SemArray α ⟨1, ![n]⟩) (j : Fin n) : α :=
  ((a.slice (Rect.unit (s := ⟨1, ![n]⟩) ![j.val] ![1] (nth_inb j))).squeeze ⟨0, ![]⟩ (show (⟨1, ![1]⟩ : Shape).Squeezes ⟨0, ![]⟩ by decide)).sem

end Cert.Exchange

end
-- ==== Proof.Ends.lean ====
/-
# How a program of one exchange ends

`Ends`: what is proved of every such program, and the claims' forms of it.
-/
module

public import proofs.«01_k».proof.Proof.Slots

@[expose] public section

set_option Elab.async false

noncomputable section

namespace Cert.Exchange

open Idealize.ShloMosaic
open Idealize.ShloMosaic.TcCoe
open Idealize.SL.Sem

variable {nD nD' : Nat} {τ τ' : Topo} {sig sig' : RefSig} {Val : EltTy → Type} {Λ Λ' : Idealize.SL.Sem.Labels}

/-- Every execution of `main` from `m` ends with every argument `a` unchanged, every result `v` holding `G`, and every
    semaphore at zero. -/
def Ends (defs : Defs nD τ sig Val Λ) (main : Dev nD → Prog (TpuEff nD τ sig Val Λ .tc) PUnit) (m : (ℓ : Loc nD τ sig) → Buf Val ℓ) (g : Dev nD → PrngReg)
    (a v : Ref sig .tc) (G : (c : Dev nD) → Buf Val ((c.tc : Thread nD τ).loc v)) : Prop :=
  θ_run defs (onTc main) ⟨m, fun _ => 0, g⟩ fun r =>
    (∀ c : Dev nD, r.2.mem ((c.tc : Thread nD τ).loc a) = m ((c.tc : Thread nD τ).loc a) ∧ r.2.mem ((c.tc : Thread nD τ).loc v) = G c) ∧ r.2.sem = fun _ => 0

variable {defs : Defs nD τ sig Val Λ} {main : Dev nD → Prog (TpuEff nD τ sig Val Λ .tc) PUnit} {m : (ℓ : Loc nD τ sig) → Buf Val ℓ} {g : Dev nD → PrngReg}
  {a v : Ref sig .tc} {G : (c : Dev nD) → Buf Val ((c.tc : Thread nD τ).loc v)}

theorem Ends.frame (H : Ends defs main m g a v G) :
    θ_run defs (onTc main) ⟨m, fun _ => 0, g⟩ fun r =>
      (∀ c : Dev nD, r.2.mem ((c.tc : Thread nD τ).loc a) = m ((c.tc : Thread nD τ).loc a)) ∧ r.2.sem = fun _ => 0 :=
  (θ_run _ _ _).mono (fun _ h => ⟨fun c => (h.1 c).1, h.2⟩) H

/-- A run of a program without semaphores, as one that ends. -/
theorem ends_of_no_sems (hn : sig.nSem + sig.nDmaSem = 0)
    (H : θ_run defs (onTc main) ⟨m, fun _ => 0, g⟩ fun r => ∀ c : Dev nD,
      r.2.mem ((c.tc : Thread nD τ).loc v) = G c ∧ r.2.mem ((c.tc : Thread nD τ).loc a) = m ((c.tc : Thread nD τ).loc a)) : Ends defs main m g a v G :=
  (θ_run _ _ _).mono (fun r h => ⟨fun c => (h c).symm, sem_eq_zero_of_no_sems hn r.2⟩) H

/-- A program and a reference on a first device, when every result is that device's part of the reference's. -/
theorem Ends.agree (H : Ends defs main m g a v G) [NeZero nD'] {defs' : Defs nD' τ' sig' Val Λ'} {main' : Dev nD' → Prog (TpuEff nD' τ' sig' Val Λ' .tc) PUnit}
    {m' : (ℓ : Loc nD' τ' sig') → Buf Val ℓ} {g' : Dev nD' → PrngReg} {a' v' : Ref sig' .tc} {G' : (c : Dev nD') → Buf Val ((c.tc : Thread nD' τ').loc v')}
    (H' : Ends defs' main' m' g' a' v' G')
    {cut : (c : Dev nD) → Buf Val (((0 : Dev nD').tc : Thread nD' τ').loc v') → Buf Val ((c.tc : Thread nD τ).loc v)} (hG : ∀ c, G c = cut c (G' 0)) :
    ∃ w : Buf Val (((0 : Dev nD').tc : Thread nD' τ').loc v'),
      θ_run defs (onTc main) ⟨m, fun _ => 0, g⟩ (fun r => ∀ c : Dev nD,
        r.2.mem ((c.tc : Thread nD τ).loc v) = cut c w ∧ r.2.mem ((c.tc : Thread nD τ).loc a) = m ((c.tc : Thread nD τ).loc a))
      ∧ θ_run defs' (onTc main') ⟨m', fun _ => 0, g'⟩ (fun r =>
        r.2.mem (((0 : Dev nD').tc : Thread nD' τ').loc v') = w
        ∧ r.2.mem (((0 : Dev nD').tc : Thread nD' τ').loc a') = m' (((0 : Dev nD').tc : Thread nD' τ').loc a')) :=
  ⟨G' 0, (θ_run _ _ _).mono (fun _ h c => ⟨(h.1 c).2.trans (hG c), (h.1 c).1⟩) H, (θ_run _ _ _).mono (fun _ h => (h.1 0).symm) H'⟩

section Run

open Idealize.SL Idealize.SL.RA Idealize.SL.BI
open scoped Idealize.SL.BI
open Idealize.SL.BI.BIBase Idealize.SL.BI.Laws Idealize.SL.ProofMode
open Idealize.ShloMosaic.Pipeline

variable {K : Type} [Fintype K] [DecidableEq K] (X : Plan nD τ sig Val K)

/-- The run of a program that is one exchange by the plan, from arrays `A` to arrays `V` dealt out by a key. -/
theorem Plan.run_ends {P : Type} [Fintype P] [DecidableEq P] (cfgs : P → Pipeline.Cfg sig Λ) (p : P) (phinj : Function.Injective (cellOf (nD := nD) (τ := τ) cfgs))
    (hw : WinFacts₀ (cfgs p).spec) (ho : OwnSemFacts (cfgs p).spec X.osem) (defs₀ : Defs nD τ sig Val Λ) [∀ e, Nonempty (Val e)]
    (m : (ℓ : Loc nD τ sig) → Buf Val ℓ) (g : Dev nD → PrngReg)
    (main : Dev nD → Prog (TpuEff nD τ sig Val (Sig Λ P fun p => (pcsOf (Val := Val) cfgs p).Adm) .tc) PUnit)
    (hmain : ∀ c, main c = .op (.customCall (entry p) ()) fun _ => .ret ⟨⟩) (hW : ∀ p, IsEmpty (Fin (cfgs p).W)) (hN : (cfgs p).N = 1)
    (hrest : ∀ c : Dev nD, (scopedRest (cfgs p).spec c : sProp (MT nD τ sig Unit Val ℕ (UU nD τ sig) ℕ)) = BI.emp)
    {sp sp' : Space} {s s' : Shape} {e e' : EltTy} {T : Type} [Fintype T] [DecidableEq T] (A : View sig .tc sp s e) (V : View sig .tc sp' s' e')
    (hu : (Finset.univ.filter fun r : Ref sig .tc => ¬ r.isScoped) = [A.ref, V.ref].toFinset) (hne : [A.ref, V.ref].Nodup) (hV : V.set = Finset.univ)
    (hz : ∀ sm : SemLoc sig, sm.isScoped .tc = true) (key : Dev nD → s'.Idx → T) (σ : T → Equiv.Perm (Dev nD)) (G : (c : Dev nD) → Buf Val (V.loc (c.tc : Thread nD τ)))
    (hbody : ∀ (c : Dev nD) (t : Fin (cfgs p).N),
      X.start (fun c => iprop((A.loc (c.tc : Thread nD τ) ↦[Finset.univ]{fullShare} m (A.loc (c.tc : Thread nD τ)))
          ∗ bigSep Finset.univ fun t => V.loc ((σ t c).tc : Thread nD τ) ↦[reg V (key (σ t c)) t]{fullShare} m (V.loc ((σ t c).tc : Thread nD τ)))) c
        ⊢ wp frame (wpE defs₀ Variants.none (c.tc : Thread nD τ) none) Set.univ (defs₀ .tc (cfgs p).body ((cfgs p).bodyArgs t ((cfgs p).slots t)))
          fun _ => X.done (fun c => iprop((A.loc (c.tc : Thread nD τ) ↦[Finset.univ]{fullShare} m (A.loc (c.tc : Thread nD τ)))
            ∗ (V.loc (c.tc : Thread nD τ) ↦[Finset.univ]{fullShare} G c))) c) :
    Ends (Pipeline.defs (pcsOf cfgs) defs₀) main m g A.ref V.ref G :=
  X.run_plan cfgs p phinj hw ho defs₀ m g main hmain hW hN hrest _ _ (deal_regs A V hu hne hV key σ m) hbody
    (fun c s => s.mem (A.loc (c.tc : Thread nD τ)) = m (A.loc (c.tc : Thread nD τ)) ∧ s.mem (V.loc (c.tc : Thread nD τ)) = G c)
    (fun _ s' => holds_both s') (fun s hs h0 => ⟨hs, sem_eq_zero_of_scoped hz h0⟩)

end Run

end Cert.Exchange

end
-- ==== Proof.Gather.lean ====
/-
# The gathering of the chips' matrices

A kernel over a matrix `A` and a stack `V` of four: it copies `A` to its own place in `V`, and the half of `A` that is its
core's to the devices with the same core of the other chips; each half that arrives it passes on to the other core of its
chip. `body`, for any such arrays: it ends with `V` holding, in the place of each other chip, one half of the matrix of the
device there with the same core, and the other half of that of the device there with the other core.
-/
module

public import proofs.«01_k».proof.Proof.Ends

@[expose] public section

set_option Elab.async false

noncomputable section

namespace Cert.Exchange.Gather

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline

variable {sig : RefSig} {Val : EltTy → Type} {Λ : Idealize.SL.Sem.Labels} {e : EltTy} {n h w : ℕ}

local notation "𝕄" => MT 8 Topo.v7x sig Unit Val ℕ (UU 8 Topo.v7x sig) ℕ

/-- The semaphores: of the copy on the device (`none`); sent (`0`) and received (`1`), between chips (`0`) and within one
(`1`), of each other chip's matrix. -/
abbrev K := Option (Fin 2 × Fin 2 × Fin 3)

/-- The parts of the result: the device's own matrix (`none`); of each other chip's, the half of this core (`0`) and the other (`1`). -/
abbrev T := Option (Fin 2 × Fin 3)

/-- The arrays and semaphores of such a kernel. -/
structure Site (sig : RefSig) (e : EltTy) (n h w : ℕ) where
  A : Memref sig .tc .hbm ⟨2, ![n, w]⟩ e
  V : Memref sig .tc .hbm ⟨3, ![4, n, w]⟩ e
  hA : A.view.set = Finset.univ
  hV : V.view.set = Finset.univ
  /-- a half has `h` rows -/
  two : n = 2 * h
  q : K → DmaSem sig
  inj : Function.Injective q
  /-- the units a matrix brings, and those a half brings -/
  M : ℕ
  N : ℕ
  posM : 0 < M
  posN : 0 < N
  nM : ∀ {off : Fin 3 → ℕ} inb hq, (slot (h' := n) V (off := off) inb hq).view.dmaCredit = M
  nA : ∀ {off : Fin 2 → ℕ} inb, (rows (h' := h) A (off := off) inb).view.dmaCredit = N
  nV : ∀ {off : Fin 3 → ℕ} inb hq, (slot (h' := h) V (off := off) inb hq).view.dmaCredit = N

/-- The kernel: the copy, the sends, then each half received passed on, then the other waits. -/
def prog (a : Memref sig .tc .hbm ⟨2, ![n, w]⟩ e) (s : Memref sig .tc .hbm ⟨2, ![h, w]⟩ e) (l : Memref sig .tc .hbm ⟨2, ![n, w]⟩ e)
    (o : Memref sig .tc .hbm ⟨2, ![h, w]⟩ e) (v : Fin 2 → Fin 3 → Memref sig .tc .hbm ⟨2, ![h, w]⟩ e)
    (ha : a.view.WordExact) (hs : s.view.WordExact) (hl : l.view.WordExact) (ho : o.view.WordExact) (hv : ∀ b k, (v b k).view.WordExact)
    (p p' : Fin 3 → Dev 8) (q : K → DmaSem sig) : Prog (TpuEff 8 Topo.v7x sig Val Λ .tc) PUnit :=
  let send (k : Fin 3) (f : PUnit → Prog (TpuEff 8 Topo.v7x sig Val Λ .tc) PUnit) : Prog (TpuEff 8 Topo.v7x sig Val Λ .tc) PUnit :=
    .op (.enqueueDma s (.remote (Dev.tc (p k)) o (.dma (q (some (0, 0, k))))) (.dma (q (some (1, 0, k)))) hs ho ⟨⟨rfl, Or.inl rfl⟩, trivial⟩) f
  let pass (k : Fin 3) (f : PUnit → Prog (TpuEff 8 Topo.v7x sig Val Λ .tc) PUnit) : Prog (TpuEff 8 Topo.v7x sig Val Λ .tc) PUnit :=
    .op (.waitDma2 (q (some (1, 0, k))) (v 0 k) (v 0 k) (hv 0 k) (hv 0 k)) fun _ =>
    .op (.enqueueDma (v 0 k) (.remote (Dev.tc (p' k)) (v 0 k) (.dma (q (some (0, 1, k))))) (.dma (q (some (1, 1, k)))) (hv 0 k) (hv 0 k) ⟨⟨rfl, Or.inl rfl⟩, trivial⟩) f
  let got (k : Fin 3) (f : PUnit → Prog (TpuEff 8 Topo.v7x sig Val Λ .tc) PUnit) : Prog (TpuEff 8 Topo.v7x sig Val Λ .tc) PUnit :=
    .op (.waitDma2 (q (some (1, 1, k))) (v 1 k) (v 1 k) (hv 1 k) (hv 1 k)) f
  let sent (k : Fin 3) (f : PUnit → Prog (TpuEff 8 Topo.v7x sig Val Λ .tc) PUnit) : Prog (TpuEff 8 Topo.v7x sig Val Λ .tc) PUnit :=
    .op (.waitDma2 (q (some (0, 0, k))) o s ho hs) f
  let passed (k : Fin 3) (f : PUnit → Prog (TpuEff 8 Topo.v7x sig Val Λ .tc) PUnit) : Prog (TpuEff 8 Topo.v7x sig Val Λ .tc) PUnit :=
    .op (.waitDma2 (q (some (0, 1, k))) (v 0 k) (v 0 k) (hv 0 k) (hv 0 k)) f
  .op (.enqueueDma a (.here l) (.dma (q none)) ha hl ⟨Or.inl rfl, trivial⟩) fun _ => send 0 fun _ => send 1 fun _ => send 2 fun _ =>
    pass 0 fun _ => pass 1 fun _ => pass 2 fun _ => got 0 fun _ => got 1 fun _ => got 2 fun _ =>
    sent 0 fun _ => sent 1 fun _ => sent 2 fun _ => passed 0 fun _ => passed 1 fun _ => passed 2 fun _ => .op (.waitDma2 (q none) a l ha hl) fun _ => .ret ⟨⟩

/-- The first row of the half of device `d`'s core (`0`), and of the other half (`1`), when each has `h` rows. -/
def row (h : ℕ) (d : Dev 8) (b : Fin 2) : ℕ := if b = 0 then h * (d.val % 2) else h - h * (d.val % 2)

/-- Whether a row is in the half of device `d`'s core. -/
def mine (h : ℕ) (d : Dev 8) (r : ℕ) : Bool := decide (row h d 0 ≤ r ∧ r < row h d 0 + h)

theorem mine_iff (d : Dev 8) (b : Fin 2) (r : ℕ) (hr : r < 2 * h) : (mine h d r = true ↔ b = 0) ↔ row h d b ≤ r ∧ r < row h d b + h := by
  unfold mine row
  obtain rfl | rfl : b = 0 ∨ b = 1 := by omega
  · simp
  · have h1 : d.val % 2 = 0 ∨ d.val % 2 = 1 := by omega
    rcases h1 with h1 | h1 <;> simp [h1] <;> omega

/-- The part of the result an element is in. -/
def key (h : ℕ) (d : Dev 8) (i : (⟨3, ![4, n, w]⟩ : Shape).Idx) : T :=
  if H : rel d (i 0) = 0 then none else some (if mine h d (i 1).val = true then 0 else 1, (rel d (i 0)).pred H)

theorem key_none (d : Dev 8) (i : (⟨3, ![4, n, w]⟩ : Shape).Idx) :
    key h d i = none ↔ (i 0).val = (chip d).val ∧ 0 ≤ (i 1).val ∧ (i 1).val < 0 + n := by
  have h1 : (i 1).val < n := (i 1).isLt
  have h0 := rel_iff d (i 0) 0
  unfold key
  constructor
  · intro H
    split at H
    · exact ⟨h0.mp (by assumption), Nat.zero_le _, by omega⟩
    · exact absurd H (by simp)
  · intro H
    rw [dif_pos (h0.mpr H.1)]

theorem key_some (two : n = 2 * h) (d : Dev 8) (b : Fin 2) (k : Fin 3) (i : (⟨3, ![4, n, w]⟩ : Shape).Idx) :
    key h d i = some (b, k) ↔ (i 0).val = (chip (hop k.succ d)).val ∧ row h d b ≤ (i 1).val ∧ (i 1).val < row h d b + h := by
  have h1 : (i 1).val < n := (i 1).isLt
  rw [← mine_iff d b (i 1).val (by omega), ← rel_iff d (i 0) k.succ]
  unfold key
  split
  · next H => exact ⟨fun hh => absurd hh (by simp), fun hh => absurd (H.symm.trans hh.1) (Fin.succ_ne_zero k).symm⟩
  · next H =>
    rw [Option.some.injEq, Prod.mk.injEq]
    constructor
    · rintro ⟨hb, hk⟩
      subst hb hk
      refine ⟨(Fin.succ_pred _ H).symm, ?_⟩
      split <;> simp_all
    · rintro ⟨hk, hb⟩
      refine ⟨?_, by simp only [hk, Fin.pred_succ]⟩
      obtain rfl | rfl : b = 0 ∨ b = 1 := by omega
      · simp_all
      · simp_all

/-- Whose matrix a part of the result comes from. -/
def who (d : Dev 8) : T → Dev 8
  | none => d
  | some (0, k) => hop k.succ d
  | some (1, k) => hop k.succ (sib d)

/-- Who writes a part of a result: of the parts `t`, device `c` writes that of `writer t c`. -/
def writer : T → Equiv.Perm (Fin 8)
  | none => Equiv.refl _
  | some (0, k) => hop k.succ
  | some (1, _) => sib

theorem chip_hop_sib : ∀ (k : Fin 4) (d : Fin 8), (chip (hop k (sib d))).val = (chip (hop k d)).val := by decide

theorem row_hop : ∀ (k : Fin 4) (d : Fin 8), (hop k d).val % 2 = d.val % 2 := by decide

theorem row_sib (d : Fin 8) : row h (sib d) 1 = row h d 0 := by
  unfold row
  rw [if_neg (by decide), if_pos rfl, sib_core]
  have h1 : d.val % 2 = 0 ∨ d.val % 2 = 1 := by omega
  rcases h1 with h1 | h1 <;> rw [h1] <;> omega

variable (X : Site sig e n h w) (m : (ℓ : Loc 8 Topo.v7x sig) → Buf Val ℓ)

/-- The result of device `d`, by its elements and as contents of `V`. -/
def g (d : Dev 8) (i : (⟨3, ![4, n, w]⟩ : Shape).Idx) : Val e :=
  X.A.view.read Val (m (X.A.view.loc (Dev.tc (who d (key h d i)) : Thread 8 Topo.v7x))) (ix2 (i 1) (i 2))
def G (d : Dev 8) : Buf Val (X.V.view.loc (d.tc : Thread 8 Topo.v7x)) := fill X.V.view d (m (X.V.view.loc (d.tc : Thread 8 Topo.v7x))) (g X m d)

/-- The half of the argument of device `d`'s core (`true`), and the other. -/
def half (h : ℕ) (d : Dev 8) (i : (⟨2, ![n, w]⟩ : Shape).Idx) : Bool := mine h d (i 0).val

/-- The shares at which the argument is held: for the copy on the device, and for each send. -/
def sh : Fin 3 → PosShare TreeShare := ![fullShare.right.left, fullShare.right.right.left, fullShare.right.right.right]

/-- The argument at a share, a half of it, and a part of the result at its final contents. -/
def arg (s : PosShare TreeShare) (c : Dev 8) : sProp 𝕄 := X.A.view.loc (c.tc : Thread 8 Topo.v7x) ↦[Finset.univ]{s} m (X.A.view.loc (c.tc : Thread 8 Topo.v7x))
def src (s : PosShare TreeShare) (b : Bool) (c : Dev 8) : sProp 𝕄 :=
  X.A.view.loc (c.tc : Thread 8 Topo.v7x) ↦[reg X.A.view (half h c) b]{s} m (X.A.view.loc (c.tc : Thread 8 Topo.v7x))
def fin (t : T) (c : Dev 8) : sProp 𝕄 := X.V.view.loc (c.tc : Thread 8 Topo.v7x) ↦[reg X.V.view (key h c) t]{fullShare} G X m c
/-- A part of the result before. -/
def old (t : T) (c : Dev 8) : sProp 𝕄 := X.V.view.loc (c.tc : Thread 8 Topo.v7x) ↦[reg X.V.view (key h c) t]{fullShare} m (X.V.view.loc (c.tc : Thread 8 Topo.v7x))

/-- What each landing hands over: what was read, at the share it was read at, or the part received. -/
def pays (c : Dev 8) : K → sProp 𝕄
  | none => iprop(fin X m none c ∗ arg X m fullShare.left c)
  | some (0, 0, k) => src X m (sh k) true c
  | some (0, 1, k) => fin X m (some (0, k)) c
  | some (1, b, k) => fin X m (some (b, k)) c

/-- The levels of the semaphores: halves from other chips are awaited before the passing on. -/
def lvl : K → ℕ
  | some (1, 1, _) => 1
  | _ => 0

/-- The plan. -/
def plan : Plan 8 Topo.v7x sig Val K where
  osem k := .dma (X.q k)
  inj k k' hk := X.inj (SemLoc.dma.inj hk)
  amt | none => X.M | _ => X.N
  amt_pos k := by rcases k with _ | k <;> [exact X.posM; exact X.posN]
  dest | some (1, b, k) => writer (some (b, k)) | _ => Equiv.refl _
  far := {some (1, 0, 0), some (1, 0, 1), some (1, 0, 2), some (1, 1, 0), some (1, 1, 1), some (1, 1, 2)}
  lvl := lvl
  pay := pays X m
  sto c k := by
    rcases k with _ | ⟨i, b, k⟩
    · unfold pays fin arg; infer_instance
    · fin_cases i
      · fin_cases b
        · show BI.Storable upEmb (src X m (sh k) true c); unfold src; infer_instance
        · show BI.Storable upEmb (fin X m (some (0, k)) c); unfold fin; infer_instance
      · show BI.Storable upEmb (fin X m (some (b, k)) c); unfold fin; infer_instance

theorem all (Φ : K → sProp 𝕄) : bigSep Finset.univ Φ = iprop(Φ none ∗ Φ (some (0, 0, 0)) ∗ Φ (some (0, 0, 1)) ∗ Φ (some (0, 0, 2))
    ∗ Φ (some (0, 1, 0)) ∗ Φ (some (0, 1, 1)) ∗ Φ (some (0, 1, 2)) ∗ Φ (some (1, 0, 0)) ∗ Φ (some (1, 0, 1)) ∗ Φ (some (1, 0, 2))
    ∗ Φ (some (1, 1, 0)) ∗ Φ (some (1, 1, 1)) ∗ Φ (some (1, 1, 2))) :=
  bigSep_eq_bigSepL_of_eq [none, some (0, 0, 0), some (0, 0, 1), some (0, 0, 2), some (0, 1, 0), some (0, 1, 1), some (0, 1, 2),
    some (1, 0, 0), some (1, 0, 1), some (1, 0, 2), some (1, 1, 0), some (1, 1, 1), some (1, 1, 2)] (by decide) (by decide) Φ
theorem seven (Φ : T → sProp 𝕄) : bigSep Finset.univ Φ
    = iprop(Φ none ∗ Φ (some (0, 0)) ∗ Φ (some (0, 1)) ∗ Φ (some (0, 2)) ∗ Φ (some (1, 0)) ∗ Φ (some (1, 1)) ∗ Φ (some (1, 2))) :=
  bigSep_eq_bigSepL_of_eq [none, some (0, 0), some (0, 1), some (0, 2), some (1, 0), some (1, 1), some (1, 2)] (by decide) (by decide) Φ
theorem two (Φ : Bool → sProp 𝕄) : bigSep Finset.univ Φ = iprop(Φ true ∗ Φ false) :=
  bigSep_eq_bigSepL_of_eq [true, false] (by decide) (by decide) Φ
theorem fars (Φ : K → sProp 𝕄) : bigSep {some (1, 0, 0), some (1, 0, 1), some (1, 0, 2), some (1, 1, 0), some (1, 1, 1), some (1, 1, 2)} Φ
    = iprop(Φ (some (1, 0, 0)) ∗ Φ (some (1, 0, 1)) ∗ Φ (some (1, 0, 2)) ∗ Φ (some (1, 1, 0)) ∗ Φ (some (1, 1, 1)) ∗ Φ (some (1, 1, 2))) :=
  bigSep_eq_bigSepL_of_eq [some (1, 0, 0), some (1, 0, 1), some (1, 0, 2), some (1, 1, 0), some (1, 1, 1), some (1, 1, 2)] (by decide) (by decide) Φ

/-- The argument, whole, is at each of its shares, and for the sends in halves. -/
theorem shares (c : Dev 8) : (arg X m fullShare c : sProp 𝕄) ⊣⊢ iprop(arg X m fullShare.left c ∗ (src X m (sh 0) true c ∗ src X m (sh 0) false c)
    ∗ (src X m (sh 1) true c ∗ src X m (sh 1) false c) ∗ (src X m (sh 2) true c ∗ src X m (sh 2) false c)) := by
  have hh (k : Fin 3) : (iprop(src X m (sh k) true c ∗ src X m (sh k) false c) : sProp 𝕄) = arg X m (sh k) c := by
    unfold src arg; rw [regs X.A.view X.hA (half h c), two]
  rw [hh, hh, hh]
  have d (q : PosShare TreeShare) : (arg X m q c : sProp 𝕄) ⊣⊢ iprop(arg X m q.left c ∗ arg X m q.right c) :=
    pointsTo_share (PosShare.mem_left_op_right q)
  have d1 := d fullShare
  have d2 := d fullShare.right
  have d3 := d fullShare.right.right
  constructor
  · iintro H
    ihave H := d1.1 $$ H
    icases H with ⟨H0, H⟩
    ihave H := d2.1 $$ H
    icases H with ⟨H1, H⟩
    ihave H := d3.1 $$ H
    icases H with ⟨H2, H3⟩
    isplitl [H0]; · iexact H0
    isplitl [H1]; · iexact H1
    isplitl [H2]; · iexact H2
    iexact H3
  · iintro ⟨H0, H1, H2, H3⟩
    iapply d1.2
    isplitl [H0]; · iexact H0
    iapply d2.2
    isplitl [H1]; · iexact H1
    iapply d3.2
    isplitl [H2]; · iexact H2
    iexact H3

/-- What a device's kernel starts from: its argument, and the parts of results it writes. -/
def B (c : Dev 8) : sProp 𝕄 :=
  iprop((X.A.view.loc (c.tc : Thread 8 Topo.v7x) ↦[Finset.univ]{fullShare} m (X.A.view.loc (c.tc : Thread 8 Topo.v7x)))
    ∗ bigSep Finset.univ fun t => X.V.view.loc (Dev.tc (writer t c) : Thread 8 Topo.v7x) ↦[reg X.V.view (key h (writer t c)) t]{fullShare} m (X.V.view.loc (Dev.tc (writer t c) : Thread 8 Topo.v7x)))

theorem opened (c : Dev 8) : (B X m c : sProp 𝕄) = iprop(arg X m fullShare c ∗ old X m none c
    ∗ old X m (some (0, 0)) (hop 1 c) ∗ old X m (some (0, 1)) (hop 2 c) ∗ old X m (some (0, 2)) (hop 3 c)
    ∗ old X m (some (1, 0)) (sib c) ∗ old X m (some (1, 1)) (sib c) ∗ old X m (some (1, 2)) (sib c)) := by
  unfold B; rw [seven]; rfl

/-- What it ends with: its argument, and its whole result. -/
def Y (c : Dev 8) : sProp 𝕄 :=
  iprop((X.A.view.loc (c.tc : Thread 8 Topo.v7x) ↦[Finset.univ]{fullShare} m (X.A.view.loc (c.tc : Thread 8 Topo.v7x)))
    ∗ (X.V.view.loc (c.tc : Thread 8 Topo.v7x) ↦[Finset.univ]{fullShare} G X m c))

theorem finish (c : Dev 8) : iprop((plan X m).pay c none ∗ ((plan X m).pay c (some (0, 0, 0)) ∗ (plan X m).pay c (some (0, 0, 1)) ∗ (plan X m).pay c (some (0, 0, 2)))
    ∗ ((plan X m).pay c (some (0, 1, 0)) ∗ (plan X m).pay c (some (0, 1, 1)) ∗ (plan X m).pay c (some (0, 1, 2)))
    ∗ ((plan X m).pay c (some (1, 1, 0)) ∗ (plan X m).pay c (some (1, 1, 1)) ∗ (plan X m).pay c (some (1, 1, 2)))
    ∗ src X m (sh 0) false c ∗ src X m (sh 1) false c ∗ src X m (sh 2) false c) ⊢ Y X m c := by
  show iprop((fin X m none c ∗ arg X m fullShare.left c) ∗ (src X m (sh 0) true c ∗ src X m (sh 1) true c ∗ src X m (sh 2) true c)
    ∗ (fin X m (some (0, 0)) c ∗ fin X m (some (0, 1)) c ∗ fin X m (some (0, 2)) c) ∗ (fin X m (some (1, 0)) c ∗ fin X m (some (1, 1)) c ∗ fin X m (some (1, 2)) c)
    ∗ src X m (sh 0) false c ∗ src X m (sh 1) false c ∗ src X m (sh 2) false c) ⊢ iprop(arg X m fullShare c ∗ _)
  rw [regs X.V.view X.hV (key h c), seven]
  iintro ⟨⟨V, A⟩, ⟨A0, A1, A2⟩, ⟨V0, V1, V2⟩, ⟨U0, U1, U2⟩, B0, B1, B2⟩
  isplitr [V V0 V1 V2 U0 U1 U2]
  · iapply (shares X m c).2
    iframe
  · unfold fin
    iframe

section Body

variable {defs : Defs 8 Topo.v7x sig Val Λ} (c : Dev 8) {ol oo : Fin 3 → ℕ} {os : Fin 2 → ℕ} {ov : Fin 2 → Fin 3 → Fin 3 → ℕ}
  (il : ∀ a : Fin 3, ol a + (![1, n, w] : Fin 3 → ℕ) a ≤ (![4, n, w] : Fin 3 → ℕ) a)
  (io : ∀ a : Fin 3, oo a + (![1, h, w] : Fin 3 → ℕ) a ≤ (![4, n, w] : Fin 3 → ℕ) a)
  (is : ∀ a : Fin 2, os a + (![h, w] : Fin 2 → ℕ) a ≤ (![n, w] : Fin 2 → ℕ) a)
  (iv : ∀ (b : Fin 2) (k : Fin 3) (a : Fin 3), ov b k a + (![1, h, w] : Fin 3 → ℕ) a ≤ (![4, n, w] : Fin 3 → ℕ) a)
  (hq : (⟨3, ![1, n, w]⟩ : Shape).Squeezes ⟨2, ![n, w]⟩) (hq' : (⟨3, ![1, h, w]⟩ : Shape).Squeezes ⟨2, ![h, w]⟩)
  {ha : X.A.view.WordExact} {hs : (rows X.A is).view.WordExact} {hl : (slot X.V il hq).view.WordExact} {ho : (slot X.V io hq').view.WordExact}
  {hv : ∀ b k, (slot X.V (iv b k) hq').view.WordExact} {p p' : Fin 3 → Dev 8}
  (el : ol = ![(chip c).val, 0, 0]) (eo : oo = ![(chip c).val, row h c 0, 0]) (es : os = ![row h c 0, 0])
  (ev : ∀ b k, ov b k = ![(chip (hop k.succ c)).val, row h c b, 0]) (hp : ∀ k, p k = hop k.succ c) (hp' : ∀ k, p' k = sib c)

include el in
theorem place_own : (slot X.V il hq).view.set = reg X.V.view (key h c) none :=
  slot_set X.V il hq el (key h c) none (key_none c)

include el in
theorem brought_own : (slot X.V il hq).view.read Val (G X m c) = X.A.view.read Val (m (X.A.view.loc (c.tc : Thread 8 Topo.v7x))) := by
  funext x
  rw [slot_read X.V il hq el]
  unfold G
  rw [read_fill]
  unfold g
  rw [(key_none c _).mpr ⟨rfl, Nat.zero_le _, Nat.add_lt_add_left (x 0).isLt 0⟩]
  refine congrArg (X.A.view.read Val (m (X.A.view.loc (c.tc : Thread 8 Topo.v7x)))) (Eq.trans ?_ (eq_ix2 x).symm)
  exact congrArg (fun k => ix2 k (x 1 : Fin w)) (Fin.ext (Nat.zero_add _))

/-- The half sent, where device `k` steps away has it. -/
theorem sent_iff (two : n = 2 * h) (k : Fin 3) (i : (⟨3, ![4, n, w]⟩ : Shape).Idx) :
    key h (hop k.succ c) i = some (0, k) ↔ (i 0).val = (chip c).val ∧ row h c 0 ≤ (i 1).val ∧ (i 1).val < row h c 0 + h := by
  have hr : row h (hop k.succ c) 0 = row h c 0 := by unfold row; rw [row_hop]
  rw [key_some two, hop_hop, hr]

include eo in
theorem place_sent (k : Fin 3) : (slot X.V io hq').view.set = reg X.V.view (key h (hop k.succ c)) (some (0, k)) :=
  slot_set X.V io hq' eo (key h (hop k.succ c)) (some (0, k)) (sent_iff c X.two k)

include eo es in
theorem brought_sent (k : Fin 3) : (slot X.V io hq').view.read Val (G X m (hop k.succ c)) = (rows X.A is).view.read Val (m (X.A.view.loc (c.tc : Thread 8 Topo.v7x))) := by
  funext x
  rw [slot_read X.V io hq' eo, rows_read X.A is es]
  unfold G
  rw [read_fill]
  unfold g
  rw [(sent_iff c X.two k _).mpr ⟨rfl, Nat.le_add_right _ _, Nat.add_lt_add_left (x 0).isLt _⟩]
  exact congrArg (fun d : Fin 8 => X.A.view.read Val (m (X.A.view.loc (Dev.tc d : Thread 8 Topo.v7x))) (ix2 ⟨row h c 0 + (x 0).val, rows_lt is es (x 0)⟩ (x 1))) (hop_hop k.succ c)

include es in
theorem place_src : (rows X.A is).view.set = reg X.A.view (half h c) true :=
  rows_set X.A is es (half h c) true fun i => by unfold half mine; exact decide_eq_true_iff

include ev in
theorem place_got (b : Fin 2) (k : Fin 3) : (slot X.V (iv b k) hq').view.set = reg X.V.view (key h c) (some (b, k)) :=
  slot_set X.V (iv b k) hq' (ev b k) (key h c) (some (b, k)) (key_some X.two c b k)

/-- The half passed on, where the other core has it. -/
theorem passed_iff (two : n = 2 * h) (k : Fin 3) (i : (⟨3, ![4, n, w]⟩ : Shape).Idx) :
    key h (sib c) i = some (1, k) ↔ (i 0).val = (chip (hop k.succ c)).val ∧ row h c 0 ≤ (i 1).val ∧ (i 1).val < row h c 0 + h := by
  rw [key_some two, row_sib, chip_hop_sib]

include ev in
theorem place_passed (k : Fin 3) : (slot X.V (iv 0 k) hq').view.set = reg X.V.view (key h (sib c)) (some (1, k)) :=
  slot_set X.V (iv 0 k) hq' (ev 0 k) (key h (sib c)) (some (1, k)) (passed_iff c X.two k)

include ev in
theorem brought_passed (k : Fin 3) : (slot X.V (iv 0 k) hq').view.read Val (G X m (sib c)) = (slot X.V (iv 0 k) hq').view.read Val (G X m c) := by
  funext x
  rw [slot_read X.V (iv 0 k) hq' (ev 0 k), slot_read X.V (iv 0 k) hq' (ev 0 k)]
  unfold G
  rw [read_fill, read_fill]
  unfold g
  rw [(passed_iff c X.two k _).mpr ⟨rfl, Nat.le_add_right _ _, Nat.add_lt_add_left (x 0).isLt _⟩,
    (key_some X.two c 0 k _).mpr ⟨rfl, Nat.le_add_right _ _, Nat.add_lt_add_left (x 0).isLt _⟩]
  show X.A.view.read Val (m (X.A.view.loc (Dev.tc (hop k.succ (sib (sib c))) : Thread 8 Topo.v7x))) _ = _
  rw [sib_sib]
  rfl

include eo es hp in
theorem send (k : Fin 3) (t : Fin 4) (ht : k.succ = t) (S S' : Finset K) (hS : some (1, 0, k) ∈ S) (hS' : S.erase (some (1, 0, k)) = S')
    {f : PUnit → Prog (TpuEff 8 Topo.v7x sig Val Λ .tc) PUnit} {Q : PUnit → sProp 𝕄} :
    iprop((plan X m).known ∗ src X m (sh k) true c ∗ old X m (some (0, k)) (hop t c)
        ∗ (plan X m).owing S c ∗ (plan X m).tok c (some (0, 0, k)) ∗ (plan X m).tok c (some (1, 0, k)))
      ⊢ iprop((((plan X m).credit c (some (0, 0, k)) ∗ (plan X m).owing S' c) -∗ wp frame (wpE defs Variants.none (c.tc : Thread 8 Topo.v7x) none) Set.univ (f ⟨⟩) Q)
          -∗ wp frame (wpE defs Variants.none (c.tc : Thread 8 Topo.v7x) none) Set.univ
              (.op (.enqueueDma (rows X.A is) (.remote (Dev.tc (p k)) (slot X.V io hq') (.dma (X.q (some (0, 0, k))))) (.dma (X.q (some (1, 0, k))))
                hs ho ⟨⟨rfl, Or.inl rfl⟩, trivial⟩) f) Q) := by
  subst hS' ht
  exact (plan X m).put_send Variants.none (src := rows X.A is) (dst := slot X.V io hq') c (some (0, 0, k)) (some (1, 0, k)) rfl (hop k.succ c) rfl hS (hp k) rfl rfl
    (sh k) (m (X.A.view.loc (c.tc : Thread 8 Topo.v7x))) (m (X.V.view.loc (Dev.tc (hop k.succ c) : Thread 8 Topo.v7x))) (G X m (hop k.succ c)) (X.nV _ _) rfl
    (place_src X c is es) (place_sent X c io hq' eo k) (brought_sent X m c io is hq' eo es k) (Entails.refl _) (Entails.refl _)

include el in
theorem copy {f : PUnit → Prog (TpuEff 8 Topo.v7x sig Val Λ .tc) PUnit} {Q : PUnit → sProp 𝕄} :
    iprop((plan X m).known ∗ arg X m fullShare.left c ∗ old X m none c ∗ (plan X m).tok c none)
      ⊢ iprop(((plan X m).credit c none -∗ wp frame (wpE defs Variants.none (c.tc : Thread 8 Topo.v7x) none) Set.univ (f ⟨⟩) Q)
          -∗ wp frame (wpE defs Variants.none (c.tc : Thread 8 Topo.v7x) none) Set.univ
              (.op (.enqueueDma X.A (.here (slot X.V il hq)) (.dma (X.q none)) ha hl ⟨Or.inl rfl, trivial⟩) f) Q) :=
  (plan X m).put_copy Variants.none (src := X.A) (dst := slot X.V il hq) c none rfl rfl
    fullShare.left (m (X.A.view.loc (c.tc : Thread 8 Topo.v7x))) (m (X.V.view.loc (c.tc : Thread 8 Topo.v7x))) (G X m c) (X.nM _ _)
    X.hA (place_own X c il hq el) (brought_own X m c il hq el) (Entails.refl _)

include ev hp' in
theorem forward (k : Fin 3) (S : Finset K) (hS : some (1, 1, k) ∈ S) {f : PUnit → Prog (TpuEff 8 Topo.v7x sig Val Λ .tc) PUnit} {Q : PUnit → sProp 𝕄} :
    iprop((plan X m).known ∗ (plan X m).pay c (some (1, 0, k)) ∗ old X m (some (1, k)) (sib c)
        ∗ (plan X m).owing S c ∗ (plan X m).tok c (some (0, 1, k)) ∗ (plan X m).tok c (some (1, 1, k)))
      ⊢ iprop((((plan X m).credit c (some (0, 1, k)) ∗ (plan X m).owing (S.erase (some (1, 1, k))) c) -∗ wp frame (wpE defs Variants.none (c.tc : Thread 8 Topo.v7x) none) Set.univ (f ⟨⟩) Q)
          -∗ wp frame (wpE defs Variants.none (c.tc : Thread 8 Topo.v7x) none) Set.univ
              (.op (.enqueueDma (slot X.V (iv 0 k) hq') (.remote (Dev.tc (p' k)) (slot X.V (iv 0 k) hq') (.dma (X.q (some (0, 1, k))))) (.dma (X.q (some (1, 1, k))))
                (hv 0 k) (hv 0 k) ⟨⟨rfl, Or.inl rfl⟩, trivial⟩) f) Q) :=
  (plan X m).put_send Variants.none (src := slot X.V (iv 0 k) hq') (dst := slot X.V (iv 0 k) hq') c (some (0, 1, k)) (some (1, 1, k)) rfl (sib c) rfl hS (hp' k) rfl rfl
    fullShare (G X m c) (m (X.V.view.loc (Dev.tc (sib c) : Thread 8 Topo.v7x))) (G X m (sib c)) (X.nV _ _) rfl
    (place_got X c iv hq' ev 0 k) (place_passed X c iv hq' ev k) (brought_passed X m c iv hq' ev k) (Entails.refl _) (Entails.refl _)

include ev hp' in
theorem pass (k : Fin 3) (S S' : Finset K) (hS : some (1, 1, k) ∈ S) (hS' : S.erase (some (1, 1, k)) = S') (hlt : ∀ k' ∈ S, lvl (some (1, 0, k)) < lvl k')
    {f : PUnit → Prog (TpuEff 8 Topo.v7x sig Val Λ .tc) PUnit} {Q : PUnit → sProp 𝕄} :
    iprop((plan X m).known ∗ (plan X m).levels ∗ (plan X m).credit c (some (1, 0, k)) ∗ (plan X m).pos c (some (1, 0, k)) ∗ old X m (some (1, k)) (sib c)
        ∗ (plan X m).owing S c ∗ (plan X m).tok c (some (0, 1, k)) ∗ (plan X m).tok c (some (1, 1, k)))
      ⊢ iprop((((plan X m).credit c (some (0, 1, k)) ∗ semVal ((plan X m).cell c (some (1, 0, k))) 0 ∗ (plan X m).owing S' c) -∗ wp frame (wpE defs Variants.none (c.tc : Thread 8 Topo.v7x) none) Set.univ (f ⟨⟩) Q)
          -∗ wp frame (wpE defs Variants.none (c.tc : Thread 8 Topo.v7x) none) Set.univ
              (.op (.waitDma2 (X.q (some (1, 0, k))) (slot X.V (iv 0 k) hq') (slot X.V (iv 0 k) hq') (hv 0 k) (hv 0 k)) fun _ =>
               .op (.enqueueDma (slot X.V (iv 0 k) hq') (.remote (Dev.tc (p' k)) (slot X.V (iv 0 k) hq') (.dma (X.q (some (0, 1, k))))) (.dma (X.q (some (1, 1, k))))
                (hv 0 k) (hv 0 k) ⟨⟨rfl, Or.inl rfl⟩, trivial⟩) f) Q) := by
  subst hS'
  iintro ⟨#HK, #HL, Hc, Hp, Hd, Ho, T0, T1⟩ Hk
  iapply ((plan X m).step_wait Variants.none c (some (1, 0, k)) (S := S) hlt rfl (X.nV _ _) (fun _ => rfl)) $$ [Hc Ho Hp]
  · isplitr; · iexact HK
    isplitr; · iexact HL
    iframe
  iintro ⟨Hs, Hz, Ho⟩
  iapply (forward X m (defs := defs) c iv hq' (hv := hv) ev hp' k S hS) $$ [Hs Hd Ho T0 T1]
  · isplitr; · iexact HK
    iframe
  iintro ⟨Hc, Ho⟩
  iapply Hk
  iframe

include el eo es ev hp hp' in
theorem body (Q : PUnit → sProp 𝕄) (hQ : Q = fun _ => (plan X m).done (Y X m) c) :
    (plan X m).start (B X m) c ⊢ wp frame (wpE defs Variants.none (c.tc : Thread 8 Topo.v7x) none) Set.univ
      (prog X.A (rows X.A is) (slot X.V il hq) (slot X.V io hq') (fun b k => slot X.V (iv b k) hq') ha hs hl ho hv p p' X.q) Q := by
  subst hQ
  unfold prog Plan.start
  rw [opened, all, all, show (plan X m).far = {some (1, 0, 0), some (1, 0, 1), some (1, 0, 2), some (1, 1, 0), some (1, 1, 1), some (1, 1, 2)} from rfl, fars]
  iintro ⟨#HK, #HL, ⟨R0, R1, R2, Q0, Q1, Q2⟩, ⟨Tl, Ts0, Ts1, Ts2, Tp0, Tp1, Tp2, Tr0, Tr1, Tr2, Tq0, Tq1, Tq2⟩,
    ⟨Pl, Ps0, Ps1, Ps2, Pp0, Pp1, Pp2, Pr0, Pr1, Pr2, Pq0, Pq1, Pq2⟩, Ho, A, Dl, D0, D1, D2, E0, E1, E2⟩
  ihave A := (shares X m c).1 $$ A
  icases A with ⟨Sl, ⟨S0, N0⟩, ⟨S1, N1⟩, S2, N2⟩
  have snd := send X m (defs := defs) c io is hq' (hs := hs) (ho := ho) eo es hp
  have pss := pass X m (defs := defs) c iv hq' (hv := hv) ev hp'
  iapply (copy X m (defs := defs) c il hq (ha := ha) (hl := hl) el) $$ [Sl Dl Tl]
  · isplitr; · iexact HK
    iframe
  iintro Cl
  iapply (snd 0 1 rfl {some (1, 0, 0), some (1, 0, 1), some (1, 0, 2), some (1, 1, 0), some (1, 1, 1), some (1, 1, 2)} {some (1, 0, 1), some (1, 0, 2), some (1, 1, 0), some (1, 1, 1), some (1, 1, 2)} (by decide) (by decide)) $$ [S0 D0 Ho Ts0 Tr0]
  · iframe
    iexact HK
  iintro ⟨Cs0, Ho⟩
  iapply (snd 1 2 rfl {some (1, 0, 1), some (1, 0, 2), some (1, 1, 0), some (1, 1, 1), some (1, 1, 2)} {some (1, 0, 2), some (1, 1, 0), some (1, 1, 1), some (1, 1, 2)} (by decide) (by decide)) $$ [S1 D1 Ho Ts1 Tr1]
  · iframe
    iexact HK
  iintro ⟨Cs1, Ho⟩
  iapply (snd 2 3 rfl {some (1, 0, 2), some (1, 1, 0), some (1, 1, 1), some (1, 1, 2)} {some (1, 1, 0), some (1, 1, 1), some (1, 1, 2)} (by decide) (by decide)) $$ [S2 D2 Ho Ts2 Tr2]
  · iframe
    iexact HK
  iintro ⟨Cs2, Ho⟩
  iapply (pss 0 {some (1, 1, 0), some (1, 1, 1), some (1, 1, 2)} {some (1, 1, 1), some (1, 1, 2)} (by decide) (by decide) (by decide)) $$ [R0 Pr0 E0 Ho Tp0 Tq0]
  · isplitr; · iexact HK
    isplitr; · iexact HL
    iframe
  iintro ⟨Cp0, Zr0, Ho⟩
  iapply (pss 1 {some (1, 1, 1), some (1, 1, 2)} {some (1, 1, 2)} (by decide) (by decide) (by decide)) $$ [R1 Pr1 E1 Ho Tp1 Tq1]
  · isplitr; · iexact HK
    isplitr; · iexact HL
    iframe
  iintro ⟨Cp1, Zr1, Ho⟩
  iapply (pss 2 {some (1, 1, 2)} ∅ (by decide) (by decide) (by decide)) $$ [R2 Pr2 E2 Ho Tp2 Tq2]
  · isplitr; · iexact HK
    isplitr; · iexact HL
    iframe
  iintro ⟨Cp2, Zr2, Ho⟩
  iapply ((plan X m).step_wait Variants.none c (some (1, 1, 0)) (S := ∅) (fun _ hk => absurd hk (Finset.notMem_empty _)) rfl (X.nV _ _) (fun _ => rfl)) $$ [Q0 Ho Pq0]
  · isplitr; · iexact HK
    isplitr; · iexact HL
    iframe
  iintro ⟨Gq0, Zq0, Ho⟩
  iapply ((plan X m).step_wait Variants.none c (some (1, 1, 1)) (S := ∅) (fun _ hk => absurd hk (Finset.notMem_empty _)) rfl (X.nV _ _) (fun _ => rfl)) $$ [Q1 Ho Pq1]
  · isplitr; · iexact HK
    isplitr; · iexact HL
    iframe
  iintro ⟨Gq1, Zq1, Ho⟩
  iapply ((plan X m).step_wait Variants.none c (some (1, 1, 2)) (S := ∅) (fun _ hk => absurd hk (Finset.notMem_empty _)) rfl (X.nV _ _) (fun _ => rfl)) $$ [Q2 Ho Pq2]
  · isplitr; · iexact HK
    isplitr; · iexact HL
    iframe
  iintro ⟨Gq2, Zq2, Ho⟩
  iapply ((plan X m).step_wait Variants.none c (some (0, 0, 0)) (S := ∅) (fun _ hk => absurd hk (Finset.notMem_empty _)) rfl (X.nA _) (fun _ => rfl)) $$ [Cs0 Ho Ps0]
  · isplitr; · iexact HK
    isplitr; · iexact HL
    iframe
  iintro ⟨Gs0, Zs0, Ho⟩
  iapply ((plan X m).step_wait Variants.none c (some (0, 0, 1)) (S := ∅) (fun _ hk => absurd hk (Finset.notMem_empty _)) rfl (X.nA _) (fun _ => rfl)) $$ [Cs1 Ho Ps1]
  · isplitr; · iexact HK
    isplitr; · iexact HL
    iframe
  iintro ⟨Gs1, Zs1, Ho⟩
  iapply ((plan X m).step_wait Variants.none c (some (0, 0, 2)) (S := ∅) (fun _ hk => absurd hk (Finset.notMem_empty _)) rfl (X.nA _) (fun _ => rfl)) $$ [Cs2 Ho Ps2]
  · isplitr; · iexact HK
    isplitr; · iexact HL
    iframe
  iintro ⟨Gs2, Zs2, Ho⟩
  iapply ((plan X m).step_wait Variants.none c (some (0, 1, 0)) (S := ∅) (fun _ hk => absurd hk (Finset.notMem_empty _)) rfl (X.nV _ _) (fun _ => rfl)) $$ [Cp0 Ho Pp0]
  · isplitr; · iexact HK
    isplitr; · iexact HL
    iframe
  iintro ⟨Gp0, Zp0, Ho⟩
  iapply ((plan X m).step_wait Variants.none c (some (0, 1, 1)) (S := ∅) (fun _ hk => absurd hk (Finset.notMem_empty _)) rfl (X.nV _ _) (fun _ => rfl)) $$ [Cp1 Ho Pp1]
  · isplitr; · iexact HK
    isplitr; · iexact HL
    iframe
  iintro ⟨Gp1, Zp1, Ho⟩
  iapply ((plan X m).step_wait Variants.none c (some (0, 1, 2)) (S := ∅) (fun _ hk => absurd hk (Finset.notMem_empty _)) rfl (X.nV _ _) (fun _ => rfl)) $$ [Cp2 Ho Pp2]
  · isplitr; · iexact HK
    isplitr; · iexact HL
    iframe
  iintro ⟨Gp2, Zp2, Ho⟩
  iapply ((plan X m).step_wait Variants.none c none (S := ∅) (fun _ hk => absurd hk (Finset.notMem_empty _)) rfl (X.nM _ _) (fun _ => rfl)) $$ [Cl Ho Pl]
  · isplitr; · iexact HK
    isplitr; · iexact HL
    iframe
  iintro ⟨Gl, Zl, Ho⟩
  rw [wp_ret]; imodintro
  unfold Plan.done
  rw [all]
  isplitr [Ho Zl Zs0 Zs1 Zs2 Zp0 Zp1 Zp2 Zr0 Zr1 Zr2 Zq0 Zq1 Zq2]
  · iapply (finish X m c)
    iframe
  · iframe

end Body

end Cert.Exchange.Gather

end
-- ==== Proof.GatherWhole.lean ====
/-
# The gathering of the chips' matrices, of whole arrays

What the reference makes of the whole argument, index by index, and that it is each device's result.
-/
module

public import proofs.«01_k».proof.Proof.Gather
public import Idealize.ShloMosaic.Lib.ValueIdxRank6

@[expose] public section

set_option Elab.async false

noncomputable section

namespace Cert.Exchange.Gather

open Idealize.ShloMosaic
open Idealize.ShloMosaic.TcCoe Idealize.ShloMosaic.ValueIdx

variable {α : Type} {n h w v : ℕ}

/-- What the reference asks of the shapes, `v` being the whole argument's columns. -/
structure Shapes (n w v : ℕ) : Prop where
  e₁ : (⟨2, ![n, v]⟩ : Shape).ShapeCasts ⟨3, ![n, 4, w]⟩
  e₂ : (⟨3, ![n, 4, w]⟩ : Shape).Transposes [1, 0, 2] ⟨3, ![4, n, w]⟩
  hv : v = 4 * w
  t : Layout.TilesN ⟨2, ![n, w]⟩ ⟨2, ![n, v]⟩ fun b => Layout.cutSize [2, 2, 2] ((![[], [0, 1]] : Fin 2 → List ℕ) b)

variable (S : Shapes n w v)

theorem col_lt (hv : v = 4 * w) (p : Fin 4) (y : Fin w) : p.val * w + y.val < v := by
  have hp := p.isLt
  have hy := y.isLt
  have h1 : (p.val + 1) * w ≤ 4 * w := Nat.mul_le_mul_right _ (by omega)
  rw [Nat.succ_mul] at h1
  omega

/-- The reference's result, of the whole argument. -/
def whole (W : (⟨2, ![n, v]⟩ : Shape).Idx → α) : (⟨3, ![4, n, w]⟩ : Shape).Idx → α :=
  transpose _ [1, 0, 2] (shapeCast ⟨3, ![n, 4, w]⟩ W S.e₁) S.e₂

theorem whole_at (W : (⟨2, ![n, v]⟩ : Shape).Idx → α) (p : Fin 4) (x : Fin n) (y : Fin w) :
    whole S W (ix3 p x y) = W (ix2 x ⟨p.val * w + y.val, col_lt S.hv p y⟩) := by
  refine (transpose_apply _ _ _ _ (ix3 x p y) ?_).trans (shapeCast_apply _ _ _ (ix2 x ⟨p.val * w + y.val, col_lt S.hv p y⟩) ?_)
  · intro b
    fin_cases b <;> rfl
  · rw [Shape.rowMajor_val_three, Shape.rowMajor_val_two]
    show x.val * v + (p.val * w + y.val) = (x.val * 4 + p.val) * w + y.val
    rw [S.hv, Nat.add_mul, Nat.mul_assoc, Nat.add_assoc]

theorem lin : ∀ c : Fin 8, Layout.meshLin [2, 2, 2] c.val [] = 0
    ∧ Layout.meshLin [2, 2, 2] c.val [0, 1] = (chip c).val := by decide

/-- A device's block of the whole argument. -/
theorem block_at (W : (⟨2, ![n, v]⟩ : Shape).Idx → α) (c : Fin 8) (x : Fin n) (y : Fin w) :
    Layout.blockN ⟨2, ![n, w]⟩ ⟨2, ![n, v]⟩ (Layout.meshBlock [2, 2, 2] ![[], [0, 1]] c) W S.t (ix2 x y) = W (ix2 x ⟨(chip c).val * w + y.val, col_lt S.hv _ y⟩) := by
  refine congrArg W (funext fun b => Fin.ext ?_)
  fin_cases b
  · show Layout.meshLin [2, 2, 2] c.val [] * n + x.val = x.val
    rw [(lin c).1, Nat.zero_mul, Nat.zero_add]
  · show Layout.meshLin [2, 2, 2] c.val [0, 1] * w + y.val = (chip c).val * w + y.val
    rw [(lin c).2]

theorem who_chip (d : Fin 8) (i : (⟨3, ![4, n, w]⟩ : Shape).Idx) : chip (who d (key h d i)) = i 0 := by
  unfold key
  split
  · next H => exact Fin.ext ((rel_iff d (i 0) 0).mp H).symm
  · next H =>
    have hk := (rel_iff d (i 0) _).mp (Fin.succ_pred _ H).symm
    split
    · exact Fin.ext hk.symm
    · exact Fin.ext ((chip_hop_sib _ d).trans hk.symm)

/-- The result of each device, from the arguments of the others, is the whole result. -/
theorem value (W : (⟨2, ![n, v]⟩ : Shape).Idx → α) (a : Fin 8 → (⟨2, ![n, w]⟩ : Shape).Idx → α)
    (ha : ∀ c, a c = Layout.blockN ⟨2, ![n, w]⟩ ⟨2, ![n, v]⟩ (Layout.meshBlock [2, 2, 2] ![[], [0, 1]] c) W S.t) (c : Fin 8) :
    (fun i : (⟨3, ![4, n, w]⟩ : Shape).Idx => a (who c (key h c i)) (ix2 (i 1) (i 2))) = whole S W := by
  funext i
  obtain ⟨p, x, y, rfl⟩ : ∃ (p : Fin 4) (x : Fin n) (y : Fin w), i = ix3 p x y := ⟨i 0, i 1, i 2, eq_ix3 i⟩
  refine (congrFun (ha _) (ix2 x y)).trans ((block_at S W _ x y).trans ((whole_at S W p x y).trans ?_).symm)
  refine congrArg (fun q : Fin 4 => W (ix2 x ⟨q.val * w + y.val, col_lt S.hv q y⟩)) ?_
  exact (who_chip (h := h) c (ix3 p x y)).symm

end Cert.Exchange.Gather

end
-- ==== Proof.GatherIn.lean ====
/-
# The gathering of the chips' matrices, of w_in

The run of `GatherIdeal`, over any values, and its result; the same of `Gather`.
-/
module

public import proofs.«01_k».proof.Proof.GatherWhole
public import proofs.«01_k».proof.Proof.Gen.GatherIdeal.Launch
public import proofs.«01_k».proof.Proof.Gen.GatherIdeal.Skeleton
public import proofs.«01_k».proof.Proof.Gen.GatherIdeal.Points
public import proofs.«01_k».proof.Proof.Gen.GatherRefIdeal.Run
public import proofs.«01_k».proof.Proof.Gen.Gather.Launch
public import proofs.«01_k».proof.Proof.Gen.GatherRef
public import proofs.«01_k».proof.Defs

@[expose] public section

set_option Elab.async false

noncomputable section

namespace Cert.GatherIdeal.Run

open Cert.GatherIdeal Cert.GatherIdeal.Gen Cert.Exchange
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

/-- The semaphores. -/
def sems : Gather.K → DmaSem sig
  | none => cc0_scratch2.sem
  | some (i, b, k) => nth (if i = 0 then cc0_scratch0 else cc0_scratch1) ⟨3 * b.val + k.val, by omega⟩

theorem own_facts : OwnSemFacts cfg0.spec fun k => .dma (sems k) := by decide

/-- The arrays. -/
def site : Gather.Site sig .bf16 8192 4096 1668 where
  A := Memref.whole main_arg0
  V := Memref.whole main_v1
  hA := View.set_whole _
  hV := View.set_whole _
  two := rfl
  q := sems
  inj := by decide
  M := (slot (h' := 8192) (Memref.whole main_v1) (off := k0_off1 0) (k0_off1_inb 0) squeezes_S1x8192x1668_S8192x1668).view.dmaCredit
  N := (slot (h' := 4096) (Memref.whole main_v1) (off := k0_off2 0) (k0_off2_inb 0) squeezes_S1x4096x1668_S4096x1668).view.dmaCredit
  posM := View.dmaCredit_pos _ (by decide)
  posN := View.dmaCredit_pos _ (by decide)
  nM _ _ := rfl
  nA _ := rfl
  nV _ _ := rfl

variable (m : (ℓ : Loc nD τ sig) → Buf (Elt F) ℓ)

theorem off_own : ∀ c : Dev nD, k0_off1 c = ![(chip c).val, 0, 0] := by decide +kernel
theorem off_sent : ∀ c : Dev nD, k0_off2 c = ![(chip c).val, Gather.row 4096 c 0, 0] := by decide +kernel
theorem off_src : ∀ c : Dev nD, k0_off3 c = ![Gather.row 4096 c 0, 0] := by decide +kernel
theorem offs : ∀ (c : Dev nD) (b : Fin 2) (k : Fin 3), (![![k0_off4 c, k0_off5 c, k0_off6 c], ![k0_off7 c, k0_off8 c, k0_off9 c]] : Fin 2 → Fin 3 → Fin 3 → ℕ) b k
    = ![(chip (hop k.succ c)).val, Gather.row 4096 c b, 0] := by
  decide +kernel
theorem devs : ∀ (c : Dev nD) (k : Fin 3), (![⟨k0_dev1 c, k0_dev1_lt c⟩, ⟨k0_dev2 c, k0_dev2_lt c⟩, ⟨k0_dev3 c, k0_dev3_lt c⟩] : Fin 3 → Dev nD) k = hop k.succ c := by
  decide +kernel
theorem devs' : ∀ (c : Dev nD) (k : Fin 3), (![⟨k0_dev4 c, k0_dev4_lt c⟩, ⟨k0_dev5 c, k0_dev5_lt c⟩, ⟨k0_dev6 c, k0_dev6_lt c⟩] : Fin 3 → Dev nD) k = sib c := by
  decide +kernel

attribute [local irreducible] k0_off1 k0_off2 k0_off3 k0_off4 k0_off5 k0_off6 k0_off7 k0_off8 k0_off9 k0_dev1 k0_dev2 k0_dev3 k0_dev4 k0_dev5 k0_dev6 Gather.key Gather.who

set_option maxHeartbeats 1000000 in
theorem body (c : Dev nD) (t : Fin cfg0.N) :
    (Gather.plan site m).start (Gather.B site m) c ⊢ wp frame (wpE (defs₀ (F := F)) Variants.none (c.tc : Thread nD τ) none) Set.univ (bodyAt0 (F := F) t)
      fun _ => (Gather.plan site m).done (Gather.Y site m) c := by
  have wA : (Memref.whole main_arg0).IsWhole := Memref.isWhole_whole _
  have wV : (Memref.whole main_v1).IsWhole := Memref.isWhole_whole _
  have H := Gather.body (Λ := Λ₀) (defs := defs₀ (F := F)) site m c
    (ov := ![![k0_off4 c, k0_off5 c, k0_off6 c], ![k0_off7 c, k0_off8 c, k0_off9 c]]) (k0_off1_inb c) (k0_off2_inb c) (k0_off3_inb c)
    (fun b k => by fin_cases b <;> fin_cases k <;> [exact k0_off4_inb c; exact k0_off5_inb c; exact k0_off6_inb c; exact k0_off7_inb c; exact k0_off8_inb c; exact k0_off9_inb c])
    squeezes_S1x8192x1668_S8192x1668 squeezes_S1x4096x1668_S4096x1668
    (ha := wA.wordExact) (hs := wA.wordExact_slice rfl _ (k0_off3_wordsbf16 c))
    (hl := (wV.wordExact_slice rfl _ (k0_off1_wordsbf16 c)).reshape _ _) (ho := (wV.wordExact_slice rfl _ (k0_off2_wordsbf16 c)).reshape _ _)
    (hv := fun b k => by
      fin_cases b <;> fin_cases k <;> [exact (wV.wordExact_slice rfl _ (k0_off4_wordsbf16 c)).reshape _ _; exact (wV.wordExact_slice rfl _ (k0_off5_wordsbf16 c)).reshape _ _;
        exact (wV.wordExact_slice rfl _ (k0_off6_wordsbf16 c)).reshape _ _; exact (wV.wordExact_slice rfl _ (k0_off7_wordsbf16 c)).reshape _ _;
        exact (wV.wordExact_slice rfl _ (k0_off8_wordsbf16 c)).reshape _ _; exact (wV.wordExact_slice rfl _ (k0_off9_wordsbf16 c)).reshape _ _])
    (p := ![⟨k0_dev1 c, k0_dev1_lt c⟩, ⟨k0_dev2 c, k0_dev2_lt c⟩, ⟨k0_dev3 c, k0_dev3_lt c⟩]) (p' := ![⟨k0_dev4 c, k0_dev4_lt c⟩, ⟨k0_dev5 c, k0_dev5_lt c⟩, ⟨k0_dev6 c, k0_dev6_lt c⟩])
    (off_own c) (off_sent c) (off_src c) (offs c) (devs c) (devs' c) _ rfl
  refine H.trans (Entails.of_eq ?_)
  clear H
  unfold bodyAt0
  rw [cc0_gather_w_in_eq_skeleton]; unfold cc0_gather_w_in_skel
  rw [k0_part7_eq_skeleton]; unfold k0_part7_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [Prog.lift, Prog.bind_op, Prog.bind_ret, Prog.pure_eq_ret, wp_deviceId]
  unfold Gather.prog
  simp only []
  congr 1

theorem ends (g : Dev nD → PrngReg) : Ends (defs (F := F)) main m g main_arg0 main_v1 (Gather.g site m) :=
  (funext fun c => fill_whole main_v1 c _ _ : Gather.G site m = Gather.g site m) ▸ (Gather.plan site m).run_ends cfgs 0 cellOf_inj winFacts0.to₀ own_facts defs₀ m g main (fun _ => rfl) (fun _ => ⟨fun w => w.elim0⟩) N_0 scopedRest0_eq
    (View.whole main_arg0) (View.whole main_v1) (by decide) (by decide) (View.set_whole _) (by decide) (Gather.key 4096) Gather.writer _ (body m)

theorem shapes : Gather.Shapes 8192 1668 6672 := by constructor <;> decide

end Cert.GatherIdeal.Run

namespace Cert.Proof

open Idealize.ShloMosaic Cert.Exchange GatherIdeal.Run

theorem quiescent_Gather : Cert.quiescent_Gather := fun m g _ => (ends (F := Bits) m g).frame
theorem quiescent_GatherIdeal : Cert.quiescent_GatherIdeal := fun m g _ => (ends (F := Ideal) m g).frame
theorem quiescent_GatherRef : Cert.quiescent_GatherRef := fun m g _ => (ends_of_no_sems (by decide) (GatherRefIdeal.Value.run (F := Bits) m g)).frame
theorem quiescent_GatherRefIdeal : Cert.quiescent_GatherRefIdeal := fun m g _ => (ends_of_no_sems (by decide) (GatherRefIdeal.Value.run (F := Ideal) m g)).frame
theorem algebraic_Gather : Cert.algebraic_GatherIdeal_GatherRefIdeal := fun m g m' g' _ h =>
  (ends (F := Ideal) m g).agree (ends_of_no_sems (by decide) (GatherRefIdeal.Value.run m' g')) (cut := fun _ w => w) (Gather.value shapes _ _ h)
theorem bitexact_Gather : Cert.bitexact_Gather_GatherRef := fun m g m' g' _ h =>
  (ends (F := Bits) m g).agree (ends_of_no_sems (by decide) (GatherRefIdeal.Value.run m' g')) (cut := fun _ w => w) (Gather.value shapes _ _ h)

end Cert.Proof

end
-- ==== Proof.Pair.lean ====
/-
# The exchange within a chip

A kernel over a stack `A` of four pairs of matrices and a stack `V` of four matrices: of every pair it copies the matrix
of the sibling's core to the sibling. `body`, for any such arrays: it ends with `V` holding, of each pair of the sibling's
`A`, the matrix of the device's own core.
-/
module

public import proofs.«01_k».proof.Proof.Ends

@[expose] public section

set_option Elab.async false

noncomputable section

namespace Cert.Exchange.Pair

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline

variable {sig : RefSig} {Val : EltTy → Type} {Λ : Idealize.SL.Sem.Labels} {e : EltTy} {h w : ℕ}

local notation "𝕄" => MT 8 Topo.v7x sig Unit Val ℕ (UU 8 Topo.v7x sig) ℕ

/-- The semaphores: sent (`0`) and received (`1`), of each pair. -/
abbrev K := Fin 2 × Fin 4

/-- The arrays and semaphores of such a kernel. -/
structure Site (sig : RefSig) (e : EltTy) (h w : ℕ) where
  A : Memref sig .tc .hbm ⟨4, ![4, 2, h, w]⟩ e
  V : Memref sig .tc .hbm ⟨3, ![4, h, w]⟩ e
  hA : A.view.set = Finset.univ
  hV : V.view.set = Finset.univ
  q : K → DmaSem sig
  inj : Function.Injective q
  /-- the units one matrix brings -/
  N : ℕ
  pos : 0 < N
  nA : ∀ {off : Fin 4 → ℕ} inb hq, (slot₂ A (off := off) inb hq).view.dmaCredit = N
  nV : ∀ {off : Fin 3 → ℕ} inb hq, (slot (h' := h) V (off := off) inb hq).view.dmaCredit = N

/-- The kernel: its sends, then its waits, in the order of the pairs. -/
def prog (s : Fin 4 → Memref sig .tc .hbm ⟨2, ![h, w]⟩ e) (o : Fin 4 → Memref sig .tc .hbm ⟨2, ![h, w]⟩ e)
    (hs : ∀ j, (s j).view.WordExact) (ho : ∀ j, (o j).view.WordExact) (p : Fin 4 → Dev 8) (q : K → DmaSem sig) :
    Prog (TpuEff 8 Topo.v7x sig Val Λ .tc) PUnit :=
  let send (j : Fin 4) (k : PUnit → Prog (TpuEff 8 Topo.v7x sig Val Λ .tc) PUnit) : Prog (TpuEff 8 Topo.v7x sig Val Λ .tc) PUnit :=
    .op (.enqueueDma (s j) (.remote (Dev.tc (p j)) (o j) (.dma (q (0, j)))) (.dma (q (1, j))) (hs j) (ho j) ⟨⟨rfl, Or.inl rfl⟩, trivial⟩) k
  let wait (j : Fin 4) (k : PUnit → Prog (TpuEff 8 Topo.v7x sig Val Λ .tc) PUnit) : Prog (TpuEff 8 Topo.v7x sig Val Λ .tc) PUnit :=
    .op (.waitDma2 (q (0, j)) (o j) (s j) (ho j) (hs j)) fun _ => .op (.waitDma2 (q (1, j)) (s j) (o j) (hs j) (ho j)) k
  send 0 fun _ => send 1 fun _ => send 2 fun _ => send 3 fun _ => wait 0 fun _ => wait 1 fun _ => wait 2 fun _ => wait 3 fun _ => .ret ⟨⟩

variable (X : Site sig e h w) (m : (ℓ : Loc 8 Topo.v7x sig) → Buf Val ℓ)

/-- The result of device `d`, by its elements and as contents of `V`. -/
def g (d : Dev 8) (i : (⟨3, ![4, h, w]⟩ : Shape).Idx) : Val e :=
  X.A.view.read Val (m (X.A.view.loc (Dev.tc (sib d) : Thread 8 Topo.v7x))) (ix4 (i 0) (own d) (i 1) (i 2))
def G (d : Dev 8) : Buf Val (X.V.view.loc (d.tc : Thread 8 Topo.v7x)) := fill X.V.view d (m (X.V.view.loc (d.tc : Thread 8 Topo.v7x))) (g X m d)

/-- What becomes of an element of the argument: sent with its pair, or kept. -/
def sent (d : Dev 8) (i : (⟨4, ![4, 2, h, w]⟩ : Shape).Idx) : Option (Fin 4) := if (i 1).val = d.val % 2 then none else some (i 0)
/-- The matrix an element of the result is in. -/
def got (i : (⟨3, ![4, h, w]⟩ : Shape).Idx) : Fin 4 := i 0

theorem sent_some (d : Dev 8) (j : Fin 4) (i : (⟨4, ![4, 2, h, w]⟩ : Shape).Idx) :
    sent d i = some j ↔ (i 0).val = j.val ∧ (i 1).val = (own (sib d)).val := by
  have h1 : (i 1).val < 2 := (i 1).isLt
  have hd : (own (sib d)).val = 1 - d.val % 2 := sib_core d
  unfold sent
  split <;> rename_i hi
  · exact ⟨fun h => absurd h (by simp), fun h => by omega⟩
  · exact ⟨fun h => ⟨congrArg Fin.val (Option.some.inj h), by omega⟩, fun h => congrArg some (Fin.ext h.1)⟩

theorem got_iff (j : Fin 4) (i : (⟨3, ![4, h, w]⟩ : Shape).Idx) : got i = j ↔ (i 0).val = j.val ∧ 0 ≤ (i 1).val ∧ (i 1).val < 0 + h := by
  have h1 : (i 1).val < h := (i 1).isLt
  unfold got
  exact ⟨fun hj => ⟨congrArg Fin.val hj, Nat.zero_le _, by omega⟩, fun hj => Fin.ext hj.1⟩

/-- A part of the argument, and a matrix of the result at its final contents. -/
def src (t : Option (Fin 4)) (c : Dev 8) : sProp 𝕄 :=
  X.A.view.loc (c.tc : Thread 8 Topo.v7x) ↦[reg X.A.view (sent c) t]{fullShare} m (X.A.view.loc (c.tc : Thread 8 Topo.v7x))
def fin (j : Fin 4) (c : Dev 8) : sProp 𝕄 := X.V.view.loc (c.tc : Thread 8 Topo.v7x) ↦[reg X.V.view got j]{fullShare} G X m c

/-- The plan: a send hands its source back; it brings the sibling a matrix of its result. -/
def plan : Plan 8 Topo.v7x sig Val K where
  osem k := .dma (X.q k)
  inj k k' hk := X.inj (SemLoc.dma.inj hk)
  amt _ := X.N
  amt_pos _ := X.pos
  dest k := if k.1 = 0 then Equiv.refl _ else sib
  far := {(1, 0), (1, 1), (1, 2), (1, 3)}
  lvl _ := 0
  pay c k := if k.1 = 0 then src X m (some k.2) c else fin X m k.2 c
  sto c k := by
    unfold src fin
    split <;> infer_instance

theorem eight (Φ : K → sProp 𝕄) :
    bigSep Finset.univ Φ = iprop(Φ (0, 0) ∗ Φ (0, 1) ∗ Φ (0, 2) ∗ Φ (0, 3) ∗ Φ (1, 0) ∗ Φ (1, 1) ∗ Φ (1, 2) ∗ Φ (1, 3)) :=
  bigSep_eq_bigSepL_of_eq [(0, 0), (0, 1), (0, 2), (0, 3), (1, 0), (1, 1), (1, 2), (1, 3)] (by decide) (by decide) Φ
theorem four (Φ : Fin 4 → sProp 𝕄) : bigSep Finset.univ Φ = iprop(Φ 0 ∗ Φ 1 ∗ Φ 2 ∗ Φ 3) :=
  bigSep_eq_bigSepL_of_eq [0, 1, 2, 3] (by decide) (by decide) Φ
theorem five (Φ : Option (Fin 4) → sProp 𝕄) : bigSep Finset.univ Φ = iprop(Φ none ∗ Φ (some 0) ∗ Φ (some 1) ∗ Φ (some 2) ∗ Φ (some 3)) :=
  bigSep_eq_bigSepL_of_eq [none, some 0, some 1, some 2, some 3] (by decide) (by decide) Φ

theorem fars (Φ : K → sProp 𝕄) : bigSep {(1, 0), (1, 1), (1, 2), (1, 3)} Φ = iprop(Φ (1, 0) ∗ Φ (1, 1) ∗ Φ (1, 2) ∗ Φ (1, 3)) :=
  bigSep_eq_bigSepL_of_eq [(1, 0), (1, 1), (1, 2), (1, 3)] (by decide) (by decide) Φ

/-- What a device's kernel starts from: its argument, and its sibling's result to write. -/
def B (c : Dev 8) : sProp 𝕄 :=
  iprop((X.A.view.loc (c.tc : Thread 8 Topo.v7x) ↦[Finset.univ]{fullShare} m (X.A.view.loc (c.tc : Thread 8 Topo.v7x)))
    ∗ bigSep Finset.univ fun j => X.V.view.loc (Dev.tc (sib c) : Thread 8 Topo.v7x) ↦[reg X.V.view got j]{fullShare} m (X.V.view.loc (Dev.tc (sib c) : Thread 8 Topo.v7x)))

/-- What it ends with: its argument, and its whole result. -/
def Y (c : Dev 8) : sProp 𝕄 :=
  iprop((X.A.view.loc (c.tc : Thread 8 Topo.v7x) ↦[Finset.univ]{fullShare} m (X.A.view.loc (c.tc : Thread 8 Topo.v7x)))
    ∗ (X.V.view.loc (c.tc : Thread 8 Topo.v7x) ↦[Finset.univ]{fullShare} G X m c))

theorem finish (c : Dev 8) : iprop(src X m none c ∗ ((plan X m).pay c (0, 0) ∗ (plan X m).pay c (0, 1) ∗ (plan X m).pay c (0, 2) ∗ (plan X m).pay c (0, 3))
    ∗ (plan X m).pay c (1, 0) ∗ (plan X m).pay c (1, 1) ∗ (plan X m).pay c (1, 2) ∗ (plan X m).pay c (1, 3)) ⊢ Y X m c := by
  show iprop(src X m none c ∗ (src X m (some 0) c ∗ src X m (some 1) c ∗ src X m (some 2) c ∗ src X m (some 3) c)
    ∗ fin X m 0 c ∗ fin X m 1 c ∗ fin X m 2 c ∗ fin X m 3 c) ⊢ _
  unfold Y src fin
  rw [regs X.A.view X.hA (sent c), regs X.V.view X.hV got, five, four]
  iintro ⟨H, ⟨H0, H1, H2, H3⟩, HV⟩
  isplitr [HV]
  · iframe
  · iexact HV

section Body

variable {defs : Defs 8 Topo.v7x sig Val Λ} (c : Dev 8) {off : Fin 4 → Fin 4 → ℕ} {off' : Fin 4 → Fin 3 → ℕ}
  (inb : ∀ (j : Fin 4) (a : Fin 4), off j a + (![1, 1, h, w] : Fin 4 → ℕ) a ≤ (![4, 2, h, w] : Fin 4 → ℕ) a)
  (inb' : ∀ (j : Fin 4) (a : Fin 3), off' j a + (![1, h, w] : Fin 3 → ℕ) a ≤ (![4, h, w] : Fin 3 → ℕ) a)
  (hq : (⟨4, ![1, 1, h, w]⟩ : Shape).Squeezes ⟨2, ![h, w]⟩) (hq' : (⟨3, ![1, h, w]⟩ : Shape).Squeezes ⟨2, ![h, w]⟩)
  {hs : ∀ j, (slot₂ X.A (inb j) hq).view.WordExact} {ho : ∀ j, (slot X.V (inb' j) hq').view.WordExact} {p : Fin 4 → Dev 8}
  (hoff : ∀ j, off j = ![j.val, (own (sib c)).val, 0, 0]) (hoff' : ∀ j, off' j = ![j.val, 0, 0]) (hp : ∀ j, p j = sib c)

include hoff hoff' hp in
theorem send (j : Fin 4) (S S' : Finset K) (hS : (1, j) ∈ S) (hS' : S.erase (1, j) = S') {f : PUnit → Prog (TpuEff 8 Topo.v7x sig Val Λ .tc) PUnit} {Q : PUnit → sProp 𝕄} :
    iprop((plan X m).known ∗ src X m (some j) c
        ∗ (X.V.view.loc (Dev.tc (sib c) : Thread 8 Topo.v7x) ↦[reg X.V.view got j]{fullShare} m (X.V.view.loc (Dev.tc (sib c) : Thread 8 Topo.v7x)))
        ∗ (plan X m).owing S c ∗ (plan X m).tok c (0, j) ∗ (plan X m).tok c (1, j))
      ⊢ iprop((((plan X m).credit c (0, j) ∗ (plan X m).owing S' c) -∗ wp frame (wpE defs Variants.none (c.tc : Thread 8 Topo.v7x) none) Set.univ (f ⟨⟩) Q)
          -∗ wp frame (wpE defs Variants.none (c.tc : Thread 8 Topo.v7x) none) Set.univ
              (.op (.enqueueDma (slot₂ X.A (inb j) hq) (.remote (Dev.tc (p j)) (slot X.V (inb' j) hq') (.dma (X.q (0, j)))) (.dma (X.q (1, j))) (hs j) (ho j) ⟨⟨rfl, Or.inl rfl⟩, trivial⟩) f) Q) := by
  subst hS'
  exact (plan X m).put_send Variants.none (src := slot₂ X.A (inb j) hq) (dst := slot X.V (inb' j) hq') c (0, j) (1, j) rfl (sib c) rfl hS (hp j) rfl rfl
    fullShare (m (X.A.view.loc (c.tc : Thread 8 Topo.v7x))) (m (X.V.view.loc (Dev.tc (sib c) : Thread 8 Topo.v7x))) (G X m (sib c)) (X.nV _ _) rfl
    (slot₂_set X.A (inb j) hq (hoff j) (sent c) (some j) (sent_some c j)) (slot_set X.V (inb' j) hq' (hoff' j) got j (got_iff j))
    (by
      funext x
      rw [slot_read X.V (inb' j) hq' (hoff' j), slot₂_read X.A (inb j) hq (hoff j)]
      unfold G
      rw [read_fill]
      show X.A.view.read Val (m (X.A.view.loc (Dev.tc (sib (sib c)) : Thread 8 Topo.v7x))) (ix4 j (own (sib c)) ⟨0 + (x 0).val, _⟩ (x 1)) = _
      rw [sib_sib]
      congr 2
      exact Fin.ext (Nat.zero_add _))
    (Entails.refl _) (Entails.refl _)

include hoff hoff' hp in
theorem body (Q : PUnit → sProp 𝕄) (hQ : Q = fun _ => (plan X m).done (Y X m) c) :
    (plan X m).start (B X m) c ⊢ wp frame (wpE defs Variants.none (c.tc : Thread 8 Topo.v7x) none) Set.univ
      (prog (fun j => slot₂ X.A (inb j) hq) (fun j => slot X.V (inb' j) hq') hs ho p X.q) Q := by
  subst hQ
  unfold prog Plan.start B
  rw [eight, eight, four, regs X.A.view X.hA (sent c), five, show (plan X m).far = {(1, 0), (1, 1), (1, 2), (1, 3)} from rfl, fars]
  iintro ⟨#HK, #HL, ⟨Hr0, Hr1, Hr2, Hr3⟩, ⟨Ts0, Ts1, Ts2, Ts3, Tr0, Tr1, Tr2, Tr3⟩, ⟨Ps0, Ps1, Ps2, Ps3, Pr0, Pr1, Pr2, Pr3⟩, Ho, ⟨HA, S0, S1, S2, S3⟩, D0, D1, D2, D3⟩
  have snd := send X m (defs := defs) c inb inb' hq hq' (hs := hs) (ho := ho) hoff hoff' hp
  unfold src at snd
  iapply (snd 0 {(1, 0), (1, 1), (1, 2), (1, 3)} {(1, 1), (1, 2), (1, 3)} (by decide) (by decide)) $$ [S0 D0 Ho Ts0 Tr0]
  · iframe
    iexact HK
  iintro ⟨Cs0, Ho⟩
  iapply (snd 1 {(1, 1), (1, 2), (1, 3)} {(1, 2), (1, 3)} (by decide) (by decide)) $$ [S1 D1 Ho Ts1 Tr1]
  · iframe
    iexact HK
  iintro ⟨Cs1, Ho⟩
  iapply (snd 2 {(1, 2), (1, 3)} {(1, 3)} (by decide) (by decide)) $$ [S2 D2 Ho Ts2 Tr2]
  · iframe
    iexact HK
  iintro ⟨Cs2, Ho⟩
  iapply (snd 3 {(1, 3)} ∅ (by decide) (by decide)) $$ [S3 D3 Ho Ts3 Tr3]
  · iframe
    iexact HK
  iintro ⟨Cs3, Ho⟩
  iapply ((plan X m).step_wait Variants.none c (0, 0) (S := ∅) (fun _ hk => absurd hk (Finset.notMem_empty _)) rfl (X.nA _ _) (fun _ => rfl)) $$ [Cs0 Ho Ps0]
  · isplitr; · iexact HK
    isplitr; · iexact HL
    iframe
  iintro ⟨Gs0, Zs0, Ho⟩
  iapply ((plan X m).step_wait Variants.none c (1, 0) (S := ∅) (fun _ hk => absurd hk (Finset.notMem_empty _)) rfl (X.nV _ _) (fun _ => rfl)) $$ [Hr0 Ho Pr0]
  · isplitr; · iexact HK
    isplitr; · iexact HL
    iframe
  iintro ⟨Gr0, Zr0, Ho⟩
  iapply ((plan X m).step_wait Variants.none c (0, 1) (S := ∅) (fun _ hk => absurd hk (Finset.notMem_empty _)) rfl (X.nA _ _) (fun _ => rfl)) $$ [Cs1 Ho Ps1]
  · isplitr; · iexact HK
    isplitr; · iexact HL
    iframe
  iintro ⟨Gs1, Zs1, Ho⟩
  iapply ((plan X m).step_wait Variants.none c (1, 1) (S := ∅) (fun _ hk => absurd hk (Finset.notMem_empty _)) rfl (X.nV _ _) (fun _ => rfl)) $$ [Hr1 Ho Pr1]
  · isplitr; · iexact HK
    isplitr; · iexact HL
    iframe
  iintro ⟨Gr1, Zr1, Ho⟩
  iapply ((plan X m).step_wait Variants.none c (0, 2) (S := ∅) (fun _ hk => absurd hk (Finset.notMem_empty _)) rfl (X.nA _ _) (fun _ => rfl)) $$ [Cs2 Ho Ps2]
  · isplitr; · iexact HK
    isplitr; · iexact HL
    iframe
  iintro ⟨Gs2, Zs2, Ho⟩
  iapply ((plan X m).step_wait Variants.none c (1, 2) (S := ∅) (fun _ hk => absurd hk (Finset.notMem_empty _)) rfl (X.nV _ _) (fun _ => rfl)) $$ [Hr2 Ho Pr2]
  · isplitr; · iexact HK
    isplitr; · iexact HL
    iframe
  iintro ⟨Gr2, Zr2, Ho⟩
  iapply ((plan X m).step_wait Variants.none c (0, 3) (S := ∅) (fun _ hk => absurd hk (Finset.notMem_empty _)) rfl (X.nA _ _) (fun _ => rfl)) $$ [Cs3 Ho Ps3]
  · isplitr; · iexact HK
    isplitr; · iexact HL
    iframe
  iintro ⟨Gs3, Zs3, Ho⟩
  iapply ((plan X m).step_wait Variants.none c (1, 3) (S := ∅) (fun _ hk => absurd hk (Finset.notMem_empty _)) rfl (X.nV _ _) (fun _ => rfl)) $$ [Hr3 Ho Pr3]
  · isplitr; · iexact HK
    isplitr; · iexact HL
    iframe
  iintro ⟨Gr3, Zr3, Ho⟩
  rw [wp_ret]; imodintro
  unfold Plan.done
  rw [eight]
  isplitr [Ho Zs0 Zs1 Zs2 Zs3 Zr0 Zr1 Zr2 Zr3]
  · iapply (finish X m c)
    unfold src
    iframe
  · iframe

end Body

end Cert.Exchange.Pair

end
-- ==== Proof.PairWhole.lean ====
/-
# The exchange within a chip, of whole arrays

What the reference makes of the whole argument, index by index, and that each device's result is its block of it.
-/
module

public import proofs.«01_k».proof.Proof.Pair
public import Idealize.ShloMosaic.Lib.ValueIdxRank6

@[expose] public section

set_option Elab.async false

noncomputable section

namespace Cert.Exchange.Pair

open Idealize.ShloMosaic
open Idealize.ShloMosaic.TcCoe Idealize.ShloMosaic.ValueIdx

variable {α : Type} {h w : ℕ}
  (e₁ : (⟨4, ![32, 2, h, w]⟩ : Shape).ShapeCasts ⟨6, ![4, 2, 4, 2, h, w]⟩)
  (e₃ : (⟨6, ![4, 1, 4, 1, h, w]⟩ : Shape).ShapeCasts ⟨4, ![4, 4, h, w]⟩)
  (e₄ : (⟨4, ![4, 4, h, w]⟩ : Shape).BroadcastsInDim ⟨5, ![4, 1, 4, h, w]⟩ (![0, 2, 3, 4] : Fin 4 → Fin 5))

/-- Of the whole argument, the matrices `b` of the pairs of the cores `a`. -/
def half (off : Fin 6 → ℕ) (e₂ : (⟨6, ![4, 2, 4, 2, h, w]⟩ : Shape).Slices off ⟨6, ![4, 1, 4, 1, h, w]⟩) (W : (⟨4, ![32, 2, h, w]⟩ : Shape).Idx → α) :
    (⟨5, ![4, 1, 4, h, w]⟩ : Shape).Idx → α :=
  broadcastInDim ⟨5, ![4, 1, 4, h, w]⟩ ![0, 2, 3, 4] e₄ (shapeCast _ (extractStridedSlice ⟨6, ![4, 1, 4, 1, h, w]⟩ off (shapeCast _ W e₁) e₂) e₃)

theorem half_at (a b : Fin 2) {off : Fin 6 → ℕ} (ho : off = ![0, a.val, 0, b.val, 0, 0]) (e₂ : (⟨6, ![4, 2, 4, 2, h, w]⟩ : Shape).Slices off ⟨6, ![4, 1, 4, 1, h, w]⟩)
    (W : (⟨4, ![32, 2, h, w]⟩ : Shape).Idx → α) (p j : Fin 4) (x : Fin h) (y : Fin w) (J : (⟨4, ![32, 2, h, w]⟩ : Shape).Idx)
    (h0 : (J 0).val = (p.val * 2 + a.val) * 4 + j.val) (h1 : (J 1).val = b.val) (h2 : (J 2).val = x.val) (h3 : (J 3).val = y.val) :
    half e₁ e₃ e₄ off e₂ W (ix5 p (0 : Fin 1) j x y) = W J := by
  subst ho
  refine (broadcastInDim_apply _ _ _ _ (ix4 p j x y) ?_).trans ((shapeCast_apply _ _ _ (ix6 p (0 : Fin 1) j (0 : Fin 1) x y) ?_).trans
    ((extractStridedSlice_apply _ _ _ _ (ix6 p a j b x y) ?_).trans (shapeCast_apply _ _ _ J ?_)))
  · intro i
    have hx := x.isLt
    have hy := y.isLt
    fin_cases i
    · rfl
    · rfl
    · show x.val = if h = 1 then 0 else x.val
      split <;> omega
    · show y.val = if w = 1 then 0 else y.val
      split <;> omega
  · rw [Shape.rowMajor_val_six, Shape.rowMajor_val_four]
    show ((((p.val * 1 + 0) * 4 + j.val) * 1 + 0) * h + x.val) * w + y.val = ((p.val * 4 + j.val) * h + x.val) * w + y.val
    simp only [Nat.mul_one, Nat.add_zero]
  · intro i
    fin_cases i
    · exact (Nat.zero_add _).symm
    · rfl
    · exact (Nat.zero_add _).symm
    · rfl
    · exact (Nat.zero_add _).symm
    · exact (Nat.zero_add _).symm
  · rw [Shape.rowMajor_val_six, Shape.rowMajor_val_four]
    show (((J 0).val * 2 + (J 1).val) * h + (J 2).val) * w + (J 3).val = ((((p.val * 2 + a.val) * 4 + j.val) * 2 + b.val) * h + x.val) * w + y.val
    rw [h0, h1, h2, h3]

/-- The reference's result, of the whole argument. -/
def whole (e₂ : (⟨6, ![4, 2, 4, 2, h, w]⟩ : Shape).Slices ![0, 1, 0, 0, 0, 0] ⟨6, ![4, 1, 4, 1, h, w]⟩)
    (e₂' : (⟨6, ![4, 2, 4, 2, h, w]⟩ : Shape).Slices ![0, 0, 0, 1, 0, 0] ⟨6, ![4, 1, 4, 1, h, w]⟩)
    (e₅ : Shape.Concatenates [⟨5, ![4, 1, 4, h, w]⟩, ⟨5, ![4, 1, 4, h, w]⟩] ⟨5, ![4, 2, 4, h, w]⟩ 1)
    (e₆ : (⟨5, ![4, 2, 4, h, w]⟩ : Shape).ShapeCasts ⟨3, ![32, h, w]⟩) (W : (⟨4, ![32, 2, h, w]⟩ : Shape).Idx → α) : (⟨3, ![32, h, w]⟩ : Shape).Idx → α :=
  shapeCast _ (concatenate ⟨5, ![4, 2, 4, h, w]⟩ 1 [⟨⟨5, ![4, 1, 4, h, w]⟩, half e₁ e₃ e₄ ![0, 1, 0, 0, 0, 0] e₂ W⟩,
    ⟨⟨5, ![4, 1, 4, h, w]⟩, half e₁ e₃ e₄ ![0, 0, 0, 1, 0, 0] e₂' W⟩] e₅) e₆

variable (e₂ : (⟨6, ![4, 2, 4, 2, h, w]⟩ : Shape).Slices ![0, 1, 0, 0, 0, 0] ⟨6, ![4, 1, 4, 1, h, w]⟩)
  (e₂' : (⟨6, ![4, 2, 4, 2, h, w]⟩ : Shape).Slices ![0, 0, 0, 1, 0, 0] ⟨6, ![4, 1, 4, 1, h, w]⟩)
  (e₅ : Shape.Concatenates [⟨5, ![4, 1, 4, h, w]⟩, ⟨5, ![4, 1, 4, h, w]⟩] ⟨5, ![4, 2, 4, h, w]⟩ 1)
  (e₆ : (⟨5, ![4, 2, 4, h, w]⟩ : Shape).ShapeCasts ⟨3, ![32, h, w]⟩)

theorem whole_at (W : (⟨4, ![32, 2, h, w]⟩ : Shape).Idx → α) (p j : Fin 4) (k : Fin 2) (x : Fin h) (y : Fin w)
    (I : (⟨3, ![32, h, w]⟩ : Shape).Idx) (J : (⟨4, ![32, 2, h, w]⟩ : Shape).Idx)
    (i0 : (I 0).val = (p.val * 2 + k.val) * 4 + j.val) (i1 : (I 1).val = x.val) (i2 : (I 2).val = y.val)
    (h0 : (J 0).val = (p.val * 2 + (1 - k.val)) * 4 + j.val) (h1 : (J 1).val = k.val) (h2 : (J 2).val = x.val) (h3 : (J 3).val = y.val) :
    whole e₁ e₃ e₄ e₂ e₂' e₅ e₆ W I = W J := by
  refine (shapeCast_apply _ _ I (ix5 p k j x y) ?_).trans ?_
  · rw [Shape.rowMajor_val_three, Shape.rowMajor_val_five]
    show ((((p.val * 2 + k.val) * 4 + j.val) * h + x.val) * w + y.val) = ((I 0).val * h + (I 1).val) * w + (I 2).val
    rw [i0, i1, i2]
  · obtain rfl | rfl : k = 0 ∨ k = 1 := by omega
    · refine (concatenate_pair_apply_left 1 _ _ e₅ _ rfl (ix5 p (0 : Fin 1) j x y) ?_).trans (half_at e₁ e₃ e₄ 1 0 rfl e₂ W p j x y J h0 h1 h2 h3)
      intro b
      fin_cases b <;> rfl
    · refine (concatenate_pair_apply_right 1 _ _ e₅ (ix5 p (1 : Fin 2) j x y) rfl rfl (ix5 p (0 : Fin 1) j x y) ?_ rfl).trans (half_at e₁ e₃ e₄ 0 1 rfl e₂' W p j x y J h0 h1 h2 h3)
      intro b hb
      fin_cases b
      · rfl
      · exact absurd rfl hb
      · rfl
      · rfl
      · rfl

/-- What the reference asks of the shapes. -/
structure Shapes (h w : ℕ) : Prop where
  e₁ : (⟨4, ![32, 2, h, w]⟩ : Shape).ShapeCasts ⟨6, ![4, 2, 4, 2, h, w]⟩
  e₂ : (⟨6, ![4, 2, 4, 2, h, w]⟩ : Shape).Slices ![0, 1, 0, 0, 0, 0] ⟨6, ![4, 1, 4, 1, h, w]⟩
  e₂' : (⟨6, ![4, 2, 4, 2, h, w]⟩ : Shape).Slices ![0, 0, 0, 1, 0, 0] ⟨6, ![4, 1, 4, 1, h, w]⟩
  e₃ : (⟨6, ![4, 1, 4, 1, h, w]⟩ : Shape).ShapeCasts ⟨4, ![4, 4, h, w]⟩
  e₄ : (⟨4, ![4, 4, h, w]⟩ : Shape).BroadcastsInDim ⟨5, ![4, 1, 4, h, w]⟩ (![0, 2, 3, 4] : Fin 4 → Fin 5)
  e₅ : Shape.Concatenates [⟨5, ![4, 1, 4, h, w]⟩, ⟨5, ![4, 1, 4, h, w]⟩] ⟨5, ![4, 2, 4, h, w]⟩ 1
  e₆ : (⟨5, ![4, 2, 4, h, w]⟩ : Shape).ShapeCasts ⟨3, ![32, h, w]⟩
  t : Layout.Tiles ⟨4, ![4, 2, h, w]⟩ ⟨4, ![32, 2, h, w]⟩ 0 8
  t' : Layout.Tiles ⟨3, ![4, h, w]⟩ ⟨3, ![32, h, w]⟩ 0 8

/-- Each device's result, from its sibling's argument, is its block of the whole. -/
theorem value (S : Shapes h w) (W : (⟨4, ![32, 2, h, w]⟩ : Shape).Idx → α) (a : Fin 8 → (⟨4, ![4, 2, h, w]⟩ : Shape).Idx → α)
    (ha : ∀ c, a c = Layout.block ⟨4, ![4, 2, h, w]⟩ ⟨4, ![32, 2, h, w]⟩ 0 8 c W S.t) (c : Fin 8) :
    (fun i : (⟨3, ![4, h, w]⟩ : Shape).Idx => a (sib c) (ix4 (i 0) (own c) (i 1) (i 2)))
      = Layout.block ⟨3, ![4, h, w]⟩ ⟨3, ![32, h, w]⟩ 0 8 c (whole S.e₁ S.e₃ S.e₄ S.e₂ S.e₂' S.e₅ S.e₆ W) S.t' := by
  funext i
  obtain ⟨j, x, y, rfl⟩ : ∃ (j : Fin 4) (x : Fin h) (y : Fin w), i = ix3 j x y := ⟨i 0, i 1, i 2, eq_ix3 i⟩
  refine (congrFun (ha (sib c)) (ix4 j (own c) x y)).trans ?_
  have hc := sib_core c
  have hd := sib_chip c
  refine (whole_at S.e₁ S.e₃ S.e₄ S.e₂ S.e₂' S.e₅ S.e₆ W ⟨c.val / 2, by omega⟩ j (own c) x y _ _ ?_ rfl rfl ?_ rfl rfl rfl).symm
  · show c.val * 4 + j.val = (c.val / 2 * 2 + c.val % 2) * 4 + j.val; omega
  · show (sib c).val * 4 + j.val = (c.val / 2 * 2 + (1 - c.val % 2)) * 4 + j.val; omega

end Cert.Exchange.Pair

end
-- ==== Proof.PairIn.lean ====
/-
# The exchange within a chip, of w_in

The run of `PairIdeal`, over any values, and its result; the same of `Pair`.
-/
module

public import proofs.«01_k».proof.Proof.PairWhole
public import proofs.«01_k».proof.Proof.Gen.PairIdeal.Launch
public import proofs.«01_k».proof.Proof.Gen.PairIdeal.Skeleton
public import proofs.«01_k».proof.Proof.Gen.PairIdeal.Points
public import proofs.«01_k».proof.Proof.Gen.PairRefIdeal.Run
public import proofs.«01_k».proof.Proof.Gen.Pair.Launch
public import proofs.«01_k».proof.Proof.Gen.PairRef
public import proofs.«01_k».proof.Defs

@[expose] public section

set_option Elab.async false

noncomputable section

namespace Cert.PairIdeal.Run

open Cert.PairIdeal Cert.PairIdeal.Gen Cert.Exchange
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

/-- The semaphores. -/
abbrev sems (k : Pair.K) : DmaSem sig := nth (if k.1 = 0 then cc0_scratch0 else cc0_scratch1) k.2

theorem own_facts : OwnSemFacts cfg0.spec fun k => .dma (sems k) := by decide

/-- The arrays. -/
def site : Pair.Site sig .f32 4096 1668 where
  A := Memref.whole main_arg0
  V := Memref.whole main_v1
  hA := View.set_whole _
  hV := View.set_whole _
  q := sems
  inj := by decide
  N := (slot (h' := 4096) (Memref.whole main_v1) (off := ![0, 0, 0]) inb_S4x4096x1668_S1x4096x1668_0_0_0 squeezes_S1x4096x1668_S4096x1668).view.dmaCredit
  pos := View.dmaCredit_pos _ (by decide)
  nA _ _ := rfl
  nV _ _ := rfl

variable (m : (ℓ : Loc nD τ sig) → Buf (Elt F) ℓ)

theorem offs : ∀ (c : Dev nD) (j : Fin 4), (![k0_off1 c, k0_off2 c, k0_off3 c, k0_off4 c] : Fin 4 → Fin 4 → ℕ) j = ![j.val, (own (sib c)).val, 0, 0] := by
  decide +kernel
theorem devs : ∀ (c : Dev nD) (j : Fin 4), (![⟨k0_dev1 c, k0_dev1_lt c⟩, ⟨k0_dev2 c, k0_dev2_lt c⟩, ⟨k0_dev3 c, k0_dev3_lt c⟩, ⟨k0_dev4 c, k0_dev4_lt c⟩] : Fin 4 → Dev nD) j = sib c := by
  decide +kernel

attribute [local irreducible] k0_off1 k0_off2 k0_off3 k0_off4 k0_dev1 k0_dev2 k0_dev3 k0_dev4

theorem body (c : Dev nD) (t : Fin cfg0.N) :
    (Pair.plan site m).start (Pair.B site m) c ⊢ wp frame (wpE (defs₀ (F := F)) Variants.none (c.tc : Thread nD τ) none) Set.univ (bodyAt0 (F := F) t)
      fun _ => (Pair.plan site m).done (Pair.Y site m) c := by
  have H := Pair.body (Λ := Λ₀) (defs := defs₀ (F := F)) site m c
    (off := ![k0_off1 c, k0_off2 c, k0_off3 c, k0_off4 c]) (off' := ![![0, 0, 0], ![1, 0, 0], ![2, 0, 0], ![3, 0, 0]])
    (fun j => by fin_cases j <;> [exact k0_off1_inb c; exact k0_off2_inb c; exact k0_off3_inb c; exact k0_off4_inb c])
    (fun j => by fin_cases j <;> [exact inb_S4x4096x1668_S1x4096x1668_0_0_0; exact inb_S4x4096x1668_S1x4096x1668_1_0_0;
      exact inb_S4x4096x1668_S1x4096x1668_2_0_0; exact inb_S4x4096x1668_S1x4096x1668_3_0_0])
    squeezes_S1x1x4096x1668_S4096x1668 squeezes_S1x4096x1668_S4096x1668
    (p := ![⟨k0_dev1 c, k0_dev1_lt c⟩, ⟨k0_dev2 c, k0_dev2_lt c⟩, ⟨k0_dev3 c, k0_dev3_lt c⟩, ⟨k0_dev4 c, k0_dev4_lt c⟩])
    (fun j => (offs c j)) (by decide) (fun j => (devs c j)) (hs := by intro j; fin_cases j <;> exact ((View.wordExact_bits rfl).reshape _ _)) (ho := by intro j; fin_cases j <;> exact ((View.wordExact_bits rfl).reshape _ _)) _ rfl
  refine H.trans (Entails.of_eq ?_)
  clear H
  unfold bodyAt0
  rw [cc0_rs_pair_w_in_eq_skeleton]; unfold cc0_rs_pair_w_in_skel
  rw [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret, wp_deviceId]
  unfold Pair.prog
  simp only []
  congr 1

theorem ends (g : Dev nD → PrngReg) : Ends (defs (F := F)) main m g main_arg0 main_v1 (Pair.g site m) :=
  (funext fun c => fill_whole main_v1 c _ _ : Pair.G site m = Pair.g site m) ▸ (Pair.plan site m).run_ends cfgs 0 cellOf_inj winFacts0.to₀ own_facts defs₀ m g main (fun _ => rfl) (fun _ => ⟨fun w => w.elim0⟩) N_0 scopedRest0_eq
    (View.whole main_arg0) (View.whole main_v1) (by decide) (by decide) (View.set_whole _) (by decide) (fun _ => Pair.got) (fun _ => sib) _ (body m)

theorem shapes : Pair.Shapes 4096 1668 := by constructor <;> decide

end Cert.PairIdeal.Run

namespace Cert.Proof

open Idealize.ShloMosaic Cert.Exchange PairIdeal.Run

theorem quiescent_Pair : Cert.quiescent_Pair := fun m g _ => (ends (F := Bits) m g).frame
theorem quiescent_PairIdeal : Cert.quiescent_PairIdeal := fun m g _ => (ends (F := Ideal) m g).frame
theorem quiescent_PairRef : Cert.quiescent_PairRef := fun m g _ => (ends_of_no_sems (by decide) (PairRefIdeal.Value.run (F := Bits) m g)).frame
theorem quiescent_PairRefIdeal : Cert.quiescent_PairRefIdeal := fun m g _ => (ends_of_no_sems (by decide) (PairRefIdeal.Value.run (F := Ideal) m g)).frame
theorem algebraic_Pair : Cert.algebraic_PairIdeal_PairRefIdeal := fun m g m' g' _ h =>
  (ends (F := Ideal) m g).agree (ends_of_no_sems (by decide) (PairRefIdeal.Value.run m' g')) (Pair.value shapes _ _ h)
theorem bitexact_Pair : Cert.bitexact_Pair_PairRef := fun m g m' g' _ h =>
  (ends (F := Bits) m g).agree (ends_of_no_sems (by decide) (PairRefIdeal.Value.run m' g')) (Pair.value shapes _ _ h)

end Cert.Proof

end
-- ==== Proof.Chip.lean ====
/-
# The exchange among the chips

A kernel over two stacks `A` and `V` of four matrices: it copies matrix `j` of `A` to chip `j`'s device with the same
core, as the matrix of its own chip there. `body`, for any such arrays: it ends with `V` holding, in the place of chip `j`,
the matrix of the device's own chip of that device's `A`.
-/
module

public import proofs.«01_k».proof.Proof.Ends

@[expose] public section

set_option Elab.async false

noncomputable section

namespace Cert.Exchange.Chip

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline

variable {sig : RefSig} {Val : EltTy → Type} {Λ : Idealize.SL.Sem.Labels} {e : EltTy} {h w : ℕ}

local notation "𝕄" => MT 8 Topo.v7x sig Unit Val ℕ (UU 8 Topo.v7x sig) ℕ

/-- The semaphores: of the copy on the device (`none`); sent (`0`) and received (`1`), of each step away. -/
abbrev K := Option (Fin 2 × Fin 3)

/-- The arrays and semaphores of such a kernel. -/
structure Site (sig : RefSig) (e : EltTy) (h w : ℕ) where
  A : Memref sig .tc .hbm ⟨3, ![4, h, w]⟩ e
  V : Memref sig .tc .hbm ⟨3, ![4, h, w]⟩ e
  hA : A.view.set = Finset.univ
  hV : V.view.set = Finset.univ
  q : K → DmaSem sig
  inj : Function.Injective q
  /-- the units one matrix brings -/
  N : ℕ
  pos : 0 < N
  nA : ∀ {off : Fin 3 → ℕ} inb hq, (slot (h' := h) A (off := off) inb hq).view.dmaCredit = N
  nV : ∀ {off : Fin 3 → ℕ} inb hq, (slot (h' := h) V (off := off) inb hq).view.dmaCredit = N

/-- The kernel: the copy, the sends, then the waits. -/
def prog (s : Fin 4 → Memref sig .tc .hbm ⟨2, ![h, w]⟩ e) (o : Fin 4 → Memref sig .tc .hbm ⟨2, ![h, w]⟩ e)
    (hs : ∀ t, (s t).view.WordExact) (ho : ∀ t, (o t).view.WordExact) (p : Fin 3 → Dev 8) (q : K → DmaSem sig) :
    Prog (TpuEff 8 Topo.v7x sig Val Λ .tc) PUnit :=
  let send (k : Fin 3) (t : Fin 4) (f : PUnit → Prog (TpuEff 8 Topo.v7x sig Val Λ .tc) PUnit) : Prog (TpuEff 8 Topo.v7x sig Val Λ .tc) PUnit :=
    .op (.enqueueDma (s t) (.remote (Dev.tc (p k)) (o 0) (.dma (q (some (0, k))))) (.dma (q (some (1, k)))) (hs t) (ho 0) ⟨⟨rfl, Or.inl rfl⟩, trivial⟩) f
  let got (k : Fin 3) (t : Fin 4) (f : PUnit → Prog (TpuEff 8 Topo.v7x sig Val Λ .tc) PUnit) : Prog (TpuEff 8 Topo.v7x sig Val Λ .tc) PUnit :=
    .op (.waitDma2 (q (some (1, k))) (s 0) (o t) (hs 0) (ho t)) f
  let sent (k : Fin 3) (t : Fin 4) (f : PUnit → Prog (TpuEff 8 Topo.v7x sig Val Λ .tc) PUnit) : Prog (TpuEff 8 Topo.v7x sig Val Λ .tc) PUnit :=
    .op (.waitDma2 (q (some (0, k))) (o 0) (s t) (ho 0) (hs t)) f
  .op (.enqueueDma (s 0) (.here (o 0)) (.dma (q none)) (hs 0) (ho 0) ⟨Or.inl rfl, trivial⟩) fun _ => send 0 1 fun _ => send 1 2 fun _ => send 2 3 fun _ =>
    got 0 1 fun _ => got 1 2 fun _ => got 2 3 fun _ => sent 0 1 fun _ => sent 1 2 fun _ => sent 2 3 fun _ => .op (.waitDma2 (q none) (s 0) (o 0) (hs 0) (ho 0)) fun _ => .ret ⟨⟩

variable (X : Site sig e h w) (m : (ℓ : Loc 8 Topo.v7x sig) → Buf Val ℓ)

/-- The result of device `d`, by its elements and as contents of `V`. -/
def g (d : Dev 8) (i : (⟨3, ![4, h, w]⟩ : Shape).Idx) : Val e :=
  X.A.view.read Val (m (X.A.view.loc (Dev.tc (link d (i 0)) : Thread 8 Topo.v7x))) (ix3 (chip d) (i 1) (i 2))
def G (d : Dev 8) : Buf Val (X.V.view.loc (d.tc : Thread 8 Topo.v7x)) := fill X.V.view d (m (X.V.view.loc (d.tc : Thread 8 Topo.v7x))) (g X m d)

/-- How far away the chip of an element's matrix is. -/
def key (d : Dev 8) (i : (⟨3, ![4, h, w]⟩ : Shape).Idx) : Fin 4 := rel d (i 0)

theorem key_iff (d : Dev 8) (t : Fin 4) (i : (⟨3, ![4, h, w]⟩ : Shape).Idx) :
    key d i = t ↔ (i 0).val = (chip (hop t d)).val ∧ 0 ≤ (i 1).val ∧ (i 1).val < 0 + h := by
  have h1 : (i 1).val < h := (i 1).isLt
  exact ⟨fun hi => ⟨(rel_iff d (i 0) t).mp hi, Nat.zero_le _, by omega⟩, fun hi => (rel_iff d (i 0) t).mpr hi.1⟩

/-- A matrix of the argument, and one of the result at its final contents. -/
def src (t : Fin 4) (c : Dev 8) : sProp 𝕄 :=
  X.A.view.loc (c.tc : Thread 8 Topo.v7x) ↦[reg X.A.view (key c) t]{fullShare} m (X.A.view.loc (c.tc : Thread 8 Topo.v7x))
def fin (t : Fin 4) (c : Dev 8) : sProp 𝕄 := X.V.view.loc (c.tc : Thread 8 Topo.v7x) ↦[reg X.V.view (key c) t]{fullShare} G X m c

/-- What each landing hands over: the copy both matrices, a send its source, and a receipt the matrix received. -/
def pays (c : Dev 8) : K → sProp 𝕄
  | none => iprop(fin X m 0 c ∗ src X m 0 c)
  | some (0, k) => src X m k.succ c
  | some (1, k) => fin X m k.succ c

/-- The plan. -/
def plan : Plan 8 Topo.v7x sig Val K where
  osem k := .dma (X.q k)
  inj k k' hk := X.inj (SemLoc.dma.inj hk)
  amt _ := X.N
  amt_pos _ := X.pos
  dest | some (1, k) => hop k.succ | _ => Equiv.refl _
  far := {some (1, 0), some (1, 1), some (1, 2)}
  lvl _ := 0
  pay := pays X m
  sto c k := by
    rcases k with _ | ⟨i, k⟩
    · unfold pays src fin; infer_instance
    · fin_cases i
      · show BI.Storable upEmb (src X m k.succ c); unfold src; infer_instance
      · show BI.Storable upEmb (fin X m k.succ c); unfold fin; infer_instance

theorem seven (Φ : K → sProp 𝕄) : bigSep Finset.univ Φ
    = iprop(Φ none ∗ Φ (some (0, 0)) ∗ Φ (some (0, 1)) ∗ Φ (some (0, 2)) ∗ Φ (some (1, 0)) ∗ Φ (some (1, 1)) ∗ Φ (some (1, 2))) :=
  bigSep_eq_bigSepL_of_eq [none, some (0, 0), some (0, 1), some (0, 2), some (1, 0), some (1, 1), some (1, 2)] (by decide) (by decide) Φ
theorem four (Φ : Fin 4 → sProp 𝕄) : bigSep Finset.univ Φ = iprop(Φ 0 ∗ Φ 1 ∗ Φ 2 ∗ Φ 3) :=
  bigSep_eq_bigSepL_of_eq [0, 1, 2, 3] (by decide) (by decide) Φ
theorem fars (Φ : K → sProp 𝕄) : bigSep {some (1, 0), some (1, 1), some (1, 2)} Φ = iprop(Φ (some (1, 0)) ∗ Φ (some (1, 1)) ∗ Φ (some (1, 2))) :=
  bigSep_eq_bigSepL_of_eq [some (1, 0), some (1, 1), some (1, 2)] (by decide) (by decide) Φ

/-- What a device's kernel starts from: its argument, and the matrices it writes. -/
def B (c : Dev 8) : sProp 𝕄 :=
  iprop((X.A.view.loc (c.tc : Thread 8 Topo.v7x) ↦[Finset.univ]{fullShare} m (X.A.view.loc (c.tc : Thread 8 Topo.v7x)))
    ∗ bigSep Finset.univ fun t => X.V.view.loc (Dev.tc (hop t c) : Thread 8 Topo.v7x) ↦[reg X.V.view (key (hop t c)) t]{fullShare} m (X.V.view.loc (Dev.tc (hop t c) : Thread 8 Topo.v7x)))

/-- What it ends with: its argument, and its whole result. -/
def Y (c : Dev 8) : sProp 𝕄 :=
  iprop((X.A.view.loc (c.tc : Thread 8 Topo.v7x) ↦[Finset.univ]{fullShare} m (X.A.view.loc (c.tc : Thread 8 Topo.v7x)))
    ∗ (X.V.view.loc (c.tc : Thread 8 Topo.v7x) ↦[Finset.univ]{fullShare} G X m c))

theorem finish (c : Dev 8) : iprop((plan X m).pay c none ∗ ((plan X m).pay c (some (0, 0)) ∗ (plan X m).pay c (some (0, 1)) ∗ (plan X m).pay c (some (0, 2)))
    ∗ (plan X m).pay c (some (1, 0)) ∗ (plan X m).pay c (some (1, 1)) ∗ (plan X m).pay c (some (1, 2))) ⊢ Y X m c := by
  show iprop((fin X m 0 c ∗ src X m 0 c) ∗ (src X m 1 c ∗ src X m 2 c ∗ src X m 3 c) ∗ fin X m 1 c ∗ fin X m 2 c ∗ fin X m 3 c) ⊢ _
  unfold Y src fin
  rw [regs X.A.view X.hA (key c), regs X.V.view X.hV (key c), four, four]
  iintro ⟨⟨H, A0⟩, ⟨A1, A2, A3⟩, HV⟩
  isplitr [H HV]
  · iframe
  · iframe

section Body

variable {defs : Defs 8 Topo.v7x sig Val Λ} (c : Dev 8) {off : Fin 4 → Fin 3 → ℕ}
  (inb : ∀ (t : Fin 4) (a : Fin 3), off t a + (![1, h, w] : Fin 3 → ℕ) a ≤ (![4, h, w] : Fin 3 → ℕ) a)
  (hq : (⟨3, ![1, h, w]⟩ : Shape).Squeezes ⟨2, ![h, w]⟩)
  {hs : ∀ t, (slot X.A (inb t) hq).view.WordExact} {ho : ∀ t, (slot X.V (inb t) hq).view.WordExact} {p : Fin 3 → Dev 8}
  (hoff : ∀ t, off t = ![(chip (hop t c)).val, 0, 0]) (hp : ∀ k, p k = hop k.succ c)

include hoff in
/-- What device `t` steps away expects in the place of this chip. -/
theorem brought (t : Fin 4) : (slot X.V (inb 0) hq).view.read Val (G X m (hop t c)) = (slot X.A (inb t) hq).view.read Val (m (X.A.view.loc (c.tc : Thread 8 Topo.v7x))) := by
  funext x
  rw [slot_read X.V (inb 0) hq (hoff 0), slot_read X.A (inb t) hq (hoff t)]
  unfold G
  rw [read_fill]
  have hd : link (hop t c) (chip (hop 0 c)) = c := by rw [hop_zero, link_hop]
  exact congrArg (fun d : Fin 8 => X.A.view.read Val (m (X.A.view.loc (Dev.tc d : Thread 8 Topo.v7x))) (ix3 (chip (hop t c)) ⟨0 + (x 0).val, slot_lt (inb t) (hoff t) (x 0)⟩ (x 1))) hd

include hoff in
theorem place (t : Fin 4) : (slot X.V (inb 0) hq).view.set = reg X.V.view (key (hop t c)) t :=
  slot_set X.V (inb 0) hq (hoff 0) (key (hop t c)) t fun i => by rw [key_iff, hop_hop, hop_zero]

include hoff hp in
theorem send (k : Fin 3) (t : Fin 4) (ht : k.succ = t) (S S' : Finset K) (hS : some (1, k) ∈ S) (hS' : S.erase (some (1, k)) = S') {f : PUnit → Prog (TpuEff 8 Topo.v7x sig Val Λ .tc) PUnit} {Q : PUnit → sProp 𝕄} :
    iprop((plan X m).known ∗ src X m t c
        ∗ (X.V.view.loc (Dev.tc (hop t c) : Thread 8 Topo.v7x) ↦[reg X.V.view (key (hop t c)) t]{fullShare} m (X.V.view.loc (Dev.tc (hop t c) : Thread 8 Topo.v7x)))
        ∗ (plan X m).owing S c ∗ (plan X m).tok c (some (0, k)) ∗ (plan X m).tok c (some (1, k)))
      ⊢ iprop((((plan X m).credit c (some (0, k)) ∗ (plan X m).owing S' c) -∗ wp frame (wpE defs Variants.none (c.tc : Thread 8 Topo.v7x) none) Set.univ (f ⟨⟩) Q)
          -∗ wp frame (wpE defs Variants.none (c.tc : Thread 8 Topo.v7x) none) Set.univ
              (.op (.enqueueDma (slot X.A (inb t) hq) (.remote (Dev.tc (p k)) (slot X.V (inb 0) hq) (.dma (X.q (some (0, k))))) (.dma (X.q (some (1, k))))
                (hs t) (ho 0) ⟨⟨rfl, Or.inl rfl⟩, trivial⟩) f) Q) := by
  subst hS' ht
  exact (plan X m).put_send Variants.none (src := slot X.A (inb k.succ) hq) (dst := slot X.V (inb 0) hq) c (some (0, k)) (some (1, k)) rfl (hop k.succ c) rfl hS (hp k) rfl rfl
    fullShare (m (X.A.view.loc (c.tc : Thread 8 Topo.v7x))) (m (X.V.view.loc (Dev.tc (hop k.succ c) : Thread 8 Topo.v7x))) (G X m (hop k.succ c)) (X.nV _ _) rfl
    (slot_set X.A (inb k.succ) hq (hoff k.succ) (key c) k.succ (key_iff c k.succ)) (place X c inb hq hoff k.succ)
    (brought X m c inb hq hoff k.succ) (Entails.refl _) (Entails.refl _)

include hoff hp in
theorem body (Q : PUnit → sProp 𝕄) (hQ : Q = fun _ => (plan X m).done (Y X m) c) :
    (plan X m).start (B X m) c ⊢ wp frame (wpE defs Variants.none (c.tc : Thread 8 Topo.v7x) none) Set.univ
      (prog (fun t => slot X.A (inb t) hq) (fun t => slot X.V (inb t) hq) hs ho p X.q) Q := by
  subst hQ
  unfold prog Plan.start B
  rw [seven, seven, four, regs X.A.view X.hA (key c), four, show (plan X m).far = {some (1, 0), some (1, 1), some (1, 2)} from rfl, fars]
  iintro ⟨#HK, #HL, ⟨Hr0, Hr1, Hr2⟩, ⟨Tl, Ts0, Ts1, Ts2, Tr0, Tr1, Tr2⟩, ⟨Pl, Ps0, Ps1, Ps2, Pr0, Pr1, Pr2⟩, Ho, ⟨Sl, S0, S1, S2⟩, Dl, D0, D1, D2⟩
  have snd := send X m (defs := defs) c inb hq (hs := hs) (ho := ho) hoff hp
  unfold src at snd
  have po : (slot X.V (inb 0) hq).view.set = reg X.V.view (key c) 0 := place X c inb hq hoff 0
  have bo : (slot X.V (inb 0) hq).view.read Val (G X m c) = (slot X.A (inb 0) hq).view.read Val (m (X.A.view.loc (c.tc : Thread 8 Topo.v7x))) := brought X m c inb hq hoff 0
  iapply ((plan X m).put_copy Variants.none (src := slot X.A (inb 0) hq) (dst := slot X.V (inb 0) hq) c none rfl rfl
    fullShare (m (X.A.view.loc (c.tc : Thread 8 Topo.v7x))) (m (X.V.view.loc (c.tc : Thread 8 Topo.v7x))) (G X m c) (X.nV _ _)
    (slot_set X.A (inb 0) hq (hoff 0) (key c) 0 (key_iff c 0)) po
    bo (Entails.refl _)) $$ [Sl Dl Tl]
  · isplitr; · iexact HK
    iframe
    iexact Dl
  iintro Cl
  iapply (snd 0 1 rfl {some (1, 0), some (1, 1), some (1, 2)} {some (1, 1), some (1, 2)} (by decide) (by decide)) $$ [S0 D0 Ho Ts0 Tr0]
  · iframe
    iexact HK
  iintro ⟨Cs0, Ho⟩
  iapply (snd 1 2 rfl {some (1, 1), some (1, 2)} {some (1, 2)} (by decide) (by decide)) $$ [S1 D1 Ho Ts1 Tr1]
  · iframe
    iexact HK
  iintro ⟨Cs1, Ho⟩
  iapply (snd 2 3 rfl {some (1, 2)} ∅ (by decide) (by decide)) $$ [S2 D2 Ho Ts2 Tr2]
  · iframe
    iexact HK
  iintro ⟨Cs2, Ho⟩
  iapply ((plan X m).step_wait Variants.none c (some (1, 0)) (S := ∅) (fun _ hk => absurd hk (Finset.notMem_empty _)) rfl (X.nV _ _) (fun _ => rfl)) $$ [Hr0 Ho Pr0]
  · isplitr; · iexact HK
    isplitr; · iexact HL
    iframe
  iintro ⟨Gr0, Zr0, Ho⟩
  iapply ((plan X m).step_wait Variants.none c (some (1, 1)) (S := ∅) (fun _ hk => absurd hk (Finset.notMem_empty _)) rfl (X.nV _ _) (fun _ => rfl)) $$ [Hr1 Ho Pr1]
  · isplitr; · iexact HK
    isplitr; · iexact HL
    iframe
  iintro ⟨Gr1, Zr1, Ho⟩
  iapply ((plan X m).step_wait Variants.none c (some (1, 2)) (S := ∅) (fun _ hk => absurd hk (Finset.notMem_empty _)) rfl (X.nV _ _) (fun _ => rfl)) $$ [Hr2 Ho Pr2]
  · isplitr; · iexact HK
    isplitr; · iexact HL
    iframe
  iintro ⟨Gr2, Zr2, Ho⟩
  iapply ((plan X m).step_wait Variants.none c (some (0, 0)) (S := ∅) (fun _ hk => absurd hk (Finset.notMem_empty _)) rfl (X.nA _ _) (fun _ => rfl)) $$ [Cs0 Ho Ps0]
  · isplitr; · iexact HK
    isplitr; · iexact HL
    iframe
  iintro ⟨Gs0, Zs0, Ho⟩
  iapply ((plan X m).step_wait Variants.none c (some (0, 1)) (S := ∅) (fun _ hk => absurd hk (Finset.notMem_empty _)) rfl (X.nA _ _) (fun _ => rfl)) $$ [Cs1 Ho Ps1]
  · isplitr; · iexact HK
    isplitr; · iexact HL
    iframe
  iintro ⟨Gs1, Zs1, Ho⟩
  iapply ((plan X m).step_wait Variants.none c (some (0, 2)) (S := ∅) (fun _ hk => absurd hk (Finset.notMem_empty _)) rfl (X.nA _ _) (fun _ => rfl)) $$ [Cs2 Ho Ps2]
  · isplitr; · iexact HK
    isplitr; · iexact HL
    iframe
  iintro ⟨Gs2, Zs2, Ho⟩
  iapply ((plan X m).step_wait Variants.none c none (S := ∅) (fun _ hk => absurd hk (Finset.notMem_empty _)) rfl (X.nV _ _) (fun _ => rfl)) $$ [Cl Ho Pl]
  · isplitr; · iexact HK
    isplitr; · iexact HL
    iframe
  iintro ⟨Gl, Zl, Ho⟩
  rw [wp_ret]; imodintro
  unfold Plan.done
  rw [seven]
  isplitr [Ho Zl Zs0 Zs1 Zs2 Zr0 Zr1 Zr2]
  · iapply (finish X m c)
    iframe
  · iframe

end Body

end Cert.Exchange.Chip

end
-- ==== Proof.ChipWhole.lean ====
/-
# The exchange among the chips, of whole arrays

What the reference makes of the whole argument, index by index, and that each device's result is its block of it.
-/
module

public import proofs.«01_k».proof.Proof.Chip
public import Idealize.ShloMosaic.Lib.ValueIdxRank6

@[expose] public section

set_option Elab.async false

noncomputable section

namespace Cert.Exchange.Chip

open Idealize.ShloMosaic
open Idealize.ShloMosaic.TcCoe Idealize.ShloMosaic.ValueIdx

variable {α : Type} {h w : ℕ}

/-- What the reference asks of the shapes. -/
structure Shapes (h w : ℕ) : Prop where
  e₁ : (⟨3, ![32, h, w]⟩ : Shape).ShapeCasts ⟨5, ![4, 2, 4, h, w]⟩
  e₂ : (⟨5, ![4, 2, 4, h, w]⟩ : Shape).Transposes [2, 1, 0, 3, 4] ⟨5, ![4, 2, 4, h, w]⟩
  e₃ : (⟨5, ![4, 2, 4, h, w]⟩ : Shape).ShapeCasts ⟨3, ![32, h, w]⟩
  t : Layout.Tiles ⟨3, ![4, h, w]⟩ ⟨3, ![32, h, w]⟩ 0 8

variable (S : Shapes h w)

/-- The reference's result, of the whole argument. -/
def whole (W : (⟨3, ![32, h, w]⟩ : Shape).Idx → α) : (⟨3, ![32, h, w]⟩ : Shape).Idx → α :=
  shapeCast _ (transpose _ [2, 1, 0, 3, 4] (shapeCast ⟨5, ![4, 2, 4, h, w]⟩ W S.e₁) S.e₂) S.e₃

theorem whole_at (W : (⟨3, ![32, h, w]⟩ : Shape).Idx → α) (p j : Fin 4) (k : Fin 2) (x : Fin h) (y : Fin w)
    (I J : (⟨3, ![32, h, w]⟩ : Shape).Idx)
    (i0 : (I 0).val = (p.val * 2 + k.val) * 4 + j.val) (i1 : (I 1).val = x.val) (i2 : (I 2).val = y.val)
    (h0 : (J 0).val = (j.val * 2 + k.val) * 4 + p.val) (h1 : (J 1).val = x.val) (h2 : (J 2).val = y.val) :
    whole S W I = W J := by
  refine (shapeCast_apply _ _ I (ix5 p k j x y) ?_).trans ((transpose_apply _ _ _ _ (ix5 j k p x y) ?_).trans (shapeCast_apply _ _ _ J ?_))
  · rw [Shape.rowMajor_val_three, Shape.rowMajor_val_five]
    show ((((p.val * 2 + k.val) * 4 + j.val) * h + x.val) * w + y.val) = ((I 0).val * h + (I 1).val) * w + (I 2).val
    rw [i0, i1, i2]
  · intro b
    fin_cases b <;> rfl
  · rw [Shape.rowMajor_val_three, Shape.rowMajor_val_five]
    show ((J 0).val * h + (J 1).val) * w + (J 2).val = ((((j.val * 2 + k.val) * 4 + p.val) * h + x.val) * w + y.val)
    rw [h0, h1, h2]

/-- Each device's result, from the arguments of the devices with its core, is its block of the whole. -/
theorem value (W : (⟨3, ![32, h, w]⟩ : Shape).Idx → α) (a : Fin 8 → (⟨3, ![4, h, w]⟩ : Shape).Idx → α)
    (ha : ∀ c, a c = Layout.block ⟨3, ![4, h, w]⟩ ⟨3, ![32, h, w]⟩ 0 8 c W S.t) (c : Fin 8) :
    (fun i : (⟨3, ![4, h, w]⟩ : Shape).Idx => a (link c (i 0)) (ix3 (chip c) (i 1) (i 2)))
      = Layout.block ⟨3, ![4, h, w]⟩ ⟨3, ![32, h, w]⟩ 0 8 c (whole S W) S.t := by
  funext i
  obtain ⟨j, x, y, rfl⟩ : ∃ (j : Fin 4) (x : Fin h) (y : Fin w), i = ix3 j x y := ⟨i 0, i 1, i 2, eq_ix3 i⟩
  refine (congrFun (ha (link c j)) (ix3 (chip c) x y)).trans ?_
  refine (whole_at S W (chip c) j (own c) x y _ _ ?_ rfl rfl ?_ rfl rfl).symm
  · show c.val * 4 + j.val = (c.val / 2 * 2 + c.val % 2) * 4 + j.val; omega
  · show (2 * j.val + c.val % 2) * 4 + c.val / 2 = (j.val * 2 + c.val % 2) * 4 + c.val / 2; omega

end Cert.Exchange.Chip

end
-- ==== Proof.ChipIn.lean ====
/-
# The exchange among the chips, of w_in

The run of `ChipIdeal`, over any values, and its result; the same of `Chip`.
-/
module

public import proofs.«01_k».proof.Proof.ChipWhole
public import proofs.«01_k».proof.Proof.Gen.ChipIdeal.Launch
public import proofs.«01_k».proof.Proof.Gen.ChipIdeal.Skeleton
public import proofs.«01_k».proof.Proof.Gen.ChipIdeal.Points
public import proofs.«01_k».proof.Proof.Gen.ChipRefIdeal.Run
public import proofs.«01_k».proof.Proof.Gen.Chip.Launch
public import proofs.«01_k».proof.Proof.Gen.ChipRef
public import proofs.«01_k».proof.Defs

@[expose] public section

set_option Elab.async false

noncomputable section

namespace Cert.ChipIdeal.Run

open Cert.ChipIdeal Cert.ChipIdeal.Gen Cert.Exchange
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

/-- The semaphores. -/
def sems : Chip.K → DmaSem sig
  | none => cc0_scratch2.sem
  | some (0, k) => nth cc0_scratch0 k
  | some (1, k) => nth cc0_scratch1 k

theorem own_facts : OwnSemFacts cfg0.spec fun k => .dma (sems k) := by decide

/-- The arrays. -/
def site : Chip.Site sig .f32 4096 1668 where
  A := Memref.whole main_arg0
  V := Memref.whole main_v1
  hA := View.set_whole _
  hV := View.set_whole _
  q := sems
  inj := by decide
  N := (slot (h' := 4096) (Memref.whole main_v1) (off := k0_off1 0) (k0_off1_inb 0) squeezes_S1x4096x1668_S4096x1668).view.dmaCredit
  pos := View.dmaCredit_pos _ (by decide)
  nA _ _ := rfl
  nV _ _ := rfl

variable (m : (ℓ : Loc nD τ sig) → Buf (Elt F) ℓ)

theorem offs : ∀ (c : Dev nD) (t : Fin 4), (![k0_off1 c, k0_off2 c, k0_off3 c, k0_off4 c] : Fin 4 → Fin 3 → ℕ) t = ![(chip (hop t c)).val, 0, 0] := by
  decide +kernel
theorem devs : ∀ (c : Dev nD) (k : Fin 3), (![⟨k0_dev1 c, k0_dev1_lt c⟩, ⟨k0_dev2 c, k0_dev2_lt c⟩, ⟨k0_dev3 c, k0_dev3_lt c⟩] : Fin 3 → Dev nD) k = hop k.succ c := by
  decide +kernel

attribute [local irreducible] k0_off1 k0_off2 k0_off3 k0_off4 k0_dev1 k0_dev2 k0_dev3

theorem body (c : Dev nD) (t : Fin cfg0.N) :
    (Chip.plan site m).start (Chip.B site m) c ⊢ wp frame (wpE (defs₀ (F := F)) Variants.none (c.tc : Thread nD τ) none) Set.univ (bodyAt0 (F := F) t)
      fun _ => (Chip.plan site m).done (Chip.Y site m) c := by
  have H := Chip.body (Λ := Λ₀) (defs := defs₀ (F := F)) site m c
    (off := ![k0_off1 c, k0_off2 c, k0_off3 c, k0_off4 c])
    (fun j => by fin_cases j <;> [exact k0_off1_inb c; exact k0_off2_inb c; exact k0_off3_inb c; exact k0_off4_inb c])
    squeezes_S1x4096x1668_S4096x1668
    (p := ![⟨k0_dev1 c, k0_dev1_lt c⟩, ⟨k0_dev2 c, k0_dev2_lt c⟩, ⟨k0_dev3 c, k0_dev3_lt c⟩])
    (offs c) (devs c) (hs := by intro j; fin_cases j <;> exact ((View.wordExact_bits rfl).reshape _ _)) (ho := by intro j; fin_cases j <;> exact ((View.wordExact_bits rfl).reshape _ _)) _ rfl
  refine H.trans (Entails.of_eq ?_)
  clear H
  unfold bodyAt0
  rw [cc0_rs_chip_w_in_eq_skeleton]; unfold cc0_rs_chip_w_in_skel
  rw [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  unfold Chip.prog
  simp only []
  congr 1

theorem ends (g : Dev nD → PrngReg) : Ends (defs (F := F)) main m g main_arg0 main_v1 (Chip.g site m) :=
  (funext fun c => fill_whole main_v1 c _ _ : Chip.G site m = Chip.g site m) ▸ (Chip.plan site m).run_ends cfgs 0 cellOf_inj winFacts0.to₀ own_facts defs₀ m g main (fun _ => rfl) (fun _ => ⟨fun w => w.elim0⟩) N_0 scopedRest0_eq
    (View.whole main_arg0) (View.whole main_v1) (by decide) (by decide) (View.set_whole _) (by decide) Chip.key hop _ (body m)

theorem shapes : Chip.Shapes 4096 1668 := by constructor <;> decide

end Cert.ChipIdeal.Run

namespace Cert.Proof

open Idealize.ShloMosaic Cert.Exchange ChipIdeal.Run

theorem quiescent_Chip : Cert.quiescent_Chip := fun m g _ => (ends (F := Bits) m g).frame
theorem quiescent_ChipIdeal : Cert.quiescent_ChipIdeal := fun m g _ => (ends (F := Ideal) m g).frame
theorem quiescent_ChipRef : Cert.quiescent_ChipRef := fun m g _ => (ends_of_no_sems (by decide) (ChipRefIdeal.Value.run (F := Bits) m g)).frame
theorem quiescent_ChipRefIdeal : Cert.quiescent_ChipRefIdeal := fun m g _ => (ends_of_no_sems (by decide) (ChipRefIdeal.Value.run (F := Ideal) m g)).frame
theorem algebraic_Chip : Cert.algebraic_ChipIdeal_ChipRefIdeal := fun m g m' g' _ h =>
  (ends (F := Ideal) m g).agree (ends_of_no_sems (by decide) (ChipRefIdeal.Value.run m' g')) (Chip.value shapes _ _ h)
theorem bitexact_Chip : Cert.bitexact_Chip_ChipRef := fun m g m' g' _ h =>
  (ends (F := Bits) m g).agree (ends_of_no_sems (by decide) (ChipRefIdeal.Value.run m' g')) (Chip.value shapes _ _ h)

end Cert.Proof

end
-- ==== Proof.Back.lean ====
/-
# The exchange back between the two cores of a chip

A kernel over a matrix `A` and a stack `V` of two: it copies `A` to the place of its core in its own `V` and in its
sibling's. `body`, for any such arrays: it ends with `V` holding, in place `j`, the matrix of core `j` of its chip.
-/
module

public import proofs.«01_k».proof.Proof.Ends

@[expose] public section

set_option Elab.async false

noncomputable section

namespace Cert.Exchange.Back

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline

variable {sig : RefSig} {Val : EltTy → Type} {Λ : Idealize.SL.Sem.Labels} {e : EltTy} {h w : ℕ}

local notation "𝕄" => MT 8 Topo.v7x sig Unit Val ℕ (UU 8 Topo.v7x sig) ℕ

/-- The arrays and semaphores of such a kernel; the semaphores are those of what was sent, received, and copied on the device. -/
structure Site (sig : RefSig) (e : EltTy) (h w : ℕ) where
  A : Memref sig .tc .hbm ⟨2, ![h, w]⟩ e
  V : Memref sig .tc .hbm ⟨3, ![2, h, w]⟩ e
  hA : A.view.set = Finset.univ
  hV : V.view.set = Finset.univ
  q : Fin 3 → DmaSem sig
  inj : Function.Injective q
  pos : 0 < A.view.dmaCredit
  nV : ∀ {off : Fin 3 → ℕ} inb hq, (slot (h' := h) V (off := off) inb hq).view.dmaCredit = A.view.dmaCredit

/-- The kernel, the place of its own core being `o` and that of the other `o'`: the copy, the send, then the waits. -/
def prog (a : Memref sig .tc .hbm ⟨2, ![h, w]⟩ e) (o o' : Memref sig .tc .hbm ⟨2, ![h, w]⟩ e)
    (ha : a.view.WordExact) (ho : o.view.WordExact) (ho' : o'.view.WordExact) (p : Dev 8) (q : Fin 3 → DmaSem sig) :
    Prog (TpuEff 8 Topo.v7x sig Val Λ .tc) PUnit :=
  .op (.enqueueDma a (.here o) (.dma (q 2)) ha ho ⟨Or.inl rfl, trivial⟩) fun _ =>
  .op (.enqueueDma a (.remote (Dev.tc p) o (.dma (q 0))) (.dma (q 1)) ha ho ⟨⟨rfl, Or.inl rfl⟩, trivial⟩) fun _ =>
  .op (.waitDma2 (q 1) a o' ha ho') fun _ => .op (.waitDma2 (q 0) o a ho ha) fun _ => .op (.waitDma2 (q 2) a o ha ho) fun _ => .ret ⟨⟩

variable (X : Site sig e h w) (m : (ℓ : Loc 8 Topo.v7x sig) → Buf Val ℓ)

/-- The result of device `d`, by its elements and as contents of `V`. -/
def g (d : Dev 8) (i : (⟨3, ![2, h, w]⟩ : Shape).Idx) : Val e :=
  X.A.view.read Val (m (X.A.view.loc (Dev.tc (core d (i 0)) : Thread 8 Topo.v7x))) (ix2 (i 1) (i 2))
def G (d : Dev 8) : Buf Val (X.V.view.loc (d.tc : Thread 8 Topo.v7x)) := fill X.V.view d (m (X.V.view.loc (d.tc : Thread 8 Topo.v7x))) (g X m d)

/-- Who writes an element: the device itself (`0`) or its sibling (`1`). -/
def key (d : Dev 8) (i : (⟨3, ![2, h, w]⟩ : Shape).Idx) : Fin 2 := if (i 0).val = d.val % 2 then 0 else 1

/-- The device that writes a part of device `c`'s result, as a permutation in `c`. -/
def writer : Fin 2 → Equiv.Perm (Dev 8) := ![Equiv.refl _, sib]

theorem key_iff (t : Fin 2) (d : Dev 8) (i : (⟨3, ![2, h, w]⟩ : Shape).Idx) :
    key (writer t d) i = t ↔ (i 0).val = (own d).val ∧ 0 ≤ (i 1).val ∧ (i 1).val < 0 + h := by
  have h0 : (i 0).val < 2 := (i 0).isLt
  have h1 : (i 1).val < h := (i 1).isLt
  have hs := sib_core d
  have ho : (own d).val = d.val % 2 := rfl
  obtain rfl | rfl : t = 0 ∨ t = 1 := by omega
  · show (if (i 0).val = d.val % 2 then (0 : Fin 2) else 1) = 0 ↔ _
    split <;> simp <;> omega
  · show (if (i 0).val = (sib d).val % 2 then (0 : Fin 2) else 1) = 1 ↔ _
    split <;> simp <;> omega

/-- The argument, held at a share, and a matrix of the result at its final contents. -/
def src (q : PosShare TreeShare) (c : Dev 8) : sProp 𝕄 :=
  X.A.view.loc (c.tc : Thread 8 Topo.v7x) ↦[Finset.univ]{q} m (X.A.view.loc (c.tc : Thread 8 Topo.v7x))
def fin (t : Fin 2) (c : Dev 8) : sProp 𝕄 := X.V.view.loc (c.tc : Thread 8 Topo.v7x) ↦[reg X.V.view (key c) t]{fullShare} G X m c

instance src_storable (q : PosShare TreeShare) (c : Dev 8) : BI.Storable (upEmb : UEmb _ 𝕄) (src X m q c) := by unfold src; infer_instance
instance fin_storable (t : Fin 2) (c : Dev 8) : BI.Storable (upEmb : UEmb _ 𝕄) (fin X m t c) := by unfold fin; infer_instance

/-- The plan: what each semaphore's landing hands over. -/
def plan : Plan 8 Topo.v7x sig Val (Fin 3) where
  osem k := .dma (X.q k)
  inj k k' hk := X.inj (SemLoc.dma.inj hk)
  amt _ := X.A.view.dmaCredit
  amt_pos _ := X.pos
  dest := ![Equiv.refl _, sib, Equiv.refl _]
  far := {1}
  lvl _ := 0
  pay c := ![src X m fullShare.right c, fin X m 1 c, iprop(fin X m 0 c ∗ src X m fullShare.left c)]
  sto c k := by
    fin_cases k
    · exact src_storable X m _ c
    · exact fin_storable X m 1 c
    · show BI.Storable upEmb iprop(fin X m 0 c ∗ src X m fullShare.left c); infer_instance

theorem three (Φ : Fin 3 → sProp 𝕄) : bigSep Finset.univ Φ = iprop(Φ 0 ∗ Φ 1 ∗ Φ 2) :=
  bigSep_eq_bigSepL_of_eq [0, 1, 2] (by decide) (by decide) Φ
theorem two (Φ : Fin 2 → sProp 𝕄) : bigSep Finset.univ Φ = iprop(Φ 0 ∗ Φ 1) :=
  bigSep_eq_bigSepL_of_eq [0, 1] (by decide) (by decide) Φ

/-- What a device's kernel starts from: its argument, and the matrices it writes. -/
def B (c : Dev 8) : sProp 𝕄 :=
  iprop((X.A.view.loc (c.tc : Thread 8 Topo.v7x) ↦[Finset.univ]{fullShare} m (X.A.view.loc (c.tc : Thread 8 Topo.v7x)))
    ∗ bigSep Finset.univ fun t => X.V.view.loc (Dev.tc (writer t c) : Thread 8 Topo.v7x) ↦[reg X.V.view (key (writer t c)) t]{fullShare} m (X.V.view.loc (Dev.tc (writer t c) : Thread 8 Topo.v7x)))

/-- What it ends with: its argument, and its whole result. -/
def Y (c : Dev 8) : sProp 𝕄 :=
  iprop((X.A.view.loc (c.tc : Thread 8 Topo.v7x) ↦[Finset.univ]{fullShare} m (X.A.view.loc (c.tc : Thread 8 Topo.v7x)))
    ∗ (X.V.view.loc (c.tc : Thread 8 Topo.v7x) ↦[Finset.univ]{fullShare} G X m c))

/-- The argument, as its two shares. -/
theorem shares (c : Dev 8) : src X m fullShare c ⊣⊢ iprop(src X m fullShare.left c ∗ src X m fullShare.right c) :=
  pointsTo_share (PosShare.mem_left_op_right fullShare)

theorem finish (c : Dev 8) : iprop((plan X m).pay c 0 ∗ (plan X m).pay c 1 ∗ (plan X m).pay c 2) ⊢ Y X m c := by
  show iprop(src X m fullShare.right c ∗ fin X m 1 c ∗ fin X m 0 c ∗ src X m fullShare.left c) ⊢ iprop(src X m fullShare c ∗ _)
  rw [regs X.V.view X.hV (key c), two]
  iintro ⟨HR, H1, H0, HL⟩
  isplitl [HL HR]
  · iapply (shares X m c).2
    isplitl [HL] <;> iassumption
  · unfold fin
    isplitl [H0] <;> iassumption

section Body

variable {defs : Defs 8 Topo.v7x sig Val Λ} (c : Dev 8) {off off' : Fin 3 → ℕ}
  (inb : ∀ a : Fin 3, off a + (![1, h, w] : Fin 3 → ℕ) a ≤ (![2, h, w] : Fin 3 → ℕ) a)
  (inb' : ∀ a : Fin 3, off' a + (![1, h, w] : Fin 3 → ℕ) a ≤ (![2, h, w] : Fin 3 → ℕ) a)
  (hq : (⟨3, ![1, h, w]⟩ : Shape).Squeezes ⟨2, ![h, w]⟩)
  {ha : X.A.view.WordExact} {ho : (slot X.V inb hq).view.WordExact} {ho' : (slot X.V inb' hq).view.WordExact} {p : Dev 8}
  (hoff : off = ![(own c).val, 0, 0]) (hp : p = sib c)

include hoff in
/-- What the device itself, and its sibling, expect in the place of this core. -/
theorem brought (t : Fin 2) : (slot X.V inb hq).view.read Val (G X m (writer t c)) = X.A.view.read Val (m (X.A.view.loc (c.tc : Thread 8 Topo.v7x))) := by
  funext x
  rw [slot_read X.V inb hq hoff]
  unfold G
  rw [read_fill]
  have hd : core (writer t c) (own c) = c := by
    obtain rfl | rfl : t = 0 ∨ t = 1 := by omega
    · exact core_self c
    · exact core_of_sib c
  refine (congrArg (fun d : Fin 8 => X.A.view.read Val (m (X.A.view.loc (Dev.tc d : Thread 8 Topo.v7x))) (ix2 ⟨0 + (x 0).val, slot_lt inb hoff (x 0)⟩ (x 1))) hd).trans ?_
  refine congrArg _ (Eq.trans ?_ (eq_ix2 x).symm)
  exact congrArg (fun k => ix2 k (x 1 : Fin w)) (Fin.ext (Nat.zero_add _))

include hoff in
theorem place (t : Fin 2) : (slot X.V inb hq).view.set = reg X.V.view (key (writer t c)) t := slot_set X.V inb hq hoff (key (writer t c)) t (key_iff t c)

include hoff hp in
theorem body (Q : PUnit → sProp 𝕄) (hQ : Q = fun _ => (plan X m).done (Y X m) c) :
    (plan X m).start (B X m) c ⊢ wp frame (wpE defs Variants.none (c.tc : Thread 8 Topo.v7x) none) Set.univ
      (prog X.A (slot X.V inb hq) (slot X.V inb' hq) ha ho ho' p X.q) Q := by
  subst hQ
  have none_left : ∀ k, k ∉ (plan X m).far.erase 1 := fun k => by rw [show (plan X m).far.erase 1 = ∅ from rfl]; exact Finset.notMem_empty k
  have po : (slot X.V inb hq).view.set = reg X.V.view (key c) 0 := place X c inb hq hoff 0
  have bo : (slot X.V inb hq).view.read Val (G X m c) = X.A.view.read Val (m (X.A.view.loc (c.tc : Thread 8 Topo.v7x))) := brought X m c inb hq hoff 0
  have hd : (X.A.view.loc (c.tc : Thread 8 Topo.v7x) ↦[Finset.univ]{fullShare} m (X.A.view.loc (c.tc : Thread 8 Topo.v7x)) : sProp 𝕄)
    ⊢ iprop((X.A.view.loc (c.tc : Thread 8 Topo.v7x) ↦[Finset.univ]{fullShare.left} m (X.A.view.loc (c.tc : Thread 8 Topo.v7x)))
      ∗ X.A.view.loc (c.tc : Thread 8 Topo.v7x) ↦[Finset.univ]{fullShare.right} m (X.A.view.loc (c.tc : Thread 8 Topo.v7x))) := (shares X m c).1
  unfold prog Plan.start B
  rw [three, three, two, show (plan X m).far = {1} from rfl, bigSep_singleton]
  iintro ⟨#HK, #HL, Hcr, ⟨Ht0, Ht1, Ht2⟩, ⟨Hp0, Hp1, Hp2⟩, Ho, Hs, Hd0, Hd1⟩
  ihave Hs2 := hd $$ Hs
  icases Hs2 with ⟨HsL, HsR⟩
  iapply ((plan X m).put_copy Variants.none (src := X.A) (dst := slot X.V inb hq) c 2 rfl rfl
    fullShare.left (m (X.A.view.loc (c.tc : Thread 8 Topo.v7x))) (m (X.V.view.loc (c.tc : Thread 8 Topo.v7x))) (G X m c) (X.nV _ _)
    X.hA po bo (Entails.refl _)) $$ [HsL Hd0 Ht2]
  · isplitr; · iexact HK
    isplitl [HsL]; · iexact HsL
    isplitl [Hd0]; · iexact Hd0
    iexact Ht2
  iintro Hc2
  iapply ((plan X m).put_send Variants.none (src := X.A) (dst := slot X.V inb hq) c 0 1 rfl (sib c) rfl
    (S := (plan X m).far) (Finset.mem_singleton_self _) hp rfl rfl fullShare.right
    (m (X.A.view.loc (c.tc : Thread 8 Topo.v7x))) (m (X.V.view.loc (Dev.tc (sib c) : Thread 8 Topo.v7x))) (G X m (sib c)) (X.nV _ _) rfl
    X.hA (place X c inb hq hoff 1) (brought X m c inb hq hoff 1) (Entails.refl _) (Entails.refl _)) $$ [HsR Hd1 Ho Ht0 Ht1]
  · isplitr; · iexact HK
    isplitl [HsR]; · iexact HsR
    isplitl [Hd1]; · iexact Hd1
    isplitl [Ho]; · iexact Ho
    isplitl [Ht0]; · iexact Ht0
    iexact Ht1
  iintro ⟨Hc0, Ho⟩
  iapply ((plan X m).step_wait Variants.none c 1 (S := (plan X m).far.erase 1) (fun k' hk' => absurd hk' (none_left k')) rfl (X.nV _ _) (fun _ => rfl)) $$ [Hcr Ho Hp1]
  · isplitr; · iexact HK
    isplitr; · iexact HL
    isplitl [Hcr]; · iexact Hcr
    isplitl [Ho]; · iexact Ho
    iexact Hp1
  iintro ⟨Hf1, Hz1, Ho⟩
  iapply ((plan X m).step_wait Variants.none c 0 (S := (plan X m).far.erase 1) (fun k' hk' => absurd hk' (none_left k')) rfl rfl (fun _ => rfl)) $$ [Hc0 Ho Hp0]
  · isplitr; · iexact HK
    isplitr; · iexact HL
    isplitl [Hc0]; · iexact Hc0
    isplitl [Ho]; · iexact Ho
    iexact Hp0
  iintro ⟨HsR, Hz0, Ho⟩
  iapply ((plan X m).step_wait Variants.none c 2 (S := (plan X m).far.erase 1) (fun k' hk' => absurd hk' (none_left k')) rfl (X.nV _ _) (fun _ => rfl)) $$ [Hc2 Ho Hp2]
  · isplitr; · iexact HK
    isplitr; · iexact HL
    isplitl [Hc2]; · iexact Hc2
    isplitl [Ho]; · iexact Ho
    iexact Hp2
  iintro ⟨H2, Hz2, Ho⟩
  rw [wp_ret]; imodintro
  unfold Plan.done
  rw [three]
  isplitl [HsR Hf1 H2]
  · iapply (finish X m c)
    isplitl [HsR]; · iexact HsR
    isplitl [Hf1]; · iexact Hf1
    iexact H2
  isplitl [Hz0 Hz1 Hz2]
  · isplitl [Hz0]; · iexact Hz0
    isplitl [Hz1]; · iexact Hz1
    iexact Hz2
  iexact Ho

end Body

end Cert.Exchange.Back

end
-- ==== Proof.BackWhole.lean ====
/-
# The exchange back, of whole arrays

What the reference makes of the whole argument, index by index, and that each device's result is its block of it.
-/
module

public import proofs.«01_k».proof.Proof.Back

@[expose] public section

set_option Elab.async false

noncomputable section

namespace Cert.Exchange.Back

open Idealize.ShloMosaic
open Idealize.ShloMosaic.TcCoe Idealize.ShloMosaic.ValueIdx

variable {α : Type} {h w v : ℕ}

/-- What the reference asks of the shapes, `v` being the whole argument's rows. -/
structure Shapes (h w v : ℕ) : Prop where
  e₁ : (⟨2, ![v, w]⟩ : Shape).ShapeCasts ⟨5, ![4, 1, 2, h, w]⟩
  e₂ : (⟨5, ![4, 1, 2, h, w]⟩ : Shape).BroadcastsInDim ⟨5, ![4, 2, 2, h, w]⟩ (![0, 1, 2, 3, 4] : Fin 5 → Fin 5)
  e₃ : (⟨5, ![4, 2, 2, h, w]⟩ : Shape).ShapeCasts ⟨3, ![16, h, w]⟩
  t : Layout.Tiles ⟨2, ![h, w]⟩ ⟨2, ![v, w]⟩ 0 8
  t' : Layout.Tiles ⟨3, ![2, h, w]⟩ ⟨3, ![16, h, w]⟩ 0 8

variable (S : Shapes h w v)

/-- The reference's result, of the whole argument. -/
def whole (W : (⟨2, ![v, w]⟩ : Shape).Idx → α) : (⟨3, ![16, h, w]⟩ : Shape).Idx → α :=
  shapeCast _ (broadcastInDim ⟨5, ![4, 2, 2, h, w]⟩ ![0, 1, 2, 3, 4] S.e₂ (shapeCast ⟨5, ![4, 1, 2, h, w]⟩ W S.e₁)) S.e₃

theorem whole_at (W : (⟨2, ![v, w]⟩ : Shape).Idx → α) (p : Fin 4) (k l : Fin 2) (x : Fin h) (y : Fin w)
    (I : (⟨3, ![16, h, w]⟩ : Shape).Idx) (R : (⟨2, ![v, w]⟩ : Shape).Idx)
    (h0 : (I 0).val = (p.val * 2 + k.val) * 2 + l.val) (h1 : (I 1).val = x.val) (h2 : (I 2).val = y.val)
    (r0 : (R 0).val = (p.val * 2 + l.val) * h + x.val) (r1 : (R 1).val = y.val) : whole S W I = W R := by
  refine (shapeCast_apply _ _ I (ix5 p k l x y) ?_).trans ((broadcastInDim_apply _ _ _ _ (ix5 p (0 : Fin 1) l x y) ?_).trans (shapeCast_apply _ _ _ R ?_))
  · rw [Shape.rowMajor_val_three, Shape.rowMajor_val_five]
    show ((((p.val * 2 + k.val) * 2 + l.val) * h + x.val) * w + y.val) = ((I 0).val * h + (I 1).val) * w + (I 2).val
    rw [h0, h1, h2]
  · intro i
    have hx := x.isLt
    have hy := y.isLt
    fin_cases i
    · rfl
    · rfl
    · rfl
    · show x.val = if h = 1 then 0 else x.val
      split <;> omega
    · show y.val = if w = 1 then 0 else y.val
      split <;> omega
  · rw [Shape.rowMajor_val_two, Shape.rowMajor_val_five]
    show (R 0).val * w + (R 1).val = ((((p.val * 1 + 0) * 2 + l.val) * h + x.val) * w + y.val)
    rw [r0, r1, Nat.mul_one, Nat.add_zero]

/-- Each device's result, from the arguments of the cores of its chip, is its block of the whole. -/
theorem value (W : (⟨2, ![v, w]⟩ : Shape).Idx → α) (a : Fin 8 → (⟨2, ![h, w]⟩ : Shape).Idx → α)
    (ha : ∀ c, a c = Layout.block ⟨2, ![h, w]⟩ ⟨2, ![v, w]⟩ 0 8 c W S.t) (c : Fin 8) :
    (fun i : (⟨3, ![2, h, w]⟩ : Shape).Idx => a (core c (i 0)) (ix2 (i 1) (i 2))) = Layout.block ⟨3, ![2, h, w]⟩ ⟨3, ![16, h, w]⟩ 0 8 c (whole S W) S.t' := by
  funext i
  obtain ⟨j, x, y, rfl⟩ : ∃ (j : Fin 2) (x : Fin h) (y : Fin w), i = ix3 j x y := ⟨i 0, i 1, i 2, eq_ix3 i⟩
  refine (congrFun (ha (core c j)) (ix2 x y)).trans ?_
  refine (whole_at S W (chip c) (own c) j x y _ _ ?_ rfl rfl ?_ rfl).symm
  · show c.val * 2 + j.val = (c.val / 2 * 2 + c.val % 2) * 2 + j.val; omega
  · show (2 * (c.val / 2) + j.val) * h + x.val = (c.val / 2 * 2 + j.val) * h + x.val
    rw [Nat.mul_comm 2]

end Cert.Exchange.Back

end
-- ==== Proof.BackIn.lean ====
/-
# The exchange back between the two cores of a chip, of w_in

The run of `BackIdeal`, over any values, and its result; the same of `Back`.
-/
module

public import proofs.«01_k».proof.Proof.BackWhole
public import proofs.«01_k».proof.Proof.Gen.BackIdeal.Launch
public import proofs.«01_k».proof.Proof.Gen.BackIdeal.Skeleton
public import proofs.«01_k».proof.Proof.Gen.BackIdeal.Points
public import proofs.«01_k».proof.Proof.Gen.BackRefIdeal.Run
public import proofs.«01_k».proof.Proof.Gen.Back.Launch
public import proofs.«01_k».proof.Proof.Gen.BackRef
public import proofs.«01_k».proof.Defs

@[expose] public section

set_option Elab.async false

noncomputable section

namespace Cert.BackIdeal.Run

open Cert.BackIdeal Cert.BackIdeal.Gen Cert.Exchange
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

/-- The semaphores. -/
abbrev sems : Fin 3 → DmaSem sig := ![cc0_scratch0.sem, cc0_scratch1.sem, cc0_scratch2.sem]

theorem own_facts : OwnSemFacts cfg0.spec fun k => .dma (sems k) := by decide

/-- The arrays. -/
def site : Back.Site sig .f32 4096 1668 where
  A := Memref.whole main_arg0
  V := Memref.whole main_v1
  hA := View.set_whole _
  hV := View.set_whole _
  q := sems
  inj := by decide
  pos := View.dmaCredit_pos _ (by decide)
  nV _ _ := rfl

variable (m : (ℓ : Loc nD τ sig) → Buf (Elt F) ℓ)

theorem dev1 : ∀ c : Dev nD, (⟨k0_dev1 c, k0_dev1_lt c⟩ : Dev nD) = sib c := by decide +kernel

attribute [local irreducible] k0_off1 k0_off2 k0_dev1

theorem body (c : Dev nD) (t : Fin cfg0.N) :
    (Back.plan site m).start (Back.B site m) c ⊢ wp frame (wpE (defs₀ (F := F)) Variants.none (c.tc : Thread nD τ) none) Set.univ (bodyAt0 (F := F) t)
      fun _ => (Back.plan site m).done (Back.Y site m) c := by
  have H := Back.body (Λ := Λ₀) (defs := defs₀ (F := F)) site m c (k0_off1_inb c) (k0_off2_inb c) squeezes_S1x4096x1668_S4096x1668
    (ha := (Memref.isWhole_whole _).wordExact) (ho := (View.wordExact_bits rfl).reshape _ _) (ho' := (View.wordExact_bits rfl).reshape _ _)
    (k0_off1_eq c) (dev1 c) _ rfl
  refine H.trans (Entails.of_eq ?_)
  clear H
  unfold bodyAt0
  rw [cc0_rs_gather_w_in_eq_skeleton]; unfold cc0_rs_gather_w_in_skel
  rw [k0_part1_eq_skeleton]; unfold k0_part1_skel
  simp only [Prog.lift, Prog.bind_op, Prog.bind_ret, Prog.pure_eq_ret, wp_deviceId]
  unfold Back.prog
  congr 1

theorem ends (g : Dev nD → PrngReg) : Ends (defs (F := F)) main m g main_arg0 main_v1 (Back.g site m) :=
  (funext fun c => fill_whole main_v1 c _ _ : Back.G site m = Back.g site m) ▸ (Back.plan site m).run_ends cfgs 0 cellOf_inj winFacts0.to₀ own_facts defs₀ m g main (fun _ => rfl) (fun _ => ⟨fun w => w.elim0⟩) N_0 scopedRest0_eq
    (View.whole main_arg0) (View.whole main_v1) (by decide) (by decide) (View.set_whole _) (by decide) (fun c => Back.key c) Back.writer _ (body m)

theorem shapes : Back.Shapes 4096 1668 32768 := by constructor <;> decide

end Cert.BackIdeal.Run

namespace Cert.Proof

open Idealize.ShloMosaic Cert.Exchange BackIdeal.Run

theorem quiescent_Back : Cert.quiescent_Back := fun m g _ => (ends (F := Bits) m g).frame
theorem quiescent_BackIdeal : Cert.quiescent_BackIdeal := fun m g _ => (ends (F := Ideal) m g).frame
theorem quiescent_BackRef : Cert.quiescent_BackRef := fun m g _ => (ends_of_no_sems (by decide) (BackRefIdeal.Value.run (F := Bits) m g)).frame
theorem quiescent_BackRefIdeal : Cert.quiescent_BackRefIdeal := fun m g _ => (ends_of_no_sems (by decide) (BackRefIdeal.Value.run (F := Ideal) m g)).frame
theorem algebraic_Back : Cert.algebraic_BackIdeal_BackRefIdeal := fun m g m' g' _ h =>
  (ends (F := Ideal) m g).agree (ends_of_no_sems (by decide) (BackRefIdeal.Value.run m' g')) (Back.value shapes _ _ h)
theorem bitexact_Back : Cert.bitexact_Back_BackRef := fun m g m' g' _ h =>
  (ends (F := Bits) m g).agree (ends_of_no_sems (by decide) (BackRefIdeal.Value.run m' g')) (Back.value shapes _ _ h)

end Cert.Proof

end
-- ==== Proof.GatherOut.lean ====
/-
# The gathering of the chips' matrices, of w_out

The run of `GatherOutIdeal`, over any values, and its result; the same of `GatherOut`.
-/
module

public import proofs.«01_k».proof.Proof.GatherWhole
public import proofs.«01_k».proof.Proof.Gen.GatherOutIdeal.Launch
public import proofs.«01_k».proof.Proof.Gen.GatherOutIdeal.Skeleton
public import proofs.«01_k».proof.Proof.Gen.GatherOutIdeal.Points
public import proofs.«01_k».proof.Proof.Gen.GatherOutRefIdeal.Run
public import proofs.«01_k».proof.Proof.Gen.GatherOut.Launch
public import proofs.«01_k».proof.Proof.Gen.GatherOutRef
public import proofs.«01_k».proof.Defs

@[expose] public section

set_option Elab.async false

noncomputable section

namespace Cert.GatherOutIdeal.Run

open Cert.GatherOutIdeal Cert.GatherOutIdeal.Gen Cert.Exchange
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

/-- The semaphores. -/
def sems : Gather.K → DmaSem sig
  | none => cc0_scratch2.sem
  | some (i, b, k) => nth (if i = 0 then cc0_scratch0 else cc0_scratch1) ⟨3 * b.val + k.val, by omega⟩

theorem own_facts : OwnSemFacts cfg0.spec fun k => .dma (sems k) := by decide

/-- The arrays. -/
def site : Gather.Site sig .bf16 2048 1024 2048 where
  A := Memref.whole main_arg0
  V := Memref.whole main_v1
  hA := View.set_whole _
  hV := View.set_whole _
  two := rfl
  q := sems
  inj := by decide
  M := (slot (h' := 2048) (Memref.whole main_v1) (off := k0_off1 0) (k0_off1_inb 0) squeezes_S1x2048x2048_S2048x2048).view.dmaCredit
  N := (slot (h' := 1024) (Memref.whole main_v1) (off := k0_off2 0) (k0_off2_inb 0) squeezes_S1x1024x2048_S1024x2048).view.dmaCredit
  posM := View.dmaCredit_pos _ (by decide)
  posN := View.dmaCredit_pos _ (by decide)
  nM _ _ := rfl
  nA _ := rfl
  nV _ _ := rfl

variable (m : (ℓ : Loc nD τ sig) → Buf (Elt F) ℓ)

theorem off_own : ∀ c : Dev nD, k0_off1 c = ![(chip c).val, 0, 0] := by decide +kernel
theorem off_sent : ∀ c : Dev nD, k0_off2 c = ![(chip c).val, Gather.row 1024 c 0, 0] := by decide +kernel
theorem off_src : ∀ c : Dev nD, k0_off3 c = ![Gather.row 1024 c 0, 0] := by decide +kernel
theorem offs : ∀ (c : Dev nD) (b : Fin 2) (k : Fin 3), (![![k0_off4 c, k0_off5 c, k0_off6 c], ![k0_off7 c, k0_off8 c, k0_off9 c]] : Fin 2 → Fin 3 → Fin 3 → ℕ) b k
    = ![(chip (hop k.succ c)).val, Gather.row 1024 c b, 0] := by
  decide +kernel
theorem devs : ∀ (c : Dev nD) (k : Fin 3), (![⟨k0_dev1 c, k0_dev1_lt c⟩, ⟨k0_dev2 c, k0_dev2_lt c⟩, ⟨k0_dev3 c, k0_dev3_lt c⟩] : Fin 3 → Dev nD) k = hop k.succ c := by
  decide +kernel
theorem devs' : ∀ (c : Dev nD) (k : Fin 3), (![⟨k0_dev4 c, k0_dev4_lt c⟩, ⟨k0_dev5 c, k0_dev5_lt c⟩, ⟨k0_dev6 c, k0_dev6_lt c⟩] : Fin 3 → Dev nD) k = sib c := by
  decide +kernel

attribute [local irreducible] k0_off1 k0_off2 k0_off3 k0_off4 k0_off5 k0_off6 k0_off7 k0_off8 k0_off9 k0_dev1 k0_dev2 k0_dev3 k0_dev4 k0_dev5 k0_dev6 Gather.key Gather.who

set_option maxHeartbeats 1000000 in
theorem body (c : Dev nD) (t : Fin cfg0.N) :
    (Gather.plan site m).start (Gather.B site m) c ⊢ wp frame (wpE (defs₀ (F := F)) Variants.none (c.tc : Thread nD τ) none) Set.univ (bodyAt0 (F := F) t)
      fun _ => (Gather.plan site m).done (Gather.Y site m) c := by
  have wA : (Memref.whole main_arg0).IsWhole := Memref.isWhole_whole _
  have wV : (Memref.whole main_v1).IsWhole := Memref.isWhole_whole _
  have H := Gather.body (Λ := Λ₀) (defs := defs₀ (F := F)) site m c
    (ov := ![![k0_off4 c, k0_off5 c, k0_off6 c], ![k0_off7 c, k0_off8 c, k0_off9 c]]) (k0_off1_inb c) (k0_off2_inb c) (k0_off3_inb c)
    (fun b k => by fin_cases b <;> fin_cases k <;> [exact k0_off4_inb c; exact k0_off5_inb c; exact k0_off6_inb c; exact k0_off7_inb c; exact k0_off8_inb c; exact k0_off9_inb c])
    squeezes_S1x2048x2048_S2048x2048 squeezes_S1x1024x2048_S1024x2048
    (ha := wA.wordExact) (hs := wA.wordExact_slice rfl _ (k0_off3_wordsbf16 c))
    (hl := (wV.wordExact_slice rfl _ (k0_off1_wordsbf16 c)).reshape _ _) (ho := (wV.wordExact_slice rfl _ (k0_off2_wordsbf16 c)).reshape _ _)
    (hv := fun b k => by
      fin_cases b <;> fin_cases k <;> [exact (wV.wordExact_slice rfl _ (k0_off4_wordsbf16 c)).reshape _ _; exact (wV.wordExact_slice rfl _ (k0_off5_wordsbf16 c)).reshape _ _;
        exact (wV.wordExact_slice rfl _ (k0_off6_wordsbf16 c)).reshape _ _; exact (wV.wordExact_slice rfl _ (k0_off7_wordsbf16 c)).reshape _ _;
        exact (wV.wordExact_slice rfl _ (k0_off8_wordsbf16 c)).reshape _ _; exact (wV.wordExact_slice rfl _ (k0_off9_wordsbf16 c)).reshape _ _])
    (p := ![⟨k0_dev1 c, k0_dev1_lt c⟩, ⟨k0_dev2 c, k0_dev2_lt c⟩, ⟨k0_dev3 c, k0_dev3_lt c⟩]) (p' := ![⟨k0_dev4 c, k0_dev4_lt c⟩, ⟨k0_dev5 c, k0_dev5_lt c⟩, ⟨k0_dev6 c, k0_dev6_lt c⟩])
    (off_own c) (off_sent c) (off_src c) (offs c) (devs c) (devs' c) _ rfl
  refine H.trans (Entails.of_eq ?_)
  clear H
  unfold bodyAt0
  rw [cc0_gather_w_out_eq_skeleton]; unfold cc0_gather_w_out_skel
  rw [k0_part7_eq_skeleton]; unfold k0_part7_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [Prog.lift, Prog.bind_op, Prog.bind_ret, Prog.pure_eq_ret, wp_deviceId]
  unfold Gather.prog
  simp only []
  congr 1

theorem ends (g : Dev nD → PrngReg) : Ends (defs (F := F)) main m g main_arg0 main_v1 (Gather.g site m) :=
  (funext fun c => fill_whole main_v1 c _ _ : Gather.G site m = Gather.g site m) ▸ (Gather.plan site m).run_ends cfgs 0 cellOf_inj winFacts0.to₀ own_facts defs₀ m g main (fun _ => rfl) (fun _ => ⟨fun w => w.elim0⟩) N_0 scopedRest0_eq
    (View.whole main_arg0) (View.whole main_v1) (by decide) (by decide) (View.set_whole _) (by decide) (Gather.key 1024) Gather.writer _ (body m)

theorem shapes : Gather.Shapes 2048 2048 8192 := by constructor <;> decide

end Cert.GatherOutIdeal.Run

namespace Cert.Proof

open Idealize.ShloMosaic Cert.Exchange GatherOutIdeal.Run

theorem quiescent_GatherOut : Cert.quiescent_GatherOut := fun m g _ => (ends (F := Bits) m g).frame
theorem quiescent_GatherOutIdeal : Cert.quiescent_GatherOutIdeal := fun m g _ => (ends (F := Ideal) m g).frame
theorem quiescent_GatherOutRef : Cert.quiescent_GatherOutRef := fun m g _ => (ends_of_no_sems (by decide) (GatherOutRefIdeal.Value.run (F := Bits) m g)).frame
theorem quiescent_GatherOutRefIdeal : Cert.quiescent_GatherOutRefIdeal := fun m g _ => (ends_of_no_sems (by decide) (GatherOutRefIdeal.Value.run (F := Ideal) m g)).frame
theorem algebraic_GatherOut : Cert.algebraic_GatherOutIdeal_GatherOutRefIdeal := fun m g m' g' _ h =>
  (ends (F := Ideal) m g).agree (ends_of_no_sems (by decide) (GatherOutRefIdeal.Value.run m' g')) (cut := fun _ w => w) (Gather.value shapes _ _ h)
theorem bitexact_GatherOut : Cert.bitexact_GatherOut_GatherOutRef := fun m g m' g' _ h =>
  (ends (F := Bits) m g).agree (ends_of_no_sems (by decide) (GatherOutRefIdeal.Value.run m' g')) (cut := fun _ w => w) (Gather.value shapes _ _ h)

end Cert.Proof

end
-- ==== Proof.PairOut.lean ====
/-
# The exchange within a chip, of w_out

The run of `PairOutIdeal`, over any values, and its result; the same of `PairOut`.
-/
module

public import proofs.«01_k».proof.Proof.PairWhole
public import proofs.«01_k».proof.Proof.Gen.PairOutIdeal.Launch
public import proofs.«01_k».proof.Proof.Gen.PairOutIdeal.Skeleton
public import proofs.«01_k».proof.Proof.Gen.PairOutIdeal.Points
public import proofs.«01_k».proof.Proof.Gen.PairOutRefIdeal.Run
public import proofs.«01_k».proof.Proof.Gen.PairOut.Launch
public import proofs.«01_k».proof.Proof.Gen.PairOutRef
public import proofs.«01_k».proof.Defs

@[expose] public section

set_option Elab.async false

noncomputable section

namespace Cert.PairOutIdeal.Run

open Cert.PairOutIdeal Cert.PairOutIdeal.Gen Cert.Exchange
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

/-- The semaphores. -/
abbrev sems (k : Pair.K) : DmaSem sig := nth (if k.1 = 0 then cc0_scratch0 else cc0_scratch1) k.2

theorem own_facts : OwnSemFacts cfg0.spec fun k => .dma (sems k) := by decide

/-- The arrays. -/
def site : Pair.Site sig .f32 1024 2048 where
  A := Memref.whole main_arg0
  V := Memref.whole main_v1
  hA := View.set_whole _
  hV := View.set_whole _
  q := sems
  inj := by decide
  N := (slot (h' := 1024) (Memref.whole main_v1) (off := ![0, 0, 0]) inb_S4x1024x2048_S1x1024x2048_0_0_0 squeezes_S1x1024x2048_S1024x2048).view.dmaCredit
  pos := View.dmaCredit_pos _ (by decide)
  nA _ _ := rfl
  nV _ _ := rfl

variable (m : (ℓ : Loc nD τ sig) → Buf (Elt F) ℓ)

theorem offs : ∀ (c : Dev nD) (j : Fin 4), (![k0_off1 c, k0_off2 c, k0_off3 c, k0_off4 c] : Fin 4 → Fin 4 → ℕ) j = ![j.val, (own (sib c)).val, 0, 0] := by
  decide +kernel
theorem devs : ∀ (c : Dev nD) (j : Fin 4), (![⟨k0_dev1 c, k0_dev1_lt c⟩, ⟨k0_dev2 c, k0_dev2_lt c⟩, ⟨k0_dev3 c, k0_dev3_lt c⟩, ⟨k0_dev4 c, k0_dev4_lt c⟩] : Fin 4 → Dev nD) j = sib c := by
  decide +kernel

attribute [local irreducible] k0_off1 k0_off2 k0_off3 k0_off4 k0_dev1 k0_dev2 k0_dev3 k0_dev4

theorem body (c : Dev nD) (t : Fin cfg0.N) :
    (Pair.plan site m).start (Pair.B site m) c ⊢ wp frame (wpE (defs₀ (F := F)) Variants.none (c.tc : Thread nD τ) none) Set.univ (bodyAt0 (F := F) t)
      fun _ => (Pair.plan site m).done (Pair.Y site m) c := by
  have H := Pair.body (Λ := Λ₀) (defs := defs₀ (F := F)) site m c
    (off := ![k0_off1 c, k0_off2 c, k0_off3 c, k0_off4 c]) (off' := ![![0, 0, 0], ![1, 0, 0], ![2, 0, 0], ![3, 0, 0]])
    (fun j => by fin_cases j <;> [exact k0_off1_inb c; exact k0_off2_inb c; exact k0_off3_inb c; exact k0_off4_inb c])
    (fun j => by fin_cases j <;> [exact inb_S4x1024x2048_S1x1024x2048_0_0_0; exact inb_S4x1024x2048_S1x1024x2048_1_0_0;
      exact inb_S4x1024x2048_S1x1024x2048_2_0_0; exact inb_S4x1024x2048_S1x1024x2048_3_0_0])
    squeezes_S1x1x1024x2048_S1024x2048 squeezes_S1x1024x2048_S1024x2048
    (p := ![⟨k0_dev1 c, k0_dev1_lt c⟩, ⟨k0_dev2 c, k0_dev2_lt c⟩, ⟨k0_dev3 c, k0_dev3_lt c⟩, ⟨k0_dev4 c, k0_dev4_lt c⟩])
    (fun j => (offs c j)) (by decide) (fun j => (devs c j)) (hs := by intro j; fin_cases j <;> exact ((View.wordExact_bits rfl).reshape _ _)) (ho := by intro j; fin_cases j <;> exact ((View.wordExact_bits rfl).reshape _ _)) _ rfl
  refine H.trans (Entails.of_eq ?_)
  clear H
  unfold bodyAt0
  rw [cc0_rs_pair_w_out_eq_skeleton]; unfold cc0_rs_pair_w_out_skel
  rw [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret, wp_deviceId]
  unfold Pair.prog
  simp only []
  congr 1

theorem ends (g : Dev nD → PrngReg) : Ends (defs (F := F)) main m g main_arg0 main_v1 (Pair.g site m) :=
  (funext fun c => fill_whole main_v1 c _ _ : Pair.G site m = Pair.g site m) ▸ (Pair.plan site m).run_ends cfgs 0 cellOf_inj winFacts0.to₀ own_facts defs₀ m g main (fun _ => rfl) (fun _ => ⟨fun w => w.elim0⟩) N_0 scopedRest0_eq
    (View.whole main_arg0) (View.whole main_v1) (by decide) (by decide) (View.set_whole _) (by decide) (fun _ => Pair.got) (fun _ => sib) _ (body m)

theorem shapes : Pair.Shapes 1024 2048 := by constructor <;> decide

end Cert.PairOutIdeal.Run

namespace Cert.Proof

open Idealize.ShloMosaic Cert.Exchange PairOutIdeal.Run

theorem quiescent_PairOut : Cert.quiescent_PairOut := fun m g _ => (ends (F := Bits) m g).frame
theorem quiescent_PairOutIdeal : Cert.quiescent_PairOutIdeal := fun m g _ => (ends (F := Ideal) m g).frame
theorem quiescent_PairOutRef : Cert.quiescent_PairOutRef := fun m g _ => (ends_of_no_sems (by decide) (PairOutRefIdeal.Value.run (F := Bits) m g)).frame
theorem quiescent_PairOutRefIdeal : Cert.quiescent_PairOutRefIdeal := fun m g _ => (ends_of_no_sems (by decide) (PairOutRefIdeal.Value.run (F := Ideal) m g)).frame
theorem algebraic_PairOut : Cert.algebraic_PairOutIdeal_PairOutRefIdeal := fun m g m' g' _ h =>
  (ends (F := Ideal) m g).agree (ends_of_no_sems (by decide) (PairOutRefIdeal.Value.run m' g')) (Pair.value shapes _ _ h)
theorem bitexact_PairOut : Cert.bitexact_PairOut_PairOutRef := fun m g m' g' _ h =>
  (ends (F := Bits) m g).agree (ends_of_no_sems (by decide) (PairOutRefIdeal.Value.run m' g')) (Pair.value shapes _ _ h)

end Cert.Proof

end
-- ==== Proof.ChipOut.lean ====
/-
# The exchange among the chips, of w_out

The run of `ChipOutIdeal`, over any values, and its result; the same of `ChipOut`.
-/
module

public import proofs.«01_k».proof.Proof.ChipWhole
public import proofs.«01_k».proof.Proof.Gen.ChipOutIdeal.Launch
public import proofs.«01_k».proof.Proof.Gen.ChipOutIdeal.Skeleton
public import proofs.«01_k».proof.Proof.Gen.ChipOutIdeal.Points
public import proofs.«01_k».proof.Proof.Gen.ChipOutRefIdeal.Run
public import proofs.«01_k».proof.Proof.Gen.ChipOut.Launch
public import proofs.«01_k».proof.Proof.Gen.ChipOutRef
public import proofs.«01_k».proof.Defs

@[expose] public section

set_option Elab.async false

noncomputable section

namespace Cert.ChipOutIdeal.Run

open Cert.ChipOutIdeal Cert.ChipOutIdeal.Gen Cert.Exchange
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

/-- The semaphores. -/
def sems : Chip.K → DmaSem sig
  | none => cc0_scratch2.sem
  | some (0, k) => nth cc0_scratch0 k
  | some (1, k) => nth cc0_scratch1 k

theorem own_facts : OwnSemFacts cfg0.spec fun k => .dma (sems k) := by decide

/-- The arrays. -/
def site : Chip.Site sig .f32 1024 2048 where
  A := Memref.whole main_arg0
  V := Memref.whole main_v1
  hA := View.set_whole _
  hV := View.set_whole _
  q := sems
  inj := by decide
  N := (slot (h' := 1024) (Memref.whole main_v1) (off := k0_off1 0) (k0_off1_inb 0) squeezes_S1x1024x2048_S1024x2048).view.dmaCredit
  pos := View.dmaCredit_pos _ (by decide)
  nA _ _ := rfl
  nV _ _ := rfl

variable (m : (ℓ : Loc nD τ sig) → Buf (Elt F) ℓ)

theorem offs : ∀ (c : Dev nD) (t : Fin 4), (![k0_off1 c, k0_off2 c, k0_off3 c, k0_off4 c] : Fin 4 → Fin 3 → ℕ) t = ![(chip (hop t c)).val, 0, 0] := by
  decide +kernel
theorem devs : ∀ (c : Dev nD) (k : Fin 3), (![⟨k0_dev1 c, k0_dev1_lt c⟩, ⟨k0_dev2 c, k0_dev2_lt c⟩, ⟨k0_dev3 c, k0_dev3_lt c⟩] : Fin 3 → Dev nD) k = hop k.succ c := by
  decide +kernel

attribute [local irreducible] k0_off1 k0_off2 k0_off3 k0_off4 k0_dev1 k0_dev2 k0_dev3

theorem body (c : Dev nD) (t : Fin cfg0.N) :
    (Chip.plan site m).start (Chip.B site m) c ⊢ wp frame (wpE (defs₀ (F := F)) Variants.none (c.tc : Thread nD τ) none) Set.univ (bodyAt0 (F := F) t)
      fun _ => (Chip.plan site m).done (Chip.Y site m) c := by
  have H := Chip.body (Λ := Λ₀) (defs := defs₀ (F := F)) site m c
    (off := ![k0_off1 c, k0_off2 c, k0_off3 c, k0_off4 c])
    (fun j => by fin_cases j <;> [exact k0_off1_inb c; exact k0_off2_inb c; exact k0_off3_inb c; exact k0_off4_inb c])
    squeezes_S1x1024x2048_S1024x2048
    (p := ![⟨k0_dev1 c, k0_dev1_lt c⟩, ⟨k0_dev2 c, k0_dev2_lt c⟩, ⟨k0_dev3 c, k0_dev3_lt c⟩])
    (offs c) (devs c) (hs := by intro j; fin_cases j <;> exact ((View.wordExact_bits rfl).reshape _ _)) (ho := by intro j; fin_cases j <;> exact ((View.wordExact_bits rfl).reshape _ _)) _ rfl
  refine H.trans (Entails.of_eq ?_)
  clear H
  unfold bodyAt0
  rw [cc0_rs_chip_w_out_eq_skeleton]; unfold cc0_rs_chip_w_out_skel
  rw [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  unfold Chip.prog
  simp only []
  congr 1

theorem ends (g : Dev nD → PrngReg) : Ends (defs (F := F)) main m g main_arg0 main_v1 (Chip.g site m) :=
  (funext fun c => fill_whole main_v1 c _ _ : Chip.G site m = Chip.g site m) ▸ (Chip.plan site m).run_ends cfgs 0 cellOf_inj winFacts0.to₀ own_facts defs₀ m g main (fun _ => rfl) (fun _ => ⟨fun w => w.elim0⟩) N_0 scopedRest0_eq
    (View.whole main_arg0) (View.whole main_v1) (by decide) (by decide) (View.set_whole _) (by decide) Chip.key hop _ (body m)

theorem shapes : Chip.Shapes 1024 2048 := by constructor <;> decide

end Cert.ChipOutIdeal.Run

namespace Cert.Proof

open Idealize.ShloMosaic Cert.Exchange ChipOutIdeal.Run

theorem quiescent_ChipOut : Cert.quiescent_ChipOut := fun m g _ => (ends (F := Bits) m g).frame
theorem quiescent_ChipOutIdeal : Cert.quiescent_ChipOutIdeal := fun m g _ => (ends (F := Ideal) m g).frame
theorem quiescent_ChipOutRef : Cert.quiescent_ChipOutRef := fun m g _ => (ends_of_no_sems (by decide) (ChipOutRefIdeal.Value.run (F := Bits) m g)).frame
theorem quiescent_ChipOutRefIdeal : Cert.quiescent_ChipOutRefIdeal := fun m g _ => (ends_of_no_sems (by decide) (ChipOutRefIdeal.Value.run (F := Ideal) m g)).frame
theorem algebraic_ChipOut : Cert.algebraic_ChipOutIdeal_ChipOutRefIdeal := fun m g m' g' _ h =>
  (ends (F := Ideal) m g).agree (ends_of_no_sems (by decide) (ChipOutRefIdeal.Value.run m' g')) (Chip.value shapes _ _ h)
theorem bitexact_ChipOut : Cert.bitexact_ChipOut_ChipOutRef := fun m g m' g' _ h =>
  (ends (F := Bits) m g).agree (ends_of_no_sems (by decide) (ChipOutRefIdeal.Value.run m' g')) (Chip.value shapes _ _ h)

end Cert.Proof

end
-- ==== Proof.BackOut.lean ====
/-
# The exchange back between the two cores of a chip, of w_out

The run of `BackOutIdeal`, over any values, and its result; the same of `BackOut`.
-/
module

public import proofs.«01_k».proof.Proof.BackWhole
public import proofs.«01_k».proof.Proof.Gen.BackOutIdeal.Launch
public import proofs.«01_k».proof.Proof.Gen.BackOutIdeal.Skeleton
public import proofs.«01_k».proof.Proof.Gen.BackOutIdeal.Points
public import proofs.«01_k».proof.Proof.Gen.BackOutRefIdeal.Run
public import proofs.«01_k».proof.Proof.Gen.BackOut.Launch
public import proofs.«01_k».proof.Proof.Gen.BackOutRef
public import proofs.«01_k».proof.Defs

@[expose] public section

set_option Elab.async false

noncomputable section

namespace Cert.BackOutIdeal.Run

open Cert.BackOutIdeal Cert.BackOutIdeal.Gen Cert.Exchange
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

/-- The semaphores. -/
abbrev sems : Fin 3 → DmaSem sig := ![cc0_scratch0.sem, cc0_scratch1.sem, cc0_scratch2.sem]

theorem own_facts : OwnSemFacts cfg0.spec fun k => .dma (sems k) := by decide

/-- The arrays. -/
def site : Back.Site sig .f32 1024 2048 where
  A := Memref.whole main_arg0
  V := Memref.whole main_v1
  hA := View.set_whole _
  hV := View.set_whole _
  q := sems
  inj := by decide
  pos := View.dmaCredit_pos _ (by decide)
  nV _ _ := rfl

variable (m : (ℓ : Loc nD τ sig) → Buf (Elt F) ℓ)

theorem dev1 : ∀ c : Dev nD, (⟨k0_dev1 c, k0_dev1_lt c⟩ : Dev nD) = sib c := by decide +kernel

attribute [local irreducible] k0_off1 k0_off2 k0_dev1

theorem body (c : Dev nD) (t : Fin cfg0.N) :
    (Back.plan site m).start (Back.B site m) c ⊢ wp frame (wpE (defs₀ (F := F)) Variants.none (c.tc : Thread nD τ) none) Set.univ (bodyAt0 (F := F) t)
      fun _ => (Back.plan site m).done (Back.Y site m) c := by
  have H := Back.body (Λ := Λ₀) (defs := defs₀ (F := F)) site m c (k0_off1_inb c) (k0_off2_inb c) squeezes_S1x1024x2048_S1024x2048
    (ha := (Memref.isWhole_whole _).wordExact) (ho := (View.wordExact_bits rfl).reshape _ _) (ho' := (View.wordExact_bits rfl).reshape _ _)
    (k0_off1_eq c) (dev1 c) _ rfl
  refine H.trans (Entails.of_eq ?_)
  clear H
  unfold bodyAt0
  rw [cc0_rs_gather_w_out_eq_skeleton]; unfold cc0_rs_gather_w_out_skel
  rw [k0_part1_eq_skeleton]; unfold k0_part1_skel
  simp only [Prog.lift, Prog.bind_op, Prog.bind_ret, Prog.pure_eq_ret, wp_deviceId]
  unfold Back.prog
  congr 1

theorem ends (g : Dev nD → PrngReg) : Ends (defs (F := F)) main m g main_arg0 main_v1 (Back.g site m) :=
  (funext fun c => fill_whole main_v1 c _ _ : Back.G site m = Back.g site m) ▸ (Back.plan site m).run_ends cfgs 0 cellOf_inj winFacts0.to₀ own_facts defs₀ m g main (fun _ => rfl) (fun _ => ⟨fun w => w.elim0⟩) N_0 scopedRest0_eq
    (View.whole main_arg0) (View.whole main_v1) (by decide) (by decide) (View.set_whole _) (by decide) (fun c => Back.key c) Back.writer _ (body m)

theorem shapes : Back.Shapes 1024 2048 8192 := by constructor <;> decide

end Cert.BackOutIdeal.Run

namespace Cert.Proof

open Idealize.ShloMosaic Cert.Exchange BackOutIdeal.Run

theorem quiescent_BackOut : Cert.quiescent_BackOut := fun m g _ => (ends (F := Bits) m g).frame
theorem quiescent_BackOutIdeal : Cert.quiescent_BackOutIdeal := fun m g _ => (ends (F := Ideal) m g).frame
theorem quiescent_BackOutRef : Cert.quiescent_BackOutRef := fun m g _ => (ends_of_no_sems (by decide) (BackOutRefIdeal.Value.run (F := Bits) m g)).frame
theorem quiescent_BackOutRefIdeal : Cert.quiescent_BackOutRefIdeal := fun m g _ => (ends_of_no_sems (by decide) (BackOutRefIdeal.Value.run (F := Ideal) m g)).frame
theorem algebraic_BackOut : Cert.algebraic_BackOutIdeal_BackOutRefIdeal := fun m g m' g' _ h =>
  (ends (F := Ideal) m g).agree (ends_of_no_sems (by decide) (BackOutRefIdeal.Value.run m' g')) (Back.value shapes _ _ h)
theorem bitexact_BackOut : Cert.bitexact_BackOut_BackOutRef := fun m g m' g' _ h =>
  (ends (F := Bits) m g).agree (ends_of_no_sems (by decide) (BackOutRefIdeal.Value.run m' g')) (Back.value shapes _ _ h)

end Cert.Proof

end
-- ==== Proof.GatherKv.lean ====
/-
# The gathering of the chips' matrices, of w_kv

The run of `GatherKvIdeal`, over any values, and its result; the same of `GatherKv`.
-/
module

public import proofs.«01_k».proof.Proof.GatherWhole
public import proofs.«01_k».proof.Proof.Gen.GatherKvIdeal.Launch
public import proofs.«01_k».proof.Proof.Gen.GatherKvIdeal.Skeleton
public import proofs.«01_k».proof.Proof.Gen.GatherKvIdeal.Points
public import proofs.«01_k».proof.Proof.Gen.GatherKvRefIdeal.Run
public import proofs.«01_k».proof.Proof.Gen.GatherKv.Launch
public import proofs.«01_k».proof.Proof.Gen.GatherKvRef
public import proofs.«01_k».proof.Defs

@[expose] public section

set_option Elab.async false

noncomputable section

namespace Cert.GatherKvIdeal.Run

open Cert.GatherKvIdeal Cert.GatherKvIdeal.Gen Cert.Exchange
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

/-- The semaphores. -/
def sems : Gather.K → DmaSem sig
  | none => cc0_scratch2.sem
  | some (i, b, k) => nth (if i = 0 then cc0_scratch0 else cc0_scratch1) ⟨3 * b.val + k.val, by omega⟩

theorem own_facts : OwnSemFacts cfg0.spec fun k => .dma (sems k) := by decide

/-- The arrays. -/
def site : Gather.Site sig .bf16 2048 1024 1024 where
  A := Memref.whole main_arg0
  V := Memref.whole main_v1
  hA := View.set_whole _
  hV := View.set_whole _
  two := rfl
  q := sems
  inj := by decide
  M := (slot (h' := 2048) (Memref.whole main_v1) (off := k0_off1 0) (k0_off1_inb 0) squeezes_S1x2048x1024_S2048x1024).view.dmaCredit
  N := (slot (h' := 1024) (Memref.whole main_v1) (off := k0_off2 0) (k0_off2_inb 0) squeezes_S1x1024x1024_S1024x1024).view.dmaCredit
  posM := View.dmaCredit_pos _ (by decide)
  posN := View.dmaCredit_pos _ (by decide)
  nM _ _ := rfl
  nA _ := rfl
  nV _ _ := rfl

variable (m : (ℓ : Loc nD τ sig) → Buf (Elt F) ℓ)

theorem off_own : ∀ c : Dev nD, k0_off1 c = ![(chip c).val, 0, 0] := by decide +kernel
theorem off_sent : ∀ c : Dev nD, k0_off2 c = ![(chip c).val, Gather.row 1024 c 0, 0] := by decide +kernel
theorem off_src : ∀ c : Dev nD, k0_off3 c = ![Gather.row 1024 c 0, 0] := by decide +kernel
theorem offs : ∀ (c : Dev nD) (b : Fin 2) (k : Fin 3), (![![k0_off4 c, k0_off5 c, k0_off6 c], ![k0_off7 c, k0_off8 c, k0_off9 c]] : Fin 2 → Fin 3 → Fin 3 → ℕ) b k
    = ![(chip (hop k.succ c)).val, Gather.row 1024 c b, 0] := by
  decide +kernel
theorem devs : ∀ (c : Dev nD) (k : Fin 3), (![⟨k0_dev1 c, k0_dev1_lt c⟩, ⟨k0_dev2 c, k0_dev2_lt c⟩, ⟨k0_dev3 c, k0_dev3_lt c⟩] : Fin 3 → Dev nD) k = hop k.succ c := by
  decide +kernel
theorem devs' : ∀ (c : Dev nD) (k : Fin 3), (![⟨k0_dev4 c, k0_dev4_lt c⟩, ⟨k0_dev5 c, k0_dev5_lt c⟩, ⟨k0_dev6 c, k0_dev6_lt c⟩] : Fin 3 → Dev nD) k = sib c := by
  decide +kernel

attribute [local irreducible] k0_off1 k0_off2 k0_off3 k0_off4 k0_off5 k0_off6 k0_off7 k0_off8 k0_off9 k0_dev1 k0_dev2 k0_dev3 k0_dev4 k0_dev5 k0_dev6 Gather.key Gather.who

set_option maxHeartbeats 1000000 in
theorem body (c : Dev nD) (t : Fin cfg0.N) :
    (Gather.plan site m).start (Gather.B site m) c ⊢ wp frame (wpE (defs₀ (F := F)) Variants.none (c.tc : Thread nD τ) none) Set.univ (bodyAt0 (F := F) t)
      fun _ => (Gather.plan site m).done (Gather.Y site m) c := by
  have wA : (Memref.whole main_arg0).IsWhole := Memref.isWhole_whole _
  have wV : (Memref.whole main_v1).IsWhole := Memref.isWhole_whole _
  have H := Gather.body (Λ := Λ₀) (defs := defs₀ (F := F)) site m c
    (ov := ![![k0_off4 c, k0_off5 c, k0_off6 c], ![k0_off7 c, k0_off8 c, k0_off9 c]]) (k0_off1_inb c) (k0_off2_inb c) (k0_off3_inb c)
    (fun b k => by fin_cases b <;> fin_cases k <;> [exact k0_off4_inb c; exact k0_off5_inb c; exact k0_off6_inb c; exact k0_off7_inb c; exact k0_off8_inb c; exact k0_off9_inb c])
    squeezes_S1x2048x1024_S2048x1024 squeezes_S1x1024x1024_S1024x1024
    (ha := wA.wordExact) (hs := wA.wordExact_slice rfl _ (k0_off3_wordsbf16 c))
    (hl := (wV.wordExact_slice rfl _ (k0_off1_wordsbf16 c)).reshape _ _) (ho := (wV.wordExact_slice rfl _ (k0_off2_wordsbf16 c)).reshape _ _)
    (hv := fun b k => by
      fin_cases b <;> fin_cases k <;> [exact (wV.wordExact_slice rfl _ (k0_off4_wordsbf16 c)).reshape _ _; exact (wV.wordExact_slice rfl _ (k0_off5_wordsbf16 c)).reshape _ _;
        exact (wV.wordExact_slice rfl _ (k0_off6_wordsbf16 c)).reshape _ _; exact (wV.wordExact_slice rfl _ (k0_off7_wordsbf16 c)).reshape _ _;
        exact (wV.wordExact_slice rfl _ (k0_off8_wordsbf16 c)).reshape _ _; exact (wV.wordExact_slice rfl _ (k0_off9_wordsbf16 c)).reshape _ _])
    (p := ![⟨k0_dev1 c, k0_dev1_lt c⟩, ⟨k0_dev2 c, k0_dev2_lt c⟩, ⟨k0_dev3 c, k0_dev3_lt c⟩]) (p' := ![⟨k0_dev4 c, k0_dev4_lt c⟩, ⟨k0_dev5 c, k0_dev5_lt c⟩, ⟨k0_dev6 c, k0_dev6_lt c⟩])
    (off_own c) (off_sent c) (off_src c) (offs c) (devs c) (devs' c) _ rfl
  refine H.trans (Entails.of_eq ?_)
  clear H
  unfold bodyAt0
  rw [cc0_gather_w_kv_eq_skeleton]; unfold cc0_gather_w_kv_skel
  rw [k0_part7_eq_skeleton]; unfold k0_part7_skel
  rw [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [Prog.lift, Prog.bind_op, Prog.bind_ret, Prog.pure_eq_ret, wp_deviceId]
  unfold Gather.prog
  simp only []
  congr 1

theorem ends (g : Dev nD → PrngReg) : Ends (defs (F := F)) main m g main_arg0 main_v1 (Gather.g site m) :=
  (funext fun c => fill_whole main_v1 c _ _ : Gather.G site m = Gather.g site m) ▸ (Gather.plan site m).run_ends cfgs 0 cellOf_inj winFacts0.to₀ own_facts defs₀ m g main (fun _ => rfl) (fun _ => ⟨fun w => w.elim0⟩) N_0 scopedRest0_eq
    (View.whole main_arg0) (View.whole main_v1) (by decide) (by decide) (View.set_whole _) (by decide) (Gather.key 1024) Gather.writer _ (body m)

theorem shapes : Gather.Shapes 2048 1024 4096 := by constructor <;> decide

end Cert.GatherKvIdeal.Run

namespace Cert.Proof

open Idealize.ShloMosaic Cert.Exchange GatherKvIdeal.Run

theorem quiescent_GatherKv : Cert.quiescent_GatherKv := fun m g _ => (ends (F := Bits) m g).frame
theorem quiescent_GatherKvIdeal : Cert.quiescent_GatherKvIdeal := fun m g _ => (ends (F := Ideal) m g).frame
theorem quiescent_GatherKvRef : Cert.quiescent_GatherKvRef := fun m g _ => (ends_of_no_sems (by decide) (GatherKvRefIdeal.Value.run (F := Bits) m g)).frame
theorem quiescent_GatherKvRefIdeal : Cert.quiescent_GatherKvRefIdeal := fun m g _ => (ends_of_no_sems (by decide) (GatherKvRefIdeal.Value.run (F := Ideal) m g)).frame
theorem algebraic_GatherKv : Cert.algebraic_GatherKvIdeal_GatherKvRefIdeal := fun m g m' g' _ h =>
  (ends (F := Ideal) m g).agree (ends_of_no_sems (by decide) (GatherKvRefIdeal.Value.run m' g')) (cut := fun _ w => w) (Gather.value shapes _ _ h)
theorem bitexact_GatherKv : Cert.bitexact_GatherKv_GatherKvRef := fun m g m' g' _ h =>
  (ends (F := Bits) m g).agree (ends_of_no_sems (by decide) (GatherKvRefIdeal.Value.run m' g')) (cut := fun _ w => w) (Gather.value shapes _ _ h)

end Cert.Proof

end
-- ==== Proof.PairKv.lean ====
/-
# The exchange within a chip, of w_kv

The run of `PairKvIdeal`, over any values, and its result; the same of `PairKv`.
-/
module

public import proofs.«01_k».proof.Proof.PairWhole
public import proofs.«01_k».proof.Proof.Gen.PairKvIdeal.Launch
public import proofs.«01_k».proof.Proof.Gen.PairKvIdeal.Skeleton
public import proofs.«01_k».proof.Proof.Gen.PairKvIdeal.Points
public import proofs.«01_k».proof.Proof.Gen.PairKvRefIdeal.Run
public import proofs.«01_k».proof.Proof.Gen.PairKv.Launch
public import proofs.«01_k».proof.Proof.Gen.PairKvRef
public import proofs.«01_k».proof.Defs

@[expose] public section

set_option Elab.async false

noncomputable section

namespace Cert.PairKvIdeal.Run

open Cert.PairKvIdeal Cert.PairKvIdeal.Gen Cert.Exchange
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

/-- The semaphores. -/
abbrev sems (k : Pair.K) : DmaSem sig := nth (if k.1 = 0 then cc0_scratch0 else cc0_scratch1) k.2

theorem own_facts : OwnSemFacts cfg0.spec fun k => .dma (sems k) := by decide

/-- The arrays. -/
def site : Pair.Site sig .f32 1024 1024 where
  A := Memref.whole main_arg0
  V := Memref.whole main_v1
  hA := View.set_whole _
  hV := View.set_whole _
  q := sems
  inj := by decide
  N := (slot (h' := 1024) (Memref.whole main_v1) (off := ![0, 0, 0]) inb_S4x1024x1024_S1x1024x1024_0_0_0 squeezes_S1x1024x1024_S1024x1024).view.dmaCredit
  pos := View.dmaCredit_pos _ (by decide)
  nA _ _ := rfl
  nV _ _ := rfl

variable (m : (ℓ : Loc nD τ sig) → Buf (Elt F) ℓ)

theorem offs : ∀ (c : Dev nD) (j : Fin 4), (![k0_off1 c, k0_off2 c, k0_off3 c, k0_off4 c] : Fin 4 → Fin 4 → ℕ) j = ![j.val, (own (sib c)).val, 0, 0] := by
  decide +kernel
theorem devs : ∀ (c : Dev nD) (j : Fin 4), (![⟨k0_dev1 c, k0_dev1_lt c⟩, ⟨k0_dev2 c, k0_dev2_lt c⟩, ⟨k0_dev3 c, k0_dev3_lt c⟩, ⟨k0_dev4 c, k0_dev4_lt c⟩] : Fin 4 → Dev nD) j = sib c := by
  decide +kernel

attribute [local irreducible] k0_off1 k0_off2 k0_off3 k0_off4 k0_dev1 k0_dev2 k0_dev3 k0_dev4

theorem body (c : Dev nD) (t : Fin cfg0.N) :
    (Pair.plan site m).start (Pair.B site m) c ⊢ wp frame (wpE (defs₀ (F := F)) Variants.none (c.tc : Thread nD τ) none) Set.univ (bodyAt0 (F := F) t)
      fun _ => (Pair.plan site m).done (Pair.Y site m) c := by
  have H := Pair.body (Λ := Λ₀) (defs := defs₀ (F := F)) site m c
    (off := ![k0_off1 c, k0_off2 c, k0_off3 c, k0_off4 c]) (off' := ![![0, 0, 0], ![1, 0, 0], ![2, 0, 0], ![3, 0, 0]])
    (fun j => by fin_cases j <;> [exact k0_off1_inb c; exact k0_off2_inb c; exact k0_off3_inb c; exact k0_off4_inb c])
    (fun j => by fin_cases j <;> [exact inb_S4x1024x1024_S1x1024x1024_0_0_0; exact inb_S4x1024x1024_S1x1024x1024_1_0_0;
      exact inb_S4x1024x1024_S1x1024x1024_2_0_0; exact inb_S4x1024x1024_S1x1024x1024_3_0_0])
    squeezes_S1x1x1024x1024_S1024x1024 squeezes_S1x1024x1024_S1024x1024
    (p := ![⟨k0_dev1 c, k0_dev1_lt c⟩, ⟨k0_dev2 c, k0_dev2_lt c⟩, ⟨k0_dev3 c, k0_dev3_lt c⟩, ⟨k0_dev4 c, k0_dev4_lt c⟩])
    (fun j => (offs c j)) (by decide) (fun j => (devs c j)) (hs := by intro j; fin_cases j <;> exact ((View.wordExact_bits rfl).reshape _ _)) (ho := by intro j; fin_cases j <;> exact ((View.wordExact_bits rfl).reshape _ _)) _ rfl
  refine H.trans (Entails.of_eq ?_)
  clear H
  unfold bodyAt0
  rw [cc0_rs_pair_w_kv_eq_skeleton]; unfold cc0_rs_pair_w_kv_skel
  rw [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.lift, Prog.bind_op, Prog.bind_ret, Prog.pure_eq_ret, wp_deviceId]
  unfold Pair.prog
  simp only []
  congr 1

theorem ends (g : Dev nD → PrngReg) : Ends (defs (F := F)) main m g main_arg0 main_v1 (Pair.g site m) :=
  (funext fun c => fill_whole main_v1 c _ _ : Pair.G site m = Pair.g site m) ▸ (Pair.plan site m).run_ends cfgs 0 cellOf_inj winFacts0.to₀ own_facts defs₀ m g main (fun _ => rfl) (fun _ => ⟨fun w => w.elim0⟩) N_0 scopedRest0_eq
    (View.whole main_arg0) (View.whole main_v1) (by decide) (by decide) (View.set_whole _) (by decide) (fun _ => Pair.got) (fun _ => sib) _ (body m)

theorem shapes : Pair.Shapes 1024 1024 := by constructor <;> decide

end Cert.PairKvIdeal.Run

namespace Cert.Proof

open Idealize.ShloMosaic Cert.Exchange PairKvIdeal.Run

theorem quiescent_PairKv : Cert.quiescent_PairKv := fun m g _ => (ends (F := Bits) m g).frame
theorem quiescent_PairKvIdeal : Cert.quiescent_PairKvIdeal := fun m g _ => (ends (F := Ideal) m g).frame
theorem quiescent_PairKvRef : Cert.quiescent_PairKvRef := fun m g _ => (ends_of_no_sems (by decide) (PairKvRefIdeal.Value.run (F := Bits) m g)).frame
theorem quiescent_PairKvRefIdeal : Cert.quiescent_PairKvRefIdeal := fun m g _ => (ends_of_no_sems (by decide) (PairKvRefIdeal.Value.run (F := Ideal) m g)).frame
theorem algebraic_PairKv : Cert.algebraic_PairKvIdeal_PairKvRefIdeal := fun m g m' g' _ h =>
  (ends (F := Ideal) m g).agree (ends_of_no_sems (by decide) (PairKvRefIdeal.Value.run m' g')) (Pair.value shapes _ _ h)
theorem bitexact_PairKv : Cert.bitexact_PairKv_PairKvRef := fun m g m' g' _ h =>
  (ends (F := Bits) m g).agree (ends_of_no_sems (by decide) (PairKvRefIdeal.Value.run m' g')) (Pair.value shapes _ _ h)

end Cert.Proof

end
-- ==== Proof.ChipKv.lean ====
/-
# The exchange among the chips, of w_kv

The run of `ChipKvIdeal`, over any values, and its result; the same of `ChipKv`.
-/
module

public import proofs.«01_k».proof.Proof.ChipWhole
public import proofs.«01_k».proof.Proof.Gen.ChipKvIdeal.Launch
public import proofs.«01_k».proof.Proof.Gen.ChipKvIdeal.Skeleton
public import proofs.«01_k».proof.Proof.Gen.ChipKvIdeal.Points
public import proofs.«01_k».proof.Proof.Gen.ChipKvRefIdeal.Run
public import proofs.«01_k».proof.Proof.Gen.ChipKv.Launch
public import proofs.«01_k».proof.Proof.Gen.ChipKvRef
public import proofs.«01_k».proof.Defs

@[expose] public section

set_option Elab.async false

noncomputable section

namespace Cert.ChipKvIdeal.Run

open Cert.ChipKvIdeal Cert.ChipKvIdeal.Gen Cert.Exchange
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

/-- The semaphores. -/
def sems : Chip.K → DmaSem sig
  | none => cc0_scratch2.sem
  | some (0, k) => nth cc0_scratch0 k
  | some (1, k) => nth cc0_scratch1 k

theorem own_facts : OwnSemFacts cfg0.spec fun k => .dma (sems k) := by decide

/-- The arrays. -/
def site : Chip.Site sig .f32 1024 1024 where
  A := Memref.whole main_arg0
  V := Memref.whole main_v1
  hA := View.set_whole _
  hV := View.set_whole _
  q := sems
  inj := by decide
  N := (slot (h' := 1024) (Memref.whole main_v1) (off := k0_off1 0) (k0_off1_inb 0) squeezes_S1x1024x1024_S1024x1024).view.dmaCredit
  pos := View.dmaCredit_pos _ (by decide)
  nA _ _ := rfl
  nV _ _ := rfl

variable (m : (ℓ : Loc nD τ sig) → Buf (Elt F) ℓ)

theorem offs : ∀ (c : Dev nD) (t : Fin 4), (![k0_off1 c, k0_off2 c, k0_off3 c, k0_off4 c] : Fin 4 → Fin 3 → ℕ) t = ![(chip (hop t c)).val, 0, 0] := by
  decide +kernel
theorem devs : ∀ (c : Dev nD) (k : Fin 3), (![⟨k0_dev1 c, k0_dev1_lt c⟩, ⟨k0_dev2 c, k0_dev2_lt c⟩, ⟨k0_dev3 c, k0_dev3_lt c⟩] : Fin 3 → Dev nD) k = hop k.succ c := by
  decide +kernel

attribute [local irreducible] k0_off1 k0_off2 k0_off3 k0_off4 k0_dev1 k0_dev2 k0_dev3

theorem body (c : Dev nD) (t : Fin cfg0.N) :
    (Chip.plan site m).start (Chip.B site m) c ⊢ wp frame (wpE (defs₀ (F := F)) Variants.none (c.tc : Thread nD τ) none) Set.univ (bodyAt0 (F := F) t)
      fun _ => (Chip.plan site m).done (Chip.Y site m) c := by
  have H := Chip.body (Λ := Λ₀) (defs := defs₀ (F := F)) site m c
    (off := ![k0_off1 c, k0_off2 c, k0_off3 c, k0_off4 c])
    (fun j => by fin_cases j <;> [exact k0_off1_inb c; exact k0_off2_inb c; exact k0_off3_inb c; exact k0_off4_inb c])
    squeezes_S1x1024x1024_S1024x1024
    (p := ![⟨k0_dev1 c, k0_dev1_lt c⟩, ⟨k0_dev2 c, k0_dev2_lt c⟩, ⟨k0_dev3 c, k0_dev3_lt c⟩])
    (offs c) (devs c) (hs := by intro j; fin_cases j <;> exact ((View.wordExact_bits rfl).reshape _ _)) (ho := by intro j; fin_cases j <;> exact ((View.wordExact_bits rfl).reshape _ _)) _ rfl
  refine H.trans (Entails.of_eq ?_)
  clear H
  unfold bodyAt0
  rw [cc0_rs_chip_w_kv_eq_skeleton]; unfold cc0_rs_chip_w_kv_skel
  rw [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  unfold Chip.prog
  simp only []
  congr 1

theorem ends (g : Dev nD → PrngReg) : Ends (defs (F := F)) main m g main_arg0 main_v1 (Chip.g site m) :=
  (funext fun c => fill_whole main_v1 c _ _ : Chip.G site m = Chip.g site m) ▸ (Chip.plan site m).run_ends cfgs 0 cellOf_inj winFacts0.to₀ own_facts defs₀ m g main (fun _ => rfl) (fun _ => ⟨fun w => w.elim0⟩) N_0 scopedRest0_eq
    (View.whole main_arg0) (View.whole main_v1) (by decide) (by decide) (View.set_whole _) (by decide) Chip.key hop _ (body m)

theorem shapes : Chip.Shapes 1024 1024 := by constructor <;> decide

end Cert.ChipKvIdeal.Run

namespace Cert.Proof

open Idealize.ShloMosaic Cert.Exchange ChipKvIdeal.Run

theorem quiescent_ChipKv : Cert.quiescent_ChipKv := fun m g _ => (ends (F := Bits) m g).frame
theorem quiescent_ChipKvIdeal : Cert.quiescent_ChipKvIdeal := fun m g _ => (ends (F := Ideal) m g).frame
theorem quiescent_ChipKvRef : Cert.quiescent_ChipKvRef := fun m g _ => (ends_of_no_sems (by decide) (ChipKvRefIdeal.Value.run (F := Bits) m g)).frame
theorem quiescent_ChipKvRefIdeal : Cert.quiescent_ChipKvRefIdeal := fun m g _ => (ends_of_no_sems (by decide) (ChipKvRefIdeal.Value.run (F := Ideal) m g)).frame
theorem algebraic_ChipKv : Cert.algebraic_ChipKvIdeal_ChipKvRefIdeal := fun m g m' g' _ h =>
  (ends (F := Ideal) m g).agree (ends_of_no_sems (by decide) (ChipKvRefIdeal.Value.run m' g')) (Chip.value shapes _ _ h)
theorem bitexact_ChipKv : Cert.bitexact_ChipKv_ChipKvRef := fun m g m' g' _ h =>
  (ends (F := Bits) m g).agree (ends_of_no_sems (by decide) (ChipKvRefIdeal.Value.run m' g')) (Chip.value shapes _ _ h)

end Cert.Proof

end
-- ==== Proof.BackKv.lean ====
/-
# The exchange back between the two cores of a chip, of w_kv

The run of `BackKvIdeal`, over any values, and its result; the same of `BackKv`.
-/
module

public import proofs.«01_k».proof.Proof.BackWhole
public import proofs.«01_k».proof.Proof.Gen.BackKvIdeal.Launch
public import proofs.«01_k».proof.Proof.Gen.BackKvIdeal.Skeleton
public import proofs.«01_k».proof.Proof.Gen.BackKvIdeal.Points
public import proofs.«01_k».proof.Proof.Gen.BackKvRefIdeal.Run
public import proofs.«01_k».proof.Proof.Gen.BackKv.Launch
public import proofs.«01_k».proof.Proof.Gen.BackKvRef
public import proofs.«01_k».proof.Defs

@[expose] public section

set_option Elab.async false

noncomputable section

namespace Cert.BackKvIdeal.Run

open Cert.BackKvIdeal Cert.BackKvIdeal.Gen Cert.Exchange
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

/-- The semaphores. -/
abbrev sems : Fin 3 → DmaSem sig := ![cc0_scratch0.sem, cc0_scratch1.sem, cc0_scratch2.sem]

theorem own_facts : OwnSemFacts cfg0.spec fun k => .dma (sems k) := by decide

/-- The arrays. -/
def site : Back.Site sig .f32 1024 1024 where
  A := Memref.whole main_arg0
  V := Memref.whole main_v1
  hA := View.set_whole _
  hV := View.set_whole _
  q := sems
  inj := by decide
  pos := View.dmaCredit_pos _ (by decide)
  nV _ _ := rfl

variable (m : (ℓ : Loc nD τ sig) → Buf (Elt F) ℓ)

theorem dev1 : ∀ c : Dev nD, (⟨k0_dev1 c, k0_dev1_lt c⟩ : Dev nD) = sib c := by decide +kernel

attribute [local irreducible] k0_off1 k0_off2 k0_dev1

theorem body (c : Dev nD) (t : Fin cfg0.N) :
    (Back.plan site m).start (Back.B site m) c ⊢ wp frame (wpE (defs₀ (F := F)) Variants.none (c.tc : Thread nD τ) none) Set.univ (bodyAt0 (F := F) t)
      fun _ => (Back.plan site m).done (Back.Y site m) c := by
  have H := Back.body (Λ := Λ₀) (defs := defs₀ (F := F)) site m c (k0_off1_inb c) (k0_off2_inb c) squeezes_S1x1024x1024_S1024x1024
    (ha := (Memref.isWhole_whole _).wordExact) (ho := (View.wordExact_bits rfl).reshape _ _) (ho' := (View.wordExact_bits rfl).reshape _ _)
    (k0_off1_eq c) (dev1 c) _ rfl
  refine H.trans (Entails.of_eq ?_)
  clear H
  unfold bodyAt0
  rw [cc0_rs_gather_w_kv_eq_skeleton]; unfold cc0_rs_gather_w_kv_skel
  rw [k0_part1_eq_skeleton]; unfold k0_part1_skel
  simp only [Prog.lift, Prog.bind_op, Prog.bind_ret, Prog.pure_eq_ret, wp_deviceId]
  unfold Back.prog
  congr 1

theorem ends (g : Dev nD → PrngReg) : Ends (defs (F := F)) main m g main_arg0 main_v1 (Back.g site m) :=
  (funext fun c => fill_whole main_v1 c _ _ : Back.G site m = Back.g site m) ▸ (Back.plan site m).run_ends cfgs 0 cellOf_inj winFacts0.to₀ own_facts defs₀ m g main (fun _ => rfl) (fun _ => ⟨fun w => w.elim0⟩) N_0 scopedRest0_eq
    (View.whole main_arg0) (View.whole main_v1) (by decide) (by decide) (View.set_whole _) (by decide) (fun c => Back.key c) Back.writer _ (body m)

theorem shapes : Back.Shapes 1024 1024 8192 := by constructor <;> decide

end Cert.BackKvIdeal.Run

namespace Cert.Proof

open Idealize.ShloMosaic Cert.Exchange BackKvIdeal.Run

theorem quiescent_BackKv : Cert.quiescent_BackKv := fun m g _ => (ends (F := Bits) m g).frame
theorem quiescent_BackKvIdeal : Cert.quiescent_BackKvIdeal := fun m g _ => (ends (F := Ideal) m g).frame
theorem quiescent_BackKvRef : Cert.quiescent_BackKvRef := fun m g _ => (ends_of_no_sems (by decide) (BackKvRefIdeal.Value.run (F := Bits) m g)).frame
theorem quiescent_BackKvRefIdeal : Cert.quiescent_BackKvRefIdeal := fun m g _ => (ends_of_no_sems (by decide) (BackKvRefIdeal.Value.run (F := Ideal) m g)).frame
theorem algebraic_BackKv : Cert.algebraic_BackKvIdeal_BackKvRefIdeal := fun m g m' g' _ h =>
  (ends (F := Ideal) m g).agree (ends_of_no_sems (by decide) (BackKvRefIdeal.Value.run m' g')) (Back.value shapes _ _ h)
theorem bitexact_BackKv : Cert.bitexact_BackKv_BackKvRef := fun m g m' g' _ h =>
  (ends (F := Bits) m g).agree (ends_of_no_sems (by decide) (BackKvRefIdeal.Value.run m' g')) (Back.value shapes _ _ h)

end Cert.Proof

end
-- ==== Proof.Update.lean ====
/-
# The update of a weight

AdamW's step of an array of any shape, index by index, and the reference's lines for it.
-/
module

public import Idealize.ShloMosaic.PureOps.Ideal
public import Idealize.ShloMosaic.Lib.StableHlo.Run
public import Idealize.ShloMosaic.Lib.Quiescent

@[expose] public section

set_option Elab.async false

noncomputable section

namespace Cert.Update

open Idealize.ShloMosaic
open Idealize.ShloMosaic.TcCoe
open Idealize.SL.Sem

variable {s : Shape}

/-- The number a word stands for. -/
abbrev num (k : BitVec 32) : Ideal .f32 := Scalar.ofBits (F := Ideal) .f32 k

/-- The new first moment. -/
abbrev mean (g m : FVec Ideal s .f32) : FVec Ideal s .f32 := fun i =>
  FloatOps.addf (FloatOps.mulf (num 0x3F666666#32) (m i)) (FloatOps.mulf (num 0x3DCCCCCD#32) (g i))

/-- The new second moment. -/
abbrev square (g v : FVec Ideal s .f32) : FVec Ideal s .f32 := fun i =>
  FloatOps.addf (FloatOps.mulf (num 0x3F7FBE77#32) (v i)) (FloatOps.mulf (num 0x3A83126F#32) (FloatOps.mulf (g i) (g i)))

/-- The weight's change. -/
abbrev delta (w g m v : FVec Ideal s .f32) : FVec Ideal s .f32 := fun i =>
  FloatOps.mulf (num 0xBA83126F#32) (FloatOps.addf
    (FloatOps.divf (FloatOps.divf (mean g m i) (num 0x3F26BD02#32))
      (FloatOps.addf (FloatOps.sqrt (FloatOps.divf (square g v i) (num 0x3C231ACC#32))) (num 0x322BCC77#32)))
    (FloatOps.mulf (num 0x3C23D70A#32) (w i)))

variable (h : (⟨0, ![]⟩ : Shape).BroadcastsInDim s ![])

/-- The same of the reference's whole arrays: a number is one spread over the array. -/
abbrev spread (k : BitVec 32) : FVec Ideal s .f32 := broadcastInDim s ![] h (constant (F := Ideal) ⟨0, ![]⟩ .f32 k)

abbrev meanRef (g m : FVec Ideal s .f32) : FVec Ideal s .f32 := addf (mulf (spread h 0x3F666666#32) m) (mulf (spread h 0x3DCCCCCD#32) g)

abbrev squareRef (g v : FVec Ideal s .f32) : FVec Ideal s .f32 := addf (mulf (spread h 0x3F7FBE77#32) v) (mulf (spread h 0x3A83126F#32) (mulf g g))

abbrev deltaRef (w g m v : FVec Ideal s .f32) : FVec Ideal s .f32 :=
  mulf (spread h 0xBA83126F#32) (addf
    (Host.divf (Host.divf (meanRef h g m) (spread h 0x3F26BD02#32))
      (addf (Host.sqrt (Host.divf (squareRef h g v) (spread h 0x3C231ACC#32))) (spread h 0x322BCC77#32)))
    (mulf (spread h 0x3C23D70A#32) w))

/-- The reference's arrays are the update's, of the same arguments: over the reals the two divisions are one, and so are the two roots. -/
theorem value {w g m v w' g' m' v' : FVec Ideal s .f32} (e : w' = w ∧ g' = g ∧ m' = m ∧ v' = v) :
    deltaRef h w' g' m' v' = delta w g m v ∧ meanRef h g' m' = mean g m ∧ squareRef h g' v' = square g v := by
  obtain ⟨rfl, rfl, rfl, rfl⟩ := e
  exact ⟨rfl, rfl, rfl⟩

variable {nD : Nat} {τ : Topo} {sig : RefSig} {Val : EltTy → Type} {Λ : Labels}

/-- A run with three results, of a program without semaphores. -/
theorem frame {defs : Defs nD τ sig Val Λ} {main : Dev nD → Prog (TpuEff nD τ sig Val Λ .tc) PUnit} {σ : MemSt nD τ sig Val}
    {P₀ P₁ P₂ K : PUnit × MemSt nD τ sig Val → Dev nD → Prop}
    (H : θ_run defs (onTc main) σ fun r => ∀ c, P₀ r c ∧ P₁ r c ∧ P₂ r c ∧ K r c) (hn : sig.nSem + sig.nDmaSem = 0) :
    θ_run defs (onTc main) σ fun r => (∀ c, K r c) ∧ r.2.sem = fun _ => 0 :=
  (θ_run _ _ _).mono (fun r h => ⟨fun c => (h c).2.2.2, sem_eq_zero_of_no_sems hn r.2⟩) H

/-- Three results, as what they equal. -/
theorem trans {A₀ A₁ A₂ : Type} {x₀ y₀ z₀ : A₀} {x₁ y₁ z₁ : A₁} {x₂ y₂ z₂ : A₂} {K : Prop} (e : y₀ = z₀ ∧ y₁ = z₁ ∧ y₂ = z₂) :
    x₀ = y₀ ∧ x₁ = y₁ ∧ x₂ = y₂ ∧ K → x₀ = z₀ ∧ x₁ = z₁ ∧ x₂ = z₂ ∧ K :=
  fun h => ⟨h.1.trans e.1, h.2.1.trans e.2.1, h.2.2.1.trans e.2.2, h.2.2.2⟩

end Cert.Update

end
-- ==== Proof.Updates.lean ====
/-
# The updates of the nine weights

The frames of each update and of the reference's lines for it, and that their results are the same.
-/
module

public import proofs.«01_k».proof.Proof.Update
public import proofs.«01_k».proof.Proof.Gen.AdamIn.Frame
public import proofs.«01_k».proof.Proof.Gen.AdamInIdeal.Value
public import proofs.«01_k».proof.Proof.Gen.AdamInRef
public import proofs.«01_k».proof.Proof.Gen.AdamInRefIdeal.Run
public import proofs.«01_k».proof.Proof.Gen.AdamRel.Frame
public import proofs.«01_k».proof.Proof.Gen.AdamRelIdeal.Value
public import proofs.«01_k».proof.Proof.Gen.AdamRelRef
public import proofs.«01_k».proof.Proof.Gen.AdamRelRefIdeal.Run
public import proofs.«01_k».proof.Proof.Gen.AdamGateW.Frame
public import proofs.«01_k».proof.Proof.Gen.AdamGateWIdeal.Value
public import proofs.«01_k».proof.Proof.Gen.AdamGateWRef
public import proofs.«01_k».proof.Proof.Gen.AdamGateWRefIdeal.Run
public import proofs.«01_k».proof.Proof.Gen.AdamGateB.Frame
public import proofs.«01_k».proof.Proof.Gen.AdamGateBIdeal.Value
public import proofs.«01_k».proof.Proof.Gen.AdamGateBRef
public import proofs.«01_k».proof.Proof.Gen.AdamGateBRefIdeal.Run
public import proofs.«01_k».proof.Proof.Gen.AdamNorm.Frame
public import proofs.«01_k».proof.Proof.Gen.AdamNormIdeal.Value
public import proofs.«01_k».proof.Proof.Gen.AdamNormRef
public import proofs.«01_k».proof.Proof.Gen.AdamNormRefIdeal.Run
public import proofs.«01_k».proof.Proof.Gen.AdamKv.Frame
public import proofs.«01_k».proof.Proof.Gen.AdamKvIdeal.Value
public import proofs.«01_k».proof.Proof.Gen.AdamKvRef
public import proofs.«01_k».proof.Proof.Gen.AdamKvRefIdeal.Run
public import proofs.«01_k».proof.Proof.Gen.AdamOut.Frame
public import proofs.«01_k».proof.Proof.Gen.AdamOutIdeal.Value
public import proofs.«01_k».proof.Proof.Gen.AdamOutRef
public import proofs.«01_k».proof.Proof.Gen.AdamOutRefIdeal.Run
public import proofs.«01_k».proof.Proof.Gen.AdamLnG.Frame
public import proofs.«01_k».proof.Proof.Gen.AdamLnGIdeal.Value
public import proofs.«01_k».proof.Proof.Gen.AdamLnGRef
public import proofs.«01_k».proof.Proof.Gen.AdamLnGRefIdeal.Run
public import proofs.«01_k».proof.Proof.Gen.AdamLnB.Frame
public import proofs.«01_k».proof.Proof.Gen.AdamLnBIdeal.Value
public import proofs.«01_k».proof.Proof.Gen.AdamLnBRef
public import proofs.«01_k».proof.Proof.Gen.AdamLnBRefIdeal.Run
public import proofs.«01_k».proof.Defs

@[expose] public section

set_option Elab.async false

noncomputable section

namespace Cert.Proof

open Idealize.ShloMosaic Idealize.SL.Sem

/-! ## w_in -/

theorem quiescent_AdamIn : Cert.quiescent_AdamIn := fun m g _ => AdamIn.Gen.frame m g
theorem quiescent_AdamInIdeal : Cert.quiescent_AdamInIdeal := fun m g _ => AdamInIdeal.Gen.frame m g
theorem quiescent_AdamInRef : Cert.quiescent_AdamInRef := fun m g _ => Update.frame (AdamInRefIdeal.Value.run (F := Bits) m g) (by decide)
theorem quiescent_AdamInRefIdeal : Cert.quiescent_AdamInRefIdeal := fun m g _ => Update.frame (AdamInRefIdeal.Value.run (F := Ideal) m g) (by decide)
theorem algebraic_AdamIn : Cert.algebraic_AdamInIdeal_AdamInRefIdeal := fun m g m' g' _ e =>
  ⟨_, _, _, AdamInIdeal.Value.run m g, (θ_run _ _ _).mono (fun _ h c => Update.trans (Update.value _ (e c)) (h c)) (AdamInRefIdeal.Value.run m' g')⟩

/-! ## The relative positions' bias -/

theorem quiescent_AdamRel : Cert.quiescent_AdamRel := fun m g _ => AdamRel.Gen.frame m g
theorem quiescent_AdamRelIdeal : Cert.quiescent_AdamRelIdeal := fun m g _ => AdamRelIdeal.Gen.frame m g
theorem quiescent_AdamRelRef : Cert.quiescent_AdamRelRef := fun m g _ => Update.frame (AdamRelRefIdeal.Value.run (F := Bits) m g) (by decide)
theorem quiescent_AdamRelRefIdeal : Cert.quiescent_AdamRelRefIdeal := fun m g _ => Update.frame (AdamRelRefIdeal.Value.run (F := Ideal) m g) (by decide)
theorem algebraic_AdamRel : Cert.algebraic_AdamRelIdeal_AdamRelRefIdeal := fun m g m' g' _ e =>
  ⟨_, _, _, AdamRelIdeal.Value.run m g, (θ_run _ _ _).mono (fun _ h c => Update.trans (Update.value _ (e c)) (h c)) (AdamRelRefIdeal.Value.run m' g')⟩

/-! ## The gate's weight -/

theorem quiescent_AdamGateW : Cert.quiescent_AdamGateW := fun m g _ => AdamGateW.Gen.frame m g
theorem quiescent_AdamGateWIdeal : Cert.quiescent_AdamGateWIdeal := fun m g _ => AdamGateWIdeal.Gen.frame m g
theorem quiescent_AdamGateWRef : Cert.quiescent_AdamGateWRef := fun m g _ => Update.frame (AdamGateWRefIdeal.Value.run (F := Bits) m g) (by decide)
theorem quiescent_AdamGateWRefIdeal : Cert.quiescent_AdamGateWRefIdeal := fun m g _ => Update.frame (AdamGateWRefIdeal.Value.run (F := Ideal) m g) (by decide)
theorem algebraic_AdamGateW : Cert.algebraic_AdamGateWIdeal_AdamGateWRefIdeal := fun m g m' g' _ e =>
  ⟨_, _, _, AdamGateWIdeal.Value.run m g, (θ_run _ _ _).mono (fun _ h c => Update.trans (Update.value _ (e c)) (h c)) (AdamGateWRefIdeal.Value.run m' g')⟩

/-! ## The gate's bias -/

theorem quiescent_AdamGateB : Cert.quiescent_AdamGateB := fun m g _ => AdamGateB.Gen.frame m g
theorem quiescent_AdamGateBIdeal : Cert.quiescent_AdamGateBIdeal := fun m g _ => AdamGateBIdeal.Gen.frame m g
theorem quiescent_AdamGateBRef : Cert.quiescent_AdamGateBRef := fun m g _ => Update.frame (AdamGateBRefIdeal.Value.run (F := Bits) m g) (by decide)
theorem quiescent_AdamGateBRefIdeal : Cert.quiescent_AdamGateBRefIdeal := fun m g _ => Update.frame (AdamGateBRefIdeal.Value.run (F := Ideal) m g) (by decide)
theorem algebraic_AdamGateB : Cert.algebraic_AdamGateBIdeal_AdamGateBRefIdeal := fun m g m' g' _ e =>
  ⟨_, _, _, AdamGateBIdeal.Value.run m g, (θ_run _ _ _).mono (fun _ h c => Update.trans (Update.value _ (e c)) (h c)) (AdamGateBRefIdeal.Value.run m' g')⟩

/-! ## The gain of the gated norm -/

theorem quiescent_AdamNorm : Cert.quiescent_AdamNorm := fun m g _ => AdamNorm.Gen.frame m g
theorem quiescent_AdamNormIdeal : Cert.quiescent_AdamNormIdeal := fun m g _ => AdamNormIdeal.Gen.frame m g
theorem quiescent_AdamNormRef : Cert.quiescent_AdamNormRef := fun m g _ => Update.frame (AdamNormRefIdeal.Value.run (F := Bits) m g) (by decide)
theorem quiescent_AdamNormRefIdeal : Cert.quiescent_AdamNormRefIdeal := fun m g _ => Update.frame (AdamNormRefIdeal.Value.run (F := Ideal) m g) (by decide)
theorem algebraic_AdamNorm : Cert.algebraic_AdamNormIdeal_AdamNormRefIdeal := fun m g m' g' _ e =>
  ⟨_, _, _, AdamNormIdeal.Value.run m g, (θ_run _ _ _).mono (fun _ h c => Update.trans (Update.value _ (e c)) (h c)) (AdamNormRefIdeal.Value.run m' g')⟩

/-! ## w_mem_kv -/

theorem quiescent_AdamKv : Cert.quiescent_AdamKv := fun m g _ => AdamKv.Gen.frame m g
theorem quiescent_AdamKvIdeal : Cert.quiescent_AdamKvIdeal := fun m g _ => AdamKvIdeal.Gen.frame m g
theorem quiescent_AdamKvRef : Cert.quiescent_AdamKvRef := fun m g _ => Update.frame (AdamKvRefIdeal.Value.run (F := Bits) m g) (by decide)
theorem quiescent_AdamKvRefIdeal : Cert.quiescent_AdamKvRefIdeal := fun m g _ => Update.frame (AdamKvRefIdeal.Value.run (F := Ideal) m g) (by decide)
theorem algebraic_AdamKv : Cert.algebraic_AdamKvIdeal_AdamKvRefIdeal := fun m g m' g' _ e =>
  ⟨_, _, _, AdamKvIdeal.Value.run m g, (θ_run _ _ _).mono (fun _ h c => Update.trans (Update.value _ (e c)) (h c)) (AdamKvRefIdeal.Value.run m' g')⟩

/-! ## w_out -/

theorem quiescent_AdamOut : Cert.quiescent_AdamOut := fun m g _ => AdamOut.Gen.frame m g
theorem quiescent_AdamOutIdeal : Cert.quiescent_AdamOutIdeal := fun m g _ => AdamOutIdeal.Gen.frame m g
theorem quiescent_AdamOutRef : Cert.quiescent_AdamOutRef := fun m g _ => Update.frame (AdamOutRefIdeal.Value.run (F := Bits) m g) (by decide)
theorem quiescent_AdamOutRefIdeal : Cert.quiescent_AdamOutRefIdeal := fun m g _ => Update.frame (AdamOutRefIdeal.Value.run (F := Ideal) m g) (by decide)
theorem algebraic_AdamOut : Cert.algebraic_AdamOutIdeal_AdamOutRefIdeal := fun m g m' g' _ e =>
  ⟨_, _, _, AdamOutIdeal.Value.run m g, (θ_run _ _ _).mono (fun _ h c => Update.trans (Update.value _ (e c)) (h c)) (AdamOutRefIdeal.Value.run m' g')⟩

/-! ## The layer norm's gain -/

theorem quiescent_AdamLnG : Cert.quiescent_AdamLnG := fun m g _ => AdamLnG.Gen.frame m g
theorem quiescent_AdamLnGIdeal : Cert.quiescent_AdamLnGIdeal := fun m g _ => AdamLnGIdeal.Gen.frame m g
theorem quiescent_AdamLnGRef : Cert.quiescent_AdamLnGRef := fun m g _ => Update.frame (AdamLnGRefIdeal.Value.run (F := Bits) m g) (by decide)
theorem quiescent_AdamLnGRefIdeal : Cert.quiescent_AdamLnGRefIdeal := fun m g _ => Update.frame (AdamLnGRefIdeal.Value.run (F := Ideal) m g) (by decide)
theorem algebraic_AdamLnG : Cert.algebraic_AdamLnGIdeal_AdamLnGRefIdeal := fun m g m' g' _ e =>
  ⟨_, _, _, AdamLnGIdeal.Value.run m g, (θ_run _ _ _).mono (fun _ h c => Update.trans (Update.value _ (e c)) (h c)) (AdamLnGRefIdeal.Value.run m' g')⟩

/-! ## The layer norm's bias -/

theorem quiescent_AdamLnB : Cert.quiescent_AdamLnB := fun m g _ => AdamLnB.Gen.frame m g
theorem quiescent_AdamLnBIdeal : Cert.quiescent_AdamLnBIdeal := fun m g _ => AdamLnBIdeal.Gen.frame m g
theorem quiescent_AdamLnBRef : Cert.quiescent_AdamLnBRef := fun m g _ => Update.frame (AdamLnBRefIdeal.Value.run (F := Bits) m g) (by decide)
theorem quiescent_AdamLnBRefIdeal : Cert.quiescent_AdamLnBRefIdeal := fun m g _ => Update.frame (AdamLnBRefIdeal.Value.run (F := Ideal) m g) (by decide)
theorem algebraic_AdamLnB : Cert.algebraic_AdamLnBIdeal_AdamLnBRefIdeal := fun m g m' g' _ e =>
  ⟨_, _, _, AdamLnBIdeal.Value.run m g, (θ_run _ _ _).mono (fun _ h c => Update.trans (Update.value _ (e c)) (h c)) (AdamLnBRefIdeal.Value.run m' g')⟩

end Cert.Proof

end
-- ==== Proof.SlotSum.lean ====
/-
# The sum of four slots

What the call that adds the four slots of a landing array computes, 256 rows at a point, and the reference's sum over the first axis.
-/
module

public import Idealize.ShloMosaic.Lib.Pointwise.Reduce
public import Idealize.ShloMosaic.PureOps.Ideal.Laws
public import Idealize.ShloMosaic.Lib.Pipeline.Value

@[expose] public section

set_option Elab.async false

noncomputable section

namespace Cert.SlotSum

open Idealize.ShloMosaic

variable {F : FTy → Type} [FloatOps F] {R C : Nat}

/-- The four slots' sum, in order. -/
abbrev sum (a : FVec F ⟨3, ![4, R, C]⟩ .f32) : FVec F ⟨2, ![R, C]⟩ .f32 := fun i =>
  FloatOps.addf (FloatOps.addf (FloatOps.addf (a (ix3 0 (i 0) (i 1))) (a (ix3 1 (i 0) (i 1)))) (a (ix3 2 (i 0) (i 1)))) (a (ix3 3 (i 0) (i 1)))

/-- The reference's sum is that one. -/
theorem value {u : Shape} (h : (⟨3, ![4, R, C]⟩ : Shape).ReducesTo [0] ⟨2, ![R, C]⟩) (hu : 0 < u.numel) {a a' : FVec Ideal ⟨3, ![4, R, C]⟩ .f32}
    (e : a' = a) : Host.reduceAdd a' (constant (F := Ideal) u .f32 0x00000000#32) h hu = sum a := by
  subst e
  funext j
  refine (Ideal.hostReduceAdd_r3_a0 h a' _ j).trans ?_
  rw [Fin.sum_univ_four]
  exact (congrArg (· + _) Ideal.ofBits_zero_f32).trans (zero_add (_ : EReal))

variable {N : Nat} {f : Fin N → (⟨2, ![256, C]⟩ : Shape).Idx → (⟨2, ![R, C]⟩ : Shape).Idx} {q : Fin N → Fin 2 → Nat}

/-- A point's entries, summed over the slots, are the sum's entries in the point's rows: `e` places the entries the point takes in and `f` those it
    gives back. -/
theorem block {e : (⟨3, ![4, 256, C]⟩ : Shape).Idx → (⟨3, ![4, R, C]⟩ : Shape).Idx} {p : Fin 3 → Nat} {t : Fin N}
    (hp : p = ![0, t.val, 0]) (hq : ∀ t, q t = ![t.val, 0])
    (he : ∀ j, (e j 0).val = p 0 * 4 + 1 * (j 0).val ∧ (e j 1).val = p 1 * 256 + 1 * (j 1).val ∧ (e j 2).val = p 2 * C + 1 * (j 2).val)
    (hf : ∀ t y, (f t y 0).val = q t 0 * 256 + 1 * (y 0).val ∧ (f t y 1).val = q t 1 * C + 1 * (y 1).val)
    (a : FVec F ⟨3, ![4, R, C]⟩ .f32) (y : (⟨2, ![256, C]⟩ : Shape).Idx) (i : Fin 4 → (⟨3, ![4, 256, C]⟩ : Shape).Idx)
    (hi : ∀ k, (i k 0).val = k.val ∧ (i k 1).val = 0 + 1 * (y 0).val ∧ (i k 2).val = 0 + 1 * (y 1).val) :
    FloatOps.addf (FloatOps.addf (FloatOps.addf (a (e (i 0))) (a (e (i 1)))) (a (e (i 2)))) (a (e (i 3))) = sum a (f t y) := by
  have h : ∀ k, e (i k) = ix3 k (f t y 0) (f t y 1) := by
    intro k
    obtain ⟨i0, i1, i2⟩ := hi k
    obtain ⟨e0, e1, e2⟩ := he (i k)
    obtain ⟨f0, f1⟩ := hf t y
    subst hp
    rw [hq] at f0 f1
    funext b
    apply Fin.ext
    match b with
    | ⟨0, _⟩ => exact e0.trans (by rw [i0]; show 0 * 4 + 1 * k.val = k.val; omega)
    | ⟨1, _⟩ => exact (e1.trans (by rw [i1]; show t.val * 256 + 1 * (0 + 1 * (y 0).val) = t.val * 256 + 1 * (y 0).val; omega)).trans f0.symm
    | ⟨2, _⟩ => exact (e2.trans (by rw [i2]; show 0 * C + 1 * (0 + 1 * (y 1).val) = 0 * C + 1 * (y 1).val; omega)).trans f1.symm
  rw [h, h, h, h]
  rfl

/-- Every entry of the sum is in some point's rows. -/
theorem cover (hN : R = N * 256) (hq : ∀ t, q t = ![t.val, 0])
    (hf : ∀ t y, (f t y 0).val = q t 0 * 256 + 1 * (y 0).val ∧ (f t y 1).val = q t 1 * C + 1 * (y 1).val)
    (i : (⟨2, ![R, C]⟩ : Shape).Idx) : ∃ t y, f t y = i := by
  have h0 : (i 0).val < R := (i 0).isLt
  refine ⟨⟨(i 0).val / 256, by omega⟩, ix2 ⟨(i 0).val % 256, Nat.mod_lt _ (by decide)⟩ (i 1), ?_⟩
  obtain ⟨f0, f1⟩ := hf ⟨(i 0).val / 256, by omega⟩ (ix2 ⟨(i 0).val % 256, Nat.mod_lt _ (by decide)⟩ (i 1))
  rw [hq] at f0 f1
  funext b
  apply Fin.ext
  match b with
  | ⟨0, _⟩ => exact f0.trans (by show (i 0).val / 256 * 256 + 1 * ((i 0).val % 256) = (i 0).val; omega)
  | ⟨1, _⟩ => exact f1.trans (by show 0 * C + 1 * (i 1).val = (i 1).val; omega)

end Cert.SlotSum

end
-- ==== Proof.SlotSums.lean ====
/-
# The sums of the slots of w_in, w_out and w_kv

For each of the three calls that add the four slots: where its windows lie at each point, so what its run leaves, over any values; then its claims.
-/
module

public import proofs.«01_k».proof.Proof.SlotSum
public import proofs.«01_k».proof.Proof.Ends
public import proofs.«01_k».proof.Proof.Gen.SlotsIn.Frame
public import proofs.«01_k».proof.Proof.Gen.SlotsInIdeal.Value
public import proofs.«01_k».proof.Proof.Gen.SlotsInRef
public import proofs.«01_k».proof.Proof.Gen.SlotsInRefIdeal.Run
public import proofs.«01_k».proof.Proof.Gen.SlotsOut.Frame
public import proofs.«01_k».proof.Proof.Gen.SlotsOutIdeal.Value
public import proofs.«01_k».proof.Proof.Gen.SlotsOutRef
public import proofs.«01_k».proof.Proof.Gen.SlotsOutRefIdeal.Run
public import proofs.«01_k».proof.Proof.Gen.SlotsKv.Frame
public import proofs.«01_k».proof.Proof.Gen.SlotsKvIdeal.Value
public import proofs.«01_k».proof.Proof.Gen.SlotsKvRef
public import proofs.«01_k».proof.Proof.Gen.SlotsKvRefIdeal.Run
public import proofs.«01_k».proof.Defs

@[expose] public section

set_option Elab.async false

noncomputable section

namespace Cert.SlotsInIdeal.Run

open Cert.SlotsInIdeal Cert.SlotsInIdeal.Gen Cert.SlotsInIdeal.Value
open Idealize.ShloMosaic Idealize.ShloMosaic.TcCoe Idealize.SL.Sem

variable {F : FTy → Type} [FloatOps F] (m : (ℓ : Loc nD τ sig) → Buf (Elt F) ℓ)

theorem index_in : ∀ t : Fin cfg0.N, win0_0.index t = ![0, t.val, 0] := (by decide +kernel : ∀ t : Fin grid0.N, _)
theorem index_out : ∀ t : Fin cfg0.N, win0_1.index t = ![t.val, 0] := (by decide +kernel : ∀ t : Fin grid0.N, _)

theorem flushed (c : Dev nD) (t : Fin cfg0.N) :
    (dats m 0 c).flushed 1 t = ((cfg0.win 1).blk t).view.read (Elt F) (SlotSum.sum (V m c main_arg0)) := by
  rw [flushed1]
  unfold out0_1
  funext y
  exact (canon1_eq _ _ _ _ y).trans (SlotSum.block (f := fun t => ((cfg0.win 1).blk t).view.emb) (e := ((cfg0.win 0).blk t).view.emb)
    (index_in t) index_out (fun _ => ⟨rfl, rfl, rfl⟩) (fun _ _ => ⟨rfl, rfl⟩) (V m c main_arg0) y
    ![r0_0.idx (ix1_0 y), r0_1.idx (ix1_1 y), r0_2.idx (ix1_2 y), r0_3.idx (ix1_3 y)] (fun k => by fin_cases k <;> exact ⟨rfl, rfl, rfl⟩))

theorem final (c : Dev nD) : (dats m 0 c).arrAt 1 cfg0.N = SlotSum.sum (m ((c.tc : Thread nD τ).loc main_arg0)) :=
  (dats m 0 c).arrAt_eq_of_cover 1 _ (fun t _ => flushed m c t) fun i =>
    let ⟨t, y, h⟩ := SlotSum.cover (f := fun t => ((cfg0.win 1).blk t).view.emb) (by decide) index_out (fun _ _ => ⟨rfl, rfl⟩) i
    ⟨t, flush0_1 t, h ▸ View.emb_mem_set _ y⟩

end Cert.SlotsInIdeal.Run

namespace Cert.SlotsOutIdeal.Run

open Cert.SlotsOutIdeal Cert.SlotsOutIdeal.Gen Cert.SlotsOutIdeal.Value
open Idealize.ShloMosaic Idealize.ShloMosaic.TcCoe Idealize.SL.Sem

variable {F : FTy → Type} [FloatOps F] (m : (ℓ : Loc nD τ sig) → Buf (Elt F) ℓ)

theorem index_in : ∀ t : Fin cfg0.N, win0_0.index t = ![0, t.val, 0] := (by decide +kernel : ∀ t : Fin grid0.N, _)
theorem index_out : ∀ t : Fin cfg0.N, win0_1.index t = ![t.val, 0] := (by decide +kernel : ∀ t : Fin grid0.N, _)

theorem flushed (c : Dev nD) (t : Fin cfg0.N) :
    (dats m 0 c).flushed 1 t = ((cfg0.win 1).blk t).view.read (Elt F) (SlotSum.sum (V m c main_arg0)) := by
  rw [flushed1]
  unfold out0_1
  funext y
  exact (canon1_eq _ _ _ _ y).trans (SlotSum.block (f := fun t => ((cfg0.win 1).blk t).view.emb) (e := ((cfg0.win 0).blk t).view.emb)
    (index_in t) index_out (fun _ => ⟨rfl, rfl, rfl⟩) (fun _ _ => ⟨rfl, rfl⟩) (V m c main_arg0) y
    ![r0_0.idx (ix1_0 y), r0_1.idx (ix1_1 y), r0_2.idx (ix1_2 y), r0_3.idx (ix1_3 y)] (fun k => by fin_cases k <;> exact ⟨rfl, rfl, rfl⟩))

theorem final (c : Dev nD) : (dats m 0 c).arrAt 1 cfg0.N = SlotSum.sum (m ((c.tc : Thread nD τ).loc main_arg0)) :=
  (dats m 0 c).arrAt_eq_of_cover 1 _ (fun t _ => flushed m c t) fun i =>
    let ⟨t, y, h⟩ := SlotSum.cover (f := fun t => ((cfg0.win 1).blk t).view.emb) (by decide) index_out (fun _ _ => ⟨rfl, rfl⟩) i
    ⟨t, flush0_1 t, h ▸ View.emb_mem_set _ y⟩

end Cert.SlotsOutIdeal.Run

namespace Cert.SlotsKvIdeal.Run

open Cert.SlotsKvIdeal Cert.SlotsKvIdeal.Gen Cert.SlotsKvIdeal.Value
open Idealize.ShloMosaic Idealize.ShloMosaic.TcCoe Idealize.SL.Sem

variable {F : FTy → Type} [FloatOps F] (m : (ℓ : Loc nD τ sig) → Buf (Elt F) ℓ)

theorem index_in : ∀ t : Fin cfg0.N, win0_0.index t = ![0, t.val, 0] := (by decide +kernel : ∀ t : Fin grid0.N, _)
theorem index_out : ∀ t : Fin cfg0.N, win0_1.index t = ![t.val, 0] := (by decide +kernel : ∀ t : Fin grid0.N, _)

theorem flushed (c : Dev nD) (t : Fin cfg0.N) :
    (dats m 0 c).flushed 1 t = ((cfg0.win 1).blk t).view.read (Elt F) (SlotSum.sum (V m c main_arg0)) := by
  rw [flushed1]
  unfold out0_1
  funext y
  exact (canon1_eq _ _ _ _ y).trans (SlotSum.block (f := fun t => ((cfg0.win 1).blk t).view.emb) (e := ((cfg0.win 0).blk t).view.emb)
    (index_in t) index_out (fun _ => ⟨rfl, rfl, rfl⟩) (fun _ _ => ⟨rfl, rfl⟩) (V m c main_arg0) y
    ![r0_0.idx (ix1_0 y), r0_1.idx (ix1_1 y), r0_2.idx (ix1_2 y), r0_3.idx (ix1_3 y)] (fun k => by fin_cases k <;> exact ⟨rfl, rfl, rfl⟩))

theorem final (c : Dev nD) : (dats m 0 c).arrAt 1 cfg0.N = SlotSum.sum (m ((c.tc : Thread nD τ).loc main_arg0)) :=
  (dats m 0 c).arrAt_eq_of_cover 1 _ (fun t _ => flushed m c t) fun i =>
    let ⟨t, y, h⟩ := SlotSum.cover (f := fun t => ((cfg0.win 1).blk t).view.emb) (by decide) index_out (fun _ _ => ⟨rfl, rfl⟩) i
    ⟨t, flush0_1 t, h ▸ View.emb_mem_set _ y⟩

end Cert.SlotsKvIdeal.Run

namespace Cert.Proof

open Idealize.ShloMosaic Idealize.SL.Sem Cert.Exchange

theorem quiescent_SlotsIn : Cert.quiescent_SlotsIn := fun m g _ => SlotsIn.Gen.frame m g
theorem quiescent_SlotsInIdeal : Cert.quiescent_SlotsInIdeal := fun m g _ => SlotsInIdeal.Gen.frame m g
theorem quiescent_SlotsInRef : Cert.quiescent_SlotsInRef := fun m g _ => (ends_of_no_sems (by decide) (SlotsInRefIdeal.Value.run (F := Bits) m g)).frame
theorem quiescent_SlotsInRefIdeal : Cert.quiescent_SlotsInRefIdeal := fun m g _ => (ends_of_no_sems (by decide) (SlotsInRefIdeal.Value.run (F := Ideal) m g)).frame
theorem algebraic_SlotsIn : Cert.algebraic_SlotsInIdeal_SlotsInRefIdeal := fun m g m' g' _ e =>
  ⟨_, (θ_run _ _ _).mono (fun _ h c => ⟨(h c).1.trans (SlotsInIdeal.Run.final m c), (h c).2⟩) (SlotsInIdeal.Value.run_blocks m g),
    (θ_run _ _ _).mono (fun _ h c => ⟨(h c).1.trans (SlotSum.value _ _ (e c)), (h c).2⟩) (SlotsInRefIdeal.Value.run m' g')⟩

theorem quiescent_SlotsOut : Cert.quiescent_SlotsOut := fun m g _ => SlotsOut.Gen.frame m g
theorem quiescent_SlotsOutIdeal : Cert.quiescent_SlotsOutIdeal := fun m g _ => SlotsOutIdeal.Gen.frame m g
theorem quiescent_SlotsOutRef : Cert.quiescent_SlotsOutRef := fun m g _ => (ends_of_no_sems (by decide) (SlotsOutRefIdeal.Value.run (F := Bits) m g)).frame
theorem quiescent_SlotsOutRefIdeal : Cert.quiescent_SlotsOutRefIdeal := fun m g _ => (ends_of_no_sems (by decide) (SlotsOutRefIdeal.Value.run (F := Ideal) m g)).frame
theorem algebraic_SlotsOut : Cert.algebraic_SlotsOutIdeal_SlotsOutRefIdeal := fun m g m' g' _ e =>
  ⟨_, (θ_run _ _ _).mono (fun _ h c => ⟨(h c).1.trans (SlotsOutIdeal.Run.final m c), (h c).2⟩) (SlotsOutIdeal.Value.run_blocks m g),
    (θ_run _ _ _).mono (fun _ h c => ⟨(h c).1.trans (SlotSum.value _ _ (e c)), (h c).2⟩) (SlotsOutRefIdeal.Value.run m' g')⟩

theorem quiescent_SlotsKv : Cert.quiescent_SlotsKv := fun m g _ => SlotsKv.Gen.frame m g
theorem quiescent_SlotsKvIdeal : Cert.quiescent_SlotsKvIdeal := fun m g _ => SlotsKvIdeal.Gen.frame m g
theorem quiescent_SlotsKvRef : Cert.quiescent_SlotsKvRef := fun m g _ => (ends_of_no_sems (by decide) (SlotsKvRefIdeal.Value.run (F := Bits) m g)).frame
theorem quiescent_SlotsKvRefIdeal : Cert.quiescent_SlotsKvRefIdeal := fun m g _ => (ends_of_no_sems (by decide) (SlotsKvRefIdeal.Value.run (F := Ideal) m g)).frame
theorem algebraic_SlotsKv : Cert.algebraic_SlotsKvIdeal_SlotsKvRefIdeal := fun m g m' g' _ e =>
  ⟨_, (θ_run _ _ _).mono (fun _ h c => ⟨(h c).1.trans (SlotsKvIdeal.Run.final m c), (h c).2⟩) (SlotsKvIdeal.Value.run_blocks m g),
    (θ_run _ _ _).mono (fun _ h c => ⟨(h c).1.trans (SlotSum.value _ _ (e c)), (h c).2⟩) (SlotsKvRefIdeal.Value.run m' g')⟩

end Cert.Proof

end
-- ==== Proof.HalfSum.lean ====
/-
# The sum of a core's half of the slots and the half received

What the call that adds them computes, 256 rows of one slot at a point, the half found by the core's index, and the reference's choice of the half by that index.
-/
module

public import Idealize.ShloMosaic.Lib.Pointwise.Reduce
public import Idealize.ShloMosaic.Lib.Pipeline.Value

@[expose] public section

set_option Elab.async false

noncomputable section

namespace Cert.HalfSum

open Idealize.ShloMosaic

variable {F : FTy → Type} [FloatOps F] {R C : Nat}

/-- A core's index is a list of one word. -/
theorem word (x : IVec ⟨1, ![1]⟩ 32) (i : (⟨1, ![1]⟩ : Shape).Idx) : x i = x (ix1 0) :=
  congrArg x (funext fun b => match b with | ⟨0, _⟩ => Subsingleton.elim (α := Fin 1) _ _)

/-- The half of core `x`: the first of core 0, the second of any other. -/
def half (x : IVec ⟨1, ![1]⟩ 32) : Fin 2 := if x (ix1 0) = 0#32 then 0 else 1

/-- The half of core `x` of every slot, and what is received for it, added. -/
abbrev sum (x : IVec ⟨1, ![1]⟩ 32) (a : FVec F ⟨4, ![4, 2, R, C]⟩ .f32) (r : FVec F ⟨3, ![4, R, C]⟩ .f32) : FVec F ⟨3, ![4, R, C]⟩ .f32 := fun i =>
  FloatOps.addf (a (ix4 (i 0) (half x) (i 1) (i 2))) (r i)

/-- An array's half, sliced out and its unit axis dropped. -/
theorem slice (k : Fin 2) {h : (⟨4, ![4, 2, R, C]⟩ : Shape).Slices ![0, k.val, 0, 0] ⟨4, ![4, 1, R, C]⟩}
    {hc : (⟨4, ![4, 1, R, C]⟩ : Shape).ShapeCasts ⟨3, ![4, R, C]⟩} (a : FVec F ⟨4, ![4, 2, R, C]⟩ .f32) (i : (⟨3, ![4, R, C]⟩ : Shape).Idx) :
    shapeCast ⟨3, ![4, R, C]⟩ (extractStridedSlice ⟨4, ![4, 1, R, C]⟩ ![0, k.val, 0, 0] a h) hc i = a (ix4 (i 0) k (i 1) (i 2)) := by
  refine (shapeCast_apply _ hc i (ix4 (i 0) (0 : Fin 1) (i 1) (i 2)) ?_).trans (congrArg a (funext fun b => Fin.ext ?_))
  · rw [Shape.rowMajor_val_four, Shape.rowMajor_val_three]
    show (((i 0).val * 1 + 0) * R + (i 1).val) * C + (i 2).val = ((i 0).val * R + (i 1).val) * C + (i 2).val
    rw [Nat.mul_one, Nat.add_zero]
  · match b with
    | ⟨0, _⟩ => exact Nat.zero_add (i 0).val
    | ⟨1, _⟩ => exact Nat.add_zero k.val
    | ⟨2, _⟩ => exact Nat.zero_add (i 1).val
    | ⟨3, _⟩ => exact Nat.zero_add (i 2).val

/-- The reference's sum, of the half it selects, is that one. -/
theorem value {hx : (⟨1, ![1]⟩ : Shape).ShapeCasts ⟨0, ![]⟩} {hb : (⟨0, ![]⟩ : Shape).BroadcastsInDim ⟨3, ![4, R, C]⟩ ![]}
    {h0 : (⟨4, ![4, 2, R, C]⟩ : Shape).Slices ![0, 0, 0, 0] ⟨4, ![4, 1, R, C]⟩} {h1 : (⟨4, ![4, 2, R, C]⟩ : Shape).Slices ![0, 1, 0, 0] ⟨4, ![4, 1, R, C]⟩}
    {hc : (⟨4, ![4, 1, R, C]⟩ : Shape).ShapeCasts ⟨3, ![4, R, C]⟩} {x x' : IVec ⟨1, ![1]⟩ 32} {a a' : FVec F ⟨4, ![4, 2, R, C]⟩ .f32} {r r' : FVec F ⟨3, ![4, R, C]⟩ .f32}
    (e : x' = x ∧ a' = a ∧ r' = r) :
    addf (select (broadcastInDim ⟨3, ![4, R, C]⟩ ![] hb (cmpi .eq (shapeCast ⟨0, ![]⟩ x' hx) (constantI ⟨0, ![]⟩ 32 0#32)))
      (shapeCast ⟨3, ![4, R, C]⟩ (extractStridedSlice ⟨4, ![4, 1, R, C]⟩ ![0, 0, 0, 0] a' h0) hc)
      (shapeCast ⟨3, ![4, R, C]⟩ (extractStridedSlice ⟨4, ![4, 1, R, C]⟩ ![0, 1, 0, 0] a' h1) hc)) r' = sum x a r := by
  obtain ⟨rfl, rfl, rfl⟩ := e
  funext i
  refine congrArg (FloatOps.addf · _) ?_
  refine (congrArg₂ (Scalar.select (BitVec.ofBool (x' _ == 0#32))) (slice 0 a' i) (slice 1 a' i)).trans ?_
  unfold half
  rw [word x']
  by_cases h : x' (ix1 0) = 0#32
  · rw [if_pos h, h]; rfl
  · rw [if_neg h, beq_false_of_ne h]; rfl

/-- A core's index that is 0 or 1 is the place of its half. -/
theorem place {hx : (⟨1, ![1]⟩ : Shape).ShapeCasts ⟨0, ![]⟩} {x : IVec ⟨1, ![1]⟩ 32}
    (h : ori (cmpi .eq (shapeCast ⟨0, ![]⟩ x hx) (constantI ⟨0, ![]⟩ 32 0#32)) (cmpi .eq (shapeCast ⟨0, ![]⟩ x hx) (constantI ⟨0, ![]⟩ 32 1#32)) = fun _ => 1#1)
    (i : (⟨1, ![1]⟩ : Shape).Idx) : (x i).toNat = (half x).val := by
  have h : BitVec.ofBool (x _ == 0#32) ||| BitVec.ofBool (x _ == 1#32) = 1#1 := congrFun h fun b => b.elim0
  rw [word x] at h
  rw [word x]
  unfold half
  by_cases h0 : x (ix1 0) = 0#32
  · rw [if_pos h0, h0]; rfl
  · by_cases h1 : x (ix1 0) = 1#32
    · rw [if_neg h0, h1]; rfl
    · rw [beq_false_of_ne h0, beq_false_of_ne h1] at h; exact absurd h (by decide)

/-- The block a point takes of the slots is inside them, where the one it gives back is inside the result. -/
theorem inside {q : Fin 3 → Nat} {w : Nat} (k : Fin 2) (hw : w = k.val) (h : ∀ b, (q b + 1) * (![1, 256, C] : Fin 3 → Nat) b ≤ (![4, R, C] : Fin 3 → Nat) b) :
    ∀ b, ((![q 0, w, q 1, q 2] : Fin 4 → Nat) b + 1) * (![1, 1, 256, C] : Fin 4 → Nat) b ≤ (![4, 2, R, C] : Fin 4 → Nat) b
  | ⟨0, _⟩ => h 0
  | ⟨1, _⟩ => by show (w + 1) * 1 ≤ 2; omega
  | ⟨2, _⟩ => h 1
  | ⟨3, _⟩ => h 2

variable {N : Nat} {f : Fin N → (⟨3, ![1, 256, C]⟩ : Shape).Idx → (⟨3, ![4, R, C]⟩ : Shape).Idx} {q : Fin N → Fin 3 → Nat} {K : Nat}

/-- A point's sums are the sum's entries in the point's rows: `e` places the entries of the slots, `g` those received and `f` those it gives back. -/
theorem block {h : (⟨4, ![1, 1, 256, C]⟩ : Shape).ShapeCasts ⟨3, ![1, 256, C]⟩} {e : (⟨4, ![1, 1, 256, C]⟩ : Shape).Idx → (⟨4, ![4, 2, R, C]⟩ : Shape).Idx}
    {x : IVec ⟨1, ![1]⟩ 32} {w : Nat} {t : Fin N} (hw : w = (half x).val)
    (he : ∀ j, (e j 0).val = q t 0 * 1 + 1 * (j 0).val ∧ (e j 1).val = w * 1 + 1 * (j 1).val ∧ (e j 2).val = q t 1 * 256 + 1 * (j 2).val ∧ (e j 3).val = q t 2 * C + 1 * (j 3).val)
    (hf : ∀ t y, (f t y 0).val = q t 0 * 1 + 1 * (y 0).val ∧ (f t y 1).val = q t 1 * 256 + 1 * (y 1).val ∧ (f t y 2).val = q t 2 * C + 1 * (y 2).val)
    (a : FVec F ⟨4, ![4, 2, R, C]⟩ .f32) (r : FVec F ⟨3, ![4, R, C]⟩ .f32) (y : (⟨3, ![1, 256, C]⟩ : Shape).Idx) :
    addf (shapeCast ⟨3, ![1, 256, C]⟩ (fun j => a (e j)) h) (fun j => r (f t j)) y = sum x a r (f t y) := by
  refine congrArg (FloatOps.addf · _) ((shapeCast_dropUnit_apply _ _ h y).trans (congrArg a (funext fun b => Fin.ext ?_)))
  obtain ⟨e0, e1, e2, e3⟩ := he (Fin.cons ⟨0, Nat.one_pos⟩ y)
  obtain ⟨f0, f1, f2⟩ := hf t y
  have y0 : (y 0).val < 1 := (y 0).isLt
  match b with
  | ⟨0, _⟩ => exact (e0.trans (by show q t 0 * 1 + 1 * 0 = q t 0 * 1 + 1 * (y 0).val; omega)).trans f0.symm
  | ⟨1, _⟩ => exact e1.trans (by show w * 1 + 1 * (y 0).val = (half x).val; omega)
  | ⟨2, _⟩ => exact e2.trans f1.symm
  | ⟨3, _⟩ => exact e3.trans f2.symm

/-- Every entry of the sum is in some point's rows. -/
theorem cover (hN : N = 4 * K) (hK : R = K * 256) (hq : ∀ t, q t = ![t.val / K, t.val % K, 0])
    (hf : ∀ t y, (f t y 0).val = q t 0 * 1 + 1 * (y 0).val ∧ (f t y 1).val = q t 1 * 256 + 1 * (y 1).val ∧ (f t y 2).val = q t 2 * C + 1 * (y 2).val)
    (i : (⟨3, ![4, R, C]⟩ : Shape).Idx) : ∃ t y, f t y = i := by
  have h0 : (i 0).val < 4 := (i 0).isLt
  have h1 : (i 1).val < R := (i 1).isLt
  have hk : (i 1).val / 256 < K := by omega
  have hm : (i 0).val * K ≤ 3 * K := Nat.mul_le_mul_right _ (by omega)
  have ht : (i 0).val * K + (i 1).val / 256 < N := by omega
  refine ⟨⟨(i 0).val * K + (i 1).val / 256, ht⟩, ix3 (0 : Fin 1) ⟨(i 1).val % 256, Nat.mod_lt _ (by decide)⟩ (i 2), ?_⟩
  obtain ⟨f0, f1, f2⟩ := hf ⟨(i 0).val * K + (i 1).val / 256, ht⟩ (ix3 (0 : Fin 1) ⟨(i 1).val % 256, Nat.mod_lt _ (by decide)⟩ (i 2))
  rw [hq] at f0 f1 f2
  have d : ((i 0).val * K + (i 1).val / 256) / K = (i 0).val := by
    rw [Nat.mul_comm, Nat.mul_add_div (by omega), Nat.div_eq_of_lt hk, Nat.add_zero]
  have r : ((i 0).val * K + (i 1).val / 256) % K = (i 1).val / 256 := by
    rw [Nat.mul_comm, Nat.mul_add_mod, Nat.mod_eq_of_lt hk]
  funext b
  apply Fin.ext
  match b with
  | ⟨0, _⟩ => exact f0.trans (by show ((i 0).val * K + (i 1).val / 256) / K * 1 + 1 * 0 = (i 0).val; omega)
  | ⟨1, _⟩ => exact f1.trans (by show ((i 0).val * K + (i 1).val / 256) % K * 256 + 1 * ((i 1).val % 256) = (i 1).val; omega)
  | ⟨2, _⟩ => exact f2.trans (by show 0 * C + 1 * (i 2).val = (i 2).val; omega)

end Cert.HalfSum

end
-- ==== Proof.HalfSums.lean ====
/-
# The sums of the halves of w_in, w_out and w_kv

For each of the three calls that add a core's half of the slots and the half received: that its blocks lie inside its arrays where the core's index is 0 or 1, what its
run leaves, over any values; then its claims.
-/
module

public import proofs.«01_k».proof.Proof.HalfSum
public import proofs.«01_k».proof.Proof.Ends
public import Idealize.ShloMosaic.Lib.VecWindow
public import proofs.«01_k».proof.Proof.Gen.HalvesIn.Frame
public import proofs.«01_k».proof.Proof.Gen.HalvesInIdeal.Frame
public import proofs.«01_k».proof.Proof.Gen.HalvesInRef
public import proofs.«01_k».proof.Proof.Gen.HalvesInRefIdeal.Run
public import proofs.«01_k».proof.Proof.Gen.Pre_a_core_w_in
public import proofs.«01_k».proof.Proof.Gen.HalvesOut.Frame
public import proofs.«01_k».proof.Proof.Gen.HalvesOutIdeal.Frame
public import proofs.«01_k».proof.Proof.Gen.HalvesOutRef
public import proofs.«01_k».proof.Proof.Gen.HalvesOutRefIdeal.Run
public import proofs.«01_k».proof.Proof.Gen.Pre_a_core_w_out
public import proofs.«01_k».proof.Proof.Gen.HalvesKv.Frame
public import proofs.«01_k».proof.Proof.Gen.HalvesKvIdeal.Frame
public import proofs.«01_k».proof.Proof.Gen.HalvesKvRef
public import proofs.«01_k».proof.Proof.Gen.HalvesKvRefIdeal.Run
public import proofs.«01_k».proof.Proof.Gen.Pre_a_core_w_kv
public import proofs.«01_k».proof.Defs

@[expose] public section

set_option Elab.async false

noncomputable section

namespace Cert.HalfSum

open Idealize.ShloMosaic Idealize.SL.Sem

variable {nD : Nat} {τ : Topo} {sig : RefSig} {Val : EltTy → Type} {Λ : Idealize.SL.Sem.Labels}

/-- A run over a table of bodies is one over an equal table. -/
theorem of_defs {defs defs' : Defs nD τ sig Val Λ} {main : Dev nD → Prog (TpuEff nD τ sig Val Λ .tc) PUnit} {s : MemSt nD τ sig Val}
    {Q : PUnit × MemSt nD τ sig Val → Prop} (h : defs = defs') (H : θ_run defs' (onTc main) s Q) : θ_run defs (onTc main) s Q := h ▸ H

/-- A run of a program without semaphores, without its result. -/
theorem frame {defs : Defs nD τ sig Val Λ} {main : Dev nD → Prog (TpuEff nD τ sig Val Λ .tc) PUnit} {s : MemSt nD τ sig Val}
    {P Q : PUnit × MemSt nD τ sig Val → Dev nD → Prop} (hn : sig.nSem + sig.nDmaSem = 0) (H : θ_run defs (onTc main) s fun r => ∀ c, P r c ∧ Q r c) :
    θ_run defs (onTc main) s fun r => (∀ c, Q r c) ∧ r.2.sem = fun _ => 0 :=
  (θ_run _ _ _).mono (fun r h => ⟨fun c => (h c).2, sem_eq_zero_of_no_sems hn r.2⟩) H

end Cert.HalfSum

namespace Cert.HalvesInIdeal.Run

open Cert.HalvesInIdeal Cert.HalvesInIdeal.Gen
open Idealize.ShloMosaic Idealize.ShloMosaic.TcCoe Idealize.SL.Sem

variable {F : FTy → Type} [FloatOps F] (m : (ℓ : Loc nD τ sig) → Buf (Elt F) ℓ)

/-- Every device's core index is 0 or 1. -/
abbrev Cores : Prop := ∀ c : Dev nD,
  Cert.Pre_a_core_w_in.fn (F := F) (m ((c.tc : Thread nD τ).loc main_arg0)) (m ((c.tc : Thread nD τ).loc main_arg1)) (m ((c.tc : Thread nD τ).loc main_arg2)) = fun _ => 1#1

/-- The call's table of bodies is the idealized call's. -/
theorem bodies : HalvesIn.defs (F := F) = defs (F := F) :=
  congrArg (Pipeline.defs _) (congrArg Defs.onTc (funext fun l => match l with | 0 => rfl))

variable {m} (hm : Cores m)
include hm

theorem ok : Ok m := fun i => ⟨HalfSum.inside _ (HalfSum.place (hm 0) _) (hinb0_2 i), .inl rfl⟩

omit hm in
theorem index_out : ∀ t : Fin grid0.N, cc0_transform_2 (grid0.coords t) = ![t.val / 16, t.val % 16, 0] := by decide +kernel

omit hm in
theorem left (hO : Ok m) (c : Dev nD) (t : Fin (cfgM m hO).N) : outsAt0 m hO c t = k0_pay1 (iblk m hO c 0 t) (iblk m hO c 1 t) := by
  unfold outsAt0 out0_A_2 kernelRun0_A
  dsimp only
  rw [View.read_writes_full, View.readAt_full, View.readAt_full]
  exact congrArg₂ k0_pay1 ((hs0_0 m hO t).read_unread _) ((hs0_1 m hO t).read_unread _)

theorem flushed (c : Dev nD) (t : Fin (cfgM m (ok hm)).N) :
    (dats m (ok hm) 0 c).flushed 2 t = (((cfgM m (ok hm)).win 2).blk t).view.read (Elt F) (HalfSum.sum (V m c main_arg0) (V m c main_arg1) (V m c main_arg2)) := by
  obtain rfl : c = 0 := Subsingleton.elim _ _
  show ((cfgM m (ok hm)).win 2).cut (grid0.coords t) ((dats m (ok hm) 0 0).after 2 t) = _
  rw [after0_2, left]
  funext y
  exact HalfSum.block (f := fun t => (((cfgM m (ok hm)).win 2).blk t).view.emb) (e := (((cfgM m (ok hm)).win 0).blk t).view.emb)
    (q := fun t => cc0_transform_2 (grid0.coords t)) (HalfSum.place (hm 0) _) (fun _ => ⟨rfl, rfl, rfl, rfl⟩) (fun _ _ => ⟨rfl, rfl, rfl⟩)
    (V m 0 main_arg1) (V m 0 main_arg2) y

theorem final (c : Dev nD) : (dats m (ok hm) 0 c).arrAt 2 (cfgM m (ok hm)).N
    = HalfSum.sum (m ((c.tc : Thread nD τ).loc main_arg0)) (m ((c.tc : Thread nD τ).loc main_arg1)) (m ((c.tc : Thread nD τ).loc main_arg2)) :=
  (dats m (ok hm) 0 c).arrAt_eq_of_cover 2 _ (fun t _ => flushed hm c t) fun i =>
    let ⟨t, y, h⟩ := HalfSum.cover (f := fun t => (((cfgM m (ok hm)).win 2).blk t).view.emb) (K := 16) rfl rfl index_out (fun _ _ => ⟨rfl, rfl, rfl⟩) i
    ⟨t, flush0_2 _ t, h ▸ View.emb_mem_set _ y⟩

theorem run (g : Dev nD → PrngReg) : θ_run defs (onTc (τ := τ) (main (F := F))) ⟨m, fun _ => 0, g⟩ fun r => ∀ c : Dev nD,
    r.2.mem ((c.tc : Thread nD τ).loc main_v0)
        = HalfSum.sum (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨((h.1 c).1 2).trans (final hm c), h.2 c⟩) (θ_run_and (run_main m g (ok hm)) (unchanged m g (ok hm)))

end Cert.HalvesInIdeal.Run

namespace Cert.HalvesOutIdeal.Run

open Cert.HalvesOutIdeal Cert.HalvesOutIdeal.Gen
open Idealize.ShloMosaic Idealize.ShloMosaic.TcCoe Idealize.SL.Sem

variable {F : FTy → Type} [FloatOps F] (m : (ℓ : Loc nD τ sig) → Buf (Elt F) ℓ)

/-- Every device's core index is 0 or 1. -/
abbrev Cores : Prop := ∀ c : Dev nD,
  Cert.Pre_a_core_w_out.fn (F := F) (m ((c.tc : Thread nD τ).loc main_arg0)) (m ((c.tc : Thread nD τ).loc main_arg1)) (m ((c.tc : Thread nD τ).loc main_arg2)) = fun _ => 1#1

/-- The call's table of bodies is the idealized call's. -/
theorem bodies : HalvesOut.defs (F := F) = defs (F := F) :=
  congrArg (Pipeline.defs _) (congrArg Defs.onTc (funext fun l => match l with | 0 => rfl))

variable {m} (hm : Cores m)
include hm

theorem ok : Ok m := fun i => ⟨HalfSum.inside _ (HalfSum.place (hm 0) _) (hinb0_2 i), .inl rfl⟩

omit hm in
theorem index_out : ∀ t : Fin grid0.N, cc0_transform_2 (grid0.coords t) = ![t.val / 4, t.val % 4, 0] := by decide +kernel

omit hm in
theorem left (hO : Ok m) (c : Dev nD) (t : Fin (cfgM m hO).N) : outsAt0 m hO c t = k0_pay1 (iblk m hO c 0 t) (iblk m hO c 1 t) := by
  unfold outsAt0 out0_A_2 kernelRun0_A
  dsimp only
  rw [View.read_writes_full, View.readAt_full, View.readAt_full]
  exact congrArg₂ k0_pay1 ((hs0_0 m hO t).read_unread _) ((hs0_1 m hO t).read_unread _)

theorem flushed (c : Dev nD) (t : Fin (cfgM m (ok hm)).N) :
    (dats m (ok hm) 0 c).flushed 2 t = (((cfgM m (ok hm)).win 2).blk t).view.read (Elt F) (HalfSum.sum (V m c main_arg0) (V m c main_arg1) (V m c main_arg2)) := by
  obtain rfl : c = 0 := Subsingleton.elim _ _
  show ((cfgM m (ok hm)).win 2).cut (grid0.coords t) ((dats m (ok hm) 0 0).after 2 t) = _
  rw [after0_2, left]
  funext y
  exact HalfSum.block (f := fun t => (((cfgM m (ok hm)).win 2).blk t).view.emb) (e := (((cfgM m (ok hm)).win 0).blk t).view.emb)
    (q := fun t => cc0_transform_2 (grid0.coords t)) (HalfSum.place (hm 0) _) (fun _ => ⟨rfl, rfl, rfl, rfl⟩) (fun _ _ => ⟨rfl, rfl, rfl⟩)
    (V m 0 main_arg1) (V m 0 main_arg2) y

theorem final (c : Dev nD) : (dats m (ok hm) 0 c).arrAt 2 (cfgM m (ok hm)).N
    = HalfSum.sum (m ((c.tc : Thread nD τ).loc main_arg0)) (m ((c.tc : Thread nD τ).loc main_arg1)) (m ((c.tc : Thread nD τ).loc main_arg2)) :=
  (dats m (ok hm) 0 c).arrAt_eq_of_cover 2 _ (fun t _ => flushed hm c t) fun i =>
    let ⟨t, y, h⟩ := HalfSum.cover (f := fun t => (((cfgM m (ok hm)).win 2).blk t).view.emb) (K := 4) rfl rfl index_out (fun _ _ => ⟨rfl, rfl, rfl⟩) i
    ⟨t, flush0_2 _ t, h ▸ View.emb_mem_set _ y⟩

theorem run (g : Dev nD → PrngReg) : θ_run defs (onTc (τ := τ) (main (F := F))) ⟨m, fun _ => 0, g⟩ fun r => ∀ c : Dev nD,
    r.2.mem ((c.tc : Thread nD τ).loc main_v0)
        = HalfSum.sum (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨((h.1 c).1 2).trans (final hm c), h.2 c⟩) (θ_run_and (run_main m g (ok hm)) (unchanged m g (ok hm)))

end Cert.HalvesOutIdeal.Run

namespace Cert.HalvesKvIdeal.Run

open Cert.HalvesKvIdeal Cert.HalvesKvIdeal.Gen
open Idealize.ShloMosaic Idealize.ShloMosaic.TcCoe Idealize.SL.Sem

variable {F : FTy → Type} [FloatOps F] (m : (ℓ : Loc nD τ sig) → Buf (Elt F) ℓ)

/-- Every device's core index is 0 or 1. -/
abbrev Cores : Prop := ∀ c : Dev nD,
  Cert.Pre_a_core_w_kv.fn (F := F) (m ((c.tc : Thread nD τ).loc main_arg0)) (m ((c.tc : Thread nD τ).loc main_arg1)) (m ((c.tc : Thread nD τ).loc main_arg2)) = fun _ => 1#1

/-- The call's table of bodies is the idealized call's. -/
theorem bodies : HalvesKv.defs (F := F) = defs (F := F) :=
  congrArg (Pipeline.defs _) (congrArg Defs.onTc (funext fun l => match l with | 0 => rfl))

variable {m} (hm : Cores m)
include hm

theorem ok : Ok m := fun i => ⟨HalfSum.inside _ (HalfSum.place (hm 0) _) (hinb0_2 i), .inl rfl⟩

omit hm in
theorem index_out : ∀ t : Fin grid0.N, cc0_transform_2 (grid0.coords t) = ![t.val / 4, t.val % 4, 0] := by decide +kernel

omit hm in
theorem left (hO : Ok m) (c : Dev nD) (t : Fin (cfgM m hO).N) : outsAt0 m hO c t = k0_pay1 (iblk m hO c 0 t) (iblk m hO c 1 t) := by
  unfold outsAt0 out0_A_2 kernelRun0_A
  dsimp only
  rw [View.read_writes_full, View.readAt_full, View.readAt_full]
  exact congrArg₂ k0_pay1 ((hs0_0 m hO t).read_unread _) ((hs0_1 m hO t).read_unread _)

theorem flushed (c : Dev nD) (t : Fin (cfgM m (ok hm)).N) :
    (dats m (ok hm) 0 c).flushed 2 t = (((cfgM m (ok hm)).win 2).blk t).view.read (Elt F) (HalfSum.sum (V m c main_arg0) (V m c main_arg1) (V m c main_arg2)) := by
  obtain rfl : c = 0 := Subsingleton.elim _ _
  show ((cfgM m (ok hm)).win 2).cut (grid0.coords t) ((dats m (ok hm) 0 0).after 2 t) = _
  rw [after0_2, left]
  funext y
  exact HalfSum.block (f := fun t => (((cfgM m (ok hm)).win 2).blk t).view.emb) (e := (((cfgM m (ok hm)).win 0).blk t).view.emb)
    (q := fun t => cc0_transform_2 (grid0.coords t)) (HalfSum.place (hm 0) _) (fun _ => ⟨rfl, rfl, rfl, rfl⟩) (fun _ _ => ⟨rfl, rfl, rfl⟩)
    (V m 0 main_arg1) (V m 0 main_arg2) y

theorem final (c : Dev nD) : (dats m (ok hm) 0 c).arrAt 2 (cfgM m (ok hm)).N
    = HalfSum.sum (m ((c.tc : Thread nD τ).loc main_arg0)) (m ((c.tc : Thread nD τ).loc main_arg1)) (m ((c.tc : Thread nD τ).loc main_arg2)) :=
  (dats m (ok hm) 0 c).arrAt_eq_of_cover 2 _ (fun t _ => flushed hm c t) fun i =>
    let ⟨t, y, h⟩ := HalfSum.cover (f := fun t => (((cfgM m (ok hm)).win 2).blk t).view.emb) (K := 4) rfl rfl index_out (fun _ _ => ⟨rfl, rfl, rfl⟩) i
    ⟨t, flush0_2 _ t, h ▸ View.emb_mem_set _ y⟩

theorem run (g : Dev nD → PrngReg) : θ_run defs (onTc (τ := τ) (main (F := F))) ⟨m, fun _ => 0, g⟩ fun r => ∀ c : Dev nD,
    r.2.mem ((c.tc : Thread nD τ).loc main_v0)
        = HalfSum.sum (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨((h.1 c).1 2).trans (final hm c), h.2 c⟩) (θ_run_and (run_main m g (ok hm)) (unchanged m g (ok hm)))

end Cert.HalvesKvIdeal.Run

namespace Cert.Proof

open Idealize.ShloMosaic Idealize.SL.Sem Cert.Exchange

theorem quiescent_HalvesIn : Cert.quiescent_HalvesIn := fun m g h => HalfSum.of_defs HalvesInIdeal.Run.bodies (HalvesInIdeal.Gen.frame (F := Bits) m g (HalvesInIdeal.Run.ok h))
theorem quiescent_HalvesInIdeal : Cert.quiescent_HalvesInIdeal := fun m g h => HalvesInIdeal.Gen.frame m g (HalvesInIdeal.Run.ok h)
theorem quiescent_HalvesInRef : Cert.quiescent_HalvesInRef := fun m g _ => HalfSum.frame (by decide) (HalvesInRefIdeal.Value.run (F := Bits) m g)
theorem quiescent_HalvesInRef_pre : Cert.quiescent_HalvesInRef_pre_a_core_w_in := fun m g _ => quiescent_HalvesInRef m g trivial
theorem quiescent_HalvesInRefIdeal : Cert.quiescent_HalvesInRefIdeal := fun m g _ => HalfSum.frame (by decide) (HalvesInRefIdeal.Value.run (F := Ideal) m g)
theorem quiescent_HalvesInRefIdeal_pre : Cert.quiescent_HalvesInRefIdeal_pre_a_core_w_in := fun m g _ => quiescent_HalvesInRefIdeal m g trivial
theorem algebraic_HalvesIn : Cert.algebraic_HalvesInIdeal_HalvesInRefIdeal := fun m g m' g' h e =>
  ⟨_, HalvesInIdeal.Run.run h g, (θ_run _ _ _).mono (fun _ h c => ⟨(h c).1.trans (HalfSum.value (e c)), (h c).2⟩) (HalvesInRefIdeal.Value.run m' g')⟩
theorem bitexact_HalvesIn : Cert.bitexact_HalvesIn_HalvesInRef := fun m g m' g' h e =>
  ⟨_, HalfSum.of_defs HalvesInIdeal.Run.bodies (HalvesInIdeal.Run.run (F := Bits) h g), (θ_run _ _ _).mono (fun _ h c => ⟨(h c).1.trans (HalfSum.value (e c)), (h c).2⟩) (HalvesInRefIdeal.Value.run (F := Bits) m' g')⟩

theorem quiescent_HalvesOut : Cert.quiescent_HalvesOut := fun m g h => HalfSum.of_defs HalvesOutIdeal.Run.bodies (HalvesOutIdeal.Gen.frame (F := Bits) m g (HalvesOutIdeal.Run.ok h))
theorem quiescent_HalvesOutIdeal : Cert.quiescent_HalvesOutIdeal := fun m g h => HalvesOutIdeal.Gen.frame m g (HalvesOutIdeal.Run.ok h)
theorem quiescent_HalvesOutRef : Cert.quiescent_HalvesOutRef := fun m g _ => HalfSum.frame (by decide) (HalvesOutRefIdeal.Value.run (F := Bits) m g)
theorem quiescent_HalvesOutRef_pre : Cert.quiescent_HalvesOutRef_pre_a_core_w_out := fun m g _ => quiescent_HalvesOutRef m g trivial
theorem quiescent_HalvesOutRefIdeal : Cert.quiescent_HalvesOutRefIdeal := fun m g _ => HalfSum.frame (by decide) (HalvesOutRefIdeal.Value.run (F := Ideal) m g)
theorem quiescent_HalvesOutRefIdeal_pre : Cert.quiescent_HalvesOutRefIdeal_pre_a_core_w_out := fun m g _ => quiescent_HalvesOutRefIdeal m g trivial
theorem algebraic_HalvesOut : Cert.algebraic_HalvesOutIdeal_HalvesOutRefIdeal := fun m g m' g' h e =>
  ⟨_, HalvesOutIdeal.Run.run h g, (θ_run _ _ _).mono (fun _ h c => ⟨(h c).1.trans (HalfSum.value (e c)), (h c).2⟩) (HalvesOutRefIdeal.Value.run m' g')⟩
theorem bitexact_HalvesOut : Cert.bitexact_HalvesOut_HalvesOutRef := fun m g m' g' h e =>
  ⟨_, HalfSum.of_defs HalvesOutIdeal.Run.bodies (HalvesOutIdeal.Run.run (F := Bits) h g), (θ_run _ _ _).mono (fun _ h c => ⟨(h c).1.trans (HalfSum.value (e c)), (h c).2⟩) (HalvesOutRefIdeal.Value.run (F := Bits) m' g')⟩

theorem quiescent_HalvesKv : Cert.quiescent_HalvesKv := fun m g h => HalfSum.of_defs HalvesKvIdeal.Run.bodies (HalvesKvIdeal.Gen.frame (F := Bits) m g (HalvesKvIdeal.Run.ok h))
theorem quiescent_HalvesKvIdeal : Cert.quiescent_HalvesKvIdeal := fun m g h => HalvesKvIdeal.Gen.frame m g (HalvesKvIdeal.Run.ok h)
theorem quiescent_HalvesKvRef : Cert.quiescent_HalvesKvRef := fun m g _ => HalfSum.frame (by decide) (HalvesKvRefIdeal.Value.run (F := Bits) m g)
theorem quiescent_HalvesKvRef_pre : Cert.quiescent_HalvesKvRef_pre_a_core_w_kv := fun m g _ => quiescent_HalvesKvRef m g trivial
theorem quiescent_HalvesKvRefIdeal : Cert.quiescent_HalvesKvRefIdeal := fun m g _ => HalfSum.frame (by decide) (HalvesKvRefIdeal.Value.run (F := Ideal) m g)
theorem quiescent_HalvesKvRefIdeal_pre : Cert.quiescent_HalvesKvRefIdeal_pre_a_core_w_kv := fun m g _ => quiescent_HalvesKvRefIdeal m g trivial
theorem algebraic_HalvesKv : Cert.algebraic_HalvesKvIdeal_HalvesKvRefIdeal := fun m g m' g' h e =>
  ⟨_, HalvesKvIdeal.Run.run h g, (θ_run _ _ _).mono (fun _ h c => ⟨(h c).1.trans (HalfSum.value (e c)), (h c).2⟩) (HalvesKvRefIdeal.Value.run m' g')⟩
theorem bitexact_HalvesKv : Cert.bitexact_HalvesKv_HalvesKvRef := fun m g m' g' h e =>
  ⟨_, HalfSum.of_defs HalvesKvIdeal.Run.bodies (HalvesKvIdeal.Run.run (F := Bits) h g), (θ_run _ _ _).mono (fun _ h c => ⟨(h c).1.trans (HalfSum.value (e c)), (h c).2⟩) (HalvesKvRefIdeal.Value.run (F := Bits) m' g')⟩

end Cert.Proof

end
-- ==== Proof.GradSum.lean ====
/-
# A weight's gradient, block by block

The product of two matrices over their first axis, and a sweep that adds it up: block after block of the result, each over the blocks of the
contracted axis, the sums carried from a point to the next and given back at the last.
-/
module

public import Idealize.ShloMosaic.Lib.MatmulPlain
public import Idealize.ShloMosaic.Lib.Pipeline.ValueKit.Acc

@[expose] public section

set_option Elab.async false

noncomputable section

namespace Cert.GradSum

open Idealize.ShloMosaic Idealize.ShloMosaic.ValueIdx

/-- The indices of an array of two axes. -/
abbrev At (R C : Nat) := (⟨2, ![R, C]⟩ : Shape).Idx

variable {T R C : Nat}

/-- The product over the first axis: entry (r, c) adds up column r of `x` times column c of `w`. -/
@[irreducible] def cross (x : At T R → EReal) (w : At T C → EReal) : At R C → EReal := fun i => ∑ k : Fin T, x (ix2 k (i 0)) * w (ix2 k (i 1))

/-- The dimension numbers of a product over both operands' first axis. -/
abbrev dims (h : DotDims.WF ⟨2, ![T, R]⟩ ⟨2, ![T, C]⟩ ⟨2, ![R, C]⟩ [0] [0] [1] [1] [] []) : DotDims ⟨2, ![T, R]⟩ ⟨2, ![T, C]⟩ ⟨2, ![R, C]⟩ where
  lhsContracting := [0]
  rhsContracting := [0]
  lhsNonContracting := [1]
  rhsNonContracting := [1]
  lhsBatch := []
  rhsBatch := []
  wf := h

theorem contraction (h : DotDims.WF ⟨2, ![T, R]⟩ ⟨2, ![T, C]⟩ ⟨2, ![R, C]⟩ [0] [0] [1] [1] [] []) (x : At T R → EReal) (w : At T C → EReal) (j : At R C) :
    ∑ k : (dims h).contr.Idx, x ((dims h).lhsIdx j k) * w ((dims h).rhsIdx j k) = cross x w j := by
  unfold cross
  rw [← Equiv.sum_comp (contrEquiv1 (dims h) T rfl rfl).symm]
  refine Finset.sum_congr rfl fun k _ => ?_
  have hk := contrEquiv1_symm_val (dims h) T rfl rfl k
  have el : (dims h).lhsIdx j ((contrEquiv1 (dims h) T rfl rfl).symm k) = ix2 k (j 0) := by
    funext a; apply Fin.ext
    match a with
    | ⟨0, _⟩ => exact hk
    | ⟨1, _⟩ => rfl
  have er : (dims h).rhsIdx j ((contrEquiv1 (dims h) T rfl rfl).symm k) = ix2 k (j 1) := by
    funext a; apply Fin.ext
    match a with
    | ⟨0, _⟩ => exact hk
    | ⟨1, _⟩ => rfl
  exact congrArg₂ (fun u v : EReal => u * v) (congrArg x el) (congrArg w er)

variable {φ ψ : FTy}

/-- A point's product. -/
theorem point (h : DotDims.WF ⟨2, ![T, R]⟩ ⟨2, ![T, C]⟩ ⟨2, ![R, C]⟩ [0] [0] [1] [1] [] []) (x : FVec Ideal ⟨2, ![T, R]⟩ φ) (w : FVec Ideal ⟨2, ![T, C]⟩ ψ) :
    matmul (dims h) none x w (constant ⟨2, ![R, C]⟩ .f32 0x00000000#32) = cross x w := by
  funext j
  exact (Ideal.matmul_constant_zero_apply (dims h) none x w j).trans (contraction h x w j)

/-- The reference's product. -/
theorem whole (h : DotDims.WF ⟨2, ![T, R]⟩ ⟨2, ![T, C]⟩ ⟨2, ![R, C]⟩ [0] [0] [1] [1] [] []) {x x' : FVec Ideal ⟨2, ![T, R]⟩ φ} {w w' : FVec Ideal ⟨2, ![T, C]⟩ ψ}
    (ex : x' = x) (ew : w' = w) : Host.dotGeneral (dims h) none x' w' = cross x w := by
  subst ex ew
  funext j
  exact (Ideal.dotGeneral_apply (dims h) none _ x' w' j).trans (contraction h x' w' j)

variable {N J L tr tc nc : Nat} {r : Fin N → Fin 2 → Nat} {h : Fin N → At tr tc → At R C}

/-- At the last point of a block of the result, the sums carried there are the product's entries in that block: `e` and `g` place the entries a
    point takes in, `h` those the block gives back. -/
theorem fold [NeZero J] (hT : T = J * L) (a : At T R → EReal) (b : At T C → EReal) {p q : Fin N → Fin 2 → Nat}
    (hp : ∀ t, p t = ![t.val % J, t.val / J / nc]) (hq : ∀ t, q t = ![t.val % J, t.val / J % nc]) (hr : ∀ t, r t = ![t.val / J / nc, t.val / J % nc])
    {e : Fin N → At L tr → At T R} {g : Fin N → At L tc → At T C}
    (he : ∀ t y, (e t y 0).val = p t 0 * L + 1 * (y 0).val ∧ (e t y 1).val = p t 1 * tr + 1 * (y 1).val)
    (hg : ∀ t y, (g t y 0).val = q t 0 * L + 1 * (y 0).val ∧ (g t y 1).val = q t 1 * tc + 1 * (y 1).val)
    (hh : ∀ t y, (h t y 0).val = r t 0 * tr + 1 * (y 0).val ∧ (h t y 1).val = r t 1 * tc + 1 * (y 1).val)
    (f : (n : Nat) → n < N → At tr tc → EReal)
    (first : ∀ t : Fin N, t.val % J = 0 → f t.val t.isLt = cross (fun y => a (e t y)) (fun y => b (g t y)))
    (next : ∀ t : Fin N, ¬t.val % J = 0 → ∀ y,
      f t.val t.isLt y = f (t.val - 1) (Nat.lt_of_le_of_lt (Nat.sub_le _ _) t.isLt) y + cross (fun y => a (e t y)) (fun y => b (g t y)) y)
    (t : Fin N) (ht : t.val % J = J - 1) (y : At tr tc) : f t.val t.isLt y = cross a b (h t y) := by
  have hJ : 0 < J := Nat.pos_of_ne_zero (NeZero.ne J)
  refine (Pipeline.eq_sum_fin_of_reset_step_apply_of_flush f J (fun _ => 0) _ (fun t h0 y => (congrFun (first t h0) y).trans (zero_add _).symm)
    next t ht y).trans ((zero_add _).trans ?_)
  unfold cross
  refine Fin.sum_mul_add_congr (fun s k hl => ?_) hT
  have hm : (J * (t.val / J) + s.val) % J = s.val := by rw [Nat.mul_add_mod]; exact Nat.mod_eq_of_lt s.isLt
  have hd : (J * (t.val / J) + s.val) / J = t.val / J := by
    rw [Nat.mul_add_div hJ, Nat.div_eq_of_lt s.isLt, Nat.add_zero]
  obtain ⟨h0, h1⟩ := hh t y
  rw [hr] at h0 h1
  have hb := Pipeline.run_point_lt_of_flush t ht s
  have ea : e ⟨_, hb⟩ (ix2 k (y 0)) = ix2 ⟨s.val * L + k.val, hl⟩ (h t y 0) := by
    obtain ⟨e0, e1⟩ := he ⟨_, hb⟩ (ix2 k (y 0))
    rw [hp] at e0 e1
    simp only [hm, hd] at e0 e1
    funext c; apply Fin.ext
    match c with
    | ⟨0, _⟩ => exact e0.trans (congrArg (s.val * L + ·) (Nat.one_mul k.val))
    | ⟨1, _⟩ => exact e1.trans h0.symm
  have eb : g ⟨_, hb⟩ (ix2 k (y 1)) = ix2 ⟨s.val * L + k.val, hl⟩ (h t y 1) := by
    obtain ⟨e0, e1⟩ := hg ⟨_, hb⟩ (ix2 k (y 1))
    rw [hq] at e0 e1
    simp only [hm, hd] at e0 e1
    funext c; apply Fin.ext
    match c with
    | ⟨0, _⟩ => exact e0.trans (congrArg (s.val * L + ·) (Nat.one_mul k.val))
    | ⟨1, _⟩ => exact e1.trans h1.symm
  exact congrArg₂ (fun u v : EReal => u * v) (congrArg a ea) (congrArg b eb)

/-- Every entry of the result is in the block that some last point gives back. -/
theorem cover (hJ : 0 < J) (hr0 : 0 < tr) (hc0 : 0 < tc) {nr : Nat} (hN : N = J * (nr * nc)) (hR : R = nr * tr) (hC : C = nc * tc)
    (hr : ∀ t, r t = ![t.val / J / nc, t.val / J % nc])
    (hh : ∀ t y, (h t y 0).val = r t 0 * tr + 1 * (y 0).val ∧ (h t y 1).val = r t 1 * tc + 1 * (y 1).val)
    (i : At R C) : ∃ t y, t.val % J = J - 1 ∧ h t y = i := by
  have i0 : (i 0).val / tr < nr := Nat.div_lt_of_lt_mul (Nat.mul_comm nr tr ▸ hR ▸ (i 0).isLt)
  have i1 : (i 1).val / tc < nc := Nat.div_lt_of_lt_mul (Nat.mul_comm nc tc ▸ hC ▸ (i 1).isLt)
  have hb : (i 0).val / tr * nc + (i 1).val / tc < nr * nc :=
    calc (i 0).val / tr * nc + (i 1).val / tc < (i 0).val / tr * nc + nc := Nat.add_lt_add_left i1 _
      _ = ((i 0).val / tr + 1) * nc := (Nat.succ_mul _ _).symm
      _ ≤ nr * nc := Nat.mul_le_mul_right _ i0
  have ht : J * ((i 0).val / tr * nc + (i 1).val / tc) + (J - 1) < N :=
    calc J * ((i 0).val / tr * nc + (i 1).val / tc) + (J - 1) < J * ((i 0).val / tr * nc + (i 1).val / tc) + J := by omega
      _ = J * ((i 0).val / tr * nc + (i 1).val / tc + 1) := (Nat.mul_succ _ _).symm
      _ ≤ J * (nr * nc) := Nat.mul_le_mul_left _ hb
      _ = N := hN.symm
  have hl : J - 1 < J := by omega
  have hd : (J * ((i 0).val / tr * nc + (i 1).val / tc) + (J - 1)) / J = (i 0).val / tr * nc + (i 1).val / tc := by
    rw [Nat.mul_add_div hJ, Nat.div_eq_of_lt hl, Nat.add_zero]
  have hn : 0 < nc := Nat.lt_of_le_of_lt (Nat.zero_le _) i1
  have hq : ((i 0).val / tr * nc + (i 1).val / tc) / nc = (i 0).val / tr := by
    rw [Nat.mul_comm, Nat.mul_add_div hn, Nat.div_eq_of_lt i1, Nat.add_zero]
  have hm : ((i 0).val / tr * nc + (i 1).val / tc) % nc = (i 1).val / tc := by
    rw [Nat.mul_comm, Nat.mul_add_mod, Nat.mod_eq_of_lt i1]
  refine ⟨⟨_, ht⟩, ix2 ⟨(i 0).val % tr, Nat.mod_lt _ hr0⟩ ⟨(i 1).val % tc, Nat.mod_lt _ hc0⟩, ?_, ?_⟩
  · show (J * _ + (J - 1)) % J = J - 1
    rw [Nat.mul_add_mod, Nat.mod_eq_of_lt hl]
  obtain ⟨h0, h1⟩ := hh ⟨_, ht⟩ (ix2 ⟨(i 0).val % tr, Nat.mod_lt _ hr0⟩ ⟨(i 1).val % tc, Nat.mod_lt _ hc0⟩)
  rw [hr] at h0 h1
  simp only [hd, hq, hm] at h0 h1
  funext c; apply Fin.ext
  match c with
  | ⟨0, _⟩ => exact h0.trans (by show (i 0).val / tr * tr + 1 * ((i 0).val % tr) = (i 0).val; rw [Nat.one_mul, Nat.mul_comm]; exact Nat.div_add_mod _ _)
  | ⟨1, _⟩ => exact h1.trans (by show (i 1).val / tc * tc + 1 * ((i 1).val % tc) = (i 1).val; rw [Nat.one_mul, Nat.mul_comm]; exact Nat.div_add_mod _ _)

end Cert.GradSum

end
-- ==== Proof.LossSum.lean ====
/-
# The loss and its derivative

The sum over the tokens of the squared differences, each scaled, and the scaled difference: as a point makes them of its rows, and as the reference
makes them of all.
-/
module

public import proofs.«01_k».proof.Proof.GradSum
public import Idealize.ShloMosaic.Lib.Pointwise
public import Idealize.ShloMosaic.Lib.ValueLayoutCasts
public import Idealize.ShloMosaic.Lib.Pipeline.ValueKit.Acc

@[expose] public section

set_option Elab.async false

noncomputable section

namespace Cert.LossSum

open Idealize.ShloMosaic
open Cert.GradSum (At)

theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem width : Ideal.ofBits .f32 0x45000000#32 = ((2048 : ℝ) : EReal) := by
  simp [Ideal.ofBits, Ideal.ieee, -EReal.coe_mul]; norm_num
theorem step : Ideal.ofBits .f32 0x3A000000#32 = ((1 / 2048 : ℝ) : EReal) := by
  simp [Ideal.ofBits, Ideal.ieee, -EReal.coe_mul]; norm_num
theorem share : Ideal.ofBits .f32 0x39800000#32 = ((1 / 4096 : ℝ) : EReal) := by
  simp [Ideal.ofBits, Ideal.ieee, -EReal.coe_mul]; norm_num

/-- Division by the width is multiplication by its inverse. -/
theorem div_width (a : EReal) : Ideal.div a ((2048 : ℝ) : EReal) = a * ((1 / 2048 : ℝ) : EReal) := by
  have h : ((2048 : ℝ) : EReal) ≠ 0 := by norm_cast
  unfold Ideal.div
  rw [if_neg h, ← EReal.coe_inv, one_div]

/-- A nonnegative real factor goes into a sum. -/
theorem scaled {n : Nat} {c : ℝ} (h : 0 ≤ c) (f : Fin n → EReal) : (c : EReal) * ∑ k, f k = ∑ k, (c : EReal) * f k := by
  classical
  induction (Finset.univ : Finset (Fin n)) using Finset.induction_on with
  | empty => simp
  | insert a s ha ih =>
    rw [Finset.sum_insert ha, Finset.sum_insert ha,
      EReal.left_distrib_of_nonneg_of_ne_top (EReal.coe_nonneg.mpr h) (EReal.coe_ne_top c), ih]

variable {R C : Nat}

/-- A row's squared differences, added up. -/
@[irreducible] def square (x y : At R C → EReal) (r : Fin R) : EReal :=
  ∑ k : Fin C, (x (ix2 r k) - y (ix2 r k)) * (x (ix2 r k) - y (ix2 r k))

/-- The loss of the rows. -/
@[irreducible] def loss (x y : At R C → EReal) : At 1 1 → EReal := fun _ => ∑ r : Fin R, ((1 / 4096 : ℝ) : EReal) * square x y r

/-- Its derivative in `x`. -/
def slope (x y : At R C → EReal) : At R C → EReal := fun i => (x i - y i) * ((1 / 2048 : ℝ) : EReal)

/-- A point's rows' loss. -/
theorem point (h₁ : (⟨2, ![R, C]⟩ : Shape).Reduces [1] ⟨1, ![R]⟩) (h₂ : (⟨1, ![R]⟩ : Shape).ShapeCasts ⟨2, ![R, 1]⟩)
    (h₃ : (⟨2, ![R, 1]⟩ : Shape).Reduces [0] ⟨1, ![1]⟩) (h₄ : (⟨1, ![1]⟩ : Shape).ShapeCasts ⟨2, ![1, 1]⟩)
    (x y : FVec Ideal ⟨2, ![R, C]⟩ .f32) :
    mulf (broadcast ⟨2, ![1, 1]⟩ (Scalar.ofBits (F := Ideal) .f32 0x39800000#32))
      (shapeCast ⟨2, ![1, 1]⟩ (multiReduction .add [0] ⟨1, ![1]⟩ (shapeCast ⟨2, ![R, 1]⟩ (multiReduction .add [1] ⟨1, ![R]⟩
        (mulf (subf x y) (subf x y)) 0x00000000#32 h₁ (.inl rfl) rfl) h₂) 0x00000000#32 h₃ (.inl rfl) rfl) h₄) = loss x y := by
  funext j
  unfold loss square
  rw [← scaled (by norm_num)]
  pointwise
  rw [share]
  refine congrArg (_ * ·) (Finset.sum_congr rfl fun r _ => Finset.sum_congr rfl fun k _ => ?_)
  have e : (Shape.reshapeEquiv h₂ (ix2 r 0)) 0 = r := ValueIdx.shapeCast_a_a1_apply (fun i : (⟨1, ![R]⟩ : Shape).Idx => i 0) h₂ r 0
  exact congrArg (fun i => (x (ix2 i k) - y (ix2 i k)) * (x (ix2 i k) - y (ix2 i k))) e

/-- A point's derivative. -/
theorem point_slope (x y : FVec Ideal ⟨2, ![R, C]⟩ .f32) :
    mulf (subf x y) (broadcast ⟨2, ![R, C]⟩ (Scalar.ofBits (F := Ideal) .f32 0x3A000000#32)) = slope x y := by
  funext j
  unfold slope
  pointwise
  rw [step]

/-- The reference's loss. -/
theorem whole (h₁ : (⟨2, ![R, C]⟩ : Shape).ReducesTo [1] ⟨1, ![R]⟩) (h₂ : (⟨1, ![R]⟩ : Shape).ReducesTo [0] ⟨0, ![]⟩)
    (h₃ : (⟨0, ![]⟩ : Shape).ShapeCasts ⟨2, ![1, 1]⟩) (hb : (⟨0, ![]⟩ : Shape).BroadcastsInDim ⟨1, ![R]⟩ ![]) (hu : 0 < (⟨0, ![]⟩ : Shape).numel)
    (x y : FVec Ideal ⟨2, ![R, C]⟩ .f32) :
    shapeCast ⟨2, ![1, 1]⟩ (mulf (constant (F := Ideal) ⟨0, ![]⟩ .f32 0x3F000000#32) (Host.reduceAdd (Host.divf
      (Host.reduceAdd (mulf (subf x y) (subf x y)) (constant (F := Ideal) ⟨0, ![]⟩ .f32 0x00000000#32) h₁ hu)
      (broadcastInDim ⟨1, ![R]⟩ ![] hb (constant (F := Ideal) ⟨0, ![]⟩ .f32 0x45000000#32))) (constant (F := Ideal) ⟨0, ![]⟩ .f32 0x00000000#32) h₂ hu)) h₃
      = loss x y := by
  funext j
  unfold loss square
  pointwise
  rw [half, width, scaled (by norm_num)]
  refine Finset.sum_congr rfl fun r _ => ?_
  rw [div_width, mul_comm (_ : EReal) ((1 / 2048 : ℝ) : EReal), ← mul_assoc, ← EReal.coe_mul]
  norm_num

/-- The reference's derivative. -/
theorem derivative (hb : (⟨0, ![]⟩ : Shape).BroadcastsInDim ⟨1, ![R]⟩ ![]) (hr : (⟨1, ![R]⟩ : Shape).BroadcastsInDim ⟨2, ![R, C]⟩ ![0])
    (hc : (⟨0, ![]⟩ : Shape).BroadcastsInDim ⟨2, ![R, C]⟩ ![]) (x y : FVec Ideal ⟨2, ![R, C]⟩ .f32) :
    mulf (broadcastInDim ⟨2, ![R, C]⟩ ![0] hr (Host.divf (broadcastInDim ⟨1, ![R]⟩ ![] hb (mulf (constant (F := Ideal) ⟨0, ![]⟩ .f32 0x3F000000#32)
      (constant (F := Ideal) ⟨0, ![]⟩ .f32 0x3F800000#32))) (broadcastInDim ⟨1, ![R]⟩ ![] hb (constant (F := Ideal) ⟨0, ![]⟩ .f32 0x45000000#32))))
      (mulf (broadcastInDim ⟨2, ![R, C]⟩ ![] hc (constant (F := Ideal) ⟨0, ![]⟩ .f32 0x40000000#32)) (subf x y)) = slope x y := by
  funext j
  unfold slope
  pointwise
  rw [half, width, two, div_width, ← mul_assoc, ← EReal.coe_mul, ← EReal.coe_mul, mul_comm]
  norm_num

variable {N J L : Nat} {p : Fin N → Fin 2 → Nat} {e g : Fin N → At L C → At R C}

/-- At the last point, what is carried is the loss of all rows: `e` and `g` place the entries a point takes in. -/
theorem fold [NeZero J] (hR : R = J * L) (x y : At R C → EReal) (hp : ∀ t, p t = ![t.val % J, 0])
    (he : ∀ t i, (e t i 0).val = p t 0 * L + 1 * (i 0).val ∧ (e t i 1).val = p t 1 * C + 1 * (i 1).val)
    (hg : ∀ t i, (g t i 0).val = p t 0 * L + 1 * (i 0).val ∧ (g t i 1).val = p t 1 * C + 1 * (i 1).val)
    (f : (n : Nat) → n < N → At 1 1 → EReal)
    (first : ∀ t : Fin N, t.val % J = 0 → f t.val t.isLt = loss (fun i => x (e t i)) (fun i => y (g t i)))
    (next : ∀ t : Fin N, ¬t.val % J = 0 → ∀ i,
      f t.val t.isLt i = f (t.val - 1) (Nat.lt_of_le_of_lt (Nat.sub_le _ _) t.isLt) i + loss (fun i => x (e t i)) (fun i => y (g t i)) i)
    (t : Fin N) (ht : t.val % J = J - 1) (i j : At 1 1) : f t.val t.isLt i = loss x y j := by
  refine (Pipeline.eq_sum_fin_of_reset_step_apply_of_flush f J (fun _ => 0) _ (fun t h0 i => (congrFun (first t h0) i).trans (zero_add _).symm)
    next t ht i).trans ((zero_add _).trans ?_)
  unfold loss
  refine Fin.sum_mul_add_congr (fun s r hl => congrArg (_ * ·) ?_) hR
  unfold square
  have hm : (J * (t.val / J) + s.val) % J = s.val := by rw [Nat.mul_add_mod]; exact Nat.mod_eq_of_lt s.isLt
  have hb := Pipeline.run_point_lt_of_flush t ht s
  have place : ∀ {e : Fin N → At L C → At R C} (_ : ∀ t i, (e t i 0).val = p t 0 * L + 1 * (i 0).val ∧ (e t i 1).val = p t 1 * C + 1 * (i 1).val)
      (k : Fin C), e ⟨_, hb⟩ (ix2 r k) = ix2 ⟨s.val * L + r.val, hl⟩ k := by
    intro e he k
    obtain ⟨e0, e1⟩ := he ⟨_, hb⟩ (ix2 r k)
    rw [hp] at e0 e1
    simp only [hm] at e0
    funext c; apply Fin.ext
    match c with
    | ⟨0, _⟩ => exact e0.trans (congrArg (s.val * L + ·) (Nat.one_mul r.val))
    | ⟨1, _⟩ => exact e1.trans (by show 0 * C + 1 * k.val = k.val; omega)
  refine Finset.sum_congr rfl fun k _ => ?_
  have d := congrArg₂ (fun u v : EReal => u - v) (congrArg x (place he k)) (congrArg y (place hg k))
  exact congrArg (fun u : EReal => u * u) d

/-- A point's derivative is the derivative's entries in the point's rows: `h` places the entries it gives back. -/
theorem block {q : Fin N → Fin 2 → Nat} {h : Fin N → At L C → At R C} (x y : At R C → EReal) (hq : ∀ t, p t = q t)
    (he : ∀ t i, (e t i 0).val = p t 0 * L + 1 * (i 0).val ∧ (e t i 1).val = p t 1 * C + 1 * (i 1).val)
    (hg : ∀ t i, (g t i 0).val = p t 0 * L + 1 * (i 0).val ∧ (g t i 1).val = p t 1 * C + 1 * (i 1).val)
    (hh : ∀ t i, (h t i 0).val = q t 0 * L + 1 * (i 0).val ∧ (h t i 1).val = q t 1 * C + 1 * (i 1).val) (t : Fin N) (i : At L C) :
    slope (fun i => x (e t i)) (fun i => y (g t i)) i = slope x y (h t i) := by
  have place : ∀ {e : Fin N → At L C → At R C} (_ : ∀ t i, (e t i 0).val = p t 0 * L + 1 * (i 0).val ∧ (e t i 1).val = p t 1 * C + 1 * (i 1).val),
      e t i = h t i := by
    intro e he
    obtain ⟨e0, e1⟩ := he t i
    obtain ⟨h0, h1⟩ := hh t i
    rw [hq] at e0 e1
    funext c; apply Fin.ext
    match c with
    | ⟨0, _⟩ => exact e0.trans h0.symm
    | ⟨1, _⟩ => exact e1.trans h1.symm
  unfold slope
  dsimp only
  rw [place he, place hg]

end Cert.LossSum

end
-- ==== Proof.Losses.lean ====
/-
# The loss of one device's tokens

Where the windows of the call that makes the loss and its derivative lie at each point, and what a point carries to the next, over any values; then, in
the extended reals, that what is given back is the loss of all the tokens and its derivative; then the call's claims.
-/
module

public import proofs.«01_k».proof.Proof.LossSum
public import proofs.«01_k».proof.Proof.HalfSums
public import Idealize.ShloMosaic.Lib.VecWindow
public import Idealize.ShloMosaic.Lib.Pipeline.Value
public import proofs.«01_k».proof.Proof.Gen.Loss.Frame
public import proofs.«01_k».proof.Proof.Gen.LossIdeal.Value
public import proofs.«01_k».proof.Proof.Gen.LossRef
public import proofs.«01_k».proof.Proof.Gen.LossRefIdeal.Run
public import proofs.«01_k».proof.Defs

@[expose] public section

set_option Elab.async false

noncomputable section

namespace Cert.LossIdeal.Run

open Cert.LossIdeal Cert.LossIdeal.Gen Cert.LossIdeal.Value
open Idealize.ShloMosaic Idealize.ShloMosaic.TcCoe Idealize.SL.Sem

theorem index_a : ∀ t : Fin cfg0.N, win0_0.index t = ![t.val % 16, 0] := (by decide +kernel : ∀ t : Fin grid0.N, _)
theorem index_b : ∀ t : Fin cfg0.N, win0_1.index t = ![t.val % 16, 0] := (by decide +kernel : ∀ t : Fin grid0.N, _)
theorem same : ∀ t : Fin cfg0.N, win0_0.index t = win0_3.index t := (by decide +kernel : ∀ t : Fin grid0.N, _)
theorem index_slope : ∀ t : Fin cfg0.N, win0_3.index t = ![t.val / 1 / 1, t.val / 1 % 1] := (by decide +kernel : ∀ t : Fin grid0.N, _)

section

variable {F : FTy → Type} [FloatOps F] (m : (ℓ : Loc nD τ sig) → Buf (Elt F) ℓ)

theorem first (c : Dev nD) (t : Fin cfg0.N) (h : t.val % 16 = 0) : (outsAt0 m c t.val t.isLt).1 = k0_pay3 (iblk m c 0 t) (iblk m c 1 t) := by
  have hn : t.val < 16 := N_0 ▸ t.isLt
  rw [outsAt0_A m c t h (by omega)]
  unfold out0_A_2 kernelRun0_A
  dsimp only
  rw [View.read_writes_full, View.readAt_full, View.readAt_full]
  exact congrArg₂ k0_pay3 ((hs0_0 t).read_unread _) ((hs0_1 t).read_unread _)

theorem next (c : Dev nD) (t : Fin cfg0.N) (h : ¬t.val % 16 = 0) : (outsAt0 m c t.val t.isLt).1
    = k0_pay4 (iblk m c 0 t) (iblk m c 1 t) (outsAt0 m c (t.val - 1) (Nat.lt_of_le_of_lt (Nat.sub_le _ _) t.isLt)).1 := by
  have hn : t.val < 16 := N_0 ▸ t.isLt
  rw [outsAt0_B m c t h (by omega)]
  unfold out0_B_2 kernelRun0_B
  dsimp only
  rw [View.read_writes_full, View.readAt_full, View.readAt_full, View.readAt_full, (hs0_0 t).read_unread, (hs0_1 t).read_unread,
    (hs0_2 t).read_unread]

theorem slope (c : Dev nD) (t : Fin cfg0.N) : (outsAt0 m c t.val t.isLt).2 = k0_pay2 (iblk m c 0 t) (iblk m c 1 t) := by
  have hn : t.val < 16 := N_0 ▸ t.isLt
  by_cases h : t.val % 16 = 0
  · rw [outsAt0_A m c t h (by omega)]
    unfold out0_A_3 kernelRun0_A
    dsimp only
    rw [View.read_writes_full, View.readAt_full, View.readAt_full, (hs0_0 t).read_unread, (hs0_1 t).read_unread]
  · rw [outsAt0_B m c t h (by omega)]
    unfold out0_B_3 kernelRun0_B
    dsimp only
    rw [View.read_writes_full, View.readAt_full, View.readAt_full, (hs0_0 t).read_unread, (hs0_1 t).read_unread]

end

variable (m : (ℓ : Loc nD τ sig) → Buf (Elt Ideal) ℓ)

theorem term (x y : Vec Ideal S512x2048 .f32) : k0_pay3 x y = LossSum.loss x y :=
  LossSum.point reduces_S512x2048_S512 shapeCasts_S512_S512x1 reduces_S512x1_S1 shapeCasts_S1_S1x1 x y

theorem flushed_loss (c : Dev nD) (t : Fin cfg0.N) (h : t.val % 16 = 15) : (dats m 0 c).flushed 2 t
    = ((cfg0.win 2).blk t).view.read (Elt Ideal) (LossSum.loss (R := 8192) (C := 2048) (V m c main_arg0) (V m c main_arg1)) := by
  rw [flushed2]
  funext y
  have k := LossSum.fold (R := 8192) (C := 2048) (J := 16) (L := 512) (by norm_num)
    (V m c main_arg0) (V m c main_arg1) index_a
    (e := fun t => ((cfg0.win 0).blk t).view.emb) (g := fun t => ((cfg0.win 1).blk t).view.emb)
    (fun _ _ => ⟨rfl, rfl⟩) (fun t _ => by rw [index_a, ← index_b]; exact ⟨rfl, rfl⟩) (fun n h => (outsAt0 m c n h).1)
    (fun t h => (first m c t h).trans (term _ _))
    (fun t h y => congrFun ((next m c t h).trans (congrArg₂ addf (shapeCast_self _ _) (term _ _))) y) t h y (((cfg0.win 2).blk t).view.emb y)
  exact k

theorem loss (c : Dev nD) : (dats m 0 c).arrAt 2 cfg0.N
    = LossSum.loss (R := 8192) (C := 2048) (m ((c.tc : Thread nD τ).loc main_arg0)) (m ((c.tc : Thread nD τ).loc main_arg1)) :=
  (dats m 0 c).arrAt_eq_of_cover 2 _ (fun t h => flushed_loss m c t ((flush0_2 t).mp h)) fun i =>
    let t : Fin cfg0.N := ⟨15, lt_of_lt_of_eq (by norm_num : 15 < 16) N_0.symm⟩
    have e : ((cfg0.win 2).blk t).view.emb (ix2 0 0) = i := funext fun a =>
      match a with
      | ⟨0, _⟩ => Subsingleton.elim (α := Fin 1) _ _
      | ⟨1, _⟩ => Subsingleton.elim (α := Fin 1) _ _
    ⟨t, (flush0_2 t).mpr rfl, e ▸ View.emb_mem_set _ _⟩

theorem flushed_slope (c : Dev nD) (t : Fin cfg0.N) : (dats m 0 c).flushed 3 t
    = ((cfg0.win 3).blk t).view.read (Elt Ideal) (LossSum.slope (R := 8192) (C := 2048) (V m c main_arg0) (V m c main_arg1)) := by
  rw [flushed3, slope]
  funext y
  have k := LossSum.block (R := 8192) (C := 2048) (L := 512) (V m c main_arg0) (V m c main_arg1) same
    (e := fun t => ((cfg0.win 0).blk t).view.emb) (g := fun t => ((cfg0.win 1).blk t).view.emb) (h := fun t => ((cfg0.win 3).blk t).view.emb)
    (fun _ _ => ⟨rfl, rfl⟩) (fun t _ => by rw [index_a, ← index_b]; exact ⟨rfl, rfl⟩) (fun _ _ => ⟨rfl, rfl⟩) t y
  exact (congrFun (LossSum.point_slope (iblk m c 0 t) (iblk m c 1 t)) y).trans k

theorem final (c : Dev nD) : (dats m 0 c).arrAt 3 cfg0.N
    = LossSum.slope (R := 8192) (C := 2048) (m ((c.tc : Thread nD τ).loc main_arg0)) (m ((c.tc : Thread nD τ).loc main_arg1)) :=
  (dats m 0 c).arrAt_eq_of_cover 3 _ (fun t _ => flushed_slope m c t) fun i =>
    let ⟨t, y, _, e⟩ := GradSum.cover (J := 1) (R := 8192) (C := 2048) (tr := 512) (tc := 2048) (nc := 1) (nr := 16)
      (h := fun t => ((cfg0.win 3).blk t).view.emb)
      (by norm_num) (by norm_num) (by norm_num) N_0 (by norm_num) (by norm_num) index_slope (fun _ _ => ⟨rfl, rfl⟩) i
    ⟨t, flush0_3 t, e ▸ View.emb_mem_set _ y⟩

end Cert.LossIdeal.Run

namespace Cert.Proof

open Idealize.ShloMosaic Idealize.SL.Sem

theorem quiescent_Loss : Cert.quiescent_Loss := fun m g _ => Loss.Gen.frame m g
theorem quiescent_LossIdeal : Cert.quiescent_LossIdeal := fun m g _ => LossIdeal.Gen.frame m g
theorem quiescent_LossRef : Cert.quiescent_LossRef := fun m g _ =>
  HalfSum.frame (by decide) ((θ_run _ _ _).mono (fun _ h c => and_assoc.mpr (h c)) (LossRefIdeal.Value.run (F := Bits) m g))
theorem quiescent_LossRefIdeal : Cert.quiescent_LossRefIdeal := fun m g _ =>
  HalfSum.frame (by decide) ((θ_run _ _ _).mono (fun _ h c => and_assoc.mpr (h c)) (LossRefIdeal.Value.run (F := Ideal) m g))
theorem algebraic_Loss : Cert.algebraic_LossIdeal_LossRefIdeal := fun m g m' g' _ e =>
  ⟨_, _, (θ_run _ _ _).mono (fun _ h c => ⟨(h c).1.trans (LossIdeal.Run.loss m c), (h c).2.1.trans (LossIdeal.Run.final m c), (h c).2.2⟩)
      (LossIdeal.Value.run_blocks m g),
    (θ_run _ _ _).mono (fun _ h c => ⟨(h c).1.trans ((LossSum.whole _ _ _ _ _ _ _).trans (congrArg₂ LossSum.loss (e c).1 (e c).2)),
      (h c).2.1.trans ((LossSum.derivative _ _ _ _ _).trans (congrArg₂ LossSum.slope (e c).1 (e c).2)), (h c).2.2⟩)
      (LossRefIdeal.Value.run m' g')⟩

end Cert.Proof

end
-- ==== Proof.Grads.lean ====
/-
# The weights' gradients from one device's tokens

For each of the three calls that make a weight's gradient: where its windows lie at each point and what a point carries to the next, over any
values; then, in the extended reals, that what is given back is the product over the tokens; then its claims.
-/
module

public import proofs.«01_k».proof.Proof.GradSum
public import proofs.«01_k».proof.Proof.HalfSums
public import Idealize.ShloMosaic.Lib.VecWindow
public import Idealize.ShloMosaic.Lib.Pipeline.Value
public import proofs.«01_k».proof.Proof.Gen.GradOut.Frame
public import proofs.«01_k».proof.Proof.Gen.GradOutIdeal.Value
public import proofs.«01_k».proof.Proof.Gen.GradOutRef
public import proofs.«01_k».proof.Proof.Gen.GradOutRefIdeal.Run
public import proofs.«01_k».proof.Proof.Gen.GradIn.Frame
public import proofs.«01_k».proof.Proof.Gen.GradInIdeal.Value
public import proofs.«01_k».proof.Proof.Gen.GradInRef
public import proofs.«01_k».proof.Proof.Gen.GradInRefIdeal.Run
public import proofs.«01_k».proof.Proof.Gen.GradKv.Frame
public import proofs.«01_k».proof.Proof.Gen.GradKvIdeal.Value
public import proofs.«01_k».proof.Proof.Gen.GradKvRef
public import proofs.«01_k».proof.Proof.Gen.GradKvRefIdeal.Run
public import proofs.«01_k».proof.Defs

@[expose] public section

set_option Elab.async false

noncomputable section

namespace Cert.GradInIdeal.Run

open Cert.GradInIdeal Cert.GradInIdeal.Gen Cert.GradInIdeal.Value
open Idealize.ShloMosaic Idealize.ShloMosaic.TcCoe Idealize.SL.Sem

theorem index_a : ∀ t : Fin cfg0.N, win0_0.index t = ![t.val % 16, t.val / 16 / 10] := (by decide +kernel : ∀ t : Fin grid0.N, _)
theorem index_b : ∀ t : Fin cfg0.N, win0_1.index t = ![t.val % 16, t.val / 16 % 10] := (by decide +kernel : ∀ t : Fin grid0.N, _)
theorem index_out : ∀ t : Fin cfg0.N, win0_2.index t = ![t.val / 16 / 10, t.val / 16 % 10] := (by decide +kernel : ∀ t : Fin grid0.N, _)

section

variable {F : FTy → Type} [FloatOps F] (m : (ℓ : Loc nD τ sig) → Buf (Elt F) ℓ)

theorem first (c : Dev nD) (t : Fin cfg0.N) (h : t.val % 16 = 0) : (outsAt0 m c t.val t.isLt).2 = k0_pay2 (iblk m c 0 t) (iblk m c 1 t) := by
  rw [outsAt0_A m c t h (by omega) (by omega)]
  unfold sout0_A_0 kernelRun0_A
  dsimp only
  rw [View.read_writes_full, View.readAt_full, View.readAt_full]
  exact congrArg₂ k0_pay2 ((hs0_0 t).read_unread _) ((hs0_1 t).read_unread _)

theorem next (c : Dev nD) (t : Fin cfg0.N) (h : ¬t.val % 16 = 0) : (outsAt0 m c t.val t.isLt).2
    = k0_pay3 (iblk m c 0 t) (iblk m c 1 t) (outsAt0 m c (t.val - 1) (Nat.lt_of_le_of_lt (Nat.sub_le _ _) t.isLt)).2 := by
  by_cases h2 : t.val % 16 = 15
  · rw [outsAt0_C m c t h (by omega) h2]
    unfold sout0_C_0 kernelRun0_C
    dsimp only
    unfold kernelRun0_C.sl.HS0_1
    rw [View.read_writes_full, View.readAt_full, View.readAt_full, View.readAt_full, (hs0_0 t).read_unread, (hs0_1 t).read_unread,
      (Memref.isWhole_whole _).read_unread]
  · rw [outsAt0_B m c t h (by omega) h2]
    unfold sout0_B_0 kernelRun0_B
    dsimp only
    rw [View.read_writes_full, View.readAt_full, View.readAt_full, View.readAt_full, (hs0_0 t).read_unread, (hs0_1 t).read_unread,
      (Memref.isWhole_whole _).read_unread]

theorem last (c : Dev nD) (t : Fin cfg0.N) (h : t.val % 16 = 15) : (outsAt0 m c t.val t.isLt).1 = (outsAt0 m c t.val t.isLt).2 := by
  rw [outsAt0_C m c t (by omega) (by omega) h]
  unfold out0_C_2 sout0_C_0 kernelRun0_C
  dsimp only
  unfold kernelRun0_C.sl.v12 kernelRun0_C.sl.HS0_1
  rw [View.read_writes_full, View.read_writes_full, View.readCov_full]

end

variable (m : (ℓ : Loc nD τ sig) → Buf (Elt Ideal) ℓ)

theorem term (x : Vec Ideal S512x1024 .bf16) (w : Vec Ideal S512x768 .bf16) : k0_pay1 x w = GradSum.cross x w :=
  GradSum.point dot_S512x1024_S512x768_S1024x768_0_0_1_1_n_n_wf x w

theorem flushed (c : Dev nD) (t : Fin cfg0.N) (h : t.val % 16 = 15) : (dats m 0 c).flushed 2 t
    = ((cfg0.win 2).blk t).view.read (Elt Ideal) (GradSum.cross (T := 8192) (R := 2048) (C := 7680) (V m c main_arg0) (V m c main_arg1)) := by
  rw [flushed2, last m c t h]
  funext y
  have k := GradSum.fold (T := 8192) (R := 2048) (C := 7680) (J := 16) (L := 512) (tr := 1024) (tc := 768) (nc := 10) (by norm_num)
    (V m c main_arg0) (V m c main_arg1) index_a index_b index_out
    (e := fun t => ((cfg0.win 0).blk t).view.emb) (g := fun t => ((cfg0.win 1).blk t).view.emb) (h := fun t => ((cfg0.win 2).blk t).view.emb)
    (fun _ _ => ⟨rfl, rfl⟩) (fun _ _ => ⟨rfl, rfl⟩) (fun _ _ => ⟨rfl, rfl⟩) (fun n h => (outsAt0 m c n h).2)
    (fun t h => (first m c t h).trans ((shapeCast_self _ _).trans (term _ _)))
    (fun t h y => congrFun ((next m c t h).trans ((shapeCast_self _ _).trans (congrArg (addf _) (term _ _)))) y) t h y
  exact k

theorem final (c : Dev nD) : (dats m 0 c).arrAt 2 cfg0.N
    = GradSum.cross (T := 8192) (R := 2048) (C := 7680) (m ((c.tc : Thread nD τ).loc main_arg0)) (m ((c.tc : Thread nD τ).loc main_arg1)) :=
  (dats m 0 c).arrAt_eq_of_cover 2 _ (fun t h => flushed m c t ((flush0_2 t).mp h)) fun i =>
    let ⟨t, y, h, e⟩ := GradSum.cover (J := 16) (R := 2048) (C := 7680) (tr := 1024) (tc := 768) (nc := 10) (nr := 2)
      (h := fun t => ((cfg0.win 2).blk t).view.emb)
      (by norm_num) (by norm_num) (by norm_num) N_0 (by norm_num) (by norm_num) index_out (fun _ _ => ⟨rfl, rfl⟩) i
    ⟨t, (flush0_2 t).mpr h, e ▸ View.emb_mem_set _ y⟩

end Cert.GradInIdeal.Run

namespace Cert.GradOutIdeal.Run

open Cert.GradOutIdeal Cert.GradOutIdeal.Gen Cert.GradOutIdeal.Value
open Idealize.ShloMosaic Idealize.ShloMosaic.TcCoe Idealize.SL.Sem

theorem index_a : ∀ t : Fin cfg0.N, win0_0.index t = ![t.val % 16, t.val / 16 / 2] := (by decide +kernel : ∀ t : Fin grid0.N, _)
theorem index_b : ∀ t : Fin cfg0.N, win0_1.index t = ![t.val % 16, t.val / 16 % 2] := (by decide +kernel : ∀ t : Fin grid0.N, _)
theorem index_out : ∀ t : Fin cfg0.N, win0_2.index t = ![t.val / 16 / 2, t.val / 16 % 2] := (by decide +kernel : ∀ t : Fin grid0.N, _)

section

variable {F : FTy → Type} [FloatOps F] (m : (ℓ : Loc nD τ sig) → Buf (Elt F) ℓ)

theorem first (c : Dev nD) (t : Fin cfg0.N) (h : t.val % 16 = 0) : (outsAt0 m c t.val t.isLt).2 = k0_pay2 (iblk m c 0 t) (iblk m c 1 t) := by
  rw [outsAt0_A m c t h (by omega) (by omega)]
  unfold sout0_A_0 kernelRun0_A
  dsimp only
  rw [View.read_writes_full, View.readAt_full, View.readAt_full]
  exact congrArg₂ k0_pay2 ((hs0_0 t).read_unread _) ((hs0_1 t).read_unread _)

theorem next (c : Dev nD) (t : Fin cfg0.N) (h : ¬t.val % 16 = 0) : (outsAt0 m c t.val t.isLt).2
    = k0_pay3 (iblk m c 0 t) (iblk m c 1 t) (outsAt0 m c (t.val - 1) (Nat.lt_of_le_of_lt (Nat.sub_le _ _) t.isLt)).2 := by
  by_cases h2 : t.val % 16 = 15
  · rw [outsAt0_C m c t h (by omega) h2]
    unfold sout0_C_0 kernelRun0_C
    dsimp only
    unfold kernelRun0_C.sl.HS0_1
    rw [View.read_writes_full, View.readAt_full, View.readAt_full, View.readAt_full, (hs0_0 t).read_unread, (hs0_1 t).read_unread,
      (Memref.isWhole_whole _).read_unread]
  · rw [outsAt0_B m c t h (by omega) h2]
    unfold sout0_B_0 kernelRun0_B
    dsimp only
    rw [View.read_writes_full, View.readAt_full, View.readAt_full, View.readAt_full, (hs0_0 t).read_unread, (hs0_1 t).read_unread,
      (Memref.isWhole_whole _).read_unread]

theorem last (c : Dev nD) (t : Fin cfg0.N) (h : t.val % 16 = 15) : (outsAt0 m c t.val t.isLt).1 = (outsAt0 m c t.val t.isLt).2 := by
  rw [outsAt0_C m c t (by omega) (by omega) h]
  unfold out0_C_2 sout0_C_0 kernelRun0_C
  dsimp only
  unfold kernelRun0_C.sl.v12 kernelRun0_C.sl.HS0_1
  rw [View.read_writes_full, View.read_writes_full, View.readCov_full]

end

variable (m : (ℓ : Loc nD τ sig) → Buf (Elt Ideal) ℓ)

theorem term (x : Vec Ideal S512x1024 .bf16) (w : Vec Ideal S512x1024 .bf16) : k0_pay1 x w = GradSum.cross x w :=
  GradSum.point dot_S512x1024_S512x1024_S1024x1024_0_0_1_1_n_n_wf x w

theorem flushed (c : Dev nD) (t : Fin cfg0.N) (h : t.val % 16 = 15) : (dats m 0 c).flushed 2 t
    = ((cfg0.win 2).blk t).view.read (Elt Ideal) (GradSum.cross (T := 8192) (R := 2048) (C := 2048) (V m c main_arg0) (V m c main_arg1)) := by
  rw [flushed2, last m c t h]
  funext y
  have k := GradSum.fold (T := 8192) (R := 2048) (C := 2048) (J := 16) (L := 512) (tr := 1024) (tc := 1024) (nc := 2) (by norm_num)
    (V m c main_arg0) (V m c main_arg1) index_a index_b index_out
    (e := fun t => ((cfg0.win 0).blk t).view.emb) (g := fun t => ((cfg0.win 1).blk t).view.emb) (h := fun t => ((cfg0.win 2).blk t).view.emb)
    (fun _ _ => ⟨rfl, rfl⟩) (fun _ _ => ⟨rfl, rfl⟩) (fun _ _ => ⟨rfl, rfl⟩) (fun n h => (outsAt0 m c n h).2)
    (fun t h => (first m c t h).trans ((shapeCast_self _ _).trans (term _ _)))
    (fun t h y => congrFun ((next m c t h).trans ((shapeCast_self _ _).trans (congrArg (addf _) (term _ _)))) y) t h y
  exact k

theorem final (c : Dev nD) : (dats m 0 c).arrAt 2 cfg0.N
    = GradSum.cross (T := 8192) (R := 2048) (C := 2048) (m ((c.tc : Thread nD τ).loc main_arg0)) (m ((c.tc : Thread nD τ).loc main_arg1)) :=
  (dats m 0 c).arrAt_eq_of_cover 2 _ (fun t h => flushed m c t ((flush0_2 t).mp h)) fun i =>
    let ⟨t, y, h, e⟩ := GradSum.cover (J := 16) (R := 2048) (C := 2048) (tr := 1024) (tc := 1024) (nc := 2) (nr := 2)
      (h := fun t => ((cfg0.win 2).blk t).view.emb)
      (by norm_num) (by norm_num) (by norm_num) N_0 (by norm_num) (by norm_num) index_out (fun _ _ => ⟨rfl, rfl⟩) i
    ⟨t, (flush0_2 t).mpr h, e ▸ View.emb_mem_set _ y⟩

end Cert.GradOutIdeal.Run

namespace Cert.GradKvIdeal.Run

open Cert.GradKvIdeal Cert.GradKvIdeal.Gen Cert.GradKvIdeal.Value
open Idealize.ShloMosaic Idealize.ShloMosaic.TcCoe Idealize.SL.Sem

theorem index_a : ∀ t : Fin cfg0.N, win0_0.index t = ![t.val % 1, t.val / 1 / 1] := (by decide +kernel : ∀ t : Fin grid0.N, _)
theorem index_b : ∀ t : Fin cfg0.N, win0_1.index t = ![t.val % 1, t.val / 1 % 1] := (by decide +kernel : ∀ t : Fin grid0.N, _)
theorem index_out : ∀ t : Fin cfg0.N, win0_2.index t = ![t.val / 1 / 1, t.val / 1 % 1] := (by decide +kernel : ∀ t : Fin grid0.N, _)

/-- Every point gives back its own product. -/
theorem only {F : FTy → Type} [FloatOps F] (m : (ℓ : Loc nD τ sig) → Buf (Elt F) ℓ) (c : Dev nD) (t : Fin cfg0.N) :
    outsAt0 m c t = k0_pay2 (iblk m c 0 t) (iblk m c 1 t) := by
  unfold outsAt0 out0_A_2 kernelRun0_A
  dsimp only
  unfold kernelRun0_A.sl.v13 kernelRun0_A.sl.HS0_1
  rw [View.read_writes_full, View.readCov_full, View.readAt_full, View.readAt_full, (hs0_0 t).read_unread, (hs0_1 t).read_unread]

variable (m : (ℓ : Loc nD τ sig) → Buf (Elt Ideal) ℓ)

theorem term (x : Vec Ideal S256x1024 .bf16) (w : Vec Ideal S256x1024 .f32) : k0_pay1 x w = GradSum.cross x w :=
  GradSum.point dot_S256x1024_S256x1024_S1024x1024_0_0_1_1_n_n_wf x (truncf .bf16 w bitsLt_bf16_f32)

theorem flushed (c : Dev nD) (t : Fin cfg0.N) : (dats m 0 c).flushed 2 t
    = ((cfg0.win 2).blk t).view.read (Elt Ideal) (GradSum.cross (T := 256) (R := 2048) (C := 1024) (V m c main_arg0) (V m c main_arg1)) := by
  rw [flushed2]
  funext y
  have k := GradSum.fold (T := 256) (R := 2048) (C := 1024) (J := 1) (L := 256) (tr := 1024) (tc := 1024) (nc := 1) (by norm_num)
    (V m c main_arg0) (V m c main_arg1) index_a index_b index_out
    (e := fun t => ((cfg0.win 0).blk t).view.emb) (g := fun t => ((cfg0.win 1).blk t).view.emb) (h := fun t => ((cfg0.win 2).blk t).view.emb)
    (fun _ _ => ⟨rfl, rfl⟩) (fun _ _ => ⟨rfl, rfl⟩) (fun _ _ => ⟨rfl, rfl⟩) (fun n h => outsAt0 m c ⟨n, h⟩)
    (fun t _ => (only m c t).trans ((shapeCast_self _ _).trans (term _ _)))
    (fun t h => absurd (Nat.mod_one _) h) t (Nat.mod_one _) y
  exact k

theorem final (c : Dev nD) : (dats m 0 c).arrAt 2 cfg0.N
    = GradSum.cross (T := 256) (R := 2048) (C := 1024) (m ((c.tc : Thread nD τ).loc main_arg0)) (m ((c.tc : Thread nD τ).loc main_arg1)) :=
  (dats m 0 c).arrAt_eq_of_cover 2 _ (fun t _ => flushed m c t) fun i =>
    let ⟨t, y, _, e⟩ := GradSum.cover (J := 1) (R := 2048) (C := 1024) (tr := 1024) (tc := 1024) (nc := 1) (nr := 2)
      (h := fun t => ((cfg0.win 2).blk t).view.emb)
      (by norm_num) (by norm_num) (by norm_num) N_0 (by norm_num) (by norm_num) index_out (fun _ _ => ⟨rfl, rfl⟩) i
    ⟨t, flush0_2 t, e ▸ View.emb_mem_set _ y⟩

end Cert.GradKvIdeal.Run

namespace Cert.Proof

open Idealize.ShloMosaic Idealize.SL.Sem

theorem quiescent_GradIn : Cert.quiescent_GradIn := fun m g _ => GradIn.Gen.frame m g
theorem quiescent_GradInIdeal : Cert.quiescent_GradInIdeal := fun m g _ => GradInIdeal.Gen.frame m g
theorem quiescent_GradInRef : Cert.quiescent_GradInRef := fun m g _ =>
  HalfSum.frame (by decide) (GradInRefIdeal.Value.run (F := Bits) m g)
theorem quiescent_GradInRefIdeal : Cert.quiescent_GradInRefIdeal := fun m g _ =>
  HalfSum.frame (by decide) (GradInRefIdeal.Value.run (F := Ideal) m g)
theorem algebraic_GradIn : Cert.algebraic_GradInIdeal_GradInRefIdeal := fun m g m' g' _ e =>
  ⟨_, (θ_run _ _ _).mono (fun _ h c => ⟨(h c).1.trans (GradInIdeal.Run.final m c), (h c).2⟩) (GradInIdeal.Value.run_blocks m g),
    (θ_run _ _ _).mono (fun _ h c => ⟨(h c).1.trans (GradSum.whole GradInRefIdeal.Facts₀.dot_S8192x2048_S8192x7680_S2048x7680_0_0_1_1_n_n_wf (e c).1 (e c).2), (h c).2⟩) (GradInRefIdeal.Value.run m' g')⟩

theorem quiescent_GradOut : Cert.quiescent_GradOut := fun m g _ => GradOut.Gen.frame m g
theorem quiescent_GradOutIdeal : Cert.quiescent_GradOutIdeal := fun m g _ => GradOutIdeal.Gen.frame m g
theorem quiescent_GradOutRef : Cert.quiescent_GradOutRef := fun m g _ =>
  HalfSum.frame (by decide) (GradOutRefIdeal.Value.run (F := Bits) m g)
theorem quiescent_GradOutRefIdeal : Cert.quiescent_GradOutRefIdeal := fun m g _ =>
  HalfSum.frame (by decide) (GradOutRefIdeal.Value.run (F := Ideal) m g)
theorem algebraic_GradOut : Cert.algebraic_GradOutIdeal_GradOutRefIdeal := fun m g m' g' _ e =>
  ⟨_, (θ_run _ _ _).mono (fun _ h c => ⟨(h c).1.trans (GradOutIdeal.Run.final m c), (h c).2⟩) (GradOutIdeal.Value.run_blocks m g),
    (θ_run _ _ _).mono (fun _ h c => ⟨(h c).1.trans (GradSum.whole GradOutRefIdeal.Facts₀.dot_S8192x2048_S8192x2048_S2048x2048_0_0_1_1_n_n_wf (e c).1 (e c).2), (h c).2⟩) (GradOutRefIdeal.Value.run m' g')⟩

theorem quiescent_GradKv : Cert.quiescent_GradKv := fun m g _ => GradKv.Gen.frame m g
theorem quiescent_GradKvIdeal : Cert.quiescent_GradKvIdeal := fun m g _ => GradKvIdeal.Gen.frame m g
theorem quiescent_GradKvRef : Cert.quiescent_GradKvRef := fun m g _ =>
  HalfSum.frame (by decide) (GradKvRefIdeal.Value.run (F := Bits) m g)
theorem quiescent_GradKvRefIdeal : Cert.quiescent_GradKvRefIdeal := fun m g _ =>
  HalfSum.frame (by decide) (GradKvRefIdeal.Value.run (F := Ideal) m g)
theorem algebraic_GradKv : Cert.algebraic_GradKvIdeal_GradKvRefIdeal := fun m g m' g' _ e =>
  ⟨_, (θ_run _ _ _).mono (fun _ h c => ⟨(h c).1.trans (GradKvIdeal.Run.final m c), (h c).2⟩) (GradKvIdeal.Value.run_blocks m g),
    (θ_run _ _ _).mono (fun _ h c => ⟨(h c).1.trans (GradSum.whole GradKvRefIdeal.Facts₀.dot_S256x2048_S256x1024_S2048x1024_0_0_1_1_n_n_wf (e c).1 (e c).2), (h c).2⟩) (GradKvRefIdeal.Value.run m' g')⟩

end Cert.Proof

end
-- ==== Proof.Swapped.lean ====
/-
# Products over other axes

A product over the rows of a matrix, or over the rows of both, is a product over the first axes of the matrices turned round: so a point's product, the
reference's, and the places of a block's entries.
-/
module

public import proofs.«01_k».proof.Proof.GradSum

@[expose] public section

set_option Elab.async false

noncomputable section

namespace Cert.GradSum

open Idealize.ShloMosaic Idealize.ShloMosaic.ValueIdx

variable {T R C : Nat}

/-- An index turned round. -/
def swap (i : At R C) : At C R := ix2 (i 1) (i 0)

theorem swap_swap (i : At R C) : swap (swap i) = i := by
  funext c
  match c with
  | ⟨0, _⟩ => rfl
  | ⟨1, _⟩ => rfl

/-- A matrix turned round. -/
def turn (x : At R C → EReal) : At C R → EReal := fun i => x (swap i)

/-- A block of a matrix, turned round, is the block of the matrix turned round. -/
theorem turn_block {L tr : Nat} (x : At R T → EReal) (e : At tr L → At R T) : turn (fun y => x (e y)) = fun y => turn x (swap (e (swap y))) :=
  funext fun _ => congrArg x (swap_swap _).symm

/-- The dimension numbers of a product over both operands' last axis. -/
abbrev dims_nt (h : DotDims.WF ⟨2, ![R, T]⟩ ⟨2, ![C, T]⟩ ⟨2, ![R, C]⟩ [1] [1] [0] [0] [] []) : DotDims ⟨2, ![R, T]⟩ ⟨2, ![C, T]⟩ ⟨2, ![R, C]⟩ where
  lhsContracting := [1]
  rhsContracting := [1]
  lhsNonContracting := [0]
  rhsNonContracting := [0]
  lhsBatch := []
  rhsBatch := []
  wf := h

theorem contraction_nt (h : DotDims.WF ⟨2, ![R, T]⟩ ⟨2, ![C, T]⟩ ⟨2, ![R, C]⟩ [1] [1] [0] [0] [] []) (x : At R T → EReal) (w : At C T → EReal) (j : At R C) :
    ∑ k : (dims_nt h).contr.Idx, x ((dims_nt h).lhsIdx j k) * w ((dims_nt h).rhsIdx j k) = cross (turn x) (turn w) j := by
  unfold cross
  rw [← Equiv.sum_comp (contrEquiv1 (dims_nt h) T rfl rfl).symm]
  refine Finset.sum_congr rfl fun k _ => ?_
  have hk := contrEquiv1_symm_val (dims_nt h) T rfl rfl k
  have el : (dims_nt h).lhsIdx j ((contrEquiv1 (dims_nt h) T rfl rfl).symm k) = swap (ix2 k (j 0)) := by
    funext a; apply Fin.ext
    match a with
    | ⟨0, _⟩ => rfl
    | ⟨1, _⟩ => exact hk
  have er : (dims_nt h).rhsIdx j ((contrEquiv1 (dims_nt h) T rfl rfl).symm k) = swap (ix2 k (j 1)) := by
    funext a; apply Fin.ext
    match a with
    | ⟨0, _⟩ => rfl
    | ⟨1, _⟩ => exact hk
  exact congrArg₂ (fun u v : EReal => u * v) (congrArg x el) (congrArg w er)

/-- The dimension numbers of a plain product. -/
abbrev dims_nn (h : DotDims.WF ⟨2, ![R, T]⟩ ⟨2, ![T, C]⟩ ⟨2, ![R, C]⟩ [1] [0] [0] [1] [] []) : DotDims ⟨2, ![R, T]⟩ ⟨2, ![T, C]⟩ ⟨2, ![R, C]⟩ where
  lhsContracting := [1]
  rhsContracting := [0]
  lhsNonContracting := [0]
  rhsNonContracting := [1]
  lhsBatch := []
  rhsBatch := []
  wf := h

theorem contraction_nn (h : DotDims.WF ⟨2, ![R, T]⟩ ⟨2, ![T, C]⟩ ⟨2, ![R, C]⟩ [1] [0] [0] [1] [] []) (x : At R T → EReal) (w : At T C → EReal) (j : At R C) :
    ∑ k : (dims_nn h).contr.Idx, x ((dims_nn h).lhsIdx j k) * w ((dims_nn h).rhsIdx j k) = cross (turn x) w j := by
  unfold cross
  rw [← Equiv.sum_comp (contrEquiv1 (dims_nn h) T rfl rfl).symm]
  refine Finset.sum_congr rfl fun k _ => ?_
  have hk := contrEquiv1_symm_val (dims_nn h) T rfl rfl k
  have el : (dims_nn h).lhsIdx j ((contrEquiv1 (dims_nn h) T rfl rfl).symm k) = swap (ix2 k (j 0)) := by
    funext a; apply Fin.ext
    match a with
    | ⟨0, _⟩ => rfl
    | ⟨1, _⟩ => exact hk
  have er : (dims_nn h).rhsIdx j ((contrEquiv1 (dims_nn h) T rfl rfl).symm k) = ix2 k (j 1) := by
    funext a; apply Fin.ext
    match a with
    | ⟨0, _⟩ => exact hk
    | ⟨1, _⟩ => rfl
  exact congrArg₂ (fun u v : EReal => u * v) (congrArg x el) (congrArg w er)

variable {φ ψ : FTy}

theorem point_nt (h : DotDims.WF ⟨2, ![R, T]⟩ ⟨2, ![C, T]⟩ ⟨2, ![R, C]⟩ [1] [1] [0] [0] [] []) (x : FVec Ideal ⟨2, ![R, T]⟩ φ) (w : FVec Ideal ⟨2, ![C, T]⟩ ψ) :
    matmul (dims_nt h) none x w (constant ⟨2, ![R, C]⟩ .f32 0x00000000#32) = cross (turn x) (turn w) :=
  funext fun j => (Ideal.matmul_constant_zero_apply (dims_nt h) none x w j).trans (contraction_nt h x w j)

theorem point_nn (h : DotDims.WF ⟨2, ![R, T]⟩ ⟨2, ![T, C]⟩ ⟨2, ![R, C]⟩ [1] [0] [0] [1] [] []) (x : FVec Ideal ⟨2, ![R, T]⟩ φ) (w : FVec Ideal ⟨2, ![T, C]⟩ ψ) :
    matmul (dims_nn h) none x w (constant ⟨2, ![R, C]⟩ .f32 0x00000000#32) = cross (turn x) w :=
  funext fun j => (Ideal.matmul_constant_zero_apply (dims_nn h) none x w j).trans (contraction_nn h x w j)

theorem whole_nt (h : DotDims.WF ⟨2, ![R, T]⟩ ⟨2, ![C, T]⟩ ⟨2, ![R, C]⟩ [1] [1] [0] [0] [] []) (x : FVec Ideal ⟨2, ![R, T]⟩ φ) (w : FVec Ideal ⟨2, ![C, T]⟩ ψ) :
    Host.dotGeneral (dims_nt h) none x w = cross (turn x) (turn w) :=
  funext fun j => (Ideal.dotGeneral_apply (dims_nt h) none _ x w j).trans (contraction_nt h x w j)

theorem whole_nn (h : DotDims.WF ⟨2, ![R, T]⟩ ⟨2, ![T, C]⟩ ⟨2, ![R, C]⟩ [1] [0] [0] [1] [] []) (x : FVec Ideal ⟨2, ![R, T]⟩ φ) (w : FVec Ideal ⟨2, ![T, C]⟩ ψ) :
    Host.dotGeneral (dims_nn h) none x w = cross (turn x) w :=
  funext fun j => (Ideal.dotGeneral_apply (dims_nn h) none _ x w j).trans (contraction_nn h x w j)

/-- When each point's product runs over the whole axis, each is its block of the product of the whole matrices. -/
theorem alone {N tr tc nc : Nat} (a : At T R → EReal) (b : At T C → EReal) {p q r : Fin N → Fin 2 → Nat}
    (hp : ∀ t, p t = ![t.val % 1, t.val / 1 / nc]) (hq : ∀ t, q t = ![t.val % 1, t.val / 1 % nc]) (hr : ∀ t, r t = ![t.val / 1 / nc, t.val / 1 % nc])
    {e : Fin N → At T tr → At T R} {g : Fin N → At T tc → At T C} {h : Fin N → At tr tc → At R C}
    (he : ∀ t y, (e t y 0).val = p t 0 * T + 1 * (y 0).val ∧ (e t y 1).val = p t 1 * tr + 1 * (y 1).val)
    (hg : ∀ t y, (g t y 0).val = q t 0 * T + 1 * (y 0).val ∧ (g t y 1).val = q t 1 * tc + 1 * (y 1).val)
    (hh : ∀ t y, (h t y 0).val = r t 0 * tr + 1 * (y 0).val ∧ (h t y 1).val = r t 1 * tc + 1 * (y 1).val)
    (f : Fin N → At tr tc → EReal) (hf : ∀ t, f t = cross (fun y => a (e t y)) (fun y => b (g t y))) (t : Fin N) :
    f t = fun y => cross a b (h t y) :=
  funext fun y => fold (J := 1) (Nat.one_mul T).symm a b hp hq hr he hg hh (fun n h => f ⟨n, h⟩) (fun t _ => hf t)
    (fun _ h => absurd (Nat.mod_one _) h) t (Nat.mod_one _) y

end Cert.GradSum

end
-- ==== Proof.Products.lean ====
/-
# Products with a layer's weights, and the gradient of a layer's input

For each call: where its windows lie at each point and what a point gives back or carries to the next, over any values; then, in the extended reals,
that what is given back is the product; then its claims.
-/
module

public import proofs.«01_k».proof.Proof.Swapped
public import proofs.«01_k».proof.Proof.HalfSums
public import Idealize.ShloMosaic.Lib.VecWindow
public import Idealize.ShloMosaic.Lib.Pipeline.Value
public import proofs.«01_k».proof.Proof.Gen.InProj.Frame
public import proofs.«01_k».proof.Proof.Gen.InProjIdeal.Value
public import proofs.«01_k».proof.Proof.Gen.InProjRef
public import proofs.«01_k».proof.Proof.Gen.InProjRefIdeal.Run
public import proofs.«01_k».proof.Proof.Gen.MemKv.Frame
public import proofs.«01_k».proof.Proof.Gen.MemKvIdeal.Value
public import proofs.«01_k».proof.Proof.Gen.MemKvRef
public import proofs.«01_k».proof.Proof.Gen.MemKvRefIdeal.Run
public import proofs.«01_k».proof.Proof.Gen.GradCat.Frame
public import proofs.«01_k».proof.Proof.Gen.GradCatIdeal.Value
public import proofs.«01_k».proof.Proof.Gen.GradCatRef
public import proofs.«01_k».proof.Proof.Gen.GradCatRefIdeal.Run
public import proofs.«01_k».proof.Proof.Gen.GradX.Frame
public import proofs.«01_k».proof.Proof.Gen.GradXIdeal.Value
public import proofs.«01_k».proof.Proof.Gen.GradXRef
public import proofs.«01_k».proof.Proof.Gen.GradXRefIdeal.Run
public import proofs.«01_k».proof.Defs

@[expose] public section

set_option Elab.async false

noncomputable section

namespace Cert.InProjIdeal.Run

open Cert.InProjIdeal Cert.InProjIdeal.Gen Cert.InProjIdeal.Value
open Idealize.ShloMosaic Idealize.ShloMosaic.TcCoe Idealize.SL.Sem

theorem index_a : ∀ t : Fin cfg0.N, ![win0_0.index t 1, win0_0.index t 0] = ![t.val % 1, t.val / 1 / 10] := (by decide +kernel : ∀ t : Fin grid0.N, _)
theorem index_b : ∀ t : Fin cfg0.N, win0_1.index t = ![t.val % 1, t.val / 1 % 10] := (by decide +kernel : ∀ t : Fin grid0.N, _)
theorem index_out : ∀ t : Fin cfg0.N, win0_2.index t = ![t.val / 1 / 10, t.val / 1 % 10] := (by decide +kernel : ∀ t : Fin grid0.N, _)

/-- Every point gives back its own product. -/
theorem only {F : FTy → Type} [FloatOps F] (m : (ℓ : Loc nD τ sig) → Buf (Elt F) ℓ) (c : Dev nD) (t : Fin cfg0.N) :
    outsAt0 m c t = k0_pay4 (k0_pay2 (iblk m c 0 t) (iblk m c 1 t)) := by
  unfold outsAt0 out0_A_2 kernelRun0_A
  dsimp only
  unfold kernelRun0_A.sl.v12 kernelRun0_A.sl.HS0_1
  rw [View.read_writes_full, View.readCov_full, View.readAt_full, View.readAt_full, (hs0_0 t).read_unread, (hs0_1 t).read_unread]

variable (m : (ℓ : Loc nD τ sig) → Buf (Elt Ideal) ℓ)

theorem term (x : Vec Ideal S1024x2048 .bf16) (w : Vec Ideal S2048x768 .bf16) : k0_pay1 x w = GradSum.cross (GradSum.turn x) (w) :=
  GradSum.point_nn dot_S1024x2048_S2048x768_S1024x768_1_0_0_1_n_n_wf x w

theorem flushed (c : Dev nD) (t : Fin cfg0.N) : (dats m 0 c).flushed 2 t
    = ((cfg0.win 2).blk t).view.read (Elt Ideal) (GradSum.cross (T := 2048) (R := 8192) (C := 7680) (GradSum.turn (V m c main_arg0)) (V m c main_arg1)) := by
  rw [flushed2]
  have k := GradSum.alone (T := 2048) (R := 8192) (C := 7680) (tr := 1024) (tc := 768) (GradSum.turn (V m c main_arg0)) (V m c main_arg1) index_a index_b index_out
    (e := fun t y => GradSum.swap (((cfg0.win 0).blk t).view.emb (GradSum.swap y))) (g := fun t => ((cfg0.win 1).blk t).view.emb)
    (h := fun t => ((cfg0.win 2).blk t).view.emb) (fun _ _ => ⟨rfl, rfl⟩) (fun _ _ => ⟨rfl, rfl⟩) (fun _ _ => ⟨rfl, rfl⟩) (outsAt0 m c)
    (fun t => (only m c t).trans ((shapeCast_self _ _).trans ((term _ _).trans
      (congrArg₂ GradSum.cross (GradSum.turn_block (V m c main_arg0) _) rfl)))) t
  exact k

theorem final (c : Dev nD) : (dats m 0 c).arrAt 2 cfg0.N
    = GradSum.cross (T := 2048) (R := 8192) (C := 7680) (GradSum.turn (m ((c.tc : Thread nD τ).loc main_arg0))) (m ((c.tc : Thread nD τ).loc main_arg1)) :=
  (dats m 0 c).arrAt_eq_of_cover 2 _ (fun t _ => flushed m c t) fun i =>
    let ⟨t, y, _, e⟩ := GradSum.cover (J := 1) (R := 8192) (C := 7680) (tr := 1024) (tc := 768) (nc := 10) (nr := 8)
      (h := fun t => ((cfg0.win 2).blk t).view.emb)
      (by norm_num) (by norm_num) (by norm_num) N_0 (by norm_num) (by norm_num) index_out (fun _ _ => ⟨rfl, rfl⟩) i
    ⟨t, flush0_2 t, e ▸ View.emb_mem_set _ y⟩

end Cert.InProjIdeal.Run

namespace Cert.MemKvIdeal.Run

open Cert.MemKvIdeal Cert.MemKvIdeal.Gen Cert.MemKvIdeal.Value
open Idealize.ShloMosaic Idealize.ShloMosaic.TcCoe Idealize.SL.Sem

theorem index_a : ∀ t : Fin cfg0.N, ![win0_0.index t 1, win0_0.index t 0] = ![t.val % 1, t.val / 1 / 1] := (by decide +kernel : ∀ t : Fin grid0.N, _)
theorem index_b : ∀ t : Fin cfg0.N, win0_1.index t = ![t.val % 1, t.val / 1 % 1] := (by decide +kernel : ∀ t : Fin grid0.N, _)
theorem index_out : ∀ t : Fin cfg0.N, win0_2.index t = ![t.val / 1 / 1, t.val / 1 % 1] := (by decide +kernel : ∀ t : Fin grid0.N, _)

/-- Every point gives back its own product. -/
theorem only {F : FTy → Type} [FloatOps F] (m : (ℓ : Loc nD τ sig) → Buf (Elt F) ℓ) (c : Dev nD) (t : Fin cfg0.N) :
    outsAt0 m c t = k0_pay4 (k0_pay2 (iblk m c 0 t) (iblk m c 1 t)) := by
  unfold outsAt0 out0_A_2 kernelRun0_A
  dsimp only
  unfold kernelRun0_A.sl.v12 kernelRun0_A.sl.HS0_1
  rw [View.read_writes_full, View.readCov_full, View.readAt_full, View.readAt_full, (hs0_0 t).read_unread, (hs0_1 t).read_unread]

variable (m : (ℓ : Loc nD τ sig) → Buf (Elt Ideal) ℓ)

theorem term (x : Vec Ideal S256x2048 .bf16) (w : Vec Ideal S2048x1024 .bf16) : k0_pay1 x w = GradSum.cross (GradSum.turn x) (w) :=
  GradSum.point_nn dot_S256x2048_S2048x1024_S256x1024_1_0_0_1_n_n_wf x w

theorem flushed (c : Dev nD) (t : Fin cfg0.N) : (dats m 0 c).flushed 2 t
    = ((cfg0.win 2).blk t).view.read (Elt Ideal) (GradSum.cross (T := 2048) (R := 256) (C := 1024) (GradSum.turn (V m c main_arg0)) (V m c main_arg1)) := by
  rw [flushed2]
  have k := GradSum.alone (T := 2048) (R := 256) (C := 1024) (tr := 256) (tc := 1024) (GradSum.turn (V m c main_arg0)) (V m c main_arg1) index_a index_b index_out
    (e := fun t y => GradSum.swap (((cfg0.win 0).blk t).view.emb (GradSum.swap y))) (g := fun t => ((cfg0.win 1).blk t).view.emb)
    (h := fun t => ((cfg0.win 2).blk t).view.emb) (fun _ _ => ⟨rfl, rfl⟩) (fun _ _ => ⟨rfl, rfl⟩) (fun _ _ => ⟨rfl, rfl⟩) (outsAt0 m c)
    (fun t => (only m c t).trans ((shapeCast_self _ _).trans ((term _ _).trans
      (congrArg₂ GradSum.cross (GradSum.turn_block (V m c main_arg0) _) rfl)))) t
  exact k

theorem final (c : Dev nD) : (dats m 0 c).arrAt 2 cfg0.N
    = GradSum.cross (T := 2048) (R := 256) (C := 1024) (GradSum.turn (m ((c.tc : Thread nD τ).loc main_arg0))) (m ((c.tc : Thread nD τ).loc main_arg1)) :=
  (dats m 0 c).arrAt_eq_of_cover 2 _ (fun t _ => flushed m c t) fun i =>
    let ⟨t, y, _, e⟩ := GradSum.cover (J := 1) (R := 256) (C := 1024) (tr := 256) (tc := 1024) (nc := 1) (nr := 1)
      (h := fun t => ((cfg0.win 2).blk t).view.emb)
      (by norm_num) (by norm_num) (by norm_num) N_0 (by norm_num) (by norm_num) index_out (fun _ _ => ⟨rfl, rfl⟩) i
    ⟨t, flush0_2 t, e ▸ View.emb_mem_set _ y⟩

end Cert.MemKvIdeal.Run

namespace Cert.GradCatIdeal.Run

open Cert.GradCatIdeal Cert.GradCatIdeal.Gen Cert.GradCatIdeal.Value
open Idealize.ShloMosaic Idealize.ShloMosaic.TcCoe Idealize.SL.Sem

theorem index_a : ∀ t : Fin cfg0.N, ![win0_0.index t 1, win0_0.index t 0] = ![t.val % 1, t.val / 1 / 2] := (by decide +kernel : ∀ t : Fin grid0.N, _)
theorem index_b : ∀ t : Fin cfg0.N, ![win0_1.index t 1, win0_1.index t 0] = ![t.val % 1, t.val / 1 % 2] := (by decide +kernel : ∀ t : Fin grid0.N, _)
theorem index_out : ∀ t : Fin cfg0.N, win0_2.index t = ![t.val / 1 / 2, t.val / 1 % 2] := (by decide +kernel : ∀ t : Fin grid0.N, _)

/-- Every point gives back its own product. -/
theorem only {F : FTy → Type} [FloatOps F] (m : (ℓ : Loc nD τ sig) → Buf (Elt F) ℓ) (c : Dev nD) (t : Fin cfg0.N) :
    outsAt0 m c t = k0_pay4 (k0_pay2 (iblk m c 0 t) (iblk m c 1 t)) := by
  unfold outsAt0 out0_A_2 kernelRun0_A
  dsimp only
  unfold kernelRun0_A.sl.v12 kernelRun0_A.sl.HS0_1
  rw [View.read_writes_full, View.readCov_full, View.readAt_full, View.readAt_full, (hs0_0 t).read_unread, (hs0_1 t).read_unread]

variable (m : (ℓ : Loc nD τ sig) → Buf (Elt Ideal) ℓ)

theorem term (x : Vec Ideal S1024x2048 .bf16) (w : Vec Ideal S1024x2048 .bf16) : k0_pay1 x w = GradSum.cross (GradSum.turn x) (GradSum.turn w) :=
  GradSum.point_nt dot_S1024x2048_S1024x2048_S1024x1024_1_1_0_0_n_n_wf x w

theorem flushed (c : Dev nD) (t : Fin cfg0.N) : (dats m 0 c).flushed 2 t
    = ((cfg0.win 2).blk t).view.read (Elt Ideal) (GradSum.cross (T := 2048) (R := 8192) (C := 2048) (GradSum.turn (V m c main_arg0)) (GradSum.turn (V m c main_arg1))) := by
  rw [flushed2]
  have k := GradSum.alone (T := 2048) (R := 8192) (C := 2048) (tr := 1024) (tc := 1024) (GradSum.turn (V m c main_arg0)) (GradSum.turn (V m c main_arg1)) index_a index_b index_out
    (e := fun t y => GradSum.swap (((cfg0.win 0).blk t).view.emb (GradSum.swap y))) (g := fun t y => GradSum.swap (((cfg0.win 1).blk t).view.emb (GradSum.swap y)))
    (h := fun t => ((cfg0.win 2).blk t).view.emb) (fun _ _ => ⟨rfl, rfl⟩) (fun _ _ => ⟨rfl, rfl⟩) (fun _ _ => ⟨rfl, rfl⟩) (outsAt0 m c)
    (fun t => (only m c t).trans ((shapeCast_self _ _).trans ((term _ _).trans
      (congrArg₂ GradSum.cross (GradSum.turn_block (V m c main_arg0) _) (GradSum.turn_block (V m c main_arg1) _))))) t
  exact k

theorem final (c : Dev nD) : (dats m 0 c).arrAt 2 cfg0.N
    = GradSum.cross (T := 2048) (R := 8192) (C := 2048) (GradSum.turn (m ((c.tc : Thread nD τ).loc main_arg0))) (GradSum.turn (m ((c.tc : Thread nD τ).loc main_arg1))) :=
  (dats m 0 c).arrAt_eq_of_cover 2 _ (fun t _ => flushed m c t) fun i =>
    let ⟨t, y, _, e⟩ := GradSum.cover (J := 1) (R := 8192) (C := 2048) (tr := 1024) (tc := 1024) (nc := 2) (nr := 8)
      (h := fun t => ((cfg0.win 2).blk t).view.emb)
      (by norm_num) (by norm_num) (by norm_num) N_0 (by norm_num) (by norm_num) index_out (fun _ _ => ⟨rfl, rfl⟩) i
    ⟨t, flush0_2 t, e ▸ View.emb_mem_set _ y⟩

end Cert.GradCatIdeal.Run

namespace Cert.GradXIdeal.Run

open Cert.GradXIdeal Cert.GradXIdeal.Gen Cert.GradXIdeal.Value
open Idealize.ShloMosaic Idealize.ShloMosaic.TcCoe Idealize.SL.Sem

theorem index_a : ∀ t : Fin cfg0.N, ![win0_0.index t 1, win0_0.index t 0] = ![t.val % 10, t.val / 10 / 2] := (by decide +kernel : ∀ t : Fin grid0.N, _)
theorem index_b : ∀ t : Fin cfg0.N, ![win0_1.index t 1, win0_1.index t 0] = ![t.val % 10, t.val / 10 % 2] := (by decide +kernel : ∀ t : Fin grid0.N, _)
theorem index_out : ∀ t : Fin cfg0.N, win0_3.index t = ![t.val / 10 / 2, t.val / 10 % 2] := (by decide +kernel : ∀ t : Fin grid0.N, _)
theorem same : ∀ t : Fin cfg0.N, win0_2.index t = win0_3.index t := (by decide +kernel : ∀ t : Fin grid0.N, _)

section

variable {F : FTy → Type} [FloatOps F] (m : (ℓ : Loc nD τ sig) → Buf (Elt F) ℓ)

theorem first (c : Dev nD) (t : Fin cfg0.N) (h : t.val % 10 = 0) : (outsAt0 m c t.val t.isLt).2 = k0_pay2 (iblk m c 0 t) (iblk m c 1 t) := by
  rw [outsAt0_A m c t h (by omega) (by omega)]
  unfold sout0_A_0 kernelRun0_A
  dsimp only
  rw [View.read_writes_full, View.readAt_full, View.readAt_full]
  exact congrArg₂ k0_pay2 ((hs0_0 t).read_unread _) ((hs0_1 t).read_unread _)

theorem next (c : Dev nD) (t : Fin cfg0.N) (h : ¬t.val % 10 = 0) : (outsAt0 m c t.val t.isLt).2
    = k0_pay3 (iblk m c 0 t) (iblk m c 1 t) (outsAt0 m c (t.val - 1) (Nat.lt_of_le_of_lt (Nat.sub_le _ _) t.isLt)).2 := by
  by_cases h2 : t.val % 10 = 9
  · rw [outsAt0_C m c t h (by omega) h2]
    unfold sout0_C_0 kernelRun0_C
    dsimp only
    unfold kernelRun0_C.sl.HS0_1
    rw [View.read_writes_full, View.readAt_full, View.readAt_full, View.readAt_full, (hs0_0 t).read_unread, (hs0_1 t).read_unread,
      (Memref.isWhole_whole _).read_unread]
  · rw [outsAt0_B m c t h (by omega) h2]
    unfold sout0_B_0 kernelRun0_B
    dsimp only
    rw [View.read_writes_full, View.readAt_full, View.readAt_full, View.readAt_full, (hs0_0 t).read_unread, (hs0_1 t).read_unread,
      (Memref.isWhole_whole _).read_unread]

theorem last (c : Dev nD) (t : Fin cfg0.N) (h : t.val % 10 = 9) : (outsAt0 m c t.val t.isLt).1 = k0_pay4 (outsAt0 m c t.val t.isLt).2 (iblk m c 2 t) := by
  rw [outsAt0_C m c t (by omega) (by omega) h]
  unfold out0_C_3 sout0_C_0 kernelRun0_C
  dsimp only
  unfold kernelRun0_C.sl.v12 kernelRun0_C.sl.HS0_1
  rw [View.read_writes_full, View.read_writes_full, View.readCov_full]
  refine congrArg (k0_pay4 _) ?_
  rw [View.readAt_full, (hs0_2 t).read_unread]

end

variable (m : (ℓ : Loc nD τ sig) → Buf (Elt Ideal) ℓ)

theorem term (x : Vec Ideal S1024x768 .bf16) (w : Vec Ideal S1024x768 .bf16) : k0_pay1 x w = GradSum.cross (GradSum.turn x) (GradSum.turn w) :=
  GradSum.point_nt dot_S1024x768_S1024x768_S1024x1024_1_1_0_0_n_n_wf x w

/-- The gradient: the product, and the gradient that passes by the layer, scaled. -/
def value (dh : FVec Ideal S8192x7680 .bf16) (w : FVec Ideal S2048x7680 .bf16) (du : FVec Ideal S8192x2048 .f32) : FVec Ideal S8192x2048 .f32 := fun i =>
  GradSum.cross (T := 7680) (R := 8192) (C := 2048) (GradSum.turn dh) (GradSum.turn w) i + Ideal.ofBits .f32 0x3FD744FD#32 * du i

theorem flushed (c : Dev nD) (t : Fin cfg0.N) (h : t.val % 10 = 9) : (dats m 0 c).flushed 3 t
    = ((cfg0.win 3).blk t).view.read (Elt Ideal) (value (V m c main_arg0) (V m c main_arg1) (V m c main_arg2)) := by
  rw [flushed3, last m c t h]
  funext y
  have k := GradSum.fold (T := 7680) (R := 8192) (C := 2048) (J := 10) (L := 768) (tr := 1024) (tc := 1024) (nc := 2) (by norm_num)
    (GradSum.turn (V m c main_arg0)) (GradSum.turn (V m c main_arg1)) index_a index_b index_out
    (e := fun t y => GradSum.swap (((cfg0.win 0).blk t).view.emb (GradSum.swap y)))
    (g := fun t y => GradSum.swap (((cfg0.win 1).blk t).view.emb (GradSum.swap y))) (h := fun t => ((cfg0.win 3).blk t).view.emb)
    (fun _ _ => ⟨rfl, rfl⟩) (fun _ _ => ⟨rfl, rfl⟩) (fun _ _ => ⟨rfl, rfl⟩) (fun n h => (outsAt0 m c n h).2)
    (fun t h => (first m c t h).trans ((shapeCast_self _ _).trans ((term _ _).trans
      (congrArg₂ GradSum.cross (GradSum.turn_block (V m c main_arg0) _) (GradSum.turn_block (V m c main_arg1) _)))))
    (fun t h y => congrFun ((next m c t h).trans ((shapeCast_self _ _).trans (congrArg (addf _) ((term _ _).trans
      (congrArg₂ GradSum.cross (GradSum.turn_block (V m c main_arg0) _) (GradSum.turn_block (V m c main_arg1) _)))))) y) t h y
  have d : ((cfg0.win 2).blk t).view.emb y = ((cfg0.win 3).blk t).view.emb y := by
    have e := same t
    funext a; apply Fin.ext
    match a with
    | ⟨0, _⟩ => exact congrArg (fun f : Fin 2 → Nat => f 0 * 1024 + 1 * (y 0).val) e
    | ⟨1, _⟩ => exact congrArg (fun f : Fin 2 → Nat => f 1 * 1024 + 1 * (y 1).val) e
  exact congrArg₂ (fun u v : EReal => u + Ideal.ofBits .f32 0x3FD744FD#32 * v) k (congrArg (V m c main_arg2) d)

theorem final (c : Dev nD) : (dats m 0 c).arrAt 3 cfg0.N
    = value (m ((c.tc : Thread nD τ).loc main_arg0)) (m ((c.tc : Thread nD τ).loc main_arg1)) (m ((c.tc : Thread nD τ).loc main_arg2)) :=
  (dats m 0 c).arrAt_eq_of_cover 3 _ (fun t h => flushed m c t ((flush0_3 t).mp h)) fun i =>
    let ⟨t, y, h, e⟩ := GradSum.cover (J := 10) (R := 8192) (C := 2048) (tr := 1024) (tc := 1024) (nc := 2) (nr := 8)
      (h := fun t => ((cfg0.win 3).blk t).view.emb)
      (by norm_num) (by norm_num) (by norm_num) N_0 (by norm_num) (by norm_num) index_out (fun _ _ => ⟨rfl, rfl⟩) i
    ⟨t, (flush0_3 t).mpr h, e ▸ View.emb_mem_set _ y⟩

/-- The reference's is the same. -/
theorem whole {h : DotDims.WF S8192x7680 S2048x7680 S8192x2048 [1] [1] [0] [0] [] []} {hb : (⟨0, ![]⟩ : Shape).BroadcastsInDim S8192x2048 ![]}
    (dh : FVec Ideal S8192x7680 .bf16) (w : FVec Ideal S2048x7680 .bf16) (du : FVec Ideal S8192x2048 .f32) :
    addf (Host.dotGeneral (GradSum.dims_nt h) none dh w) (mulf (broadcastInDim S8192x2048 ![] hb (constant (F := Ideal) ⟨0, ![]⟩ .f32 0x3FD744FD#32)) du)
      = value dh w du :=
  funext fun i => congrArg (· + Ideal.ofBits .f32 0x3FD744FD#32 * du i) (congrFun (GradSum.whole_nt h dh w) i)

end Cert.GradXIdeal.Run

namespace Cert.Proof

open Idealize.ShloMosaic Idealize.SL.Sem

theorem quiescent_InProj : Cert.quiescent_InProj := fun m g _ => InProj.Gen.frame m g
theorem quiescent_InProjIdeal : Cert.quiescent_InProjIdeal := fun m g _ => InProjIdeal.Gen.frame m g
theorem quiescent_InProjRef : Cert.quiescent_InProjRef := fun m g _ =>
  HalfSum.frame (by decide) (InProjRefIdeal.Value.run (F := Bits) m g)
theorem quiescent_InProjRefIdeal : Cert.quiescent_InProjRefIdeal := fun m g _ =>
  HalfSum.frame (by decide) (InProjRefIdeal.Value.run (F := Ideal) m g)
theorem algebraic_InProj : Cert.algebraic_InProjIdeal_InProjRefIdeal := fun m g m' g' _ e =>
  ⟨_, (θ_run _ _ _).mono (fun _ h c => ⟨(h c).1.trans (InProjIdeal.Run.final m c), (h c).2⟩) (InProjIdeal.Value.run_blocks m g),
    (θ_run _ _ _).mono (fun _ h c => ⟨(h c).1.trans ((GradSum.whole_nn (φ := .bf16) (ψ := .bf16) InProjRefIdeal.Facts₀.dot_S8192x2048_S2048x7680_S8192x7680_1_0_0_1_n_n_wf _ _).trans (congrArg₂ (fun u v => GradSum.cross (GradSum.turn u) v) (e c).1 (e c).2)), (h c).2⟩) (InProjRefIdeal.Value.run m' g')⟩

theorem quiescent_MemKv : Cert.quiescent_MemKv := fun m g _ => MemKv.Gen.frame m g
theorem quiescent_MemKvIdeal : Cert.quiescent_MemKvIdeal := fun m g _ => MemKvIdeal.Gen.frame m g
theorem quiescent_MemKvRef : Cert.quiescent_MemKvRef := fun m g _ =>
  HalfSum.frame (by decide) (MemKvRefIdeal.Value.run (F := Bits) m g)
theorem quiescent_MemKvRefIdeal : Cert.quiescent_MemKvRefIdeal := fun m g _ =>
  HalfSum.frame (by decide) (MemKvRefIdeal.Value.run (F := Ideal) m g)
theorem algebraic_MemKv : Cert.algebraic_MemKvIdeal_MemKvRefIdeal := fun m g m' g' _ e =>
  ⟨_, (θ_run _ _ _).mono (fun _ h c => ⟨(h c).1.trans (MemKvIdeal.Run.final m c), (h c).2⟩) (MemKvIdeal.Value.run_blocks m g),
    (θ_run _ _ _).mono (fun _ h c => ⟨(h c).1.trans ((GradSum.whole_nn (φ := .bf16) (ψ := .bf16) MemKvRefIdeal.Facts₀.dot_S256x2048_S2048x1024_S256x1024_1_0_0_1_n_n_wf _ _).trans (congrArg₂ (fun u v => GradSum.cross (GradSum.turn u) v) (e c).1 (e c).2)), (h c).2⟩) (MemKvRefIdeal.Value.run m' g')⟩

theorem quiescent_GradCat : Cert.quiescent_GradCat := fun m g _ => GradCat.Gen.frame m g
theorem quiescent_GradCatIdeal : Cert.quiescent_GradCatIdeal := fun m g _ => GradCatIdeal.Gen.frame m g
theorem quiescent_GradCatRef : Cert.quiescent_GradCatRef := fun m g _ =>
  HalfSum.frame (by decide) (GradCatRefIdeal.Value.run (F := Bits) m g)
theorem quiescent_GradCatRefIdeal : Cert.quiescent_GradCatRefIdeal := fun m g _ =>
  HalfSum.frame (by decide) (GradCatRefIdeal.Value.run (F := Ideal) m g)
theorem algebraic_GradCat : Cert.algebraic_GradCatIdeal_GradCatRefIdeal := fun m g m' g' _ e =>
  ⟨_, (θ_run _ _ _).mono (fun _ h c => ⟨(h c).1.trans (GradCatIdeal.Run.final m c), (h c).2⟩) (GradCatIdeal.Value.run_blocks m g),
    (θ_run _ _ _).mono (fun _ h c => ⟨(h c).1.trans ((GradSum.whole_nt (φ := .bf16) (ψ := .bf16) GradCatRefIdeal.Facts₀.dot_S8192x2048_S2048x2048_S8192x2048_1_1_0_0_n_n_wf _ _).trans (congrArg₂ (fun u v => GradSum.cross (GradSum.turn u) (GradSum.turn v)) (e c).1 (e c).2)), (h c).2⟩) (GradCatRefIdeal.Value.run m' g')⟩

theorem quiescent_GradX : Cert.quiescent_GradX := fun m g _ => GradX.Gen.frame m g
theorem quiescent_GradXIdeal : Cert.quiescent_GradXIdeal := fun m g _ => GradXIdeal.Gen.frame m g
theorem quiescent_GradXRef : Cert.quiescent_GradXRef := fun m g _ =>
  HalfSum.frame (by decide) (GradXRefIdeal.Value.run (F := Bits) m g)
theorem quiescent_GradXRefIdeal : Cert.quiescent_GradXRefIdeal := fun m g _ =>
  HalfSum.frame (by decide) (GradXRefIdeal.Value.run (F := Ideal) m g)
theorem algebraic_GradX : Cert.algebraic_GradXIdeal_GradXRefIdeal := fun m g m' g' _ e =>
  ⟨_, (θ_run _ _ _).mono (fun _ h c => ⟨(h c).1.trans (GradXIdeal.Run.final m c), (h c).2⟩) (GradXIdeal.Value.run_blocks m g),
    (θ_run _ _ _).mono (fun _ h c => ⟨(h c).1.trans ((GradXIdeal.Run.whole _ _ _).trans (congr (congrArg₂ GradXIdeal.Run.value (e c).1 (e c).2.1) (e c).2.2)), (h c).2⟩) (GradXRefIdeal.Value.run m' g')⟩

end Cert.Proof

end
-- ==== Proof.NormSum.lean ====
/-
# Rows brought to mean zero and variance one

Of a layer's result each row less its mean, over its spread, scaled and moved: as a point makes them of its rows, as the reference makes them of all, and
that each row's are made of that row alone.
-/
module

public import proofs.«01_k».proof.Proof.Swapped
public import Idealize.ShloMosaic.Lib.Pointwise
public import Idealize.ShloMosaic.Lib.ValueLayoutCasts

@[expose] public section

set_option Elab.async false

noncomputable section

namespace Cert.NormSum

open Idealize.ShloMosaic
open Cert.GradSum (At cross turn)

variable {T R S C : Nat}

/-- What the layer takes in, scaled, and the product it adds. -/
def layer (x : At R C → EReal) (y : At R T → EReal) (w : At T C → EReal) : At R C → EReal := fun i =>
  Ideal.ofBits .f32 0x3FD744FD#32 * x i + cross (turn y) w i

/-- A row's sum, over the width. -/
@[irreducible] def mean (v : At R C → EReal) (r : Fin R) : EReal := Ideal.div (∑ k : Fin C, v (ix2 r k)) (Ideal.ofBits .f32 0x45000000#32)

/-- Each row less its mean. -/
def centre (v : At R C → EReal) : At R C → EReal := fun i => v i - mean v (i 0)

/-- One over the root of a row's variance and a small number. -/
def spread (v : At R C → EReal) : At R 1 → EReal := fun i =>
  Ideal.rsqrt (mean (fun j => centre v j * centre v j) (i 0) + Ideal.ofBits .f32 0x3727C5AC#32)

/-- Each row brought to mean zero and variance one. -/
def normed (v : At R C → EReal) : At R C → EReal := fun i => centre v i * spread v (ix2 (i 0) 0)

/-- And scaled and moved. -/
def moved (v : At R C → EReal) (g b : At 1 C → EReal) : At R C → EReal := fun i => normed v i * g (ix2 0 (i 1)) + b (ix2 0 (i 1))

theorem kept {n : Nat} (x : Fin n) : x.val = if n = 1 then 0 else x.val := by
  split
  · have := x.isLt; omega
  · rfl

/-- A column over the whole width, a row over all rows, and a vector as a column, as the kernel and as the reference write them. -/
theorem column_kernel (hb : (⟨2, ![R, 1]⟩ : Shape).Broadcasts ⟨2, ![R, C]⟩) (s : At R 1 → EReal) :
    broadcastTo ⟨2, ![R, C]⟩ s hb = fun j => s (ix2 (j 0) 0) :=
  funext fun j => broadcastTo_apply s hb j _ fun | ⟨0, _⟩ => kept (j 0) | ⟨1, _⟩ => rfl
theorem row_kernel (hb : (⟨2, ![1, C]⟩ : Shape).Broadcasts ⟨2, ![R, C]⟩) (s : At 1 C → EReal) :
    broadcastTo ⟨2, ![R, C]⟩ s hb = fun j => s (ix2 0 (j 1)) :=
  funext fun j => broadcastTo_apply s hb j _ fun | ⟨0, _⟩ => rfl | ⟨1, _⟩ => kept (j 1)
theorem column_host (hb : (⟨2, ![R, 1]⟩ : Shape).BroadcastsInDim ⟨2, ![R, C]⟩ ![0, 1]) (s : At R 1 → EReal) :
    broadcastInDim ⟨2, ![R, C]⟩ ![0, 1] hb s = fun j => s (ix2 (j 0) 0) :=
  funext fun j => broadcastInDim_apply ![0, 1] hb s j _ fun | ⟨0, _⟩ => kept (j 0) | ⟨1, _⟩ => rfl
theorem row_host (hb : (⟨2, ![1, C]⟩ : Shape).BroadcastsInDim ⟨2, ![R, C]⟩ ![0, 1]) (s : At 1 C → EReal) :
    broadcastInDim ⟨2, ![R, C]⟩ ![0, 1] hb s = fun j => s (ix2 0 (j 1)) :=
  funext fun j => broadcastInDim_apply ![0, 1] hb s j _ fun | ⟨0, _⟩ => rfl | ⟨1, _⟩ => kept (j 1)
theorem vector_host (h : (⟨1, ![R]⟩ : Shape).BroadcastsInDim ⟨2, ![R, 1]⟩ ![0]) (s : (⟨1, ![R]⟩ : Shape).Idx → EReal) :
    broadcastInDim ⟨2, ![R, 1]⟩ ![0] h s = fun j => s (ix1 (j 0)) :=
  funext fun j => broadcastInDim_apply ![0] h s j _ fun | ⟨0, _⟩ => kept (j 0)
theorem vector_kernel (h : (⟨1, ![R]⟩ : Shape).ShapeCasts ⟨2, ![R, 1]⟩) (s : (⟨1, ![R]⟩ : Shape).Idx → EReal) :
    shapeCast ⟨2, ![R, 1]⟩ s h = fun j => s (ix1 (j 0)) :=
  funext fun j => by
    have e : j = ix2 (j 0 : Fin R) (0 : Fin 1) := by
      funext a
      match a with
      | ⟨0, _⟩ => rfl
      | ⟨1, _⟩ => exact Fin.ext (by have := (j 1).isLt; have q : (j 1).val < 1 := this; show (j 1).val = 0; omega)
    rw [e]
    exact ValueIdx.shapeCast_a_a1_apply s h (j 0) 0

theorem point_centre (h₁ : (⟨2, ![R, C]⟩ : Shape).Reduces [1] ⟨1, ![R]⟩) (h₂ : (⟨1, ![R]⟩ : Shape).ShapeCasts ⟨2, ![R, 1]⟩)
    (hb : (⟨2, ![R, 1]⟩ : Shape).Broadcasts ⟨2, ![R, C]⟩) (v : FVec Ideal ⟨2, ![R, C]⟩ .f32) :
    subf v (broadcastTo ⟨2, ![R, C]⟩ (divf (shapeCast ⟨2, ![R, 1]⟩ (multiReduction .add [1] ⟨1, ![R]⟩ v 0x00000000#32 h₁ (.inl rfl) rfl) h₂)
      (broadcast ⟨2, ![R, 1]⟩ (Scalar.ofBits (F := Ideal) .f32 0x45000000#32))) hb) = centre v := by
  funext j
  unfold centre mean
  rw [column_kernel, vector_kernel]
  pointwise

theorem point_spread (h₁ : (⟨2, ![R, C]⟩ : Shape).Reduces [1] ⟨1, ![R]⟩) (h₂ : (⟨1, ![R]⟩ : Shape).ShapeCasts ⟨2, ![R, 1]⟩)
    {v d : FVec Ideal ⟨2, ![R, C]⟩ .f32} (hd : d = centre v) :
    rsqrt (addf (divf (shapeCast ⟨2, ![R, 1]⟩ (multiReduction .add [1] ⟨1, ![R]⟩ (mulf d d) 0x00000000#32 h₁ (.inl rfl) rfl) h₂)
      (broadcast ⟨2, ![R, 1]⟩ (Scalar.ofBits (F := Ideal) .f32 0x45000000#32))) (broadcast ⟨2, ![R, 1]⟩ (Scalar.ofBits (F := Ideal) .f32 0x3727C5AC#32)))
      = spread v := by
  subst hd
  funext j
  unfold spread mean
  rw [vector_kernel]
  pointwise

theorem point_normed (hb : (⟨2, ![R, 1]⟩ : Shape).Broadcasts ⟨2, ![R, C]⟩) {v d : FVec Ideal ⟨2, ![R, C]⟩ .f32} {s : FVec Ideal ⟨2, ![R, 1]⟩ .f32}
    (hd : d = centre v) (hs : s = spread v) : mulf d (broadcastTo ⟨2, ![R, C]⟩ s hb) = normed v := by
  subst hd hs
  funext j
  unfold normed
  rw [column_kernel]
  pointwise

theorem point_moved (hb : (⟨2, ![1, C]⟩ : Shape).Broadcasts ⟨2, ![R, C]⟩) {v z : FVec Ideal ⟨2, ![R, C]⟩ .f32} (g b : FVec Ideal ⟨2, ![1, C]⟩ .f32)
    (hz : z = normed v) : addf (mulf z (broadcastTo ⟨2, ![R, C]⟩ g hb)) (broadcastTo ⟨2, ![R, C]⟩ b hb) = moved v g b := by
  subst hz
  funext j
  unfold moved
  rw [row_kernel, row_kernel]
  pointwise

theorem whole_centre (h₁ : (⟨2, ![R, C]⟩ : Shape).ReducesTo [1] ⟨1, ![R]⟩) (hu : 0 < (⟨0, ![]⟩ : Shape).numel)
    (h₂ : (⟨1, ![R]⟩ : Shape).BroadcastsInDim ⟨2, ![R, 1]⟩ ![0]) (h₃ : (⟨0, ![]⟩ : Shape).BroadcastsInDim ⟨2, ![R, 1]⟩ ![])
    (hb : (⟨2, ![R, 1]⟩ : Shape).BroadcastsInDim ⟨2, ![R, C]⟩ ![0, 1]) (v : FVec Ideal ⟨2, ![R, C]⟩ .f32) :
    subf v (broadcastInDim ⟨2, ![R, C]⟩ ![0, 1] hb (Host.divf (broadcastInDim ⟨2, ![R, 1]⟩ ![0] h₂
      (Host.reduceAdd v (constant (F := Ideal) ⟨0, ![]⟩ .f32 0x00000000#32) h₁ hu))
      (broadcastInDim ⟨2, ![R, 1]⟩ ![] h₃ (constant (F := Ideal) ⟨0, ![]⟩ .f32 0x45000000#32)))) = centre v := by
  funext j
  unfold centre mean
  rw [column_host, vector_host]
  pointwise

theorem whole_spread (h₁ : (⟨2, ![R, C]⟩ : Shape).ReducesTo [1] ⟨1, ![R]⟩) (hu : 0 < (⟨0, ![]⟩ : Shape).numel)
    (h₂ : (⟨1, ![R]⟩ : Shape).BroadcastsInDim ⟨2, ![R, 1]⟩ ![0]) (h₃ : (⟨0, ![]⟩ : Shape).BroadcastsInDim ⟨2, ![R, 1]⟩ ![])
    {v d : FVec Ideal ⟨2, ![R, C]⟩ .f32} (hd : d = centre v) :
    Host.rsqrt (addf (Host.divf (broadcastInDim ⟨2, ![R, 1]⟩ ![0] h₂
      (Host.reduceAdd (mulf d d) (constant (F := Ideal) ⟨0, ![]⟩ .f32 0x00000000#32) h₁ hu))
      (broadcastInDim ⟨2, ![R, 1]⟩ ![] h₃ (constant (F := Ideal) ⟨0, ![]⟩ .f32 0x45000000#32)))
      (broadcastInDim ⟨2, ![R, 1]⟩ ![] h₃ (constant (F := Ideal) ⟨0, ![]⟩ .f32 0x3727C5AC#32))) = spread v := by
  subst hd
  funext j
  unfold spread mean
  rw [vector_host]
  pointwise

theorem whole_normed (hb : (⟨2, ![R, 1]⟩ : Shape).BroadcastsInDim ⟨2, ![R, C]⟩ ![0, 1]) {v d : FVec Ideal ⟨2, ![R, C]⟩ .f32}
    {s : FVec Ideal ⟨2, ![R, 1]⟩ .f32} (hd : d = centre v) (hs : s = spread v) :
    mulf d (broadcastInDim ⟨2, ![R, C]⟩ ![0, 1] hb s) = normed v := by
  subst hd hs
  funext j
  unfold normed
  rw [column_host]
  pointwise

theorem whole_moved (hb : (⟨2, ![1, C]⟩ : Shape).BroadcastsInDim ⟨2, ![R, C]⟩ ![0, 1]) {v z : FVec Ideal ⟨2, ![R, C]⟩ .f32}
    (g b : FVec Ideal ⟨2, ![1, C]⟩ .f32) (hz : z = normed v) :
    addf (mulf z (broadcastInDim ⟨2, ![R, C]⟩ ![0, 1] hb g)) (broadcastInDim ⟨2, ![R, C]⟩ ![0, 1] hb b) = moved v g b := by
  subst hz
  funext j
  unfold moved
  rw [row_host, row_host]
  pointwise

/-- The rows of a matrix that `ρ` names. -/
def rows {n : Nat} (ρ : Fin n → Fin R) (j : At n C) : At R C := ix2 (ρ (j 0)) (j 1)

variable {n : Nat} (ρ : Fin n → Fin R)

theorem layer_rows (x : At R C → EReal) (y : At R T → EReal) (w : At T C → EReal) :
    layer (fun j => x (rows ρ j)) (fun j => y (rows ρ j)) w = fun j => layer x y w (rows ρ j) := by
  unfold layer cross
  rfl

theorem centre_rows (v : At R C → EReal) : centre (fun j => v (rows ρ j)) = fun j => centre v (rows ρ j) := by
  unfold centre mean
  rfl

theorem spread_rows (v : At R C → EReal) : spread (fun j => v (rows ρ j)) = fun j => spread v (rows ρ j) := by
  unfold spread
  rw [centre_rows]
  unfold mean
  rfl

theorem normed_rows (v : At R C → EReal) : normed (fun j => v (rows ρ j)) = fun j => normed v (rows ρ j) := by
  unfold normed
  rw [centre_rows, spread_rows]
  rfl

theorem moved_rows (v : At R C → EReal) (g b : At 1 C → EReal) : moved (fun j => v (rows ρ j)) g b = fun j => moved v g b (rows ρ j) := by
  unfold moved
  rw [normed_rows]
  rfl

theorem point_layer (h : DotDims.WF ⟨2, ![R, T]⟩ ⟨2, ![T, C]⟩ ⟨2, ![R, C]⟩ [1] [0] [0] [1] [] []) (x : FVec Ideal ⟨2, ![R, C]⟩ .f32)
    (y : FVec Ideal ⟨2, ![R, T]⟩ .bf16) (w : FVec Ideal ⟨2, ![T, C]⟩ .bf16) :
    addf (mulf (broadcast ⟨2, ![R, C]⟩ (Scalar.ofBits (F := Ideal) .f32 0x3FD744FD#32)) x)
      (matmul (GradSum.dims_nn h) none y w (constant (F := Ideal) ⟨2, ![R, C]⟩ .f32 0x00000000#32)) = layer x y w :=
  funext fun i => congrArg (Ideal.ofBits .f32 0x3FD744FD#32 * x i + ·) (congrFun (GradSum.point_nn h y w) i)

theorem whole_layer (h : DotDims.WF ⟨2, ![R, T]⟩ ⟨2, ![T, C]⟩ ⟨2, ![R, C]⟩ [1] [0] [0] [1] [] [])
    (hb : (⟨0, ![]⟩ : Shape).BroadcastsInDim ⟨2, ![R, C]⟩ ![]) (x : FVec Ideal ⟨2, ![R, C]⟩ .f32)
    (y : FVec Ideal ⟨2, ![R, T]⟩ .bf16) (w : FVec Ideal ⟨2, ![T, C]⟩ .bf16) :
    addf (mulf (broadcastInDim ⟨2, ![R, C]⟩ ![] hb (constant (F := Ideal) ⟨0, ![]⟩ .f32 0x3FD744FD#32)) x)
      (Host.dotGeneral (GradSum.dims_nn h) none y w) = layer x y w :=
  funext fun i => congrArg (Ideal.ofBits .f32 0x3FD744FD#32 * x i + ·) (congrFun (GradSum.whole_nn h y w) i)

/-- A block of rows lies at the rows it is made of. -/
theorem place {p : Fin 2 → Nat} {a : Nat} {ρ : Fin n → Fin R} (hp : p = ![a, 0]) (hρ : ∀ r, (ρ r).val = a * n + r.val) {e : At n C → At R C}
    (he : ∀ y, (e y 0).val = p 0 * n + 1 * (y 0).val ∧ (e y 1).val = p 1 * C + 1 * (y 1).val) : e = rows ρ := by
  subst hp
  funext y c
  apply Fin.ext
  match c with
  | ⟨0, _⟩ => exact (he y).1.trans ((congrArg (a * n + ·) (Nat.one_mul _)).trans (hρ _).symm)
  | ⟨1, _⟩ => exact (he y).2.trans ((congrArg₂ (· + ·) (Nat.zero_mul C) (Nat.one_mul _)).trans (Nat.zero_add _))

/-- A block that is the whole array lies at its own places. -/
theorem stay {p : Fin 2 → Nat} (hp : p = ![0, 0]) {e : At R C → At R C}
    (he : ∀ y, (e y 0).val = p 0 * R + 1 * (y 0).val ∧ (e y 1).val = p 1 * C + 1 * (y 1).val) : e = fun y => y := by
  subst hp
  funext y a
  apply Fin.ext
  match a with
  | ⟨0, _⟩ => exact (he y).1.trans ((congrArg₂ (· + ·) (Nat.zero_mul R) (Nat.one_mul _)).trans (Nat.zero_add _))
  | ⟨1, _⟩ => exact (he y).2.trans ((congrArg₂ (· + ·) (Nat.zero_mul C) (Nat.one_mul _)).trans (Nat.zero_add _))

/-- The points' rows are all rows. -/
theorem all {N : Nat} (hn : 0 < n) (hR : R = N * n) {ρ : Fin N → Fin n → Fin R} (hρ : ∀ t r, (ρ t r).val = t.val * n + r.val)
    {h : Fin N → At n C → At R C} (hh : ∀ t, h t = rows (ρ t)) (i : At R C) : ∃ t y, h t y = i := by
  have hi : (i 0).val < R := (i 0).isLt
  refine ⟨⟨(i 0).val / n, Nat.div_lt_of_lt_mul (Nat.mul_comm N n ▸ hR ▸ hi)⟩, ix2 ⟨(i 0).val % n, Nat.mod_lt _ hn⟩ (i 1), ?_⟩
  rw [hh]
  funext a
  apply Fin.ext
  match a with
  | ⟨0, _⟩ => exact (hρ _ _).trans (Nat.div_add_mod' _ _)
  | ⟨1, _⟩ => rfl

end Cert.NormSum

end
-- ==== Proof.Norms.lean ====
/-
# The output projection and the layer's norm

Where the call's windows lie at each point; in the extended reals, that what a point gives back is its rows of the layer's result brought to mean zero and
variance one, scaled and moved, and of the spreads; then its claims.
-/
module

public import proofs.«01_k».proof.Proof.NormSum
public import proofs.«01_k».proof.Proof.HalfSums
public import Idealize.ShloMosaic.Lib.VecWindow
public import Idealize.ShloMosaic.Lib.Pipeline.Value
public import proofs.«01_k».proof.Proof.Gen.Norm.Frame
public import proofs.«01_k».proof.Proof.Gen.NormIdeal.Value
public import proofs.«01_k».proof.Proof.Gen.NormRef
public import proofs.«01_k».proof.Proof.Gen.NormRefIdeal.Run
public import proofs.«01_k».proof.Defs

@[expose] public section

set_option Elab.async false

noncomputable section

namespace Cert.NormIdeal.Run

open Cert.NormIdeal Cert.NormIdeal.Gen Cert.NormIdeal.Value
open Idealize.ShloMosaic Idealize.ShloMosaic.TcCoe Idealize.SL.Sem
open Cert.GradSum (At)

theorem index_y : ∀ t : Fin cfg0.N, win0_0.index t = ![t.val, 0] := (by decide +kernel : ∀ t : Fin grid0.N, _)
theorem index_w : ∀ t : Fin cfg0.N, win0_1.index t = ![0, 0] := (by decide +kernel : ∀ t : Fin grid0.N, _)
theorem index_x : ∀ t : Fin cfg0.N, win0_2.index t = ![t.val, 0] := (by decide +kernel : ∀ t : Fin grid0.N, _)
theorem index_g : ∀ t : Fin cfg0.N, win0_3.index t = ![0, 0] := (by decide +kernel : ∀ t : Fin grid0.N, _)
theorem index_b : ∀ t : Fin cfg0.N, win0_4.index t = ![0, 0] := (by decide +kernel : ∀ t : Fin grid0.N, _)
theorem index_moved : ∀ t : Fin cfg0.N, win0_5.index t = ![t.val, 0] := (by decide +kernel : ∀ t : Fin grid0.N, _)
theorem index_rounded : ∀ t : Fin cfg0.N, win0_6.index t = ![t.val, 0] := (by decide +kernel : ∀ t : Fin grid0.N, _)
theorem index_normed : ∀ t : Fin cfg0.N, win0_7.index t = ![t.val, 0] := (by decide +kernel : ∀ t : Fin grid0.N, _)
theorem index_spread : ∀ t : Fin cfg0.N, win0_8.index t = ![t.val, 0] := (by decide +kernel : ∀ t : Fin grid0.N, _)

/-- The array's row that is a point's row `r`. -/
def row (t : Fin cfg0.N) (r : Fin 256) : Fin 8192 := ⟨t.val * 256 + r.val, by
  have := lt_of_lt_of_eq t.isLt N_0
  omega⟩

theorem rows_all : 8192 = cfg0.N * 256 := (congrArg (· * 256) N_0).symm

theorem zero : (![0, 0] : Fin 2 → Nat) = fun _ => 0 := by decide

section

variable {F : FTy → Type} [FloatOps F] (y : Vec F S256x2048 .bf16) (w : Vec F S2048x2048 .bf16) (x : Vec F S256x2048 .f32) (g b : Vec F S1x2048 .f32)

theorem moved_out : out0_5 y w x g b = k0_pay4 x y w g b := by
  unfold out0_5
  rw [View.canon_cons_unit_zero zero, View.ld_unit_zero zero, View.ld_unit_zero zero, View.ld_unit_zero zero, View.ld_unit_zero zero, View.ld_unit_zero zero]
theorem rounded_out : out0_6 y w x g b = k0_pay5 x y w g b := by
  unfold out0_6
  rw [View.canon_cons_unit_zero zero, View.ld_unit_zero zero, View.ld_unit_zero zero, View.ld_unit_zero zero, View.ld_unit_zero zero, View.ld_unit_zero zero]
theorem normed_out : out0_7 y w x g b = k0_pay3 x y w := by
  unfold out0_7
  rw [View.canon_cons_unit_zero zero, View.ld_unit_zero zero, View.ld_unit_zero zero, View.ld_unit_zero zero]
theorem spread_out : out0_8 y w x g b = k0_pay2 x y w := by
  unfold out0_8
  rw [View.canon_cons_unit_zero zero, View.ld_unit_zero zero, View.ld_unit_zero zero, View.ld_unit_zero zero]

end

section

variable (x : Vec Ideal S256x2048 .f32) (y : Vec Ideal S256x2048 .bf16) (w : Vec Ideal S2048x2048 .bf16) (g b : Vec Ideal S1x2048 .f32)

theorem centre : k0_pay1 x y w = NormSum.centre (NormSum.layer x y w) :=
  (NormSum.point_centre _ _ _ _).trans (congrArg NormSum.centre (NormSum.point_layer dot_S256x2048_S2048x2048_S256x2048_1_0_0_1_n_n_wf x y w))
theorem spread : k0_pay2 x y w = NormSum.spread (NormSum.layer x y w) := NormSum.point_spread _ _ (centre x y w)
theorem normed : k0_pay3 x y w = NormSum.normed (NormSum.layer x y w) := NormSum.point_normed _ (centre x y w) (spread x y w)
theorem moved : k0_pay4 x y w g b = NormSum.moved (NormSum.layer x y w) g b := NormSum.point_moved _ _ _ (normed x y w)
theorem rounded : k0_pay5 x y w g b = k0_pay4 x y w g b := rfl

end

variable (m : (ℓ : Loc nD τ sig) → Buf (Elt Ideal) ℓ)

/-- The layer's result. -/
def result (c : Dev nD) : At 8192 2048 → EReal := NormSum.layer (T := 2048) (V m c main_arg2) (V m c main_arg0) (V m c main_arg1)

theorem block (c : Dev nD) (t : Fin cfg0.N) :
    NormSum.layer (iblk m c 2 t) (iblk m c 0 t) (iblk m c 1 t) = fun j => result m c (NormSum.rows (row t) j) := by
  have ex : iblk m c 2 t = fun j => V m c main_arg2 (NormSum.rows (row t) j) :=
    congrArg (fun e j => V m c main_arg2 (e j)) (NormSum.place (e := ((cfg0.win 2).blk t).view.emb) (index_x t) (fun _ => rfl) fun _ => ⟨rfl, rfl⟩)
  have ey : iblk m c 0 t = fun j => V m c main_arg0 (NormSum.rows (row t) j) :=
    congrArg (fun e j => V m c main_arg0 (e j)) (NormSum.place (e := ((cfg0.win 0).blk t).view.emb) (index_y t) (fun _ => rfl) fun _ => ⟨rfl, rfl⟩)
  have ew : iblk m c 1 t = V m c main_arg1 :=
    congrArg (fun e j => V m c main_arg1 (e j)) (NormSum.stay (e := ((cfg0.win 1).blk t).view.emb) (index_w t) fun _ => ⟨rfl, rfl⟩)
  rw [ex, ey, ew]
  exact NormSum.layer_rows (row t) _ _ _

theorem moved_block (c : Dev nD) (t : Fin cfg0.N) : k0_pay4 (iblk m c 2 t) (iblk m c 0 t) (iblk m c 1 t) (iblk m c 3 t) (iblk m c 4 t)
    = fun j => NormSum.moved (result m c) (V m c main_arg3) (V m c main_arg4) (NormSum.rows (row t) j) := by
  have eg : iblk m c 3 t = V m c main_arg3 :=
    congrArg (fun e j => V m c main_arg3 (e j)) (NormSum.stay (e := ((cfg0.win 3).blk t).view.emb) (index_g t) fun _ => ⟨rfl, rfl⟩)
  have eb : iblk m c 4 t = V m c main_arg4 :=
    congrArg (fun e j => V m c main_arg4 (e j)) (NormSum.stay (e := ((cfg0.win 4).blk t).view.emb) (index_b t) fun _ => ⟨rfl, rfl⟩)
  rw [moved, block, eg, eb]
  exact NormSum.moved_rows (row t) _ _ _

theorem flushed_moved (c : Dev nD) (t : Fin cfg0.N) : (dats m 0 c).flushed 5 t
    = ((cfg0.win 5).blk t).view.read (Elt Ideal) (NormSum.moved (result m c) (V m c main_arg3) (V m c main_arg4)) := by
  rw [flushed5, moved_out, moved_block]
  generalize NormSum.moved (result m c) (V m c main_arg3) (V m c main_arg4) = G
  exact congrArg (fun (e : At 256 2048 → At 8192 2048) j => G (e j))
    (NormSum.place (e := ((cfg0.win 5).blk t).view.emb) (index_moved t) (fun _ => rfl) fun _ => ⟨rfl, rfl⟩).symm

theorem flushed_rounded (c : Dev nD) (t : Fin cfg0.N) : (dats m 0 c).flushed 6 t
    = ((cfg0.win 6).blk t).view.read (Elt Ideal) (NormSum.moved (result m c) (V m c main_arg3) (V m c main_arg4)) := by
  rw [flushed6, rounded_out, rounded, moved_block]
  generalize NormSum.moved (result m c) (V m c main_arg3) (V m c main_arg4) = G
  exact congrArg (fun (e : At 256 2048 → At 8192 2048) j => G (e j))
    (NormSum.place (e := ((cfg0.win 6).blk t).view.emb) (index_rounded t) (fun _ => rfl) fun _ => ⟨rfl, rfl⟩).symm

theorem flushed_normed (c : Dev nD) (t : Fin cfg0.N) : (dats m 0 c).flushed 7 t
    = ((cfg0.win 7).blk t).view.read (Elt Ideal) (NormSum.normed (result m c)) := by
  rw [flushed7, normed_out, normed, block, NormSum.normed_rows]
  exact congrArg (fun e j => NormSum.normed (result m c) (e j)) (NormSum.place (ρ := row t) (e := ((cfg0.win 7).blk t).view.emb) (index_normed t) (fun _ => rfl) fun _ => ⟨rfl, rfl⟩).symm

theorem flushed_spread (c : Dev nD) (t : Fin cfg0.N) : (dats m 0 c).flushed 8 t
    = ((cfg0.win 8).blk t).view.read (Elt Ideal) (NormSum.spread (result m c)) := by
  rw [flushed8, spread_out, spread, block, NormSum.spread_rows]
  exact congrArg (fun e j => NormSum.spread (result m c) (e j)) (NormSum.place (ρ := row t) (e := ((cfg0.win 8).blk t).view.emb) (index_spread t) (fun _ => rfl) fun _ => ⟨rfl, rfl⟩).symm

theorem final_moved (c : Dev nD) :
    (dats m 0 c).arrAt 5 cfg0.N = NormSum.moved (result m c) (V m c main_arg3) (V m c main_arg4) :=
  (dats m 0 c).arrAt_eq_of_cover 5 _ (fun t _ => flushed_moved m c t) fun i =>
    let ⟨t, y, e⟩ := NormSum.all (ρ := row) (by norm_num) rows_all (fun _ _ => rfl) (h := fun t => ((cfg0.win 5).blk t).view.emb) (fun t => NormSum.place (index_moved t) (fun _ => rfl) fun _ => ⟨rfl, rfl⟩) i
    ⟨t, flush0_5 t, e ▸ View.emb_mem_set _ y⟩

theorem final_rounded (c : Dev nD) :
    (dats m 0 c).arrAt 6 cfg0.N = NormSum.moved (result m c) (V m c main_arg3) (V m c main_arg4) :=
  (dats m 0 c).arrAt_eq_of_cover 6 _ (fun t _ => flushed_rounded m c t) fun i =>
    let ⟨t, y, e⟩ := NormSum.all (ρ := row) (by norm_num) rows_all (fun _ _ => rfl) (h := fun t => ((cfg0.win 6).blk t).view.emb) (fun t => NormSum.place (index_rounded t) (fun _ => rfl) fun _ => ⟨rfl, rfl⟩) i
    ⟨t, flush0_6 t, e ▸ View.emb_mem_set _ y⟩

theorem final_normed (c : Dev nD) : (dats m 0 c).arrAt 7 cfg0.N = NormSum.normed (result m c) :=
  (dats m 0 c).arrAt_eq_of_cover 7 _ (fun t _ => flushed_normed m c t) fun i =>
    let ⟨t, y, e⟩ := NormSum.all (ρ := row) (by norm_num) rows_all (fun _ _ => rfl) (h := fun t => ((cfg0.win 7).blk t).view.emb) (fun t => NormSum.place (index_normed t) (fun _ => rfl) fun _ => ⟨rfl, rfl⟩) i
    ⟨t, flush0_7 t, e ▸ View.emb_mem_set _ y⟩

theorem final_spread (c : Dev nD) : (dats m 0 c).arrAt 8 cfg0.N = NormSum.spread (result m c) :=
  (dats m 0 c).arrAt_eq_of_cover 8 _ (fun t _ => flushed_spread m c t) fun i =>
    let ⟨t, y, e⟩ := NormSum.all (ρ := row) (by norm_num) rows_all (fun _ _ => rfl) (h := fun t => ((cfg0.win 8).blk t).view.emb) (fun t => NormSum.place (index_spread t) (fun _ => rfl) fun _ => ⟨rfl, rfl⟩) i
    ⟨t, flush0_8 t, e ▸ View.emb_mem_set _ y⟩

end Cert.NormIdeal.Run

namespace Cert.Proof

open Idealize.ShloMosaic Idealize.SL.Sem

theorem quiescent_Norm : Cert.quiescent_Norm := fun m g _ => Norm.Gen.frame m g
theorem quiescent_NormIdeal : Cert.quiescent_NormIdeal := fun m g _ => NormIdeal.Gen.frame m g
theorem quiescent_NormRef : Cert.quiescent_NormRef := fun m g _ =>
  HalfSum.frame (by decide) ((θ_run _ _ _).mono (fun _ h c => and_assoc.mpr (and_assoc.mpr (and_assoc.mpr (h c))))
    (NormRefIdeal.Value.run (F := Bits) m g))
theorem quiescent_NormRefIdeal : Cert.quiescent_NormRefIdeal := fun m g _ =>
  HalfSum.frame (by decide) ((θ_run _ _ _).mono (fun _ h c => and_assoc.mpr (and_assoc.mpr (and_assoc.mpr (h c))))
    (NormRefIdeal.Value.run (F := Ideal) m g))
theorem algebraic_Norm : Cert.algebraic_NormIdeal_NormRefIdeal := fun m g m' g' _ e => by
  have q : ∀ c : Dev NormRefIdeal.nD, NormSum.layer (T := 2048) (R := 8192) (C := 2048) (m' ((c.tc : Thread NormRefIdeal.nD NormRefIdeal.τ).loc NormRefIdeal.main_arg2))
      (m' ((c.tc : Thread NormRefIdeal.nD NormRefIdeal.τ).loc NormRefIdeal.main_arg0)) (m' ((c.tc : Thread NormRefIdeal.nD NormRefIdeal.τ).loc NormRefIdeal.main_arg1))
      = NormIdeal.Run.result m c := fun c => congr (congrArg₂ (NormSum.layer (T := 2048) (R := 8192) (C := 2048)) (e c).2.2.1 (e c).1) (e c).2.1
  have l := fun c : Dev NormRefIdeal.nD => (NormSum.whole_layer (R := 8192) (C := 2048) (T := 2048) NormRefIdeal.Facts₀.dot_S8192x2048_S2048x2048_S8192x2048_1_0_0_1_n_n_wf
    NormRefIdeal.Gen.bcast_S_S8192x2048 (m' ((c.tc : Thread NormRefIdeal.nD NormRefIdeal.τ).loc NormRefIdeal.main_arg2))
      (m' ((c.tc : Thread NormRefIdeal.nD NormRefIdeal.τ).loc NormRefIdeal.main_arg0)) (m' ((c.tc : Thread NormRefIdeal.nD NormRefIdeal.τ).loc NormRefIdeal.main_arg1))).trans (q c)
  have d := fun c : Dev NormRefIdeal.nD => (NormSum.whole_centre NormRefIdeal.Gen.reducesTo_S8192x2048_S8192_d1 NormRefIdeal.Gen.h_S_ NormRefIdeal.Gen.bcast_S8192_S8192x1_0
    NormRefIdeal.Gen.bcast_S_S8192x1 NormRefIdeal.Gen.bcast_S8192x1_S8192x2048_0_1 _).trans (congrArg NormSum.centre (l c))
  have s := fun c : Dev NormRefIdeal.nD => NormSum.whole_spread NormRefIdeal.Gen.reducesTo_S8192x2048_S8192_d1 NormRefIdeal.Gen.h_S_ NormRefIdeal.Gen.bcast_S8192_S8192x1_0
    NormRefIdeal.Gen.bcast_S_S8192x1 (d c)
  have z := fun c : Dev NormRefIdeal.nD => NormSum.whole_normed NormRefIdeal.Gen.bcast_S8192x1_S8192x2048_0_1 (d c) (s c)
  have o := fun c : Dev NormRefIdeal.nD => (NormSum.whole_moved NormRefIdeal.Gen.bcast_S1x2048_S8192x2048_0_1
    (m' ((c.tc : Thread NormRefIdeal.nD NormRefIdeal.τ).loc NormRefIdeal.main_arg3)) (m' ((c.tc : Thread NormRefIdeal.nD NormRefIdeal.τ).loc NormRefIdeal.main_arg4)) (z c)).trans
    (congrArg₂ (NormSum.moved (R := 8192) (C := 2048) (NormIdeal.Run.result m c)) (e c).2.2.2.1 (e c).2.2.2.2)
  exact ⟨_, _, _, _, (θ_run _ _ _).mono (fun _ h c => ⟨(h c).1.trans (NormIdeal.Run.final_moved m c), (h c).2.1.trans (NormIdeal.Run.final_rounded m c),
      (h c).2.2.1.trans (NormIdeal.Run.final_normed m c), (h c).2.2.2.1.trans (NormIdeal.Run.final_spread m c), (h c).2.2.2.2⟩) (NormIdeal.Value.run_blocks m g),
    (θ_run _ _ _).mono (fun _ h c => ⟨(h c).1.trans (o c), (h c).2.1.trans (o c), (h c).2.2.1.trans (z c), (h c).2.2.2.1.trans (s c), (h c).2.2.2.2⟩)
      (NormRefIdeal.Value.run m' g')⟩

end Cert.Proof

end
-- ==== Proof.NormBack.lean ====
/-
# The derivative of the rows' norm

From a derivative in what the norm gives back, those in what it takes in, in its scale and in its shift: as a point makes them of its rows, and as the
reference makes them of all. The rows brought to mean zero and variance one, and one over the roots of their variances, are arguments.
-/
module

public import proofs.«01_k».proof.Proof.NormSum
public import Idealize.ShloMosaic.Lib.Pipeline.ValueKit.Acc

@[expose] public section

set_option Elab.async false

noncomputable section

namespace Cert.NormSum

open Idealize.ShloMosaic
open Cert.GradSum (At)

variable {R C : Nat}

/-- The derivative, scaled. -/
def scaled (d : At R C → EReal) (g : At 1 C → EReal) : At R C → EReal := fun i => d i * g (ix2 0 (i 1))

/-- The derivative in what the norm takes in. -/
def back (d z : At R C → EReal) (s : At R 1 → EReal) (g : At 1 C → EReal) : At R C → EReal := fun i =>
  s (ix2 (i 0) 0) * (scaled d g i - mean (scaled d g) (i 0) - z i * mean (fun j => scaled d g j * z j) (i 0))

/-- What is added up for the derivative in the scale. -/
def weighed (d z : At R C → EReal) : At R C → EReal := fun i => d i * z i

/-- Each column, added up. -/
@[irreducible] def columns (z : At R C → EReal) : At 1 C → EReal := fun i => ∑ r : Fin R, z (ix2 r (i 1))

theorem point_mean (h₁ : (⟨2, ![R, C]⟩ : Shape).Reduces [1] ⟨1, ![R]⟩) (h₂ : (⟨1, ![R]⟩ : Shape).ShapeCasts ⟨2, ![R, 1]⟩)
    (hb : (⟨2, ![R, 1]⟩ : Shape).Broadcasts ⟨2, ![R, C]⟩) (v : FVec Ideal ⟨2, ![R, C]⟩ .f32) :
    broadcastTo ⟨2, ![R, C]⟩ (divf (shapeCast ⟨2, ![R, 1]⟩ (multiReduction .add [1] ⟨1, ![R]⟩ v 0x00000000#32 h₁ (.inl rfl) rfl) h₂)
      (broadcast ⟨2, ![R, 1]⟩ (Scalar.ofBits (F := Ideal) .f32 0x45000000#32))) hb = fun j => mean v (j 0) := by
  rw [column_kernel, vector_kernel]
  funext j
  unfold mean
  pointwise

theorem whole_mean (h₁ : (⟨2, ![R, C]⟩ : Shape).ReducesTo [1] ⟨1, ![R]⟩) (hu : 0 < (⟨0, ![]⟩ : Shape).numel)
    (h₂ : (⟨1, ![R]⟩ : Shape).BroadcastsInDim ⟨2, ![R, 1]⟩ ![0]) (h₃ : (⟨0, ![]⟩ : Shape).BroadcastsInDim ⟨2, ![R, 1]⟩ ![])
    (hb : (⟨2, ![R, 1]⟩ : Shape).BroadcastsInDim ⟨2, ![R, C]⟩ ![0, 1]) (v : FVec Ideal ⟨2, ![R, C]⟩ .f32) :
    broadcastInDim ⟨2, ![R, C]⟩ ![0, 1] hb (Host.divf (broadcastInDim ⟨2, ![R, 1]⟩ ![0] h₂
      (Host.reduceAdd v (constant (F := Ideal) ⟨0, ![]⟩ .f32 0x00000000#32) h₁ hu))
      (broadcastInDim ⟨2, ![R, 1]⟩ ![] h₃ (constant (F := Ideal) ⟨0, ![]⟩ .f32 0x45000000#32))) = fun j => mean v (j 0) := by
  rw [column_host, vector_host]
  funext j
  unfold mean
  pointwise

/-- A point's rows' derivative. -/
theorem point_back (h₁ : (⟨2, ![R, C]⟩ : Shape).Reduces [1] ⟨1, ![R]⟩) (h₂ : (⟨1, ![R]⟩ : Shape).ShapeCasts ⟨2, ![R, 1]⟩)
    (hb : (⟨2, ![R, 1]⟩ : Shape).Broadcasts ⟨2, ![R, C]⟩) (hr : (⟨2, ![1, C]⟩ : Shape).Broadcasts ⟨2, ![R, C]⟩)
    (d z : FVec Ideal ⟨2, ![R, C]⟩ .f32) (s : FVec Ideal ⟨2, ![R, 1]⟩ .f32) (g : FVec Ideal ⟨2, ![1, C]⟩ .f32) :
    mulf (broadcastTo ⟨2, ![R, C]⟩ s hb) (subf (subf (mulf d (broadcastTo ⟨2, ![R, C]⟩ g hr))
      (broadcastTo ⟨2, ![R, C]⟩ (divf (shapeCast ⟨2, ![R, 1]⟩ (multiReduction .add [1] ⟨1, ![R]⟩ (mulf d (broadcastTo ⟨2, ![R, C]⟩ g hr))
        0x00000000#32 h₁ (.inl rfl) rfl) h₂) (broadcast ⟨2, ![R, 1]⟩ (Scalar.ofBits (F := Ideal) .f32 0x45000000#32))) hb))
      (mulf z (broadcastTo ⟨2, ![R, C]⟩ (divf (shapeCast ⟨2, ![R, 1]⟩ (multiReduction .add [1] ⟨1, ![R]⟩ (mulf (mulf d (broadcastTo ⟨2, ![R, C]⟩ g hr)) z)
        0x00000000#32 h₁ (.inl rfl) rfl) h₂) (broadcast ⟨2, ![R, 1]⟩ (Scalar.ofBits (F := Ideal) .f32 0x45000000#32))) hb))) = back d z s g := by
  rw [point_mean, point_mean, column_kernel, row_kernel]
  rfl

/-- The reference's. -/
theorem whole_back (h₁ : (⟨2, ![R, C]⟩ : Shape).ReducesTo [1] ⟨1, ![R]⟩) (hu : 0 < (⟨0, ![]⟩ : Shape).numel)
    (h₂ : (⟨1, ![R]⟩ : Shape).BroadcastsInDim ⟨2, ![R, 1]⟩ ![0]) (h₃ : (⟨0, ![]⟩ : Shape).BroadcastsInDim ⟨2, ![R, 1]⟩ ![])
    (hb : (⟨2, ![R, 1]⟩ : Shape).BroadcastsInDim ⟨2, ![R, C]⟩ ![0, 1]) (hr : (⟨2, ![1, C]⟩ : Shape).BroadcastsInDim ⟨2, ![R, C]⟩ ![0, 1])
    (d z : FVec Ideal ⟨2, ![R, C]⟩ .f32) (s : FVec Ideal ⟨2, ![R, 1]⟩ .f32) (g : FVec Ideal ⟨2, ![1, C]⟩ .f32) :
    mulf (broadcastInDim ⟨2, ![R, C]⟩ ![0, 1] hb s) (subf (subf (mulf d (broadcastInDim ⟨2, ![R, C]⟩ ![0, 1] hr g))
      (broadcastInDim ⟨2, ![R, C]⟩ ![0, 1] hb (Host.divf (broadcastInDim ⟨2, ![R, 1]⟩ ![0] h₂
        (Host.reduceAdd (mulf d (broadcastInDim ⟨2, ![R, C]⟩ ![0, 1] hr g)) (constant (F := Ideal) ⟨0, ![]⟩ .f32 0x00000000#32) h₁ hu))
        (broadcastInDim ⟨2, ![R, 1]⟩ ![] h₃ (constant (F := Ideal) ⟨0, ![]⟩ .f32 0x45000000#32)))))
      (mulf z (broadcastInDim ⟨2, ![R, C]⟩ ![0, 1] hb (Host.divf (broadcastInDim ⟨2, ![R, 1]⟩ ![0] h₂
        (Host.reduceAdd (mulf (mulf d (broadcastInDim ⟨2, ![R, C]⟩ ![0, 1] hr g)) z) (constant (F := Ideal) ⟨0, ![]⟩ .f32 0x00000000#32) h₁ hu))
        (broadcastInDim ⟨2, ![R, 1]⟩ ![] h₃ (constant (F := Ideal) ⟨0, ![]⟩ .f32 0x45000000#32)))))) = back d z s g := by
  rw [whole_mean, whole_mean, column_host, row_host]
  rfl

/-- Columns added up, as the kernel and as the reference write them. -/
theorem point_columns (h₁ : (⟨2, ![R, C]⟩ : Shape).Reduces [0] ⟨1, ![C]⟩) (h₂ : (⟨1, ![C]⟩ : Shape).ShapeCasts ⟨2, ![1, C]⟩)
    (v : FVec Ideal ⟨2, ![R, C]⟩ .f32) :
    shapeCast ⟨2, ![1, C]⟩ (multiReduction .add [0] ⟨1, ![C]⟩ v 0x00000000#32 h₁ (.inl rfl) rfl) h₂ = columns v := by
  have e : ∀ s : (⟨1, ![C]⟩ : Shape).Idx → EReal, shapeCast ⟨2, ![1, C]⟩ s h₂ = fun j => s (ix1 (j 1)) := fun s =>
    funext fun j => (congrArg _ (funext fun | ⟨0, _⟩ => rfl | ⟨1, _⟩ => rfl)).trans (ValueIdx.shapeCast_a_1a_apply s h₂ (j 0) (j 1))
  rw [e]
  funext j
  unfold columns
  pointwise

theorem whole_columns (h₁ : (⟨2, ![R, C]⟩ : Shape).ReducesTo [0] ⟨1, ![C]⟩) (hu : 0 < (⟨0, ![]⟩ : Shape).numel)
    (h₂ : (⟨1, ![C]⟩ : Shape).BroadcastsInDim ⟨2, ![1, C]⟩ ![1]) (v : FVec Ideal ⟨2, ![R, C]⟩ .f32) :
    broadcastInDim ⟨2, ![1, C]⟩ ![1] h₂ (Host.reduceAdd v (constant (F := Ideal) ⟨0, ![]⟩ .f32 0x00000000#32) h₁ hu) = columns v := by
  have e : ∀ s : (⟨1, ![C]⟩ : Shape).Idx → EReal, broadcastInDim ⟨2, ![1, C]⟩ ![1] h₂ s = fun j => s (ix1 (j 1)) := fun s =>
    funext fun j => broadcastInDim_apply ![1] h₂ s j _ fun | ⟨0, _⟩ => kept (j 1)
  rw [e]
  funext j
  unfold columns
  pointwise

variable {n N J : Nat}

theorem back_rows (ρ : Fin n → Fin R) (d z : At R C → EReal) (s : At R 1 → EReal) (g : At 1 C → EReal) :
    back (fun j => d (rows ρ j)) (fun j => z (rows ρ j)) (fun j => s (rows ρ j)) g = fun j => back d z s g (rows ρ j) := by
  unfold back mean
  rfl

/-- At the last point, what is carried is the sum over all rows. -/
theorem columns_fold [NeZero J] (hR : R = J * n) (z : At R C → EReal) {ρ : Fin N → Fin n → Fin R} (hρ : ∀ t r, (ρ t r).val = t.val % J * n + r.val)
    (f : (k : Nat) → k < N → At 1 C → EReal) (first : ∀ t : Fin N, t.val % J = 0 → f t.val t.isLt = columns fun j => z (rows (ρ t) j))
    (next : ∀ t : Fin N, ¬t.val % J = 0 → ∀ i,
      f t.val t.isLt i = f (t.val - 1) (Nat.lt_of_le_of_lt (Nat.sub_le _ _) t.isLt) i + columns (fun j => z (rows (ρ t) j)) i)
    (t : Fin N) (ht : t.val % J = J - 1) (i : At 1 C) : f t.val t.isLt i = columns z i := by
  refine (Pipeline.eq_sum_fin_of_reset_step_apply_of_flush f J (fun _ => 0) _ (fun t h0 i => (congrFun (first t h0) i).trans (zero_add _).symm)
    next t ht i).trans ((zero_add _).trans ?_)
  unfold columns
  refine Fin.sum_mul_add_congr (fun s r hl => ?_) hR
  have hm : (J * (t.val / J) + s.val) % J = s.val := by rw [Nat.mul_add_mod]; exact Nat.mod_eq_of_lt s.isLt
  have hb := Pipeline.run_point_lt_of_flush t ht s
  have e : ρ ⟨_, hb⟩ r = ⟨s.val * n + r.val, hl⟩ := Fin.ext ((hρ _ r).trans (congrArg (fun k => k * n + r.val) hm))
  exact congrArg (fun k => z (ix2 k (i 1))) e

end Cert.NormSum

end
-- ==== Proof.NormBacks.lean ====
/-
# The backward step of a layer's norm

Where the call's windows lie at each point, and what a point carries to the next, over any values; then, in the extended reals, that what is given back is
the derivative in what the norm takes in, in its scale and in its shift; then the call's claims.
-/
module

public import proofs.«01_k».proof.Proof.NormBack
public import proofs.«01_k».proof.Proof.HalfSums
public import Idealize.ShloMosaic.Lib.VecWindow
public import Idealize.ShloMosaic.Lib.Pipeline.Value
public import proofs.«01_k».proof.Proof.Gen.GradNorm.Frame
public import proofs.«01_k».proof.Proof.Gen.GradNormIdeal.Value
public import proofs.«01_k».proof.Proof.Gen.GradNormRef
public import proofs.«01_k».proof.Proof.Gen.GradNormRefIdeal.Run
public import proofs.«01_k».proof.Defs

@[expose] public section

set_option Elab.async false

noncomputable section

namespace Cert.GradNormIdeal.Run

open Cert.GradNormIdeal Cert.GradNormIdeal.Gen Cert.GradNormIdeal.Value
open Idealize.ShloMosaic Idealize.ShloMosaic.TcCoe Idealize.SL.Sem
open Cert.GradSum (At)

theorem index_d : ∀ t : Fin cfg0.N, win0_0.index t = ![t.val, 0] := (by decide +kernel : ∀ t : Fin grid0.N, _)
theorem index_z : ∀ t : Fin cfg0.N, win0_1.index t = ![t.val, 0] := (by decide +kernel : ∀ t : Fin grid0.N, _)
theorem index_s : ∀ t : Fin cfg0.N, win0_2.index t = ![t.val, 0] := (by decide +kernel : ∀ t : Fin grid0.N, _)
theorem index_g : ∀ t : Fin cfg0.N, win0_3.index t = ![0, 0] := (by decide +kernel : ∀ t : Fin grid0.N, _)
theorem index_back : ∀ t : Fin cfg0.N, win0_4.index t = ![t.val, 0] := (by decide +kernel : ∀ t : Fin grid0.N, _)
theorem index_rounded : ∀ t : Fin cfg0.N, win0_5.index t = ![t.val, 0] := (by decide +kernel : ∀ t : Fin grid0.N, _)
theorem index_scale : ∀ t : Fin cfg0.N, win0_6.index t = ![0, 0] := (by decide +kernel : ∀ t : Fin grid0.N, _)
theorem index_shift : ∀ t : Fin cfg0.N, win0_7.index t = ![0, 0] := (by decide +kernel : ∀ t : Fin grid0.N, _)

/-- The array's row that is a point's row `r`. -/
def row (t : Fin cfg0.N) (r : Fin 512) : Fin 8192 := ⟨t.val * 512 + r.val, by
  have := lt_of_lt_of_eq t.isLt N_0
  omega⟩

theorem rows_all : 8192 = cfg0.N * 512 := (congrArg (· * 512) N_0).symm

theorem row_mod (t : Fin cfg0.N) (r : Fin 512) : (row t r).val = t.val % 16 * 512 + r.val :=
  congrArg (· * 512 + r.val) (Nat.mod_eq_of_lt (lt_of_lt_of_eq t.isLt N_0)).symm

section

variable {F : FTy → Type} [FloatOps F] (m : (ℓ : Loc nD τ sig) → Buf (Elt F) ℓ)

theorem first_scale (c : Dev nD) (t : Fin cfg0.N) (h : t.val % 16 = 0) :
    (outsAt0 m c t.val t.isLt).2.2.1 = k0_pay5 (iblk m c 0 t) (iblk m c 1 t) := by
  have hn : t.val < 16 := N_0 ▸ t.isLt
  rw [outsAt0_A m c t h (by omega)]
  unfold out0_A_6 kernelRun0_A
  dsimp only
  rw [View.read_writes_full, View.readAt_full, View.readAt_full]
  exact congrArg₂ k0_pay5 ((hs0_0 t).read_unread _) ((hs0_1 t).read_unread _)

theorem first_shift (c : Dev nD) (t : Fin cfg0.N) (h : t.val % 16 = 0) : (outsAt0 m c t.val t.isLt).2.2.2 = k0_pay6 (iblk m c 0 t) := by
  have hn : t.val < 16 := N_0 ▸ t.isLt
  rw [outsAt0_A m c t h (by omega)]
  unfold out0_A_7 kernelRun0_A
  dsimp only
  rw [View.read_writes_full, View.readAt_full]
  exact congrArg k0_pay6 ((hs0_0 t).read_unread _)

theorem next_scale (c : Dev nD) (t : Fin cfg0.N) (h : ¬t.val % 16 = 0) : (outsAt0 m c t.val t.isLt).2.2.1
    = k0_pay1 (k0_pay5 (iblk m c 0 t) (iblk m c 1 t)) (outsAt0 m c (t.val - 1) (Nat.lt_of_le_of_lt (Nat.sub_le _ _) t.isLt)).2.2.1 := by
  have hn : t.val < 16 := N_0 ▸ t.isLt
  rw [outsAt0_B m c t h (by omega)]
  unfold out0_B_6 kernelRun0_B
  unfold kernelRun0_B.sl.r
  dsimp only
  rw [View.read_writes_full, View.readAt_full, View.readAt_full, View.readAt_full, (hs0_0 t).read_unread, (hs0_1 t).read_unread,
    (hs0_6 t).read_unread]

theorem next_shift (c : Dev nD) (t : Fin cfg0.N) (h : ¬t.val % 16 = 0) : (outsAt0 m c t.val t.isLt).2.2.2
    = k0_pay2 (k0_pay6 (iblk m c 0 t)) (outsAt0 m c (t.val - 1) (Nat.lt_of_le_of_lt (Nat.sub_le _ _) t.isLt)).2.2.2 := by
  have hn : t.val < 16 := N_0 ▸ t.isLt
  rw [outsAt0_B m c t h (by omega)]
  unfold out0_B_7 kernelRun0_B
  unfold kernelRun0_B.sl.r_1
  dsimp only
  rw [View.read_writes_full, View.readAt_full, View.readAt_full, (hs0_0 t).read_unread, (hs0_7 t).read_unread]

theorem out_back (c : Dev nD) (t : Fin cfg0.N) :
    (outsAt0 m c t.val t.isLt).1 = k0_pay3 (iblk m c 0 t) (iblk m c 1 t) (iblk m c 3 t) (iblk m c 2 t) := by
  have hn : t.val < 16 := N_0 ▸ t.isLt
  by_cases h : t.val % 16 = 0
  · rw [outsAt0_A m c t h (by omega)]
    unfold out0_A_4 kernelRun0_A
    dsimp only
    rw [View.read_writes_full, View.readAt_full, View.readAt_full, View.readAt_full, View.readAt_full, (hs0_0 t).read_unread, (hs0_1 t).read_unread,
      (hs0_2 t).read_unread, (hs0_3 t).read_unread]
  · rw [outsAt0_B m c t h (by omega)]
    unfold out0_B_4 kernelRun0_B
    dsimp only
    rw [View.read_writes_full, View.readAt_full, View.readAt_full, View.readAt_full, View.readAt_full, (hs0_0 t).read_unread, (hs0_1 t).read_unread,
      (hs0_2 t).read_unread, (hs0_3 t).read_unread]

theorem out_rounded (c : Dev nD) (t : Fin cfg0.N) :
    (outsAt0 m c t.val t.isLt).2.1 = k0_pay4 (iblk m c 0 t) (iblk m c 1 t) (iblk m c 3 t) (iblk m c 2 t) := by
  have hn : t.val < 16 := N_0 ▸ t.isLt
  by_cases h : t.val % 16 = 0
  · rw [outsAt0_A m c t h (by omega)]
    unfold out0_A_5 kernelRun0_A
    dsimp only
    rw [View.read_writes_full, View.readAt_full, View.readAt_full, View.readAt_full, View.readAt_full, (hs0_0 t).read_unread, (hs0_1 t).read_unread,
      (hs0_2 t).read_unread, (hs0_3 t).read_unread]
  · rw [outsAt0_B m c t h (by omega)]
    unfold out0_B_5 kernelRun0_B
    dsimp only
    rw [View.read_writes_full, View.readAt_full, View.readAt_full, View.readAt_full, View.readAt_full, (hs0_0 t).read_unread, (hs0_1 t).read_unread,
      (hs0_2 t).read_unread, (hs0_3 t).read_unread]

end

section

variable (d z : Vec Ideal S512x2048 .f32) (g : Vec Ideal S1x2048 .f32) (s : Vec Ideal S512x1 .f32)

theorem back : k0_pay3 d z g s = NormSum.back d z s g :=
  NormSum.point_back reduces_S512x2048_S512 shapeCasts_S512_S512x1 _ _ d z s g
theorem rounded : k0_pay4 d z g s = k0_pay3 d z g s := rfl
theorem scale : k0_pay5 d z = NormSum.columns (NormSum.weighed d z) :=
  NormSum.point_columns reduces_S512x2048_S2048 shapeCasts_S2048_S1x2048 (mulf d z)
theorem shift : k0_pay6 d = NormSum.columns d := NormSum.point_columns reduces_S512x2048_S2048 shapeCasts_S2048_S1x2048 d

end

variable (m : (ℓ : Loc nD τ sig) → Buf (Elt Ideal) ℓ)

theorem block_d (c : Dev nD) (t : Fin cfg0.N) : iblk m c 0 t = fun j => V m c main_arg0 (NormSum.rows (row t) j) :=
  congrArg (fun e j => V m c main_arg0 (e j)) (NormSum.place (ρ := row t) (e := ((cfg0.win 0).blk t).view.emb) (index_d t) (fun _ => rfl) fun _ => ⟨rfl, rfl⟩)
theorem block_z (c : Dev nD) (t : Fin cfg0.N) : iblk m c 1 t = fun j => V m c main_arg1 (NormSum.rows (row t) j) :=
  congrArg (fun e j => V m c main_arg1 (e j)) (NormSum.place (ρ := row t) (e := ((cfg0.win 1).blk t).view.emb) (index_z t) (fun _ => rfl) fun _ => ⟨rfl, rfl⟩)
theorem block_s (c : Dev nD) (t : Fin cfg0.N) : iblk m c 2 t = fun j => V m c main_arg2 (NormSum.rows (row t) j) :=
  congrArg (fun e j => V m c main_arg2 (e j)) (NormSum.place (ρ := row t) (e := ((cfg0.win 2).blk t).view.emb) (index_s t) (fun _ => rfl) fun _ => ⟨rfl, rfl⟩)
theorem block_g (c : Dev nD) (t : Fin cfg0.N) : iblk m c 3 t = V m c main_arg3 :=
  congrArg (fun e j => V m c main_arg3 (e j)) (NormSum.stay (e := ((cfg0.win 3).blk t).view.emb) (index_g t) fun _ => ⟨rfl, rfl⟩)

/-- The derivative in what the norm takes in. -/
def result (c : Dev nD) : At 8192 2048 → EReal := NormSum.back (V m c main_arg0) (V m c main_arg1) (V m c main_arg2) (V m c main_arg3)

/-- What is added up for the scale. -/
def terms (c : Dev nD) : At 8192 2048 → EReal := NormSum.weighed (V m c main_arg0) (V m c main_arg1)

theorem block (c : Dev nD) (t : Fin cfg0.N) :
    k0_pay3 (iblk m c 0 t) (iblk m c 1 t) (iblk m c 3 t) (iblk m c 2 t) = fun j => result m c (NormSum.rows (row t) j) := by
  rw [back, block_d, block_z, block_s, block_g]
  exact NormSum.back_rows (row t) _ _ _ _

theorem flushed_back (c : Dev nD) (t : Fin cfg0.N) : (dats m 0 c).flushed 4 t = ((cfg0.win 4).blk t).view.read (Elt Ideal) (result m c) := by
  rw [flushed4, out_back, block]
  generalize result m c = G
  exact congrArg (fun (e : At 512 2048 → At 8192 2048) j => G (e j))
    (NormSum.place (ρ := row t) (e := ((cfg0.win 4).blk t).view.emb) (index_back t) (fun _ => rfl) fun _ => ⟨rfl, rfl⟩).symm

theorem flushed_rounded (c : Dev nD) (t : Fin cfg0.N) : (dats m 0 c).flushed 5 t = ((cfg0.win 5).blk t).view.read (Elt Ideal) (result m c) := by
  rw [flushed5, out_rounded, rounded, block]
  generalize result m c = G
  exact congrArg (fun (e : At 512 2048 → At 8192 2048) j => G (e j))
    (NormSum.place (ρ := row t) (e := ((cfg0.win 5).blk t).view.emb) (index_rounded t) (fun _ => rfl) fun _ => ⟨rfl, rfl⟩).symm

theorem part_scale (c : Dev nD) (t : Fin cfg0.N) :
    k0_pay5 (iblk m c 0 t) (iblk m c 1 t) = NormSum.columns fun j => terms m c (NormSum.rows (row t) j) := by
  rw [scale, block_d, block_z]
  rfl

theorem part_shift (c : Dev nD) (t : Fin cfg0.N) :
    k0_pay6 (iblk m c 0 t) = NormSum.columns fun j => V m c main_arg0 (NormSum.rows (row t) j) := by
  rw [shift, block_d]

theorem flushed_scale (c : Dev nD) (t : Fin cfg0.N) (h : t.val % 16 = 15) :
    (dats m 0 c).flushed 6 t = ((cfg0.win 6).blk t).view.read (Elt Ideal) (NormSum.columns (terms m c)) := by
  have k := NormSum.columns_fold (J := 16) (n := 512) (by norm_num) (terms m c) row_mod (fun n h => (outsAt0 m c n h).2.2.1)
    (fun t h => (first_scale m c t h).trans (part_scale m c t))
    (fun t h i => congrFun ((next_scale m c t h).trans (congrArg₂ addf (shapeCast_self _ _) (part_scale m c t))) i) t h
  rw [flushed6]
  refine (funext k).trans ?_
  generalize NormSum.columns (terms m c) = G
  exact congrArg (fun (e : At 1 2048 → At 1 2048) j => G (e j)) (NormSum.stay (e := ((cfg0.win 6).blk t).view.emb) (index_scale t) fun _ => ⟨rfl, rfl⟩).symm

theorem flushed_shift (c : Dev nD) (t : Fin cfg0.N) (h : t.val % 16 = 15) :
    (dats m 0 c).flushed 7 t = ((cfg0.win 7).blk t).view.read (Elt Ideal) (NormSum.columns (R := 8192) (C := 2048) (V m c main_arg0)) := by
  have k := NormSum.columns_fold (J := 16) (n := 512) (R := 8192) (C := 2048) (by norm_num) (V m c main_arg0) row_mod (fun n h => (outsAt0 m c n h).2.2.2)
    (fun t h => (first_shift m c t h).trans (part_shift m c t))
    (fun t h i => congrFun ((next_shift m c t h).trans (congrArg₂ addf (shapeCast_self _ _) (part_shift m c t))) i) t h
  rw [flushed7]
  refine (funext k).trans ?_
  generalize NormSum.columns (R := 8192) (C := 2048) (V m c main_arg0) = G
  exact congrArg (fun (e : At 1 2048 → At 1 2048) j => G (e j)) (NormSum.stay (e := ((cfg0.win 7).blk t).view.emb) (index_shift t) fun _ => ⟨rfl, rfl⟩).symm

theorem final_back (c : Dev nD) : (dats m 0 c).arrAt 4 cfg0.N = result m c :=
  (dats m 0 c).arrAt_eq_of_cover 4 _ (fun t _ => flushed_back m c t) fun i =>
    let ⟨t, y, e⟩ := NormSum.all (ρ := row) (by norm_num) rows_all (fun _ _ => rfl) (h := fun t => ((cfg0.win 4).blk t).view.emb) (fun t => NormSum.place (index_back t) (fun _ => rfl) fun _ => ⟨rfl, rfl⟩) i
    ⟨t, flush0_4 t, e ▸ View.emb_mem_set _ y⟩

theorem final_rounded (c : Dev nD) : (dats m 0 c).arrAt 5 cfg0.N = result m c :=
  (dats m 0 c).arrAt_eq_of_cover 5 _ (fun t _ => flushed_rounded m c t) fun i =>
    let ⟨t, y, e⟩ := NormSum.all (ρ := row) (by norm_num) rows_all (fun _ _ => rfl) (h := fun t => ((cfg0.win 5).blk t).view.emb) (fun t => NormSum.place (index_rounded t) (fun _ => rfl) fun _ => ⟨rfl, rfl⟩) i
    ⟨t, flush0_5 t, e ▸ View.emb_mem_set _ y⟩

/-- The last point. -/
def last : Fin cfg0.N := ⟨15, lt_of_lt_of_eq (by norm_num : 15 < 16) N_0.symm⟩

theorem final_scale (c : Dev nD) : (dats m 0 c).arrAt 6 cfg0.N = NormSum.columns (terms m c) :=
  (dats m 0 c).arrAt_eq_of_cover 6 _ (fun t h => flushed_scale m c t ((flush0_6 t).mp h)) fun i =>
    have e : ((cfg0.win 6).blk last).view.emb i = i := congrFun (NormSum.stay (R := 1) (C := 2048) (index_scale last) fun _ => ⟨rfl, rfl⟩) i
    ⟨last, (flush0_6 last).mpr rfl, e ▸ View.emb_mem_set _ _⟩

theorem final_shift (c : Dev nD) : (dats m 0 c).arrAt 7 cfg0.N = NormSum.columns (R := 8192) (C := 2048) (V m c main_arg0) :=
  (dats m 0 c).arrAt_eq_of_cover 7 _ (fun t h => flushed_shift m c t ((flush0_7 t).mp h)) fun i =>
    have e : ((cfg0.win 7).blk last).view.emb i = i := congrFun (NormSum.stay (R := 1) (C := 2048) (index_shift last) fun _ => ⟨rfl, rfl⟩) i
    ⟨last, (flush0_7 last).mpr rfl, e ▸ View.emb_mem_set _ _⟩

end Cert.GradNormIdeal.Run

namespace Cert.Proof

open Idealize.ShloMosaic Idealize.SL.Sem

theorem quiescent_GradNorm : Cert.quiescent_GradNorm := fun m g _ => GradNorm.Gen.frame m g
theorem quiescent_GradNormIdeal : Cert.quiescent_GradNormIdeal := fun m g _ => GradNormIdeal.Gen.frame m g
theorem quiescent_GradNormRef : Cert.quiescent_GradNormRef := fun m g _ =>
  HalfSum.frame (by decide) ((θ_run _ _ _).mono (fun _ h c => and_assoc.mpr (and_assoc.mpr (and_assoc.mpr (h c))))
    (GradNormRefIdeal.Value.run (F := Bits) m g))
theorem quiescent_GradNormRefIdeal : Cert.quiescent_GradNormRefIdeal := fun m g _ =>
  HalfSum.frame (by decide) ((θ_run _ _ _).mono (fun _ h c => and_assoc.mpr (and_assoc.mpr (and_assoc.mpr (h c))))
    (GradNormRefIdeal.Value.run (F := Ideal) m g))
theorem algebraic_GradNorm : Cert.algebraic_GradNormIdeal_GradNormRefIdeal := fun m g m' g' _ e => by
  have q := fun c : Dev GradNormRefIdeal.nD => (NormSum.whole_back (R := 8192) (C := 2048) GradNormRefIdeal.Gen.reducesTo_S8192x2048_S8192_d1 GradNormRefIdeal.Gen.h_S_
    GradNormRefIdeal.Gen.bcast_S8192_S8192x1_0 GradNormRefIdeal.Gen.bcast_S_S8192x1 GradNormRefIdeal.Gen.bcast_S8192x1_S8192x2048_0_1
    GradNormRefIdeal.Gen.bcast_S1x2048_S8192x2048_0_1
    (m' ((c.tc : Thread GradNormRefIdeal.nD GradNormRefIdeal.τ).loc GradNormRefIdeal.main_arg0))
    (m' ((c.tc : Thread GradNormRefIdeal.nD GradNormRefIdeal.τ).loc GradNormRefIdeal.main_arg1))
    (m' ((c.tc : Thread GradNormRefIdeal.nD GradNormRefIdeal.τ).loc GradNormRefIdeal.main_arg2))
    (m' ((c.tc : Thread GradNormRefIdeal.nD GradNormRefIdeal.τ).loc GradNormRefIdeal.main_arg3))).trans
    (congr (congr (congrArg₂ (NormSum.back (R := 8192) (C := 2048)) (e c).1 (e c).2.1) (e c).2.2.1) (e c).2.2.2)
  have w := fun c : Dev GradNormRefIdeal.nD => (NormSum.whole_columns (R := 8192) (C := 2048) GradNormRefIdeal.Gen.reducesTo_S8192x2048_S2048_d0 GradNormRefIdeal.Gen.h_S_
    GradNormRefIdeal.Gen.bcast_S2048_S1x2048_1 (mulf (φ := .f32)
      (m' ((c.tc : Thread GradNormRefIdeal.nD GradNormRefIdeal.τ).loc GradNormRefIdeal.main_arg0))
      (m' ((c.tc : Thread GradNormRefIdeal.nD GradNormRefIdeal.τ).loc GradNormRefIdeal.main_arg1)))).trans
    (congrArg (NormSum.columns (R := 8192) (C := 2048)) (congrArg₂ (mulf (F := Ideal) (φ := .f32)) (e c).1 (e c).2.1))
  have b := fun c : Dev GradNormRefIdeal.nD => (NormSum.whole_columns (R := 8192) (C := 2048) GradNormRefIdeal.Gen.reducesTo_S8192x2048_S2048_d0 GradNormRefIdeal.Gen.h_S_
    GradNormRefIdeal.Gen.bcast_S2048_S1x2048_1 (m' ((c.tc : Thread GradNormRefIdeal.nD GradNormRefIdeal.τ).loc GradNormRefIdeal.main_arg0))).trans
    (congrArg (NormSum.columns (R := 8192) (C := 2048)) (e c).1)
  exact ⟨_, _, _, _, (θ_run _ _ _).mono (fun _ h c => ⟨(h c).1.trans (GradNormIdeal.Run.final_back m c), (h c).2.1.trans (GradNormIdeal.Run.final_rounded m c),
      (h c).2.2.1.trans (GradNormIdeal.Run.final_scale m c), (h c).2.2.2.1.trans (GradNormIdeal.Run.final_shift m c), (h c).2.2.2.2⟩)
      (GradNormIdeal.Value.run_blocks m g),
    (θ_run _ _ _).mono (fun _ h c => ⟨(h c).1.trans (q c), (h c).2.1.trans (q c), (h c).2.2.1.trans (w c), (h c).2.2.2.1.trans (b c), (h c).2.2.2.2⟩)
      (GradNormRefIdeal.Value.run m' g')⟩

end Cert.Proof

end
-- ==== Proof.lean ====
module

public import proofs.«01_k».proof.Defs
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatherRef
public import proofs.«01_k».proof.Proof.Gen.GatherRefIdeal
public import proofs.«01_k».proof.Proof.Gen.GatherRefIdeal.Run
public import proofs.«01_k».proof.Proof.Gen.Pair
public import proofs.«01_k».proof.Proof.Gen.Pair.Skeleton
public import proofs.«01_k».proof.Proof.Gen.Pair.Launch
public import proofs.«01_k».proof.Proof.Gen.Pair.Points
public import proofs.«01_k».proof.Proof.Gen.Pair.Frame
public import proofs.«01_k».proof.Proof.Gen.PairIdeal
public import proofs.«01_k».proof.Proof.Gen.PairIdeal.Skeleton
public import proofs.«01_k».proof.Proof.Gen.PairIdeal.Launch
public import proofs.«01_k».proof.Proof.Gen.PairIdeal.Points
public import proofs.«01_k».proof.Proof.Gen.PairIdeal.Frame
public import proofs.«01_k».proof.Proof.Gen.PairRef
public import proofs.«01_k».proof.Proof.Gen.PairRefIdeal
public import proofs.«01_k».proof.Proof.Gen.PairRefIdeal.Run
public import proofs.«01_k».proof.Proof.Gen.Chip
public import proofs.«01_k».proof.Proof.Gen.Chip.Skeleton
public import proofs.«01_k».proof.Proof.Gen.Chip.Launch
public import proofs.«01_k».proof.Proof.Gen.Chip.Points
public import proofs.«01_k».proof.Proof.Gen.Chip.Frame
public import proofs.«01_k».proof.Proof.Gen.ChipIdeal
public import proofs.«01_k».proof.Proof.Gen.ChipIdeal.Skeleton
public import proofs.«01_k».proof.Proof.Gen.ChipIdeal.Launch
public import proofs.«01_k».proof.Proof.Gen.ChipIdeal.Points
public import proofs.«01_k».proof.Proof.Gen.ChipIdeal.Frame
public import proofs.«01_k».proof.Proof.Gen.ChipRef
public import proofs.«01_k».proof.Proof.Gen.ChipRefIdeal
public import proofs.«01_k».proof.Proof.Gen.ChipRefIdeal.Run
public import proofs.«01_k».proof.Proof.Gen.Back
public import proofs.«01_k».proof.Proof.Gen.Back.Skeleton
public import proofs.«01_k».proof.Proof.Gen.Back.Launch
public import proofs.«01_k».proof.Proof.Gen.Back.Points
public import proofs.«01_k».proof.Proof.Gen.Back.Frame
public import proofs.«01_k».proof.Proof.Gen.BackIdeal
public import proofs.«01_k».proof.Proof.Gen.BackIdeal.Skeleton
public import proofs.«01_k».proof.Proof.Gen.BackIdeal.Launch
public import proofs.«01_k».proof.Proof.Gen.BackIdeal.Points
public import proofs.«01_k».proof.Proof.Gen.BackIdeal.Frame
public import proofs.«01_k».proof.Proof.Gen.BackRef
public import proofs.«01_k».proof.Proof.Gen.BackRefIdeal
public import proofs.«01_k».proof.Proof.Gen.BackRefIdeal.Run
public import proofs.«01_k».proof.Proof.Gen.GatherOut
public import proofs.«01_k».proof.Proof.Gen.GatherOut.Skeleton
public import proofs.«01_k».proof.Proof.Gen.GatherOut.Launch
public import proofs.«01_k».proof.Proof.Gen.GatherOut.Points
public import proofs.«01_k».proof.Proof.Gen.GatherOut.Frame
public import proofs.«01_k».proof.Proof.Gen.GatherOutIdeal
public import proofs.«01_k».proof.Proof.Gen.GatherOutIdeal.Skeleton
public import proofs.«01_k».proof.Proof.Gen.GatherOutIdeal.Launch
public import proofs.«01_k».proof.Proof.Gen.GatherOutIdeal.Points
public import proofs.«01_k».proof.Proof.Gen.GatherOutIdeal.Frame
public import proofs.«01_k».proof.Proof.Gen.GatherOutRef
public import proofs.«01_k».proof.Proof.Gen.GatherOutRefIdeal
public import proofs.«01_k».proof.Proof.Gen.GatherOutRefIdeal.Run
public import proofs.«01_k».proof.Proof.Gen.PairOut
public import proofs.«01_k».proof.Proof.Gen.PairOut.Skeleton
public import proofs.«01_k».proof.Proof.Gen.PairOut.Launch
public import proofs.«01_k».proof.Proof.Gen.PairOut.Points
public import proofs.«01_k».proof.Proof.Gen.PairOut.Frame
public import proofs.«01_k».proof.Proof.Gen.PairOutIdeal
public import proofs.«01_k».proof.Proof.Gen.PairOutIdeal.Skeleton
public import proofs.«01_k».proof.Proof.Gen.PairOutIdeal.Launch
public import proofs.«01_k».proof.Proof.Gen.PairOutIdeal.Points
public import proofs.«01_k».proof.Proof.Gen.PairOutIdeal.Frame
public import proofs.«01_k».proof.Proof.Gen.PairOutRef
public import proofs.«01_k».proof.Proof.Gen.PairOutRefIdeal
public import proofs.«01_k».proof.Proof.Gen.PairOutRefIdeal.Run
public import proofs.«01_k».proof.Proof.Gen.ChipOut
public import proofs.«01_k».proof.Proof.Gen.ChipOut.Skeleton
public import proofs.«01_k».proof.Proof.Gen.ChipOut.Launch
public import proofs.«01_k».proof.Proof.Gen.ChipOut.Points
public import proofs.«01_k».proof.Proof.Gen.ChipOut.Frame
public import proofs.«01_k».proof.Proof.Gen.ChipOutIdeal
public import proofs.«01_k».proof.Proof.Gen.ChipOutIdeal.Skeleton
public import proofs.«01_k».proof.Proof.Gen.ChipOutIdeal.Launch
public import proofs.«01_k».proof.Proof.Gen.ChipOutIdeal.Points
public import proofs.«01_k».proof.Proof.Gen.ChipOutIdeal.Frame
public import proofs.«01_k».proof.Proof.Gen.ChipOutRef
public import proofs.«01_k».proof.Proof.Gen.ChipOutRefIdeal
public import proofs.«01_k».proof.Proof.Gen.ChipOutRefIdeal.Run
public import proofs.«01_k».proof.Proof.Gen.BackOut
public import proofs.«01_k».proof.Proof.Gen.BackOut.Skeleton
public import proofs.«01_k».proof.Proof.Gen.BackOut.Launch
public import proofs.«01_k».proof.Proof.Gen.BackOut.Points
public import proofs.«01_k».proof.Proof.Gen.BackOut.Frame
public import proofs.«01_k».proof.Proof.Gen.BackOutIdeal
public import proofs.«01_k».proof.Proof.Gen.BackOutIdeal.Skeleton
public import proofs.«01_k».proof.Proof.Gen.BackOutIdeal.Launch
public import proofs.«01_k».proof.Proof.Gen.BackOutIdeal.Points
public import proofs.«01_k».proof.Proof.Gen.BackOutIdeal.Frame
public import proofs.«01_k».proof.Proof.Gen.BackOutRef
public import proofs.«01_k».proof.Proof.Gen.BackOutRefIdeal
public import proofs.«01_k».proof.Proof.Gen.BackOutRefIdeal.Run
public import proofs.«01_k».proof.Proof.Gen.GatherKv
public import proofs.«01_k».proof.Proof.Gen.GatherKv.Skeleton
public import proofs.«01_k».proof.Proof.Gen.GatherKv.Launch
public import proofs.«01_k».proof.Proof.Gen.GatherKv.Points
public import proofs.«01_k».proof.Proof.Gen.GatherKv.Frame
public import proofs.«01_k».proof.Proof.Gen.GatherKvIdeal
public import proofs.«01_k».proof.Proof.Gen.GatherKvIdeal.Skeleton
public import proofs.«01_k».proof.Proof.Gen.GatherKvIdeal.Launch
public import proofs.«01_k».proof.Proof.Gen.GatherKvIdeal.Points
public import proofs.«01_k».proof.Proof.Gen.GatherKvIdeal.Frame
public import proofs.«01_k».proof.Proof.Gen.GatherKvRef
public import proofs.«01_k».proof.Proof.Gen.GatherKvRefIdeal
public import proofs.«01_k».proof.Proof.Gen.GatherKvRefIdeal.Run
public import proofs.«01_k».proof.Proof.Gen.PairKv
public import proofs.«01_k».proof.Proof.Gen.PairKv.Skeleton
public import proofs.«01_k».proof.Proof.Gen.PairKv.Launch
public import proofs.«01_k».proof.Proof.Gen.PairKv.Points
public import proofs.«01_k».proof.Proof.Gen.PairKv.Frame
public import proofs.«01_k».proof.Proof.Gen.PairKvIdeal
public import proofs.«01_k».proof.Proof.Gen.PairKvIdeal.Skeleton
public import proofs.«01_k».proof.Proof.Gen.PairKvIdeal.Launch
public import proofs.«01_k».proof.Proof.Gen.PairKvIdeal.Points
public import proofs.«01_k».proof.Proof.Gen.PairKvIdeal.Frame
public import proofs.«01_k».proof.Proof.Gen.PairKvRef
public import proofs.«01_k».proof.Proof.Gen.PairKvRefIdeal
public import proofs.«01_k».proof.Proof.Gen.PairKvRefIdeal.Run
public import proofs.«01_k».proof.Proof.Gen.ChipKv
public import proofs.«01_k».proof.Proof.Gen.ChipKv.Skeleton
public import proofs.«01_k».proof.Proof.Gen.ChipKv.Launch
public import proofs.«01_k».proof.Proof.Gen.ChipKv.Points
public import proofs.«01_k».proof.Proof.Gen.ChipKv.Frame
public import proofs.«01_k».proof.Proof.Gen.ChipKvIdeal
public import proofs.«01_k».proof.Proof.Gen.ChipKvIdeal.Skeleton
public import proofs.«01_k».proof.Proof.Gen.ChipKvIdeal.Launch
public import proofs.«01_k».proof.Proof.Gen.ChipKvIdeal.Points
public import proofs.«01_k».proof.Proof.Gen.ChipKvIdeal.Frame
public import proofs.«01_k».proof.Proof.Gen.ChipKvRef
public import proofs.«01_k».proof.Proof.Gen.ChipKvRefIdeal
public import proofs.«01_k».proof.Proof.Gen.ChipKvRefIdeal.Run
public import proofs.«01_k».proof.Proof.Gen.BackKv
public import proofs.«01_k».proof.Proof.Gen.BackKv.Skeleton
public import proofs.«01_k».proof.Proof.Gen.BackKv.Launch
public import proofs.«01_k».proof.Proof.Gen.BackKv.Points
public import proofs.«01_k».proof.Proof.Gen.BackKv.Frame
public import proofs.«01_k».proof.Proof.Gen.BackKvIdeal
public import proofs.«01_k».proof.Proof.Gen.BackKvIdeal.Skeleton
public import proofs.«01_k».proof.Proof.Gen.BackKvIdeal.Launch
public import proofs.«01_k».proof.Proof.Gen.BackKvIdeal.Points
public import proofs.«01_k».proof.Proof.Gen.BackKvIdeal.Frame
public import proofs.«01_k».proof.Proof.Gen.BackKvRef
public import proofs.«01_k».proof.Proof.Gen.BackKvRefIdeal
public import proofs.«01_k».proof.Proof.Gen.BackKvRefIdeal.Run
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRef
public import proofs.«01_k».proof.Proof.Gen.AdamInRefIdeal
public import proofs.«01_k».proof.Proof.Gen.AdamInRefIdeal.Run
public import proofs.«01_k».proof.Proof.Gen.AdamRel
public import proofs.«01_k».proof.Proof.Gen.AdamRel.Skeleton
public import proofs.«01_k».proof.Proof.Gen.AdamRel.Launch
public import proofs.«01_k».proof.Proof.Gen.AdamRel.Points
public import proofs.«01_k».proof.Proof.Gen.AdamRel.Frame
public import proofs.«01_k».proof.Proof.Gen.AdamRelIdeal
public import proofs.«01_k».proof.Proof.Gen.AdamRelIdeal.Skeleton
public import proofs.«01_k».proof.Proof.Gen.AdamRelIdeal.Launch
public import proofs.«01_k».proof.Proof.Gen.AdamRelIdeal.Points
public import proofs.«01_k».proof.Proof.Gen.AdamRelIdeal.Frame
public import proofs.«01_k».proof.Proof.Gen.AdamRelIdeal.Value
public import proofs.«01_k».proof.Proof.Gen.AdamRelRef
public import proofs.«01_k».proof.Proof.Gen.AdamRelRefIdeal
public import proofs.«01_k».proof.Proof.Gen.AdamRelRefIdeal.Run
public import proofs.«01_k».proof.Proof.Gen.AdamGateW
public import proofs.«01_k».proof.Proof.Gen.AdamGateW.Skeleton
public import proofs.«01_k».proof.Proof.Gen.AdamGateW.Launch
public import proofs.«01_k».proof.Proof.Gen.AdamGateW.Points
public import proofs.«01_k».proof.Proof.Gen.AdamGateW.Frame
public import proofs.«01_k».proof.Proof.Gen.AdamGateWIdeal
public import proofs.«01_k».proof.Proof.Gen.AdamGateWIdeal.Skeleton
public import proofs.«01_k».proof.Proof.Gen.AdamGateWIdeal.Launch
public import proofs.«01_k».proof.Proof.Gen.AdamGateWIdeal.Points
public import proofs.«01_k».proof.Proof.Gen.AdamGateWIdeal.Frame
public import proofs.«01_k».proof.Proof.Gen.AdamGateWIdeal.Value
public import proofs.«01_k».proof.Proof.Gen.AdamGateWRef
public import proofs.«01_k».proof.Proof.Gen.AdamGateWRefIdeal
public import proofs.«01_k».proof.Proof.Gen.AdamGateWRefIdeal.Run
public import proofs.«01_k».proof.Proof.Gen.AdamGateB
public import proofs.«01_k».proof.Proof.Gen.AdamGateB.Skeleton
public import proofs.«01_k».proof.Proof.Gen.AdamGateB.Launch
public import proofs.«01_k».proof.Proof.Gen.AdamGateB.Points
public import proofs.«01_k».proof.Proof.Gen.AdamGateB.Frame
public import proofs.«01_k».proof.Proof.Gen.AdamGateBIdeal
public import proofs.«01_k».proof.Proof.Gen.AdamGateBIdeal.Skeleton
public import proofs.«01_k».proof.Proof.Gen.AdamGateBIdeal.Launch
public import proofs.«01_k».proof.Proof.Gen.AdamGateBIdeal.Points
public import proofs.«01_k».proof.Proof.Gen.AdamGateBIdeal.Frame
public import proofs.«01_k».proof.Proof.Gen.AdamGateBIdeal.Value
public import proofs.«01_k».proof.Proof.Gen.AdamGateBRef
public import proofs.«01_k».proof.Proof.Gen.AdamGateBRefIdeal
public import proofs.«01_k».proof.Proof.Gen.AdamGateBRefIdeal.Run
public import proofs.«01_k».proof.Proof.Gen.AdamNorm
public import proofs.«01_k».proof.Proof.Gen.AdamNorm.Skeleton
public import proofs.«01_k».proof.Proof.Gen.AdamNorm.Launch
public import proofs.«01_k».proof.Proof.Gen.AdamNorm.Points
public import proofs.«01_k».proof.Proof.Gen.AdamNorm.Frame
public import proofs.«01_k».proof.Proof.Gen.AdamNormIdeal
public import proofs.«01_k».proof.Proof.Gen.AdamNormIdeal.Skeleton
public import proofs.«01_k».proof.Proof.Gen.AdamNormIdeal.Launch
public import proofs.«01_k».proof.Proof.Gen.AdamNormIdeal.Points
public import proofs.«01_k».proof.Proof.Gen.AdamNormIdeal.Frame
public import proofs.«01_k».proof.Proof.Gen.AdamNormIdeal.Value
public import proofs.«01_k».proof.Proof.Gen.AdamNormRef
public import proofs.«01_k».proof.Proof.Gen.AdamNormRefIdeal
public import proofs.«01_k».proof.Proof.Gen.AdamNormRefIdeal.Run
public import proofs.«01_k».proof.Proof.Gen.AdamKv
public import proofs.«01_k».proof.Proof.Gen.AdamKv.Skeleton
public import proofs.«01_k».proof.Proof.Gen.AdamKv.Launch
public import proofs.«01_k».proof.Proof.Gen.AdamKv.Points
public import proofs.«01_k».proof.Proof.Gen.AdamKv.Frame
public import proofs.«01_k».proof.Proof.Gen.AdamKvIdeal
public import proofs.«01_k».proof.Proof.Gen.AdamKvIdeal.Skeleton
public import proofs.«01_k».proof.Proof.Gen.AdamKvIdeal.Launch
public import proofs.«01_k».proof.Proof.Gen.AdamKvIdeal.Points
public import proofs.«01_k».proof.Proof.Gen.AdamKvIdeal.Frame
public import proofs.«01_k».proof.Proof.Gen.AdamKvIdeal.Value
public import proofs.«01_k».proof.Proof.Gen.AdamKvRef
public import proofs.«01_k».proof.Proof.Gen.AdamKvRefIdeal
public import proofs.«01_k».proof.Proof.Gen.AdamKvRefIdeal.Run
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRef
public import proofs.«01_k».proof.Proof.Gen.AdamOutRefIdeal
public import proofs.«01_k».proof.Proof.Gen.AdamOutRefIdeal.Run
public import proofs.«01_k».proof.Proof.Gen.AdamLnG
public import proofs.«01_k».proof.Proof.Gen.AdamLnG.Skeleton
public import proofs.«01_k».proof.Proof.Gen.AdamLnG.Launch
public import proofs.«01_k».proof.Proof.Gen.AdamLnG.Points
public import proofs.«01_k».proof.Proof.Gen.AdamLnG.Frame
public import proofs.«01_k».proof.Proof.Gen.AdamLnGIdeal
public import proofs.«01_k».proof.Proof.Gen.AdamLnGIdeal.Skeleton
public import proofs.«01_k».proof.Proof.Gen.AdamLnGIdeal.Launch
public import proofs.«01_k».proof.Proof.Gen.AdamLnGIdeal.Points
public import proofs.«01_k».proof.Proof.Gen.AdamLnGIdeal.Frame
public import proofs.«01_k».proof.Proof.Gen.AdamLnGIdeal.Value
public import proofs.«01_k».proof.Proof.Gen.AdamLnGRef
public import proofs.«01_k».proof.Proof.Gen.AdamLnGRefIdeal
public import proofs.«01_k».proof.Proof.Gen.AdamLnGRefIdeal.Run
public import proofs.«01_k».proof.Proof.Gen.AdamLnB
public import proofs.«01_k».proof.Proof.Gen.AdamLnB.Skeleton
public import proofs.«01_k».proof.Proof.Gen.AdamLnB.Launch
public import proofs.«01_k».proof.Proof.Gen.AdamLnB.Points
public import proofs.«01_k».proof.Proof.Gen.AdamLnB.Frame
public import proofs.«01_k».proof.Proof.Gen.AdamLnBIdeal
public import proofs.«01_k».proof.Proof.Gen.AdamLnBIdeal.Skeleton
public import proofs.«01_k».proof.Proof.Gen.AdamLnBIdeal.Launch
public import proofs.«01_k».proof.Proof.Gen.AdamLnBIdeal.Points
public import proofs.«01_k».proof.Proof.Gen.AdamLnBIdeal.Frame
public import proofs.«01_k».proof.Proof.Gen.AdamLnBIdeal.Value
public import proofs.«01_k».proof.Proof.Gen.AdamLnBRef
public import proofs.«01_k».proof.Proof.Gen.AdamLnBRefIdeal
public import proofs.«01_k».proof.Proof.Gen.AdamLnBRefIdeal.Run
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRef
public import proofs.«01_k».proof.Proof.Gen.LossRefIdeal
public import proofs.«01_k».proof.Proof.Gen.LossRefIdeal.Run
public import proofs.«01_k».proof.Proof.Gen.GradIn
public import proofs.«01_k».proof.Proof.Gen.GradIn.Skeleton
public import proofs.«01_k».proof.Proof.Gen.GradIn.Launch
public import proofs.«01_k».proof.Proof.Gen.GradIn.Points
public import proofs.«01_k».proof.Proof.Gen.GradIn.Frame
public import proofs.«01_k».proof.Proof.Gen.GradInIdeal
public import proofs.«01_k».proof.Proof.Gen.GradInIdeal.Skeleton
public import proofs.«01_k».proof.Proof.Gen.GradInIdeal.Launch
public import proofs.«01_k».proof.Proof.Gen.GradInIdeal.Points
public import proofs.«01_k».proof.Proof.Gen.GradInIdeal.Frame
public import proofs.«01_k».proof.Proof.Gen.GradInIdeal.Value
public import proofs.«01_k».proof.Proof.Gen.GradInRef
public import proofs.«01_k».proof.Proof.Gen.GradInRefIdeal
public import proofs.«01_k».proof.Proof.Gen.GradInRefIdeal.Run
public import proofs.«01_k».proof.Proof.Gen.GradOut
public import proofs.«01_k».proof.Proof.Gen.GradOut.Skeleton
public import proofs.«01_k».proof.Proof.Gen.GradOut.Launch
public import proofs.«01_k».proof.Proof.Gen.GradOut.Points
public import proofs.«01_k».proof.Proof.Gen.GradOut.Frame
public import proofs.«01_k».proof.Proof.Gen.GradOutIdeal
public import proofs.«01_k».proof.Proof.Gen.GradOutIdeal.Skeleton
public import proofs.«01_k».proof.Proof.Gen.GradOutIdeal.Launch
public import proofs.«01_k».proof.Proof.Gen.GradOutIdeal.Points
public import proofs.«01_k».proof.Proof.Gen.GradOutIdeal.Frame
public import proofs.«01_k».proof.Proof.Gen.GradOutIdeal.Value
public import proofs.«01_k».proof.Proof.Gen.GradOutRef
public import proofs.«01_k».proof.Proof.Gen.GradOutRefIdeal
public import proofs.«01_k».proof.Proof.Gen.GradOutRefIdeal.Run
public import proofs.«01_k».proof.Proof.Gen.GradKv
public import proofs.«01_k».proof.Proof.Gen.GradKv.Skeleton
public import proofs.«01_k».proof.Proof.Gen.GradKv.Launch
public import proofs.«01_k».proof.Proof.Gen.GradKv.Points
public import proofs.«01_k».proof.Proof.Gen.GradKv.Frame
public import proofs.«01_k».proof.Proof.Gen.GradKvIdeal
public import proofs.«01_k».proof.Proof.Gen.GradKvIdeal.Skeleton
public import proofs.«01_k».proof.Proof.Gen.GradKvIdeal.Launch
public import proofs.«01_k».proof.Proof.Gen.GradKvIdeal.Points
public import proofs.«01_k».proof.Proof.Gen.GradKvIdeal.Frame
public import proofs.«01_k».proof.Proof.Gen.GradKvIdeal.Value
public import proofs.«01_k».proof.Proof.Gen.GradKvRef
public import proofs.«01_k».proof.Proof.Gen.GradKvRefIdeal
public import proofs.«01_k».proof.Proof.Gen.GradKvRefIdeal.Run
public import proofs.«01_k».proof.Proof.Gen.GradX
public import proofs.«01_k».proof.Proof.Gen.GradX.Skeleton
public import proofs.«01_k».proof.Proof.Gen.GradX.Launch
public import proofs.«01_k».proof.Proof.Gen.GradX.Points
public import proofs.«01_k».proof.Proof.Gen.GradX.Frame
public import proofs.«01_k».proof.Proof.Gen.GradXIdeal
public import proofs.«01_k».proof.Proof.Gen.GradXIdeal.Skeleton
public import proofs.«01_k».proof.Proof.Gen.GradXIdeal.Launch
public import proofs.«01_k».proof.Proof.Gen.GradXIdeal.Points
public import proofs.«01_k».proof.Proof.Gen.GradXIdeal.Frame
public import proofs.«01_k».proof.Proof.Gen.GradXIdeal.Value
public import proofs.«01_k».proof.Proof.Gen.GradXRef
public import proofs.«01_k».proof.Proof.Gen.GradXRefIdeal
public import proofs.«01_k».proof.Proof.Gen.GradXRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRef
public import proofs.«01_k».proof.Proof.Gen.NormRefIdeal
public import proofs.«01_k».proof.Proof.Gen.NormRefIdeal.Run
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRef
public import proofs.«01_k».proof.Proof.Gen.InProjRefIdeal
public import proofs.«01_k».proof.Proof.Gen.InProjRefIdeal.Run
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvRef
public import proofs.«01_k».proof.Proof.Gen.MemKvRefIdeal
public import proofs.«01_k».proof.Proof.Gen.MemKvRefIdeal.Run
public import proofs.«01_k».proof.Proof.Gen.GradCat
public import proofs.«01_k».proof.Proof.Gen.GradCat.Skeleton
public import proofs.«01_k».proof.Proof.Gen.GradCat.Launch
public import proofs.«01_k».proof.Proof.Gen.GradCat.Points
public import proofs.«01_k».proof.Proof.Gen.GradCat.Frame
public import proofs.«01_k».proof.Proof.Gen.GradCatIdeal
public import proofs.«01_k».proof.Proof.Gen.GradCatIdeal.Skeleton
public import proofs.«01_k».proof.Proof.Gen.GradCatIdeal.Launch
public import proofs.«01_k».proof.Proof.Gen.GradCatIdeal.Points
public import proofs.«01_k».proof.Proof.Gen.GradCatIdeal.Frame
public import proofs.«01_k».proof.Proof.Gen.GradCatIdeal.Value
public import proofs.«01_k».proof.Proof.Gen.GradCatRef
public import proofs.«01_k».proof.Proof.Gen.GradCatRefIdeal
public import proofs.«01_k».proof.Proof.Gen.GradCatRefIdeal.Run
public import proofs.«01_k».proof.Proof.Gen.GradNorm
public import proofs.«01_k».proof.Proof.Gen.GradNorm.Skeleton
public import proofs.«01_k».proof.Proof.Gen.GradNorm.Launch
public import proofs.«01_k».proof.Proof.Gen.GradNorm.Points
public import proofs.«01_k».proof.Proof.Gen.GradNorm.Frame
public import proofs.«01_k».proof.Proof.Gen.GradNormIdeal
public import proofs.«01_k».proof.Proof.Gen.GradNormIdeal.Skeleton
public import proofs.«01_k».proof.Proof.Gen.GradNormIdeal.Launch
public import proofs.«01_k».proof.Proof.Gen.GradNormIdeal.Points
public import proofs.«01_k».proof.Proof.Gen.GradNormIdeal.Frame
public import proofs.«01_k».proof.Proof.Gen.GradNormIdeal.Value
public import proofs.«01_k».proof.Proof.Gen.GradNormRef
public import proofs.«01_k».proof.Proof.Gen.GradNormRefIdeal
public import proofs.«01_k».proof.Proof.Gen.GradNormRefIdeal.Run
public import proofs.«01_k».proof.Proof.Gen.SlotsIn
public import proofs.«01_k».proof.Proof.Gen.SlotsIn.Skeleton
public import proofs.«01_k».proof.Proof.Gen.SlotsIn.Launch
public import proofs.«01_k».proof.Proof.Gen.SlotsIn.Points
public import proofs.«01_k».proof.Proof.Gen.SlotsIn.Frame
public import proofs.«01_k».proof.Proof.Gen.SlotsInIdeal
public import proofs.«01_k».proof.Proof.Gen.SlotsInIdeal.Skeleton
public import proofs.«01_k».proof.Proof.Gen.SlotsInIdeal.Launch
public import proofs.«01_k».proof.Proof.Gen.SlotsInIdeal.Points
public import proofs.«01_k».proof.Proof.Gen.SlotsInIdeal.Frame
public import proofs.«01_k».proof.Proof.Gen.SlotsInIdeal.Value
public import proofs.«01_k».proof.Proof.Gen.SlotsInRef
public import proofs.«01_k».proof.Proof.Gen.SlotsInRefIdeal
public import proofs.«01_k».proof.Proof.Gen.SlotsInRefIdeal.Run
public import proofs.«01_k».proof.Proof.Gen.SlotsOut
public import proofs.«01_k».proof.Proof.Gen.SlotsOut.Skeleton
public import proofs.«01_k».proof.Proof.Gen.SlotsOut.Launch
public import proofs.«01_k».proof.Proof.Gen.SlotsOut.Points
public import proofs.«01_k».proof.Proof.Gen.SlotsOut.Frame
public import proofs.«01_k».proof.Proof.Gen.SlotsOutIdeal
public import proofs.«01_k».proof.Proof.Gen.SlotsOutIdeal.Skeleton
public import proofs.«01_k».proof.Proof.Gen.SlotsOutIdeal.Launch
public import proofs.«01_k».proof.Proof.Gen.SlotsOutIdeal.Points
public import proofs.«01_k».proof.Proof.Gen.SlotsOutIdeal.Frame
public import proofs.«01_k».proof.Proof.Gen.SlotsOutIdeal.Value
public import proofs.«01_k».proof.Proof.Gen.SlotsOutRef
public import proofs.«01_k».proof.Proof.Gen.SlotsOutRefIdeal
public import proofs.«01_k».proof.Proof.Gen.SlotsOutRefIdeal.Run
public import proofs.«01_k».proof.Proof.Gen.SlotsKv
public import proofs.«01_k».proof.Proof.Gen.SlotsKv.Skeleton
public import proofs.«01_k».proof.Proof.Gen.SlotsKv.Launch
public import proofs.«01_k».proof.Proof.Gen.SlotsKv.Points
public import proofs.«01_k».proof.Proof.Gen.SlotsKv.Frame
public import proofs.«01_k».proof.Proof.Gen.SlotsKvIdeal
public import proofs.«01_k».proof.Proof.Gen.SlotsKvIdeal.Skeleton
public import proofs.«01_k».proof.Proof.Gen.SlotsKvIdeal.Launch
public import proofs.«01_k».proof.Proof.Gen.SlotsKvIdeal.Points
public import proofs.«01_k».proof.Proof.Gen.SlotsKvIdeal.Frame
public import proofs.«01_k».proof.Proof.Gen.SlotsKvIdeal.Value
public import proofs.«01_k».proof.Proof.Gen.SlotsKvRef
public import proofs.«01_k».proof.Proof.Gen.SlotsKvRefIdeal
public import proofs.«01_k».proof.Proof.Gen.SlotsKvRefIdeal.Run
public import proofs.«01_k».proof.Proof.GatherIn
public import proofs.«01_k».proof.Proof.PairIn
public import proofs.«01_k».proof.Proof.ChipIn
public import proofs.«01_k».proof.Proof.BackIn
public import proofs.«01_k».proof.Proof.GatherOut
public import proofs.«01_k».proof.Proof.PairOut
public import proofs.«01_k».proof.Proof.ChipOut
public import proofs.«01_k».proof.Proof.BackOut
public import proofs.«01_k».proof.Proof.GatherKv
public import proofs.«01_k».proof.Proof.PairKv
public import proofs.«01_k».proof.Proof.ChipKv
public import proofs.«01_k».proof.Proof.BackKv
public import proofs.«01_k».proof.Proof.Updates
public import proofs.«01_k».proof.Proof.SlotSums
public import proofs.«01_k».proof.Proof.HalfSums
public import proofs.«01_k».proof.Proof.Losses
public import proofs.«01_k».proof.Proof.Grads
public import proofs.«01_k».proof.Proof.Products
public import proofs.«01_k».proof.Proof.Norms
public import proofs.«01_k».proof.Proof.NormBacks
public import Idealize.ShloMosaic.Adequacy
public import Idealize.ShloMosaic.Init
public import proofs.«01_k».proof.Proof.Gen.HalvesIn
public import proofs.«01_k».proof.Proof.Gen.HalvesIn.Skeleton
public import proofs.«01_k».proof.Proof.Gen.HalvesIn.Launch
public import proofs.«01_k».proof.Proof.Gen.HalvesIn.Points
public import proofs.«01_k».proof.Proof.Gen.HalvesIn.Frame
public import proofs.«01_k».proof.Proof.Gen.HalvesInIdeal
public import proofs.«01_k».proof.Proof.Gen.HalvesInIdeal.Skeleton
public import proofs.«01_k».proof.Proof.Gen.HalvesInIdeal.Launch
public import proofs.«01_k».proof.Proof.Gen.HalvesInIdeal.Points
public import proofs.«01_k».proof.Proof.Gen.HalvesInIdeal.Frame
public import proofs.«01_k».proof.Proof.Gen.HalvesInRef
public import proofs.«01_k».proof.Proof.Gen.HalvesInRefIdeal
public import proofs.«01_k».proof.Proof.Gen.HalvesInRefIdeal.Run
public import proofs.«01_k».proof.Proof.Gen.Pre_a_core_w_in
public import proofs.«01_k».proof.Proof.Gen.HalvesOut
public import proofs.«01_k».proof.Proof.Gen.HalvesOut.Skeleton
public import proofs.«01_k».proof.Proof.Gen.HalvesOut.Launch
public import proofs.«01_k».proof.Proof.Gen.HalvesOut.Points
public import proofs.«01_k».proof.Proof.Gen.HalvesOut.Frame
public import proofs.«01_k».proof.Proof.Gen.HalvesOutIdeal
public import proofs.«01_k».proof.Proof.Gen.HalvesOutIdeal.Skeleton
public import proofs.«01_k».proof.Proof.Gen.HalvesOutIdeal.Launch
public import proofs.«01_k».proof.Proof.Gen.HalvesOutIdeal.Points
public import proofs.«01_k».proof.Proof.Gen.HalvesOutIdeal.Frame
public import proofs.«01_k».proof.Proof.Gen.HalvesOutRef
public import proofs.«01_k».proof.Proof.Gen.HalvesOutRefIdeal
public import proofs.«01_k».proof.Proof.Gen.HalvesOutRefIdeal.Run
public import proofs.«01_k».proof.Proof.Gen.Pre_a_core_w_out
public import proofs.«01_k».proof.Proof.Gen.HalvesKv
public import proofs.«01_k».proof.Proof.Gen.HalvesKv.Skeleton
public import proofs.«01_k».proof.Proof.Gen.HalvesKv.Launch
public import proofs.«01_k».proof.Proof.Gen.HalvesKv.Points
public import proofs.«01_k».proof.Proof.Gen.HalvesKv.Frame
public import proofs.«01_k».proof.Proof.Gen.HalvesKvIdeal
public import proofs.«01_k».proof.Proof.Gen.HalvesKvIdeal.Skeleton
public import proofs.«01_k».proof.Proof.Gen.HalvesKvIdeal.Launch
public import proofs.«01_k».proof.Proof.Gen.HalvesKvIdeal.Points
public import proofs.«01_k».proof.Proof.Gen.HalvesKvIdeal.Frame
public import proofs.«01_k».proof.Proof.Gen.HalvesKvRef
public import proofs.«01_k».proof.Proof.Gen.HalvesKvRefIdeal
public import proofs.«01_k».proof.Proof.Gen.HalvesKvRefIdeal.Run
public import proofs.«01_k».proof.Proof.Gen.Pre_a_core_w_kv

@[expose] public section

noncomputable section

-- The claims also say that every semaphore counter ends at zero.

namespace Cert.Proof

theorem claim : Cert.Claim :=
  ⟨Cert.Gather.Gen.facts, Cert.GatherIdeal.Gen.facts, Cert.GatherRef.Gen.facts, Cert.GatherRefIdeal.Gen.facts,
    Cert.Pair.Gen.facts, Cert.PairIdeal.Gen.facts, Cert.PairRef.Gen.facts, Cert.PairRefIdeal.Gen.facts,
    Cert.Chip.Gen.facts, Cert.ChipIdeal.Gen.facts, Cert.ChipRef.Gen.facts, Cert.ChipRefIdeal.Gen.facts,
    Cert.Back.Gen.facts, Cert.BackIdeal.Gen.facts, Cert.BackRef.Gen.facts, Cert.BackRefIdeal.Gen.facts,
    Cert.GatherOut.Gen.facts, Cert.GatherOutIdeal.Gen.facts, Cert.GatherOutRef.Gen.facts, Cert.GatherOutRefIdeal.Gen.facts,
    Cert.PairOut.Gen.facts, Cert.PairOutIdeal.Gen.facts, Cert.PairOutRef.Gen.facts, Cert.PairOutRefIdeal.Gen.facts,
    Cert.ChipOut.Gen.facts, Cert.ChipOutIdeal.Gen.facts, Cert.ChipOutRef.Gen.facts, Cert.ChipOutRefIdeal.Gen.facts,
    Cert.BackOut.Gen.facts, Cert.BackOutIdeal.Gen.facts, Cert.BackOutRef.Gen.facts, Cert.BackOutRefIdeal.Gen.facts,
    Cert.GatherKv.Gen.facts, Cert.GatherKvIdeal.Gen.facts, Cert.GatherKvRef.Gen.facts, Cert.GatherKvRefIdeal.Gen.facts,
    Cert.PairKv.Gen.facts, Cert.PairKvIdeal.Gen.facts, Cert.PairKvRef.Gen.facts, Cert.PairKvRefIdeal.Gen.facts,
    Cert.ChipKv.Gen.facts, Cert.ChipKvIdeal.Gen.facts, Cert.ChipKvRef.Gen.facts, Cert.ChipKvRefIdeal.Gen.facts,
    Cert.BackKv.Gen.facts, Cert.BackKvIdeal.Gen.facts, Cert.BackKvRef.Gen.facts, Cert.BackKvRefIdeal.Gen.facts,
    Cert.AdamIn.Gen.facts, Cert.AdamInIdeal.Gen.facts, Cert.AdamInRef.Gen.facts, Cert.AdamInRefIdeal.Gen.facts,
    Cert.AdamRel.Gen.facts, Cert.AdamRelIdeal.Gen.facts, Cert.AdamRelRef.Gen.facts, Cert.AdamRelRefIdeal.Gen.facts,
    Cert.AdamGateW.Gen.facts, Cert.AdamGateWIdeal.Gen.facts, Cert.AdamGateWRef.Gen.facts, Cert.AdamGateWRefIdeal.Gen.facts,
    Cert.AdamGateB.Gen.facts, Cert.AdamGateBIdeal.Gen.facts, Cert.AdamGateBRef.Gen.facts, Cert.AdamGateBRefIdeal.Gen.facts,
    Cert.AdamNorm.Gen.facts, Cert.AdamNormIdeal.Gen.facts, Cert.AdamNormRef.Gen.facts, Cert.AdamNormRefIdeal.Gen.facts,
    Cert.AdamKv.Gen.facts, Cert.AdamKvIdeal.Gen.facts, Cert.AdamKvRef.Gen.facts, Cert.AdamKvRefIdeal.Gen.facts,
    Cert.AdamOut.Gen.facts, Cert.AdamOutIdeal.Gen.facts, Cert.AdamOutRef.Gen.facts, Cert.AdamOutRefIdeal.Gen.facts,
    Cert.AdamLnG.Gen.facts, Cert.AdamLnGIdeal.Gen.facts, Cert.AdamLnGRef.Gen.facts, Cert.AdamLnGRefIdeal.Gen.facts,
    Cert.AdamLnB.Gen.facts, Cert.AdamLnBIdeal.Gen.facts, Cert.AdamLnBRef.Gen.facts, Cert.AdamLnBRefIdeal.Gen.facts,
    Cert.SlotsIn.Gen.facts, Cert.SlotsInIdeal.Gen.facts, Cert.SlotsInRef.Gen.facts, Cert.SlotsInRefIdeal.Gen.facts,
    Cert.SlotsOut.Gen.facts, Cert.SlotsOutIdeal.Gen.facts, Cert.SlotsOutRef.Gen.facts, Cert.SlotsOutRefIdeal.Gen.facts,
    Cert.SlotsKv.Gen.facts, Cert.SlotsKvIdeal.Gen.facts, Cert.SlotsKvRef.Gen.facts, Cert.SlotsKvRefIdeal.Gen.facts,
    Cert.HalvesIn.Gen.facts, Cert.HalvesInIdeal.Gen.facts, Cert.HalvesInRef.Gen.facts, Cert.HalvesInRefIdeal.Gen.facts,
    Cert.HalvesOut.Gen.facts, Cert.HalvesOutIdeal.Gen.facts, Cert.HalvesOutRef.Gen.facts, Cert.HalvesOutRefIdeal.Gen.facts,
    Cert.HalvesKv.Gen.facts, Cert.HalvesKvIdeal.Gen.facts, Cert.HalvesKvRef.Gen.facts, Cert.HalvesKvRefIdeal.Gen.facts,
    Cert.Loss.Gen.facts, Cert.LossIdeal.Gen.facts, Cert.LossRef.Gen.facts, Cert.LossRefIdeal.Gen.facts,
    Cert.GradIn.Gen.facts, Cert.GradInIdeal.Gen.facts, Cert.GradInRef.Gen.facts, Cert.GradInRefIdeal.Gen.facts,
    Cert.GradOut.Gen.facts, Cert.GradOutIdeal.Gen.facts, Cert.GradOutRef.Gen.facts, Cert.GradOutRefIdeal.Gen.facts,
    Cert.GradKv.Gen.facts, Cert.GradKvIdeal.Gen.facts, Cert.GradKvRef.Gen.facts, Cert.GradKvRefIdeal.Gen.facts,
    Cert.GradX.Gen.facts, Cert.GradXIdeal.Gen.facts, Cert.GradXRef.Gen.facts, Cert.GradXRefIdeal.Gen.facts,
    Cert.Norm.Gen.facts, Cert.NormIdeal.Gen.facts, Cert.NormRef.Gen.facts, Cert.NormRefIdeal.Gen.facts,
    Cert.InProj.Gen.facts, Cert.InProjIdeal.Gen.facts, Cert.InProjRef.Gen.facts, Cert.InProjRefIdeal.Gen.facts,
    Cert.MemKv.Gen.facts, Cert.MemKvIdeal.Gen.facts, Cert.MemKvRef.Gen.facts, Cert.MemKvRefIdeal.Gen.facts,
    Cert.GradCat.Gen.facts, Cert.GradCatIdeal.Gen.facts, Cert.GradCatRef.Gen.facts, Cert.GradCatRefIdeal.Gen.facts,
    Cert.GradNorm.Gen.facts, Cert.GradNormIdeal.Gen.facts, Cert.GradNormRef.Gen.facts, Cert.GradNormRefIdeal.Gen.facts,
    Cert.Pre_a_core_w_in.Gen.facts, Cert.Pre_a_core_w_out.Gen.facts, Cert.Pre_a_core_w_kv.Gen.facts,
    quiescent_Gather, quiescent_GatherIdeal, quiescent_GatherRef, quiescent_GatherRefIdeal,
    quiescent_Pair, quiescent_PairIdeal, quiescent_PairRef, quiescent_PairRefIdeal,
    quiescent_Chip, quiescent_ChipIdeal, quiescent_ChipRef, quiescent_ChipRefIdeal,
    quiescent_Back, quiescent_BackIdeal, quiescent_BackRef, quiescent_BackRefIdeal,
    quiescent_GatherOut, quiescent_GatherOutIdeal, quiescent_GatherOutRef, quiescent_GatherOutRefIdeal,
    quiescent_PairOut, quiescent_PairOutIdeal, quiescent_PairOutRef, quiescent_PairOutRefIdeal,
    quiescent_ChipOut, quiescent_ChipOutIdeal, quiescent_ChipOutRef, quiescent_ChipOutRefIdeal,
    quiescent_BackOut, quiescent_BackOutIdeal, quiescent_BackOutRef, quiescent_BackOutRefIdeal,
    quiescent_GatherKv, quiescent_GatherKvIdeal, quiescent_GatherKvRef, quiescent_GatherKvRefIdeal,
    quiescent_PairKv, quiescent_PairKvIdeal, quiescent_PairKvRef, quiescent_PairKvRefIdeal,
    quiescent_ChipKv, quiescent_ChipKvIdeal, quiescent_ChipKvRef, quiescent_ChipKvRefIdeal,
    quiescent_BackKv, quiescent_BackKvIdeal, quiescent_BackKvRef, quiescent_BackKvRefIdeal,
    quiescent_AdamIn, quiescent_AdamInIdeal, quiescent_AdamInRef, quiescent_AdamInRefIdeal,
    quiescent_AdamRel, quiescent_AdamRelIdeal, quiescent_AdamRelRef, quiescent_AdamRelRefIdeal,
    quiescent_AdamGateW, quiescent_AdamGateWIdeal, quiescent_AdamGateWRef, quiescent_AdamGateWRefIdeal,
    quiescent_AdamGateB, quiescent_AdamGateBIdeal, quiescent_AdamGateBRef, quiescent_AdamGateBRefIdeal,
    quiescent_AdamNorm, quiescent_AdamNormIdeal, quiescent_AdamNormRef, quiescent_AdamNormRefIdeal,
    quiescent_AdamKv, quiescent_AdamKvIdeal, quiescent_AdamKvRef, quiescent_AdamKvRefIdeal,
    quiescent_AdamOut, quiescent_AdamOutIdeal, quiescent_AdamOutRef, quiescent_AdamOutRefIdeal,
    quiescent_AdamLnG, quiescent_AdamLnGIdeal, quiescent_AdamLnGRef, quiescent_AdamLnGRefIdeal,
    quiescent_AdamLnB, quiescent_AdamLnBIdeal, quiescent_AdamLnBRef, quiescent_AdamLnBRefIdeal,
    quiescent_SlotsIn, quiescent_SlotsInIdeal, quiescent_SlotsInRef, quiescent_SlotsInRefIdeal,
    quiescent_SlotsOut, quiescent_SlotsOutIdeal, quiescent_SlotsOutRef, quiescent_SlotsOutRefIdeal,
    quiescent_SlotsKv, quiescent_SlotsKvIdeal, quiescent_SlotsKvRef, quiescent_SlotsKvRefIdeal,
    quiescent_HalvesIn, quiescent_HalvesInIdeal, quiescent_HalvesInRef, quiescent_HalvesInRef_pre, quiescent_HalvesInRefIdeal, quiescent_HalvesInRefIdeal_pre,
    quiescent_HalvesOut, quiescent_HalvesOutIdeal, quiescent_HalvesOutRef, quiescent_HalvesOutRef_pre, quiescent_HalvesOutRefIdeal, quiescent_HalvesOutRefIdeal_pre,
    quiescent_HalvesKv, quiescent_HalvesKvIdeal, quiescent_HalvesKvRef, quiescent_HalvesKvRef_pre, quiescent_HalvesKvRefIdeal, quiescent_HalvesKvRefIdeal_pre,
    quiescent_Loss, quiescent_LossIdeal, quiescent_LossRef, quiescent_LossRefIdeal,
    quiescent_GradIn, quiescent_GradInIdeal, quiescent_GradInRef, quiescent_GradInRefIdeal,
    quiescent_GradOut, quiescent_GradOutIdeal, quiescent_GradOutRef, quiescent_GradOutRefIdeal,
    quiescent_GradKv, quiescent_GradKvIdeal, quiescent_GradKvRef, quiescent_GradKvRefIdeal,
    quiescent_GradX, quiescent_GradXIdeal, quiescent_GradXRef, quiescent_GradXRefIdeal,
    quiescent_Norm, quiescent_NormIdeal, quiescent_NormRef, quiescent_NormRefIdeal,
    quiescent_InProj, quiescent_InProjIdeal, quiescent_InProjRef, quiescent_InProjRefIdeal,
    quiescent_MemKv, quiescent_MemKvIdeal, quiescent_MemKvRef, quiescent_MemKvRefIdeal,
    quiescent_GradCat, quiescent_GradCatIdeal, quiescent_GradCatRef, quiescent_GradCatRefIdeal,
    quiescent_GradNorm, quiescent_GradNormIdeal, quiescent_GradNormRef, quiescent_GradNormRefIdeal,
    trivial, algebraic_Gather, bitexact_Gather,
    trivial, algebraic_Pair, bitexact_Pair,
    trivial, algebraic_Chip, bitexact_Chip,
    trivial, algebraic_Back, bitexact_Back,
    trivial, algebraic_GatherOut, bitexact_GatherOut,
    trivial, algebraic_PairOut, bitexact_PairOut,
    trivial, algebraic_ChipOut, bitexact_ChipOut,
    trivial, algebraic_BackOut, bitexact_BackOut,
    trivial, algebraic_GatherKv, bitexact_GatherKv,
    trivial, algebraic_PairKv, bitexact_PairKv,
    trivial, algebraic_ChipKv, bitexact_ChipKv,
    trivial, algebraic_BackKv, bitexact_BackKv,
    trivial, algebraic_AdamIn,
    trivial, algebraic_AdamRel,
    trivial, algebraic_AdamGateW,
    trivial, algebraic_AdamGateB,
    trivial, algebraic_AdamNorm,
    trivial, algebraic_AdamKv,
    trivial, algebraic_AdamOut,
    trivial, algebraic_AdamLnG,
    trivial, algebraic_AdamLnB,
    trivial, algebraic_SlotsIn,
    trivial, algebraic_SlotsOut,
    trivial, algebraic_SlotsKv,
    trivial, algebraic_HalvesIn, bitexact_HalvesIn,
    trivial, algebraic_HalvesOut, bitexact_HalvesOut,
    trivial, algebraic_HalvesKv, bitexact_HalvesKv,
    trivial, algebraic_Loss,
    trivial, algebraic_GradIn,
    trivial, algebraic_GradOut,
    trivial, algebraic_GradKv,
    trivial, algebraic_GradX,
    trivial, algebraic_Norm,
    trivial, algebraic_InProj,
    trivial, algebraic_MemKv,
    trivial, algebraic_GradCat,
    trivial, algebraic_GradNorm⟩

end Cert.Proof

end
